-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_attn [hPre_finite_attn : Cert.Pre_finite_attn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_finite_attn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_attn [hPre_finite_attn : Cert.Pre_finite_attn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_finite_attn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_grads [hPre_finite_grads : Cert.Pre_finite_grads.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_grads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite_grads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite_grads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_grads [hPre_finite_grads : Cert.Pre_finite_grads.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_grads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite_grads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite_grads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_attn [hKernel3Ideal : Cert.Kernel3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_attn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_attn [hReference3Ideal : Cert.Reference3Ideal.Facts] [hPre_finite_attn : Cert.Pre_finite_attn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_attn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_grads [hKernel4Ideal : Cert.Kernel4Ideal.Facts] [hPre_finite_grads : Cert.Pre_finite_grads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_grads m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_grads [hReference4Ideal : Cert.Reference4Ideal.Facts] [hPre_finite_grads : Cert.Pre_finite_grads.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_grads m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v237) = v0 c
          ∧ r.2.mem ((c.tc : Thread Cert.Reference2Ideal.nD Cert.Reference2Ideal.τ).loc Cert.Reference2Ideal.main_v239) = v1 c
          ∧ r.2.mem ((c.tc : Thread Cert.Reference2Ideal.nD Cert.Reference2Ideal.τ).loc Cert.Reference2Ideal.main_v242) = v2 c
          ∧ r.2.mem ((c.tc : Thread Cert.Reference2Ideal.nD Cert.Reference2Ideal.τ).loc Cert.Reference2Ideal.main_v243) = v3 c
          ∧ r.2.mem ((c.tc : Thread Cert.Reference2Ideal.nD Cert.Reference2Ideal.τ).loc Cert.Reference2Ideal.main_v244) = v4 c
          ∧ r.2.mem ((c.tc : Thread Cert.Reference2Ideal.nD Cert.Reference2Ideal.τ).loc Cert.Reference2Ideal.main_v154) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "log2e" .f32 0x3FB8AA3B#32 (((Real.log 2)⁻¹ : ℝ) : EReal)
  ∧ IdealRules.named_const.Statement Cert.Kernel3Ideal.κ "mask" .f32 0xF149F2CA#32 ⊥
  ∧ IdealRules.named_const.Statement Cert.Kernel3Ideal.κ "scale_log2e" .bf16 0x3E39#16 (((1 / 8) * (Real.log 2)⁻¹ : ℝ) : EReal)

def algebraic_Kernel3Ideal_Reference3Ideal_pre_finite_attn [hKernel3Ideal : Cert.Kernel3Ideal.Facts] [hReference3Ideal : Cert.Reference3Ideal.Facts] [hPre_finite_attn : Cert.Pre_finite_attn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_attn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_v125) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_v104) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_grads [hKernel4Ideal : Cert.Kernel4Ideal.Facts] [hReference4Ideal : Cert.Reference4Ideal.Facts] [hPre_finite_grads : Cert.Pre_finite_grads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_grads m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v135_0)) (v1 : (c : Dev Cert.Kernel4Ideal.nD) → Buf (Elt Ideal) ((c.tc : Thread Cert.Kernel4Ideal.nD Cert.Kernel4Ideal.τ).loc Cert.Kernel4Ideal.main_v135_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v135_0) = v0 c
          ∧ r.2.mem ((c.tc : Thread Cert.Kernel4Ideal.nD Cert.Kernel4Ideal.τ).loc Cert.Kernel4Ideal.main_v135_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v141) = v0 c
          ∧ r.2.mem ((c.tc : Thread Cert.Reference4Ideal.nD Cert.Reference4Ideal.τ).loc Cert.Reference4Ideal.main_v143) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v13) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_inputs2 : Cert.Pre_finite_inputs2.Facts) (hPre_finite_attn : Cert.Pre_finite_attn.Facts) (hPre_finite_grads : Cert.Pre_finite_grads.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Kernel3Ideal_pre_finite_attn (hKernel3Ideal := hKernel3Ideal) (hPre_finite_attn := hPre_finite_attn)
    ∧ quiescent_Reference3Ideal (hReference3Ideal := hReference3Ideal)
    ∧ quiescent_Reference3Ideal_pre_finite_attn (hReference3Ideal := hReference3Ideal) (hPre_finite_attn := hPre_finite_attn)
    ∧ quiescent_Kernel4 (hKernel4 := hKernel4)
    ∧ quiescent_Kernel4Ideal (hKernel4Ideal := hKernel4Ideal)
    ∧ quiescent_Kernel4Ideal_pre_finite_grads (hKernel4Ideal := hKernel4Ideal) (hPre_finite_grads := hPre_finite_grads)
    ∧ quiescent_Reference4Ideal (hReference4Ideal := hReference4Ideal)
    ∧ quiescent_Reference4Ideal_pre_finite_grads (hReference4Ideal := hReference4Ideal) (hPre_finite_grads := hPre_finite_grads)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal_pre_finite_attn (hKernel3Ideal := hKernel3Ideal) (hReference3Ideal := hReference3Ideal) (hPre_finite_attn := hPre_finite_attn)
    ∧ preserves_Kernel4_Kernel4Ideal
    ∧ algebraic_Kernel4Ideal_Reference4Ideal_pre_finite_grads (hKernel4Ideal := hKernel4Ideal) (hReference4Ideal := hReference4Ideal) (hPre_finite_grads := hPre_finite_grads)
    ∧ preserves_Kernel5_Kernel5Ideal
    ∧ algebraic_Kernel5Ideal_Reference5Ideal (hKernel5Ideal := hKernel5Ideal) (hReference5Ideal := hReference5Ideal)
-- ==== Pre_finite_attn.lean ====
abbrev S8192x3072 : Shape := ⟨2, ![8192, 3072]⟩
abbrev S1x8x129 : Shape := ⟨3, ![1, 8, 129]⟩
abbrev S8192x2048 : Shape := ⟨2, ![8192, 2048]⟩
abbrev S_ : Shape := ⟨0, ![]⟩

class Facts : Prop where
  slices_S8192x3072_S8192x2048_0_1024 : S8192x3072.Slices ![0, 1024] S8192x2048
  bcast_S_S8192x2048 : S_.BroadcastsInDim S8192x2048 (![] : Fin 0 → Fin S8192x2048.rank)
  bcast_S_S1x8x129 : S_.BroadcastsInDim S1x8x129 (![] : Fin 0 → Fin S1x8x129.rank)

variable [Facts]

def fn {F : FTy → Type} [FloatOps F] (main_arg0 : FVec F S8192x3072 .bf16) (main_arg1 : FVec F S1x8x129 .f32) : IVec S8192x2048 1 × IVec S1x8x129 1 :=
  let main_v0 : FVec F S8192x2048 .bf16 := (extractStridedSlice S8192x2048 ![0, 1024] · slices_S8192x3072_S8192x2048_0_1024) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_v4 : FVec F S1x8x129 .f32 := Host.absf main_arg1
  let main_cst_0 : FVec F S_ .f32 := constant S_ .f32 0x7F800000#32
  let main_v5 : FVec F S1x8x129 .f32 := broadcastInDim S1x8x129 ![] bcast_S_S1x8x129 main_cst_0
  let main_v6 : IVec S1x8x129 1 := cmpf .olt main_v4 main_v5
  (main_v3, main_v6)
-- ==== Pre_finite_grads.lean ====
abbrev S8192x3072 : Shape := ⟨2, ![8192, 3072]⟩
abbrev S1x8x129 : Shape := ⟨3, ![1, 8, 129]⟩
abbrev S8192x1024 : Shape := ⟨2, ![8192, 1024]⟩
abbrev S8192x2048 : Shape := ⟨2, ![8192, 2048]⟩
abbrev S_ : Shape := ⟨0, ![]⟩
abbrev S8192x512 : Shape := ⟨2, ![8192, 512]⟩

class Facts : Prop where
  slices_S8192x3072_S8192x2048_0_1024 : S8192x3072.Slices ![0, 1024] S8192x2048
  bcast_S_S8192x2048 : S_.BroadcastsInDim S8192x2048 (![] : Fin 0 → Fin S8192x2048.rank)
  bcast_S_S1x8x129 : S_.BroadcastsInDim S1x8x129 (![] : Fin 0 → Fin S1x8x129.rank)
  slices_S8192x1024_S8192x512_0_512 : S8192x1024.Slices ![0, 512] S8192x512
  bcast_S_S8192x512 : S_.BroadcastsInDim S8192x512 (![] : Fin 0 → Fin S8192x512.rank)

variable [Facts]

def fn {F : FTy → Type} [FloatOps F] (main_arg0 : FVec F S8192x3072 .bf16) (main_arg1 : FVec F S1x8x129 .f32) (main_arg2 : FVec F S8192x1024 .bf16) : IVec S8192x2048 1 × IVec S1x8x129 1 × IVec S8192x512 1 :=
  let main_v0 : FVec F S8192x2048 .bf16 := (extractStridedSlice S8192x2048 ![0, 1024] · slices_S8192x3072_S8192x2048_0_1024) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_v4 : FVec F S1x8x129 .f32 := Host.absf main_arg1
  let main_cst_0 : FVec F S_ .f32 := constant S_ .f32 0x7F800000#32
  let main_v5 : FVec F S1x8x129 .f32 := broadcastInDim S1x8x129 ![] bcast_S_S1x8x129 main_cst_0
  let main_v6 : IVec S1x8x129 1 := cmpf .olt main_v4 main_v5
  let main_v7 : FVec F S8192x512 .bf16 := (extractStridedSlice S8192x512 ![0, 512] · slices_S8192x1024_S8192x512_0_512) main_arg2
  let main_v8 : FVec F S8192x512 .bf16 := Host.absf main_v7
  let main_cst_1 : FVec F S_ .bf16 := constant S_ .bf16 0x7F80#16
  let main_v9 : FVec F S8192x512 .bf16 := broadcastInDim S8192x512 ![] bcast_S_S8192x512 main_cst_1
  let main_v10 : IVec S8192x512 1 := cmpf .olt main_v8 main_v9
  (main_v3, main_v6, main_v10)
-- ==== Pre_finite_inputs.lean ====
abbrev S1x8192x1024 : Shape := ⟨3, ![1, 8192, 1024]⟩
abbrev S8192x3072 : Shape := ⟨2, ![8192, 3072]⟩
abbrev S8192x512 : Shape := ⟨2, ![8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S8192x1024 : Shape := ⟨2, ![8192, 1024]⟩

class Facts : Prop where
  bcast_S_S1x8192x1024 : S_.BroadcastsInDim S1x8192x1024 (![] : Fin 0 → Fin S1x8192x1024.rank)
  slices_S8192x3072_S8192x1024_0_0 : S8192x3072.Slices ![0, 0] S8192x1024
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1x8192x1024 .f32) (main_v2 : IVec S1x8192x1024 1) (main_v6 : IVec S8192x1024 1) (main_v9 : IVec S8192x512 1) (main_v12 : IVec S1x4x128x128 1) (main_v15 : IVec S1x512 1) (main_v16 : FVec F S1x1024x1024 .f32) (main_v17 : FVec F S1x1024x1024 .f32) : IVec S1x8192x1024 1 × IVec S8192x1024 1 × IVec S8192x512 1 × IVec S1x4x128x128 1 × IVec S1x512 1 × IVec S1x1024x1024 1 × IVec S1024 1 × IVec S1x8192x1024 1 :=
  let main_v18 : IVec S1x1024x1024 1 := cmpf .olt main_v16 main_v17
  let main_v19 : FVec F S1024 .f32 := Host.absf main_arg6
  let main_cst_5 : FVec F S_ .f32 := constant S_ .f32 0x7F800000#32
  let main_v20 : FVec F S1024 .f32 := broadcastInDim S1024 ![] bcast_S_S1024 main_cst_5
  let main_v21 : IVec S1024 1 := cmpf .olt main_v19 main_v20
  let main_v22 : FVec F S1x8192x1024 .f32 := Host.absf main_arg7
  let main_cst_6 : FVec F S_ .f32 := constant S_ .f32 0x7F800000#32
  let main_v23 : FVec F S1x8192x1024 .f32 := broadcastInDim S1x8192x1024 ![] bcast_S_S1x8192x1024 main_cst_6
  let main_v24 : IVec S1x8192x1024 1 := cmpf .olt main_v22 main_v23
  (main_v2, main_v6, main_v9, main_v12, main_v15, main_v18, main_v21, main_v24)

def fn {F : FTy → Type} [FloatOps F] (main_arg0 : FVec F S1x8192x1024 .f32) (main_arg1 : FVec F S8192x3072 .bf16) (main_arg2 : FVec F S8192x512 .bf16) (main_arg3 : FVec F S1x4x128x128 .f32) (main_arg4 : FVec F S1x512 .f32) (main_arg5 : FVec F S1x1024x1024 .f32) (main_arg6 : FVec F S1024 .f32) (main_arg7 : FVec F S1x8192x1024 .f32) : IVec S1x8192x1024 1 × IVec S8192x1024 1 × IVec S8192x512 1 × IVec S1x4x128x128 1 × IVec S1x512 1 × IVec S1x1024x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S8192x1024 .bf16 := (extractStridedSlice S8192x1024 ![0, 0] · slices_S8192x3072_S8192x1024_0_0) main_arg1
  let main_v4 : FVec F S8192x1024 .bf16 := Host.absf main_v3
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_v7 : FVec F S8192x512 .bf16 := Host.absf main_arg2
  let main_cst_1 : FVec F S_ .bf16 := constant S_ .bf16 0x7F80#16
  let main_v8 : FVec F S8192x512 .bf16 := broadcastInDim S8192x512 ![] bcast_S_S8192x512 main_cst_1
  let main_v9 : IVec S8192x512 1 := cmpf .olt main_v7 main_v8
  let main_v10 : FVec F S1x4x128x128 .f32 := Host.absf main_arg3
  let main_cst_2 : FVec F S_ .f32 := constant S_ .f32 0x7F800000#32
  let main_v11 : FVec F S1x4x128x128 .f32 := broadcastInDim S1x4x128x128 ![] bcast_S_S1x4x128x128 main_cst_2
  let main_v12 : IVec S1x4x128x128 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x1024x1024 .f32 := Host.absf main_arg5
  let main_cst_4 : FVec F S_ .f32 := constant S_ .f32 0x7F800000#32
  let main_v17 : FVec F S1x1024x1024 .f32 := broadcastInDim S1x1024x1024 ![] bcast_S_S1x1024x1024 main_cst_4
  fn_part1 (F := F) main_arg6 main_arg7 main_v2 main_v6 main_v9 main_v12 main_v15 main_v16 main_v17
-- ==== Pre_finite_inputs2.lean ====
abbrev S1x8192x1024 : Shape := ⟨3, ![1, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S8192x1024 : Shape := ⟨2, ![8192, 1024]⟩
abbrev S8192x512 : Shape := ⟨2, ![8192, 512]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x3072 : S_.BroadcastsInDim S1x1024x3072 (![] : Fin 0 → Fin S1x1024x3072.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S8192x1024 : S_.BroadcastsInDim S8192x1024 (![] : Fin 0 → Fin S8192x1024.rank)
  slices_S8192x1024_S8192x512_0_0 : S8192x1024.Slices ![0, 0] S8192x512
  bcast_S_S8192x512 : S_.BroadcastsInDim S8192x512 (![] : Fin 0 → Fin S8192x512.rank)

variable [Facts]

def fn_part1 {F : FTy → Type} [FloatOps F] (main_arg6 : FVec F S8192x1024 .bf16) (main_arg7 : FVec F S8192x512 .bf16) (main_arg8 : FVec F S8192x512 .bf16) (main_arg9 : FVec F S8192x512 .bf16) (main_arg10 : FVec F S8192x512 .bf16) (main_v2 : IVec S1x8192x1024 1) (main_v5 : IVec S1x1024 1) (main_v8 : IVec S1x1024x3072 1) (main_v11 : IVec S1x4x128x128 1) (main_v14 : IVec S1x512 1) (main_v17 : IVec S8192x1024 1) : IVec S1x8192x1024 1 × IVec S1x1024 1 × IVec S1x1024x3072 1 × IVec S1x4x128x128 1 × IVec S1x512 1 × IVec S8192x1024 1 × IVec S8192x512 1 × IVec S8192x512 1 × IVec S8192x512 1 × IVec S8192x512 1 × IVec S8192x512 1 :=
  let main_v18 : FVec F S8192x512 .bf16 := (extractStridedSlice S8192x512 ![0, 0] · slices_S8192x1024_S8192x512_0_0) main_arg6
  let main_v19 : FVec F S8192x512 .bf16 := Host.absf main_v18
  let main_cst_5 : FVec F S_ .bf16 := constant S_ .bf16 0x7F80#16
  let main_v20 : FVec F S8192x512 .bf16 := broadcastInDim S8192x512 ![] bcast_S_S8192x512 main_cst_5
  let main_v21 : IVec S8192x512 1 := cmpf .olt main_v19 main_v20
  let main_v22 : FVec F S8192x512 .bf16 := Host.absf main_arg7
  let main_cst_6 : FVec F S_ .bf16 := constant S_ .bf16 0x7F80#16
  let main_v23 : FVec F S8192x512 .bf16 := broadcastInDim S8192x512 ![] bcast_S_S8192x512 main_cst_6
  let main_v24 : IVec S8192x512 1 := cmpf .olt main_v22 main_v23
  let main_v25 : FVec F S8192x512 .bf16 := Host.absf main_arg8
  let main_cst_7 : FVec F S_ .bf16 := constant S_ .bf16 0x7F80#16
  let main_v26 : FVec F S8192x512 .bf16 := broadcastInDim S8192x512 ![] bcast_S_S8192x512 main_cst_7
  let main_v27 : IVec S8192x512 1 := cmpf .olt main_v25 main_v26
  let main_v28 : FVec F S8192x512 .bf16 := Host.absf main_arg9
  let main_cst_8 : FVec F S_ .bf16 := constant S_ .bf16 0x7F80#16
  let main_v29 : FVec F S8192x512 .bf16 := broadcastInDim S8192x512 ![] bcast_S_S8192x512 main_cst_8
  let main_v30 : IVec S8192x512 1 := cmpf .olt main_v28 main_v29
  let main_v31 : FVec F S8192x512 .bf16 := Host.absf main_arg10
  let main_cst_9 : FVec F S_ .bf16 := constant S_ .bf16 0x7F80#16
  let main_v32 : FVec F S8192x512 .bf16 := broadcastInDim S8192x512 ![] bcast_S_S8192x512 main_cst_9
  let main_v33 : IVec S8192x512 1 := cmpf .olt main_v31 main_v32
  (main_v2, main_v5, main_v8, main_v11, main_v14, main_v17, main_v21, main_v24, main_v27, main_v30, main_v33)

def fn {F : FTy → Type} [FloatOps F] (main_arg0 : FVec F S1x8192x1024 .f32) (main_arg1 : FVec F S1x1024 .f32) (main_arg2 : FVec F S1x1024x3072 .f32) (main_arg3 : FVec F S1x4x128x128 .f32) (main_arg4 : FVec F S1x512 .f32) (main_arg5 : FVec F S8192x1024 .f32) (main_arg6 : FVec F S8192x1024 .bf16) (main_arg7 : FVec F S8192x512 .bf16) (main_arg8 : FVec F S8192x512 .bf16) (main_arg9 : FVec F S8192x512 .bf16) (main_arg10 : FVec F S8192x512 .bf16) : IVec S1x8192x1024 1 × IVec S1x1024 1 × IVec S1x1024x3072 1 × IVec S1x4x128x128 1 × IVec S1x512 1 × IVec S8192x1024 1 × IVec S8192x512 1 × IVec S8192x512 1 × IVec S8192x512 1 × IVec S8192x512 1 × IVec S8192x512 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3072 .f32 := Host.absf main_arg2
  let main_cst_1 : FVec F S_ .f32 := constant S_ .f32 0x7F800000#32
  let main_v7 : FVec F S1x1024x3072 .f32 := broadcastInDim S1x1024x3072 ![] bcast_S_S1x1024x3072 main_cst_1
  let main_v8 : IVec S1x1024x3072 1 := cmpf .olt main_v6 main_v7
  let main_v9 : FVec F S1x4x128x128 .f32 := Host.absf main_arg3
  let main_cst_2 : FVec F S_ .f32 := constant S_ .f32 0x7F800000#32
  let main_v10 : FVec F S1x4x128x128 .f32 := broadcastInDim S1x4x128x128 ![] bcast_S_S1x4x128x128 main_cst_2
  let main_v11 : IVec S1x4x128x128 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_arg7 main_arg8 main_arg9 main_arg10 main_v2 main_v5 main_v8 main_v11 main_v14 main_v17
-- ==== Kernel.lean ====
abbrev S1x8192x1024 : Shape := ⟨3, ![1, 8192, 1024]⟩
abbrev S8192x3072 : Shape := ⟨2, ![8192, 3072]⟩
abbrev S8192x512 : Shape := ⟨2, ![8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S1024x1024 : Shape := ⟨2, ![1024, 1024]⟩
abbrev S4x256x1024 : Shape := ⟨3, ![4, 256, 1024]⟩
abbrev S8192x1024 : Shape := ⟨2, ![8192, 1024]⟩
abbrev S1x1024 : Shape := ⟨2, ![1, 1024]⟩
abbrev S4x128x128 : Shape := ⟨3, ![4, 128, 128]⟩
abbrev S8x128 : Shape := ⟨2, ![8, 128]⟩
abbrev S1024x512 : Shape := ⟨2, ![1024, 512]⟩
abbrev S16x512 : Shape := ⟨2, ![16, 512]⟩
abbrev S4x1024x256 : Shape := ⟨3, ![4, 1024, 256]⟩
abbrev S1x256x1024 : Shape := ⟨3, ![1, 256, 1024]⟩
abbrev S256x1024 : Shape := ⟨2, ![256, 1024]⟩
abbrev S1024x256 : Shape := ⟨2, ![1024, 256]⟩
abbrev S1x1024x256 : Shape := ⟨3, ![1, 1024, 256]⟩
abbrev S1040x512 : Shape := ⟨2, ![1040, 512]⟩
abbrev S1024x128 : Shape := ⟨2, ![1024, 128]⟩
abbrev S1x128x128 : Shape := ⟨3, ![1, 128, 128]⟩
abbrev S128x128 : Shape := ⟨2, ![128, 128]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 20
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S8192x3072, .bf16⟩
  | .hbm, ⟨2, _⟩ => ⟨S8192x512, .bf16⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1024, .f32⟩
  | .hbm, ⟨7, _⟩ => ⟨S1x8192x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S4x128x128, .f32⟩
  | .hbm, ⟨15, _⟩ => ⟨S8192x1024, .f32⟩
  | .hbm, ⟨16, _⟩ => ⟨S8192x1024, .bf16⟩
  | .hbm, ⟨17, _⟩ => ⟨S4x256x1024, .f32⟩
  | .hbm, ⟨18, _⟩ => ⟨S1x1024, .f32⟩
  | .hbm, ⟨19, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x256x1024, .bf16⟩
  | .local _ .vmem, ⟨11, _⟩ => ⟨S1x1024, .f32⟩
  | .local _ .vmem, ⟨12, _⟩ => ⟨S4x128x128, .f32⟩
  | .local _ .vmem, ⟨13, _⟩ => ⟨S1x512, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S4x256x1024, .f32⟩
  | .local _ .vmem, ⟨19, _⟩ => ⟨S1x1024, .f32⟩
  | .local _ .vmem, ⟨20, _⟩ => ⟨S8x128, .f32⟩
  | .local _ .vmem, ⟨21, _⟩ => ⟨S1x1024, .f32⟩
  | .local _ .vmem, ⟨22, _⟩ => ⟨S16x512, .f32⟩
  | .local _ .vmem, ⟨23, _⟩ => ⟨S4x1024x256, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v329 : BitVec 1 := Scalar.cmpi .eq arg0 c7_i32
  let v330 : BitVec 32 := Scalar.extui v329
  let c0_i32_219 : BitVec 32 := 0#32
  let v331 : BitVec 1 := Scalar.cmpi .ne v330 c0_i32_219
  v331

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x8192x1024 : Shape := ⟨3, ![1, 8192, 1024]⟩
abbrev S8192x3072 : Shape := ⟨2, ![8192, 3072]⟩
abbrev S8192x512 : Shape := ⟨2, ![8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1024 : Shape := ⟨1, ![1024]⟩
abbrev S1x8192x512 : Shape := ⟨3, ![1, 8192, 512]⟩
abbrev S4x128x128 : Shape := ⟨3, ![4, 128, 128]⟩
abbrev S512 : Shape := ⟨1, ![512]⟩
abbrev S1x1x512 : Shape := ⟨3, ![1, 1, 512]⟩
abbrev S_ : Shape := ⟨0, ![]⟩
abbrev S1x8193x512 : Shape := ⟨3, ![1, 8193, 512]⟩
abbrev S8192 : Shape := ⟨1, ![8192]⟩
abbrev S1x8193x128 : Shape := ⟨3, ![1, 8193, 128]⟩
abbrev S1x8192x128 : Shape := ⟨3, ![1, 8192, 128]⟩
abbrev S8192x1 : Shape := ⟨2, ![8192, 1]⟩
abbrev S1 : Shape := ⟨1, ![1]⟩
abbrev S1x1 : Shape := ⟨2, ![1, 1]⟩
abbrev S1x8192x1 : Shape := ⟨3, ![1, 8192, 1]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1024x1024 : Shape := ⟨2, ![1024, 1024]⟩
abbrev S1x8192 : Shape := ⟨2, ![1, 8192]⟩
abbrev S1x1x1024 : Shape := ⟨3, ![1, 1, 1024]⟩
abbrev S1x1024 : Shape := ⟨2, ![1, 1024]⟩
abbrev S8192x1024 : Shape := ⟨2, ![8192, 1024]⟩
abbrev S4x256x1024 : Shape := ⟨3, ![4, 256, 1024]⟩
abbrev S8x128 : Shape := ⟨2, ![8, 128]⟩

abbrev nBuf : Space → Nat
  | .hbm => 309
  | .vmem => 0
  | .smem => 0
  | _ => 0

abbrev hbmTy0_0 (i : Nat) : BufTy := match i % 128 with
  | 0 => ⟨S1x8192x1024, .f32⟩
  | 1 => ⟨S8192x3072, .bf16⟩
  | 2 => ⟨S8192x512, .bf16⟩
  | 3 => ⟨S1x4x128x128, .f32⟩
  | 4 => ⟨S1x512, .f32⟩
  | 5 => ⟨S1x1024x1024, .f32⟩
  | 6 => ⟨S1024, .f32⟩
  | 7 => ⟨S1x8192x1024, .f32⟩
  | 8 => ⟨S8192x512, .bf16⟩
  | 9 => ⟨S1x8192x512, .bf16⟩
  | 10 => ⟨S1x8192x512, .f32⟩
  | 11 => ⟨S8192x512, .bf16⟩
  | 12 => ⟨S1x8192x512, .bf16⟩
  | 13 => ⟨S1x8192x512, .f32⟩
  | 14 => ⟨S4x128x128, .f32⟩
  | 15 => ⟨S512, .f32⟩
  | 16 => ⟨S1x1x512, .f32⟩
  | 17 => ⟨S_, .f32⟩
  | 18 => ⟨S1x1x512, .f32⟩
  | 19 => ⟨S_, .f32⟩
  | 20 => ⟨S_, .f32⟩
  | 21 => ⟨S1x8192x512, .f32⟩
  | 22 => ⟨S1x8193x512, .f32⟩
  | 23 => ⟨S8192, .i32⟩
  | 24 => ⟨S1x8193x128, .f32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S1x8192x128, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S1, .i32⟩
  | 44 => ⟨S_, .i32⟩
  | 45 => ⟨S8192x1, .i32⟩
  | 46 => ⟨S8192x1, .i1⟩
  | 47 => ⟨S1x1, .i32⟩
  | 48 => ⟨S8192x1, .i32⟩
  | 49 => ⟨S8192x1, .i1⟩
  | 50 => ⟨S8192x1, .i1⟩
  | 51 => ⟨S_, .i1⟩
  | 52 => ⟨S8192, .i1⟩
  | 53 => ⟨S1x8192x128, .f32⟩
  | 54 => ⟨S1x8192x128, .i1⟩
  | 55 => ⟨S_, .f32⟩
  | 56 => ⟨S1x8192x128, .f32⟩
  | 57 => ⟨S1x8192x128, .f32⟩
  | 58 => ⟨S1x8192x128, .f32⟩
  | 59 => ⟨S_, .i32⟩
  | 60 => ⟨S8192, .i32⟩
  | 61 => ⟨S8192, .i32⟩
  | 62 => ⟨S8192, .i32⟩
  | 63 => ⟨S8192, .f32⟩
  | 64 => ⟨S1x8192x1, .f32⟩
  | 65 => ⟨S1x8192x128, .f32⟩
  | 66 => ⟨S1x8192x128, .f32⟩
  | 67 => ⟨S1x8192x128, .f32⟩
  | 68 => ⟨S1x8192x128, .f32⟩
  | 69 => ⟨S1x8193x128, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S1x8192x128, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S1, .i32⟩
  | 89 => ⟨S_, .i32⟩
  | 90 => ⟨S8192x1, .i32⟩
  | 91 => ⟨S8192x1, .i1⟩
  | 92 => ⟨S1x1, .i32⟩
  | 93 => ⟨S8192x1, .i32⟩
  | 94 => ⟨S8192x1, .i1⟩
  | 95 => ⟨S8192x1, .i1⟩
  | 96 => ⟨S_, .i1⟩
  | 97 => ⟨S8192, .i1⟩
  | 98 => ⟨S1x8192x128, .f32⟩
  | 99 => ⟨S1x8192x128, .i1⟩
  | 100 => ⟨S_, .f32⟩
  | 101 => ⟨S1x8192x128, .f32⟩
  | 102 => ⟨S1x8192x128, .f32⟩
  | 103 => ⟨S1x8192x128, .f32⟩
  | 104 => ⟨S_, .i32⟩
  | 105 => ⟨S8192, .i32⟩
  | 106 => ⟨S8192, .i32⟩
  | 107 => ⟨S8192, .i32⟩
  | 108 => ⟨S8192, .f32⟩
  | 109 => ⟨S1x8192x1, .f32⟩
  | 110 => ⟨S1x8192x128, .f32⟩
  | 111 => ⟨S1x8192x128, .f32⟩
  | 112 => ⟨S1x8192x128, .f32⟩
  | 113 => ⟨S1x8192x128, .f32⟩
  | 114 => ⟨S1x8193x128, .f32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S1x8192x128, .f32⟩
  | 125 => ⟨S_, .i32⟩
  | 126 => ⟨S8192, .i32⟩
  | 127 => ⟨S8192, .i1⟩
  | _ => ⟨S1x8192x1024, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S1, .i32⟩
  | 6 => ⟨S_, .i32⟩
  | 7 => ⟨S8192x1, .i32⟩
  | 8 => ⟨S8192x1, .i1⟩
  | 9 => ⟨S1x1, .i32⟩
  | 10 => ⟨S8192x1, .i32⟩
  | 11 => ⟨S8192x1, .i1⟩
  | 12 => ⟨S8192x1, .i1⟩
  | 13 => ⟨S_, .i1⟩
  | 14 => ⟨S8192, .i1⟩
  | 15 => ⟨S1x8192x128, .f32⟩
  | 16 => ⟨S1x8192x128, .i1⟩
  | 17 => ⟨S_, .f32⟩
  | 18 => ⟨S1x8192x128, .f32⟩
  | 19 => ⟨S1x8192x128, .f32⟩
  | 20 => ⟨S1x8192x128, .f32⟩
  | 21 => ⟨S_, .i32⟩
  | 22 => ⟨S8192, .i32⟩
  | 23 => ⟨S8192, .i32⟩
  | 24 => ⟨S8192, .i32⟩
  | 25 => ⟨S8192, .f32⟩
  | 26 => ⟨S1x8192x1, .f32⟩
  | 27 => ⟨S1x8192x128, .f32⟩
  | 28 => ⟨S1x8192x128, .f32⟩
  | 29 => ⟨S1x8192x128, .f32⟩
  | 30 => ⟨S1x8192x128, .f32⟩
  | 31 => ⟨S1x8193x128, .f32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S1x8192x128, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S1, .i32⟩
  | 51 => ⟨S_, .i32⟩
  | 52 => ⟨S8192x1, .i32⟩
  | 53 => ⟨S8192x1, .i1⟩
  | 54 => ⟨S1x1, .i32⟩
  | 55 => ⟨S8192x1, .i32⟩
  | 56 => ⟨S8192x1, .i1⟩
  | 57 => ⟨S8192x1, .i1⟩
  | 58 => ⟨S_, .i1⟩
  | 59 => ⟨S8192, .i1⟩
  | 60 => ⟨S1x8192x128, .f32⟩
  | 61 => ⟨S1x8192x128, .i1⟩
  | 62 => ⟨S_, .f32⟩
  | 63 => ⟨S1x8192x128, .f32⟩
  | 64 => ⟨S1x8192x128, .f32⟩
  | 65 => ⟨S1x8192x128, .f32⟩
  | 66 => ⟨S_, .i32⟩
  | 67 => ⟨S8192, .i32⟩
  | 68 => ⟨S8192, .i32⟩
  | 69 => ⟨S8192, .i32⟩
  | 70 => ⟨S8192, .f32⟩
  | 71 => ⟨S1x8192x1, .f32⟩
  | 72 => ⟨S1x8192x128, .f32⟩
  | 73 => ⟨S1x8192x128, .f32⟩
  | 74 => ⟨S1x8192x128, .f32⟩
  | 75 => ⟨S1x8192x128, .f32⟩
  | 76 => ⟨S1x8192x1x128, .f32⟩
  | 77 => ⟨S1x8192x1x128, .f32⟩
  | 78 => ⟨S1x8192x1x128, .f32⟩
  | 79 => ⟨S1x8192x1x128, .f32⟩
  | 80 => ⟨S1x8192x4x128, .f32⟩
  | 81 => ⟨S4x128x1x8192, .f32⟩
  | 82 => ⟨S1x8192x4x128, .f32⟩
  | 83 => ⟨S1x8192x512, .f32⟩
  | 84 => ⟨S1x1x512, .f32⟩
  | 85 => ⟨S1x8192x512, .f32⟩
  | 86 => ⟨S1x8192x512, .f32⟩
  | 87 => ⟨S1x8192x512, .f32⟩
  | 88 => ⟨S1x8192x512, .f32⟩
  | 89 => ⟨S_, .f32⟩
  | 90 => ⟨S1x8192x512, .f32⟩
  | 91 => ⟨S1x8192x512, .f32⟩
  | 92 => ⟨S_, .f32⟩
  | 93 => ⟨S1x8192x512, .f32⟩
  | 94 => ⟨S1x8192x512, .f32⟩
  | 95 => ⟨S1x8192x512, .f32⟩
  | 96 => ⟨S1x8192x512, .f32⟩
  | 97 => ⟨S1x8192x512, .bf16⟩
  | 98 => ⟨S1x8192x512, .f32⟩
  | 99 => ⟨S1x8192x1024, .f32⟩
  | 100 => ⟨S1024x1024, .f32⟩
  | 101 => ⟨S1x8192x1024, .f32⟩
  | 102 => ⟨S1x8192x1024, .f32⟩
  | 103 => ⟨S1x8192x1024, .f32⟩
  | 104 => ⟨S_, .f32⟩
  | 105 => ⟨S1x8192, .f32⟩
  | 106 => ⟨S1x8192x1, .f32⟩
  | 107 => ⟨S_, .f32⟩
  | 108 => ⟨S1x8192x1, .f32⟩
  | 109 => ⟨S1x8192x1, .f32⟩
  | 110 => ⟨S_, .f32⟩
  | 111 => ⟨S1x8192x1, .f32⟩
  | 112 => ⟨S1x8192x1, .f32⟩
  | 113 => ⟨S1x8192x1, .f32⟩
  | 114 => ⟨S1x8192x1, .f32⟩
  | 115 => ⟨S_, .f32⟩
  | 116 => ⟨S1x8192x1, .f32⟩
  | 117 => ⟨S1x8192x1, .f32⟩
  | 118 => ⟨S1x8192x1024, .f32⟩
  | 119 => ⟨S1x8192x1024, .f32⟩
  | 120 => ⟨S1x1x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_2 (i : Nat) : BufTy := match i % 128 with
  | 0 => ⟨S_, .f32⟩
  | 1 => ⟨S1x8192, .f32⟩
  | 2 => ⟨S_, .f32⟩
  | 3 => ⟨S1x8192, .f32⟩
  | 4 => ⟨S1x8192, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x8192, .f32⟩
  | 13 => ⟨S_, .f32⟩
  | 14 => ⟨S1x8192, .f32⟩
  | 15 => ⟨S1x8192, .f32⟩
  | 16 => ⟨S1x8192x1024, .f32⟩
  | 17 => ⟨S1x8192x1024, .f32⟩
  | 18 => ⟨S1x8192x1024, .f32⟩
  | 19 => ⟨S_, .f32⟩
  | 20 => ⟨S1x1024, .f32⟩
  | 21 => ⟨S1x1x1024, .f32⟩
  | 22 => ⟨S1x8192x1024, .f32⟩
  | 23 => ⟨S1x8192x1024, .f32⟩
  | 24 => ⟨S_, .f32⟩
  | 25 => ⟨S1024, .f32⟩
  | 26 => ⟨S1x8192x1024, .f32⟩
  | 27 => ⟨S_, .f32⟩
  | 28 => ⟨S1x8192, .f32⟩
  | 29 => ⟨S1x8192x1, .f32⟩
  | 30 => ⟨S1x8192x1024, .f32⟩
  | 31 => ⟨S1x8192x1024, .f32⟩
  | 32 => ⟨S1x8192x1, .f32⟩
  | 33 => ⟨S_, .f32⟩
  | 34 => ⟨S1x8192x1, .f32⟩
  | 35 => ⟨S1x8192x1, .f32⟩
  | 36 => ⟨S_, .f32⟩
  | 37 => ⟨S8192, .f32⟩
  | 38 => ⟨S1x8192, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1024x1024, .f32⟩
  | 45 => ⟨S1024x1024, .f32⟩
  | 46 => ⟨S1x8192x1024, .f32⟩
  | 47 => ⟨S8192x1024, .f32⟩
  | 48 => ⟨S8192x1024, .f32⟩
  | 49 => ⟨S8192x1024, .bf16⟩
  | 50 => ⟨S4x256x1024, .f32⟩
  | 51 => ⟨S1x1024, .f32⟩
  | 52 => ⟨S8x128, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_call0_call0_cst : Ref sig .tc := ⟨.hbm, 19, rfl⟩
abbrev main_call0_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_3 : Ref sig .tc := ⟨.hbm, 70, rfl⟩
abbrev main_v33 : Ref sig .tc := ⟨.hbm, 71, rfl⟩
abbrev main_v34 : Ref sig .tc := ⟨.hbm, 72, rfl⟩
abbrev main_c_4 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v40 : Ref sig .tc := ⟨.hbm, 102, rfl⟩
abbrev main_v41 : Ref sig .tc := ⟨.hbm, 103, rfl⟩
abbrev main_c_6 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_7 : Ref sig .tc := ⟨.hbm, 115, rfl⟩
abbrev main_v52 : Ref sig .tc := ⟨.hbm, 116, rfl⟩
abbrev main_v53 : Ref sig .tc := ⟨.hbm, 117, rfl⟩
abbrev main_c_8 : Ref sig .tc := ⟨.hbm, 118, rfl⟩
abbrev main_v54 : Ref sig .tc := ⟨.hbm, 119, rfl⟩
abbrev main_v55 : Ref sig .tc := ⟨.hbm, 120, rfl⟩
abbrev main_c_9 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v59 : Ref sig .tc := ⟨.hbm, 147, rfl⟩
abbrev main_v60 : Ref sig .tc := ⟨.hbm, 148, rfl⟩
abbrev main_c_10 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_c_11 : Ref sig .tc := ⟨.hbm, 160, rfl⟩
abbrev main_v71 : Ref sig .tc := ⟨.hbm, 161, rfl⟩
abbrev main_v72 : Ref sig .tc := ⟨.hbm, 162, rfl⟩
abbrev main_c_12 : Ref sig .tc := ⟨.hbm, 163, rfl⟩
abbrev main_v73 : Ref sig .tc := ⟨.hbm, 164, rfl⟩
abbrev main_v74 : Ref sig .tc := ⟨.hbm, 165, rfl⟩
abbrev main_c_13 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v78 : Ref sig .tc := ⟨.hbm, 192, rfl⟩
abbrev main_v79 : Ref sig .tc := ⟨.hbm, 193, rfl⟩
abbrev main_c_14 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_call5_v0 : Ref sig .tc := ⟨.hbm, 215, rfl⟩
abbrev main_call5_v1 : Ref sig .tc := ⟨.hbm, 216, rfl⟩
abbrev main_call5_cst : Ref sig .tc := ⟨.hbm, 217, rfl⟩
abbrev main_call5_v2 : Ref sig .tc := ⟨.hbm, 218, rfl⟩
abbrev main_call5_v3 : Ref sig .tc := ⟨.hbm, 219, rfl⟩
abbrev main_call5_cst_0 : Ref sig .tc := ⟨.hbm, 220, rfl⟩
abbrev main_call5_v4 : Ref sig .tc := ⟨.hbm, 221, rfl⟩
abbrev main_call5_v5 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_cst_15 : Ref sig .tc := ⟨.hbm, 232, rfl⟩
abbrev main_v109 : Ref sig .tc := ⟨.hbm, 233, rfl⟩
abbrev main_v110 : Ref sig .tc := ⟨.hbm, 234, rfl⟩
abbrev main_cst_16 : Ref sig .tc := ⟨.hbm, 235, rfl⟩
abbrev main_v111 : Ref sig .tc := ⟨.hbm, 236, rfl⟩
abbrev main_v112 : Ref sig .tc := ⟨.hbm, 237, rfl⟩
abbrev main_cst_17 : Ref sig .tc := ⟨.hbm, 238, rfl⟩
abbrev main_v113 : Ref sig .tc := ⟨.hbm, 239, rfl⟩
abbrev main_v114 : Ref sig .tc := ⟨.hbm, 240, rfl⟩
abbrev main_v115 : Ref sig .tc := ⟨.hbm, 241, rfl⟩
abbrev main_v116 : Ref sig .tc := ⟨.hbm, 242, rfl⟩
abbrev main_cst_18 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_cst_19 : Ref sig .tc := ⟨.hbm, 253, rfl⟩
abbrev main_v126 : Ref sig .tc := ⟨.hbm, 254, rfl⟩
abbrev main_v127 : Ref sig .tc := ⟨.hbm, 255, rfl⟩
abbrev main_cst_20 : Ref sig .tc := ⟨.hbm, 256, rfl⟩
abbrev main_v128 : Ref sig .tc := ⟨.hbm, 257, rfl⟩
abbrev main_cst_21 : Ref sig .tc := ⟨.hbm, 258, rfl⟩
abbrev main_v129 : Ref sig .tc := ⟨.hbm, 259, rfl⟩
abbrev main_v130 : Ref sig .tc := ⟨.hbm, 260, rfl⟩
abbrev main_cst_22 : Ref sig .tc := ⟨.hbm, 261, rfl⟩
abbrev main_v131 : Ref sig .tc := ⟨.hbm, 262, rfl⟩
abbrev main_cst_23 : Ref sig .tc := ⟨.hbm, 263, rfl⟩
abbrev main_v132 : Ref sig .tc := ⟨.hbm, 264, rfl⟩
abbrev main_cst_24 : Ref sig .tc := ⟨.hbm, 265, rfl⟩
abbrev main_cst_25 : Ref sig .tc := ⟨.hbm, 266, rfl⟩
abbrev main_v133 : Ref sig .tc := ⟨.hbm, 267, rfl⟩
abbrev main_v134 : Ref sig .tc := ⟨.hbm, 268, rfl⟩
abbrev main_cst_26 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_cst_27 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_cst_28 : Ref sig .tc := ⟨.hbm, 280, rfl⟩
abbrev main_v144 : Ref sig .tc := ⟨.hbm, 281, rfl⟩
abbrev main_v145 : Ref sig .tc := ⟨.hbm, 282, rfl⟩
abbrev main_cst_29 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_cst_30 : Ref sig .tc := ⟨.hbm, 289, rfl⟩
abbrev main_v151 : Ref sig .tc := ⟨.hbm, 290, rfl⟩
abbrev main_v152 : Ref sig .tc := ⟨.hbm, 291, rfl⟩
abbrev main_cst_31 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_v167 : Ref sig .tc := ⟨.hbm, 307, rfl⟩
abbrev main_v168 : Ref sig .tc := ⟨.hbm, 308, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S8192x1024 : Shape := ⟨2, ![8192, 1024]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩
abbrev S1024x4x768 : Shape := ⟨3, ![1024, 4, 768]⟩
abbrev S4x1024x768 : Shape := ⟨3, ![4, 1024, 768]⟩
abbrev S4x128x128 : Shape := ⟨3, ![4, 128, 128]⟩
abbrev S1024x8192 : Shape := ⟨2, ![1024, 8192]⟩
abbrev S512x1024 : Shape := ⟨2, ![512, 1024]⟩
abbrev S512x512 : Shape := ⟨2, ![512, 512]⟩
abbrev S16x512 : Shape := ⟨2, ![16, 512]⟩
abbrev S512x3072 : Shape := ⟨2, ![512, 3072]⟩
abbrev S1024x512 : Shape := ⟨2, ![1024, 512]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩
abbrev S512 : Shape := ⟨1, ![512]⟩
abbrev S512x1 : Shape := ⟨2, ![512, 1]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 44
  | .vmem => 34
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3072, .f32⟩
  | .hbm, ⟨3, _⟩ => ⟨S1x4x128x128, .f32⟩
  | .hbm, ⟨4, _⟩ => ⟨S1x512, .f32⟩
  | .hbm, ⟨5, _⟩ => ⟨S8192x1024, .f32⟩
  | .hbm, ⟨6, _⟩ => ⟨S8192x1024, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x3072, .f32⟩
  | .hbm, ⟨30, _⟩ => ⟨S8192x3072, .f32⟩
  | .hbm, ⟨31, _⟩ => ⟨S8192x3072, .bf16⟩
  | .hbm, ⟨32, _⟩ => ⟨S1024x3072, .f32⟩
  | .hbm, ⟨33, _⟩ => ⟨S1024x3072, .bf16⟩
  | .hbm, ⟨34, _⟩ => ⟨S1024x4x768, .bf16⟩
  | .hbm, ⟨35, _⟩ => ⟨S4x1024x768, .bf16⟩
  | .hbm, ⟨36, _⟩ => ⟨S8192x1024, .f32⟩
  | .hbm, ⟨37, _⟩ => ⟨S4x128x128, .f32⟩
  | .hbm, ⟨38, _⟩ => ⟨S8192x1024, .f32⟩
  | .hbm, ⟨39, _⟩ => ⟨S8192x3072, .bf16⟩
  | .hbm, ⟨40, _⟩ => ⟨S1024x8192, .bf16⟩
  | .hbm, ⟨41, _⟩ => ⟨S1x1024, .f32⟩
  | .hbm, ⟨42, _⟩ => ⟨S1x512, .f32⟩
  | .hbm, ⟨43, _⟩ => ⟨S4x128x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S4x1024x768, .bf16⟩
  | .local _ .vmem, ⟨21, _⟩ => ⟨S4x128x128, .f32⟩
  | .local _ .vmem, ⟨22, _⟩ => ⟨S1x1024, .f32⟩
  | .local _ .vmem, ⟨23, _⟩ => ⟨S1x512, .f32⟩
  | .local _ .vmem, ⟨24, _⟩ => ⟨S512x1024, .f32⟩
  | .local _ .vmem, ⟨25, _⟩ => ⟨S512x1024, .f32⟩
  | .local _ .vmem, ⟨26, _⟩ => ⟨S512x3072, .bf16⟩
  | .local _ .vmem, ⟨27, _⟩ => ⟨S512x3072, .bf16⟩
  | .local _ .vmem, ⟨28, _⟩ => ⟨S1024x512, .bf16⟩
  | .local _ .vmem, ⟨29, _⟩ => ⟨S1024x512, .bf16⟩
  | .local _ .vmem, ⟨30, _⟩ => ⟨S1x1024, .f32⟩
  | .local _ .vmem, ⟨31, _⟩ => ⟨S1x512, .f32⟩
  | .local _ .vmem, ⟨32, _⟩ => ⟨S4x128x128, .f32⟩
  | .local _ .vmem, ⟨33, _⟩ => ⟨S16x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_v24_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c1_i32_0 : BitVec 32 := 1#32
  let v3 : BitVec 32 := Scalar.addi arg0 c1_i32_0
  let c4_i32 : BitVec 32 := 4#32
  let v4 : BitVec 32 := Scalar.shrui v3 c4_i32
  let v5 : BitVec 32 := Scalar.addi v2 v4
  let c0_i32 : BitVec 32 := 0#32
  let c0_i32_1 : BitVec 32 := 0#32
  ![v5.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference2Ideal.lean ====
abbrev S1x8192x1024 : Shape := ⟨3, ![1, 8192, 1024]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S8192x1024 : Shape := ⟨2, ![8192, 1024]⟩
abbrev S8192x512 : Shape := ⟨2, ![8192, 512]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3072 : Shape := ⟨2, ![1024, 3072]⟩
abbrev S1x8192x3072 : Shape := ⟨3, ![1, 8192, 3072]⟩
abbrev S4x128x128 : Shape := ⟨3, ![4, 128, 128]⟩
abbrev S512 : Shape := ⟨1, ![512]⟩
abbrev S1x8192x512 : Shape := ⟨3, ![1, 8192, 512]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x8192x128 : Shape := ⟨3, ![1, 8192, 128]⟩
abbrev S8192x1 : Shape := ⟨2, ![8192, 1]⟩
abbrev S1 : Shape := ⟨1, ![1]⟩
abbrev S1x1 : Shape := ⟨2, ![1, 1]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S4x1x8192x128 : Shape := ⟨4, ![4, 1, 8192, 128]⟩
abbrev S8192x3072 : Shape := ⟨2, ![8192, 3072]⟩
abbrev S1024x8192 : Shape := ⟨2, ![1024, 8192]⟩

abbrev nBuf : Space → Nat
  | .hbm => 418
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x3072, .f32⟩
  | 3 => ⟨S1x4x128x128, .f32⟩
  | 4 => ⟨S1x512, .f32⟩
  | 5 => ⟨S8192x1024, .f32⟩
  | 6 => ⟨S8192x1024, .bf16⟩
  | 7 => ⟨S8192x512, .bf16⟩
  | 8 => ⟨S8192x512, .bf16⟩
  | 9 => ⟨S8192x512, .bf16⟩
  | 10 => ⟨S8192x512, .bf16⟩
  | 11 => ⟨S1024, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1024, .f32⟩
  | 28 => ⟨S1x8192x1024, .f32⟩
  | 29 => ⟨S1x1x1024, .f32⟩
  | 30 => ⟨S1x8192x1024, .f32⟩
  | 31 => ⟨S1x8192x1024, .f32⟩
  | 32 => ⟨S1024x3072, .f32⟩
  | 33 => ⟨S1x8192x3072, .f32⟩
  | 34 => ⟨S4x128x128, .f32⟩
  | 35 => ⟨S512, .f32⟩
  | 36 => ⟨S1x8192x512, .f32⟩
  | 37 => ⟨S1x8192x512, .f32⟩
  | 38 => ⟨S1x1x512, .f32⟩
  | 39 => ⟨S_, .f32⟩
  | 40 => ⟨S1x1x512, .f32⟩
  | 41 => ⟨S_, .f32⟩
  | 42 => ⟨S_, .f32⟩
  | 43 => ⟨S1x8192x512, .f32⟩
  | 44 => ⟨S1x8193x512, .f32⟩
  | 45 => ⟨S_, .f32⟩
  | 46 => ⟨S1x1x512, .f32⟩
  | 47 => ⟨S8192, .i32⟩
  | 48 => ⟨S1x8193x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S1x8192x128, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S1, .i32⟩
  | 68 => ⟨S_, .i32⟩
  | 69 => ⟨S8192x1, .i32⟩
  | 70 => ⟨S8192x1, .i1⟩
  | 71 => ⟨S1x1, .i32⟩
  | 72 => ⟨S8192x1, .i32⟩
  | 73 => ⟨S8192x1, .i1⟩
  | 74 => ⟨S8192x1, .i1⟩
  | 75 => ⟨S_, .i1⟩
  | 76 => ⟨S8192, .i1⟩
  | 77 => ⟨S1x8192x128, .f32⟩
  | 78 => ⟨S1x8192x128, .i1⟩
  | 79 => ⟨S_, .f32⟩
  | 80 => ⟨S1x8192x128, .f32⟩
  | 81 => ⟨S1x8192x128, .f32⟩
  | 82 => ⟨S1x8192x128, .f32⟩
  | 83 => ⟨S_, .i32⟩
  | 84 => ⟨S8192, .i32⟩
  | 85 => ⟨S8192, .i32⟩
  | 86 => ⟨S8192, .i32⟩
  | 87 => ⟨S8192, .f32⟩
  | 88 => ⟨S1x8192x1, .f32⟩
  | 89 => ⟨S1x8192x128, .f32⟩
  | 90 => ⟨S1x8192x128, .f32⟩
  | 91 => ⟨S1x8192x128, .f32⟩
  | 92 => ⟨S1x8192x128, .f32⟩
  | 93 => ⟨S1x8193x128, .f32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S1x8192x128, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S1, .i32⟩
  | 113 => ⟨S_, .i32⟩
  | 114 => ⟨S8192x1, .i32⟩
  | 115 => ⟨S8192x1, .i1⟩
  | 116 => ⟨S1x1, .i32⟩
  | 117 => ⟨S8192x1, .i32⟩
  | 118 => ⟨S8192x1, .i1⟩
  | 119 => ⟨S8192x1, .i1⟩
  | 120 => ⟨S_, .i1⟩
  | 121 => ⟨S8192, .i1⟩
  | 122 => ⟨S1x8192x128, .f32⟩
  | 123 => ⟨S1x8192x128, .i1⟩
  | 124 => ⟨S_, .f32⟩
  | 125 => ⟨S1x8192x128, .f32⟩
  | 126 => ⟨S1x8192x128, .f32⟩
  | 127 => ⟨S1x8192x128, .f32⟩
  | _ => ⟨S1x8192x1024, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192, .f32⟩
  | 5 => ⟨S1x8192x1, .f32⟩
  | 6 => ⟨S1x8192x128, .f32⟩
  | 7 => ⟨S1x8192x128, .f32⟩
  | 8 => ⟨S1x8192x128, .f32⟩
  | 9 => ⟨S1x8192x128, .f32⟩
  | 10 => ⟨S1x8193x128, .f32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S1x8192x128, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S1, .i32⟩
  | 30 => ⟨S_, .i32⟩
  | 31 => ⟨S8192x1, .i32⟩
  | 32 => ⟨S8192x1, .i1⟩
  | 33 => ⟨S1x1, .i32⟩
  | 34 => ⟨S8192x1, .i32⟩
  | 35 => ⟨S8192x1, .i1⟩
  | 36 => ⟨S8192x1, .i1⟩
  | 37 => ⟨S_, .i1⟩
  | 38 => ⟨S8192, .i1⟩
  | 39 => ⟨S1x8192x128, .f32⟩
  | 40 => ⟨S1x8192x128, .i1⟩
  | 41 => ⟨S_, .f32⟩
  | 42 => ⟨S1x8192x128, .f32⟩
  | 43 => ⟨S1x8192x128, .f32⟩
  | 44 => ⟨S1x8192x128, .f32⟩
  | 45 => ⟨S_, .i32⟩
  | 46 => ⟨S8192, .i32⟩
  | 47 => ⟨S8192, .i32⟩
  | 48 => ⟨S8192, .i32⟩
  | 49 => ⟨S8192, .f32⟩
  | 50 => ⟨S1x8192x1, .f32⟩
  | 51 => ⟨S1x8192x128, .f32⟩
  | 52 => ⟨S1x8192x128, .f32⟩
  | 53 => ⟨S1x8192x128, .f32⟩
  | 54 => ⟨S1x8192x128, .f32⟩
  | 55 => ⟨S1x8193x128, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S1x8192x128, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S1, .i32⟩
  | 75 => ⟨S_, .i32⟩
  | 76 => ⟨S8192x1, .i32⟩
  | 77 => ⟨S8192x1, .i1⟩
  | 78 => ⟨S1x1, .i32⟩
  | 79 => ⟨S8192x1, .i32⟩
  | 80 => ⟨S8192x1, .i1⟩
  | 81 => ⟨S8192x1, .i1⟩
  | 82 => ⟨S_, .i1⟩
  | 83 => ⟨S8192, .i1⟩
  | 84 => ⟨S1x8192x128, .f32⟩
  | 85 => ⟨S1x8192x128, .i1⟩
  | 86 => ⟨S_, .f32⟩
  | 87 => ⟨S1x8192x128, .f32⟩
  | 88 => ⟨S1x8192x128, .f32⟩
  | 89 => ⟨S1x8192x128, .f32⟩
  | 90 => ⟨S_, .i32⟩
  | 91 => ⟨S8192, .i32⟩
  | 92 => ⟨S8192, .i32⟩
  | 93 => ⟨S8192, .i32⟩
  | 94 => ⟨S8192, .f32⟩
  | 95 => ⟨S1x8192x1, .f32⟩
  | 96 => ⟨S1x8192x128, .f32⟩
  | 97 => ⟨S1x8192x128, .f32⟩
  | 98 => ⟨S1x8192x128, .f32⟩
  | 99 => ⟨S1x8192x128, .f32⟩
  | 100 => ⟨S1x8192x1x128, .f32⟩
  | 101 => ⟨S1x8192x1x128, .f32⟩
  | 102 => ⟨S1x8192x1x128, .f32⟩
  | 103 => ⟨S1x8192x1x128, .f32⟩
  | 104 => ⟨S1x8192x4x128, .f32⟩
  | 105 => ⟨S4x128x1x8192, .f32⟩
  | 106 => ⟨S1x8192x4x128, .f32⟩
  | 107 => ⟨S1x8192x512, .f32⟩
  | 108 => ⟨S1x1x512, .f32⟩
  | 109 => ⟨S1x8192x512, .f32⟩
  | 110 => ⟨S1x8192x512, .f32⟩
  | 111 => ⟨S1x8192x512, .f32⟩
  | 112 => ⟨S1x8192x512, .f32⟩
  | 113 => ⟨S_, .f32⟩
  | 114 => ⟨S1x8192x512, .f32⟩
  | 115 => ⟨S1x8192x512, .f32⟩
  | 116 => ⟨S_, .f32⟩
  | 117 => ⟨S1x8192x512, .f32⟩
  | 118 => ⟨S1x8192x512, .f32⟩
  | 119 => ⟨S_, .f32⟩
  | 120 => ⟨S1x8192x512, .f32⟩
  | 121 => ⟨S1x8192x512, .f32⟩
  | 122 => ⟨S1x8192x512, .f32⟩
  | 123 => ⟨S1x8192x512, .f32⟩
  | 124 => ⟨S1x8192x512, .f32⟩
  | 125 => ⟨S1x8192x512, .f32⟩
  | 126 => ⟨S1x8192x512, .f32⟩
  | 127 => ⟨S1x8192x512, .f32⟩
  | _ => ⟨S1x8192x1024, .f32⟩

abbrev hbmTy0_2 (i : Nat) : BufTy := match i % 128 with
  | 0 => ⟨S1x8192x512, .f32⟩
  | 1 => ⟨S8192x512, .bf16⟩
  | 2 => ⟨S1x8192x512, .bf16⟩
  | 3 => ⟨S1x8192x512, .f32⟩
  | 4 => ⟨S1x8192x512, .bf16⟩
  | 5 => ⟨S1x8192x512, .f32⟩
  | 6 => ⟨S1x8192x512, .bf16⟩
  | 7 => ⟨S1x8192x512, .f32⟩
  | 8 => ⟨S1x8192x512, .bf16⟩
  | 9 => ⟨S1x8192x512, .f32⟩
  | 10 => ⟨S1x8192x512, .bf16⟩
  | 11 => ⟨S1x8192x512, .f32⟩
  | 12 => ⟨S_, .f32⟩
  | 13 => ⟨S1x8192x3072, .f32⟩
  | 14 => ⟨S_, .f32⟩
  | 15 => ⟨S1x8192x3072, .f32⟩
  | 16 => ⟨S1x8192x3072, .f32⟩
  | 17 => ⟨S_, .f32⟩
  | 18 => ⟨S1x8192x3072, .f32⟩
  | 19 => ⟨S1x8192x3072, .f32⟩
  | 20 => ⟨S_, .f32⟩
  | 21 => ⟨S1x8192x3072, .f32⟩
  | 22 => ⟨S1x8192x3072, .f32⟩
  | 23 => ⟨S1x8192x512, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S1x8192x512, .f32⟩
  | 30 => ⟨S_, .f32⟩
  | 31 => ⟨S1x512, .f32⟩
  | 32 => ⟨S1x1x512, .f32⟩
  | 33 => ⟨S1x8192x512, .f32⟩
  | 34 => ⟨S1x8192x512, .f32⟩
  | 35 => ⟨S_, .f32⟩
  | 36 => ⟨S512, .f32⟩
  | 37 => ⟨S1x8192x4x128, .f32⟩
  | 38 => ⟨S4x128x1x8192, .f32⟩
  | 39 => ⟨S4x1x8192x128, .f32⟩
  | 40 => ⟨S1x8192x4x128, .f32⟩
  | 41 => ⟨S4x128x128, .f32⟩
  | 42 => ⟨S4x128x128, .f32⟩
  | 43 => ⟨S1x8192x1x128, .f32⟩
  | 44 => ⟨S1x8192x128, .f32⟩
  | 45 => ⟨S1x8192x1x128, .f32⟩
  | 46 => ⟨S1x8192x128, .f32⟩
  | 47 => ⟨S1x8192x1x128, .f32⟩
  | 48 => ⟨S1x8192x128, .f32⟩
  | 49 => ⟨S1x8192x1x128, .f32⟩
  | 50 => ⟨S1x8192x128, .f32⟩
  | 51 => ⟨S1x8192x128, .f32⟩
  | 52 => ⟨S_, .f32⟩
  | 53 => ⟨S1x8192x512, .f32⟩
  | 54 => ⟨S1x8192x128, .f32⟩
  | 55 => ⟨S1x8192x128, .f32⟩
  | 56 => ⟨S1x8192x128, .f32⟩
  | 57 => ⟨S_, .f32⟩
  | 58 => ⟨S1x8193x128, .f32⟩
  | 59 => ⟨S1x8193x128, .f32⟩
  | 60 => ⟨S_, .f32⟩
  | 61 => ⟨S1x8193x128, .f32⟩
  | 62 => ⟨S1x8193x128, .f32⟩
  | 63 => ⟨S_, .f32⟩
  | 64 => ⟨S1x8193x512, .f32⟩
  | 65 => ⟨S1x8192x128, .f32⟩
  | 66 => ⟨S_, .f32⟩
  | 67 => ⟨S1x8192x512, .f32⟩
  | 68 => ⟨S1x8192x512, .f32⟩
  | 69 => ⟨S1x8192x128, .f32⟩
  | 70 => ⟨S1x8192x128, .f32⟩
  | 71 => ⟨S1x8192x128, .f32⟩
  | 72 => ⟨S_, .f32⟩
  | 73 => ⟨S1x8193x128, .f32⟩
  | 74 => ⟨S1x8193x128, .f32⟩
  | 75 => ⟨S_, .f32⟩
  | 76 => ⟨S1x8193x128, .f32⟩
  | 77 => ⟨S1x8193x128, .f32⟩
  | 78 => ⟨S_, .f32⟩
  | 79 => ⟨S1x8193x512, .f32⟩
  | 80 => ⟨S1x8193x512, .f32⟩
  | 81 => ⟨S1x8192x128, .f32⟩
  | 82 => ⟨S_, .f32⟩
  | 83 => ⟨S1x8192x512, .f32⟩
  | 84 => ⟨S1x8192x512, .f32⟩
  | 85 => ⟨S1x8192x128, .f32⟩
  | 86 => ⟨S1x8192x128, .f32⟩
  | 87 => ⟨S1x8192x128, .f32⟩
  | 88 => ⟨S_, .f32⟩
  | 89 => ⟨S1x8193x128, .f32⟩
  | 90 => ⟨S1x8193x128, .f32⟩
  | 91 => ⟨S_, .f32⟩
  | 92 => ⟨S1x8193x128, .f32⟩
  | 93 => ⟨S1x8193x128, .f32⟩
  | 94 => ⟨S_, .f32⟩
  | 95 => ⟨S1x8193x512, .f32⟩
  | 96 => ⟨S1x8193x512, .f32⟩
  | 97 => ⟨S1x8192x128, .f32⟩
  | 98 => ⟨S_, .f32⟩
  | 99 => ⟨S1x8192x512, .f32⟩
  | 100 => ⟨S1x8192x512, .f32⟩
  | 101 => ⟨S1x8192x128, .f32⟩
  | 102 => ⟨S1x8192x128, .f32⟩
  | 103 => ⟨S1x8192x128, .f32⟩
  | 104 => ⟨S_, .f32⟩
  | 105 => ⟨S1x8193x128, .f32⟩
  | 106 => ⟨S1x8193x128, .f32⟩
  | 107 => ⟨S_, .f32⟩
  | 108 => ⟨S1x8193x128, .f32⟩
  | 109 => ⟨S1x8193x128, .f32⟩
  | 110 => ⟨S_, .f32⟩
  | 111 => ⟨S1x8193x512, .f32⟩
  | 112 => ⟨S1x8193x512, .f32⟩
  | 113 => ⟨S1x1x512, .f32⟩
  | 114 => ⟨S1x8192x512, .f32⟩
  | 115 => ⟨S_, .f32⟩
  | 116 => ⟨S_, .f32⟩
  | 117 => ⟨S1x8192x512, .f32⟩
  | 118 => ⟨S1x8192x512, .f32⟩
  | 119 => ⟨S_, .f32⟩
  | 120 => ⟨S1x8192x3072, .f32⟩
  | 121 => ⟨S1x8192x3072, .f32⟩
  | 122 => ⟨S_, .f32⟩
  | 123 => ⟨S1x8192x3072, .f32⟩
  | 124 => ⟨S1x8192x3072, .f32⟩
  | 125 => ⟨S1x8192x1024, .f32⟩
  | 126 => ⟨S1x8192x1024, .f32⟩
  | 127 => ⟨S1x8192x1024, .f32⟩
  | _ => ⟨S1x8192x1024, .f32⟩

abbrev hbmTy0_3 (i : Nat) : BufTy := match i % 128 with
  | 0 => ⟨S_, .f32⟩
  | 1 => ⟨S1x1024, .f32⟩
  | 2 => ⟨S1x1x1024, .f32⟩
  | 3 => ⟨S1x8192x1024, .f32⟩
  | 4 => ⟨S1x8192x1024, .f32⟩
  | 5 => ⟨S_, .f32⟩
  | 6 => ⟨S1024, .f32⟩
  | 7 => ⟨S1x8192x1024, .f32⟩
  | 8 => ⟨S_, .f32⟩
  | 9 => ⟨S1x8192, .f32⟩
  | 10 => ⟨S1x8192x1, .f32⟩
  | 11 => ⟨S1x8192x1024, .f32⟩
  | 12 => ⟨S1x8192x1024, .f32⟩
  | 13 => ⟨S1x8192x1024, .f32⟩
  | 14 => ⟨S1x8192x1, .f32⟩
  | 15 => ⟨S_, .f32⟩
  | 16 => ⟨S1x8192x1, .f32⟩
  | 17 => ⟨S1x8192x1, .f32⟩
  | 18 => ⟨S_, .f32⟩
  | 19 => ⟨S8192, .f32⟩
  | 20 => ⟨S1x8192, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S8192x1024, .f32⟩
  | 27 => ⟨S8192x3072, .f32⟩
  | 28 => ⟨S8192x3072, .bf16⟩
  | 29 => ⟨S8192x1024, .f32⟩
  | 30 => ⟨S1024x8192, .f32⟩
  | 31 => ⟨S1024x8192, .bf16⟩
  | 32 => ⟨S1x1024, .f32⟩
  | 33 => ⟨S1x512, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_call0_call0_cst : Ref sig .tc := ⟨.hbm, 41, rfl⟩
abbrev main_call0_call0_v0 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v37_1 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v37_0 : Ref sig .tc := ⟨.hbm, 81, rfl⟩
abbrev main_v38 : Ref sig .tc := ⟨.hbm, 82, rfl⟩
abbrev main_c_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_c_8 : Ref sig .tc := ⟨.hbm, 94, rfl⟩
abbrev main_v49 : Ref sig .tc := ⟨.hbm, 95, rfl⟩
abbrev main_v50 : Ref sig .tc := ⟨.hbm, 96, rfl⟩
abbrev main_c_9 : Ref sig .tc := ⟨.hbm, 97, rfl⟩
abbrev main_v51 : Ref sig .tc := ⟨.hbm, 98, rfl⟩
abbrev main_v52 : Ref sig .tc := ⟨.hbm, 99, rfl⟩
abbrev main_c_10 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v56_1 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v56_0 : Ref sig .tc := ⟨.hbm, 126, rfl⟩
abbrev main_v57 : Ref sig .tc := ⟨.hbm, 127, rfl⟩
abbrev main_c_11 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_c_12 : Ref sig .tc := ⟨.hbm, 139, rfl⟩
abbrev main_v68 : Ref sig .tc := ⟨.hbm, 140, rfl⟩
abbrev main_v69 : Ref sig .tc := ⟨.hbm, 141, rfl⟩
abbrev main_c_13 : Ref sig .tc := ⟨.hbm, 142, rfl⟩
abbrev main_v70 : Ref sig .tc := ⟨.hbm, 143, rfl⟩
abbrev main_v71 : Ref sig .tc := ⟨.hbm, 144, rfl⟩
abbrev main_c_14 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call3_c : Ref sig .tc := ⟨.hbm, 149, rfl⟩
abbrev main_call3_v0 : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_v75_1 : Ref sig .tc := ⟨.hbm, 156, rfl⟩
abbrev main_call3_c_1 : Ref sig .tc := ⟨.hbm, 157, rfl⟩
abbrev main_call3_c_2 : Ref sig .tc := ⟨.hbm, 158, rfl⟩
abbrev main_call3_v6 : Ref sig .tc := ⟨.hbm, 159, rfl⟩
abbrev main_call3_v7 : Ref sig .tc := ⟨.hbm, 160, rfl⟩
abbrev main_call3_v8 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_c_3 : Ref sig .tc := ⟨.hbm, 165, rfl⟩
abbrev main_call3_v12 : Ref sig .tc := ⟨.hbm, 166, rfl⟩
abbrev main_call3_v13 : Ref sig .tc := ⟨.hbm, 167, rfl⟩
abbrev main_call3_v14 : Ref sig .tc := ⟨.hbm, 168, rfl⟩
abbrev main_call3_cst : Ref sig .tc := ⟨.hbm, 169, rfl⟩
abbrev main_call3_v15 : Ref sig .tc := ⟨.hbm, 170, rfl⟩
abbrev main_v75_0 : Ref sig .tc := ⟨.hbm, 171, rfl⟩
abbrev main_v76 : Ref sig .tc := ⟨.hbm, 172, rfl⟩
abbrev main_c_15 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_c_16 : Ref sig .tc := ⟨.hbm, 184, rfl⟩
abbrev main_v87 : Ref sig .tc := ⟨.hbm, 185, rfl⟩
abbrev main_v88 : Ref sig .tc := ⟨.hbm, 186, rfl⟩
abbrev main_c_17 : Ref sig .tc := ⟨.hbm, 187, rfl⟩
abbrev main_v89 : Ref sig .tc := ⟨.hbm, 188, rfl⟩
abbrev main_v90 : Ref sig .tc := ⟨.hbm, 189, rfl⟩
abbrev main_c_18 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_call4_c : Ref sig .tc := ⟨.hbm, 194, rfl⟩
abbrev main_call4_v0 : Ref sig .tc := ⟨.hbm, 195, rfl⟩
abbrev main_call4_v1 : Ref sig .tc := ⟨.hbm, 196, rfl⟩
abbrev main_call4_c_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_v94_1 : Ref sig .tc := ⟨.hbm, 201, rfl⟩
abbrev main_call4_c_1 : Ref sig .tc := ⟨.hbm, 202, rfl⟩
abbrev main_call4_c_2 : Ref sig .tc := ⟨.hbm, 203, rfl⟩
abbrev main_call4_v6 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_c_3 : Ref sig .tc := ⟨.hbm, 210, rfl⟩
abbrev main_call4_v12 : Ref sig .tc := ⟨.hbm, 211, rfl⟩
abbrev main_call4_v13 : Ref sig .tc := ⟨.hbm, 212, rfl⟩
abbrev main_call4_v14 : Ref sig .tc := ⟨.hbm, 213, rfl⟩
abbrev main_call4_cst : Ref sig .tc := ⟨.hbm, 214, rfl⟩
abbrev main_call4_v15 : Ref sig .tc := ⟨.hbm, 215, rfl⟩
abbrev main_v94_0 : Ref sig .tc := ⟨.hbm, 216, rfl⟩
abbrev main_v95 : Ref sig .tc := ⟨.hbm, 217, rfl⟩
abbrev main_c_19 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_v109 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_call5_v0 : Ref sig .tc := ⟨.hbm, 239, rfl⟩
abbrev main_call5_v1 : Ref sig .tc := ⟨.hbm, 240, rfl⟩
abbrev main_call5_cst : Ref sig .tc := ⟨.hbm, 241, rfl⟩
abbrev main_call5_v2 : Ref sig .tc := ⟨.hbm, 242, rfl⟩
abbrev main_call5_v3 : Ref sig .tc := ⟨.hbm, 243, rfl⟩
abbrev main_call5_cst_0 : Ref sig .tc := ⟨.hbm, 244, rfl⟩
abbrev main_call5_v4 : Ref sig .tc := ⟨.hbm, 245, rfl⟩
abbrev main_v116_2 : Ref sig .tc := ⟨.hbm, 246, rfl⟩
abbrev main_call5_cst_1 : Ref sig .tc := ⟨.hbm, 247, rfl⟩
abbrev main_call5_v6 : Ref sig .tc := ⟨.hbm, 248, rfl⟩
abbrev main_call5_v7 : Ref sig .tc := ⟨.hbm, 249, rfl⟩
abbrev main_v116_1 : Ref sig .tc := ⟨.hbm, 250, rfl⟩
abbrev main_v116_0 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_cst_20 : Ref sig .tc := ⟨.hbm, 268, rfl⟩
abbrev main_v133 : Ref sig .tc := ⟨.hbm, 269, rfl⟩
abbrev main_cst_21 : Ref sig .tc := ⟨.hbm, 270, rfl⟩
abbrev main_v134 : Ref sig .tc := ⟨.hbm, 271, rfl⟩
abbrev main_v135 : Ref sig .tc := ⟨.hbm, 272, rfl⟩
abbrev main_cst_22 : Ref sig .tc := ⟨.hbm, 273, rfl⟩
abbrev main_v136 : Ref sig .tc := ⟨.hbm, 274, rfl⟩
abbrev main_v137 : Ref sig .tc := ⟨.hbm, 275, rfl⟩
abbrev main_cst_23 : Ref sig .tc := ⟨.hbm, 276, rfl⟩
abbrev main_v138 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_call6_v0 : Ref sig .tc := ⟨.hbm, 281, rfl⟩
abbrev main_call6_v1 : Ref sig .tc := ⟨.hbm, 282, rfl⟩
abbrev main_call6_v2 : Ref sig .tc := ⟨.hbm, 283, rfl⟩
abbrev main_v142 : Ref sig .tc := ⟨.hbm, 284, rfl⟩
abbrev main_v143 : Ref sig .tc := ⟨.hbm, 285, rfl⟩
abbrev main_cst_24 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_cst_25 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_v152 : Ref sig .tc := ⟨.hbm, 296, rfl⟩
abbrev main_v153 : Ref sig .tc := ⟨.hbm, 297, rfl⟩
abbrev main_v154 : Ref sig .tc := ⟨.hbm, 298, rfl⟩
abbrev main_v155 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_v160 : Ref sig .tc := ⟨.hbm, 304, rfl⟩
abbrev main_v161 : Ref sig .tc := ⟨.hbm, 305, rfl⟩
abbrev main_v162 : Ref sig .tc := ⟨.hbm, 306, rfl⟩
abbrev main_v163 : Ref sig .tc := ⟨.hbm, 307, rfl⟩
abbrev main_cst_26 : Ref sig .tc := ⟨.hbm, 308, rfl⟩
abbrev main_v164 : Ref sig .tc := ⟨.hbm, 309, rfl⟩
abbrev main_v165 : Ref sig .tc := ⟨.hbm, 310, rfl⟩
abbrev main_v166 : Ref sig .tc := ⟨.hbm, 311, rfl⟩
abbrev main_v167 : Ref sig .tc := ⟨.hbm, 312, rfl⟩
abbrev main_call7_cst : Ref sig .tc := ⟨.hbm, 313, rfl⟩
abbrev main_call7_v0 : Ref sig .tc := ⟨.hbm, 314, rfl⟩
abbrev main_v168 : Ref sig .tc := ⟨.hbm, 315, rfl⟩
abbrev main_cst_27 : Ref sig .tc := ⟨.hbm, 316, rfl⟩
abbrev main_v169 : Ref sig .tc := ⟨.hbm, 317, rfl⟩
abbrev main_v170 : Ref sig .tc := ⟨.hbm, 318, rfl⟩
abbrev main_cst_28 : Ref sig .tc := ⟨.hbm, 319, rfl⟩
abbrev main_v171 : Ref sig .tc := ⟨.hbm, 320, rfl⟩
abbrev main_v172 : Ref sig .tc := ⟨.hbm, 321, rfl⟩
abbrev main_cst_29 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_call8_cst : Ref sig .tc := ⟨.hbm, 328, rfl⟩
abbrev main_call8_v0 : Ref sig .tc := ⟨.hbm, 329, rfl⟩
abbrev main_v178 : Ref sig .tc := ⟨.hbm, 330, rfl⟩
abbrev main_cst_30 : Ref sig .tc := ⟨.hbm, 331, rfl⟩
abbrev main_v179 : Ref sig .tc := ⟨.hbm, 332, rfl⟩
abbrev main_v180 : Ref sig .tc := ⟨.hbm, 333, rfl⟩
abbrev main_cst_31 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_32 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_call9_cst : Ref sig .tc := ⟨.hbm, 344, rfl⟩
abbrev main_call9_v0 : Ref sig .tc := ⟨.hbm, 345, rfl⟩
abbrev main_v189 : Ref sig .tc := ⟨.hbm, 346, rfl⟩
abbrev main_cst_33 : Ref sig .tc := ⟨.hbm, 347, rfl⟩
abbrev main_v190 : Ref sig .tc := ⟨.hbm, 348, rfl⟩
abbrev main_v191 : Ref sig .tc := ⟨.hbm, 349, rfl⟩
abbrev main_cst_34 : Ref sig .tc := ⟨.hbm, 350, rfl⟩
abbrev main_v192 : Ref sig .tc := ⟨.hbm, 351, rfl⟩
abbrev main_v193 : Ref sig .tc := ⟨.hbm, 352, rfl⟩
abbrev main_v194 : Ref sig .tc := ⟨.hbm, 353, rfl⟩
abbrev main_cst_35 : Ref sig .tc := ⟨.hbm, 354, rfl⟩
abbrev main_v195 : Ref sig .tc := ⟨.hbm, 355, rfl⟩
abbrev main_v196 : Ref sig .tc := ⟨.hbm, 356, rfl⟩
abbrev main_v197 : Ref sig .tc := ⟨.hbm, 357, rfl⟩
abbrev main_v198 : Ref sig .tc := ⟨.hbm, 358, rfl⟩
abbrev main_v199 : Ref sig .tc := ⟨.hbm, 359, rfl⟩
abbrev main_call10_cst : Ref sig .tc := ⟨.hbm, 360, rfl⟩
abbrev main_call10_v0 : Ref sig .tc := ⟨.hbm, 361, rfl⟩
abbrev main_v200 : Ref sig .tc := ⟨.hbm, 362, rfl⟩
abbrev main_cst_36 : Ref sig .tc := ⟨.hbm, 363, rfl⟩
abbrev main_v201 : Ref sig .tc := ⟨.hbm, 364, rfl⟩
abbrev main_v202 : Ref sig .tc := ⟨.hbm, 365, rfl⟩
abbrev main_cst_37 : Ref sig .tc := ⟨.hbm, 366, rfl⟩
abbrev main_v203 : Ref sig .tc := ⟨.hbm, 367, rfl⟩
abbrev main_v204 : Ref sig .tc := ⟨.hbm, 368, rfl⟩
abbrev main_v205 : Ref sig .tc := ⟨.hbm, 369, rfl⟩
abbrev main_v206 : Ref sig .tc := ⟨.hbm, 370, rfl⟩
abbrev main_call11_call0_cst : Ref sig .tc := ⟨.hbm, 371, rfl⟩
abbrev main_call11_call0_v0 : Ref sig .tc := ⟨.hbm, 372, rfl⟩
abbrev main_v207 : Ref sig .tc := ⟨.hbm, 373, rfl⟩
abbrev main_v208 : Ref sig .tc := ⟨.hbm, 374, rfl⟩
abbrev main_cst_38 : Ref sig .tc := ⟨.hbm, 375, rfl⟩
abbrev main_v209 : Ref sig .tc := ⟨.hbm, 376, rfl⟩
abbrev main_v210 : Ref sig .tc := ⟨.hbm, 377, rfl⟩
abbrev main_cst_39 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_v214 : Ref sig .tc := ⟨.hbm, 382, rfl⟩
abbrev main_v215 : Ref sig .tc := ⟨.hbm, 383, rfl⟩
abbrev main_cst_40 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_cst_41 : Ref sig .tc := ⟨.hbm, 389, rfl⟩
abbrev main_v220 : Ref sig .tc := ⟨.hbm, 390, rfl⟩
abbrev main_v221 : Ref sig .tc := ⟨.hbm, 391, rfl⟩
abbrev main_cst_42 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_v226 : Ref sig .tc := ⟨.hbm, 397, rfl⟩
abbrev main_v227 : Ref sig .tc := ⟨.hbm, 398, rfl⟩
abbrev main_cst_43 : Ref sig .tc := ⟨.hbm, 399, rfl⟩
abbrev main_v228 : Ref sig .tc := ⟨.hbm, 400, rfl⟩
abbrev main_v229 : Ref sig .tc := ⟨.hbm, 401, rfl⟩
abbrev main_cst_44 : Ref sig .tc := ⟨.hbm, 402, rfl⟩
abbrev main_v230 : Ref sig .tc := ⟨.hbm, 403, rfl⟩
abbrev main_v231 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_v239 : Ref sig .tc := ⟨.hbm, 412, rfl⟩
abbrev main_v240 : Ref sig .tc := ⟨.hbm, 413, rfl⟩
abbrev main_v241 : Ref sig .tc := ⟨.hbm, 414, rfl⟩
abbrev main_v242 : Ref sig .tc := ⟨.hbm, 415, rfl⟩
abbrev main_v243 : Ref sig .tc := ⟨.hbm, 416, rfl⟩
abbrev main_v244 : Ref sig .tc := ⟨.hbm, 417, rfl⟩

abbrev nD : Nat := 1
abbrev τ : Topo := Topo.v7x

variable {F : FTy → Type} [FloatOps F]
-- ==== Kernel3.lean ====
abbrev S8192x3072 : Shape := ⟨2, ![8192, 3072]⟩
abbrev S1x8x129 : Shape := ⟨3, ![1, 8, 129]⟩
abbrev S8x129 : Shape := ⟨2, ![8, 129]⟩
abbrev S8x1 : Shape := ⟨2, ![8, 1]⟩
abbrev S8x511 : Shape := ⟨2, ![8, 511]⟩
abbrev S8x128 : Shape := ⟨2, ![8, 128]⟩
abbrev S8x639 : Shape := ⟨2, ![8, 639]⟩
abbrev S_ : Shape := ⟨0, ![]⟩
abbrev S8x768 : Shape := ⟨2, ![8, 768]⟩
abbrev S4x2x768 : Shape := ⟨3, ![4, 2, 768]⟩
abbrev S8192x512 : Shape := ⟨2, ![8192, 512]⟩
abbrev S4x64x640x256 : Shape := ⟨4, ![4, 64, 640, 256]⟩
abbrev S4x64x8x256 : Shape := ⟨4, ![4, 64, 8, 256]⟩
abbrev S2048x128 : Shape := ⟨2, ![2048, 128]⟩
abbrev S1x2x768 : Shape := ⟨3, ![1, 2, 768]⟩
abbrev S1x16x640x256 : Shape := ⟨4, ![1, 16, 640, 256]⟩
abbrev S1x16x8x256 : Shape := ⟨4, ![1, 16, 8, 256]⟩
abbrev S4096x256 : Shape := ⟨2, ![4096, 256]⟩
abbrev S128x4096 : Shape := ⟨2, ![128, 4096]⟩
abbrev S640x256 : Shape := ⟨2, ![640, 256]⟩
abbrev S2048x256 : Shape := ⟨2, ![2048, 256]⟩
abbrev S128x2048 : Shape := ⟨2, ![128, 2048]⟩
abbrev S64x128 : Shape := ⟨2, ![64, 128]⟩
abbrev S64x640 : Shape := ⟨2, ![64, 640]⟩
abbrev S1x1x768 : Shape := ⟨3, ![1, 1, 768]⟩
abbrev S1x768 : Shape := ⟨2, ![1, 768]⟩
abbrev S1x128 : Shape := ⟨2, ![1, 128]⟩
abbrev S256x640 : Shape := ⟨2, ![256, 640]⟩
abbrev S128x128 : Shape := ⟨2, ![128, 128]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x1x640x256 : Shape := ⟨4, ![1, 1, 640, 256]⟩
abbrev S8x256 : Shape := ⟨2, ![8, 256]⟩
abbrev S1x1x8x256 : Shape := ⟨4, ![1, 1, 8, 256]⟩
abbrev S128x640 : Shape := ⟨2, ![128, 640]⟩
abbrev S128x256 : Shape := ⟨2, ![128, 256]⟩

abbrev nBuf : Space → Nat
  | .hbm => 15
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S1x8x129, .f32⟩
  | .hbm, ⟨2, _⟩ => ⟨S8x129, .f32⟩
  | .hbm, ⟨3, _⟩ => ⟨S8x1, .f32⟩
  | .hbm, ⟨4, _⟩ => ⟨S8x511, .f32⟩
  | .hbm, ⟨5, _⟩ => ⟨S8x128, .f32⟩
  | .hbm, ⟨6, _⟩ => ⟨S8x639, .f32⟩
  | .hbm, ⟨7, _⟩ => ⟨S_, .i32⟩
  | .hbm, ⟨8, _⟩ => ⟨S_, .f32⟩
  | .hbm, ⟨9, _⟩ => ⟨S8x768, .f32⟩
  | .hbm, ⟨10, _⟩ => ⟨S4x2x768, .f32⟩
  | .hbm, ⟨11, _⟩ => ⟨S8192x512, .bf16⟩
  | .hbm, ⟨12, _⟩ => ⟨S8192x512, .bf16⟩
  | .hbm, ⟨13, _⟩ => ⟨S4x64x640x256, .bf16⟩
  | .hbm, ⟨14, _⟩ => ⟨S4x64x8x256, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x768, .f32⟩
  | .local _ .vmem, ⟨9, _⟩ => ⟨S1x2x768, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S1x16x640x256, .bf16⟩
  | .local _ .vmem, ⟨15, _⟩ => ⟨S1x16x640x256, .bf16⟩
  | .local _ .vmem, ⟨16, _⟩ => ⟨S1x16x8x256, .f32⟩
  | .local _ .vmem, ⟨17, _⟩ => ⟨S1x16x8x256, .f32⟩
  | .local _ .vmem, ⟨18, _⟩ => ⟨S4096x256, .bf16⟩
  | .local _ .vmem, ⟨19, _⟩ => ⟨S128x4096, .bf16⟩
  | .local _ .vmem, ⟨20, _⟩ => ⟨S640x256, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x640x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== Reference3Ideal.lean ====
abbrev S8192x3072 : Shape := ⟨2, ![8192, 3072]⟩
abbrev S1x8x129 : Shape := ⟨3, ![1, 8, 129]⟩
abbrev S8x129 : Shape := ⟨2, ![8, 129]⟩
abbrev S8192x512 : Shape := ⟨2, ![8192, 512]⟩
abbrev S1x8192x8x64 : Shape := ⟨4, ![1, 8192, 8, 64]⟩
abbrev S1x8192x512 : Shape := ⟨3, ![1, 8192, 512]⟩
abbrev S64 : Shape := ⟨1, ![64]⟩
abbrev S576 : Shape := ⟨1, ![576]⟩
abbrev S1x576 : Shape := ⟨2, ![1, 576]⟩
abbrev S_ : Shape := ⟨0, ![]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x128x64x8x64 : Shape := ⟨5, ![1, 128, 64, 8, 64]⟩
abbrev S1x512x8x64 : Shape := ⟨4, ![1, 512, 8, 64]⟩
abbrev S1x8704x8x64 : Shape := ⟨4, ![1, 8704, 8, 64]⟩
abbrev S1x136x64x8x64 : Shape := ⟨5, ![1, 136, 64, 8, 64]⟩
abbrev S1x128x576x8x64 : Shape := ⟨5, ![1, 128, 576, 8, 64]⟩
abbrev S1x128x8x64x576 : Shape := ⟨5, ![1, 128, 8, 64, 576]⟩
abbrev S1x1x8x64x576 : Shape := ⟨5, ![1, 1, 8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S64x2x8x64x576 : Shape := ⟨5, ![64, 2, 8, 64, 576]⟩
abbrev S64x1x8x64x64 : Shape := ⟨5, ![64, 1, 8, 64, 64]⟩
abbrev S64x1x8x64x576 : Shape := ⟨5, ![64, 1, 8, 64, 576]⟩
abbrev S64x1x8x64x640 : Shape := ⟨5, ![64, 1, 8, 64, 640]⟩
abbrev S64x2x8x64x640 : Shape := ⟨5, ![64, 2, 8, 64, 640]⟩
abbrev S64x2x8x64x1 : Shape := ⟨5, ![64, 2, 8, 64, 1]⟩
abbrev S64x2x4x2x64x1 : Shape := ⟨6, ![64, 2, 4, 2, 64, 1]⟩
abbrev S4x64x1x2x2x64 : Shape := ⟨6, ![4, 64, 1, 2, 2, 64]⟩
abbrev S4x64x1x256 : Shape := ⟨4, ![4, 64, 1, 256]⟩
abbrev S4x64x8x256 : Shape := ⟨4, ![4, 64, 8, 256]⟩
abbrev S64x2x4x2x64x640 : Shape := ⟨6, ![64, 2, 4, 2, 64, 640]⟩
abbrev S4x64x640x2x2x64 : Shape := ⟨6, ![4, 64, 640, 2, 2, 64]⟩
abbrev S4x64x640x256 : Shape := ⟨4, ![4, 64, 640, 256]⟩

abbrev nBuf : Space → Nat
  | .hbm => 161
  | .vmem => 0
  | .smem => 0
  | _ => 0

abbrev hbmTy0_0 (i : Nat) : BufTy := match i % 128 with
  | 0 => ⟨S8192x3072, .bf16⟩
  | 1 => ⟨S1x8x129, .f32⟩
  | 2 => ⟨S8x129, .f32⟩
  | 3 => ⟨S8192x512, .bf16⟩
  | 4 => ⟨S8192x512, .f32⟩
  | 5 => ⟨S1x8192x8x64, .f32⟩
  | 6 => ⟨S8192x512, .bf16⟩
  | 7 => ⟨S8192x512, .f32⟩
  | 8 => ⟨S1x8192x8x64, .f32⟩
  | 9 => ⟨S8192x512, .bf16⟩
  | 10 => ⟨S8192x512, .f32⟩
  | 11 => ⟨S1x8192x8x64, .f32⟩
  | 12 => ⟨S8192x512, .bf16⟩
  | 13 => ⟨S1x8192x512, .bf16⟩
  | 14 => ⟨S1x8192x512, .f32⟩
  | 15 => ⟨S64, .i32⟩
  | 16 => ⟨S576, .i32⟩
  | 17 => ⟨S1x576, .i32⟩
  | 18 => ⟨S_, .i32⟩
  | 19 => ⟨S1x576, .i32⟩
  | 20 => ⟨S1x576, .i32⟩
  | 21 => ⟨S64x1, .i32⟩
  | 22 => ⟨S64x576, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S8x64x576, .f32⟩
  | 45 => ⟨S1x128x64x8x64, .f32⟩
  | 46 => ⟨S_, .f32⟩
  | 47 => ⟨S1x512x8x64, .f32⟩
  | 48 => ⟨S1x8704x8x64, .f32⟩
  | 49 => ⟨S1x136x64x8x64, .f32⟩
  | 50 => ⟨S1x128x64x8x64, .f32⟩
  | 51 => ⟨S1x128x64x8x64, .f32⟩
  | 52 => ⟨S1x128x64x8x64, .f32⟩
  | 53 => ⟨S1x128x64x8x64, .f32⟩
  | 54 => ⟨S1x128x64x8x64, .f32⟩
  | 55 => ⟨S1x128x64x8x64, .f32⟩
  | 56 => ⟨S1x128x64x8x64, .f32⟩
  | 57 => ⟨S1x128x64x8x64, .f32⟩
  | 58 => ⟨S1x128x64x8x64, .f32⟩
  | 59 => ⟨S1x128x576x8x64, .f32⟩
  | 60 => ⟨S1x128x8x64x576, .f32⟩
  | 61 => ⟨S_, .f32⟩
  | 62 => ⟨S1x128x8x64x576, .f32⟩
  | 63 => ⟨S1x128x8x64x576, .f32⟩
  | 64 => ⟨S1x1x8x64x576, .f32⟩
  | 65 => ⟨S1x128x8x64x576, .f32⟩
  | 66 => ⟨S1x128x8x64x576, .f32⟩
  | 67 => ⟨S128, .i32⟩
  | 68 => ⟨S128x1, .i32⟩
  | 69 => ⟨S_, .i32⟩
  | 70 => ⟨S128x1, .i32⟩
  | 71 => ⟨S128x1, .i32⟩
  | 72 => ⟨S1x576, .i32⟩
  | 73 => ⟨S128x576, .i32⟩
  | 74 => ⟨S128x576, .i32⟩
  | 75 => ⟨S128x576, .i32⟩
  | 76 => ⟨S_, .i32⟩
  | 77 => ⟨S128x576, .i32⟩
  | 78 => ⟨S128x576, .i32⟩
  | 79 => ⟨S_, .i32⟩
  | 80 => ⟨S128x576, .i32⟩
  | 81 => ⟨S128x576, .i1⟩
  | 82 => ⟨S1x128x1x1x576, .i1⟩
  | 83 => ⟨S_, .f32⟩
  | 84 => ⟨S_, .f32⟩
  | 85 => ⟨S1x128x8x64x576, .i1⟩
  | 86 => ⟨S1x128x8x64x576, .f32⟩
  | 87 => ⟨S1x128x8x64x576, .f32⟩
  | 88 => ⟨S_, .f32⟩
  | 89 => ⟨S1x128x8x64, .f32⟩
  | 90 => ⟨S1x128x8x64x1, .f32⟩
  | 91 => ⟨S1x128x8x64x576, .f32⟩
  | 92 => ⟨S1x128x8x64x576, .f32⟩
  | 93 => ⟨S1x128x8x64x576, .f32⟩
  | 94 => ⟨S_, .f32⟩
  | 95 => ⟨S1x128x8x64, .f32⟩
  | 96 => ⟨S1x128x8x64x1, .f32⟩
  | 97 => ⟨S1x128x8x64x576, .f32⟩
  | 98 => ⟨S1x128x8x64x576, .f32⟩
  | 99 => ⟨S_, .f32⟩
  | 100 => ⟨S1x512x8x64, .f32⟩
  | 101 => ⟨S1x8704x8x64, .f32⟩
  | 102 => ⟨S1x136x64x8x64, .f32⟩
  | 103 => ⟨S1x128x64x8x64, .f32⟩
  | 104 => ⟨S1x128x64x8x64, .f32⟩
  | 105 => ⟨S1x128x64x8x64, .f32⟩
  | 106 => ⟨S1x128x64x8x64, .f32⟩
  | 107 => ⟨S1x128x64x8x64, .f32⟩
  | 108 => ⟨S1x128x64x8x64, .f32⟩
  | 109 => ⟨S1x128x64x8x64, .f32⟩
  | 110 => ⟨S1x128x64x8x64, .f32⟩
  | 111 => ⟨S1x128x64x8x64, .f32⟩
  | 112 => ⟨S1x128x576x8x64, .f32⟩
  | 113 => ⟨S1x128x8x64x64, .f32⟩
  | 114 => ⟨S1x128x64x8x64, .f32⟩
  | 115 => ⟨S8192x512, .f32⟩
  | 116 => ⟨S64x2x8x64x576, .f32⟩
  | 117 => ⟨S_, .f32⟩
  | 118 => ⟨S64x1x8x64x64, .f32⟩
  | 119 => ⟨S64x1x8x64x576, .f32⟩
  | 120 => ⟨S64x1x8x64x640, .f32⟩
  | 121 => ⟨S64x1x8x64x576, .f32⟩
  | 122 => ⟨S64x1x8x64x640, .f32⟩
  | 123 => ⟨S64x2x8x64x640, .f32⟩
  | 124 => ⟨S_, .f32⟩
  | 125 => ⟨S1x128x8x64x1, .f32⟩
  | 126 => ⟨S1x128x8x64x1, .f32⟩
  | 127 => ⟨S64x2x8x64x1, .f32⟩
  | _ => ⟨S8192x3072, .bf16⟩

abbrev hbmTy0_1 (i : Nat) : BufTy := match i % 128 with
  | 0 => ⟨S64x2x4x2x64x1, .f32⟩
  | 1 => ⟨S4x64x1x2x2x64, .f32⟩
  | 2 => ⟨S4x64x1x256, .f32⟩
  | 3 => ⟨S4x64x8x256, .f32⟩
  | 4 => ⟨S64x2x4x2x64x640, .f32⟩
  | 5 => ⟨S4x64x640x2x2x64, .f32⟩
  | 6 => ⟨S4x64x640x256, .f32⟩
  | 7 => ⟨S4x64x640x256, .bf16⟩
  | 8 => ⟨S8192x512, .bf16⟩
  | 9 => ⟨S8192x512, .f32⟩
  | 10 => ⟨S1x8192x8x64, .f32⟩
  | 11 => ⟨S8192x512, .bf16⟩
  | 12 => ⟨S8192x512, .f32⟩
  | 13 => ⟨S1x8192x8x64, .f32⟩
  | 14 => ⟨S8192x512, .bf16⟩
  | 15 => ⟨S8192x512, .f32⟩
  | 16 => ⟨S1x8192x8x64, .f32⟩
  | 17 => ⟨S8192x512, .bf16⟩
  | 18 => ⟨S1x8192x512, .bf16⟩
  | 19 => ⟨S1x8192x512, .f32⟩
  | 20 => ⟨S8192x512, .bf16⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_c_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_13 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_14 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_call2_v5 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel4.lean ====
abbrev S8192x3072 : Shape := ⟨2, ![8192, 3072]⟩
abbrev S1x8x129 : Shape := ⟨3, ![1, 8, 129]⟩
abbrev S8192x1024 : Shape := ⟨2, ![8192, 1024]⟩
abbrev S8x129 : Shape := ⟨2, ![8, 129]⟩
abbrev S8192x512 : Shape := ⟨2, ![8192, 512]⟩
abbrev S1x8192x8x64 : Shape := ⟨4, ![1, 8192, 8, 64]⟩
abbrev S1x8192x512 : Shape := ⟨3, ![1, 8192, 512]⟩
abbrev S64 : Shape := ⟨1, ![64]⟩
abbrev S576 : Shape := ⟨1, ![576]⟩
abbrev S1x576 : Shape := ⟨2, ![1, 576]⟩
abbrev S_ : Shape := ⟨0, ![]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x128x64x8x64 : Shape := ⟨5, ![1, 128, 64, 8, 64]⟩
abbrev S1x512x8x64 : Shape := ⟨4, ![1, 512, 8, 64]⟩
abbrev S1x8704x8x64 : Shape := ⟨4, ![1, 8704, 8, 64]⟩
abbrev S1x136x64x8x64 : Shape := ⟨5, ![1, 136, 64, 8, 64]⟩
abbrev S1x128x576x8x64 : Shape := ⟨5, ![1, 128, 576, 8, 64]⟩
abbrev S1x128x8x64x576 : Shape := ⟨5, ![1, 128, 8, 64, 576]⟩
abbrev S1x1x8x64x576 : Shape := ⟨5, ![1, 1, 8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S64x2x8x64x576 : Shape := ⟨5, ![64, 2, 8, 64, 576]⟩
abbrev S64x1x8x64x64 : Shape := ⟨5, ![64, 1, 8, 64, 64]⟩
abbrev S64x1x8x64x576 : Shape := ⟨5, ![64, 1, 8, 64, 576]⟩
abbrev S64x1x8x64x640 : Shape := ⟨5, ![64, 1, 8, 64, 640]⟩
abbrev S64x2x8x64x640 : Shape := ⟨5, ![64, 2, 8, 64, 640]⟩
abbrev S64x2x8x64x1 : Shape := ⟨5, ![64, 2, 8, 64, 1]⟩
abbrev S64x2x4x2x64x1 : Shape := ⟨6, ![64, 2, 4, 2, 64, 1]⟩
abbrev S4x64x1x2x2x64 : Shape := ⟨6, ![4, 64, 1, 2, 2, 64]⟩
abbrev S4x64x1x256 : Shape := ⟨4, ![4, 64, 1, 256]⟩
abbrev S4x64x8x256 : Shape := ⟨4, ![4, 64, 8, 256]⟩
abbrev S64x2x4x2x64x640 : Shape := ⟨6, ![64, 2, 4, 2, 64, 640]⟩
abbrev S4x64x640x2x2x64 : Shape := ⟨6, ![4, 64, 640, 2, 2, 64]⟩
abbrev S4x64x640x256 : Shape := ⟨4, ![4, 64, 640, 256]⟩
abbrev S640 : Shape := ⟨1, ![640]⟩
abbrev S640x1 : Shape := ⟨2, ![640, 1]⟩
abbrev S256 : Shape := ⟨1, ![256]⟩
abbrev S1x256 : Shape := ⟨2, ![1, 256]⟩
abbrev S640x256 : Shape := ⟨2, ![640, 256]⟩
abbrev S4x136x128 : Shape := ⟨3, ![4, 136, 128]⟩
abbrev S2048x128 : Shape := ⟨2, ![2048, 128]⟩
abbrev S1x16x640x256 : Shape := ⟨4, ![1, 16, 640, 256]⟩
abbrev S1x16x8x256 : Shape := ⟨4, ![1, 16, 8, 256]⟩
abbrev S1x136x128 : Shape := ⟨3, ![1, 136, 128]⟩
abbrev S4096x128 : Shape := ⟨2, ![4096, 128]⟩
abbrev S128x4096 : Shape := ⟨2, ![128, 4096]⟩
abbrev S128x2048 : Shape := ⟨2, ![128, 2048]⟩
abbrev S128x128 : Shape := ⟨2, ![128, 128]⟩
abbrev S256x128 : Shape := ⟨2, ![256, 128]⟩
abbrev S1x1x640x256 : Shape := ⟨4, ![1, 1, 640, 256]⟩
abbrev S1x1x1x256 : Shape := ⟨4, ![1, 1, 1, 256]⟩
abbrev S640x128 : Shape := ⟨2, ![640, 128]⟩
abbrev S128x640 : Shape := ⟨2, ![128, 640]⟩
abbrev S128x256 : Shape := ⟨2, ![128, 256]⟩
abbrev S1x128 : Shape := ⟨2, ![1, 128]⟩
abbrev S136x128 : Shape := ⟨2, ![136, 128]⟩
abbrev S1 : Shape := ⟨1, ![1]⟩
abbrev S1x1 : Shape := ⟨2, ![1, 1]⟩
abbrev S136x256 : Shape := ⟨2, ![136, 256]⟩
abbrev S120x256 : Shape := ⟨2, ![120, 256]⟩
abbrev S112x256 : Shape := ⟨2, ![112, 256]⟩
abbrev S104x256 : Shape := ⟨2, ![104, 256]⟩
abbrev S96x256 : Shape := ⟨2, ![96, 256]⟩
abbrev S88x256 : Shape := ⟨2, ![88, 256]⟩
abbrev S80x256 : Shape := ⟨2, ![80, 256]⟩
abbrev S72x256 : Shape := ⟨2, ![72, 256]⟩

abbrev nBuf : Space → Nat
  | .hbm => 242
  | .vmem => 34
  | .smem => 0
  | _ => 0

abbrev hbmTy0_0 (i : Nat) : BufTy := match i % 128 with
  | 0 => ⟨S8192x3072, .bf16⟩
  | 1 => ⟨S1x8x129, .f32⟩
  | 2 => ⟨S8192x1024, .bf16⟩
  | 3 => ⟨S8x129, .f32⟩
  | 4 => ⟨S8192x512, .bf16⟩
  | 5 => ⟨S8192x512, .f32⟩
  | 6 => ⟨S1x8192x8x64, .f32⟩
  | 7 => ⟨S8192x512, .bf16⟩
  | 8 => ⟨S8192x512, .f32⟩
  | 9 => ⟨S1x8192x8x64, .f32⟩
  | 10 => ⟨S8192x512, .bf16⟩
  | 11 => ⟨S8192x512, .f32⟩
  | 12 => ⟨S1x8192x8x64, .f32⟩
  | 13 => ⟨S8192x512, .bf16⟩
  | 14 => ⟨S1x8192x512, .bf16⟩
  | 15 => ⟨S1x8192x512, .f32⟩
  | 16 => ⟨S64, .i32⟩
  | 17 => ⟨S576, .i32⟩
  | 18 => ⟨S1x576, .i32⟩
  | 19 => ⟨S_, .i32⟩
  | 20 => ⟨S1x576, .i32⟩
  | 21 => ⟨S1x576, .i32⟩
  | 22 => ⟨S64x1, .i32⟩
  | 23 => ⟨S64x576, .i32⟩
  | 24 => ⟨S64x576, .i32⟩
  | 25 => ⟨S64x576, .i32⟩
  | 26 => ⟨S_, .i32⟩
  | 27 => ⟨S_, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i1⟩
  | 40 => ⟨S_, .i32⟩
  | 41 => ⟨S64x576, .i32⟩
  | 42 => ⟨S64x576, .i32⟩
  | 43 => ⟨S64x576, .i32⟩
  | 44 => ⟨S64x576x1, .i32⟩
  | 45 => ⟨S8x64x576, .f32⟩
  | 46 => ⟨S1x128x64x8x64, .f32⟩
  | 47 => ⟨S_, .f32⟩
  | 48 => ⟨S1x512x8x64, .f32⟩
  | 49 => ⟨S1x8704x8x64, .f32⟩
  | 50 => ⟨S1x136x64x8x64, .f32⟩
  | 51 => ⟨S1x128x64x8x64, .f32⟩
  | 52 => ⟨S1x128x64x8x64, .f32⟩
  | 53 => ⟨S1x128x64x8x64, .f32⟩
  | 54 => ⟨S1x128x64x8x64, .f32⟩
  | 55 => ⟨S1x128x64x8x64, .f32⟩
  | 56 => ⟨S1x128x64x8x64, .f32⟩
  | 57 => ⟨S1x128x64x8x64, .f32⟩
  | 58 => ⟨S1x128x64x8x64, .f32⟩
  | 59 => ⟨S1x128x64x8x64, .f32⟩
  | 60 => ⟨S1x128x576x8x64, .f32⟩
  | 61 => ⟨S1x128x8x64x576, .f32⟩
  | 62 => ⟨S_, .f32⟩
  | 63 => ⟨S1x128x8x64x576, .f32⟩
  | 64 => ⟨S1x128x8x64x576, .f32⟩
  | 65 => ⟨S1x1x8x64x576, .f32⟩
  | 66 => ⟨S1x128x8x64x576, .f32⟩
  | 67 => ⟨S1x128x8x64x576, .f32⟩
  | 68 => ⟨S128, .i32⟩
  | 69 => ⟨S128x1, .i32⟩
  | 70 => ⟨S_, .i32⟩
  | 71 => ⟨S128x1, .i32⟩
  | 72 => ⟨S128x1, .i32⟩
  | 73 => ⟨S1x576, .i32⟩
  | 74 => ⟨S128x576, .i32⟩
  | 75 => ⟨S128x576, .i32⟩
  | 76 => ⟨S128x576, .i32⟩
  | 77 => ⟨S_, .i32⟩
  | 78 => ⟨S128x576, .i32⟩
  | 79 => ⟨S128x576, .i32⟩
  | 80 => ⟨S_, .i32⟩
  | 81 => ⟨S128x576, .i32⟩
  | 82 => ⟨S128x576, .i1⟩
  | 83 => ⟨S1x128x1x1x576, .i1⟩
  | 84 => ⟨S_, .f32⟩
  | 85 => ⟨S_, .f32⟩
  | 86 => ⟨S1x128x8x64x576, .i1⟩
  | 87 => ⟨S1x128x8x64x576, .f32⟩
  | 88 => ⟨S1x128x8x64x576, .f32⟩
  | 89 => ⟨S_, .f32⟩
  | 90 => ⟨S1x128x8x64, .f32⟩
  | 91 => ⟨S1x128x8x64x1, .f32⟩
  | 92 => ⟨S1x128x8x64x576, .f32⟩
  | 93 => ⟨S1x128x8x64x576, .f32⟩
  | 94 => ⟨S1x128x8x64x576, .f32⟩
  | 95 => ⟨S_, .f32⟩
  | 96 => ⟨S1x128x8x64, .f32⟩
  | 97 => ⟨S1x128x8x64x1, .f32⟩
  | 98 => ⟨S1x128x8x64x576, .f32⟩
  | 99 => ⟨S1x128x8x64x576, .f32⟩
  | 100 => ⟨S_, .f32⟩
  | 101 => ⟨S1x512x8x64, .f32⟩
  | 102 => ⟨S1x8704x8x64, .f32⟩
  | 103 => ⟨S1x136x64x8x64, .f32⟩
  | 104 => ⟨S1x128x64x8x64, .f32⟩
  | 105 => ⟨S1x128x64x8x64, .f32⟩
  | 106 => ⟨S1x128x64x8x64, .f32⟩
  | 107 => ⟨S1x128x64x8x64, .f32⟩
  | 108 => ⟨S1x128x64x8x64, .f32⟩
  | 109 => ⟨S1x128x64x8x64, .f32⟩
  | 110 => ⟨S1x128x64x8x64, .f32⟩
  | 111 => ⟨S1x128x64x8x64, .f32⟩
  | 112 => ⟨S1x128x64x8x64, .f32⟩
  | 113 => ⟨S1x128x576x8x64, .f32⟩
  | 114 => ⟨S1x128x8x64x64, .f32⟩
  | 115 => ⟨S1x128x64x8x64, .f32⟩
  | 116 => ⟨S8192x512, .f32⟩
  | 117 => ⟨S64x2x8x64x576, .f32⟩
  | 118 => ⟨S_, .f32⟩
  | 119 => ⟨S64x1x8x64x64, .f32⟩
  | 120 => ⟨S64x1x8x64x576, .f32⟩
  | 121 => ⟨S64x1x8x64x640, .f32⟩
  | 122 => ⟨S64x1x8x64x576, .f32⟩
  | 123 => ⟨S64x1x8x64x640, .f32⟩
  | 124 => ⟨S64x2x8x64x640, .f32⟩
  | 125 => ⟨S_, .f32⟩
  | 126 => ⟨S1x128x8x64x1, .f32⟩
  | 127 => ⟨S1x128x8x64x1, .f32⟩
  | _ => ⟨S8192x3072, .bf16⟩

abbrev hbmTy0_1 (i : Nat) : BufTy := match i % 128 with
  | 0 => ⟨S64x2x8x64x1, .f32⟩
  | 1 => ⟨S64x2x4x2x64x1, .f32⟩
  | 2 => ⟨S4x64x1x2x2x64, .f32⟩
  | 3 => ⟨S4x64x1x256, .f32⟩
  | 4 => ⟨S4x64x8x256, .f32⟩
  | 5 => ⟨S64x2x4x2x64x640, .f32⟩
  | 6 => ⟨S4x64x640x2x2x64, .f32⟩
  | 7 => ⟨S4x64x640x256, .f32⟩
  | 8 => ⟨S4x64x640x256, .bf16⟩
  | 9 => ⟨S8192x512, .bf16⟩
  | 10 => ⟨S640, .i32⟩
  | 11 => ⟨S640x1, .i32⟩
  | 12 => ⟨S256, .i32⟩
  | 13 => ⟨S1x256, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S1x256, .i32⟩
  | 21 => ⟨S1x256, .i32⟩
  | 22 => ⟨S_, .i32⟩
  | 23 => ⟨S1x256, .i32⟩
  | 24 => ⟨S1x256, .i1⟩
  | 25 => ⟨S_, .i32⟩
  | 26 => ⟨S1x256, .i32⟩
  | 27 => ⟨S1x256, .i1⟩
  | 28 => ⟨S_, .i32⟩
  | 29 => ⟨S_, .i1⟩
  | 30 => ⟨S1x256, .i1⟩
  | 31 => ⟨S1x256, .i1⟩
  | 32 => ⟨S1x256, .i1⟩
  | 33 => ⟨S1x256, .i32⟩
  | 34 => ⟨S1x256, .i32⟩
  | 35 => ⟨S1x256, .i32⟩
  | 36 => ⟨S_, .i32⟩
  | 37 => ⟨S_, .i32⟩
  | 38 => ⟨S1x256, .i32⟩
  | 39 => ⟨S1x256, .i32⟩
  | 40 => ⟨S1x256, .i32⟩
  | 41 => ⟨S_, .i32⟩
  | 42 => ⟨S1x256, .i32⟩
  | 43 => ⟨S1x256, .i1⟩
  | 44 => ⟨S1x256, .i32⟩
  | 45 => ⟨S1x256, .i32⟩
  | 46 => ⟨S_, .i32⟩
  | 47 => ⟨S1x256, .i32⟩
  | 48 => ⟨S1x256, .i1⟩
  | 49 => ⟨S1x256, .i1⟩
  | 50 => ⟨S_, .i32⟩
  | 51 => ⟨S1x256, .i32⟩
  | 52 => ⟨S1x256, .i32⟩
  | 53 => ⟨S1x256, .i32⟩
  | 54 => ⟨S_, .i32⟩
  | 55 => ⟨S1x256, .i32⟩
  | 56 => ⟨S1x256, .i32⟩
  | 57 => ⟨S640x256, .i32⟩
  | 58 => ⟨S640x256, .i32⟩
  | 59 => ⟨S640x256, .i32⟩
  | 60 => ⟨S_, .i32⟩
  | 61 => ⟨S640x256, .i32⟩
  | 62 => ⟨S640x256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S1x256, .i32⟩
  | 70 => ⟨S1x256, .i32⟩
  | 71 => ⟨S_, .i32⟩
  | 72 => ⟨S1x256, .i32⟩
  | 73 => ⟨S1x256, .i1⟩
  | 74 => ⟨S_, .i32⟩
  | 75 => ⟨S1x256, .i32⟩
  | 76 => ⟨S1x256, .i1⟩
  | 77 => ⟨S_, .i32⟩
  | 78 => ⟨S_, .i1⟩
  | 79 => ⟨S1x256, .i1⟩
  | 80 => ⟨S1x256, .i1⟩
  | 81 => ⟨S1x256, .i1⟩
  | 82 => ⟨S1x256, .i32⟩
  | 83 => ⟨S1x256, .i32⟩
  | 84 => ⟨S1x256, .i32⟩
  | 85 => ⟨S640x256, .i32⟩
  | 86 => ⟨S640x256, .i32⟩
  | 87 => ⟨S_, .i32⟩
  | 88 => ⟨S_, .i32⟩
  | 89 => ⟨S_, .i32⟩
  | 90 => ⟨S640x256, .i32⟩
  | 91 => ⟨S640x256, .i32⟩
  | 92 => ⟨S_, .i32⟩
  | 93 => ⟨S640x256, .i32⟩
  | 94 => ⟨S640x256, .i32⟩
  | 95 => ⟨S_, .i32⟩
  | 96 => ⟨S640x256, .i32⟩
  | 97 => ⟨S640x256, .i32⟩
  | 98 => ⟨S_, .i32⟩
  | 99 => ⟨S640x256, .i32⟩
  | 100 => ⟨S640x256, .i1⟩
  | 101 => ⟨S_, .i32⟩
  | 102 => ⟨S640x256, .i32⟩
  | 103 => ⟨S640x256, .i1⟩
  | 104 => ⟨S640x256, .i1⟩
  | 105 => ⟨S_, .i32⟩
  | 106 => ⟨S_, .i32⟩
  | 107 => ⟨S640x256, .i32⟩
  | 108 => ⟨S640x256, .i32⟩
  | 109 => ⟨S8192x512, .bf16⟩
  | 110 => ⟨S8192x512, .bf16⟩
  | 111 => ⟨S8192x512, .bf16⟩
  | 112 => ⟨S8192x512, .bf16⟩
  | 113 => ⟨S4x136x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x16x640x256, .bf16⟩
  | .local _ .vmem, ⟨13, _⟩ => ⟨S1x16x640x256, .bf16⟩
  | .local _ .vmem, ⟨14, _⟩ => ⟨S1x16x8x256, .f32⟩
  | .local _ .vmem, ⟨15, _⟩ => ⟨S1x16x8x256, .f32⟩
  | .local _ .vmem, ⟨16, _⟩ => ⟨S640x256, .i32⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S1x136x128, .f32⟩
  | .local _ .vmem, ⟨26, _⟩ => ⟨S1x136x128, .f32⟩
  | .local _ .vmem, ⟨27, _⟩ => ⟨S4096x128, .bf16⟩
  | .local _ .vmem, ⟨28, _⟩ => ⟨S128x4096, .bf16⟩
  | .local _ .vmem, ⟨29, _⟩ => ⟨S4096x128, .f32⟩
  | .local _ .vmem, ⟨30, _⟩ => ⟨S4096x128, .f32⟩
  | .local _ .vmem, ⟨31, _⟩ => ⟨S640x256, .f32⟩
  | .local _ .vmem, ⟨32, _⟩ => ⟨S2048x128, .bf16⟩
  | .local _ .vmem, ⟨33, _⟩ => ⟨S2048x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_15 : Ref sig .tc := ⟨.hbm, 142, rfl⟩
abbrev main_call2_v0 : Ref sig .tc := ⟨.hbm, 143, rfl⟩
abbrev main_call2_c : Ref sig .tc := ⟨.hbm, 144, rfl⟩
abbrev main_call2_v1 : Ref sig .tc := ⟨.hbm, 145, rfl⟩
abbrev main_call2_c_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_c_1 : Ref sig .tc := ⟨.hbm, 150, rfl⟩
abbrev main_call2_v5 : Ref sig .tc := ⟨.hbm, 151, rfl⟩
abbrev main_call2_v6 : Ref sig .tc := ⟨.hbm, 152, rfl⟩
abbrev main_call2_c_2 : Ref sig .tc := ⟨.hbm, 153, rfl⟩
abbrev main_call2_v7 : Ref sig .tc := ⟨.hbm, 154, rfl⟩
abbrev main_call2_v8 : Ref sig .tc := ⟨.hbm, 155, rfl⟩
abbrev main_call2_c_3 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_v12 : Ref sig .tc := ⟨.hbm, 160, rfl⟩
abbrev main_call2_v13 : Ref sig .tc := ⟨.hbm, 161, rfl⟩
abbrev main_call2_v14 : Ref sig .tc := ⟨.hbm, 162, rfl⟩
abbrev main_v114 : Ref sig .tc := ⟨.hbm, 163, rfl⟩
abbrev main_c_16 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_v8 : Ref sig .tc := ⟨.hbm, 173, rfl⟩
abbrev main_call3_c : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_c_0 : Ref sig .tc := ⟨.hbm, 178, rfl⟩
abbrev main_call3_v12 : Ref sig .tc := ⟨.hbm, 179, rfl⟩
abbrev main_call3_v13 : Ref sig .tc := ⟨.hbm, 180, rfl⟩
abbrev main_v115 : Ref sig .tc := ⟨.hbm, 181, rfl⟩
abbrev main_c_17 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_18 : Ref sig .tc := ⟨.hbm, 188, rfl⟩
abbrev main_v121 : Ref sig .tc := ⟨.hbm, 189, rfl⟩
abbrev main_v122 : Ref sig .tc := ⟨.hbm, 190, rfl⟩
abbrev main_c_19 : Ref sig .tc := ⟨.hbm, 191, rfl⟩
abbrev main_call4_v0 : Ref sig .tc := ⟨.hbm, 192, rfl⟩
abbrev main_call4_c : Ref sig .tc := ⟨.hbm, 193, rfl⟩
abbrev main_call4_v1 : Ref sig .tc := ⟨.hbm, 194, rfl⟩
abbrev main_call4_c_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_c_1 : Ref sig .tc := ⟨.hbm, 199, rfl⟩
abbrev main_call4_v5 : Ref sig .tc := ⟨.hbm, 200, rfl⟩
abbrev main_call4_v6 : Ref sig .tc := ⟨.hbm, 201, rfl⟩
abbrev main_call4_c_2 : Ref sig .tc := ⟨.hbm, 202, rfl⟩
abbrev main_call4_v7 : Ref sig .tc := ⟨.hbm, 203, rfl⟩
abbrev main_call4_v8 : Ref sig .tc := ⟨.hbm, 204, rfl⟩
abbrev main_call4_c_3 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_call4_v12 : Ref sig .tc := ⟨.hbm, 209, rfl⟩
abbrev main_call4_v13 : Ref sig .tc := ⟨.hbm, 210, rfl⟩
abbrev main_call4_v14 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_c_20 : Ref sig .tc := ⟨.hbm, 215, rfl⟩
abbrev main_c_21 : Ref sig .tc := ⟨.hbm, 216, rfl⟩
abbrev main_call5_v0 : Ref sig .tc := ⟨.hbm, 217, rfl⟩
abbrev main_call5_v1 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_v126 : Ref sig .tc := ⟨.hbm, 222, rfl⟩
abbrev main_c_22 : Ref sig .tc := ⟨.hbm, 223, rfl⟩
abbrev main_v127 : Ref sig .tc := ⟨.hbm, 224, rfl⟩
abbrev main_v128 : Ref sig .tc := ⟨.hbm, 225, rfl⟩
abbrev main_c_23 : Ref sig .tc := ⟨.hbm, 226, rfl⟩
abbrev main_v129 : Ref sig .tc := ⟨.hbm, 227, rfl⟩
abbrev main_v130 : Ref sig .tc := ⟨.hbm, 228, rfl⟩
abbrev main_c_24 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_c_25 : Ref sig .tc := ⟨.hbm, 233, rfl⟩
abbrev main_call6_v0 : Ref sig .tc := ⟨.hbm, 234, rfl⟩
abbrev main_call6_v1 : Ref sig .tc := ⟨.hbm, 235, rfl⟩
abbrev main_v134 : Ref sig .tc := ⟨.hbm, 236, rfl⟩
abbrev main_v135_0 : Ref sig .tc := ⟨.hbm, 237, rfl⟩
abbrev main_v135_1 : Ref sig .tc := ⟨.hbm, 238, rfl⟩
abbrev main_v135_2 : Ref sig .tc := ⟨.hbm, 239, rfl⟩
abbrev main_v135_3 : Ref sig .tc := ⟨.hbm, 240, rfl⟩
abbrev main_v135_4 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond7 (i : grid0.Coords) : BitVec 1 :=
  let arg1 : BitVec 32 := BitVec.ofNat 32 (i 1).val
  let c4_i32_21 : BitVec 32 := 4#32
  let v28 : BitVec 1 := Scalar.cmpi .eq arg1 c4_i32_21
  let v29 : BitVec 32 := Scalar.extui v28
  let c0_i32_22 : BitVec 32 := 0#32
  let v30 : BitVec 1 := Scalar.cmpi .ne v29 c0_i32_22
  v30

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c8_i32 : BitVec 32 := 8#32
  let v1 : BitVec 32 := Scalar.addi c8_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c12_i32 : BitVec 32 := 12#32
  let v1 : BitVec 32 := Scalar.addi c12_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c20_i32 : BitVec 32 := 20#32
  let v1 : BitVec 32 := Scalar.addi c20_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c4_i32 : BitVec 32 := 4#32
  let v1 : BitVec 32 := Scalar.addi c4_i32 arg0
  let c0_i32 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x640x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S640x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x136x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S8192x3072 : Shape := ⟨2, ![8192, 3072]⟩
abbrev S1x8x129 : Shape := ⟨3, ![1, 8, 129]⟩
abbrev S8192x1024 : Shape := ⟨2, ![8192, 1024]⟩
abbrev S8192x512 : Shape := ⟨2, ![8192, 512]⟩
abbrev S1x8192x8x64 : Shape := ⟨4, ![1, 8192, 8, 64]⟩
abbrev S1x8192x512 : Shape := ⟨3, ![1, 8192, 512]⟩
abbrev S8x129 : Shape := ⟨2, ![8, 129]⟩
abbrev S64 : Shape := ⟨1, ![64]⟩
abbrev S576 : Shape := ⟨1, ![576]⟩
abbrev S1x576 : Shape := ⟨2, ![1, 576]⟩
abbrev S_ : Shape := ⟨0, ![]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x128x64x8x64 : Shape := ⟨5, ![1, 128, 64, 8, 64]⟩
abbrev S1x512x8x64 : Shape := ⟨4, ![1, 512, 8, 64]⟩
abbrev S1x8704x8x64 : Shape := ⟨4, ![1, 8704, 8, 64]⟩
abbrev S1x136x64x8x64 : Shape := ⟨5, ![1, 136, 64, 8, 64]⟩
abbrev S1x128x576x8x64 : Shape := ⟨5, ![1, 128, 576, 8, 64]⟩
abbrev S1x128x8x64x576 : Shape := ⟨5, ![1, 128, 8, 64, 576]⟩
abbrev S1x1x8x64x576 : Shape := ⟨5, ![1, 1, 8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S128x8x64 : Shape := ⟨3, ![128, 8, 64]⟩

abbrev nBuf : Space → Nat
  | .hbm => 200
  | .vmem => 0
  | .smem => 0
  | _ => 0

abbrev hbmTy0_0 (i : Nat) : BufTy := match i % 128 with
  | 0 => ⟨S8192x3072, .bf16⟩
  | 1 => ⟨S1x8x129, .f32⟩
  | 2 => ⟨S8192x1024, .bf16⟩
  | 3 => ⟨S8192x512, .bf16⟩
  | 4 => ⟨S8192x512, .f32⟩
  | 5 => ⟨S1x8192x8x64, .f32⟩
  | 6 => ⟨S8192x512, .bf16⟩
  | 7 => ⟨S8192x512, .f32⟩
  | 8 => ⟨S1x8192x8x64, .f32⟩
  | 9 => ⟨S8192x512, .bf16⟩
  | 10 => ⟨S8192x512, .f32⟩
  | 11 => ⟨S1x8192x8x64, .f32⟩
  | 12 => ⟨S8192x512, .bf16⟩
  | 13 => ⟨S1x8192x512, .bf16⟩
  | 14 => ⟨S1x8192x512, .f32⟩
  | 15 => ⟨S8x129, .f32⟩
  | 16 => ⟨S64, .i32⟩
  | 17 => ⟨S576, .i32⟩
  | 18 => ⟨S1x576, .i32⟩
  | 19 => ⟨S_, .i32⟩
  | 20 => ⟨S1x576, .i32⟩
  | 21 => ⟨S1x576, .i32⟩
  | 22 => ⟨S64x1, .i32⟩
  | 23 => ⟨S64x576, .i32⟩
  | 24 => ⟨S64x576, .i32⟩
  | 25 => ⟨S64x576, .i32⟩
  | 26 => ⟨S_, .i32⟩
  | 27 => ⟨S_, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i1⟩
  | 40 => ⟨S_, .i32⟩
  | 41 => ⟨S64x576, .i32⟩
  | 42 => ⟨S64x576, .i32⟩
  | 43 => ⟨S64x576, .i32⟩
  | 44 => ⟨S64x576x1, .i32⟩
  | 45 => ⟨S8x64x576, .f32⟩
  | 46 => ⟨S1x128x64x8x64, .f32⟩
  | 47 => ⟨S_, .f32⟩
  | 48 => ⟨S1x512x8x64, .f32⟩
  | 49 => ⟨S1x8704x8x64, .f32⟩
  | 50 => ⟨S1x136x64x8x64, .f32⟩
  | 51 => ⟨S1x128x64x8x64, .f32⟩
  | 52 => ⟨S1x128x64x8x64, .f32⟩
  | 53 => ⟨S1x128x64x8x64, .f32⟩
  | 54 => ⟨S1x128x64x8x64, .f32⟩
  | 55 => ⟨S1x128x64x8x64, .f32⟩
  | 56 => ⟨S1x128x64x8x64, .f32⟩
  | 57 => ⟨S1x128x64x8x64, .f32⟩
  | 58 => ⟨S1x128x64x8x64, .f32⟩
  | 59 => ⟨S1x128x64x8x64, .f32⟩
  | 60 => ⟨S1x128x576x8x64, .f32⟩
  | 61 => ⟨S1x128x8x64x576, .f32⟩
  | 62 => ⟨S_, .f32⟩
  | 63 => ⟨S1x128x8x64x576, .f32⟩
  | 64 => ⟨S1x128x8x64x576, .f32⟩
  | 65 => ⟨S1x1x8x64x576, .f32⟩
  | 66 => ⟨S1x128x8x64x576, .f32⟩
  | 67 => ⟨S1x128x8x64x576, .f32⟩
  | 68 => ⟨S128, .i32⟩
  | 69 => ⟨S128x1, .i32⟩
  | 70 => ⟨S_, .i32⟩
  | 71 => ⟨S128x1, .i32⟩
  | 72 => ⟨S128x1, .i32⟩
  | 73 => ⟨S1x576, .i32⟩
  | 74 => ⟨S128x576, .i32⟩
  | 75 => ⟨S128x576, .i32⟩
  | 76 => ⟨S128x576, .i32⟩
  | 77 => ⟨S_, .i32⟩
  | 78 => ⟨S128x576, .i32⟩
  | 79 => ⟨S128x576, .i32⟩
  | 80 => ⟨S_, .i32⟩
  | 81 => ⟨S128x576, .i32⟩
  | 82 => ⟨S128x576, .i1⟩
  | 83 => ⟨S1x128x1x1x576, .i1⟩
  | 84 => ⟨S_, .f32⟩
  | 85 => ⟨S_, .f32⟩
  | 86 => ⟨S1x128x8x64x576, .i1⟩
  | 87 => ⟨S1x128x8x64x576, .f32⟩
  | 88 => ⟨S1x128x8x64x576, .f32⟩
  | 89 => ⟨S_, .f32⟩
  | 90 => ⟨S1x128x8x64x576, .f32⟩
  | 91 => ⟨S_, .f32⟩
  | 92 => ⟨S1x128x8x64, .f32⟩
  | 93 => ⟨S1x128x8x64x1, .f32⟩
  | 94 => ⟨S1x128x8x64x576, .f32⟩
  | 95 => ⟨S1x128x8x64x576, .i1⟩
  | 96 => ⟨S1x128x8x64x576, .f32⟩
  | 97 => ⟨S_, .f32⟩
  | 98 => ⟨S1x128x8x64, .f32⟩
  | 99 => ⟨S_, .f32⟩
  | 100 => ⟨S1x128x8x64, .f32⟩
  | 101 => ⟨S1x128x8x64, .f32⟩
  | 102 => ⟨S_, .f32⟩
  | 103 => ⟨S1x128x8x64, .f32⟩
  | 104 => ⟨S1x128x8x64, .i1⟩
  | 105 => ⟨S_, .f32⟩
  | 106 => ⟨S1x128x8x64, .f32⟩
  | 107 => ⟨S1x128x8x64, .i1⟩
  | 108 => ⟨S_, .f32⟩
  | 109 => ⟨S1x128x8x64, .f32⟩
  | 110 => ⟨S_, .f32⟩
  | 111 => ⟨S1x128x8x64, .f32⟩
  | 112 => ⟨S_, .f32⟩
  | 113 => ⟨S1x128x8x64, .f32⟩
  | 114 => ⟨S1x128x8x64, .f32⟩
  | 115 => ⟨S1x128x8x64, .f32⟩
  | 116 => ⟨S1x128x8x64x1, .f32⟩
  | 117 => ⟨S1x128x8x64x576, .f32⟩
  | 118 => ⟨S1x128x8x64x576, .f32⟩
  | 119 => ⟨S1x128x8x64x576, .f32⟩
  | 120 => ⟨S_, .f32⟩
  | 121 => ⟨S1x128x8x64, .f32⟩
  | 122 => ⟨S1x128x8x64x1, .f32⟩
  | 123 => ⟨S1x128x8x64x576, .f32⟩
  | 124 => ⟨S1x128x8x64x576, .f32⟩
  | 125 => ⟨S1x128x8x64x1, .f32⟩
  | 126 => ⟨S_, .f32⟩
  | 127 => ⟨S1x128x8x64x1, .f32⟩
  | _ => ⟨S8192x3072, .bf16⟩

abbrev hbmTy0_1 (i : Nat) : BufTy := match i % 128 with
  | 0 => ⟨S1x128x8x64x1, .f32⟩
  | 1 => ⟨S_, .f32⟩
  | 2 => ⟨S1x512x8x64, .f32⟩
  | 3 => ⟨S1x8704x8x64, .f32⟩
  | 4 => ⟨S1x136x64x8x64, .f32⟩
  | 5 => ⟨S1x128x64x8x64, .f32⟩
  | 6 => ⟨S1x128x64x8x64, .f32⟩
  | 7 => ⟨S1x128x64x8x64, .f32⟩
  | 8 => ⟨S1x128x64x8x64, .f32⟩
  | 9 => ⟨S1x128x64x8x64, .f32⟩
  | 10 => ⟨S1x128x64x8x64, .f32⟩
  | 11 => ⟨S1x128x64x8x64, .f32⟩
  | 12 => ⟨S1x128x64x8x64, .f32⟩
  | 13 => ⟨S1x128x64x8x64, .f32⟩
  | 14 => ⟨S1x128x576x8x64, .f32⟩
  | 15 => ⟨S1x128x8x64x64, .f32⟩
  | 16 => ⟨S1x128x64x8x64, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S_, .f32⟩
  | 27 => ⟨S1x8192x512, .f32⟩
  | 28 => ⟨S1x8192x512, .f32⟩
  | 29 => ⟨S1x8192x512, .f32⟩
  | 30 => ⟨S1x8192x512, .f32⟩
  | 31 => ⟨S1x8192x512, .f32⟩
  | 32 => ⟨S8192x512, .bf16⟩
  | 33 => ⟨S1x8192x512, .bf16⟩
  | 34 => ⟨S1x8192x512, .f32⟩
  | 35 => ⟨S1x8192x512, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S1x128x64x8x64, .f32⟩
  | 42 => ⟨S1x128x8x64x64, .f32⟩
  | 43 => ⟨S1x128x8x64x576, .f32⟩
  | 44 => ⟨S1x128x8x64x576, .f32⟩
  | 45 => ⟨S1x128x8x64x576, .f32⟩
  | 46 => ⟨S1x128x8x64x576, .f32⟩
  | 47 => ⟨S_, .f32⟩
  | 48 => ⟨S1x128x8x64, .f32⟩
  | 49 => ⟨S1x128x8x64x1, .f32⟩
  | 50 => ⟨S1x128x8x64x1, .f32⟩
  | 51 => ⟨S1x128x8x64x576, .f32⟩
  | 52 => ⟨S1x128x8x64x576, .f32⟩
  | 53 => ⟨S_, .f32⟩
  | 54 => ⟨S128x8x64, .f32⟩
  | 55 => ⟨S1x128x8x64, .f32⟩
  | 56 => ⟨S1x128x8x64x576, .f32⟩
  | 57 => ⟨S1x128x8x64x576, .f32⟩
  | 58 => ⟨S1x128x8x64x576, .f32⟩
  | 59 => ⟨S_, .f32⟩
  | 60 => ⟨S1x128x8x64x576, .f32⟩
  | 61 => ⟨S1x128x8x64x576, .f32⟩
  | 62 => ⟨S_, .f32⟩
  | 63 => ⟨S1x128x8x64x576, .f32⟩
  | 64 => ⟨S1x128x8x64x576, .f32⟩
  | 65 => ⟨S1x128x8x64x64, .f32⟩
  | 66 => ⟨S1x128x64x8x64, .f32⟩
  | 67 => ⟨S1x8192x8x64, .f32⟩
  | 68 => ⟨S8192x512, .f32⟩
  | 69 => ⟨S8192x512, .bf16⟩
  | 70 => ⟨S8192x512, .f32⟩
  | 71 => ⟨S8192x512, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_call1_v0 : Ref sig .tc := ⟨.hbm, 85, rfl⟩
abbrev main_v65_1 : Ref sig .tc := ⟨.hbm, 86, rfl⟩
abbrev main_call1_v2 : Ref sig .tc := ⟨.hbm, 87, rfl⟩
abbrev main_v65_0 : Ref sig .tc := ⟨.hbm, 88, rfl⟩
abbrev main_call1_cst : Ref sig .tc := ⟨.hbm, 89, rfl⟩
abbrev main_v65_2 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_call2_v0 : Ref sig .tc := ⟨.hbm, 146, rfl⟩
abbrev main_call2_v1 : Ref sig .tc := ⟨.hbm, 147, rfl⟩
abbrev main_call2_cst : Ref sig .tc := ⟨.hbm, 148, rfl⟩
abbrev main_call2_v2 : Ref sig .tc := ⟨.hbm, 149, rfl⟩
abbrev main_call2_v3 : Ref sig .tc := ⟨.hbm, 150, rfl⟩
abbrev main_call2_cst_0 : Ref sig .tc := ⟨.hbm, 151, rfl⟩
abbrev main_call2_v4 : Ref sig .tc := ⟨.hbm, 152, rfl⟩
abbrev main_v110_2 : Ref sig .tc := ⟨.hbm, 153, rfl⟩
abbrev main_call2_cst_1 : Ref sig .tc := ⟨.hbm, 154, rfl⟩
abbrev main_call2_v6 : Ref sig .tc := ⟨.hbm, 155, rfl⟩
abbrev main_call2_v7 : Ref sig .tc := ⟨.hbm, 156, rfl⟩
abbrev main_v110_1 : Ref sig .tc := ⟨.hbm, 157, rfl⟩
abbrev main_v110_0 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_21 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_22 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_call4_cst : Ref sig .tc := ⟨.hbm, 187, rfl⟩
abbrev main_call4_v0 : Ref sig .tc := ⟨.hbm, 188, rfl⟩
abbrev main_v134 : Ref sig .tc := ⟨.hbm, 189, rfl⟩
abbrev main_cst_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩

abbrev nD : Nat := 1
abbrev τ : Topo := Topo.v7x

variable {F : FTy → Type} [FloatOps F]
-- ==== Kernel5.lean ====
abbrev S1x256x1024 : Shape := ⟨3, ![1, 256, 1024]⟩
abbrev S256x1024 : Shape := ⟨2, ![256, 1024]⟩
abbrev S128x1024 : Shape := ⟨2, ![128, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Consts.lean ====
/-
  The float words the programs name, as real numbers.
-/
module

public import Idealize.ShloMosaic.PureOps.Ideal.Laws
public import Idealize.ShloMosaic.Lib.IdealHost
public import Idealize.ShloMosaic.Lib.Tactic

@[expose] public section

noncomputable section

namespace Cert.Consts

open Idealize.ShloMosaic

/-- The small number under the root, `0x358637BD`: `8796093 / 2 ^ 43`. -/
def eps : ℝ := 8796093 / 2 ^ 43

theorem eps_pos : 0 < eps := by unfold eps; positivity

theorem c0 : Ideal.ofBits .f32 0x00000000#32 = ((0 : ℝ) : EReal) := by simp [Ideal.ofBits, Ideal.ieee]
theorem c1024 : Ideal.ofBits .f32 0x44800000#32 = ((1024 : ℝ) : EReal) := by
  simp [Ideal.ofBits, Ideal.ieee]; norm_num; rw [← EReal.coe_mul]; norm_num
theorem ceps : Ideal.ofBits .f32 0x358637BD#32 = (eps : EReal) := by
  simp [Ideal.ofBits, Ideal.ieee, eps]; norm_num; rw [← EReal.coe_mul]; norm_num
theorem c1 : Ideal.ofBits .f32 0x3F800000#32 = ((1 : ℝ) : EReal) := by
  simp [Ideal.ofBits, Ideal.ieee]; norm_num; rw [← EReal.coe_mul]; norm_num
theorem c2 : Ideal.ofBits .f32 0x40000000#32 = ((2 : ℝ) : EReal) := by
  simp [Ideal.ofBits, Ideal.ieee]; norm_num; rw [← EReal.coe_mul]; norm_num
theorem chalf : Ideal.ofBits .f32 0x3F000000#32 = ((1 / 2 : ℝ) : EReal) := by
  simp [Ideal.ofBits, Ideal.ieee]; norm_num; rw [← EReal.coe_mul]; norm_num
theorem cnhalf : Ideal.ofBits .f32 0xBF000000#32 = ((-(1 / 2) : ℝ) : EReal) := by
  simp [Ideal.ofBits, Ideal.ieee]; norm_num; rw [← EReal.coe_mul]; norm_num
theorem cinv1024 : Ideal.ofBits .f32 0x3A800000#32 = ((1 / 1024 : ℝ) : EReal) := by
  simp [Ideal.ofBits, Ideal.ieee]; norm_num; rw [← EReal.coe_mul]; norm_num
theorem cinv2048 : Ideal.ofBits .f32 0x3A000000#32 = ((1 / 2048 : ℝ) : EReal) := by
  simp [Ideal.ofBits, Ideal.ieee]; norm_num; rw [← EReal.coe_mul]; norm_num

end Cert.Consts
-- ==== Proof.Spec.lean ====
/-
  What the output projection, the loss and their gradients compute over the reals: one function of (row, column) per
  intermediate array, of the eight arguments' real entries.
-/
module

public import proofs.«01_k».proof.Proof.Consts

@[expose] public section

noncomputable section

namespace Cert.Spec

open scoped BigOperators
open Cert.Consts Finset

/-- The sum of the last `w` entries of `f` up to `r`, those before the first left out. -/
def wsum (f : ℕ → ℝ) (w r : ℕ) : ℝ := ∑ k ∈ range w, if k ≤ r then f (r - k) else 0

/-- The window of pooling group `g`: 2, 4, 8, 16. -/
def win (g : ℕ) : ℕ := 2 ^ (g + 1)

/-- The logistic function. -/
def sig (x : ℝ) : ℝ := 1 / (1 + Real.exp (0 - x))

theorem one_add_exp_pos (x : ℝ) : 0 < 1 + Real.exp x := by positivity

/-- The pooled difference of group `g`: the window's mean less the entry. -/
def pool (pv : ℕ → ℕ → ℝ) (g r i : ℕ) : ℝ :=
  wsum (fun n => pv n (128 * g + i)) (win g) r / (min (r + 1) (win g) : ℕ) - pv r (128 * g + i)

/-- The real entries of the eight arguments. -/
structure Args where
  x : ℕ → ℕ → ℝ
  pv : ℕ → ℕ → ℝ
  pg : ℕ → ℕ → ℝ
  ya : ℕ → ℕ → ℝ
  pw : ℕ → ℕ → ℕ → ℝ
  ps : ℕ → ℝ
  w : ℕ → ℕ → ℝ
  g : ℕ → ℝ
  t : ℕ → ℕ → ℝ

variable (A : Args)

/-- The pooled differences through their group's matrix. -/
def M (r c : ℕ) : ℝ := ∑ k ∈ range 128, pool A.pv (c / 128) r k * A.pw (c / 128) k (c % 128)

def YP (r c : ℕ) : ℝ := (M A r c * A.ps c) * (A.pg r c * sig (A.pg r c))

/-- The mixer's output: the gated pool beside the attention. -/
def Y (r c : ℕ) : ℝ := if c < 512 then YP A r c else A.ya r (c - 512)

/-- The residual stream after the output projection. -/
def X2 (r c : ℕ) : ℝ := A.x r c + ∑ k ∈ range 1024, Y A r k * A.w k c

/-- The mean square of a row, the small number added. -/
def V (r : ℕ) : ℝ := (∑ c ∈ range 1024, X2 A r c * X2 A r c) / 1024 + eps

theorem V_pos (r : ℕ) : 0 < V A r := by
  have h : 0 ≤ ∑ c ∈ range 1024, X2 A r c * X2 A r c := Finset.sum_nonneg fun c _ => mul_self_nonneg _
  have := eps_pos
  unfold V; positivity

/-- The reciprocal root. -/
def RR (r : ℕ) : ℝ := (Real.sqrt (V A r))⁻¹

theorem RR_sq (r : ℕ) : RR A r * RR A r = (V A r)⁻¹ := by
  unfold RR; rw [← mul_inv, Real.mul_self_sqrt (V_pos A r).le]

/-- The normalised row. -/
def XH (r c : ℕ) : ℝ := X2 A r c * RR A r

/-- The prediction less the target. -/
def DIFF (r c : ℕ) : ℝ := XH A r c * A.g c - A.t r c

/-- The gradient of the loss in the prediction. -/
def DF (r c : ℕ) : ℝ := DIFF A r c * (1 / 1024)

/-- The gradient in the residual stream. -/
def DX2 (r c : ℕ) : ℝ :=
  RR A r * (DF A r c * A.g c - XH A r c * ((∑ k ∈ range 1024, DF A r k * A.g k * XH A r k) / 1024))

/-- The gradient in the mixer's output. -/
def DY (r k : ℕ) : ℝ := ∑ c ∈ range 1024, DX2 A r c * A.w k c

/-- The output weight's gradient, from the first `n` rows. -/
def GW (n k c : ℕ) : ℝ := ∑ r ∈ range n, Y A r k * DX2 A r c

/-- The final gain's gradient, from the first `n` rows. -/
def GG (n c : ℕ) : ℝ := ∑ r ∈ range n, DF A r c * XH A r c

/-- The squares of the differences, summed down the first `n` rows. -/
def SQ (n c : ℕ) : ℝ := ∑ r ∈ range n, DIFF A r c * DIFF A r c

/-- The loss. -/
def LOSS : ℝ := (∑ c ∈ range 1024, SQ A 8192 c) * (1 / 2048)

/-! ## Window sums by doubling -/

/-- A sum over the last `w` entries, then one over the last `2 w` by adding the same moved back by `w` (the move around
    the end of a table of `N`). -/
theorem double {N a w : ℕ} (B L : ℕ → ℝ) (h : ∀ j, a ≤ j → j < N → L j = ∑ k ∈ range w, B (j - k)) (hw : w < N) :
    ∀ j, a + w ≤ j → j < N → L j + L ((j + N - w % N) % N) = ∑ k ∈ range (w + w), B (j - k) := fun j h1 h2 => by
  rw [Nat.mod_eq_of_lt hw, show (j + N - w) % N = j - w from by
    rw [show j + N - w = (j - w) + N from by omega, Nat.add_mod_right, Nat.mod_eq_of_lt (by omega)],
    h j (by omega) h2, h (j - w) (by omega) (by omega), Finset.sum_range_add]
  congr 1
  exact Finset.sum_congr rfl fun k _ => by rw [Nat.sub_sub]

/-- The table `B` of `N` entries after `n` doublings. -/
def lev (N : ℕ) : ℕ → (ℕ → ℝ) → ℕ → ℝ
  | 0, B => B
  | n + 1, B => fun j => lev N n B j + lev N n B ((j + N - 2 ^ n % N) % N)

theorem lev_eq {N : ℕ} (B : ℕ → ℝ) : ∀ n, 2 ^ n < N → ∀ j, 2 ^ n ≤ j + 1 → j < N → lev N n B j = ∑ k ∈ range (2 ^ n), B (j - k)
  | 0, _, j, _, _ => by simp [lev]
  | n + 1, hn, j, h1, h2 => by
    have h0 : 2 ^ n < N := lt_of_le_of_lt (Nat.pow_le_pow_right (by norm_num) n.le_succ) hn
    have hp : 0 < 2 ^ n := Nat.two_pow_pos n
    rw [show 2 ^ (n + 1) = 2 ^ n + 2 ^ n from by ring] at h1 ⊢
    exact double (N := N) (a := 2 ^ n - 1) B (lev N n B) (fun i h3 h4 => lev_eq B n h0 i (by omega) h4) h0 j (by omega) h2

/-- A column moved down by sixteen zeros. -/
def padded (f : ℕ → ℝ) (n : ℕ) : ℝ := if n < 16 then 0 else f (n - 16)

theorem wsum_padded (f : ℕ → ℝ) (w r : ℕ) (hw : w ≤ 16) :
    ∑ k ∈ range w, padded f (16 + r - k) = wsum f w r := by
  refine Finset.sum_congr rfl fun k hk => ?_
  have := Finset.mem_range.mp hk
  unfold padded
  by_cases h : k ≤ r
  · rw [if_neg (by omega), if_pos h]; congr 1; omega
  · rw [if_pos (by omega), if_neg h]

/-- A sum over 1024 columns, 256 at a time. -/
theorem sum_four (f : ℕ → ℝ) :
    ∑ k ∈ range 1024, f k = ((∑ k ∈ range 256, f k + ∑ k ∈ range 256, f (256 + k)) + ∑ k ∈ range 256, f (512 + k))
      + ∑ k ∈ range 256, f (768 + k) := by
  rw [show 1024 = 256 + 256 + 256 + 256 from rfl, Finset.sum_range_add, Finset.sum_range_add, Finset.sum_range_add]

end Cert.Spec
-- ==== Proof.Holds.lean ====
/-
  Arrays of extended reals that hold real numbers: `H x f` says entry `(r, c)` of the matrix `x` is the real `f r c`.
  Each vector operation the kernels apply to a matrix, read through `H`: what its operands hold gives what it holds.
-/
module

public import Idealize.ShloMosaic.PureOps.Ideal.Laws
public import Idealize.ShloMosaic.Lib.ValueIdxCore
public import Idealize.ShloMosaic.Lib.ValueLayout
public import Idealize.ShloMosaic.Lib.IdealHost
public import Idealize.ShloMosaic.Lib.KernelVsHost
public import Idealize.ShloMosaic.Lib.Pipeline.Value
public import Idealize.ShloMosaic.Lib.StackMember
public import Idealize.ShloMosaic.Lib.Tactic

@[expose] public section

noncomputable section

namespace Cert.Holds

open Idealize.ShloMosaic Idealize.ShloMosaic.ValueIdx
open scoped BigOperators

/-- The matrix `x` holds the reals `f`. -/
abbrev H {R C : ℕ} (x : (⟨2, ![R, C]⟩ : Shape).Idx → EReal) (f : ℕ → ℕ → ℝ) : Prop :=
  ∀ i, x i = ((f (i 0).val (i 1).val : ℝ) : EReal)

theorem H.of {R C : ℕ} {x : (⟨2, ![R, C]⟩ : Shape).Idx → EReal} {f : ℕ → ℕ → ℝ}
    (h : ∀ (p : Fin R) (q : Fin C), x (ix2 p q) = ((f p.val q.val : ℝ) : EReal)) : H x f := fun i => by
  obtain ⟨p, q, rfl⟩ : ∃ (p : Fin R) (q : Fin C), i = ix2 p q := ⟨i 0, i 1, eq_ix2 i⟩
  exact h p q

/-- A finite sum of reals, taken among the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The ideal quotient of two reals, the divisor not zero. -/
theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.mpr h.le), if_neg h.ne']

variable {R C : ℕ} {φ : FTy}

theorem H.congr {x : (⟨2, ![R, C]⟩ : Shape).Idx → EReal} {f g : ℕ → ℕ → ℝ} (h : H x f)
    (e : ∀ r < R, ∀ c < C, f r c = g r c) : H x g := fun i => by
  rw [h i, e _ (idx2_lt0 i) _ (idx2_lt1 i)]

theorem H.add {x y : FVec Ideal ⟨2, ![R, C]⟩ φ} {f g : ℕ → ℕ → ℝ} (hx : H x f) (hy : H y g) :
    H (addf x y) (fun r c => f r c + g r c) := fun i => by
  show x i + y i = _
  rw [hx i, hy i, ← EReal.coe_add]

theorem H.sub {x y : FVec Ideal ⟨2, ![R, C]⟩ φ} {f g : ℕ → ℕ → ℝ} (hx : H x f) (hy : H y g) :
    H (subf x y) (fun r c => f r c - g r c) := fun i => by
  show x i - y i = _
  rw [hx i, hy i, ← EReal.coe_sub]

theorem H.mul {x y : FVec Ideal ⟨2, ![R, C]⟩ φ} {f g : ℕ → ℕ → ℝ} (hx : H x f) (hy : H y g) :
    H (mulf x y) (fun r c => f r c * g r c) := fun i => by
  show x i * y i = _
  rw [hx i, hy i, ← EReal.coe_mul]

theorem H.div {x y : FVec Ideal ⟨2, ![R, C]⟩ φ} {f g : ℕ → ℕ → ℝ} (hx : H x f) (hy : H y g)
    (h0 : ∀ r < R, ∀ c < C, g r c ≠ 0) : H (divf x y) (fun r c => f r c / g r c) := fun i => by
  show Ideal.div (x i) (y i) = _
  rw [hx i, hy i, div_real _ _ (h0 _ (idx2_lt0 i) _ (idx2_lt1 i))]

theorem H.exp {x : FVec Ideal ⟨2, ![R, C]⟩ φ} {f : ℕ → ℕ → ℝ} (hx : H x f) :
    H (exp x) (fun r c => Real.exp (f r c)) := fun i => by
  show Ideal.exp (x i) = _
  rw [hx i, Ideal.exp_coe]

theorem H.rsqrt {x : FVec Ideal ⟨2, ![R, C]⟩ φ} {f : ℕ → ℕ → ℝ} (hx : H x f)
    (h0 : ∀ r < R, ∀ c < C, 0 < f r c) : H (rsqrt x) (fun r c => (Real.sqrt (f r c))⁻¹) := fun i => by
  show Ideal.rsqrt (x i) = _
  rw [hx i, rsqrt_real _ (h0 _ (idx2_lt0 i) _ (idx2_lt1 i))]

theorem H.extf {ψ : FTy} {x : FVec Ideal ⟨2, ![R, C]⟩ φ} {f : ℕ → ℕ → ℝ} (hx : H x f) (h : φ.bits < ψ.bits) :
    H (extf ψ x h) f := fun i => hx i

theorem H.truncf {ψ : FTy} {x : FVec Ideal ⟨2, ![R, C]⟩ φ} {f : ℕ → ℕ → ℝ} (hx : H x f) (h : ψ.bits < φ.bits) :
    H (truncf ψ x h) f := fun i => hx i

theorem H.cast {x : (⟨2, ![R, C]⟩ : Shape).Idx → EReal} {f : ℕ → ℕ → ℝ} (hx : H x f)
    (h : (⟨2, ![R, C]⟩ : Shape).ShapeCasts ⟨2, ![R, C]⟩) : H (shapeCast ⟨2, ![R, C]⟩ x h) f := by
  rw [shapeCast_self]; exact hx

/-- A splat of the float whose value is the real `a`. -/
theorem H.splat {b : EReal} {a : ℝ} (h : b = (a : EReal)) : H (broadcast ⟨2, ![R, C]⟩ b) (fun _ _ => a) := fun _ => h

theorem H.const {b : BitVec φ.bits} {a : ℝ} (h : Ideal.ofBits φ b = (a : EReal)) :
    H (constant (F := Ideal) ⟨2, ![R, C]⟩ φ b) (fun _ _ => a) := fun _ => h

theorem H.row {x : (⟨2, ![1, C]⟩ : Shape).Idx → EReal} {f : ℕ → ℕ → ℝ} (hx : H x f)
    (h : (⟨2, ![1, C]⟩ : Shape).Broadcasts ⟨2, ![R, C]⟩) : H (broadcastTo ⟨2, ![R, C]⟩ x h) (fun _ c => f 0 c) := H.of fun p q => by
  rw [broadcastTo_1b_ab_apply, hx]
  rfl

theorem H.slice {n m : ℕ} {x : (⟨2, ![R, C]⟩ : Shape).Idx → EReal} {f : ℕ → ℕ → ℝ} (hx : H x f) (a b : ℕ)
    (h : (⟨2, ![R, C]⟩ : Shape).Slices ![a, b] ⟨2, ![n, m]⟩) :
    H (extractStridedSlice ⟨2, ![n, m]⟩ ![a, b] x h) (fun r c => f (a + r) (b + c)) := fun i => by
  unfold extractStridedSlice
  rw [hx]
  rfl

theorem H.col {x : (⟨2, ![R, 1]⟩ : Shape).Idx → EReal} {f : ℕ → ℕ → ℝ} (hx : H x f)
    (h : (⟨2, ![R, 1]⟩ : Shape).Broadcasts ⟨2, ![R, C]⟩) : H (broadcastTo ⟨2, ![R, C]⟩ x h) (fun r _ => f r 0) := H.of fun p q => by
  rw [broadcastTo_apply x h (ix2 p q) (ix2 p (0 : Fin 1)) (fun ax => by
    match ax with
    | ⟨0, _⟩ =>
      show p.val = if R = 1 then 0 else p.val
      split
      · have := p.isLt; omega
      · rfl
    | ⟨1, _⟩ => rfl), hx]
  rfl

/-- Two matrices side by side: the left one has `n` columns. -/
theorem H.catCols {n m : ℕ} {x : (⟨2, ![R, n]⟩ : Shape).Idx → EReal} {y : (⟨2, ![R, m]⟩ : Shape).Idx → EReal}
    {f g : ℕ → ℕ → ℝ} (hx : H x f) (hy : H y g)
    (h : Shape.Concatenates [⟨2, ![R, n]⟩, ⟨2, ![R, m]⟩] ⟨2, ![R, C]⟩ 1) :
    H (concatenate ⟨2, ![R, C]⟩ 1 [⟨⟨2, ![R, n]⟩, x⟩, ⟨⟨2, ![R, m]⟩, y⟩] h)
      (fun r c => if c < n then f r c else g r (c - n)) := H.of fun p q => by
  have hC : n + m = C := by have := h.2.2; simpa using this
  by_cases hq : q.val < n
  · rw [concatenate_pair_apply_left (s₁ := ⟨2, ![R, n]⟩) (s₂ := ⟨2, ![R, m]⟩) 1 x y h (ix2 p q) rfl (ix2 p ⟨q.val, hq⟩)
      (fun b => by match b with | ⟨0, _⟩ => rfl | ⟨1, _⟩ => rfl), hx, if_pos hq]
    rfl
  · have hq' := q.isLt
    rw [concatenate_pair_apply_right (s₁ := ⟨2, ![R, n]⟩) (s₂ := ⟨2, ![R, m]⟩) 1 x y h (ix2 p q) rfl rfl
      (ix2 p ⟨q.val - n, by omega⟩)
      (fun b hb => by match b with | ⟨0, _⟩ => rfl | ⟨1, _⟩ => exact absurd rfl hb)
      (show q.val - n + n = q.val by omega), hy, if_neg hq]
    rfl

/-- Two matrices one above the other: the upper one has `n` rows. -/
theorem H.catRows {n m : ℕ} {x : (⟨2, ![n, C]⟩ : Shape).Idx → EReal} {y : (⟨2, ![m, C]⟩ : Shape).Idx → EReal}
    {f g : ℕ → ℕ → ℝ} (hx : H x f) (hy : H y g)
    (h : Shape.Concatenates [⟨2, ![n, C]⟩, ⟨2, ![m, C]⟩] ⟨2, ![R, C]⟩ 0) :
    H (concatenate ⟨2, ![R, C]⟩ 0 [⟨⟨2, ![n, C]⟩, x⟩, ⟨⟨2, ![m, C]⟩, y⟩] h)
      (fun r c => if r < n then f r c else g (r - n) c) := H.of fun p q => by
  have hC : n + m = R := by have := h.2.2; simpa using this
  by_cases hq : p.val < n
  · rw [concatenate_pair_apply_left (s₁ := ⟨2, ![n, C]⟩) (s₂ := ⟨2, ![m, C]⟩) 0 x y h (ix2 p q) rfl (ix2 ⟨p.val, hq⟩ q)
      (fun b => by match b with | ⟨0, _⟩ => rfl | ⟨1, _⟩ => rfl), hx, if_pos hq]
    rfl
  · have hq' := p.isLt
    rw [concatenate_pair_apply_right (s₁ := ⟨2, ![n, C]⟩) (s₂ := ⟨2, ![m, C]⟩) 0 x y h (ix2 p q) rfl rfl
      (ix2 ⟨p.val - n, by omega⟩ q)
      (fun b hb => by match b with | ⟨1, _⟩ => rfl | ⟨0, _⟩ => exact absurd rfl hb)
      (show p.val - n + n = p.val by omega), hy, if_neg hq]
    rfl

/-- Four matrices of `n` columns side by side. -/
theorem H.cat4 {n : ℕ} (hn : 0 < n) {x : Fin 4 → (⟨2, ![R, n]⟩ : Shape).Idx → EReal} {f : ℕ → ℕ → ℕ → ℝ} (hx : ∀ k, H (x k) (f k.val))
    (h : Shape.Concatenates [⟨2, ![R, n]⟩, ⟨2, ![R, n]⟩, ⟨2, ![R, n]⟩, ⟨2, ![R, n]⟩] ⟨2, ![R, C]⟩ 1) :
    H (concatenate ⟨2, ![R, C]⟩ 1 [⟨⟨2, ![R, n]⟩, x 0⟩, ⟨⟨2, ![R, n]⟩, x 1⟩, ⟨⟨2, ![R, n]⟩, x 2⟩, ⟨⟨2, ![R, n]⟩, x 3⟩] h)
      (fun r c => f (c / n) r (c % n)) := H.of fun p q => by
  have hC : n + (n + (n + n)) = C := by have := h.2.2; simpa using this
  have hq := q.isLt
  have hk : q.val / n < 4 := by rw [Nat.div_lt_iff_lt_mul hn]; omega
  obtain ⟨k, hkk⟩ : ∃ k : Fin 4, k.val = q.val / n := ⟨⟨_, hk⟩, rfl⟩
  have hmod : q.val % n < n := Nat.mod_lt _ hn
  have hdm : n * k.val + q.val % n = q.val := by rw [hkk]; exact Nat.div_add_mod _ _
  have key : concatenate ⟨2, ![R, C]⟩ 1 [⟨⟨2, ![R, n]⟩, x 0⟩, ⟨⟨2, ![R, n]⟩, x 1⟩, ⟨⟨2, ![R, n]⟩, x 2⟩, ⟨⟨2, ![R, n]⟩, x 3⟩] h (ix2 p q)
      = x k (ix2 p ⟨q.val % n, hmod⟩) := by
    refine concatenate_apply_piece (1 : Fin (⟨2, ![R, C]⟩ : Shape).rank) [⟨⟨2, ![R, n]⟩, x 0⟩, ⟨⟨2, ![R, n]⟩, x 1⟩, ⟨⟨2, ![R, n]⟩, x 2⟩, ⟨⟨2, ![R, n]⟩, x 3⟩] h (ix2 p q) k.val k.isLt (⟨2, ![R, n]⟩ : Shape) (x k)
      (by fin_cases k <;> rfl) rfl (n * k.val) ?_ _ ?_ ?_
    · fin_cases k <;> simp <;> ring
    · intro b hb
      match b with | ⟨0, _⟩ => rfl | ⟨1, _⟩ => exact absurd rfl hb
    · exact hdm
  rw [key, hx, ← hkk]
  rfl

/-- The sum along each row. -/
theorem H.sumCols {x : FVec Ideal ⟨2, ![R, C]⟩ φ} {f : ℕ → ℕ → ℝ} (hx : H x f) (acc : BitVec φ.bits)
    (h : (⟨2, ![R, C]⟩ : Shape).Reduces [1] ⟨1, ![R]⟩) (hφ : FKind.Formats φ) (hacc : acc = FKind.add.neutral φ hφ)
    (hc : (⟨1, ![R]⟩ : Shape).ShapeCasts ⟨2, ![R, 1]⟩) :
    H (shapeCast ⟨2, ![R, 1]⟩ (multiReduction .add [1] ⟨1, ![R]⟩ x acc h hφ hacc) hc)
      (fun r _ => ∑ k ∈ Finset.range C, f r k) := H.of fun p q => by
  have e : Shape.reshapeEquiv hc (ix2 p q) = ix1 p := Shape.reshapeEquiv_eq_of_rowMajor hc (by
    rw [Shape.rowMajor_val_two, Shape.rowMajor_val_one]
    show p.val = p.val * 1 + q.val
    have := q.isLt; omega)
  show multiReduction .add [1] ⟨1, ![R]⟩ x acc h hφ hacc (Shape.reshapeEquiv hc (ix2 p q)) = _
  rw [e, Ideal.multiReduction_add_single]
  rw [Finset.sum_range, ← coe_sum]
  refine Finset.sum_congr rfl fun k _ => ?_
  rw [hx]
  rfl

/-- The sum down each column. -/
theorem H.sumRows {x : FVec Ideal ⟨2, ![R, C]⟩ φ} {f : ℕ → ℕ → ℝ} (hx : H x f) (acc : BitVec φ.bits)
    (h : (⟨2, ![R, C]⟩ : Shape).Reduces [0] ⟨1, ![C]⟩) (hφ : FKind.Formats φ) (hacc : acc = FKind.add.neutral φ hφ)
    (hc : (⟨1, ![C]⟩ : Shape).ShapeCasts ⟨2, ![1, C]⟩) :
    H (shapeCast ⟨2, ![1, C]⟩ (multiReduction .add [0] ⟨1, ![C]⟩ x acc h hφ hacc) hc)
      (fun _ c => ∑ k ∈ Finset.range R, f k c) := H.of fun p q => by
  rw [shapeCast_a_1a_apply, Ideal.multiReduction_add_single, Finset.sum_range, ← coe_sum]
  refine Finset.sum_congr rfl fun k _ => ?_
  rw [hx]
  rfl

theorem H.transpose {x : (⟨2, ![R, C]⟩ : Shape).Idx → EReal} {f : ℕ → ℕ → ℝ} (hx : H x f)
    (h : (⟨2, ![R, C]⟩ : Shape).Transposes [1, 0] ⟨2, ![C, R]⟩) :
    H (transpose ⟨2, ![C, R]⟩ [1, 0] x h) (fun r c => f c r) := H.of fun p q => by
  rw [transpose_ix2_apply, hx]
  rfl

/-- The product of an `R × K` matrix with a `K × C` one, onto zero. -/
theorem H.dot {K : ℕ} {φ₁ φ₂ : FTy} (d : DotDims ⟨2, ![R, K]⟩ ⟨2, ![K, C]⟩ ⟨2, ![R, C]⟩) (hd : d = DotDims.plain R K C)
    {x : FVec Ideal ⟨2, ![R, K]⟩ φ₁} {y : FVec Ideal ⟨2, ![K, C]⟩ φ₂} {f g : ℕ → ℕ → ℝ} (hx : H x f) (hy : H y g)
    {z : FVec Ideal ⟨2, ![R, C]⟩ .f32} (hz : H z fun _ _ => 0) :
    H (matmul d none x y z) (fun r c => ∑ k ∈ Finset.range K, f r k * g k c) := H.of fun p q => by
  have e := StackMember.dotGeneral_plain_apply (m := R) (n := C) (k := K) none x y p q
  have e2 : matmul d none x y z (ix2 p q) = z (ix2 p q) + Host.dotGeneral (DotDims.plain R K C) none x y (ix2 p q) := by
    subst hd
    show FloatOps.matmul _ none x y z (ix2 p q) = z (ix2 p q) + FloatOps.dotGeneral _ none _ x y (ix2 p q)
    rw [Ideal.matmul_apply, Ideal.dotGeneral_apply]
  rw [e2, e, hz, EReal.coe_zero, zero_add, Finset.sum_range, ← coe_sum]
  refine Finset.sum_congr rfl fun k _ => ?_
  rw [hx, hy, ← EReal.coe_mul]
  rfl

/-- The dimension numbers of a product contracting both operands' rows. -/
abbrev rowsDims (K R C : ℕ) (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

/-- The product of a transposed `K × R` matrix with a `K × C` one, onto zero. -/
theorem H.dotRows {K : ℕ} {φ₁ φ₂ : FTy} {wf} (d : DotDims ⟨2, ![K, R]⟩ ⟨2, ![K, C]⟩ ⟨2, ![R, C]⟩) (hd : d = rowsDims K R C wf)
    {x : FVec Ideal ⟨2, ![K, R]⟩ φ₁} {y : FVec Ideal ⟨2, ![K, C]⟩ φ₂} {f g : ℕ → ℕ → ℝ} (hx : H x f) (hy : H y g)
    {z : FVec Ideal ⟨2, ![R, C]⟩ .f32} (hz : H z fun _ _ => 0) :
    H (matmul d none x y z) (fun r c => ∑ k ∈ Finset.range K, f k r * g k c) := H.of fun p q => by
  subst hd
  show FloatOps.matmul (rowsDims K R C wf) none x y z (ix2 p q) = _
  rw [Ideal.matmul_apply, hz, EReal.coe_zero, zero_add,
    ← Equiv.sum_comp (contrEquiv1 (rowsDims K R C wf) K rfl rfl).symm, Finset.sum_range, ← coe_sum]
  refine Finset.sum_congr rfl fun k _ => ?_
  have ck := contrEquiv1_symm_val (rowsDims K R C wf) K rfl rfl k
  have l : (rowsDims K R C wf).lhsIdx (ix2 p q) ((contrEquiv1 _ K rfl rfl).symm k) = ix2 k p := by
    funext ax; apply Fin.ext
    match ax with
    | ⟨0, _⟩ => simp [DotDims.lhsIdx, rowsDims]; exact ck
    | ⟨1, _⟩ => simp [DotDims.lhsIdx, rowsDims]; rfl
  have r : (rowsDims K R C wf).rhsIdx (ix2 p q) ((contrEquiv1 _ K rfl rfl).symm k) = ix2 k q := by
    funext ax; apply Fin.ext
    match ax with
    | ⟨0, _⟩ => simp [DotDims.rhsIdx, rowsDims]; exact ck
    | ⟨1, _⟩ => simp [DotDims.rhsIdx, rowsDims]; rfl
  rw [l, r, hx, hy, ← EReal.coe_mul]
  rfl

/-- A rotation down the rows by `s`: row `r` holds row `r - s`, around the end. -/
theorem H.rotate {x : (⟨2, ![R, C]⟩ : Shape).Idx → EReal} {f : ℕ → ℕ → ℝ} (hx : H x f) (sb : BitVec 32)
    (h : (⟨2, ![R, C]⟩ : Shape).Rotates 0 none) :
    H (dynamicRotate 0 sb none x h) (fun r c => f ((r + R - sb.toNat % R) % R) c) := H.of fun p q => by
  have hR : 0 < R := Nat.lt_of_le_of_lt (Nat.zero_le _) p.isLt
  rw [dynamicRotate_apply 0 sb x h (ix2 p q) (ix2 ⟨(p.val + R - sb.toNat % R) % R, Nat.mod_lt _ hR⟩ q) (fun b => by
    match b with
    | ⟨0, _⟩ => rfl
    | ⟨1, _⟩ => rfl), hx]
  rfl

/-- The stack of matrices `x` holds the reals `f`. -/
abbrev H3 {G R C : ℕ} (x : (⟨3, ![G, R, C]⟩ : Shape).Idx → EReal) (f : ℕ → ℕ → ℕ → ℝ) : Prop :=
  ∀ i, x i = ((f (i 0).val (i 1).val (i 2).val : ℝ) : EReal)

theorem H3.of {G R C : ℕ} {x : (⟨3, ![G, R, C]⟩ : Shape).Idx → EReal} {f : ℕ → ℕ → ℕ → ℝ}
    (h : ∀ (g : Fin G) (p : Fin R) (q : Fin C), x (ix3 g p q) = ((f g.val p.val q.val : ℝ) : EReal)) : H3 x f := fun i => by
  obtain ⟨g, p, q, rfl⟩ : ∃ (g : Fin G) (p : Fin R) (q : Fin C), i = ix3 g p q := ⟨i 0, i 1, i 2, eq_ix3 i⟩
  exact h g p q

theorem H3.member {x : (⟨3, ![1, R, C]⟩ : Shape).Idx → EReal} {f : ℕ → ℕ → ℕ → ℝ} (hx : H3 x f)
    (h : (⟨3, ![1, R, C]⟩ : Shape).ShapeCasts ⟨2, ![R, C]⟩) : H (shapeCast ⟨2, ![R, C]⟩ x h) (f 0) := H.of fun p q => by
  rw [shapeCast_1ab_ab_apply, hx]
  rfl

theorem H.stack {x : (⟨2, ![R, C]⟩ : Shape).Idx → EReal} {f : ℕ → ℕ → ℝ} (hx : H x f)
    (h : (⟨2, ![R, C]⟩ : Shape).ShapeCasts ⟨3, ![1, R, C]⟩) : H3 (shapeCast ⟨3, ![1, R, C]⟩ x h) (fun _ => f) := H3.of fun g p q => by
  rw [shapeCast_ab_1ab_apply, hx]
  rfl

/-- A load of a rectangle of a matrix. -/
theorem H.ld {n m : ℕ} (a b : ℕ) {x : Vec Ideal ⟨2, ![R, C]⟩ .f32} {f : ℕ → ℕ → ℝ} (hx : H x f) (inb) :
    H (R := n) (C := m) (View.ld (Val := Elt Ideal) x (Rect.unit ![a, b] ![n, m] inb)) (fun r c => f (a + r) (b + c)) := by
  rw [View.ld_unit]; exact hx.slice a b _

theorem H.ld16 {n m : ℕ} (a b : ℕ) {x : Vec Ideal ⟨2, ![R, C]⟩ .bf16} {f : ℕ → ℕ → ℝ} (hx : H x f) (inb) :
    H (R := n) (C := m) (View.ld (Val := Elt Ideal) x (Rect.unit ![a, b] ![n, m] inb)) (fun r c => f (a + r) (b + c)) := by
  rw [View.ld_unit]; exact hx.slice a b _

theorem H3.slice {G k n m : ℕ} {x : (⟨3, ![G, R, C]⟩ : Shape).Idx → EReal} {f : ℕ → ℕ → ℕ → ℝ} (hx : H3 x f) (g a b : ℕ)
    (h : (⟨3, ![G, R, C]⟩ : Shape).Slices ![g, a, b] ⟨3, ![k, n, m]⟩) :
    H3 (extractStridedSlice ⟨3, ![k, n, m]⟩ ![g, a, b] x h) (fun u r c => f (g + u) (a + r) (b + c)) := fun i => by
  unfold extractStridedSlice
  rw [hx]
  rfl

/-- A load of a box of a stack. -/
theorem H3.ld {G k n m : ℕ} (g a b : ℕ) {x : Vec Ideal ⟨3, ![G, R, C]⟩ .f32} {f : ℕ → ℕ → ℕ → ℝ} (hx : H3 x f) (inb) :
    H3 (G := k) (R := n) (C := m) (View.ld (Val := Elt Ideal) x (Rect.unit ![g, a, b] ![k, n, m] inb))
      (fun u r c => f (g + u) (a + r) (b + c)) := by
  rw [View.ld_unit]; exact hx.slice g a b _

theorem H3.ld16 {G k n m : ℕ} (g a b : ℕ) {x : Vec Ideal ⟨3, ![G, R, C]⟩ .bf16} {f : ℕ → ℕ → ℕ → ℝ} (hx : H3 x f) (inb) :
    H3 (G := k) (R := n) (C := m) (View.ld (Val := Elt Ideal) x (Rect.unit ![g, a, b] ![k, n, m] inb))
      (fun u r c => f (g + u) (a + r) (b + c)) := by
  rw [View.ld_unit]; exact hx.slice g a b _

end Cert.Holds
-- ==== Proof.Inputs.lean ====
/-
  The eight arrays of `out_loss` read as real numbers.
-/
module

public import proofs.«01_k».proof.Proof.Spec
public import proofs.«01_k».proof.Proof.Holds

@[expose] public section

noncomputable section

namespace Cert.Spec

open Idealize.ShloMosaic Idealize.ShloMosaic.ValueIdx Cert.Holds

/-- What the arrays hold: the residual, the projections (pool values, pool gates), the mixer's output, the pool's weights
    and scales, the output weights, the gain, the target. -/
structure Reads (A : Args) (x0 : (⟨3, ![1, 8192, 1024]⟩ : Shape).Idx → EReal) (x1 : (⟨2, ![8192, 3072]⟩ : Shape).Idx → EReal)
    (x2 : (⟨2, ![8192, 512]⟩ : Shape).Idx → EReal) (x3 : (⟨4, ![1, 4, 128, 128]⟩ : Shape).Idx → EReal)
    (x4 : (⟨2, ![1, 512]⟩ : Shape).Idx → EReal) (x5 : (⟨3, ![1, 1024, 1024]⟩ : Shape).Idx → EReal)
    (x6 : (⟨1, ![1024]⟩ : Shape).Idx → EReal) (x7 : (⟨3, ![1, 8192, 1024]⟩ : Shape).Idx → EReal) : Prop where
  x : ∀ (r : Fin 8192) (c : Fin 1024), x0 (ix3 (0 : Fin 1) r c) = ((A.x r.val c.val : ℝ) : EReal)
  pv : ∀ (r : Fin 8192) (c : Fin 3072), c.val < 512 → x1 (ix2 r c) = ((A.pv r.val c.val : ℝ) : EReal)
  pg : ∀ (r : Fin 8192) (c : Fin 3072) (k : ℕ), c.val = 512 + k → k < 512 → x1 (ix2 r c) = ((A.pg r.val k : ℝ) : EReal)
  ya : ∀ (r : Fin 8192) (c : Fin 512), x2 (ix2 r c) = ((A.ya r.val c.val : ℝ) : EReal)
  pw : ∀ (a : Fin 4) (r c : Fin 128), x3 (ix4 (0 : Fin 1) a r c) = ((A.pw a.val r.val c.val : ℝ) : EReal)
  ps : ∀ c : Fin 512, x4 (ix2 (0 : Fin 1) c) = ((A.ps c.val : ℝ) : EReal)
  w : ∀ r c : Fin 1024, x5 (ix3 (0 : Fin 1) r c) = ((A.w r.val c.val : ℝ) : EReal)
  g : ∀ c : Fin 1024, x6 (ix1 c) = ((A.g c.val : ℝ) : EReal)
  t : ∀ (r : Fin 8192) (c : Fin 1024), x7 (ix3 (0 : Fin 1) r c) = ((A.t r.val c.val : ℝ) : EReal)

end Cert.Spec
-- ==== Proof.HostHolds.lean ====
/-
  The host operations of a reference over arrays that hold real numbers: `HR x f` says entry `i` of the array `x` is the
  real `f i`, at any shape.
-/
module

public import proofs.«01_k».proof.Proof.Holds
public import Idealize.ShloMosaic.Lib.TwoAxisContraction

@[expose] public section

set_option maxRecDepth 16384

noncomputable section

namespace Cert.Holds

open Idealize.ShloMosaic Idealize.ShloMosaic.ValueIdx
open scoped BigOperators

variable {S T : Shape} {φ : FTy}

/-- The array `x` holds the reals `f`. -/
abbrev HR (x : S.Idx → EReal) (f : S.Idx → ℝ) : Prop := ∀ i, x i = ((f i : ℝ) : EReal)

theorem HR.add {x y : FVec Ideal S φ} {f g : S.Idx → ℝ} (hx : HR x f) (hy : HR y g) : HR (addf x y) fun i => f i + g i := fun i => by
  show x i + y i = _
  rw [hx i, hy i, ← EReal.coe_add]

theorem HR.sub {x y : FVec Ideal S φ} {f g : S.Idx → ℝ} (hx : HR x f) (hy : HR y g) : HR (subf x y) fun i => f i - g i := fun i => by
  show x i - y i = _
  rw [hx i, hy i, ← EReal.coe_sub]

theorem HR.mul {x y : FVec Ideal S φ} {f g : S.Idx → ℝ} (hx : HR x f) (hy : HR y g) : HR (mulf x y) fun i => f i * g i := fun i => by
  show x i * y i = _
  rw [hx i, hy i, ← EReal.coe_mul]

theorem HR.neg {x : FVec Ideal S φ} {f : S.Idx → ℝ} (hx : HR x f) : HR (Host.negf x) fun i => -f i := fun i => by
  show -(x i) = _
  rw [hx i, ← EReal.coe_neg]

theorem HR.exp {x : FVec Ideal S φ} {f : S.Idx → ℝ} (hx : HR x f) : HR (Host.exp x) fun i => Real.exp (f i) := fun i => by
  show Ideal.exp (x i) = _
  rw [hx i, Ideal.exp_coe]

theorem HR.div {x y : FVec Ideal S φ} {f g : S.Idx → ℝ} (hx : HR x f) (hy : HR y g) (h0 : ∀ i, g i ≠ 0) :
    HR (Host.divf x y) fun i => f i / g i := fun i => by
  show Ideal.div (x i) (y i) = _
  rw [hx i, hy i, div_real _ _ (h0 i)]

theorem HR.rsqrt {x : FVec Ideal S φ} {f : S.Idx → ℝ} (hx : HR x f) (h0 : ∀ i, 0 < f i) : HR (Host.rsqrt x) fun i => (Real.sqrt (f i))⁻¹ := fun i => by
  show Ideal.rsqrt (x i) = _
  rw [hx i, rsqrt_real _ (h0 i)]

theorem HR.congr {x : S.Idx → EReal} {f g : S.Idx → ℝ} (hx : HR x f) (e : ∀ i, f i = g i) : HR x g := fun i => (hx i).trans (by rw [e])

/-- A scalar constant spread over a shape. -/
theorem HR.fill {b : BitVec φ.bits} {a : ℝ} (h : Ideal.ofBits φ b = (a : EReal)) (hb : (⟨0, ![]⟩ : Shape).BroadcastsInDim T ![]) :
    HR (broadcastInDim T ![] hb (constant (F := Ideal) ⟨0, ![]⟩ φ b)) fun _ => a := fun i => by
  rw [broadcastInDim_scalar_apply]
  exact h

theorem H3.ofHR {G R C : ℕ} {x : (⟨3, ![G, R, C]⟩ : Shape).Idx → EReal} {f : (⟨3, ![G, R, C]⟩ : Shape).Idx → ℝ} {g : ℕ → ℕ → ℕ → ℝ}
    (h : HR x f) (e : ∀ (u : Fin G) (r : Fin R) (c : Fin C), f (ix3 u r c) = g u.val r.val c.val) : H3 x g :=
  H3.of fun u r c => (h _).trans (by rw [e])

/-- A sum over one axis, from zero. -/
theorem sum_axis {S T : Shape} {a : Fin S.rank} (h' : S.ReducesTo [a] T) (h : S.Reduces [a] T) {x : FVec Ideal S φ} {f : S.Idx → ℝ}
    (hx : HR x f) {init : (⟨0, ![]⟩ : Shape).Idx → Ideal φ} (hi : init ix0 = ((0 : ℝ) : EReal)) (hu : 0 < (⟨0, ![]⟩ : Shape).numel) (j : T.Idx) :
    Host.reduceAdd x init h' hu j = ((∑ k : Fin (S.size a), f (h.lift j k) : ℝ) : EReal) := by
  rw [hostReduceAdd_apply, Ideal.hostReduceAdd_single h' h, show init (Shape.Idx.first hu) = ((0 : ℝ) : EReal) from (congrArg init (eq_ix0 _)).trans hi,
    EReal.coe_zero, zero_add, ← coe_sum]
  exact Finset.sum_congr rfl fun k _ => hx _

/-- A sum of all entries, from zero. -/
theorem sum_all {S T : Shape} {axes : List (Fin S.rank)} (h' : S.ReducesTo axes T) (ht : ∀ b, T.size b = 1) {x : FVec Ideal S φ} {f : S.Idx → ℝ}
    (hx : HR x f) {init : (⟨0, ![]⟩ : Shape).Idx → Ideal φ} (hi : init ix0 = ((0 : ℝ) : EReal)) (hu : 0 < (⟨0, ![]⟩ : Shape).numel) (j : T.Idx) :
    Host.reduceAdd x init h' hu j = ((∑ i : S.Idx, f i : ℝ) : EReal) := by
  rw [hostReduceAdd_apply, Ideal.hostReduceAdd_total h' ht, show init (Shape.Idx.first hu) = ((0 : ℝ) : EReal) from (congrArg init (eq_ix0 _)).trans hi,
    EReal.coe_zero, zero_add, ← coe_sum]
  exact Finset.sum_congr rfl fun k _ => hx _

/-- A sum over axes of extent one, from zero: entry `j` is the one entry over it. -/
theorem sum_unit {S T : Shape} {axes : List (Fin S.rank)} (h' : S.ReducesTo axes T) {x : FVec Ideal S φ} {f : S.Idx → ℝ}
    (hx : HR x f) {init : (⟨0, ![]⟩ : Shape).Idx → Ideal φ} (hi : init ix0 = ((0 : ℝ) : EReal)) (hu : 0 < (⟨0, ![]⟩ : Shape).numel) (j : T.Idx) (i : S.Idx)
    (h1 : ∀ k, h'.drop k = j → k = i) (h2 : h'.drop i = j) : Host.reduceAdd x init h' hu j = ((f i : ℝ) : EReal) := by
  rw [hostReduceAdd_apply]
  unfold Ideal.hostReduceAdd
  rw [show init (Shape.Idx.first hu) = ((0 : ℝ) : EReal) from (congrArg init (eq_ix0 _)).trans hi, EReal.coe_zero, zero_add,
    Finset.sum_eq_single i (fun k hk hne => absurd (h1 k (Finset.mem_filter.mp hk).2) hne)
      (fun hn => (hn (Finset.mem_filter.mpr ⟨Finset.mem_univ _, h2⟩)).elim)]
  exact hx _

/-- A product read at an index: the sum over the one contracted axis. -/
theorem dot_at {sl sr so : Shape} {φ₁ φ₂ : FTy} (d : DotDims sl sr so) (K : ℕ) (hr : d.contr.rank = 1) (hs : d.contr.size ⟨0, by omega⟩ = K)
    {x : FVec Ideal sl φ₁} {y : FVec Ideal sr φ₂} {f : sl.Idx → ℝ} {g : sr.Idx → ℝ} (hx : HR x f) (hy : HR y g) (j : so.Idx) (F : ℕ → ℝ)
    (e : ∀ (k : Fin K) (q : d.contr.Idx), (q ⟨0, by omega⟩).val = k.val → f (d.lhsIdx j q) * g (d.rhsIdx j q) = F k.val) :
    Host.dotGeneral d none x y j = ((∑ k ∈ Finset.range K, F k : ℝ) : EReal) := by
  show FloatOps.dotGeneral d none _ x y j = _
  rw [Ideal.dotGeneral_apply, ← Equiv.sum_comp (contrEquiv1 d K hr hs).symm, Finset.sum_range, ← coe_sum]
  refine Finset.sum_congr rfl fun k _ => ?_
  rw [hx, hy, ← EReal.coe_mul, e k _ (contrEquiv1_symm_val d K hr hs k)]

/-- A product read at an index: the sum over two contracted axes, the first of extent one. -/
theorem dot_at2 {sl sr so : Shape} {φ₁ φ₂ : FTy} (d : DotDims sl sr so) (K : ℕ) (hr : d.contr.rank = 2) (h0 : d.contr.size ⟨0, by omega⟩ = 1)
    (h1 : d.contr.size ⟨1, by omega⟩ = K)
    {x : FVec Ideal sl φ₁} {y : FVec Ideal sr φ₂} {f : sl.Idx → ℝ} {g : sr.Idx → ℝ} (hx : HR x f) (hy : HR y g) (j : so.Idx) (F : ℕ → ℝ)
    (e : ∀ (k : Fin K) (q : d.contr.Idx), (q ⟨1, by omega⟩).val = k.val → f (d.lhsIdx j q) * g (d.rhsIdx j q) = F k.val) :
    Host.dotGeneral d none x y j = ((∑ k ∈ Finset.range K, F k : ℝ) : EReal) := by
  show FloatOps.dotGeneral d none _ x y j = _
  rw [Ideal.dotGeneral_apply, sum_contr2 d 1 K hr h0 h1, Fin.sum_univ_one, Finset.sum_range, ← coe_sum]
  refine Finset.sum_congr rfl fun k _ => ?_
  rw [hx, hy, ← EReal.coe_mul, e k _ (contrEquiv2_symm_val1 d 1 K hr h0 h1 (0, k))]

/-! ## Sums of what came before -/

theorem foldl_real {ι : Type} (l : List ι) (x : ι → EReal) (f : ι → ℝ) (hx : ∀ n, x n = ((f n : ℝ) : EReal)) (a : ℝ) :
    l.foldl (fun r n => r + x n) ((a : ℝ) : EReal) = ((a + (l.map f).sum : ℝ) : EReal) := by
  induction l generalizing a with
  | nil => simp
  | cons n l ih => rw [List.foldl_cons, hx, ← EReal.coe_add, ih, List.map_cons, List.sum_cons, add_assoc]

/-- Of a window of `N` padded low by one less, at row `j`: the entries up to `j`. -/
theorem window_sum (f : ℕ → ℝ) {N j : ℕ} (hj : j < N) :
    ∑ n ∈ Finset.range N, (if N - 1 ≤ j + n then f (j + n - (N - 1)) else 0) = ∑ n ∈ Finset.range (j + 1), f n := by
  have e : N = (N - 1 - j) + (j + 1) := by omega
  conv_lhs => rw [e]
  rw [Finset.sum_range_add, Finset.sum_eq_zero, zero_add]
  · refine Finset.sum_congr rfl fun n hn => ?_
    have := Finset.mem_range.mp hn
    rw [if_pos (by omega)]
    congr 1; omega
  · intro n hn
    have := Finset.mem_range.mp hn
    rw [if_neg (by omega)]

/-- Running sums down the rows, as a window of the whole height padded low by one less. -/
theorem running {N C : ℕ} (hN : 0 < N) {x : FVec Ideal ⟨3, ![1, N, C]⟩ φ} {f : ℕ → ℕ → ℝ} (hx : H3 x fun _ r c => f r c)
    {init : (⟨0, ![]⟩ : Shape).Idx → Ideal φ} (hi : init ix0 = ((0 : ℝ) : EReal)) (lo : ℕ) (hlo : lo = N - 1)
    (h : (⟨3, ![1, N, C]⟩ : Shape).ReduceWindows ![1, N, 1] ![1, 1, 1] ![0, lo, 0] ![0, 0, 0] ⟨3, ![1, N, C]⟩) (hu : 0 < (⟨0, ![]⟩ : Shape).numel) :
    H3 (Host.reduceWindowAdd ![1, N, 1] ![1, 1, 1] ![0, lo, 0] ![0, 0, 0] x init h hu) fun _ r c => ∑ n ∈ Finset.range (r + 1), f n c :=
  H3.of fun u r c => by
    subst hlo
    have hu0 : u.val = 0 := by omega
    have hr := r.isLt
    have hc := c.isLt
    show Ideal.hostReduceWindowAdd _ _ _ _ h x (init (Shape.Idx.first hu)) (ix3 u r c) = _
    rw [show init (Shape.Idx.first hu) = ((0 : ℝ) : EReal) from (congrArg init (eq_ix0 _)).trans hi]
    unfold Ideal.hostReduceWindowAdd Host.reduceWindow
    have num : (⟨3, ![1, N, 1]⟩ : Shape).numel = N := by simp [Shape.numel, Fin.prod_univ_three]
    have pos : ∀ n : Fin (⟨3, ![1, N, 1]⟩ : Shape).numel, (⟨3, ![1, N, 1]⟩ : Shape).rowMajor.symm n = ix3 (0 : Fin 1) (n.cast num) (0 : Fin 1) := fun n => by
      rw [Equiv.symm_apply_eq]
      apply Fin.ext
      rw [Shape.rowMajor_val_three]
      show n.val = (0 * N + n.val) * 1 + 0
      omega
    refine (foldl_real _ _ (fun n => if N - 1 ≤ r.val + n.val then f (r.val + n.val - (N - 1)) c.val else 0) (fun n => ?_) 0).trans ?_
    · have w0 : ((⟨3, ![1, N, 1]⟩ : Shape).rowMajor.symm n 0).val = 0 := by rw [pos]; rfl
      have w1 : ((⟨3, ![1, N, 1]⟩ : Shape).rowMajor.symm n 1).val = n.val := by rw [pos]; rfl
      have w2 : ((⟨3, ![1, N, 1]⟩ : Shape).rowMajor.symm n 2).val = 0 := by rw [pos]; rfl
      have hn : n.val < N := (n.cast num).isLt
      dsimp only
      split
      · next hin =>
        have h1 := hin 1
        change N - 1 ≤ r.val * 1 + ((⟨3, ![1, N, 1]⟩ : Shape).rowMajor.symm n 1).val
          ∧ r.val * 1 + ((⟨3, ![1, N, 1]⟩ : Shape).rowMajor.symm n 1).val - (N - 1) < N at h1
        rw [w1] at h1
        rw [if_pos (by omega)]
        refine (hx _).trans ?_
        show ((f (r.val * 1 + ((⟨3, ![1, N, 1]⟩ : Shape).rowMajor.symm n 1).val - (N - 1)) (c.val * 1 + ((⟨3, ![1, N, 1]⟩ : Shape).rowMajor.symm n 2).val - 0) : ℝ) : EReal) = _
        rw [w1, w2, Nat.mul_one, Nat.mul_one, Nat.add_zero, Nat.sub_zero]
      · next hin =>
        rw [if_neg fun hle => hin fun a => by
          match a with
          | ⟨0, _⟩ =>
            show 0 ≤ u.val * 1 + ((⟨3, ![1, N, 1]⟩ : Shape).rowMajor.symm n 0).val ∧ u.val * 1 + ((⟨3, ![1, N, 1]⟩ : Shape).rowMajor.symm n 0).val - 0 < 1
            rw [w0]; omega
          | ⟨1, _⟩ =>
            show N - 1 ≤ r.val * 1 + ((⟨3, ![1, N, 1]⟩ : Shape).rowMajor.symm n 1).val
              ∧ r.val * 1 + ((⟨3, ![1, N, 1]⟩ : Shape).rowMajor.symm n 1).val - (N - 1) < N
            rw [w1]; omega
          | ⟨2, _⟩ =>
            show 0 ≤ c.val * 1 + ((⟨3, ![1, N, 1]⟩ : Shape).rowMajor.symm n 2).val ∧ c.val * 1 + ((⟨3, ![1, N, 1]⟩ : Shape).rowMajor.symm n 2).val - 0 < C
            rw [w2]; omega]
    · rw [zero_add]
      congr 1
      rw [← window_sum (fun n => f n c.val) hr, Finset.sum_range, ← Fin.sum_univ_def]
      exact Fintype.sum_equiv (finCongr num) _ _ fun n => rfl

end Cert.Holds
-- ==== Proof.Finite.lean ====
/-
  Arrays of finite entries as tables of real numbers, and what the precondition of `out_loss` gives.
-/
module

public import proofs.«01_k».proof.Proof.Inputs
public import proofs.«01_k».proof.Proof.HostHolds
public import proofs.«01_k».proof.Pre_finite_inputs

@[expose] public section

noncomputable section

namespace Cert.Holds

open Idealize.ShloMosaic Idealize.ShloMosaic.ValueIdx

/-- The real number an entry is. -/
def num {S : Shape} (x : S.Idx → EReal) (i : S.Idx) : ℝ := (x i).toReal

/-- Every entry is finite. -/
def Finite {S : Shape} (x : S.Idx → EReal) : Prop := ∀ i, x i = ((num x i : ℝ) : EReal)

theorem finite_of_lt {a : EReal} (h : max a (-a) < ⊤) : a = ((a.toReal : ℝ) : EReal) := by
  have h1 : a ≠ ⊤ := fun e => by subst e; simp at h
  have h2 : a ≠ ⊥ := fun e => by subst e; simp at h
  exact (EReal.coe_toReal h1 h2).symm

/-- Entries whose absolute value compares below infinity are finite. -/
theorem finite_of {S : Shape} {φ : FTy} {b : BitVec φ.bits} (hb : Ideal.ofBits φ b = ⊤) {x : FVec Ideal S φ}
    (hS : (⟨0, ![]⟩ : Shape).BroadcastsInDim S ![])
    (h : cmpf .olt (Host.absf x) (broadcastInDim S ![] hS (constant (F := Ideal) ⟨0, ![]⟩ φ b)) = fun _ => 1#1) : Finite (x : S.Idx → EReal) := fun i => by
  have hi := congrFun h i
  rw [cmpf_apply, broadcastInDim_scalar_apply] at hi
  have hi' : BitVec.ofBool (decide (max (x i) (-(x i)) < Ideal.ofBits φ b)) = 1#1 := hi
  rw [hb] at hi'
  refine finite_of_lt ?_
  by_contra hn
  rw [decide_eq_false hn] at hi'
  exact absurd hi' (by decide)

theorem cinf : Ideal.ofBits .f32 0x7F800000#32 = ⊤ := by simp [Ideal.ofBits, Ideal.ieee]
theorem cinf16 : Ideal.ofBits .bf16 0x7F80#16 = ⊤ := by simp [Ideal.ofBits, Ideal.ieee]

/-! ## Tables -/

def tab1 {a : ℕ} (x : (⟨1, ![a]⟩ : Shape).Idx → EReal) (i : ℕ) : ℝ := if h : i < a then num x (ix1 ⟨i, h⟩) else 0
def tab2 {a b : ℕ} (x : (⟨2, ![a, b]⟩ : Shape).Idx → EReal) (i j : ℕ) : ℝ :=
  if h : i < a ∧ j < b then num x (ix2 ⟨i, h.1⟩ ⟨j, h.2⟩) else 0
def tab3 {a b c : ℕ} (x : (⟨3, ![a, b, c]⟩ : Shape).Idx → EReal) (i j k : ℕ) : ℝ :=
  if h : i < a ∧ j < b ∧ k < c then num x (ix3 ⟨i, h.1⟩ ⟨j, h.2.1⟩ ⟨k, h.2.2⟩) else 0
def tab4 {a b c d : ℕ} (x : (⟨4, ![a, b, c, d]⟩ : Shape).Idx → EReal) (i j k l : ℕ) : ℝ :=
  if h : i < a ∧ j < b ∧ k < c ∧ l < d then num x (ix4 ⟨i, h.1⟩ ⟨j, h.2.1⟩ ⟨k, h.2.2.1⟩ ⟨l, h.2.2.2⟩) else 0

theorem tab1_eq {a : ℕ} (x : (⟨1, ![a]⟩ : Shape).Idx → EReal) (i : Fin a) : tab1 x i = num x (ix1 i) := dif_pos i.isLt
theorem tab2_eq {a b : ℕ} (x : (⟨2, ![a, b]⟩ : Shape).Idx → EReal) (i : Fin a) (j : Fin b) : tab2 x i j = num x (ix2 i j) := dif_pos ⟨i.isLt, j.isLt⟩
theorem tab3_eq {a b c : ℕ} (x : (⟨3, ![a, b, c]⟩ : Shape).Idx → EReal) (i : Fin a) (j : Fin b) (k : Fin c) : tab3 x i j k = num x (ix3 i j k) :=
  dif_pos ⟨i.isLt, j.isLt, k.isLt⟩
theorem tab4_eq {a b c d : ℕ} (x : (⟨4, ![a, b, c, d]⟩ : Shape).Idx → EReal) (i : Fin a) (j : Fin b) (k : Fin c) (l : Fin d) :
    tab4 x i j k l = num x (ix4 i j k l) := dif_pos ⟨i.isLt, j.isLt, k.isLt, l.isLt⟩

end Cert.Holds

namespace Cert.Pre_finite_inputs

open Idealize.ShloMosaic Idealize.ShloMosaic.ValueIdx Cert.Holds Cert.Spec

theorem facts : Facts where
  bcast_S_S1x8192x1024 := by decide +kernel
  slices_S8192x3072_S8192x1024_0_0 := by decide +kernel
  bcast_S_S8192x1024 := by decide +kernel
  bcast_S_S8192x512 := by decide +kernel
  bcast_S_S1x4x128x128 := by decide +kernel
  bcast_S_S1x512 := by decide +kernel
  bcast_S_S1x1024x1024 := by decide +kernel
  bcast_S_S1024 := by decide +kernel

/-- The real tables the arrays hold. -/
def args (x0 : S1x8192x1024.Idx → EReal) (x1 : S8192x3072.Idx → EReal) (x2 : S8192x512.Idx → EReal) (x3 : S1x4x128x128.Idx → EReal)
    (x4 : S1x512.Idx → EReal) (x5 : S1x1024x1024.Idx → EReal) (x6 : S1024.Idx → EReal) (x7 : S1x8192x1024.Idx → EReal) : Args where
  x := tab3 x0 0
  pv := tab2 x1
  pg r k := tab2 x1 r (512 + k)
  ya := tab2 x2
  pw := tab4 x3 0
  ps := tab2 x4 0
  w := tab3 x5 0
  g := tab1 x6
  t := tab3 x7 0

theorem reads [Facts] {x0 : FVec Ideal S1x8192x1024 .f32} {x1 : FVec Ideal S8192x3072 .bf16} {x2 : FVec Ideal S8192x512 .bf16}
    {x3 : FVec Ideal S1x4x128x128 .f32} {x4 : FVec Ideal S1x512 .f32} {x5 : FVec Ideal S1x1024x1024 .f32} {x6 : FVec Ideal S1024 .f32}
    {x7 : FVec Ideal S1x8192x1024 .f32}
    (h : (fn x0 x1 x2 x3 x4 x5 x6 x7).1 = (fun _ => 1#1) ∧ (fn x0 x1 x2 x3 x4 x5 x6 x7).2.1 = (fun _ => 1#1)
      ∧ (fn x0 x1 x2 x3 x4 x5 x6 x7).2.2.1 = (fun _ => 1#1) ∧ (fn x0 x1 x2 x3 x4 x5 x6 x7).2.2.2.1 = (fun _ => 1#1)
      ∧ (fn x0 x1 x2 x3 x4 x5 x6 x7).2.2.2.2.1 = (fun _ => 1#1) ∧ (fn x0 x1 x2 x3 x4 x5 x6 x7).2.2.2.2.2.1 = (fun _ => 1#1)
      ∧ (fn x0 x1 x2 x3 x4 x5 x6 x7).2.2.2.2.2.2.1 = (fun _ => 1#1) ∧ (fn x0 x1 x2 x3 x4 x5 x6 x7).2.2.2.2.2.2.2 = (fun _ => 1#1)) :
    Reads (args x0 x1 x2 x3 x4 x5 x6 x7) x0 x1 x2 x3 x4 x5 x6 x7 := by
  obtain ⟨h0, h1, h2, h3, h4, h5, h6, h7⟩ := h
  have f0 : Finite (x0 : S1x8192x1024.Idx → EReal) := finite_of cinf _ h0
  have f1 := finite_of cinf16 _ h1
  have f2 : Finite (x2 : S8192x512.Idx → EReal) := finite_of cinf16 _ h2
  have f3 : Finite (x3 : S1x4x128x128.Idx → EReal) := finite_of cinf _ h3
  have f4 : Finite (x4 : S1x512.Idx → EReal) := finite_of cinf _ h4
  have f5 : Finite (x5 : S1x1024x1024.Idx → EReal) := finite_of cinf _ h5
  have f6 : Finite (x6 : S1024.Idx → EReal) := finite_of cinf _ h6
  have f7 : Finite (x7 : S1x8192x1024.Idx → EReal) := finite_of cinf _ h7
  have g1 (r : Fin 8192) (c : Fin 3072) (hc : c.val < 1024) : x1 (ix2 r c) = ((num (x1 : S8192x3072.Idx → EReal) (ix2 r c) : ℝ) : EReal) := by
    have e : extractStridedSlice S8192x1024 ![0, 0] x1 Facts.slices_S8192x3072_S8192x1024_0_0 (ix2 r (⟨c.val, hc⟩ : Fin 1024)) = x1 (ix2 r c) :=
      extractStridedSlice_apply _ _ _ _ (ix2 r c) (fun a => by
        match a with | ⟨0, _⟩ => exact (Nat.zero_add _).symm | ⟨1, _⟩ => exact (Nat.zero_add _).symm)
    have := f1 (ix2 r (⟨c.val, hc⟩ : Fin 1024))
    unfold num at this ⊢
    exact e ▸ this
  exact {
    x := fun r c => (f0 _).trans (by rw [← tab3_eq]; rfl)
    pv := fun r c hc => (g1 r c (by omega)).trans (by rw [← tab2_eq]; rfl)
    pg := fun r c k e hk => (g1 r c (by omega)).trans (by rw [← tab2_eq, e]; rfl)
    ya := fun r c => (f2 _).trans (by rw [← tab2_eq]; rfl)
    pw := fun a r c => (f3 _).trans (by rw [← tab4_eq]; rfl)
    ps := fun c => (f4 _).trans (by rw [← tab2_eq]; rfl)
    w := fun r c => (f5 _).trans (by rw [← tab3_eq]; rfl)
    g := fun c => (f6 _).trans (by rw [← tab1_eq]; rfl)
    t := fun r c => (f7 _).trans (by rw [← tab3_eq]; rfl) }

end Cert.Pre_finite_inputs
-- ==== Proof.KTile.lean ====
/-
  One tile of `out_loss` at a time: each payload of the kernel's body read over the reals, its operands holding the rows
  of the tile.
-/
module

public import proofs.«01_k».proof.Proof.Holds
public import Idealize.ShloMosaic.Lib.Pointwise
public import proofs.«01_k».proof.Proof.Spec
public import proofs.«01_k».proof.Proof.Gen.KernelIdeal.Value

@[expose] public section

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.Holds Cert.Spec Cert.Consts
open scoped BigOperators
open Finset (range)

/-- The smaller of two small words, as a float. -/
theorem count_word (n w : ℕ) (hn : n < 2 ^ 31) (hw : w < 2 ^ 31) :
    FloatOps.sitofp (F := Ideal) .f32 (IntOp.minsi (BitVec.ofNat 32 n) (BitVec.ofNat 32 w)) = (((min n w : ℕ) : ℝ) : EReal) := by
  have e (k : ℕ) (hk : k < 2 ^ 31) : (BitVec.ofNat 32 k).toInt = (k : ℤ) := by
    rw [BitVec.toInt_eq_toNat_of_lt (by rw [BitVec.toNat_ofNat]; omega), BitVec.toNat_ofNat, Nat.mod_eq_of_lt (by omega)]
  show (((IntOp.minsi (BitVec.ofNat 32 n) (BitVec.ofNat 32 w)).toInt : ℝ) : EReal) = _
  unfold IntOp.minsi
  have hs : (BitVec.ofNat 32 n).slt (BitVec.ofNat 32 w) = decide (n < w) := by
    rw [BitVec.slt, e n hn, e w hw]; simp
  rw [hs]
  by_cases h : n < w
  · rw [if_pos (by simpa using h), e n hn, min_eq_left h.le, Int.cast_natCast]
  · rw [if_neg (by simpa using h), e w hw, min_eq_right (not_lt.mp h), Int.cast_natCast]

theorem row_word (i : grid0.Coords) (j : S1024x128.Idx) :
    k0_pay21 i j = BitVec.ofNat 32 (1024 * (i 0).val + (j 0).val + 1) := by
  unfold k0_pay21 k0_pay17
  pointwise
  show BitVec.ofNat 32 (i 0).val * BitVec.ofNat 32 1024 + BitVec.ofNat 32 (j 0).val + BitVec.ofNat 32 1 = _
  rw [← BitVec.ofNat_mul, ← BitVec.ofNat_add, ← BitVec.ofNat_add, Nat.mul_comm]

/-- The window's counts: the row's number plus one, at most `w`. -/
theorem count (w : ℕ) (hw : w < 2 ^ 31) (i : grid0.Coords) :
    H (sitofp (F := Ideal) .f32 (minsi (k0_pay21 i) (broadcast S1024x128 (BitVec.ofNat 32 w))))
      (fun r _ => ((min (1024 * (i 0).val + r + 1) w : ℕ) : ℝ)) := fun j => by
  show FloatOps.sitofp (F := Ideal) .f32 (IntOp.minsi (k0_pay21 i j) (BitVec.ofNat 32 w)) = _
  rw [row_word, count_word _ _ _ hw]
  have h0 : (i 0).val < 8 := (i 0).isLt
  have h1 := idx2_lt0 j
  omega

variable (A : Args)

section Pool

variable {A} {v3 : FVec Ideal S1024x512 .bf16} {v7 : FVec Ideal S16x512 .f32} {t : ℕ}
  (h3 : H v3 fun r c => A.pv (1024 * t + r) c) (h7 : H v7 fun r c => padded (fun n => A.pv n c) (1024 * t + r))

include h3 h7

theorem lev1 : H (k0_pay13 (F := Ideal) v3 v7) (fun r c => lev 1040 1 (fun n => padded (fun n => A.pv n c) (1024 * t + n)) r) := by
  have h8 := (h7.catRows (h3.extf bitsLt_bf16_f32) (R := 1040) concatenates_S16x512_S1024x512_S1040x512_d0).congr
     (g := fun r c => padded (fun n => A.pv n c) (1024 * t + r)) (fun r hr c hc => by
     split
     · rfl
     · unfold padded; rw [if_neg (by omega)]; congr 1; omega)
  exact h8.add (h8.rotate 1#32 rotates_S1040x512_d0)

theorem lev2 : H (k0_pay14 (F := Ideal) v3 v7) (fun r c => lev 1040 2 (fun n => padded (fun n => A.pv n c) (1024 * t + n)) r) :=
  (lev1 h3 h7).add ((lev1 h3 h7).rotate 2#32 rotates_S1040x512_d0)

theorem lev3 : H (k0_pay15 (F := Ideal) v3 v7) (fun r c => lev 1040 3 (fun n => padded (fun n => A.pv n c) (1024 * t + n)) r) :=
  (lev2 h3 h7).add ((lev2 h3 h7).rotate 4#32 rotates_S1040x512_d0)

theorem lev4 : H (k0_pay16 (F := Ideal) v3 v7) (fun r c => lev 1040 4 (fun n => padded (fun n => A.pv n c) (1024 * t + n)) r) :=
  (lev3 h3 h7).add ((lev3 h3 h7).rotate 8#32 rotates_S1040x512_d0)

omit h3 h7 in
/-- A doubled sum at row `16 + r` is the window's sum at the tile's row `r`. -/
theorem lev_wsum (f : ℕ → ℝ) (g r : ℕ) (hg : g < 4) (hr : r < 1024) :
    lev 1040 (g + 1) (fun n => padded f (1024 * t + n)) (16 + r) = wsum f (win g) (1024 * t + r) := by
  have hp : 2 ^ (g + 1) ≤ 16 := by
    have := Nat.pow_le_pow_right (n := 2) (by norm_num) (show g + 1 ≤ 4 by omega)
    simpa using this
  rw [lev_eq _ _ (by omega) _ (by omega) (by omega), ← wsum_padded f (win g) _ hp]
  refine Finset.sum_congr rfl fun k hk => ?_
  have hk' := Finset.mem_range.mp hk
  have : win g ≤ 16 := hp
  congr 1; omega

omit h7 in
/-- A group's mean over its window, less the entry. -/
theorem group {L : FVec Ideal S1040x512 .f32} {cnt : FVec Ideal S1024x128 .f32} (g b : ℕ) (hg : g < 4) (hb : b = 128 * g)
    (hL : H L fun r c => lev 1040 (g + 1) (fun n => padded (fun n => A.pv n c) (1024 * t + n)) r)
    (hc : H cnt fun r _ => ((min (1024 * t + r + 1) (win g) : ℕ) : ℝ))
    (hs : S1040x512.Slices ![16, b] S1024x128) (hs' : S1024x512.Slices ![0, b] S1024x128) :
    H (truncf .bf16 (subf (divf (extractStridedSlice S1024x128 ![16, b] L hs) cnt)
      (extractStridedSlice S1024x128 ![0, b] (k0_pay11 (F := Ideal) v3) hs')) bitsLt_bf16_f32) (fun r c => pool A.pv g (1024 * t + r) c) := by
  subst hb
  refine H.truncf (H.congr (((hL.slice 16 (128 * g) hs).div hc fun r _ c _ => ?_).sub ((h3.extf bitsLt_bf16_f32).slice 0 (128 * g) hs')) ?_) _
  · have : 0 < win g := Nat.two_pow_pos _
    have : 0 < min (1024 * t + r + 1) (win g) := by omega
    exact_mod_cast this.ne'
  · intro r hr c hc
    simp only [Nat.zero_add]
    rw [lev_wsum _ g r hg hr]
    rfl

variable {i : grid0.Coords} (hi : (i 0).val = t)
include hi

theorem group3 : H (k0_pay22 (F := Ideal) (k0_pay11 v3) (k0_pay16 v3 v7) (k0_pay21 i)) (fun r c => pool A.pv 3 (1024 * t + r) c) :=
  group h3 3 384 (by norm_num) rfl (lev4 h3 h7) (hi ▸ count 16 (by norm_num) i) _ _

/-- Group `g`'s pooled differences through its matrix. -/
def through (g : ℕ) (r c : ℕ) : ℝ := ∑ k ∈ range 128, pool A.pv g r k * A.pw g k c

theorem group0 {v65 : FVec Ideal S1x128x128 .f32} (h65 : H3 v65 fun _ k c => A.pw 0 k c) :
    H (k0_pay24 (F := Ideal) (k0_pay11 v3) (k0_pay13 v3 v7) (k0_pay18 i) v65) (fun r c => through (A := A) 0 (1024 * t + r) c) :=
  H.dot _ rfl (group h3 0 0 (by norm_num) rfl (lev1 h3 h7) (hi ▸ count 2 (by norm_num) i) _ _) ((h65.member _).truncf _) (H.const c0)

theorem group1 {v65 : FVec Ideal S1x128x128 .f32} (h65 : H3 v65 fun _ k c => A.pw 1 k c) :
    H (k0_pay25 (F := Ideal) (k0_pay11 v3) (k0_pay14 v3 v7) (k0_pay19 i) v65) (fun r c => through (A := A) 1 (1024 * t + r) c) :=
  H.dot _ rfl (group h3 1 128 (by norm_num) rfl (lev2 h3 h7) (hi ▸ count 4 (by norm_num) i) _ _) ((h65.member _).truncf _) (H.const c0)

theorem group2 {v65 : FVec Ideal S1x128x128 .f32} (h65 : H3 v65 fun _ k c => A.pw 2 k c) :
    H (k0_pay26 (F := Ideal) (k0_pay11 v3) (k0_pay15 v3 v7) (k0_pay20 i) v65) (fun r c => through (A := A) 2 (1024 * t + r) c) :=
  H.dot _ rfl (group h3 2 256 (by norm_num) rfl (lev3 h3 h7) (hi ▸ count 8 (by norm_num) i) _ _) ((h65.member _).truncf _) (H.const c0)

end Pool

variable {A}

/-- The gated pool of the tile. -/
theorem gated {t : ℕ} {v5 : FVec Ideal S1024x512 .bf16} {v60 : FVec Ideal S1024x128 .bf16} {v68 v72 v76 : FVec Ideal S1024x128 .f32}
    {v77 : FVec Ideal S1x128x128 .f32} {v82 : FVec Ideal S1x512 .f32}
    (h5 : H v5 fun r c => A.pg (1024 * t + r) c) (h60 : H v60 fun r c => pool A.pv 3 (1024 * t + r) c)
    (h68 : H v68 fun r c => through (A := A) 0 (1024 * t + r) c) (h72 : H v72 fun r c => through (A := A) 1 (1024 * t + r) c)
    (h76 : H v76 fun r c => through (A := A) 2 (1024 * t + r) c) (h77 : H3 v77 fun _ k c => A.pw 3 k c)
    (h82 : H v82 fun _ c => A.ps c) :
    H (k0_pay28 (F := Ideal) (k0_pay12 v5) v60 v68 v72 v76 (k0_pay27 v77) v82) (fun r c => YP A (1024 * t + r) c) := by
  have h80 : H (matmul dot_S1024x128_S128x128_S1024x128_1_0_0_1_n_n none v60 (truncf .bf16 (k0_pay27 (F := Ideal) v77) bitsLt_bf16_f32)
      (constant S1024x128 .f32 0x00000000#32)) (fun r c => through (A := A) 3 (1024 * t + r) c) :=
    H.dot _ rfl h60 ((h77.member _).truncf _) (H.const c0)
  have h81 := H.cat4 (n := 128) (C := 512) (by norm_num)
    (x := ![v68, v72, v76, matmul dot_S1024x128_S128x128_S1024x128_1_0_0_1_n_n none v60 (truncf .bf16 (k0_pay27 (F := Ideal) v77) bitsLt_bf16_f32)
      (constant S1024x128 .f32 0x00000000#32)]) (f := fun g r c => through (A := A) g (1024 * t + r) c)
    (fun k => by fin_cases k <;> assumption) concatenates_S1024x128_S1024x128_S1024x128_S1024x128_S1024x512_d1
  have h6 : H (k0_pay12 (F := Ideal) v5) fun r c => A.pg (1024 * t + r) c := h5.extf _
  exact ((h81.mul (h82.row _)).mul (h6.mul ((H.splat c1).div ((H.splat c1).add ((H.splat c0).sub h6).exp)
    fun r _ c _ => (one_add_exp_pos _).ne'))).truncf _

/-! ## The rows of one part: `b + (a + r)` -/

theorem X2_four (r c : ℕ) : X2 A r c = A.x r c + ∑ k ∈ range 256, Y A r (256 * 0 + k) * A.w (256 * 0 + k) c
    + ∑ k ∈ range 256, Y A r (256 * 1 + k) * A.w (256 * 1 + k) c + ∑ k ∈ range 256, Y A r (256 * 2 + k) * A.w (256 * 2 + k) c
    + ∑ k ∈ range 256, Y A r (256 * 3 + k) * A.w (256 * 3 + k) c := by
  unfold X2
  rw [sum_four]
  simp only [Nat.mul_zero, Nat.zero_add, Nat.mul_one, Nat.reduceMul, add_assoc]

/-- `v` holds the columns `256 g ..` of the mixer's output. -/
abbrev HY (A : Args) (n g : ℕ) (v : FVec Ideal S512x256 .bf16) : Prop := H v fun r k => Y A (n + r) (256 * g + k)

/-- `v` holds the rows `256 g ..` of the output weight. -/
abbrev HW (A : Args) (g : ℕ) (v : FVec Ideal S1x256x1024 .bf16) : Prop := H3 v fun _ k c => A.w (256 * g + k) c

section Part

variable {n : ℕ} {y0 y1 y2 y3 : FVec Ideal S512x256 .bf16} (hy0 : HY A n 0 y0) (hy1 : HY A n 1 y1) (hy2 : HY A n 2 y2) (hy3 : HY A n 3 y3)
  {w0 w1 w2 w3 : FVec Ideal S1x256x1024 .bf16} (hw0 : HW A 0 w0) (hw1 : HW A 1 w1) (hw2 : HW A 2 w2) (hw3 : HW A 3 w3)
  {x : FVec Ideal S512x1024 .f32} (hx : H x fun r c => A.x (n + r) c)

include hy0 hy1 hy2 hy3 hw0 hw1 hw2 hw3 hx

/-- The residual stream of the lower part. -/
theorem x2_low : H (k0_pay37 (F := Ideal) y0 y1 y2 y3 x w0 w1 w2 w3) (fun r c => X2 A (n + r) c) :=
  (((((hx.cast _).add (H.dot _ rfl hy0 (hw0.member _) (H.const c0))).add (H.dot _ rfl hy1 (hw1.member _) (H.const c0))).add
    (H.dot _ rfl hy2 (hw2.member _) (H.const c0))).add (H.dot _ rfl hy3 (hw3.member _) (H.const c0))).congr
    fun r _ c _ => (X2_four _ _).symm

end Part

/-- The residual stream of the upper part. -/
theorem x2_up {n : ℕ} {y1 y2 y3 : FVec Ideal S512x256 .bf16} {v6 : FVec Ideal S1024x512 .f32} {v60 : FVec Ideal S1024x128 .bf16}
    {v68 v72 v76 : FVec Ideal S1024x128 .f32} {v78 : FVec Ideal S128x128 .f32} {v82 : FVec Ideal S1x512 .f32}
    (hy0 : HY A n 0 (k0_pay30 (F := Ideal) v6 v60 v68 v72 v76 v78 v82)) (hy1 : HY A n 1 y1) (hy2 : HY A n 2 y2) (hy3 : HY A n 3 y3)
    {w0 w1 w2 w3 : FVec Ideal S1x256x1024 .bf16} (hw0 : HW A 0 w0) (hw1 : HW A 1 w1) (hw2 : HW A 2 w2) (hw3 : HW A 3 w3)
    {x : FVec Ideal S512x1024 .f32} (hx : H x fun r c => A.x (n + r) c) :
    H (k0_pay36 (F := Ideal) y1 y2 y3 (k0_pay34 v6 v60 v68 v72 v76 v78 v82 x w0) (k0_pay35 w1) (constant S512x1024 .f32 0x00000000#32) w2 w3)
      (fun r c => X2 A (n + r) c) :=
  (((((hx.cast _).add (H.dot _ rfl hy0 (hw0.member _) (H.const c0))).add (H.dot _ rfl hy1 (hw1.member _) (H.const c0))).add
    (H.dot _ rfl hy2 (hw2.member _) (H.const c0))).add (H.dot _ rfl hy3 (hw3.member _) (H.const c0))).congr
    fun r _ c _ => (X2_four _ _).symm

/-! ## The norm, the loss and their gradients on one part -/

section Norm

variable {n : ℕ} {x t : FVec Ideal S512x1024 .f32} {g : FVec Ideal S1x1024 .f32} {s e : FVec Ideal S512x1 .f32}
  (hx : H x fun r c => X2 A (n + r) c) (hs : H s fun r _ => (∑ c ∈ range 1024, X2 A (n + r) c * X2 A (n + r) c) / 1024)
  (he : H e fun _ _ => eps) (hg : H g fun _ c => A.g c) (ht : H t fun r c => A.t (n + r) c)

include hx in
theorem mean_sq : H (k0_pay56 (F := Ideal) x) (fun r _ => (∑ c ∈ range 1024, X2 A (n + r) c * X2 A (n + r) c) / 1024) :=
  (H.sumCols (hx.mul hx) _ _ _ rfl _).div (H.splat c1024) fun _ _ _ _ => by norm_num

theorem eps_col : H (k0_pay57 (F := Ideal)) (fun _ _ => eps) := H.splat ceps

include hs he

theorem root : H (k0_pay58 (F := Ideal) s e) (fun r _ => RR A (n + r)) :=
  (hs.add he).rsqrt fun r _ c _ => V_pos A _

include hx

theorem hat : H (k0_pay59 (F := Ideal) x s e) (fun r c => XH A (n + r) c) := hx.mul ((root hs he).col _)

include hg ht

theorem diff : H (k0_pay60 (F := Ideal) g x s e t) (fun r c => DIFF A (n + r) c) :=
  ((hat hx hs he).mul (hg.row _)).sub (ht.cast _)

theorem dfin : H (k0_pay62 (F := Ideal) g x s e t) (fun r c => DF A (n + r) c) := (diff hx hs he hg ht).mul (H.splat cinv1024)

theorem squares {z : FVec Ideal S1x1024 .f32} (hz : H z fun _ c => SQ A n c) :
    H (k0_pay61 (F := Ideal) g x s e t z) (fun _ c => SQ A (n + 512) c) :=
  ((hz.add (H.sumRows ((diff hx hs he hg ht).mul (diff hx hs he hg ht)) _ _ _ rfl _)).cast _).congr fun _ _ c _ => by
    unfold SQ; rw [Finset.sum_range_add]

theorem gains {z : FVec Ideal S1x1024 .f32} (hz : H z fun _ c => GG A n c) :
    H (k0_pay63 (F := Ideal) g x s e t z) (fun _ c => GG A (n + 512) c) :=
  ((hz.cast _).add (H.sumRows ((dfin hx hs he hg ht).mul (hat hx hs he)) _ _ _ rfl _)).congr fun _ _ c _ => by
    unfold GG; rw [Finset.sum_range_add]

theorem dx2 : H (k0_pay64 (F := Ideal) g x s e t) (fun r c => DX2 A (n + r) c) :=
  ((root hs he).col _).mul (((dfin hx hs he hg ht).mul (hg.row _)).sub ((hat hx hs he).mul
    (((H.sumCols (((dfin hx hs he hg ht).mul (hg.row _)).mul (hat hx hs he)) _ _ _ rfl _).div (H.splat c1024) fun _ _ _ _ => by norm_num).col _)))

end Norm

/-! ## The products of one part -/

section Products

variable {n g : ℕ} {d : FVec Ideal S512x1024 .bf16} (hd : H d fun r c => DX2 A (n + r) c)

include hd

theorem gw_add {y : FVec Ideal S512x256 .bf16} (hy : HY A n g y) {z : FVec Ideal S1x256x1024 .f32}
    (hz : H3 z fun _ k c => GW A n (256 * g + k) c) :
    H3 (k0_pay66 (F := Ideal) y d z) (fun _ k c => GW A (n + 512) (256 * g + k) c) :=
  ((((hz.member _).add (H.dotRows _ rfl hy hd (H.const c0))).congr (g := fun k c => GW A (n + 512) (256 * g + k) c) fun k _ c _ => by
    unfold GW; rw [Finset.sum_range_add])).stack _

theorem dy_part {w : FVec Ideal S1x1024x256 .bf16} (hw : H3 w fun _ c k => A.w (256 * g + k) c) :
    H (k0_pay67 (F := Ideal) d w) (fun r k => DY A (n + r) (256 * g + k)) :=
  (H.dot _ rfl hd (hw.member _) (H.const c0)).truncf _

end Products

end Cert.KernelIdeal.Tile
-- ==== Proof.KBlock.lean ====
/-
  The values one grid point of `out_loss` computes from its blocks, and what they hold.
-/
module

public import proofs.«01_k».proof.Proof.KTile

@[expose] public section

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.Holds Cert.Spec Cert.Consts
open scoped BigOperators

/-- The blocks a grid point reads, and the sixteen rows kept from the one before. -/
structure Blk where
  x : Vec Ideal S1024x1024 .f32
  t : Vec Ideal S1024x1024 .f32
  pv : Vec Ideal S1024x512 .bf16
  pg : Vec Ideal S1024x512 .bf16
  ya : Vec Ideal S1024x512 .bf16
  w : Vec Ideal S4x256x1024 .bf16
  g : Vec Ideal S1x1024 .f32
  pw : Vec Ideal S4x128x128 .f32
  ps : Vec Ideal S1x512 .f32
  halo : Vec Ideal S16x512 .f32

/-- The blocks hold the rows `1024 k ..` of the arguments. -/
structure Blk.Holds (b : Blk) (A : Args) (k : ℕ) : Prop where
  x : H b.x fun r c => A.x (1024 * k + r) c
  t : H b.t fun r c => A.t (1024 * k + r) c
  pv : H b.pv fun r c => A.pv (1024 * k + r) c
  pg : H b.pg fun r c => A.pg (1024 * k + r) c
  ya : H b.ya fun r c => A.ya (1024 * k + r) c
  w : H3 b.w fun a r c => A.w (256 * a + r) c
  g : H b.g fun _ c => A.g c
  pw : H3 b.pw fun a r c => A.pw a r c
  ps : H b.ps fun _ c => A.ps c
  halo : H b.halo fun r c => padded (fun n => A.pv n c) (1024 * k + r)

/-- A function of the operands of the gated pool, at a grid point's own. -/
abbrev Blk.on (b : Blk) (i : grid0.Coords) {α : Type} (f : FVec Ideal S1024x512 .f32 → FVec Ideal S1024x128 .bf16 → FVec Ideal S1024x128 .f32 →
    FVec Ideal S1024x128 .f32 → FVec Ideal S1024x128 .f32 → FVec Ideal S128x128 .f32 → FVec Ideal S1x512 .f32 → α) : α :=
  f (k0_pay12 (F := Ideal) b.pg) (k0_pay22 (F := Ideal) (k0_pay11 b.pv) (k0_pay16 b.pv b.halo) (k0_pay21 i))
    (k0_pay24 (F := Ideal) (k0_pay11 b.pv) (k0_pay13 b.pv b.halo) (k0_pay18 i) (View.ld b.pw (Rect.unit ![0, 0, 0] ![1, 128, 128] inb_S4x128x128_S1x128x128_0_0_0)))
    (k0_pay25 (F := Ideal) (k0_pay11 b.pv) (k0_pay14 b.pv b.halo) (k0_pay19 i) (View.ld b.pw (Rect.unit ![1, 0, 0] ![1, 128, 128] inb_S4x128x128_S1x128x128_1_0_0)))
    (k0_pay26 (F := Ideal) (k0_pay11 b.pv) (k0_pay15 b.pv b.halo) (k0_pay20 i) (View.ld b.pw (Rect.unit ![2, 0, 0] ![1, 128, 128] inb_S4x128x128_S1x128x128_2_0_0)))
    (k0_pay27 (F := Ideal) (View.ld b.pw (Rect.unit ![3, 0, 0] ![1, 128, 128] inb_S4x128x128_S1x128x128_3_0_0))) b.ps

/-- Member `a` of the weights. -/
abbrev Blk.w0 (b : Blk) : Vec Ideal S1x256x1024 .bf16 := View.ld b.w (Rect.unit ![0, 0, 0] ![1, 256, 1024] inb_S4x256x1024_S1x256x1024_0_0_0)
abbrev Blk.w1 (b : Blk) : Vec Ideal S1x256x1024 .bf16 := View.ld b.w (Rect.unit ![1, 0, 0] ![1, 256, 1024] inb_S4x256x1024_S1x256x1024_1_0_0)
abbrev Blk.w2 (b : Blk) : Vec Ideal S1x256x1024 .bf16 := View.ld b.w (Rect.unit ![2, 0, 0] ![1, 256, 1024] inb_S4x256x1024_S1x256x1024_2_0_0)
abbrev Blk.w3 (b : Blk) : Vec Ideal S1x256x1024 .bf16 := View.ld b.w (Rect.unit ![3, 0, 0] ![1, 256, 1024] inb_S4x256x1024_S1x256x1024_3_0_0)

/-- The quarters of the mixer's output: upper rows, then lower. -/
abbrev Blk.u0 (b : Blk) (i : grid0.Coords) : Vec Ideal S512x256 .bf16 := b.on i (k0_pay30 (F := Ideal))
abbrev Blk.u1 (b : Blk) (i : grid0.Coords) : Vec Ideal S512x256 .bf16 := b.on i (k0_pay31 (F := Ideal))
abbrev Blk.u2 (b : Blk) : Vec Ideal S512x256 .bf16 := View.ld b.ya (Rect.unit ![0, 0] ![512, 256] inb_S1024x512_S512x256_0_0)
abbrev Blk.u3 (b : Blk) : Vec Ideal S512x256 .bf16 := View.ld b.ya (Rect.unit ![0, 256] ![512, 256] inb_S1024x512_S512x256_0_256)
abbrev Blk.l0 (b : Blk) (i : grid0.Coords) : Vec Ideal S512x256 .bf16 := b.on i (k0_pay32 (F := Ideal))
abbrev Blk.l1 (b : Blk) (i : grid0.Coords) : Vec Ideal S512x256 .bf16 := b.on i (k0_pay33 (F := Ideal))
abbrev Blk.l2 (b : Blk) : Vec Ideal S512x256 .bf16 := View.ld b.ya (Rect.unit ![512, 0] ![512, 256] inb_S1024x512_S512x256_512_0)
abbrev Blk.l3 (b : Blk) : Vec Ideal S512x256 .bf16 := View.ld b.ya (Rect.unit ![512, 256] ![512, 256] inb_S1024x512_S512x256_512_256)

abbrev Blk.xu (b : Blk) : Vec Ideal S512x1024 .f32 := View.ld b.x (Rect.unit ![0, 0] ![512, 1024] inb_S1024x1024_S512x1024_0_0)
abbrev Blk.xl (b : Blk) : Vec Ideal S512x1024 .f32 := View.ld b.x (Rect.unit ![512, 0] ![512, 1024] inb_S1024x1024_S512x1024_512_0)
abbrev Blk.tu (b : Blk) : Vec Ideal S512x1024 .f32 := View.ld b.t (Rect.unit ![0, 0] ![512, 1024] inb_S1024x1024_S512x1024_0_0)
abbrev Blk.tl (b : Blk) : Vec Ideal S512x1024 .f32 := View.ld b.t (Rect.unit ![512, 0] ![512, 1024] inb_S1024x1024_S512x1024_512_0)

/-- The residual stream, upper rows and lower. -/
abbrev Blk.x2u (b : Blk) (i : grid0.Coords) : FVec Ideal S512x1024 .f32 :=
  k0_pay36 (F := Ideal) (b.u1 i) b.u2 b.u3 (b.on i (fun v6 v60 v68 v72 v76 v78 v82 => k0_pay34 (F := Ideal) v6 v60 v68 v72 v76 v78 v82 b.xu b.w0)) (k0_pay35 b.w1)
    (constant S512x1024 .f32 0x00000000#32) b.w2 b.w3
abbrev Blk.squ (b : Blk) (i : grid0.Coords) : FVec Ideal S512x1 .f32 :=
  k0_pay38 (F := Ideal) (b.u1 i) b.u2 b.u3 (b.on i (fun v6 v60 v68 v72 v76 v78 v82 => k0_pay34 (F := Ideal) v6 v60 v68 v72 v76 v78 v82 b.xu b.w0)) (k0_pay35 b.w1)
    (constant S512x1024 .f32 0x00000000#32) b.w2 b.w3
abbrev Blk.x2l (b : Blk) (i : grid0.Coords) : FVec Ideal S512x1024 .f32 :=
  k0_pay37 (F := Ideal) (b.l0 i) (b.l1 i) b.l2 b.l3 b.xl b.w0 b.w1 b.w2 b.w3

/-- The gradient in the residual stream, upper rows and lower. -/
abbrev Blk.du (b : Blk) (i : grid0.Coords) : FVec Ideal S512x1024 .f32 :=
  k0_pay46 (F := Ideal) (k0_pay29 b.g) (b.x2u i) (b.squ i) k0_pay39 b.tu
abbrev Blk.dl (b : Blk) (i : grid0.Coords) : FVec Ideal S512x1024 .f32 :=
  k0_pay64 (F := Ideal) (k0_pay29 b.g) (b.x2l i) (k0_pay56 (b.x2l i)) k0_pay57 b.tl

variable {b : Blk} {A : Args} {k : ℕ} (h : b.Holds A k) {i : grid0.Coords} (hi : (i 0).val = k)

/-- A load of one member of a stack. -/
theorem member {G R C : ℕ} (g : ℕ) {x : Vec Ideal ⟨3, ![G, R, C]⟩ .f32} {f : ℕ → ℕ → ℕ → ℝ} (hx : H3 x f) (inb) :
    H3 (G := 1) (R := R) (C := C) (View.ld (Val := Elt Ideal) x (Rect.unit ![g, 0, 0] ![1, R, C] inb)) (fun _ r c => f g r c) := fun j => by
  have h0 : (j 0).val < 1 := (j 0).isLt
  rw [H3.ld g 0 0 hx inb j]; dsimp only; rw [Nat.zero_add, Nat.zero_add, show g + (j 0).val = g by omega]

theorem member16 {G R C : ℕ} (g : ℕ) {x : Vec Ideal ⟨3, ![G, R, C]⟩ .bf16} {f : ℕ → ℕ → ℕ → ℝ} (hx : H3 x f) (inb) :
    H3 (G := 1) (R := R) (C := C) (View.ld (Val := Elt Ideal) x (Rect.unit ![g, 0, 0] ![1, R, C] inb)) (fun _ r c => f g r c) := fun j => by
  have h0 : (j 0).val < 1 := (j 0).isLt
  rw [H3.ld16 g 0 0 hx inb j]; dsimp only; rw [Nat.zero_add, Nat.zero_add, show g + (j 0).val = g by omega]

theorem Y_pool (r c : ℕ) (hc : c < 512) : Y A r c = YP A r c := if_pos hc
theorem Y_attn (r c : ℕ) : Y A r (512 + c) = A.ya r c := by
  unfold Y; rw [if_neg (by omega), Nat.add_sub_cancel_left]

include h

theorem hw0 : HW A 0 b.w0 := member16 0 h.w _
theorem hw1 : HW A 1 b.w1 := member16 1 h.w _
theorem hw2 : HW A 2 b.w2 := member16 2 h.w _
theorem hw3 : HW A 3 b.w3 := member16 3 h.w _
theorem hu2 : HY A (1024 * k) 2 b.u2 := (H.ld16 0 0 h.ya inb_S1024x512_S512x256_0_0).congr fun r _ c _ => by
  rw [show 256 * 2 + c = 512 + c from rfl, Y_attn]; congr 1 <;> omega
theorem hu3 : HY A (1024 * k) 3 b.u3 := (H.ld16 0 256 h.ya inb_S1024x512_S512x256_0_256).congr fun r _ c _ => by
  rw [show 256 * 3 + c = 512 + (256 + c) by omega, Y_attn]; congr 1 <;> omega
theorem hl2 : HY A (1024 * k + 512) 2 b.l2 := (H.ld16 512 0 h.ya inb_S1024x512_S512x256_512_0).congr fun r _ c _ => by
  rw [show 256 * 2 + c = 512 + c from rfl, Y_attn]; congr 1 <;> omega
theorem hl3 : HY A (1024 * k + 512) 3 b.l3 := (H.ld16 512 256 h.ya inb_S1024x512_S512x256_512_256).congr fun r _ c _ => by
  rw [show 256 * 3 + c = 512 + (256 + c) by omega, Y_attn]; congr 1 <;> omega
theorem hxu : H b.xu fun r c => A.x (1024 * k + r) c := (H.ld 0 0 h.x inb_S1024x1024_S512x1024_0_0).congr fun r _ c _ => by congr 1 <;> omega
theorem hxl : H b.xl fun r c => A.x (1024 * k + 512 + r) c := (H.ld 512 0 h.x inb_S1024x1024_S512x1024_512_0).congr fun r _ c _ => by congr 1 <;> omega
theorem htu : H b.tu fun r c => A.t (1024 * k + r) c := (H.ld 0 0 h.t inb_S1024x1024_S512x1024_0_0).congr fun r _ c _ => by congr 1 <;> omega
theorem htl : H b.tl fun r c => A.t (1024 * k + 512 + r) c := (H.ld 512 0 h.t inb_S1024x1024_S512x1024_512_0).congr fun r _ c _ => by congr 1 <;> omega
theorem hg : H (k0_pay29 (F := Ideal) b.g) fun _ c => A.g c := h.g.cast _

include hi

theorem hyp : H (b.on i (k0_pay28 (F := Ideal))) (fun r c => YP A (1024 * k + r) c) :=
  gated h.pg (group3 h.pv h.halo hi) (group0 h.pv h.halo hi (member 0 h.pw _)) (group1 h.pv h.halo hi (member 1 h.pw _))
    (group2 h.pv h.halo hi (member 2 h.pw _)) (member 3 h.pw _) h.ps

theorem hu0 : HY A (1024 * k) 0 (b.u0 i) := ((hyp h hi).slice (n := 512) (m := 256) 0 0 (by decide)).congr fun r _ c _ => by
  rw [Y_pool _ _ (by omega)]; congr 1 <;> omega
theorem hu1 : HY A (1024 * k) 1 (b.u1 i) := ((hyp h hi).slice (n := 512) (m := 256) 0 256 (by decide)).congr fun r _ c _ => by
  rw [Y_pool _ _ (by omega)]; congr 1 <;> omega
theorem hl0 : HY A (1024 * k + 512) 0 (b.l0 i) := ((hyp h hi).slice (n := 512) (m := 256) 512 0 (by decide)).congr fun r _ c _ => by
  rw [Y_pool _ _ (by omega)]; congr 1 <;> omega
theorem hl1 : HY A (1024 * k + 512) 1 (b.l1 i) := ((hyp h hi).slice (n := 512) (m := 256) 512 256 (by decide)).congr fun r _ c _ => by
  rw [Y_pool _ _ (by omega)]; congr 1 <;> omega

theorem hx2u : H (b.x2u i) (fun r c => X2 A (1024 * k + r) c) :=
  x2_up (hu0 h hi) (hu1 h hi) (hu2 h) (hu3 h) (hw0 h) (hw1 h) (hw2 h) (hw3 h) (hxu h)
theorem hx2l : H (b.x2l i) (fun r c => X2 A (1024 * k + 512 + r) c) :=
  x2_low (hl0 h hi) (hl1 h hi) (hl2 h) (hl3 h) (hw0 h) (hw1 h) (hw2 h) (hw3 h) (hxl h)
theorem hsu : H (divf (b.squ i) (k0_pay39 (F := Ideal))) (fun r _ => (∑ c ∈ Finset.range 1024, X2 A (1024 * k + r) c * X2 A (1024 * k + r) c) / 1024) :=
  mean_sq (hx2u h hi)

theorem hdu : H (b.du i) (fun r c => DX2 A (1024 * k + r) c) := dx2 (hx2u h hi) (hsu h hi) eps_col (hg h) (htu h)
theorem hdl : H (b.dl i) (fun r c => DX2 A (1024 * k + 512 + r) c) := dx2 (hx2l h hi) (mean_sq (hx2l h hi)) eps_col (hg h) (htl h)

theorem hsq {z : FVec Ideal S1x1024 .f32} (hz : H z fun _ c => SQ A (1024 * k) c) :
    H (k0_pay61 (F := Ideal) (k0_pay29 b.g) (b.x2l i) (k0_pay56 (b.x2l i)) k0_pay57 b.tl
      (k0_pay43 (F := Ideal) (k0_pay29 b.g) (b.x2u i) (b.squ i) k0_pay39 b.tu z)) (fun _ c => SQ A (1024 * (k + 1)) c) :=
  squares (hx2l h hi) (mean_sq (hx2l h hi)) eps_col (hg h) (htl h) (squares (hx2u h hi) (hsu h hi) eps_col (hg h) (htu h) hz)

theorem hgg {z : FVec Ideal S1x1024 .f32} (hz : H z fun _ c => GG A (1024 * k) c) :
    H (k0_pay63 (F := Ideal) (k0_pay29 b.g) (b.x2l i) (k0_pay56 (b.x2l i)) k0_pay57 b.tl
      (k0_pay45 (F := Ideal) (k0_pay29 b.g) (b.x2u i) (b.squ i) k0_pay39 b.tu z)) (fun _ c => GG A (1024 * (k + 1)) c) :=
  gains (hx2l h hi) (mean_sq (hx2l h hi)) eps_col (hg h) (htl h) (gains (hx2u h hi) (hsu h hi) eps_col (hg h) (htu h) hz)

/-! ## The products, quarter by quarter -/

section GW

theorem gwu0 {z : FVec Ideal S1x256x1024 .f32} (hz : H3 z fun _ r c => GW A (1024 * k) (256 * 0 + r) c) :
    H3 (k0_pay48 (F := Ideal) (b.u0 i) (b.du i) z) (fun _ r c => GW A (1024 * k + 512) (256 * 0 + r) c) :=
  gw_add (hdu h hi) (hu0 h hi) hz
theorem gwl0 {z : FVec Ideal S1x256x1024 .f32} (hz : H3 z fun _ r c => GW A (1024 * k + 512) (256 * 0 + r) c) :
    H3 (k0_pay66 (F := Ideal) (b.l0 i) (k0_pay65 (k0_pay29 b.g) (b.x2l i) (k0_pay56 (b.x2l i)) k0_pay57 b.tl) z) (fun _ r c => GW A (1024 * (k + 1)) (256 * 0 + r) c) :=
  gw_add (hdl h hi) (hl0 h hi) hz

theorem gwu1 {z : FVec Ideal S1x256x1024 .f32} (hz : H3 z fun _ r c => GW A (1024 * k) (256 * 1 + r) c) :
    H3 (k0_pay50 (F := Ideal) (b.u1 i) (b.du i) z) (fun _ r c => GW A (1024 * k + 512) (256 * 1 + r) c) :=
  gw_add (hdu h hi) (hu1 h hi) hz
theorem gwl1 {z : FVec Ideal S1x256x1024 .f32} (hz : H3 z fun _ r c => GW A (1024 * k + 512) (256 * 1 + r) c) :
    H3 (k0_pay68 (F := Ideal) (b.l1 i) (k0_pay65 (k0_pay29 b.g) (b.x2l i) (k0_pay56 (b.x2l i)) k0_pay57 b.tl) z) (fun _ r c => GW A (1024 * (k + 1)) (256 * 1 + r) c) :=
  gw_add (hdl h hi) (hl1 h hi) hz

theorem gwu2 {z : FVec Ideal S1x256x1024 .f32} (hz : H3 z fun _ r c => GW A (1024 * k) (256 * 2 + r) c) :
    H3 (k0_pay52 (F := Ideal) b.u2 (k0_pay47 (b.du i)) z) (fun _ r c => GW A (1024 * k + 512) (256 * 2 + r) c) :=
  gw_add (hdu h hi) (hu2 h) hz
theorem gwl2 {z : FVec Ideal S1x256x1024 .f32} (hz : H3 z fun _ r c => GW A (1024 * k + 512) (256 * 2 + r) c) :
    H3 (k0_pay71 (F := Ideal) b.l2 (k0_pay65 (k0_pay29 b.g) (b.x2l i) (k0_pay56 (b.x2l i)) k0_pay57 b.tl) (k0_pay70 z) (constant S256x1024 .f32 0x00000000#32)) (fun _ r c => GW A (1024 * (k + 1)) (256 * 2 + r) c) :=
  gw_add (hdl h hi) (hl2 h) hz

theorem gwu3 {z : FVec Ideal S1x256x1024 .f32} (hz : H3 z fun _ r c => GW A (1024 * k) (256 * 3 + r) c) :
    H3 (k0_pay54 (F := Ideal) b.u3 (k0_pay47 (b.du i)) z) (fun _ r c => GW A (1024 * k + 512) (256 * 3 + r) c) :=
  gw_add (hdu h hi) (hu3 h) hz
theorem gwl3 {z : FVec Ideal S1x256x1024 .f32} (hz : H3 z fun _ r c => GW A (1024 * k + 512) (256 * 3 + r) c) :
    H3 (k0_pay73 (F := Ideal) b.l3 (k0_pay65 (k0_pay29 b.g) (b.x2l i) (k0_pay56 (b.x2l i)) k0_pay57 b.tl) z) (fun _ r c => GW A (1024 * (k + 1)) (256 * 3 + r) c) :=
  gw_add (hdl h hi) (hl3 h) hz

end GW

section DY

variable {w : FVec Ideal S1x1024x256 .bf16}

theorem dyu0 (hw : H3 w fun _ c r => A.w (256 * 0 + r) c) :
    H (k0_pay49 (F := Ideal) (b.du i) w) (fun r j => DY A (1024 * k + (0 + r)) (0 + j)) :=
  (dy_part (hdu h hi) hw).congr fun r _ c _ => by congr 1; omega
theorem dyl0 (hw : H3 w fun _ c r => A.w (256 * 0 + r) c) :
    H (k0_pay67 (F := Ideal) (k0_pay65 (k0_pay29 b.g) (b.x2l i) (k0_pay56 (b.x2l i)) k0_pay57 b.tl) w) (fun r j => DY A (1024 * k + (512 + r)) (0 + j)) :=
  (dy_part (hdl h hi) hw).congr fun r _ c _ => by congr 1; omega

theorem dyu1 (hw : H3 w fun _ c r => A.w (256 * 1 + r) c) :
    H (k0_pay51 (F := Ideal) (b.du i) w) (fun r j => DY A (1024 * k + (0 + r)) (256 + j)) :=
  (dy_part (hdu h hi) hw).congr fun r _ c _ => by congr 1; omega
theorem dyl1 (hw : H3 w fun _ c r => A.w (256 * 1 + r) c) :
    H (k0_pay69 (F := Ideal) (k0_pay65 (k0_pay29 b.g) (b.x2l i) (k0_pay56 (b.x2l i)) k0_pay57 b.tl) w) (fun r j => DY A (1024 * k + (512 + r)) (256 + j)) :=
  (dy_part (hdl h hi) hw).congr fun r _ c _ => by congr 1; omega

theorem dyu2 (hw : H3 w fun _ c r => A.w (256 * 2 + r) c) :
    H (k0_pay53 (F := Ideal) (k0_pay47 (b.du i)) w) (fun r j => DY A (1024 * k + (0 + r)) (512 + j)) :=
  (dy_part (hdu h hi) hw).congr fun r _ c _ => by congr 1; omega
theorem dyl2 (hw : H3 w fun _ c r => A.w (256 * 2 + r) c) :
    H (k0_pay72 (F := Ideal) (k0_pay65 (k0_pay29 b.g) (b.x2l i) (k0_pay56 (b.x2l i)) k0_pay57 b.tl) w) (fun r j => DY A (1024 * k + (512 + r)) (512 + j)) :=
  (dy_part (hdl h hi) hw).congr fun r _ c _ => by congr 1; omega

theorem dyu3 (hw : H3 w fun _ c r => A.w (256 * 3 + r) c) :
    H (k0_pay55 (F := Ideal) (k0_pay47 (b.du i)) w) (fun r j => DY A (1024 * k + (0 + r)) (768 + j)) :=
  (dy_part (hdu h hi) hw).congr fun r _ c _ => by congr 1; omega
theorem dyl3 (hw : H3 w fun _ c r => A.w (256 * 3 + r) c) :
    H (k0_pay74 (F := Ideal) (k0_pay65 (k0_pay29 b.g) (b.x2l i) (k0_pay56 (b.x2l i)) k0_pay57 b.tl) w) (fun r j => DY A (1024 * k + (512 + r)) (768 + j)) :=
  (dy_part (hdl h hi) hw).congr fun r _ c _ => by congr 1; omega

end DY

end Cert.KernelIdeal.Tile
-- ==== Proof.Boxes.lean ====
/-
  What a list of writes of boxes leaves, box by box: a matrix written in blocks, a stack written member by member.
-/
module

public import Idealize.ShloMosaic.Lib.Pipeline.Value
public import Idealize.ShloMosaic.Lib.ValueIdxCore
public import Idealize.ShloMosaic.Lib.Tactic

@[expose] public section

noncomputable section

namespace Cert.Boxes

open Idealize.ShloMosaic Idealize.ShloMosaic.ValueIdx

variable {Val : EltTy → Type} [∀ e, Nonempty (Val e)] {e : EltTy}

/-- What is read of writes over nothing, through a box. -/
theorem readCov_apply {sig : RefSig} {κ : Kind} {sp : Space} {S : Shape} (v : View sig κ sp S e)
    (L : List (View.Piece Val S e)) (r : Rect S) (j : r.shape.Idx) : v.readCov L r.toLoadRect j = View.canon L (r.emb j) :=
  View.read_writes_junk_apply_eq_canon v _ L

/-- Read whole, the last whole write. -/
theorem readCov_cons_zero {sig : RefSig} {κ : Kind} {sp : Space} {S : Shape} (v : View sig κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  funext j
  rw [readCov_apply]
  exact View.canon_cons_emb (Val := Val) (Rect.unit off S.size inb) w L j

theorem emb_val {S : Shape} (off size : Fin S.rank → ℕ) (inb) (j : (Rect.unit (s := S) off size inb).shape.Idx) (a : Fin S.rank) :
    ((Rect.unit (s := S) off size inb).emb j a).val = off a + (j a).val := by
  show off a + 1 * (j a).val = _
  rw [Nat.one_mul]

/-! ## Stacks -/

section Stack

variable {G R C : ℕ}

/-- The writes `L` leave `T` in member `a`. -/
def Member (L : List (View.Piece Val ⟨3, ![G, R, C]⟩ e)) (a : ℕ) (T : ℕ → ℕ → Val e) : Prop :=
  ∀ i, (i 0).val = a → View.canon L i = T (i 1).val (i 2).val

theorem Member.hit {a : ℕ} {T : ℕ → ℕ → Val e} {L : List (View.Piece Val ⟨3, ![G, R, C]⟩ e)} {inb}
    {w : (⟨3, ![1, R, C]⟩ : Shape).Idx → Val e} (h : ∀ j, w j = T (j 1).val (j 2).val) :
    Member ((⟨Rect.unit ![a, 0, 0] ![1, R, C] inb, w⟩ : View.Piece Val ⟨3, ![G, R, C]⟩ e) :: L) a T := fun i hi => by
  have hj : i = (Rect.unit (s := ⟨3, ![G, R, C]⟩) ![a, 0, 0] ![1, R, C] inb).emb (ix3 (0 : Fin 1) (i 1) (i 2)) := funext fun ax => Fin.ext (by
    rw [emb_val]
    match ax with
    | ⟨0, _⟩ => exact hi
    | ⟨1, _⟩ => exact (Nat.zero_add _).symm
    | ⟨2, _⟩ => exact (Nat.zero_add _).symm)
  conv_lhs => rw [hj]
  rw [View.canon_cons_emb]
  exact h _

theorem Member.miss {a g : ℕ} {T : ℕ → ℕ → Val e} {L : List (View.Piece Val ⟨3, ![G, R, C]⟩ e)} {inb}
    {w : (⟨3, ![1, R, C]⟩ : Shape).Idx → Val e} (n : a ≠ g) (h : Member L a T) :
    Member ((⟨Rect.unit ![g, 0, 0] ![1, R, C] inb, w⟩ : View.Piece Val ⟨3, ![G, R, C]⟩ e) :: L) a T := fun i hi => by
  rw [View.canon_cons_of_not_mem]
  · exact h i hi
  · intro hm
    have := (Rect.mem_set_unit (inb := inb).mp hm) 0
    simp at this
    omega

theorem Member.whole {a : ℕ} {T : ℕ → ℕ → Val e} {L : List (View.Piece Val ⟨3, ![G, R, C]⟩ e)} {inb}
    {w : (⟨3, ![G, R, C]⟩ : Shape).Idx → Val e} (h : ∀ j, w j = T (j 1).val (j 2).val) :
    Member ((⟨Rect.unit ![0, 0, 0] ![G, R, C] inb, w⟩ : View.Piece Val ⟨3, ![G, R, C]⟩ e) :: L) a T := fun i hi => by
  have : View.canon ((⟨Rect.unit ![0, 0, 0] ![G, R, C] inb, w⟩ : View.Piece Val ⟨3, ![G, R, C]⟩ e) :: L) = w :=
    View.canon_cons_unit_zero (S := ⟨3, ![G, R, C]⟩) (funext fun a => by fin_cases a <;> rfl) inb w L
  rw [this]
  exact h i

theorem Member.read {a : ℕ} {T : ℕ → ℕ → Val e} {L : List (View.Piece Val ⟨3, ![G, R, C]⟩ e)} {inb}
    {sig : RefSig} {κ : Kind} {sp : Space} {v : View sig κ sp ⟨3, ![G, R, C]⟩ e} (h : Member L a T) :
    ∀ j : (⟨3, ![1, R, C]⟩ : Shape).Idx, v.readCov L (Rect.unit (s := ⟨3, ![G, R, C]⟩) ![a, 0, 0] ![1, R, C] inb).toLoadRect j = T (j 1).val (j 2).val := fun j => by
  rw [readCov_apply, h _ (by
    rw [emb_val]
    have : (j 0).val < 1 := (j 0).isLt
    show a + (j 0).val = a
    omega), emb_val, emb_val]
  show T (0 + (j 1).val) (0 + (j 2).val) = _
  rw [Nat.zero_add, Nat.zero_add]

end Stack

/-! ## Matrices -/

section Matrix

variable {R C n m : ℕ}

/-- The writes `L` leave `T` in the `n × m` block at `(a, b)`. -/
def Block (n m : ℕ) (L : List (View.Piece Val ⟨2, ![R, C]⟩ e)) (a b : ℕ) (T : ℕ → ℕ → Val e) : Prop :=
  ∀ i, a ≤ (i 0).val → (i 0).val < a + n → b ≤ (i 1).val → (i 1).val < b + m → View.canon L i = T (i 0).val (i 1).val

theorem Block.hit {a b : ℕ} {T : ℕ → ℕ → Val e} {L : List (View.Piece Val ⟨2, ![R, C]⟩ e)} {inb}
    {w : (⟨2, ![n, m]⟩ : Shape).Idx → Val e} (h : ∀ j, w j = T (a + (j 0).val) (b + (j 1).val)) :
    Block n m ((⟨Rect.unit ![a, b] ![n, m] inb, w⟩ : View.Piece Val ⟨2, ![R, C]⟩ e) :: L) a b T := fun i h0 h1 h2 h3 => by
  have hj : i = (Rect.unit (s := ⟨2, ![R, C]⟩) ![a, b] ![n, m] inb).emb
      (ix2 (⟨(i 0).val - a, by omega⟩ : Fin n) (⟨(i 1).val - b, by omega⟩ : Fin m)) := funext fun ax => Fin.ext (by
    rw [emb_val]
    match ax with
    | ⟨0, _⟩ => exact (Nat.add_sub_cancel' h0).symm
    | ⟨1, _⟩ => exact (Nat.add_sub_cancel' h2).symm)
  conv_lhs => rw [hj]
  rw [View.canon_cons_emb, h]
  show T (a + ((i 0).val - a)) (b + ((i 1).val - b)) = _
  rw [Nat.add_sub_cancel' h0, Nat.add_sub_cancel' h2]

theorem Block.miss {a b a' b' : ℕ} {T : ℕ → ℕ → Val e} {L : List (View.Piece Val ⟨2, ![R, C]⟩ e)} {inb}
    {w : (⟨2, ![n, m]⟩ : Shape).Idx → Val e} (d : a + n ≤ a' ∨ a' + n ≤ a ∨ b + m ≤ b' ∨ b' + m ≤ b) (h : Block n m L a b T) :
    Block n m ((⟨Rect.unit ![a', b'] ![n, m] inb, w⟩ : View.Piece Val ⟨2, ![R, C]⟩ e) :: L) a b T := fun i h0 h1 h2 h3 => by
  rw [View.canon_cons_of_not_mem]
  · exact h i h0 h1 h2 h3
  · intro hm
    have e0 := (Rect.mem_set_unit (inb := inb).mp hm) 0
    have e1 := (Rect.mem_set_unit (inb := inb).mp hm) 1
    simp at e0 e1
    omega

end Matrix

end Cert.Boxes
-- ==== Proof.KStep.lean ====
/-
  What each grid point of `out_loss` leaves: its rows of the two row outputs, and the running sums.
-/
module

public import proofs.«01_k».proof.Proof.KBlock
public import proofs.«01_k».proof.Proof.Boxes

@[expose] public section

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.Holds Cert.Spec Cert.Consts Cert.Boxes
open scoped BigOperators

theorem hz2 : (![0, 0] : Fin 2 → Nat) = fun _ => 0 := funext fun a => by fin_cases a <;> rfl

theorem _root_.Cert.Holds.H.eq {R C : ℕ} {x y : (⟨2, ![R, C]⟩ : Shape).Idx → EReal} {f : ℕ → ℕ → ℝ} (e : x = y) (h : H y f) : H x f := e ▸ h
theorem _root_.Cert.Holds.H3.eq {G R C : ℕ} {x y : (⟨3, ![G, R, C]⟩ : Shape).Idx → EReal} {f : ℕ → ℕ → ℕ → ℝ} (e : x = y) (h : H3 y f) : H3 x f := e ▸ h

/-- Both halves of the rows make the matrix. -/
theorem halves {L : List (View.Piece (Elt Ideal) S1024x1024 .f32)} {T : ℕ → ℕ → EReal}
    (hu : Block 512 1024 L 0 0 T) (hl : Block 512 1024 L 512 0 T) (y : S1024x1024.Idx) : View.canon L y = T (y 0).val (y 1).val := by
  have h0 := idx2_lt0 y; have h1 := idx2_lt1 y
  by_cases h : (y 0).val < 512
  · exact hu y (by omega) (by omega) (by omega) (by omega)
  · exact hl y (by omega) (by omega) (by omega) (by omega)

/-- The eight blocks of 512 rows and 256 columns make the matrix. -/
theorem eighths {L : List (View.Piece (Elt Ideal) S1024x1024 .bf16)} {T : ℕ → ℕ → EReal}
    (h00 : Block 512 256 L 0 0 T) (h01 : Block 512 256 L 0 256 T) (h02 : Block 512 256 L 0 512 T) (h03 : Block 512 256 L 0 768 T)
    (h10 : Block 512 256 L 512 0 T) (h11 : Block 512 256 L 512 256 T) (h12 : Block 512 256 L 512 512 T) (h13 : Block 512 256 L 512 768 T)
    (y : S1024x1024.Idx) : View.canon L y = T (y 0).val (y 1).val := by
  have h0 := idx2_lt0 y; have h1 := idx2_lt1 y
  have key : ∀ a < 2, ∀ b < 4, Block 512 256 L (512 * a) (256 * b) T := fun a ha b hb => by
    interval_cases a <;> interval_cases b <;> assumption
  exact key ((y 0).val / 512) (by omega) ((y 1).val / 256) (by omega) y (by omega) (by omega) (by omega) (by omega)

/-- The four members make the stack. -/
theorem quarters {R C : ℕ} {L : List (View.Piece (Elt Ideal) ⟨3, ![4, R, C]⟩ .f32)} {T : ℕ → ℕ → ℕ → EReal} (h0 : Member L 0 (T 0)) (h1 : Member L 1 (T 1))
    (h2 : Member L 2 (T 2)) (h3 : Member L 3 (T 3)) (y : (⟨3, ![4, R, C]⟩ : Shape).Idx) : View.canon L y = T (y 0).val (y 1).val (y 2).val := by
  have h : (y 0).val < 4 := (y 0).isLt
  have key : ∀ a < 4, Member L a (T a) := fun a ha => by interval_cases a <;> assumption
  exact key _ h y rfl

theorem quarters16 {R C : ℕ} {L : List (View.Piece (Elt Ideal) ⟨3, ![4, R, C]⟩ .bf16)} {T : ℕ → ℕ → ℕ → EReal} (h0 : Member L 0 (T 0)) (h1 : Member L 1 (T 1))
    (h2 : Member L 2 (T 2)) (h3 : Member L 3 (T 3)) (y : (⟨3, ![4, R, C]⟩ : Shape).Idx) : View.canon L y = T (y 0).val (y 1).val (y 2).val := by
  have h : (y 0).val < 4 := (y 0).isLt
  have key : ∀ a < 4, Member L a (T a) := fun a ha => by interval_cases a <;> assumption
  exact key _ h y rfl

theorem read3 {G R C a : ℕ} {f : ℕ → ℕ → ℝ} {L : List (View.Piece (Elt Ideal) ⟨3, ![G, R, C]⟩ .f32)} {inb} {sig : RefSig} {κ : Kind} {sp : Space}
    {v : View sig κ sp ⟨3, ![G, R, C]⟩ .f32} (h : Member L a fun r c => ((f r c : ℝ) : EReal)) :
    H3 (G := 1) (R := R) (C := C) (v.readCov L (Rect.unit (s := ⟨3, ![G, R, C]⟩) ![a, 0, 0] ![1, R, C] inb).toLoadRect) (fun _ r c => f r c) := h.read

theorem read16 {G R C a : ℕ} {f : ℕ → ℕ → ℝ} {L : List (View.Piece (Elt Ideal) ⟨3, ![G, R, C]⟩ .bf16)} {inb} {sig : RefSig} {κ : Kind} {sp : Space}
    {v : View sig κ sp ⟨3, ![G, R, C]⟩ .bf16} (h : Member L a fun r c => ((f r c : ℝ) : EReal)) :
    H3 (G := 1) (R := R) (C := C) (v.readCov L (Rect.unit (s := ⟨3, ![G, R, C]⟩) ![a, 0, 0] ![1, R, C] inb).toLoadRect) (fun _ r c => f r c) := h.read

variable (m : (ℓ : Loc nD τ sig) → Buf (Elt Ideal) ℓ) (c : Dev nD)

/-- The blocks of grid point `t`, with the sixteen rows `halo`. -/
abbrev blk (t : Fin cfg0.N) (halo : Vec Ideal S16x512 .f32) : Blk where
  x := iblk m c 0 t
  t := iblk m c 1 t
  pv := iblk m c 2 t
  pg := iblk m c 3 t
  ya := iblk m c 4 t
  w := iblk m c 5 t
  g := iblk m c 6 t
  pw := iblk m c 7 t
  ps := iblk m c 8 t
  halo := halo

/-- What stands after grid point `n`. -/
structure Post (A : Args) (n : ℕ) (hn : n < cfg0.N) : Prop where
  dx2 : H (outsAt0 m c n hn).1 fun r k => DX2 A (1024 * n + r) k
  dy : H (outsAt0 m c n hn).2.1 fun r k => DY A (1024 * n + r) k
  gw : H3 (outsAt0 m c n hn).2.2.1 fun g k j => GW A (1024 * (n + 1)) (256 * g + k) j
  gg : H (outsAt0 m c n hn).2.2.2.1 fun _ j => GG A (1024 * (n + 1)) j
  sq : H (outsAt0 m c n hn).2.2.2.2.2.1 fun _ j => SQ A (1024 * (n + 1)) j
  halo : H (outsAt0 m c n hn).2.2.2.2.2.2.1 fun r j => padded (fun k => A.pv k j) (1024 * (n + 1) + r)
  wt : H3 (outsAt0 m c n hn).2.2.2.2.2.2.2 fun g j k => A.w (256 * g + k) j

variable {m c} {A : Args}

theorem coords_val (t : Fin cfg0.N) : ((grid0.coords t) 0).val = t.val := by
  have : t.val < 8 := t.isLt
  revert t; decide

section Step

variable {t : Fin cfg0.N}

theorem n_pred (h0 : ¬t.val % 8 = 0) : t.val - 1 + 1 = t.val := by omega
theorem n_zero (h0 : t.val % 8 = 0) : t.val = 0 := by have : t.val < 8 := t.isLt; omega

theorem gw_zero (h0 : t.val % 8 = 0) (g : ℕ) (j : S4x256x1024.Idx) :
    k0_pay2 (F := Ideal) j = ((GW A (1024 * t.val) (256 * g + (j 1).val) (j 2).val : ℝ) : EReal) := by
  rw [n_zero h0]; exact c0.trans (by simp [GW])
theorem gg_zero (h0 : t.val % 8 = 0) : H (k0_pay3 (F := Ideal)) (fun _ j => GG A (1024 * t.val) j) := by
  rw [n_zero h0]; exact (H.splat c0).congr fun _ _ _ _ => by simp [GG]
theorem sq_zero (h0 : t.val % 8 = 0) : H (k0_pay4 (F := Ideal)) (fun _ j => SQ A (1024 * t.val) j) := by
  rw [n_zero h0]; exact ((H.splat c0).cast _).congr fun _ _ _ _ => by simp [SQ]

variable {hal : Vec Ideal S16x512 .f32} (hb : (blk m c t hal).Holds A t.val)

include hb

/-- The last sixteen rows of the tile, kept for the next one. -/
theorem halo_next : H (k0_pay23 (F := Ideal) (k0_pay11 (iblk m c 2 t))) fun r j => padded (fun n => A.pv n j) (1024 * (t.val + 1) + r) :=
  (((hb.pv.extf _).slice 1008 0 (by decide)).cast _).congr fun r _ j _ => by
    unfold padded; rw [if_neg (by omega)]; congr 1 <;> omega

omit hb in
theorem wt0 {v : Vec Ideal S1x256x1024 .bf16} (h : HW A 0 v) : H3 (k0_pay6 (F := Ideal) v) fun _ j k => A.w (256 * 0 + k) j :=
  ((h.member _).transpose _).stack _
omit hb in
theorem wt1 {v : Vec Ideal S1x256x1024 .bf16} (h : HW A 1 v) : H3 (k0_pay7 (F := Ideal) v) fun _ j k => A.w (256 * 1 + k) j :=
  ((h.member _).transpose _).stack _
omit hb in
theorem wt2 {v : Vec Ideal S1x256x1024 .bf16} (h : HW A 2 v) : H3 (k0_pay9 (F := Ideal) (k0_pay8 v)) fun _ j k => A.w (256 * 2 + k) j :=
  ((h.member _).transpose _).stack _
omit hb in
theorem wt3 {v : Vec Ideal S1x256x1024 .bf16} (h : HW A 3 v) : H3 (k0_pay10 (F := Ideal) v) fun _ j k => A.w (256 * 3 + k) j :=
  ((h.member _).transpose _).stack _

end Step

theorem post_A {t : Fin cfg0.N} (h0 : t.val % 8 = 0) (hb : (blk m c t (k0_pay5 (F := Ideal))).Holds A t.val) : Post m c A t.val t.isLt := by
  have hi := coords_val t
  have hu := (hdu hb hi).congr (g := fun r k => DX2 A (1024 * t.val + (0 + r)) (0 + k)) fun r _ k _ => by congr 1 <;> omega
  have hl := (hdl hb hi).congr (g := fun r k => DX2 A (1024 * t.val + (512 + r)) (0 + k)) fun r _ k _ => by congr 1 <;> omega
  constructor
  all_goals
    rw [outsAt0_A m c t h0 (by omega)]
    dsimp only
  · unfold out0_A_9; refine H.eq (View.read_writes_eq_canon _ _ _ (fun y => by exact cover0_A_9 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    exact halves (T := fun r k => ((DX2 A (1024 * t.val + r) k : ℝ) : EReal)) (.miss (by decide) (.hit (by with_reducible exact hu)))
      (.hit (by with_reducible exact hl))
  · unfold out0_A_10; refine H.eq (View.read_writes_eq_canon _ _ _ (fun y => by exact cover0_A_10 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine eighths (T := fun r j => ((DY A (1024 * t.val + r) j : ℝ) : EReal)) ?_ ?_ ?_ ?_ ?_ ?_ ?_ ?_
    all_goals
      repeat refine .miss (by decide) ?_
      with_reducible first
        | refine .hit (dyu0 hb hi ?_) | refine .hit (dyu1 hb hi ?_) | refine .hit (dyu2 hb hi ?_) | refine .hit (dyu3 hb hi ?_)
        | refine .hit (dyl0 hb hi ?_) | refine .hit (dyl1 hb hi ?_) | refine .hit (dyl2 hb hi ?_) | refine .hit (dyl3 hb hi ?_)
      refine read16 ?_
      repeat refine .miss (by decide) ?_
      with_reducible first
        | exact .hit (wt0 (hw0 hb)) | exact .hit (wt1 (hw1 hb)) | exact .hit (wt2 (hw2 hb)) | exact .hit (wt3 (hw3 hb))
  · unfold out0_A_11; refine H3.eq (View.read_writes_eq_canon _ _ _ (fun y => by exact cover0_A_11 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine quarters (T := fun g r j => ((GW A (1024 * (t.val + 1)) (256 * g + r) j : ℝ) : EReal)) ?_ ?_ ?_ ?_
    all_goals
      repeat refine .miss (by decide) ?_
      with_reducible first
        | refine .hit (gwl0 hb hi ?_) | refine .hit (gwl1 hb hi ?_) | refine .hit (gwl2 hb hi ?_) | refine .hit (gwl3 hb hi ?_)
      refine read3 ?_
      repeat refine .miss (by decide) ?_
      with_reducible first
        | refine .hit (gwu0 hb hi ?_) | refine .hit (gwu1 hb hi ?_) | refine .hit (gwu2 hb hi ?_) | refine .hit (gwu3 hb hi ?_)
      refine read3 ?_
      repeat refine .miss (by decide) ?_
      exact .whole (gw_zero h0 _)
  · unfold out0_A_12; refine H.eq (View.read_writes_eq_canon _ _ _ (fun y => by exact cover0_A_12 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine H.eq (View.canon_cons_unit_zero (S := S1x1024) hz2 _ _ _) ?_
    have := hgg hb hi (gg_zero h0)
    with_reducible exact this
  · unfold sout0_A_0; refine H.eq (View.read_writes_eq_canon _ _ _ (fun y => by exact scover0_A_0 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine H.eq (View.canon_cons_unit_zero (S := S1x1024) hz2 _ _ _) ?_
    have := hsq hb hi (sq_zero h0)
    with_reducible exact this
  · unfold sout0_A_1; refine H.eq (View.read_writes_eq_canon _ _ _ (fun y => by exact scover0_A_1 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine H.eq (View.canon_cons_unit_zero (S := S16x512) hz2 _ _ _) ?_
    exact halo_next hb
  · unfold sout0_A_2; refine H3.eq (View.read_writes_eq_canon _ _ _ (fun y => by exact scover0_A_2 ..)) ?_
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_11 t).read_unread, (hs0_12 t).read_unread, (Memref.isWhole_whole _).read_unread, View.ld_unit_zero (S := S1024x512) hz2,
      View.ld_unit_zero (S := S1x1024) hz2, View.ld_unit_zero (S := S1x512) hz2, View.ld_unit_zero (S := S16x512) hz2,
      readCov_cons_zero (S := S16x512) _ hz2, readCov_cons_zero (S := S1x1024) _ hz2]
    refine quarters16 (T := fun g j k => ((A.w (256 * g + k) j : ℝ) : EReal)) ?_ ?_ ?_ ?_
    all_goals
      repeat refine .miss (by decide) ?_
      with_reducible first
        | exact .hit (wt0 (hw0 hb)) | exact .hit (wt1 (hw1 hb)) | exact .hit (wt2 (hw2 hb)) | exact .hit (wt3 (hw3 hb))

set_option maxHeartbeats 4000000

/-- The point before `t`. -/
abbrev before (t : Fin cfg0.N) : t.val - 1 < cfg0.N := Nat.lt_of_le_of_lt (Nat.sub_le _ _) t.isLt

theorem post_BC {t : Fin cfg0.N} (h0 : ¬t.val % 8 = 0) (hp : Post m c A (t.val - 1) (before t))
    (hb : (blk m c t (outsAt0 m c (t.val - 1) (before t)).2.2.2.2.2.2.1).Holds A t.val) : Post m c A t.val t.isLt := by
  have hi := coords_val t
  have hu := (hdu hb hi).congr (g := fun r k => DX2 A (1024 * t.val + (0 + r)) (0 + k)) fun r _ k _ => by congr 1 <;> omega
  have hl := (hdl hb hi).congr (g := fun r k => DX2 A (1024 * t.val + (512 + r)) (0 + k)) fun r _ k _ => by congr 1 <;> omega
  obtain ⟨_, _, pgw, pgg, psq, _, pwt⟩ := hp
  rw [n_pred h0] at pgw pgg psq
  have ngg := hgg hb hi pgg
  have nsq := hsq hb hi psq
  by_cases h1 : t.val % 8 = 7
  · refine ⟨?_, ?_, ?_, ?_, ?_, ?_, by rw [outsAt0_C m c t h0 h1]; exact pwt⟩
    all_goals
      rw [outsAt0_C m c t h0 h1]
      dsimp only
    on_goal 1 => unfold out0_C_9; refine H.eq (View.read_writes_eq_canon _ _ _ (fun y => by exact cover0_C_9 ..)) ?_
    rotate_left
    on_goal 1 => unfold out0_C_10; refine H.eq (View.read_writes_eq_canon _ _ _ (fun y => by exact cover0_C_10 ..)) ?_
    rotate_left
    on_goal 1 => unfold out0_C_11; refine H3.eq (View.read_writes_eq_canon _ _ _ (fun y => by exact cover0_C_11 ..)) ?_
    rotate_left
    on_goal 1 => unfold out0_C_12; refine H.eq (View.read_writes_eq_canon _ _ _ (fun y => by exact cover0_C_12 ..)) ?_
    rotate_left
    on_goal 1 => unfold sout0_C_0; refine H.eq (View.read_writes_eq_canon _ _ _ (fun y => by exact scover0_C_0 ..)) ?_
    rotate_left
    on_goal 1 => unfold sout0_C_1; refine H.eq (View.read_writes_eq_canon _ _ _ (fun y => by exact scover0_C_1 ..)) ?_
    rotate_left
    all_goals unfold kernelRun0_C
    all_goals dsimp only
    all_goals sl_unfold_words
    all_goals simp only [View.readAt_eq_ld, (hs0_0 t).read_unread, (hs0_1 t).read_unread, (hs0_2 t).read_unread, (hs0_3 t).read_unread,
        (hs0_4 t).read_unread, (hs0_5 t).read_unread, (hs0_6 t).read_unread, (hs0_7 t).read_unread, (hs0_8 t).read_unread,
        (hs0_11 t).read_unread, (hs0_12 t).read_unread, (Memref.isWhole_whole _).read_unread, View.ld_unit_zero (S := S1024x512) hz2,
        View.ld_unit_zero (S := S1x1024) hz2, View.ld_unit_zero (S := S1x512) hz2, View.ld_unit_zero (S := S16x512) hz2,
        readCov_cons_zero (S := S16x512) _ hz2, readCov_cons_zero (S := S1x1024) _ hz2]
    · exact halves (T := fun r k => ((DX2 A (1024 * t.val + r) k : ℝ) : EReal)) (.miss (by decide) (.hit (by with_reducible exact hu)))
        (.hit (by with_reducible exact hl))
    · refine eighths (T := fun r j => ((DY A (1024 * t.val + r) j : ℝ) : EReal)) ?_ ?_ ?_ ?_ ?_ ?_ ?_ ?_
      all_goals
        repeat refine .miss (by decide) ?_
        with_reducible first
          | refine .hit (dyu0 hb hi (member16 0 pwt _)) | refine .hit (dyu1 hb hi (member16 1 pwt _))
          | refine .hit (dyu2 hb hi (member16 2 pwt _)) | refine .hit (dyu3 hb hi (member16 3 pwt _))
          | refine .hit (dyl0 hb hi (member16 0 pwt _)) | refine .hit (dyl1 hb hi (member16 1 pwt _))
          | refine .hit (dyl2 hb hi (member16 2 pwt _)) | refine .hit (dyl3 hb hi (member16 3 pwt _))
    · refine quarters (T := fun g r j => ((GW A (1024 * (t.val + 1)) (256 * g + r) j : ℝ) : EReal)) ?_ ?_ ?_ ?_
      all_goals
        repeat refine .miss (by decide) ?_
        with_reducible first
          | refine .hit (gwl0 hb hi ?_) | refine .hit (gwl1 hb hi ?_) | refine .hit (gwl2 hb hi ?_) | refine .hit (gwl3 hb hi ?_)
        refine read3 ?_
        repeat refine .miss (by decide) ?_
        with_reducible first
          | exact .hit (gwu0 hb hi (member 0 pgw _)) | exact .hit (gwu1 hb hi (member 1 pgw _))
          | exact .hit (gwu2 hb hi (member 2 pgw _)) | exact .hit (gwu3 hb hi (member 3 pgw _))
    · refine H.eq (View.canon_cons_unit_zero (S := S1x1024) hz2 _ _ _) ?_
      with_reducible exact ngg
    · refine H.eq (View.canon_cons_unit_zero (S := S1x1024) hz2 _ _ _) ?_
      with_reducible exact nsq
    · refine H.eq (View.canon_cons_unit_zero (S := S16x512) hz2 _ _ _) ?_
      exact halo_next hb
  · refine ⟨?_, ?_, ?_, ?_, ?_, ?_, by rw [outsAt0_B m c t h0 h1]; exact pwt⟩
    all_goals
      rw [outsAt0_B m c t h0 h1]
      dsimp only
    on_goal 1 => unfold out0_B_9; refine H.eq (View.read_writes_eq_canon _ _ _ (fun y => by exact cover0_B_9 ..)) ?_
    rotate_left
    on_goal 1 => unfold out0_B_10; refine H.eq (View.read_writes_eq_canon _ _ _ (fun y => by exact cover0_B_10 ..)) ?_
    rotate_left
    on_goal 1 => unfold out0_B_11; refine H3.eq (View.read_writes_eq_canon _ _ _ (fun y => by exact cover0_B_11 ..)) ?_
    rotate_left
    on_goal 1 => unfold out0_B_12; refine H.eq (View.read_writes_eq_canon _ _ _ (fun y => by exact cover0_B_12 ..)) ?_
    rotate_left
    on_goal 1 => unfold sout0_B_0; refine H.eq (View.read_writes_eq_canon _ _ _ (fun y => by exact scover0_B_0 ..)) ?_
    rotate_left
    on_goal 1 => unfold sout0_B_1; refine H.eq (View.read_writes_eq_canon _ _ _ (fun y => by exact scover0_B_1 ..)) ?_
    rotate_left
    all_goals unfold kernelRun0_B
    all_goals dsimp only
    all_goals sl_unfold_words
    all_goals simp only [View.readAt_eq_ld, (hs0_0 t).read_unread, (hs0_1 t).read_unread, (hs0_2 t).read_unread, (hs0_3 t).read_unread,
        (hs0_4 t).read_unread, (hs0_5 t).read_unread, (hs0_6 t).read_unread, (hs0_7 t).read_unread, (hs0_8 t).read_unread,
        (hs0_11 t).read_unread, (hs0_12 t).read_unread, (Memref.isWhole_whole _).read_unread, View.ld_unit_zero (S := S1024x512) hz2,
        View.ld_unit_zero (S := S1x1024) hz2, View.ld_unit_zero (S := S1x512) hz2, View.ld_unit_zero (S := S16x512) hz2,
        readCov_cons_zero (S := S16x512) _ hz2, readCov_cons_zero (S := S1x1024) _ hz2]
    · exact halves (T := fun r k => ((DX2 A (1024 * t.val + r) k : ℝ) : EReal)) (.miss (by decide) (.hit (by with_reducible exact hu)))
        (.hit (by with_reducible exact hl))
    · refine eighths (T := fun r j => ((DY A (1024 * t.val + r) j : ℝ) : EReal)) ?_ ?_ ?_ ?_ ?_ ?_ ?_ ?_
      all_goals
        repeat refine .miss (by decide) ?_
        with_reducible first
          | refine .hit (dyu0 hb hi (member16 0 pwt _)) | refine .hit (dyu1 hb hi (member16 1 pwt _))
          | refine .hit (dyu2 hb hi (member16 2 pwt _)) | refine .hit (dyu3 hb hi (member16 3 pwt _))
          | refine .hit (dyl0 hb hi (member16 0 pwt _)) | refine .hit (dyl1 hb hi (member16 1 pwt _))
          | refine .hit (dyl2 hb hi (member16 2 pwt _)) | refine .hit (dyl3 hb hi (member16 3 pwt _))
    · refine quarters (T := fun g r j => ((GW A (1024 * (t.val + 1)) (256 * g + r) j : ℝ) : EReal)) ?_ ?_ ?_ ?_
      all_goals
        repeat refine .miss (by decide) ?_
        with_reducible first
          | refine .hit (gwl0 hb hi ?_) | refine .hit (gwl1 hb hi ?_) | refine .hit (gwl2 hb hi ?_) | refine .hit (gwl3 hb hi ?_)
        refine read3 ?_
        repeat refine .miss (by decide) ?_
        with_reducible first
          | exact .hit (gwu0 hb hi (member 0 pgw _)) | exact .hit (gwu1 hb hi (member 1 pgw _))
          | exact .hit (gwu2 hb hi (member 2 pgw _)) | exact .hit (gwu3 hb hi (member 3 pgw _))
    · refine H.eq (View.canon_cons_unit_zero (S := S1x1024) hz2 _ _ _) ?_
      with_reducible exact ngg
    · refine H.eq (View.canon_cons_unit_zero (S := S1x1024) hz2 _ _ _) ?_
      with_reducible exact nsq
    · refine H.eq (View.canon_cons_unit_zero (S := S16x512) hz2 _ _ _) ?_
      exact halo_next hb

/-- The loss is the mean of the squares. -/
theorem total {z : Vec Ideal S1x1024 .f32} (hz : H z fun _ c => SQ A 8192 c) : H (k0_pay1 (F := Ideal) z) fun _ _ => LOSS A :=
  H.of fun p q => by
    have h := (((H.mul (φ := .f32) (H.sumCols hz _ reduces_S1x1024_S1 (.inl rfl) rfl shapeCasts_S1_S1x1) (H.splat cinv2048))).cast shapeCasts_S1x1_S1x1)
    unfold k0_pay1
    rw [broadcastTo_apply _ broadcasts_S1x1_S8x128 (ValueIdx.ix2 p q) (ValueIdx.ix2 (0 : Fin 1) (0 : Fin 1)) (fun ax => by
      match ax with
      | ⟨0, _⟩ => rfl
      | ⟨1, _⟩ => rfl)]
    exact h _

theorem loss_C {t : Fin cfg0.N} (h1 : t.val % 8 = 7) (hp : Post m c A (t.val - 1) (before t))
    (hb : (blk m c t (outsAt0 m c (t.val - 1) (before t)).2.2.2.2.2.2.1).Holds A t.val) :
    H (outsAt0 m c t.val t.isLt).2.2.2.2.1 fun _ _ => LOSS A := by
  have hi := coords_val t
  have h0 : ¬t.val % 8 = 0 := by omega
  have psq := hp.sq
  rw [n_pred h0] at psq
  have nsq := hsq hb hi psq
  have e : 1024 * (t.val + 1) = 8192 := by have := t.isLt; have : cfg0.N = 8 := rfl; omega
  rw [e] at nsq
  rw [outsAt0_C m c t h0 h1]
  dsimp only
  unfold out0_C_13; refine H.eq (View.read_writes_eq_canon _ _ _ (fun y => by exact cover0_C_13 ..)) ?_
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_11 t).read_unread, (hs0_12 t).read_unread, (Memref.isWhole_whole _).read_unread, View.ld_unit_zero (S := S1024x512) hz2,
    View.ld_unit_zero (S := S1x1024) hz2, View.ld_unit_zero (S := S1x512) hz2, View.ld_unit_zero (S := S16x512) hz2,
    readCov_cons_zero (S := S16x512) _ hz2, readCov_cons_zero (S := S1x1024) _ hz2]
  refine H.eq (View.canon_cons_unit_zero (S := S8x128) hz2 _ _ _) ?_
  have := total nsq
  with_reducible exact this

end Cert.KernelIdeal.Tile
-- ==== Proof.KRun.lean ====
/-
  The eight grid points of `out_loss`, from its arguments to its results.
-/
module

public import proofs.«01_k».proof.Proof.KStep
public import proofs.«01_k».proof.Proof.Inputs
public import proofs.«01_k».proof.Proof.Gen.KernelIdeal.Value

@[expose] public section

set_option maxRecDepth 16384

noncomputable section

namespace Cert.KernelIdeal.Tile

open Idealize.ShloMosaic Idealize.ShloMosaic.TcCoe Idealize.SL.Sem
open Cert.KernelIdeal Cert.KernelIdeal.Gen Cert.Holds Cert.Consts Cert.Boxes
open Cert.Spec hiding V
open Idealize.ShloMosaic.ValueIdx hiding ix1 ix2 ix3 ix4
open scoped BigOperators

variable (m : (ℓ : Loc nD τ sig) → Buf (Elt Ideal) ℓ) (c : Dev nD)

/-! ## The arrays the windows cut -/

theorem V_v2 : V m c main_v2 = shapeCast S4x256x1024 (truncf (F := Ideal) .bf16
    (shapeCast S1024x1024 (m ((c : Thread nD τ).loc main_arg5) : S1x1024x1024.Idx → EReal) shapeCasts_S1x1024x1024_S1024x1024) bitsLt_bf16_f32)
    shapeCasts_S1024x1024_S4x256x1024 := by
  unfold V
  after_results
  rfl
theorem V_v3 : V m c main_v3 = shapeCast S8192x1024 (m ((c : Thread nD τ).loc main_arg0) : S1x8192x1024.Idx → EReal) shapeCasts_S1x8192x1024_S8192x1024 := by
  unfold V
  after_results
  rfl
theorem V_v4 : V m c main_v4 = shapeCast S8192x1024 (m ((c : Thread nD τ).loc main_arg7) : S1x8192x1024.Idx → EReal) shapeCasts_S1x8192x1024_S8192x1024 := by
  unfold V
  after_results
  rfl
theorem V_v5 : V m c main_v5 = shapeCast S1x1024 (m ((c : Thread nD τ).loc main_arg6) : S1024.Idx → EReal) shapeCasts_S1024_S1x1024 := by
  unfold V
  after_results
  rfl
theorem V_v6 : V m c main_v6 = shapeCast S4x128x128 (m ((c : Thread nD τ).loc main_arg3) : S1x4x128x128.Idx → EReal) shapeCasts_S1x4x128x128_S4x128x128 := by
  unfold V
  after_results
  rfl

/-! ## The blocks -/

theorem rows_t (t : Fin cfg0.N) (p : Fin 1024) : 1024 * t.val + p.val < 8192 := by
  have h : t.val < 8 := t.isLt; omega

theorem at_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 1)
    ∧ (win0_4.index t 0 = t.val ∧ win0_4.index t 1 = 0) := by decide +kernel

theorem at_whole : ∀ t : Fin cfg0.N,
    (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = 0) := by decide +kernel

variable {m} {c} {A : Args}

/-- The arrays of memory `m` hold `A`. -/
abbrev In (m : (ℓ : Loc nD τ sig) → Buf (Elt Ideal) ℓ) (c : Dev nD) (A : Args) : Prop :=
  Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

section

variable (hA : In m c A) (t : Fin cfg0.N)
include hA

theorem blk_x : H (iblk m c 0 t : S1024x1024.Idx → EReal) fun r k => A.x (1024 * t.val + r) k := H.of fun p q => by
  obtain ⟨⟨h0, h1⟩, -⟩ := at_rows t
  unfold iblk
  rw [View.read_apply]
  show V m c main_v3 _ = _
  rw [V_v3]
  refine (congrArg _ (?_ : _ = ix2 (⟨1024 * t.val + p.val, rows_t t p⟩ : Fin 8192) q)).trans ((shapeCast_1ab_ab_apply _ _ _ _).trans (hA.x _ _))
  funext a
  apply Fin.ext
  match a with
  | ⟨0, _⟩ => show win0_0.index t 0 * 1024 + 1 * p.val = 1024 * t.val + p.val; rw [h0]; omega
  | ⟨1, _⟩ => show win0_0.index t 1 * 1024 + 1 * q.val = q.val; rw [h1]; omega

theorem blk_t : H (iblk m c 1 t : S1024x1024.Idx → EReal) fun r k => A.t (1024 * t.val + r) k := H.of fun p q => by
  obtain ⟨-, ⟨h0, h1⟩, -⟩ := at_rows t
  unfold iblk
  rw [View.read_apply]
  show V m c main_v4 _ = _
  rw [V_v4]
  refine (congrArg _ (?_ : _ = ix2 (⟨1024 * t.val + p.val, rows_t t p⟩ : Fin 8192) q)).trans ((shapeCast_1ab_ab_apply _ _ _ _).trans (hA.t _ _))
  funext a
  apply Fin.ext
  match a with
  | ⟨0, _⟩ => show win0_1.index t 0 * 1024 + 1 * p.val = 1024 * t.val + p.val; rw [h0]; omega
  | ⟨1, _⟩ => show win0_1.index t 1 * 1024 + 1 * q.val = q.val; rw [h1]; omega

theorem blk_pv : H (iblk m c 2 t : S1024x512.Idx → EReal) fun r k => A.pv (1024 * t.val + r) k := H.of fun p q => by
  obtain ⟨-, -, ⟨h0, h1⟩, -⟩ := at_rows t
  unfold iblk
  rw [View.read_apply]
  show V m c main_arg1 _ = _
  rw [V_main_arg1]
  refine (congrArg _ (?_ : _ = ix2 (⟨1024 * t.val + p.val, rows_t t p⟩ : Fin 8192) (⟨q.val, by omega⟩ : Fin 3072))).trans (hA.pv _ _ q.isLt)
  funext a
  apply Fin.ext
  match a with
  | ⟨0, _⟩ => show win0_2.index t 0 * 1024 + 1 * p.val = 1024 * t.val + p.val; rw [h0]; omega
  | ⟨1, _⟩ => show win0_2.index t 1 * 512 + 1 * q.val = q.val; rw [h1]; omega

theorem blk_pg : H (iblk m c 3 t : S1024x512.Idx → EReal) fun r k => A.pg (1024 * t.val + r) k := H.of fun p q => by
  obtain ⟨-, -, -, ⟨h0, h1⟩, -⟩ := at_rows t
  unfold iblk
  rw [View.read_apply]
  show V m c main_arg1 _ = _
  rw [V_main_arg1]
  refine (congrArg _ (?_ : _ = ix2 (⟨1024 * t.val + p.val, rows_t t p⟩ : Fin 8192) (⟨512 + q.val, by omega⟩ : Fin 3072))).trans (hA.pg _ _ _ rfl q.isLt)
  funext a
  apply Fin.ext
  match a with
  | ⟨0, _⟩ => show win0_3.index t 0 * 1024 + 1 * p.val = 1024 * t.val + p.val; rw [h0]; omega
  | ⟨1, _⟩ => show win0_3.index t 1 * 512 + 1 * q.val = 512 + q.val; rw [h1]; omega

theorem blk_ya : H (iblk m c 4 t : S1024x512.Idx → EReal) fun r k => A.ya (1024 * t.val + r) k := H.of fun p q => by
  obtain ⟨-, -, -, -, h0, h1⟩ := at_rows t
  unfold iblk
  rw [View.read_apply]
  show V m c main_arg2 _ = _
  rw [V_main_arg2]
  refine (congrArg _ (?_ : _ = ix2 (⟨1024 * t.val + p.val, rows_t t p⟩ : Fin 8192) q)).trans (hA.ya _ _)
  funext a
  apply Fin.ext
  match a with
  | ⟨0, _⟩ => show win0_4.index t 0 * 1024 + 1 * p.val = 1024 * t.val + p.val; rw [h0]; omega
  | ⟨1, _⟩ => show win0_4.index t 1 * 512 + 1 * q.val = q.val; rw [h1]; omega

theorem blk_w : H3 (iblk m c 5 t : S4x256x1024.Idx → EReal) fun a r k => A.w (256 * a + r) k := H3.of fun a p q => by
  obtain ⟨⟨h0, h1, h2⟩, -⟩ := at_whole t
  unfold iblk
  rw [View.read_apply]
  show V m c main_v2 _ = _
  rw [V_v2]
  refine (congrArg _ (?_ : _ = ix3 a p q)).trans ((shapeCast_apply _ _ _ (ix2 (⟨256 * a.val + p.val, by omega⟩ : Fin 1024) q) ?_).trans
    ((shapeCast_1ab_ab_apply _ _ _ _).trans (hA.w _ _)))
  · funext b
    apply Fin.ext
    match b with
    | ⟨0, _⟩ => show win0_5.index t 0 * 4 + 1 * a.val = a.val; rw [h0]; omega
    | ⟨1, _⟩ => show win0_5.index t 1 * 256 + 1 * p.val = p.val; rw [h1]; omega
    | ⟨2, _⟩ => show win0_5.index t 2 * 1024 + 1 * q.val = q.val; rw [h2]; omega
  · rw [Shape.rowMajor_val_three, Shape.rowMajor_val_two]
    show (256 * a.val + p.val) * 1024 + q.val = (a.val * 256 + p.val) * 1024 + q.val
    rw [Nat.mul_comm 256]

theorem blk_g : H (iblk m c 6 t : S1x1024.Idx → EReal) fun _ k => A.g k := H.of fun p q => by
  obtain ⟨-, ⟨h0, h1⟩, -⟩ := at_whole t
  unfold iblk
  rw [View.read_apply]
  show V m c main_v5 _ = _
  rw [V_v5]
  refine (congrArg _ (?_ : _ = ix2 p q)).trans ((shapeCast_a_1a_apply _ _ _ _).trans (hA.g _))
  funext a
  apply Fin.ext
  match a with
  | ⟨0, _⟩ => show win0_6.index t 0 * 1 + 1 * p.val = p.val; rw [h0]; omega
  | ⟨1, _⟩ => show win0_6.index t 1 * 1024 + 1 * q.val = q.val; rw [h1]; omega

theorem blk_pw : H3 (iblk m c 7 t : S4x128x128.Idx → EReal) fun a r k => A.pw a r k := H3.of fun a p q => by
  obtain ⟨-, -, ⟨h0, h1, h2⟩, -⟩ := at_whole t
  unfold iblk
  rw [View.read_apply]
  show V m c main_v6 _ = _
  rw [V_v6]
  refine (congrArg _ (?_ : _ = ix3 a p q)).trans ((shapeCast_1abc_abc_apply _ _ _ _ _).trans (hA.pw _ _ _))
  funext b
  apply Fin.ext
  match b with
  | ⟨0, _⟩ => show win0_7.index t 0 * 4 + 1 * a.val = a.val; rw [h0]; omega
  | ⟨1, _⟩ => show win0_7.index t 1 * 128 + 1 * p.val = p.val; rw [h1]; omega
  | ⟨2, _⟩ => show win0_7.index t 2 * 128 + 1 * q.val = q.val; rw [h2]; omega

theorem blk_ps : H (iblk m c 8 t : S1x512.Idx → EReal) fun _ k => A.ps k := H.of fun p q => by
  obtain ⟨-, -, -, h0, h1⟩ := at_whole t
  unfold iblk
  rw [View.read_apply]
  show V m c main_arg4 _ = _
  rw [V_main_arg4]
  refine (congrArg _ (?_ : _ = ix2 (0 : Fin 1) q)).trans (hA.ps _)
  funext a
  apply Fin.ext
  match a with
  | ⟨0, _⟩ => show win0_8.index t 0 * 1 + 1 * p.val = 0; rw [h0]; omega
  | ⟨1, _⟩ => show win0_8.index t 1 * 512 + 1 * q.val = q.val; rw [h1]; omega

theorem blk_holds {halo : Vec Ideal S16x512 .f32} (hh : H halo fun r k => padded (fun n => A.pv n k) (1024 * t.val + r)) :
    (blk m c t halo).Holds A t.val where
  x := blk_x hA t
  t := blk_t hA t
  pv := blk_pv hA t
  pg := blk_pg hA t
  ya := blk_ya hA t
  w := blk_w hA t
  g := blk_g hA t
  pw := blk_pw hA t
  ps := blk_ps hA t
  halo := hh

/-! ## All the points -/

theorem post : ∀ (n : ℕ) (hn : n < cfg0.N), Post m c A n hn
  | 0, hn => post_A (t := ⟨0, hn⟩) rfl (blk_holds hA ⟨0, hn⟩ ((H.splat c0).cast _ |>.congr fun r hr _ _ => by
      unfold padded; rw [if_pos (by simpa using hr)]))
  | n + 1, hn => by
    have hp := post n (Nat.lt_of_succ_lt hn)
    have hlt : n + 1 < 8 := hn
    exact post_BC (t := ⟨n + 1, hn⟩) (by show ¬(n + 1) % 8 = 0; omega) hp (blk_holds hA ⟨n + 1, hn⟩ hp.halo)

theorem loss_last : H (outsAt0 m c 7 (by decide)).2.2.2.2.1 fun _ _ => LOSS A :=
  loss_C (t := ⟨7, by decide⟩) rfl (post hA 6 (by decide)) (blk_holds hA ⟨7, by decide⟩ (post hA 6 (by decide)).halo)

end

end Cert.KernelIdeal.Tile
-- ==== Proof.KOut.lean ====
/-
  The five results of `out_loss`, from its arguments.
-/
module

public import proofs.«01_k».proof.Proof.KRun

@[expose] public section

set_option maxRecDepth 16384

noncomputable section

namespace Cert.KernelIdeal.Tile

open Idealize.ShloMosaic Idealize.ShloMosaic.TcCoe Idealize.SL.Sem
open Cert.KernelIdeal Cert.KernelIdeal.Gen Cert.KernelIdeal.Value Cert.Holds
open Cert.Spec hiding V

variable {m : (ℓ : Loc nD τ sig) → Buf (Elt Ideal) ℓ} {c : Dev nD} {A : Args} (hA : In m c A)
include hA

theorem out_dx2 : H (G9 m c : S8192x1024.Idx → EReal) fun r k => DX2 A r k := fun i => by
  have h0 : (i 0).val < 8192 := (i 0).isLt
  have h1 : (i 1).val < 1024 := (i 1).isLt
  have hp : pt9Of i = (i 0).val / 1024 := by
    show 1 * ((i 0).val / 1024 - 0) + 1 * ((i 1).val / 1024 - 0) = _
    omega
  have hn : pt9Of i < cfg0.N := by rw [hp]; exact lt_of_lt_of_eq (b := 8) (by omega) N_0.symm
  unfold G9
  rw [dif_pos hn, ← outsAt0_sweep m c _ hn, (post hA _ hn).dx2 (loc9Of i)]
  show ((DX2 A (1024 * pt9Of i + (i 0).val % 1024) ((i 1).val % 1024) : ℝ) : EReal) = _
  rw [hp, Nat.div_add_mod, Nat.mod_eq_of_lt h1]

theorem out_dy : H (G10 m c : S8192x1024.Idx → EReal) fun r k => DY A r k := fun i => by
  have h0 : (i 0).val < 8192 := (i 0).isLt
  have h1 : (i 1).val < 1024 := (i 1).isLt
  have hp : pt10Of i = (i 0).val / 1024 := by
    show 1 * ((i 0).val / 1024 - 0) + 1 * ((i 1).val / 1024 - 0) = _
    omega
  have hn : pt10Of i < cfg0.N := by rw [hp]; exact lt_of_lt_of_eq (b := 8) (by omega) N_0.symm
  unfold G10
  rw [dif_pos hn, ← outsAt0_sweep m c _ hn, (post hA _ hn).dy (loc10Of i)]
  show ((DY A (1024 * pt10Of i + (i 0).val % 1024) ((i 1).val % 1024) : ℝ) : EReal) = _
  rw [hp, Nat.div_add_mod, Nat.mod_eq_of_lt h1]

theorem out_gw : H3 (G11 m c : S4x256x1024.Idx → EReal) fun g r j => GW A 8192 (256 * g + r) j := by
  rw [G11_last, ← outsAt0_sweep m c 7 (by decide)]
  exact (post hA 7 (by decide)).gw

theorem out_gg : H (G12 m c : S1x1024.Idx → EReal) fun _ j => GG A 8192 j := by
  rw [G12_last, ← outsAt0_sweep m c 7 (by decide)]
  exact (post hA 7 (by decide)).gg

theorem out_loss : H (G13 m c : S8x128.Idx → EReal) fun _ _ => LOSS A := by
  rw [G13_last, ← outsAt0_sweep m c 7 (by decide)]
  exact loss_last hA

end Cert.KernelIdeal.Tile
-- ==== Proof.RPool.lean ====
/-
  The pooled differences of the reference: each window's mean is a difference of two running sums, the earlier one taken
  at a row number.
-/
module

public import proofs.«01_k».proof.Proof.HostHolds
public import proofs.«01_k».proof.Proof.Inputs
public import proofs.«01_k».proof.Proof.Gen.ReferenceIdeal.Read

@[expose] public section

set_option maxRecDepth 16384

noncomputable section

namespace Cert.ReferenceIdeal.Calc

open Idealize.ShloMosaic Idealize.ShloMosaic.TcCoe Idealize.SL.Sem Idealize.ShloMosaic.StableHlo
open Cert.ReferenceIdeal Cert.ReferenceIdeal.Gen Cert.ReferenceIdeal.Read Cert.Holds Cert.Spec Cert.Consts
open Idealize.ShloMosaic.ValueIdx
open scoped BigOperators

/-! ## Row numbers -/

theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem max_word (r w : ℕ) (hr : r < 8192) (hw : w ≤ 16) :
    IntOp.maxsi (BitVec.ofNat 32 r + 1#32 - BitVec.ofNat 32 w) 0#32 = BitVec.ofNat 32 (r + 1 - w) := by
  unfold IntOp.maxsi
  by_cases h : w ≤ r + 1
  · have e : BitVec.ofNat 32 r + 1#32 - BitVec.ofNat 32 w = BitVec.ofNat 32 (r + 1 - w) := by
      apply BitVec.eq_of_toNat_eq
      simp only [BitVec.toNat_sub, BitVec.toNat_add, BitVec.toNat_ofNat]
      omega
    rw [e]
    split
    · rfl
    · next hn =>
      rw [BitVec.slt_iff_toInt_lt, toInt_small (n := r + 1 - w) (by omega)] at hn
      have : r + 1 - w = 0 := by simp at hn; omega
      rw [this]
  · rw [show r + 1 - w = 0 by omega, if_neg]
    have e : BitVec.ofNat 32 r + 1#32 - BitVec.ofNat 32 w = -BitVec.ofNat 32 (w - (r + 1)) := by
      apply BitVec.eq_of_toNat_eq
      simp only [BitVec.toNat_sub, BitVec.toNat_add, BitVec.toNat_ofNat, BitVec.toNat_neg]
      omega
    rw [e]
    have : w - (r + 1) ≤ 16 := by omega
    generalize w - (r + 1) = k at this
    interval_cases k <;> decide

/-- The row before each row's window: `max (r + 1 - w) 0`. -/
def start (w : BitVec 32) : IVec S8192 32 :=
  maxsi (subi (addi (iotaInDim S8192 32 0) (broadcastInDim S8192 ![] bcast_S_S8192 (constantI S_ 32 1#32)))
    (broadcastInDim S8192 ![] bcast_S_S8192 (constantI S_ 32 w))) (broadcastInDim S8192 ![] bcast_S_S8192 (constantI S_ 32 0#32))

theorem start_at (w : ℕ) (hw : w ≤ 16) (r : Fin 8192) : start (BitVec.ofNat 32 w) (ix1 r) = BitVec.ofNat 32 (r.val + 1 - w) :=
  max_word r.val w r.isLt hw

/-! ## Rows taken at the row numbers -/

/-- The row numbers as a column of indices, a negative one counted from the end. -/
def rows (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 8193#32))) s)

/-- Whether every index of a row is in range. -/
def inside (s : IVec S8192 32) : IVec S8192 1 :=
  Host.reduce IntOp.andi
    (andi (cmpi .sge (rows s) (broadcastInDim S8192x1 ![] bcast_S_S8192x1 (constantI S_ 32 0#32)))
      (cmpi .sle (rows s) (broadcastInDim S8192x1 ![0, 1] bcast_S1x1_S8192x1_0_1 (broadcastInDim S1x1 ![1] bcast_S1_S1x1_1 (constantI S1 32 8192#32)))))
    (constantI S_ 1 1#1) reducesTo_S8192x1_S8192_d1 h_S_

/-- The rows of `x` at the row numbers. -/
def taken (s : IVec S8192 32) (x : FVec Ideal S1x8193x128 .f32) : FVec Ideal S1x8192x128 .f32 :=
  select (broadcastInDim S1x8192x128 ![1] bcast_S8192_S1x8192x128_1 (inside s))
    (Host.gather gather_S1x8193x128_S8192x1_S1x8192x128_02_1_n_n_1_1_11128 x (rows s))
    (broadcastInDim S1x8192x128 ![] bcast_S_S1x8192x128 (constant (F := Ideal) S_ .f32 0x7FC00000#32))

section

variable {s : IVec S8192 32} {n : ℕ → ℕ} (hs : ∀ r : Fin 8192, s (ix1 r) = BitVec.ofNat 32 (n r.val)) (hn : ∀ r, r < 8192 → n r ≤ 8192)
include hs hn

theorem rows_at (r : Fin 8192) (z : Fin 1) : rows s (ix2 r z) = BitVec.ofNat 32 (n r.val) := by
  unfold rows
  rw [broadcastInDim_apply _ _ _ (ix2 r z) (ix1 r) (fun a => by match a with | ⟨0, _⟩ => rfl)]
  show (if IntOp.cmpi .slt (s (ix1 r)) 0#32 = 1#1 then s (ix1 r) + 8193#32 else s (ix1 r)) = _
  rw [hs, if_neg]
  have h : ¬ (BitVec.ofNat 32 (n r.val)).slt 0#32 := by
    rw [BitVec.slt_iff_toInt_lt, toInt_small (by have := hn _ r.isLt; omega)]
    simp
  unfold IntOp.cmpi
  simp [h]

theorem inside_at (r : Fin 8192) : inside s (ix1 r) = 1#1 := by
  unfold inside Host.reduce
  have key : ∀ i : S8192x1.Idx, (andi (cmpi .sge (rows s) (broadcastInDim S8192x1 ![] bcast_S_S8192x1 (constantI S_ 32 0#32)))
      (cmpi .sle (rows s) (broadcastInDim S8192x1 ![0, 1] bcast_S1x1_S8192x1_0_1 (broadcastInDim S1x1 ![1] bcast_S1_S1x1_1 (constantI S1 32 8192#32))))) i = 1#1 := fun i => by
    obtain ⟨p, q, rfl⟩ : ∃ (p : Fin 8192) (q : Fin 1), i = ix2 p q := ⟨i 0, i 1, eq_ix2 i⟩
    show IntOp.andi (IntOp.cmpi .sge (rows s (ix2 p q)) 0#32) (IntOp.cmpi .sle (rows s (ix2 p q)) 8192#32) = 1#1
    rw [rows_at hs hn]
    have h := hn _ p.isLt
    have h1 : (0#32).sle (BitVec.ofNat 32 (n p.val)) = true := by
      rw [BitVec.sle_iff_toInt_le, toInt_small (n := n p.val) (by omega)]; simp
    have h2 : (BitVec.ofNat 32 (n p.val)).sle 8192#32 = true := by
      rw [BitVec.sle_iff_toInt_le, toInt_small (by omega)]; simp; omega
    unfold IntOp.cmpi
    simp only [h1, h2]
    rfl
  generalize (List.finRange S8192x1.numel).filter _ = l
  show l.foldl _ 1#1 = 1#1
  induction l with
  | nil => rfl
  | cons a l ih =>
    rw [List.foldl_cons, key]
    exact ih

theorem gather_at {α : Type} (x : S1x8193x128.Idx → α) (u : Fin 1) (r : Fin 8192) (c : Fin 128) :
    Host.gather gather_S1x8193x128_S8192x1_S1x8192x128_02_1_n_n_1_1_11128 x (rows s) (ix3 u r c)
      = x (ix3 (0 : Fin 1) (⟨n r.val, by have := hn _ r.isLt; omega⟩ : Fin 8193) c) := by
  have hu : u.val = 0 := by omega
  unfold Host.gather
  refine congrArg x (funext fun a => Fin.ext ?_)
  show GatherDims.start _ (ix3 u r c) (rows s) a + GatherDims.batchCoord _ (ix3 u r c) a + GatherDims.offCoord _ (ix3 u r c) a = _
  rw [GatherDims.batchCoord_eq_zero _ _ _ (fun h => by simp [gather_S1x8193x128_S8192x1_S1x8192x128_02_1_n_n_1_1_11128] at h)]
  match a with
  | ⟨0, _⟩ =>
    have h : GatherDims.start gather_S1x8193x128_S8192x1_S1x8192x128_02_1_n_n_1_1_11128 (ix3 u r c) (rows s) (0 : Fin 3) = 0 := rfl
    show GatherDims.start gather_S1x8193x128_S8192x1_S1x8192x128_02_1_n_n_1_1_11128 (ix3 u r c) (rows s) (0 : Fin 3) + 0 + u.val = 0
    rw [h, hu]
  | ⟨1, _⟩ =>
    have h : GatherDims.start gather_S1x8193x128_S8192x1_S1x8192x128_02_1_n_n_1_1_11128 (ix3 u r c) (rows s) (1 : Fin 3)
        = min (rows s (ix2 r (0 : Fin 1))).toInt.toNat (8193 - 1) := by
      unfold GatherDims.start
      rw [dif_pos (show (1 : Fin 3) ∈ gather_S1x8193x128_S8192x1_S1x8192x128_02_1_n_n_1_1_11128.startIndexMap from List.mem_singleton.mpr rfl)]
      refine congrArg (fun i => min (rows s i).toInt.toNat (8193 - 1)) ?_
      funext b
      apply Fin.ext
      match b with
      | ⟨0, _⟩ => rfl
      | ⟨1, _⟩ => rfl
    show GatherDims.start gather_S1x8193x128_S8192x1_S1x8192x128_02_1_n_n_1_1_11128 (ix3 u r c) (rows s) (1 : Fin 3) + 0 + 0 = n r.val
    rw [h, rows_at hs hn, toInt_small (by have := hn _ r.isLt; omega)]
    have := hn _ r.isLt
    simp; omega
  | ⟨2, _⟩ =>
    have h : GatherDims.start gather_S1x8193x128_S8192x1_S1x8192x128_02_1_n_n_1_1_11128 (ix3 u r c) (rows s) (2 : Fin 3) = 0 := rfl
    show GatherDims.start gather_S1x8193x128_S8192x1_S1x8192x128_02_1_n_n_1_1_11128 (ix3 u r c) (rows s) (2 : Fin 3) + 0 + c.val = c.val
    rw [h]; omega

theorem taken_holds {x : FVec Ideal S1x8193x128 .f32} {f : ℕ → ℕ → ℝ} (hx : H3 x fun _ r c => f r c) :
    H3 (taken s x) fun _ r c => f (n r) c := H3.of fun u r c => by
  unfold taken
  show (if broadcastInDim S1x8192x128 ![1] bcast_S8192_S1x8192x128_1 (inside s) (ix3 u r c) = 1#1 then _ else _) = _
  rw [broadcastInDim_apply _ _ _ (ix3 u r c) (ix1 r) (fun a => by match a with | ⟨0, _⟩ => rfl), inside_at hs hn, if_pos rfl,
    gather_at hs hn]
  exact hx _

end

/-! ## Windows -/

theorem wsum_split (f : ℕ → ℝ) (w r : ℕ) :
    ∑ n ∈ Finset.range (r + 1), f n - ∑ n ∈ Finset.range (r + 1 - w), f n = wsum f w r := by
  induction w with
  | zero => simp [wsum]
  | succ w ih =>
    unfold wsum at ih ⊢
    rw [Finset.sum_range_succ _ w, ← ih]
    by_cases h : w ≤ r
    · have e : ∑ n ∈ Finset.range (r + 1 - w), f n = ∑ n ∈ Finset.range (r + 1 - (w + 1)), f n + f (r - w) := by
        rw [show r + 1 - w = (r - w) + 1 by omega, Finset.sum_range_succ, show r + 1 - (w + 1) = r - w by omega]
      rw [if_pos h, e]
      ring
    · rw [if_neg h, show r + 1 - w = 0 by omega, show r + 1 - (w + 1) = 0 by omega]
      ring

/-- One group's pooled differences, from the running sums `p` and the values `q`. -/
def grp (w : BitVec 32) (p : FVec Ideal S1x8193x128 .f32) (q : FVec Ideal S1x8192x128 .f32) : FVec Ideal S1x8192x128 .f32 :=
  subf (Host.divf (subf (extractStridedSlice S1x8192x128 ![0, 1, 0] p slices_S1x8193x128_S1x8192x128_0_1_0) (taken (start w) p))
    (broadcastInDim S1x8192x128 ![0, 1, 2] bcast_S1x8192x1_S1x8192x128_0_1_2 (broadcastInDim S1x8192x1 ![1] bcast_S8192_S1x8192x1_1
      (sitofp (F := Ideal) .f32 (subi (addi (iotaInDim S8192 32 0) (broadcastInDim S8192 ![] bcast_S_S8192 (constantI S_ 32 1#32))) (start w)))))) q

theorem count_at (w : ℕ) (hw : w ≤ 16) (r : Fin 8192) :
    (subi (addi (iotaInDim S8192 32 0) (broadcastInDim S8192 ![] bcast_S_S8192 (constantI S_ 32 1#32))) (start (BitVec.ofNat 32 w))) (ix1 r)
      = BitVec.ofNat 32 (min (r.val + 1) w) := by
  show BitVec.ofNat 32 r.val + 1#32 - start (BitVec.ofNat 32 w) (ix1 r) = _
  rw [start_at w hw]
  have := r.isLt
  apply BitVec.eq_of_toNat_eq
  simp only [BitVec.toNat_sub, BitVec.toNat_add, BitVec.toNat_ofNat]
  omega

theorem grp_holds (w : ℕ) (hw : w ≤ 16) (hw0 : 0 < w) {p : FVec Ideal S1x8193x128 .f32} {q : FVec Ideal S1x8192x128 .f32} {f : ℕ → ℕ → ℝ}
    (hp : H3 p fun _ r c => ∑ n ∈ Finset.range r, f n c) (hq : H3 q fun _ r c => f r c) :
    H3 (grp (BitVec.ofNat 32 w) p q) fun _ r c => wsum (fun n => f n c) w r / (min (r + 1) w : ℕ) - f r c := by
  have ht := taken_holds (s := start (BitVec.ofNat 32 w)) (n := fun r => r + 1 - w) (start_at w hw) (fun r hr => by omega) hp
  have hl : H3 (extractStridedSlice S1x8192x128 ![0, 1, 0] p slices_S1x8193x128_S1x8192x128_0_1_0) fun _ r c => ∑ n ∈ Finset.range (r + 1), f n c :=
    H3.of fun u r c => by
      rw [extractStridedSlice_apply _ _ _ _ (ix3 u (⟨r.val + 1, by omega⟩ : Fin 8193) c) (fun a => by
        match a with | ⟨0, _⟩ => exact (Nat.zero_add _).symm | ⟨1, _⟩ => exact Nat.add_comm _ _ | ⟨2, _⟩ => exact (Nat.zero_add _).symm)]
      exact hp _
  have hc : H3 (broadcastInDim S1x8192x128 ![0, 1, 2] bcast_S1x8192x1_S1x8192x128_0_1_2 (broadcastInDim S1x8192x1 ![1] bcast_S8192_S1x8192x1_1
      (sitofp (F := Ideal) .f32 (subi (addi (iotaInDim S8192 32 0) (broadcastInDim S8192 ![] bcast_S_S8192 (constantI S_ 32 1#32))) (start (BitVec.ofNat 32 w))))))
      fun _ r _ => ((min (r + 1) w : ℕ) : ℝ) := H3.of fun u r c => by
    rw [broadcastInDim_apply _ _ _ (ix3 u r c) (ix3 (0 : Fin 1) r (0 : Fin 1)) (fun a => by match a with | ⟨0, _⟩ => rfl | ⟨1, _⟩ => rfl | ⟨2, _⟩ => rfl),
      broadcastInDim_apply _ _ _ (ix3 (0 : Fin 1) r (0 : Fin 1)) (ix1 r) (fun a => by match a with | ⟨0, _⟩ => rfl)]
    show (((((subi (addi (iotaInDim S8192 32 0) (broadcastInDim S8192 ![] bcast_S_S8192 (constantI S_ 32 1#32))) (start (BitVec.ofNat 32 w))) (ix1 r)).toInt : ℤ) : ℝ) : EReal) = _
    rw [count_at w hw, toInt_small (by omega), Int.cast_natCast]
  refine H3.ofHR (HR.sub (HR.div (HR.sub hl ht) hc fun i => ?_) hq) fun u r c => ?_
  · exact Nat.cast_ne_zero.mpr (by omega)
  · show (∑ n ∈ Finset.range (r.val + 1), f n c.val - ∑ n ∈ Finset.range (r.val + 1 - w), f n c.val) / _ - _ = _
    rw [wsum_split]

end Cert.ReferenceIdeal.Calc
-- ==== Proof.RMix.lean ====
/-
  The reference's forward lines up to the residual stream: the pooled differences through their matrices, the gate, the
  output projection.
-/
module

public import proofs.«01_k».proof.Proof.RPool

@[expose] public section

set_option maxRecDepth 16384

noncomputable section

namespace Cert.ReferenceIdeal.Calc

open Idealize.ShloMosaic Idealize.ShloMosaic.TcCoe Idealize.SL.Sem Idealize.ShloMosaic.StableHlo
open Cert.ReferenceIdeal Cert.ReferenceIdeal.Gen Cert.ReferenceIdeal.Read Cert.Holds Cert.Consts
open Cert.Spec hiding M V pool sig
open Idealize.ShloMosaic.ValueIdx
open scoped BigOperators

theorem sum_real {n : ℕ} {x : Fin n → EReal} {f : ℕ → ℝ} (h : ∀ k : Fin n, x k = ((f k.val : ℝ) : EReal)) :
    ∑ k, x k = ((∑ k ∈ Finset.range n, f k : ℝ) : EReal) := by
  rw [Finset.sum_range, ← coe_sum]
  exact Finset.sum_congr rfl fun k _ => h k

/-- Four groups stacked along the third axis. -/
theorem four_at (y : Fin 4 → FVec Ideal S1x8192x1x128 .f32) (u : Fin 1) (r : Fin 8192) (g : Fin 4) (i : Fin 128) :
    concatenate S1x8192x4x128 2 [⟨S1x8192x1x128, y 0⟩, ⟨S1x8192x1x128, y 1⟩, ⟨S1x8192x1x128, y 2⟩, ⟨S1x8192x1x128, y 3⟩]
      concatenates_S1x8192x1x128_S1x8192x1x128_S1x8192x1x128_S1x8192x1x128_S1x8192x4x128_d2 (ix4 u r g i) = y g (ix4 u r (0 : Fin 1) i) := by
  refine concatenate_apply_piece (2 : Fin S1x8192x4x128.rank) [⟨S1x8192x1x128, y 0⟩, ⟨S1x8192x1x128, y 1⟩, ⟨S1x8192x1x128, y 2⟩, ⟨S1x8192x1x128, y 3⟩]
    concatenates_S1x8192x1x128_S1x8192x1x128_S1x8192x1x128_S1x8192x1x128_S1x8192x4x128_d2 (ix4 u r g i) g.val g.isLt S1x8192x1x128 (y g)
    (by fin_cases g <;> rfl) rfl g.val ?_ _ ?_ ?_
  · fin_cases g <;> rfl
  · intro b hb
    match b with | ⟨0, _⟩ => rfl | ⟨1, _⟩ => rfl | ⟨2, _⟩ => exact absurd rfl hb | ⟨3, _⟩ => rfl
  · rfl

section

variable {A : Args} {x0 : FVec Ideal S1x8192x1024 .f32} {x1 : FVec Ideal S8192x3072 .bf16} {x2 : FVec Ideal S8192x512 .bf16}
  {x3 : FVec Ideal S1x4x128x128 .f32} {x4 : FVec Ideal S1x512 .f32} {x5 : FVec Ideal S1x1024x1024 .f32} {x6 : FVec Ideal S1024 .f32}
  {x7 : FVec Ideal S1x8192x1024 .f32} (h : Reads A x0 x1 x2 x3 x4 x5 x6 x7)
include h

theorem r2 : H3 (val_main_v2 (F := Ideal) x1) fun _ r c => A.pv r c := H3.of fun u r c => by
  show val_main_v1 (F := Ideal) x1 (ix3 u r c) = _
  rw [val_main_v1_apply, val_main_v0_apply]
  refine Eq.trans (congrArg x1 ?_) (h.pv r ⟨c.val, by omega⟩ c.isLt)
  funext a; apply Fin.ext
  match a with | ⟨0, _⟩ => rfl | ⟨1, _⟩ => rfl

theorem r5 : H3 (val_main_v5 (F := Ideal) x1) fun _ r c => A.pg r c := H3.of fun u r c => by
  show val_main_v4 (F := Ideal) x1 (ix3 u r c) = _
  rw [val_main_v4_apply, val_main_v3_apply]
  refine Eq.trans (congrArg x1 ?_) (h.pg r ⟨512 + c.val, by omega⟩ c.val rfl c.isLt)
  funext a; apply Fin.ext
  match a with | ⟨0, _⟩ => rfl | ⟨1, _⟩ => first | rfl | exact Nat.add_comm _ _

theorem r10 : H3 (val_main_v10 (F := Ideal) x1) fun _ r c => ∑ n ∈ Finset.range (r + 1), A.pv n c :=
  running (by norm_num) (r2 h) (by
    show broadcastInDim S_ ![] bcast_S_S_ (constant (F := Ideal) S_ .f32 0x00000000#32) ix0 = _
    rw [broadcastInDim_scalar_apply]; exact c0) 8191 rfl _ _

theorem r11 : H3 (val_main_v11 (F := Ideal) x1) fun _ r c => ∑ n ∈ Finset.range r, A.pv n c := H3.of fun u r c => by
  unfold val_main_v11
  by_cases hr : r.val = 0
  · rw [concatenate_pair_apply_left (1 : Fin 3) (val_main_v9 (F := Ideal)) (val_main_v10 (F := Ideal) x1) _ (ix3 u r c) rfl (ix3 u (0 : Fin 1) c) (fun b => by
      match b with | ⟨0, _⟩ => rfl | ⟨1, _⟩ => exact hr.symm | ⟨2, _⟩ => rfl), hr]
    unfold val_main_v9
    rw [broadcastInDim_scalar_apply]
    simp only [Finset.range_zero, Finset.sum_empty]
    exact c0
  · rw [concatenate_pair_apply_right (1 : Fin 3) (val_main_v9 (F := Ideal)) (val_main_v10 (F := Ideal) x1) _ (ix3 u r c) rfl rfl (ix3 u (⟨r.val - 1, by omega⟩ : Fin 8192) c) (fun b hb => by
      match b with | ⟨0, _⟩ => rfl | ⟨1, _⟩ => exact absurd rfl hb | ⟨2, _⟩ => rfl) (by show r.val - 1 + 1 = r.val; omega), r10 h]
    show ((∑ n ∈ Finset.range (r.val - 1 + 1), A.pv n c.val : ℝ) : EReal) = _
    rw [show r.val - 1 + 1 = r.val by omega]

/-- Group `g`, from the running sums and the values cut at its first column. -/
theorem group (g o : ℕ) (ho : o = 128 * g) (hg : g < 4) (hs1 : S1x8193x512.Slices ![0, 0, o] S1x8193x128) (hs2 : S1x8192x512.Slices ![0, 0, o] S1x8192x128) :
    H3 (grp (BitVec.ofNat 32 (win g)) (extractStridedSlice S1x8193x128 ![0, 0, o] (val_main_v11 (F := Ideal) x1) hs1)
      (extractStridedSlice S1x8192x128 ![0, 0, o] (val_main_v2 (F := Ideal) x1) hs2)) fun _ r i => Spec.pool A.pv g r i := by
  have hp := H3.slice (r11 h) 0 0 o hs1
  have hq := H3.slice (r2 h) 0 0 o hs2
  simp only [Nat.zero_add] at hp hq
  subst ho
  exact grp_holds (win g) (by unfold win; interval_cases g <;> decide) (Nat.two_pow_pos _) (f := fun r c => A.pv r (128 * g + c)) hp hq

theorem r31 : H3 (val_main_v31 (F := Ideal) x1) fun _ r i => Spec.pool A.pv 0 r i := group h 0 0 rfl (by norm_num) slices_S1x8193x512_S1x8193x128_0_0_0 slices_S1x8192x512_S1x8192x128_0_0_0
theorem r50 : H3 (val_main_v50 (F := Ideal) x1) fun _ r i => Spec.pool A.pv 1 r i := group h 1 128 rfl (by norm_num) slices_S1x8193x512_S1x8193x128_0_0_128 slices_S1x8192x512_S1x8192x128_0_0_128
theorem r69 : H3 (val_main_v69 (F := Ideal) x1) fun _ r i => Spec.pool A.pv 2 r i := group h 2 256 rfl (by norm_num) slices_S1x8193x512_S1x8193x128_0_0_256 slices_S1x8192x512_S1x8192x128_0_0_256
theorem r88 : H3 (val_main_v88 (F := Ideal) x1) fun _ r i => Spec.pool A.pv 3 r i := group h 3 384 rfl (by norm_num) slices_S1x8193x512_S1x8193x128_0_0_384 slices_S1x8192x512_S1x8192x128_0_0_384

theorem r93 (u : Fin 1) (r : Fin 8192) (g : Fin 4) (i : Fin 128) :
    val_main_v93 (F := Ideal) x1 (ix4 u r g i) = ((Spec.pool A.pv g.val r.val i.val : ℝ) : EReal) := by
  have key (k : Fin 4) (y : FVec Ideal S1x8192x1x128 .f32) (z : FVec Ideal S1x8192x128 .f32) (hz : H3 z fun _ r i => Spec.pool A.pv k.val r i)
      (hy : y = broadcastInDim S1x8192x1x128 ![0, 1, 3] bcast_S1x8192x128_S1x8192x1x128_0_1_3 z) :
      y (ix4 u r (0 : Fin 1) i) = ((Spec.pool A.pv k.val r.val i.val : ℝ) : EReal) := by
    subst hy
    rw [broadcastInDim_apply _ _ _ (ix4 u r (0 : Fin 1) i) (ix3 u r i) (fun a => by
      match a with | ⟨0, _⟩ => exact Nat.lt_one_iff.mp u.isLt | ⟨1, _⟩ => rfl | ⟨2, _⟩ => rfl)]
    exact hz _
  refine (four_at (fun k : Fin 4 => match k with
    | 0 => val_main_v89 (F := Ideal) x1 | 1 => val_main_v90 (F := Ideal) x1 | 2 => val_main_v91 (F := Ideal) x1 | 3 => val_main_v92 (F := Ideal) x1) u r g i).trans ?_
  match g with
  | 0 => exact key 0 _ _ (r31 h) rfl
  | 1 => exact key 1 _ _ (r50 h) rfl
  | 2 => exact key 2 _ _ (r69 h) rfl
  | 3 => exact key 3 _ _ (r88 h) rfl

theorem r96 : H3 (val_main_v96 (F := Ideal) x1 x3) fun _ r c => Spec.M A r c := H3.of fun u r c => by
  have hu : u = 0 := Subsingleton.elim _ _
  subst hu
  have hg : c.val / 128 < 4 := by omega
  have hm : c.val % 128 < 128 := Nat.mod_lt _ (by norm_num)
  unfold val_main_v96
  rw [shapeCast_apply _ _ _ (ix4 (0 : Fin 1) r (⟨_, hg⟩ : Fin 4) (⟨_, hm⟩ : Fin 128)) (by
    rw [Shape.rowMajor_val_four, Shape.rowMajor_val_three]
    show ((0 * 8192 + r.val) * 4 + c.val / 128) * 128 + c.val % 128 = (0 * 8192 + r.val) * 512 + c.val
    omega), val_main_v95_apply, val_main_v94_apply]
  unfold Spec.M
  refine sum_real fun k => ?_
  have e1 : val_main_v6 (F := Ideal) x3 (lidx_main_v94 (idx_main_v95 (ix4 (0 : Fin 1) r (⟨_, hg⟩ : Fin 4) (⟨_, hm⟩ : Fin 128))) k) = ((A.pw (c.val / 128) k.val (c.val % 128) : ℝ) : EReal) := by
    refine Eq.trans ?_ (h.pw ⟨_, hg⟩ k ⟨_, hm⟩)
    unfold val_main_v6
    refine shapeCast_apply _ _ _ _ ?_
    rw [Shape.rowMajor_val_four, Shape.rowMajor_val_three]
    show ((0 * 4 + c.val / 128) * 128 + k.val) * 128 + c.val % 128 = (c.val / 128 * 128 + k.val) * 128 + c.val % 128
    omega
  have e2 : val_main_v93 (F := Ideal) x1 (ridx_main_v94 (idx_main_v95 (ix4 (0 : Fin 1) r (⟨_, hg⟩ : Fin 4) (⟨_, hm⟩ : Fin 128))) k) = ((Spec.pool A.pv (c.val / 128) r.val k.val : ℝ) : EReal) := by
    refine Eq.trans (congrArg _ ?_) (r93 h (0 : Fin 1) r ⟨_, hg⟩ k)
    funext a; apply Fin.ext
    match a with | ⟨0, _⟩ => rfl | ⟨1, _⟩ => rfl | ⟨2, _⟩ => rfl | ⟨3, _⟩ => rfl
  rw [e1, e2, ← EReal.coe_mul, mul_comm]

theorem r98 : H3 (val_main_v98 (F := Ideal) x4) fun _ _ c => A.ps c := H3.of fun u r c => by
  rw [val_main_v98_apply, val_main_v97_apply]
  refine Eq.trans ?_ (h.ps c)
  unfold val_main_v7
  refine shapeCast_apply _ _ _ _ ?_
  rw [Shape.rowMajor_val_two, Shape.rowMajor_val_one]
  exact Nat.zero_add _

theorem rgate : H3 (val_main_call5_v5 (F := Ideal) x1) fun _ r c => Spec.sig (A.pg r c) := by
  refine H3.ofHR (HR.div (HR.fill c1 _) (HR.add (HR.fill c1 _) (HR.exp (HR.neg (r5 h)))) fun i => ?_) fun u r c => ?_
  · exact (one_add_exp_pos _).ne'
  · show 1 / (1 + Real.exp (-A.pg r.val c.val)) = _
    unfold Spec.sig; rw [zero_sub]

theorem r101 : H3 (val_main_v101 (F := Ideal) x1 x3 x4) fun _ r c => YP A r c :=
  H3.ofHR (HR.mul (HR.mul (r96 h) (r98 h)) (HR.mul (r5 h) (rgate h))) fun _ _ _ => rfl

theorem r103 : H3 (val_main_v103 (F := Ideal) x2) fun _ r c => A.ya r c := H3.of fun u r c => by
  show val_main_v102 (F := Ideal) x2 (ix3 u r c) = _
  rw [val_main_v102_apply]
  refine Eq.trans (congrArg x2 ?_) (h.ya r c)
  funext a; apply Fin.ext
  match a with | ⟨0, _⟩ => rfl | ⟨1, _⟩ => rfl

theorem r104 : H3 (val_main_v104 (F := Ideal) x1 x2 x3 x4) fun _ r c => Y A r c := H3.of fun u r c => by
  unfold val_main_v104 Y
  by_cases hc : c.val < 512
  · rw [if_pos hc, concatenate_pair_apply_left (2 : Fin 3) (val_main_v101 (F := Ideal) x1 x3 x4) (val_main_v103 (F := Ideal) x2) _ (ix3 u r c) rfl (ix3 u r (⟨c.val, hc⟩ : Fin 512)) (fun b => by
      match b with | ⟨0, _⟩ => rfl | ⟨1, _⟩ => rfl | ⟨2, _⟩ => rfl), r101 h]
  · rw [if_neg hc, concatenate_pair_apply_right (2 : Fin 3) (val_main_v101 (F := Ideal) x1 x3 x4) (val_main_v103 (F := Ideal) x2) _ (ix3 u r c) rfl rfl (ix3 u r (⟨c.val - 512, by omega⟩ : Fin 512)) (fun b hb => by
      match b with | ⟨0, _⟩ => rfl | ⟨1, _⟩ => rfl | ⟨2, _⟩ => exact absurd rfl hb) (by show c.val - 512 + 512 = c.val; omega), r103 h]

theorem r105 : H (val_main_v105 (F := Ideal) x5) fun r c => A.w r c := H.of fun r c => by
  unfold val_main_v105
  rw [shapeCast_1ab_ab_apply]
  exact h.w r c

theorem r107 : H3 (val_main_v107 (F := Ideal) x0 x1 x2 x3 x4 x5) fun _ r c => X2 A r c := H3.of fun u r c => by
  have hu : u = 0 := Subsingleton.elim _ _
  subst hu
  show x0 (ix3 (0 : Fin 1) r c) + val_main_v106 (F := Ideal) x1 x2 x3 x4 x5 (ix3 (0 : Fin 1) r c) = _
  rw [val_main_v106_apply, h.x, sum_real (f := fun k => Y A r.val k * A.w k c.val) fun k => by
    rw [r104 h, r105 h, ← EReal.coe_mul], ← EReal.coe_add]
  rfl

end

end Cert.ReferenceIdeal.Calc
-- ==== Proof.RGrad.lean ====
/-
  The reference's loss and its gradients, read as the formulas of the specification.
-/
module

public import proofs.«01_k».proof.Proof.RMix

@[expose] public section

set_option maxRecDepth 16384

noncomputable section

namespace Cert.ReferenceIdeal.Calc

open Idealize.ShloMosaic Idealize.ShloMosaic.TcCoe Idealize.SL.Sem Idealize.ShloMosaic.StableHlo
open Cert.ReferenceIdeal Cert.ReferenceIdeal.Gen Cert.ReferenceIdeal.Read Cert.Holds Cert.Consts
open Cert.Spec hiding M V pool sig
open Idealize.ShloMosaic.ValueIdx
open scoped BigOperators

theorem sum_swap (f : ℕ → ℕ → ℝ) (n m : ℕ) (a : ℝ) :
    ∑ r ∈ Finset.range n, (∑ c ∈ Finset.range m, f r c) / a = (∑ c ∈ Finset.range m, ∑ r ∈ Finset.range n, f r c) / a := by
  rw [← Finset.sum_div, Finset.sum_comm]

theorem dx2_eq (A : Args) (r c : ℕ) (q : ℝ)
    (hq : q = (∑ k ∈ Finset.range 1024, X2 A r k * (DF A r k * A.g k)) * (-(1 / 2) * (RR A r / Spec.V A r)) / 1024) :
    DF A r c * A.g c * RR A r + X2 A r c * q + q * X2 A r c = DX2 A r c := by
  have e : ∑ k ∈ Finset.range 1024, DF A r k * A.g k * XH A r k = RR A r * ∑ k ∈ Finset.range 1024, X2 A r k * (DF A r k * A.g k) := by
    rw [Finset.mul_sum]
    exact Finset.sum_congr rfl fun k _ => by unfold XH; ring
  unfold DX2
  rw [e, hq, div_eq_mul_inv (RR A r), ← RR_sq]
  unfold XH
  ring

section

variable {A : Args} {x0 : FVec Ideal S1x8192x1024 .f32} {x1 : FVec Ideal S8192x3072 .bf16} {x2 : FVec Ideal S8192x512 .bf16}
  {x3 : FVec Ideal S1x4x128x128 .f32} {x4 : FVec Ideal S1x512 .f32} {x5 : FVec Ideal S1x1024x1024 .f32} {x6 : FVec Ideal S1024 .f32}
  {x7 : FVec Ideal S1x8192x1024 .f32} (h : Reads A x0 x1 x2 x3 x4 x5 x6 x7)
include h

/-! ## The norm -/

theorem r109 : H (val_main_v109 (F := Ideal) x0 x1 x2 x3 x4 x5) fun _ r => ∑ c ∈ Finset.range 1024, X2 A r c * X2 A r c := H.of fun u r => by
  rw [val_main_v109_apply, show (val_main_cst_15 (F := Ideal)) (Shape.Idx.first h_S_) = ((0 : ℝ) : EReal) from c0, EReal.coe_zero, zero_add]
  exact sum_real fun k => HR.mul (φ := .f32) (r107 h) (r107 h) _

theorem r114 : H3 (val_main_v114 (F := Ideal) x0 x1 x2 x3 x4 x5) fun _ r _ => Spec.V A r := by
  have e : H3 (val_main_v110 (F := Ideal) x0 x1 x2 x3 x4 x5) fun _ r _ => ∑ c ∈ Finset.range 1024, X2 A r c * X2 A r c := H3.of fun u r c => by
    rw [val_main_v110_apply]; exact r109 h _
  exact H3.ofHR (HR.add (HR.div e (HR.fill c1024 _) fun _ => by norm_num) (HR.fill ceps _)) fun _ _ _ => rfl

theorem r115 : H3 (val_main_v115 (F := Ideal) x0 x1 x2 x3 x4 x5) fun _ r _ => RR A r :=
  H3.ofHR (HR.rsqrt (r114 h) fun _ => V_pos A _) fun _ _ _ => rfl

theorem r118 : H3 (val_main_v118 (F := Ideal) x0 x1 x2 x3 x4 x5) fun _ r _ => -(1 / 2) * (RR A r / Spec.V A r) :=
  H3.ofHR (HR.mul (HR.fill cnhalf _) (HR.div (r115 h) (r114 h) fun _ => (V_pos A _).ne')) fun _ _ _ => rfl

theorem r119 : H3 (val_main_v119 (F := Ideal) x0 x1 x2 x3 x4 x5) fun _ r _ => RR A r := H3.of fun u r c => by
  rw [val_main_v119_apply]; exact r115 h _

theorem r120 : H3 (val_main_v120 (F := Ideal) x0 x1 x2 x3 x4 x5) fun _ r c => XH A r c :=
  H3.ofHR (HR.mul (r107 h) (r119 h)) fun _ _ _ => rfl

theorem r121 : H3 (val_main_v121 (F := Ideal) x6) fun _ _ c => A.g c := H3.of fun u r c => by
  rw [val_main_v121_apply]
  refine Eq.trans (congrArg x6 ?_) (h.g c)
  funext a; apply Fin.ext
  match a with | ⟨0, _⟩ => rfl

theorem r122 : H3 (val_main_v122 (F := Ideal) x6) fun _ _ c => A.g c := H3.of fun u r c => by
  rw [val_main_v122_apply]; exact r121 h _

theorem r142 : H3 (val_main_v142 (F := Ideal) x6) fun _ _ c => A.g c := H3.of fun u r c => by
  rw [val_main_v142_apply]; exact r121 h _

theorem r7 : H3 x7 fun _ r c => A.t r c := H3.of fun u r c => by
  have hu : u = 0 := Subsingleton.elim _ _
  subst hu
  exact h.t r c

theorem r124 : H3 (val_main_v124 (F := Ideal) x0 x1 x2 x3 x4 x5 x6 x7) fun _ r c => DIFF A r c :=
  H3.ofHR (HR.sub (HR.mul (r120 h) (r122 h)) (r7 h)) fun _ _ _ => rfl

/-! ## The loss -/

theorem r130 : H (val_main_v130 (F := Ideal) x0 x1 x2 x3 x4 x5 x6 x7) fun _ r => (∑ c ∈ Finset.range 1024, DIFF A r c * DIFF A r c) / 1024 := by
  have e : H (val_main_v128 (F := Ideal) x0 x1 x2 x3 x4 x5 x6 x7) fun _ r => ∑ c ∈ Finset.range 1024, DIFF A r c * DIFF A r c := H.of fun u r => by
    rw [val_main_v128_apply, show (val_main_cst_20 (F := Ideal)) (Shape.Idx.first h_S_) = ((0 : ℝ) : EReal) from c0, EReal.coe_zero, zero_add]
    exact sum_real fun k => HR.mul (φ := .f32) (r124 h) (r124 h) _
  exact HR.congr (HR.div e (HR.fill c1024 _) fun _ => by norm_num) fun _ => rfl

theorem r168 : H (val_main_v168 (F := Ideal) x0 x1 x2 x3 x4 x5 x6 x7) fun _ _ => LOSS A := H.of fun u c => by
  unfold val_main_v168
  rw [broadcastInDim_scalar_apply]
  show val_main_cst_23 (F := Ideal) ix0 * val_main_v131 (F := Ideal) x0 x1 x2 x3 x4 x5 x6 x7 ix0 = _
  have e : ∑ j : S1x8192.Idx, val_main_v130 (F := Ideal) x0 x1 x2 x3 x4 x5 x6 x7 j
      = ((∑ r ∈ Finset.range 8192, (∑ c ∈ Finset.range 1024, DIFF A r c * DIFF A r c) / 1024 : ℝ) : EReal) := by
    rw [ValueIdx.sum_idx2, Fin.sum_univ_one]
    exact sum_real fun r => r130 h _
  rw [val_main_v131_apply, show (val_main_cst_22 (F := Ideal)) (Shape.Idx.first h_S_) = ((0 : ℝ) : EReal) from c0, EReal.coe_zero, zero_add, e,
    show (val_main_cst_23 (F := Ideal)) ix0 = ((1 / 2 : ℝ) : EReal) from chalf, ← EReal.coe_mul, sum_swap]
  unfold LOSS SQ
  congr 1
  ring

/-! ## The gradients -/

theorem r138 : H3 (val_main_v138 (F := Ideal) x0 x1 x2 x3 x4 x5 x6 x7) fun _ r c => DF A r c := by
  have e : H3 (val_main_v137 (F := Ideal)) fun _ _ _ => (1 / 2 * 1) / 1024 := H3.of fun u r c => by
    rw [val_main_v137_apply]
    have e0 : HR (val_main_v134 (F := Ideal)) fun _ => 1 / 2 * 1 := fun i => by
      unfold val_main_v134
      rw [broadcastInDim_scalar_apply]
      show val_main_cst_24 (F := Ideal) ix0 * val_main_cst_25 (F := Ideal) ix0 = _
      rw [show (val_main_cst_24 (F := Ideal)) ix0 = ((1 / 2 : ℝ) : EReal) from chalf, show (val_main_cst_25 (F := Ideal)) ix0 = ((1 : ℝ) : EReal) from c1,
        ← EReal.coe_mul]
    exact HR.div (φ := .f32) e0 (HR.fill c1024 _) (fun _ => by norm_num) _
  refine H3.ofHR (HR.mul e (HR.mul (HR.fill c2 _) (r124 h))) fun u r c => ?_
  show (1 / 2 * 1) / 1024 * (2 * DIFF A r.val c.val) = _
  unfold DF; ring

theorem r143 : H3 (val_main_v143 (F := Ideal) x0 x1 x2 x3 x4 x5 x6 x7) fun _ r c => DF A r c * A.g c :=
  H3.ofHR (HR.mul (r138 h) (r142 h)) fun _ _ _ => rfl

theorem r167 : H (val_main_v167 (F := Ideal) x0 x1 x2 x3 x4 x5 x6 x7) fun _ c => GG A 8192 c := by
  have e : H (val_main_v140 (F := Ideal) x0 x1 x2 x3 x4 x5 x6 x7) fun _ c => GG A 8192 c := H.of fun u c => by
    rw [val_main_v140_apply, show (val_main_cst_27 (F := Ideal)) (Shape.Idx.first h_S_) = ((0 : ℝ) : EReal) from c0, EReal.coe_zero, zero_add]
    refine sum_real (f := fun r => DF A r c.val * XH A r c.val) fun k => ?_
    refine (HR.mul (φ := .f32) (r120 h) (r138 h) _).trans ?_
    rw [mul_comm]
  have e1 : H3 (val_main_v141 (F := Ideal) x0 x1 x2 x3 x4 x5 x6 x7) fun _ _ c => GG A 8192 c := H3.of fun u r c => by
    have hu : u = 0 := Subsingleton.elim _ _
    subst hu
    unfold val_main_v141
    rw [shapeCast_apply _ _ _ (ix2 (0 : Fin 1) c) (by
      rw [Shape.rowMajor_val_two, Shape.rowMajor_val_three]
      show 0 * 1024 + c.val = (0 * 1 + r.val) * 1024 + c.val
      have := r.isLt; omega)]
    exact e _
  refine H.of fun u c => ?_
  have hu : u = 0 := Subsingleton.elim _ _
  subst hu
  unfold val_main_v167
  rw [shapeCast_apply _ _ _ (ix1 c) (by
    rw [Shape.rowMajor_val_two, Shape.rowMajor_val_one]
    show c.val = 0 * 1024 + c.val
    omega)]
  unfold val_main_v144
  refine (sum_unit reducesTo_S1x1x1024_S1024_d0_1 e1 c0 h_S_ (ix1 c) (ix3 (0 : Fin 1) (0 : Fin 1) c) (fun k hk => ?_) ?_).trans rfl
  · obtain ⟨a, b, d, rfl⟩ : ∃ (a : Fin 1) (b : Fin 1) (d : Fin 1024), k = ix3 a b d := ⟨k 0, k 1, k 2, eq_ix3 k⟩
    have hd := Shape.ReducesTo.drop_apply_val_of_eq reducesTo_S1x1x1024_S1024_d0_1 (ix3 a b d) 0 2 (by decide) (by decide)
    rw [hk] at hd
    have hdc : d = c := Fin.ext hd.symm
    rw [hdc, Subsingleton.elim a 0, Subsingleton.elim b 0]
  · funext b
    match b with
    | ⟨0, _⟩ => exact Fin.ext (Shape.ReducesTo.drop_apply_val_of_eq reducesTo_S1x1x1024_S1024_d0_1 (ix3 (0 : Fin 1) (0 : Fin 1) c) 0 2 (by decide) (by decide))

theorem r155 : H3 (val_main_v155 (F := Ideal) x0 x1 x2 x3 x4 x5 x6 x7) fun _ r _ =>
    (∑ k ∈ Finset.range 1024, X2 A r k * (DF A r k * A.g k)) * (-(1 / 2) * (RR A r / Spec.V A r)) / 1024 := by
  have e : H (val_main_v146 (F := Ideal) x0 x1 x2 x3 x4 x5 x6 x7) fun _ r => ∑ k ∈ Finset.range 1024, X2 A r k * (DF A r k * A.g k) := H.of fun u r => by
    rw [val_main_v146_apply, show (val_main_cst_29 (F := Ideal)) (Shape.Idx.first h_S_) = ((0 : ℝ) : EReal) from c0, EReal.coe_zero, zero_add]
    exact sum_real fun k => HR.mul (φ := .f32) (r107 h) (r143 h) _
  have e1 : H3 (val_main_v147 (F := Ideal) x0 x1 x2 x3 x4 x5 x6 x7) fun _ r _ => ∑ k ∈ Finset.range 1024, X2 A r k * (DF A r k * A.g k) := H3.of fun u r c => by
    have hu : u = 0 := Subsingleton.elim _ _
    subst hu
    unfold val_main_v147
    rw [shapeCast_apply _ _ _ (ix2 (0 : Fin 1) r) (by
      rw [Shape.rowMajor_val_two, Shape.rowMajor_val_three]
      show 0 * 8192 + r.val = (0 * 8192 + r.val) * 1 + c.val
      have := c.isLt; omega)]
    exact e _
  have e2 : HR (val_main_v152 (F := Ideal) x0 x1 x2 x3 x4 x5 x6 x7) _ := HR.div (HR.mul e1 (r118 h)) (HR.fill c1024 _) fun _ => by norm_num
  refine H3.of fun u r c => ?_
  rw [val_main_v155_apply, val_main_v154_apply]
  unfold val_main_v153
  refine (sum_unit reducesTo_S1x8192x1_S8192_d0_2 e2 c0 h_S_ _ (ix3 (0 : Fin 1) r (0 : Fin 1)) (fun k hk => ?_) ?_).trans rfl
  · obtain ⟨a, b, d, rfl⟩ : ∃ (a : Fin 1) (b : Fin 8192) (d : Fin 1), k = ix3 a b d := ⟨k 0, k 1, k 2, eq_ix3 k⟩
    have hd := Shape.ReducesTo.drop_apply_val_of_eq reducesTo_S1x8192x1_S8192_d0_2 (ix3 a b d) 0 1 (by decide) (by decide)
    rw [hk] at hd
    have hdc : b = r := Fin.ext hd.symm
    rw [hdc, Subsingleton.elim a 0, Subsingleton.elim d 0]
  · funext b
    match b with
    | ⟨0, _⟩ => exact Fin.ext (Shape.ReducesTo.drop_apply_val_of_eq reducesTo_S1x8192x1_S8192_d0_2 (ix3 (0 : Fin 1) r (0 : Fin 1)) 0 1 (by decide) (by decide))

theorem r159 : H3 (val_main_v159 (F := Ideal) x0 x1 x2 x3 x4 x5 x6 x7) fun _ r c => DX2 A r c := by
  have e : H3 (val_main_v148 (F := Ideal) x0 x1 x2 x3 x4 x5) fun _ r _ => RR A r := H3.of fun u r c => by
    rw [val_main_v148_apply]; exact r115 h _
  exact H3.ofHR (HR.add (HR.add (HR.mul (r143 h) e) (HR.mul (r107 h) (r155 h))) (HR.mul (r155 h) (r107 h))) fun _ _ _ => dx2_eq A _ _ _ rfl

theorem r163 : H (val_main_v163 (F := Ideal) x0 x1 x2 x3 x4 x5 x6 x7) fun r c => DX2 A r c := H.of fun r c => by
  unfold val_main_v163
  rw [shapeCast_1ab_ab_apply]
  exact r159 h _

theorem r165 : H (val_main_v165 (F := Ideal) x0 x1 x2 x3 x4 x5 x6 x7) fun r c => DY A r c := H.of fun r c => by
  show val_main_v164 (F := Ideal) x0 x1 x2 x3 x4 x5 x6 x7 (ix2 r c) = _
  unfold val_main_v164
  rw [shapeCast_1ab_ab_apply, val_main_v162_apply]
  exact sum_real (f := fun k => DX2 A r.val k * A.w c.val k) fun k => by
    rw [r159 h, r105 h, ← EReal.coe_mul]

theorem r166 : H3 (val_main_v166 (F := Ideal) x0 x1 x2 x3 x4 x5 x6 x7) fun g r c => GW A 8192 (256 * g + r) c := H3.of fun g r c => by
  unfold val_main_v166
  rw [shapeCast_apply _ _ _ (ix2 (⟨256 * g.val + r.val, by omega⟩ : Fin 1024) c) (by
    rw [Shape.rowMajor_val_two, Shape.rowMajor_val_three]
    show (256 * g.val + r.val) * 1024 + c.val = (g.val * 256 + r.val) * 1024 + c.val
    ring), val_main_v161_apply]
  unfold val_main_v160
  refine dot_at2 dot_S1x8192x1024_S1x8192x1024_S1024x1024_01_01_2_2_n_n 8192 rfl rfl rfl (r159 h) (r104 h) _ (fun k => Y A k (256 * g.val + r.val) * DX2 A k c.val) fun k q hq => ?_
  have l1 : (dot_S1x8192x1024_S1x8192x1024_S1024x1024_01_01_2_2_n_n.lhsIdx (idx_main_v161 (ix2 (⟨256 * g.val + r.val, by omega⟩ : Fin 1024) c)) q 1).val = k.val := hq
  have l2 : (dot_S1x8192x1024_S1x8192x1024_S1024x1024_01_01_2_2_n_n.lhsIdx (idx_main_v161 (ix2 (⟨256 * g.val + r.val, by omega⟩ : Fin 1024) c)) q 2).val = c.val := rfl
  have r1 : (dot_S1x8192x1024_S1x8192x1024_S1024x1024_01_01_2_2_n_n.rhsIdx (idx_main_v161 (ix2 (⟨256 * g.val + r.val, by omega⟩ : Fin 1024) c)) q 1).val = k.val := hq
  have r2 : (dot_S1x8192x1024_S1x8192x1024_S1024x1024_01_01_2_2_n_n.rhsIdx (idx_main_v161 (ix2 (⟨256 * g.val + r.val, by omega⟩ : Fin 1024) c)) q 2).val = 256 * g.val + r.val := rfl
  rw [l1, l2, r1, r2, mul_comm]

end

end Cert.ReferenceIdeal.Calc
-- ==== Proof.OutLoss.lean ====
/-
  `out_loss`: the kernel's five results are the reference's, at finite inputs.
-/
module

public import proofs.«01_k».proof.Defs
public import proofs.«01_k».proof.Proof.Finite
public import proofs.«01_k».proof.Proof.KOut
public import proofs.«01_k».proof.Proof.RGrad
public import proofs.«01_k».proof.Proof.Gen.ReferenceIdeal.Run
public import proofs.«01_k».proof.Proof.Gen.Kernel.Frame
public import proofs.«01_k».proof.Proof.Gen.KernelIdeal.Frame

@[expose] public section

set_option maxRecDepth 16384

noncomputable section

namespace Cert.OutLoss

open Idealize.ShloMosaic Idealize.ShloMosaic.TcCoe Idealize.SL.Sem
open Cert.Holds

/-- Two arrays that hold the same real numbers are the same. -/
theorem same {S : Shape} {x y : S.Idx → EReal} {f : S.Idx → ℝ} (hx : HR x f) (hy : HR y f) : x = y :=
  funext fun i => (hx i).trans (hy i).symm

theorem frame_p : Cert.quiescent_Kernel (hKernel := Cert.Kernel.Gen.facts) := fun m ρ _ => Cert.Kernel.Gen.frame m ρ
theorem frame_pi : Cert.quiescent_KernelIdeal (hKernelIdeal := Cert.KernelIdeal.Gen.facts) := fun m ρ _ => Cert.KernelIdeal.Gen.frame m ρ
theorem frame_pi_pre : Cert.quiescent_KernelIdeal_pre_finite_inputs (hKernelIdeal := Cert.KernelIdeal.Gen.facts)
    (hPre_finite_inputs := Cert.Pre_finite_inputs.facts) := fun m ρ _ => Cert.KernelIdeal.Gen.frame m ρ
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_pre : Cert.quiescent_ReferenceIdeal_pre_finite_inputs (hReferenceIdeal := Cert.ReferenceIdeal.Gen.facts)
    (hPre_finite_inputs := Cert.Pre_finite_inputs.facts) := fun m ρ _ => frame_ri m ρ trivial

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hargs
  refine ⟨fun c => Cert.KernelIdeal.Value.G9 m c, fun c => Cert.KernelIdeal.Value.G10 m c, fun c => Cert.KernelIdeal.Value.G11 m c,
    fun c => Cert.KernelIdeal.Value.G12 m c, fun c => Cert.KernelIdeal.Value.G13 m c, Cert.KernelIdeal.Value.run m g, ?_⟩
  refine (θ_run Cert.ReferenceIdeal.defs _ _).mono (fun r hr c => ?_) (Cert.ReferenceIdeal.Value.run (F := Ideal) m' g')
  obtain ⟨r0, r1, r2, r3, r4, hrest⟩ := hr c
  obtain ⟨A, hK⟩ : ∃ A, Cert.KernelIdeal.Tile.In m c A := ⟨_, @Cert.Pre_finite_inputs.reads Cert.Pre_finite_inputs.facts _ _ _ _ _ _ _ _ (hpre c)⟩
  have hR : Cert.Spec.Reads A _ _ _ _ _ _ _ _ := hK
  obtain ⟨e0, e1, e2, e3, e4, e5, e6, e7⟩ := hargs c
  rw [← e0, ← e1, ← e2, ← e3, ← e4, ← e5, ← e6, ← e7] at hR
  refine ⟨?_, ?_, ?_, ?_, ?_, hrest⟩
  · exact (r0.trans (Cert.ReferenceIdeal.Read.val_main_v163_eq _)).trans (same (Cert.ReferenceIdeal.Calc.r163 hR) (Cert.KernelIdeal.Tile.out_dx2 hK))
  · exact (r1.trans (Cert.ReferenceIdeal.Read.val_main_v165_eq _)).trans (same (Cert.ReferenceIdeal.Calc.r165 hR) (Cert.KernelIdeal.Tile.out_dy hK))
  · exact (r2.trans (Cert.ReferenceIdeal.Read.val_main_v166_eq _)).trans (same (Cert.ReferenceIdeal.Calc.r166 hR) (Cert.KernelIdeal.Tile.out_gw hK))
  · exact (r3.trans (Cert.ReferenceIdeal.Read.val_main_v167_eq _)).trans (same (Cert.ReferenceIdeal.Calc.r167 hR) (Cert.KernelIdeal.Tile.out_gg hK))
  · exact (r4.trans (Cert.ReferenceIdeal.Read.val_main_v168_eq _)).trans (same (Cert.ReferenceIdeal.Calc.r168 hR) (Cert.KernelIdeal.Tile.out_loss hK))

end Cert.OutLoss
-- ==== Proof.Spec2.lean ====
/-
  What the backward pass of the input projection and the pool computes over the reals: one function of (row, column) per
  intermediate array, of the real entries of its arguments.
-/
module

public import proofs.«01_k».proof.Proof.Spec

@[expose] public section

noncomputable section

namespace Cert.Spec2

open scoped BigOperators
open Cert.Consts Finset
open Cert.Spec (pool win sig)

/-- The real entries of the eleven arguments. -/
structure Args where
  x : ℕ → ℕ → ℝ
  g : ℕ → ℝ
  w : ℕ → ℕ → ℝ
  pw : ℕ → ℕ → ℕ → ℝ
  ps : ℕ → ℝ
  dx2 : ℕ → ℕ → ℝ
  dy : ℕ → ℕ → ℝ
  dq : ℕ → ℕ → ℝ
  dk : ℕ → ℕ → ℝ
  dv : ℕ → ℕ → ℝ
  da : ℕ → ℕ → ℝ

variable (A : Args)

/-- The mean square of a row, the small number added. -/
def V (r : ℕ) : ℝ := (∑ c ∈ range 1024, A.x r c * A.x r c) / 1024 + eps

theorem V_pos (r : ℕ) : 0 < V A r := by
  have h : 0 ≤ ∑ c ∈ range 1024, A.x r c * A.x r c := Finset.sum_nonneg fun c _ => mul_self_nonneg _
  have := eps_pos
  unfold V; positivity

/-- The reciprocal root. -/
def RR (r : ℕ) : ℝ := (Real.sqrt (V A r))⁻¹

theorem RR_sq (r : ℕ) : RR A r * RR A r = (V A r)⁻¹ := by
  unfold RR; rw [← mul_inv, Real.mul_self_sqrt (V_pos A r).le]

/-- The normalised row. -/
def XH (r c : ℕ) : ℝ := A.x r c * RR A r

/-- The norm's output. -/
def HN (r c : ℕ) : ℝ := XH A r c * A.g c

/-- The projections: pool values, pool gates, and the attention's. -/
def PROJ (r e : ℕ) : ℝ := ∑ k ∈ range 1024, HN A r k * A.w k e

def PG (r c : ℕ) : ℝ := PROJ A r (512 + c)

def SG (r c : ℕ) : ℝ := sig (PG A r c)

/-- The pooled differences of group `g`. -/
def D (g r i : ℕ) : ℝ := pool (PROJ A) g r i

/-- The pooled differences through their group's matrix. -/
def M (r c : ℕ) : ℝ := ∑ k ∈ range 128, D A (c / 128) r k * A.pw (c / 128) k (c % 128)

/-- The gradient through the gate and the scale. -/
def DM (r c : ℕ) : ℝ := A.dy r c * A.ps c * (PG A r c * SG A r c)

/-- The gradient in the gates. -/
def DPG (r c : ℕ) : ℝ := A.dy r c * (M A r c * A.ps c) * (SG A r c * (1 + PG A r c * (1 - SG A r c)))

/-- The gradient in the pooled differences. -/
def DD (r c : ℕ) : ℝ := ∑ k ∈ range 128, DM A r (128 * (c / 128) + k) * A.pw (c / 128) (c % 128) k

/-- The gradient in the windows' sums; nothing beyond the last row. -/
def SP (r c : ℕ) : ℝ := if r < 8192 then DD A r c / (min (r + 1) (win (c / 128)) : ℕ) else 0

/-- The gradient in the pool's values: each entry is in the windows of the rows from its own on. -/
def DPV (r c : ℕ) : ℝ := ∑ k ∈ range (win (c / 128)), SP A (r + k) c - DD A r c

/-- The gradient in the projections. -/
def DPROJ (r c : ℕ) : ℝ :=
  if c < 512 then DPV A r c else if c < 1024 then DPG A r (c - 512) else if c < 1536 then A.dq r (c - 1024)
  else if c < 2048 then A.dk r (c - 1536) else if c < 2560 then A.dv r (c - 2048) else A.da r (c - 2560)

/-- The gradient in the norm's output. -/
def DH (r c : ℕ) : ℝ := ∑ k ∈ range 3072, DPROJ A r k * A.w c k

/-- The gradient in the residual stream. -/
def GX (r c : ℕ) : ℝ :=
  A.dx2 r c + RR A r * (DH A r c * A.g c - XH A r c * ((∑ k ∈ range 1024, DH A r k * A.g k * XH A r k) / 1024))

/-- The sum of the rows from `a` on. -/
def tail (f : ℕ → ℝ) (a : ℕ) : ℝ := ∑ r ∈ range (8192 - a), f (a + r)

theorem tail_step (f : ℕ → ℝ) (a : ℕ) (h : a + 512 ≤ 8192) : tail f a = tail f (a + 512) + ∑ r ∈ range 512, f (a + r) := by
  unfold tail
  rw [show 8192 - a = 512 + (8192 - (a + 512)) by omega, Finset.sum_range_add, add_comm]
  congr 1
  exact Finset.sum_congr rfl fun r _ => by rw [add_assoc]

theorem tail_all (f : ℕ → ℝ) : tail f 0 = ∑ r ∈ range 8192, f r := by simp [tail]
theorem tail_none (f : ℕ → ℝ) : tail f 8192 = 0 := by simp [tail]

/-- The gain's gradient from the rows from `a` on. -/
def GG (a c : ℕ) : ℝ := tail (fun r => DH A r c * XH A r c) a

/-- The scales' gradient from the rows from `a` on. -/
def GPS (a c : ℕ) : ℝ := tail (fun r => A.dy r c * M A r c * (PG A r c * SG A r c)) a

/-- The group matrices' gradient from the rows from `a` on. -/
def GPW (a g i j : ℕ) : ℝ := tail (fun r => D A g r i * DM A r (128 * g + j)) a

/-! ## Sums forward by doubling -/

/-- The table `B` of `N` entries after `n` doublings, each adding the table moved up. -/
def up (N : ℕ) : ℕ → (ℕ → ℝ) → ℕ → ℝ
  | 0, B => B
  | n + 1, B => fun j => up N n B j + up N n B ((j + 2 ^ n) % N)

theorem up_eq {N : ℕ} (B : ℕ → ℝ) : ∀ n j, j + 2 ^ n ≤ N → up N n B j = ∑ k ∈ range (2 ^ n), B (j + k)
  | 0, j, _ => by simp [up]
  | n + 1, j, h => by
    have e : 2 ^ (n + 1) = 2 ^ n + 2 ^ n := by ring
    have hp : 0 < 2 ^ n := Nat.two_pow_pos n
    rw [e] at h ⊢
    show up N n B j + up N n B ((j + 2 ^ n) % N) = _
    rw [Nat.mod_eq_of_lt (by omega), up_eq B n j (by omega), up_eq B n (j + 2 ^ n) (by omega), Finset.sum_range_add]
    congr 1
    exact Finset.sum_congr rfl fun k _ => by rw [add_assoc]

/-- A sum over 3072 columns, 768 at a time. -/
theorem sum_chips (f : ℕ → ℝ) :
    ∑ k ∈ range 3072, f k = ((∑ k ∈ range 768, f k + ∑ k ∈ range 768, f (768 + k)) + ∑ k ∈ range 768, f (1536 + k))
      + ∑ k ∈ range 768, f (2304 + k) := by
  rw [show 3072 = 768 + 768 + 768 + 768 from rfl, Finset.sum_range_add, Finset.sum_range_add, Finset.sum_range_add]

end Cert.Spec2
-- ==== Proof.Inputs2.lean ====
/-
  What the arguments of `inproj_bwd` hold: real numbers.
-/
module

public import proofs.«01_k».proof.Proof.Spec2
public import proofs.«01_k».proof.Proof.Holds

@[expose] public section

namespace Cert.Spec2

open Idealize.ShloMosaic Idealize.ShloMosaic.ValueIdx Cert.Holds

/-- What the arrays hold: the step's input, the gain, the input weights, the pool's weights and scales, the residual's
    gradient, the mixer output's (its pool columns), and the gradients in the queries, keys, values and attention gates. -/
structure Reads (A : Args) (x0 : (⟨3, ![1, 8192, 1024]⟩ : Shape).Idx → EReal) (x1 : (⟨2, ![1, 1024]⟩ : Shape).Idx → EReal)
    (x2 : (⟨3, ![1, 1024, 3072]⟩ : Shape).Idx → EReal) (x3 : (⟨4, ![1, 4, 128, 128]⟩ : Shape).Idx → EReal)
    (x4 : (⟨2, ![1, 512]⟩ : Shape).Idx → EReal) (x5 : (⟨2, ![8192, 1024]⟩ : Shape).Idx → EReal)
    (x6 : (⟨2, ![8192, 1024]⟩ : Shape).Idx → EReal) (x7 x8 x9 x10 : (⟨2, ![8192, 512]⟩ : Shape).Idx → EReal) : Prop where
  x : ∀ (r : Fin 8192) (c : Fin 1024), x0 (ix3 (0 : Fin 1) r c) = ((A.x r.val c.val : ℝ) : EReal)
  g : H x1 fun _ c => A.g c
  w : ∀ (r : Fin 1024) (c : Fin 3072), x2 (ix3 (0 : Fin 1) r c) = ((A.w r.val c.val : ℝ) : EReal)
  pw : ∀ (a : Fin 4) (r c : Fin 128), x3 (ix4 (0 : Fin 1) a r c) = ((A.pw a.val r.val c.val : ℝ) : EReal)
  ps : H x4 fun _ c => A.ps c
  dx2 : H x5 fun r c => A.dx2 r c
  dy : ∀ (r : Fin 8192) (c : Fin 1024), c.val < 512 → x6 (ix2 r c) = ((A.dy r.val c.val : ℝ) : EReal)
  dq : H x7 fun r c => A.dq r c
  dk : H x8 fun r c => A.dk r c
  dv : H x9 fun r c => A.dv r c
  da : H x10 fun r c => A.da r c

end Cert.Spec2
-- ==== Proof.Finite2.lean ====
/-
  What the precondition of `inproj_bwd` gives: the arrays hold real tables.
-/
module

public import proofs.«01_k».proof.Proof.Inputs2
public import proofs.«01_k».proof.Proof.Finite
public import proofs.«01_k».proof.Pre_finite_inputs2

@[expose] public section

noncomputable section

namespace Cert.Pre_finite_inputs2

open Idealize.ShloMosaic Idealize.ShloMosaic.ValueIdx Cert.Holds Cert.Spec2

theorem facts : Facts where
  bcast_S_S1x8192x1024 := by decide +kernel
  bcast_S_S1x1024 := by decide +kernel
  bcast_S_S1x1024x3072 := by decide +kernel
  bcast_S_S1x4x128x128 := by decide +kernel
  bcast_S_S1x512 := by decide +kernel
  bcast_S_S8192x1024 := by decide +kernel
  slices_S8192x1024_S8192x512_0_0 := by decide +kernel
  bcast_S_S8192x512 := by decide +kernel

/-- The real tables the arrays hold. -/
def args (x0 : S1x8192x1024.Idx → EReal) (x1 : S1x1024.Idx → EReal) (x2 : S1x1024x3072.Idx → EReal) (x3 : S1x4x128x128.Idx → EReal)
    (x4 : S1x512.Idx → EReal) (x5 x6 : S8192x1024.Idx → EReal) (x7 x8 x9 x10 : S8192x512.Idx → EReal) : Args where
  x := tab3 x0 0
  g := tab2 x1 0
  w := tab3 x2 0
  pw := tab4 x3 0
  ps := tab2 x4 0
  dx2 := tab2 x5
  dy := tab2 x6
  dq := tab2 x7
  dk := tab2 x8
  dv := tab2 x9
  da := tab2 x10

theorem reads [Facts] {x0 : FVec Ideal S1x8192x1024 .f32} {x1 : FVec Ideal S1x1024 .f32} {x2 : FVec Ideal S1x1024x3072 .f32}
    {x3 : FVec Ideal S1x4x128x128 .f32} {x4 : FVec Ideal S1x512 .f32} {x5 : FVec Ideal S8192x1024 .f32} {x6 : FVec Ideal S8192x1024 .bf16}
    {x7 x8 x9 x10 : FVec Ideal S8192x512 .bf16}
    (h : ∀ y, y = fn x0 x1 x2 x3 x4 x5 x6 x7 x8 x9 x10 → y.1 = (fun _ => 1#1) ∧ y.2.1 = (fun _ => 1#1) ∧ y.2.2.1 = (fun _ => 1#1)
      ∧ y.2.2.2.1 = (fun _ => 1#1) ∧ y.2.2.2.2.1 = (fun _ => 1#1) ∧ y.2.2.2.2.2.1 = (fun _ => 1#1) ∧ y.2.2.2.2.2.2.1 = (fun _ => 1#1)
      ∧ y.2.2.2.2.2.2.2.1 = (fun _ => 1#1) ∧ y.2.2.2.2.2.2.2.2.1 = (fun _ => 1#1) ∧ y.2.2.2.2.2.2.2.2.2.1 = (fun _ => 1#1)
      ∧ y.2.2.2.2.2.2.2.2.2.2 = (fun _ => 1#1)) :
    Reads (args x0 x1 x2 x3 x4 x5 x6 x7 x8 x9 x10) x0 x1 x2 x3 x4 x5 x6 x7 x8 x9 x10 := by
  obtain ⟨h0, h1, h2, h3, h4, h5, h6, h7, h8, h9, h10⟩ := h _ rfl
  have f0 : Finite (x0 : S1x8192x1024.Idx → EReal) := finite_of cinf _ h0
  have f1 : Finite (x1 : S1x1024.Idx → EReal) := finite_of cinf _ h1
  have f2 : Finite (x2 : S1x1024x3072.Idx → EReal) := finite_of cinf _ h2
  have f3 : Finite (x3 : S1x4x128x128.Idx → EReal) := finite_of cinf _ h3
  have f4 : Finite (x4 : S1x512.Idx → EReal) := finite_of cinf _ h4
  have f5 : Finite (x5 : S8192x1024.Idx → EReal) := finite_of cinf _ h5
  have f6 := finite_of cinf16 _ h6
  have f7 : Finite (x7 : S8192x512.Idx → EReal) := finite_of cinf16 _ h7
  have f8 : Finite (x8 : S8192x512.Idx → EReal) := finite_of cinf16 _ h8
  have f9 : Finite (x9 : S8192x512.Idx → EReal) := finite_of cinf16 _ h9
  have f10 : Finite (x10 : S8192x512.Idx → EReal) := finite_of cinf16 _ h10
  have g6 (r : Fin 8192) (c : Fin 1024) (hc : c.val < 512) : x6 (ix2 r c) = ((num (x6 : S8192x1024.Idx → EReal) (ix2 r c) : ℝ) : EReal) := by
    have e : extractStridedSlice S8192x512 ![0, 0] x6 Facts.slices_S8192x1024_S8192x512_0_0 (ix2 r (⟨c.val, hc⟩ : Fin 512)) = x6 (ix2 r c) :=
      extractStridedSlice_apply _ _ _ _ (ix2 r c) (fun a => by
        match a with | ⟨0, _⟩ => exact (Nat.zero_add _).symm | ⟨1, _⟩ => exact (Nat.zero_add _).symm)
    have := f6 (ix2 r (⟨c.val, hc⟩ : Fin 512))
    unfold num at this ⊢
    exact e ▸ this
  exact {
    x := fun r c => (f0 _).trans (by rw [← tab3_eq]; rfl)
    g := H.of fun u c => (f1 _).trans (by rw [← tab2_eq, Subsingleton.elim u 0]; rfl)
    w := fun r c => (f2 _).trans (by rw [← tab3_eq]; rfl)
    pw := fun a r c => (f3 _).trans (by rw [← tab4_eq]; rfl)
    ps := H.of fun u c => (f4 _).trans (by rw [← tab2_eq, Subsingleton.elim u 0]; rfl)
    dx2 := H.of fun r c => (f5 _).trans (by rw [← tab2_eq]; rfl)
    dy := fun r c hc => (g6 r c hc).trans (by rw [← tab2_eq]; rfl)
    dq := H.of fun r c => (f7 _).trans (by rw [← tab2_eq]; rfl)
    dk := H.of fun r c => (f8 _).trans (by rw [← tab2_eq]; rfl)
    dv := H.of fun r c => (f9 _).trans (by rw [← tab2_eq]; rfl)
    da := H.of fun r c => (f10 _).trans (by rw [← tab2_eq]; rfl) }

end Cert.Pre_finite_inputs2
-- ==== Proof.Holds2.lean ====
/-
  More matrices of reals: the product with a transposed matrix, six matrices side by side, a sum with the rows moved up.
-/
module

public import proofs.«01_k».proof.Proof.Holds

@[expose] public section

set_option maxRecDepth 16384

noncomputable section

namespace Cert.Holds

open Idealize.ShloMosaic Idealize.ShloMosaic.ValueIdx
open scoped BigOperators

variable {R C : ℕ} {φ : FTy}

abbrev colsDims (K R C : ℕ) (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

/-- The product of an `R × K` matrix with a transposed `C × K` one, onto zero. -/
theorem H.dotCols {K : ℕ} {φ₁ φ₂ : FTy} {wf} (d : DotDims ⟨2, ![R, K]⟩ ⟨2, ![C, K]⟩ ⟨2, ![R, C]⟩) (hd : d = colsDims K R C wf)
    {x : FVec Ideal ⟨2, ![R, K]⟩ φ₁} {y : FVec Ideal ⟨2, ![C, K]⟩ φ₂} {f g : ℕ → ℕ → ℝ} (hx : H x f) (hy : H y g)
    {z : FVec Ideal ⟨2, ![R, C]⟩ .f32} (hz : H z fun _ _ => 0) :
    H (matmul d none x y z) (fun r c => ∑ k ∈ Finset.range K, f r k * g c k) := H.of fun p q => by
  subst hd
  show FloatOps.matmul (colsDims K R C wf) none x y z (ix2 p q) = _
  rw [Ideal.matmul_apply, hz, EReal.coe_zero, zero_add,
    ← Equiv.sum_comp (contrEquiv1 (colsDims K R C wf) K rfl rfl).symm, Finset.sum_range, ← coe_sum]
  refine Finset.sum_congr rfl fun k _ => ?_
  have ck := contrEquiv1_symm_val (colsDims K R C wf) K rfl rfl k
  have l : (colsDims K R C wf).lhsIdx (ix2 p q) ((contrEquiv1 _ K rfl rfl).symm k) = ix2 p k := by
    funext ax; apply Fin.ext
    match ax with
    | ⟨0, _⟩ => simp [DotDims.lhsIdx, colsDims]; rfl
    | ⟨1, _⟩ => simp [DotDims.lhsIdx, colsDims]; exact ck
  have r : (colsDims K R C wf).rhsIdx (ix2 p q) ((contrEquiv1 _ K rfl rfl).symm k) = ix2 q k := by
    funext ax; apply Fin.ext
    match ax with
    | ⟨0, _⟩ => simp [DotDims.rhsIdx, colsDims]; rfl
    | ⟨1, _⟩ => simp [DotDims.rhsIdx, colsDims]; exact ck
  rw [l, r, hx, hy, ← EReal.coe_mul]
  rfl

/-- Six matrices of `n` columns side by side. -/
theorem H.cat6 {n : ℕ} (hn : 0 < n) {x : Fin 6 → (⟨2, ![R, n]⟩ : Shape).Idx → EReal} {f : ℕ → ℕ → ℕ → ℝ} (hx : ∀ k, H (x k) (f k.val))
    (h : Shape.Concatenates [⟨2, ![R, n]⟩, ⟨2, ![R, n]⟩, ⟨2, ![R, n]⟩, ⟨2, ![R, n]⟩, ⟨2, ![R, n]⟩, ⟨2, ![R, n]⟩] ⟨2, ![R, C]⟩ 1) :
    H (concatenate ⟨2, ![R, C]⟩ 1 [⟨⟨2, ![R, n]⟩, x 0⟩, ⟨⟨2, ![R, n]⟩, x 1⟩, ⟨⟨2, ![R, n]⟩, x 2⟩, ⟨⟨2, ![R, n]⟩, x 3⟩,
      ⟨⟨2, ![R, n]⟩, x 4⟩, ⟨⟨2, ![R, n]⟩, x 5⟩] h) (fun r c => f (c / n) r (c % n)) := H.of fun p q => by
  have hC : n + (n + (n + (n + (n + n)))) = C := by have := h.2.2; simpa using this
  have hq := q.isLt
  have hk : q.val / n < 6 := by rw [Nat.div_lt_iff_lt_mul hn]; omega
  obtain ⟨k, hkk⟩ : ∃ k : Fin 6, k.val = q.val / n := ⟨⟨_, hk⟩, rfl⟩
  have hmod : q.val % n < n := Nat.mod_lt _ hn
  have hdm : n * k.val + q.val % n = q.val := by rw [hkk]; exact Nat.div_add_mod _ _
  have key := concatenate_apply_piece (1 : Fin (⟨2, ![R, C]⟩ : Shape).rank) [⟨⟨2, ![R, n]⟩, x 0⟩, ⟨⟨2, ![R, n]⟩, x 1⟩, ⟨⟨2, ![R, n]⟩, x 2⟩,
      ⟨⟨2, ![R, n]⟩, x 3⟩, ⟨⟨2, ![R, n]⟩, x 4⟩, ⟨⟨2, ![R, n]⟩, x 5⟩] h (ix2 p q) k.val k.isLt (⟨2, ![R, n]⟩ : Shape) (x k)
      (by fin_cases k <;> rfl) rfl (n * k.val) (by fin_cases k <;> simp <;> ring) (ix2 p ⟨q.val % n, hmod⟩)
      (fun b hb => by match b with | ⟨0, _⟩ => rfl | ⟨1, _⟩ => exact absurd rfl hb) hdm
  refine key.trans ?_
  rw [hx, ← hkk]
  rfl

/-- A matrix plus itself moved up by `s` rows, around the end. -/
theorem H.addUp {x : FVec Ideal ⟨2, ![R, C]⟩ φ} {f : ℕ → ℕ → ℝ} (hx : H x f) (sb : BitVec 32) (s : ℕ) (hs : sb.toNat + s = R) (h0 : 0 < s)
    (h : (⟨2, ![R, C]⟩ : Shape).Rotates 0 none) :
    H (addf x (dynamicRotate 0 sb none x h)) (fun r c => f r c + f ((r + s) % R) c) :=
  (hx.add (hx.rotate sb h)).congr fun r hr c hc => by
    have e : r + R - sb.toNat % R = r + s := by rw [Nat.mod_eq_of_lt (by omega)]; omega
    rw [e]

end Cert.Holds
-- ==== Proof.K2Tile.lean ====
/-
  One tile of `inproj_bwd` at a time: each payload of the kernel's body read over the reals, its operands holding the rows
  of the tile, from row `512 * t`.
-/
module

public import proofs.«01_k».proof.Proof.Holds2
public import proofs.«01_k».proof.Proof.KTile
public import proofs.«01_k».proof.Proof.Spec2
public import proofs.«01_k».proof.Proof.Gen.Kernel2Ideal.Value

@[expose] public section

set_option maxRecDepth 16384

noncomputable section

namespace Cert.Kernel2Ideal.Tile

open Idealize.ShloMosaic Idealize.ShloMosaic.TcCoe Idealize.SL.Sem Idealize.ShloMosaic.ValueIdx
open Cert.Kernel2Ideal Cert.Kernel2Ideal.Gen Cert.Holds Cert.Spec2 Cert.Consts
open Cert.Spec (lev lev_eq wsum win pool padded wsum_padded one_add_exp_pos)
open Cert.KernelIdeal.Tile (count_word)
open scoped BigOperators
open Finset (range)

/-! ## Which tile -/

/-- The tiles go backwards. -/
theorem tile_word {i : grid0.Coords} {t : ℕ} (hi : (i 0).val + t = 15) :
    Scalar.subi 15#32 (BitVec.ofNat 32 (i 0).val) = BitVec.ofNat 32 t := by
  obtain ⟨k, hk⟩ : ∃ k, k = (i 0).val := ⟨_, rfl⟩
  rw [← hk] at hi ⊢
  obtain rfl : t = 15 - k := by omega
  have : k ≤ 15 := by omega
  interval_cases k <;> rfl

/-- The row numbers. -/
theorem row_word {i : grid0.Coords} {t : ℕ} (hi : (i 0).val + t = 15) (j : S512x128.Idx) :
    k0_pay14 i j = BitVec.ofNat 32 (512 * t + (j 0).val) := by
  unfold k0_pay14
  rw [tile_word hi]
  pointwise
  show BitVec.ofNat 32 t * BitVec.ofNat 32 512 + BitVec.ofNat 32 (j 0).val = _
  rw [← BitVec.ofNat_mul, ← BitVec.ofNat_add, Nat.mul_comm]

/-- The window's counts over row numbers `v`. -/
theorem count {v : IVec S512x128 32} {t : ℕ} (ht : t < 16) (hv : ∀ j : S512x128.Idx, v j = BitVec.ofNat 32 (512 * t + (j 0).val))
    (w : ℕ) (hw : w < 2 ^ 31) :
    H (sitofp (F := Ideal) .f32 (minsi (addi v (broadcast S512x128 1#32)) (broadcast S512x128 (BitVec.ofNat 32 w))))
      (fun r _ => ((min (512 * t + r + 1) w : ℕ) : ℝ)) := fun j => by
  show FloatOps.sitofp (F := Ideal) .f32 (IntOp.minsi (v j + BitVec.ofNat 32 1) (BitVec.ofNat 32 w)) = _
  rw [hv, ← BitVec.ofNat_add, count_word _ _ _ hw]
  have h1 := idx2_lt0 j
  omega

theorem count_pos (n g : ℕ) : (((min (n + 1) (win g) : ℕ) : ℝ)) ≠ 0 := by
  have : 0 < win g := Nat.two_pow_pos _
  have : 0 < min (n + 1) (win g) := by omega
  exact_mod_cast this.ne'

variable (A : Args)

/-! ## The pooled differences -/

section Pool

variable {A} {i : grid0.Coords} {t : ℕ} (hi : (i 0).val + t = 15) {v4 : FVec Ideal S512x512 .bf16} {v11 : FVec Ideal S16x512 .bf16}
  (h4 : H v4 fun r c => PROJ A (512 * t + r) c) (h11 : H v11 fun r c => PROJ A (16 * (32 * t - 1) + r) c)

include hi h4 h11

theorem lev1 : H (k0_pay10 (F := Ideal) i v4 v11) (fun r c => lev 528 1 (fun n => padded (fun n => PROJ A n c) (512 * t + n)) r) := by
  have hp : H (Scalar.select (Scalar.cmpi .sgt (Scalar.subi 15#32 (BitVec.ofNat 32 (i 0).val)) 0#32)
      (extf .f32 (shapeCast S16x512 v11 rfl) bitsLt_bf16_f32) (broadcast S16x512 (Scalar.ofBits (F := Ideal) .f32 0x00000000#32)))
      (fun r c => padded (fun n => PROJ A n c) (512 * t + r)) := by
    rw [tile_word hi]
    by_cases h : t = 0
    · subst h
      refine (H.splat c0).congr fun r hr c _ => ?_
      unfold padded; rw [if_pos (by omega)]
    · have e : Scalar.cmpi .sgt (BitVec.ofNat 32 t) 0#32 = 1#1 := by
        have : t ≤ 15 := by omega
        have : 0 < t := by omega
        interval_cases t <;> rfl
      rw [e]
      refine ((h11.cast _).extf bitsLt_bf16_f32).congr fun r hr c _ => ?_
      unfold padded; rw [if_neg (by omega)]; congr 1; omega
  have h8 := (hp.catRows ((h4.cast rfl).extf bitsLt_bf16_f32) (R := 528) concatenates_S16x512_S512x512_S528x512_d0).congr
     (g := fun r c => padded (fun n => PROJ A n c) (512 * t + r)) (fun r hr c hc => by
     split
     · rfl
     · unfold padded; rw [if_neg (by omega)]; congr 1; omega)
  exact h8.add (h8.rotate 1#32 rotates_S528x512_d0)

theorem lev2 : H (k0_pay11 (F := Ideal) i v4 v11) (fun r c => lev 528 2 (fun n => padded (fun n => PROJ A n c) (512 * t + n)) r) :=
  (lev1 hi h4 h11).add ((lev1 hi h4 h11).rotate 2#32 rotates_S528x512_d0)

theorem lev3 : H (k0_pay12 (F := Ideal) i v4 v11) (fun r c => lev 528 3 (fun n => padded (fun n => PROJ A n c) (512 * t + n)) r) :=
  (lev2 hi h4 h11).add ((lev2 hi h4 h11).rotate 4#32 rotates_S528x512_d0)

theorem lev4 : H (k0_pay13 (F := Ideal) i v4 v11) (fun r c => lev 528 4 (fun n => padded (fun n => PROJ A n c) (512 * t + n)) r) :=
  (lev3 hi h4 h11).add ((lev3 hi h4 h11).rotate 8#32 rotates_S528x512_d0)

omit hi h4 h11 in
theorem lev_wsum (f : ℕ → ℝ) (g r : ℕ) (hg : g < 4) (hr : r < 512) :
    lev 528 (g + 1) (fun n => padded f (512 * t + n)) (16 + r) = wsum f (win g) (512 * t + r) := by
  have hp : 2 ^ (g + 1) ≤ 16 := by
    have := Nat.pow_le_pow_right (n := 2) (by norm_num) (show g + 1 ≤ 4 by omega)
    simpa using this
  rw [lev_eq _ _ (by omega) _ (by omega) (by omega), ← wsum_padded f (win g) _ hp]
  refine Finset.sum_congr rfl fun k hk => ?_
  have hk' := Finset.mem_range.mp hk
  have : win g ≤ 16 := hp
  congr 1; omega

omit hi h11 in
/-- A group's mean over its window, less the entry. -/
theorem group {L : FVec Ideal S528x512 .f32} {cnt : FVec Ideal S512x128 .f32} (g b : ℕ) (hg : g < 4) (hb : b = 128 * g)
    (hL : H L fun r c => lev 528 (g + 1) (fun n => padded (fun n => PROJ A n c) (512 * t + n)) r)
    (hc : H cnt fun r _ => ((min (512 * t + r + 1) (win g) : ℕ) : ℝ))
    (hs : S528x512.Slices ![16, b] S512x128) (hs' : S512x512.Slices ![0, b] S512x128) :
    H (truncf .bf16 (subf (divf (extractStridedSlice S512x128 ![16, b] L hs) cnt)
      (extractStridedSlice S512x128 ![0, b] (k0_pay8 (F := Ideal) v4) hs')) bitsLt_bf16_f32) (fun r c => D A g (512 * t + r) c) := by
  subst hb
  refine H.truncf (H.congr (((hL.slice 16 (128 * g) hs).div hc fun r _ c _ => count_pos _ _).sub
    (((h4.cast rfl).extf bitsLt_bf16_f32).slice 0 (128 * g) hs')) ?_) _
  intro r hr c hc
  simp only [Nat.zero_add]
  rw [lev_wsum _ g r hg hr]
  rfl

theorem diff0 : H (k0_pay17 (F := Ideal) (k0_pay8 v4) (k0_pay10 i v4 v11) (k0_pay15 i)) (fun r c => D A 0 (512 * t + r) c) :=
  group h4 0 0 (by norm_num) rfl (lev1 hi h4 h11) (count (by omega) (row_word hi) 2 (by norm_num)) _ _
theorem diff1 : H (k0_pay18 (F := Ideal) (k0_pay8 v4) (k0_pay11 i v4 v11) (k0_pay16 i)) (fun r c => D A 1 (512 * t + r) c) :=
  group h4 1 128 (by norm_num) rfl (lev2 hi h4 h11) (count (by omega) (row_word hi) 4 (by norm_num)) _ _
theorem diff2 : H (k0_pay19 (F := Ideal) (k0_pay8 v4) (k0_pay12 i v4 v11) (k0_pay14 i)) (fun r c => D A 2 (512 * t + r) c) :=
  group h4 2 256 (by norm_num) rfl (lev3 hi h4 h11) (count (by omega) (row_word hi) 8 (by norm_num)) _ _
theorem diff3 : H (k0_pay20 (F := Ideal) (k0_pay8 v4) (k0_pay13 i v4 v11) (k0_pay14 i)) (fun r c => D A 3 (512 * t + r) c) :=
  group h4 3 384 (by norm_num) rfl (lev4 hi h4 h11) (count (by omega) (row_word hi) 16 (by norm_num)) _ _

end Pool

/-! ## The gate -/

section Gate

variable {A} {n : ℕ} {v9 : FVec Ideal S512x512 .f32} (h9 : H v9 fun r c => PG A (n + r) c)

include h9

theorem sigm : H (k0_pay25 (F := Ideal) v9) (fun r c => SG A (n + r) c) :=
  (H.splat c1).div ((H.splat c1).add ((H.splat c0).sub h9).exp) fun r _ c _ => (one_add_exp_pos _).ne'

theorem silu : H (k0_pay26 (F := Ideal) v9) (fun r c => PG A (n + r) c * SG A (n + r) c) := h9.mul (sigm h9)

variable {v94 : FVec Ideal S512x512 .bf16} (h94 : H v94 fun r c => A.dy (n + r) c) {v96 : FVec Ideal S1x512 .f32} (h96 : H v96 fun _ c => A.ps c)

include h94 h96

theorem dmixed : H (k0_pay29 (F := Ideal) v9 v94 v96) (fun r c => DM A (n + r) c) :=
  (((h94.extf bitsLt_bf16_f32).mul (h96.row _)).mul (silu h9)).truncf _

omit h9 h94 h96

/-- Group `g`'s pooled differences through its matrix. -/
def through (A : Args) (g r c : ℕ) : ℝ := ∑ k ∈ range 128, D A g r k * A.pw g k c

variable {v68 : FVec Ideal S512x128 .bf16} {v72 v76 v80 : FVec Ideal S512x128 .f32} {v81 : FVec Ideal S1x128x128 .f32}
  (h68 : H v68 fun r c => D A 3 (n + r) c) (h72 : H v72 fun r c => through A 0 (n + r) c) (h76 : H v76 fun r c => through A 1 (n + r) c)
  (h80 : H v80 fun r c => through A 2 (n + r) c) (h81 : H3 v81 fun _ k c => A.pw 3 k c)

include h68 h72 h76 h80 h81

theorem mixed : H (k0_pay24 (F := Ideal) v68 v72 v76 v80 v81) (fun r c => M A (n + r) c) := by
  have h84 : H (matmul dot_S512x128_S128x128_S512x128_1_0_0_1_n_n none v68 (truncf .bf16 (shapeCast S128x128 v81 rfl) bitsLt_bf16_f32)
      (constant (F := Ideal) S512x128 .f32 0x00000000#32)) (fun r c => through A 3 (n + r) c) :=
    H.dot _ rfl h68 ((h81.member _).truncf _) (H.const c0)
  exact H.cat4 (n := 128) (C := 512) (by norm_num) (x := ![v72, v76, v80, _]) (f := fun g r c => through A g (n + r) c)
    (fun k => by fin_cases k <;> assumption) concatenates_S512x128_S512x128_S512x128_S512x128_S512x512_d1

include h9 h94

theorem scales {v97 : FVec Ideal S1x512 .f32} {a : ℕ} (ha : a = n) (hn : n + 512 ≤ 8192) (h97 : H v97 fun _ c => GPS A (n + 512) c) :
    H (k0_pay28 (F := Ideal) v9 v68 v72 v76 v80 v81 v94 v97) (fun _ c => GPS A a c) :=
  ((h97.cast rfl).add ((((h94.extf bitsLt_bf16_f32).mul (mixed h68 h72 h76 h80 h81)).mul (silu h9)).sumRows _ _ (.inl rfl) rfl _)).congr
    fun r _ c _ => by rw [ha]; exact (tail_step _ n hn).symm

include h96

theorem dgate : H (k0_pay30 (F := Ideal) v9 v68 v72 v76 v80 v81 v94 v96) (fun r c => DPG A (n + r) c) :=
  ((h94.extf bitsLt_bf16_f32).mul ((mixed h68 h72 h76 h80 h81).mul (h96.row _))).mul
    ((sigm h9).mul ((H.splat c1).add (h9.mul ((H.splat c1).sub (sigm h9)))))

end Gate

/-! ## The pool's matrices and the way back through the windows -/

/-- The gradient in group `g`'s pooled differences. -/
def back (A : Args) (g r c : ℕ) : ℝ := ∑ k ∈ range 128, DM A r (128 * g + k) * A.pw g c k

section Back

variable {A} {n : ℕ} {v108 : FVec Ideal S512x512 .bf16} (h108 : H v108 fun r c => DM A (n + r) c)

include h108

theorem dm_cols (g b : ℕ) (hb : b = 128 * g) (h : S512x512.Slices ![0, b] S512x128) :
    H (extractStridedSlice S512x128 ![0, b] v108 h) (fun r c => DM A (n + r) (128 * g + c)) := by
  subst hb
  exact (h108.slice 0 (128 * g) h).congr fun r _ c _ => by rw [Nat.zero_add]

theorem gpw_add {v : FVec Ideal S512x128 .bf16} {z : FVec Ideal S1x128x128 .f32} {a : ℕ} (ha : a = n) (g b : ℕ) (hb : b = 128 * g) (hn : n + 512 ≤ 8192)
    (hv : H v fun r c => D A g (n + r) c) (hz : H3 z fun _ i j => GPW A (n + 512) g i j) (h : S512x512.Slices ![0, b] S512x128) :
    H3 (shapeCast S1x128x128 (addf (shapeCast S128x128 z rfl) (matmul dot_S512x128_S512x128_S128x128_0_0_1_1_n_n none v
      (extractStridedSlice S512x128 ![0, b] v108 h) (constant (F := Ideal) S128x128 .f32 0x00000000#32))) rfl) (fun _ i j => GPW A a g i j) :=
  (((hz.member _).add (H.dotRows _ rfl hv (dm_cols h108 g b hb h) (H.const c0))).congr
    fun i _ j _ => by rw [ha]; exact (tail_step _ n hn).symm).stack _

theorem dd {w : FVec Ideal S1x128x128 .f32} (g b : ℕ) (hb : b = 128 * g) (hw : H3 w fun _ k c => A.pw g k c) (h : S512x512.Slices ![0, b] S512x128) :
    H (matmul dot_S512x128_S128x128_S512x128_1_1_0_0_n_n none (extractStridedSlice S512x128 ![0, b] v108 h)
      (truncf .bf16 (shapeCast S128x128 w rfl) bitsLt_bf16_f32) (constant (F := Ideal) S512x128 .f32 0x00000000#32)) (fun r c => back A g (n + r) c) :=
  H.dotCols _ rfl (dm_cols h108 g b hb h) ((hw.member _).truncf _) (H.const c0)

end Back

theorem DD_back (r c : ℕ) : DD A r c = back A (c / 128) r (c % 128) := rfl

/-- The columns of group `g`, each entry with those of its window. -/
theorem cols {A : Args} {t : ℕ} (g b : ℕ) (hg : g < 4) (hb : b = 128 * g) {L : FVec Ideal S528x512 .f32}
    (hL : H L fun r c => up 528 (g + 1) (fun n => SP A (512 * t + n) c) r) (hs : S528x512.Slices ![0, b] S512x128) :
    H (extractStridedSlice S512x128 ![0, b] L hs) (fun r c => ∑ k ∈ range (win g), SP A (512 * t + r + k) (128 * g + c)) := by
  subst hb
  refine (hL.slice 0 (128 * g) hs).congr fun r hr c _ => ?_
  have hp : 2 ^ (g + 1) ≤ 16 := by
    have := Nat.pow_le_pow_right (n := 2) (by norm_num) (show g + 1 ≤ 4 by omega)
    simpa using this
  rw [Nat.zero_add, up_eq _ _ _ (by omega)]
  exact Finset.sum_congr rfl fun k _ => by rw [add_assoc]

theorem windows {A : Args} {t : ℕ} {U1 U2 U3 U4 : FVec Ideal S528x512 .f32} {e0 e1 e2 e3 : FVec Ideal S512x128 .f32}
    (h1 : H U1 fun r c => up 528 1 (fun n => SP A (512 * t + n) c) r) (h2 : H U2 fun r c => up 528 2 (fun n => SP A (512 * t + n) c) r)
    (h3 : H U3 fun r c => up 528 3 (fun n => SP A (512 * t + n) c) r) (h4 : H U4 fun r c => up 528 4 (fun n => SP A (512 * t + n) c) r)
    (k0 : H e0 fun r c => back A 0 (512 * t + r) c) (k1 : H e1 fun r c => back A 1 (512 * t + r) c)
    (k2 : H e2 fun r c => back A 2 (512 * t + r) c) (k3 : H e3 fun r c => back A 3 (512 * t + r) c) :
    H (subf (concatenate S512x512 1
      [⟨S512x128, extractStridedSlice S512x128 ![0, 0] U1 slices_S528x512_o0_0_S512x128⟩, ⟨S512x128, extractStridedSlice S512x128 ![0, 128] U2 slices_S528x512_o0_128_S512x128⟩,
        ⟨S512x128, extractStridedSlice S512x128 ![0, 256] U3 slices_S528x512_o0_256_S512x128⟩, ⟨S512x128, extractStridedSlice S512x128 ![0, 384] U4 slices_S528x512_o0_384_S512x128⟩]
        concatenates_S512x128_S512x128_S512x128_S512x128_S512x512_d1)
      (concatenate S512x512 1 [⟨S512x128, e0⟩, ⟨S512x128, e1⟩, ⟨S512x128, e2⟩, ⟨S512x128, e3⟩] concatenates_S512x128_S512x128_S512x128_S512x128_S512x512_d1))
      (fun r c => DPV A (512 * t + r) c) := by
  have h191 := H.cat4 (n := 128) (C := 512) (by norm_num) (x := ![e0, e1, e2, e3])
    (f := fun g r c => back A g (512 * t + r) c) (fun k => by fin_cases k <;> assumption)
    concatenates_S512x128_S512x128_S512x128_S512x128_S512x512_d1
  have c0 := cols 0 0 (by norm_num) rfl h1 slices_S528x512_o0_0_S512x128
  have c1 := cols 1 128 (by norm_num) rfl h2 slices_S528x512_o0_128_S512x128
  have c2 := cols 2 256 (by norm_num) rfl h3 slices_S528x512_o0_256_S512x128
  have c3 := cols 3 384 (by norm_num) rfl h4 slices_S528x512_o0_384_S512x128
  have h215 := H.cat4 (n := 128) (C := 512) (by norm_num) (x := ![extractStridedSlice S512x128 ![0, 0] U1 slices_S528x512_o0_0_S512x128,
      extractStridedSlice S512x128 ![0, 128] U2 slices_S528x512_o0_128_S512x128, extractStridedSlice S512x128 ![0, 256] U3 slices_S528x512_o0_256_S512x128,
      extractStridedSlice S512x128 ![0, 384] U4 slices_S528x512_o0_384_S512x128])
    (f := fun g r c => ∑ k ∈ range (win g), SP A (512 * t + r + k) (128 * g + c)) (fun k => by fin_cases k <;> assumption)
    concatenates_S512x128_S512x128_S512x128_S512x128_S512x512_d1
  refine (h215.sub h191).congr fun r _ c _ => ?_
  show (∑ k ∈ range (win (c / 128)), SP A (512 * t + r + k) (128 * (c / 128) + c % 128)) - _ = _
  rw [Nat.div_add_mod]
  rfl

section Spread

variable {A} {t : ℕ} (ht : t < 16) {v127 v132 v137 v142 v154 v166 v178 : FVec Ideal S512x128 .f32} {v179 : FVec Ideal S512x128 .bf16}
  {v187 : FVec Ideal S1x128x128 .f32} {v197 : FVec Ideal S16x512 .f32}
  (h127 : H v127 fun r _ => ((min (512 * t + r + 1) (win 0) : ℕ) : ℝ)) (h132 : H v132 fun r _ => ((min (512 * t + r + 1) (win 1) : ℕ) : ℝ))
  (h137 : H v137 fun r _ => ((min (512 * t + r + 1) (win 2) : ℕ) : ℝ)) (h142 : H v142 fun r _ => ((min (512 * t + r + 1) (win 3) : ℕ) : ℝ))
  (h154 : H v154 fun r c => back A 0 (512 * t + r) c) (h166 : H v166 fun r c => back A 1 (512 * t + r) c)
  (h178 : H v178 fun r c => back A 2 (512 * t + r) c) (h190 : H (k0_pay49 (F := Ideal) v179 v187) fun r c => back A 3 (512 * t + r) c)

include ht h127 h132 h137 h142 h154 h166 h178 h190

theorem spread : H (k0_pay50 (F := Ideal) v127 v132 v137 v142 v154 v166 v178 v179 v187) (fun r c => SP A (512 * t + r) c) := by
  have h (g : ℕ) {x y : FVec Ideal S512x128 .f32} (hx : H x fun r c => back A g (512 * t + r) c)
      (hy : H y fun r _ => ((min (512 * t + r + 1) (win g) : ℕ) : ℝ)) := hx.div hy fun r _ c _ => count_pos _ g
  refine (H.cat4 (n := 128) (C := 512) (by norm_num) (x := ![divf v154 v127, divf v166 v132, divf v178 v137, divf (k0_pay49 (F := Ideal) v179 v187) v142])
    (f := fun g r c => back A g (512 * t + r) c / ((min (512 * t + r + 1) (win g) : ℕ) : ℝ)) (fun k => ?_)
    concatenates_S512x128_S512x128_S512x128_S512x128_S512x512_d1).congr fun r hr c _ => ?_
  · fin_cases k
    · exact h 0 h154 h127
    · exact h 1 h166 h132
    · exact h 2 h178 h137
    · exact h 3 h190 h142
  · unfold SP; rw [if_pos (by omega)]; rfl

theorem next : H (k0_pay51 (F := Ideal) v127 v132 v137 v142 v154 v166 v178 v179 v187) (fun r c => SP A (512 * t + r) c) :=
  (((spread ht h127 h132 h137 h142 h154 h166 h178 h190).slice 0 0 (by decide)).cast _).congr fun r _ c _ => by simp only [Nat.zero_add]

variable (h197 : H v197 fun r c => SP A (512 * t + 512 + r) c)

include h197

theorem dpv : H (k0_pay52 (F := Ideal) v127 v132 v137 v142 v154 v166 v178 v179 v187 v197) (fun r c => DPV A (512 * t + r) c) := by
  have h198 := ((spread ht h127 h132 h137 h142 h154 h166 h178 h190).catRows h197 (R := 528) concatenates_S512x512_S16x512_S528x512_d0).congr
     (g := fun r c => SP A (512 * t + r) c) (fun r hr c hc => by
     split
     · rfl
     · congr 1; omega)
  have u1 : H _ fun r c => up 528 1 (fun n => SP A (512 * t + n) c) r := H.addUp (φ := .f32) h198 527#32 1 rfl (by norm_num) rotates_S528x512_d0
  have u2 : H _ fun r c => up 528 2 (fun n => SP A (512 * t + n) c) r := H.addUp (φ := .f32) u1 526#32 2 rfl (by norm_num) rotates_S528x512_d0
  have u3 : H _ fun r c => up 528 3 (fun n => SP A (512 * t + n) c) r := H.addUp (φ := .f32) u2 524#32 4 rfl (by norm_num) rotates_S528x512_d0
  have u4 : H _ fun r c => up 528 4 (fun n => SP A (512 * t + n) c) r := H.addUp (φ := .f32) u3 520#32 8 rfl (by norm_num) rotates_S528x512_d0
  exact windows u1 u2 u3 u4 h154 h166 h178 h190

end Spread

/-! ## The norm and the projection -/

section Norm

variable {A} {n : ℕ} {x : FVec Ideal S512x1024 .f32} (hx : H x fun r c => A.x (n + r) c)

include hx

theorem root : H (k0_pay54 (F := Ideal) x) (fun r _ => RR A (n + r)) :=
  H.rsqrt (((((hx.cast rfl).mul (hx.cast rfl)).sumCols _ _ (.inl rfl) rfl _).div (H.splat c1024) fun _ _ _ _ => by norm_num).add (H.splat ceps))
    fun r _ c _ => V_pos A (n + r)

theorem hat : H (k0_pay55 (F := Ideal) x) (fun r c => XH A (n + r) c) := (hx.cast rfl).mul ((root hx).col _)

omit hx

variable {v228 : FVec Ideal S512x1024 .f32} (h228 : H v228 fun r c => XH A (n + r) c) {g : FVec Ideal S1x1024 .f32} (hg : H g fun _ c => A.g c)

include h228 hg in
theorem ht : H (k0_pay56 (F := Ideal) v228 g) (fun c r => HN A (n + r) c) := ((h228.mul (hg.row _)).truncf _).transpose _

variable {v118 v216 : FVec Ideal S512x512 .f32} {q k v a : FVec Ideal S512x512 .bf16} (h118 : H v118 fun r c => DPG A (n + r) c)
  (h216 : H v216 fun r c => DPV A (n + r) c) (hq : H q fun r c => A.dq (n + r) c) (hk : H k fun r c => A.dk (n + r) c)
  (hv : H v fun r c => A.dv (n + r) c) (ha : H a fun r c => A.da (n + r) c)

include h118 h216 hq hk hv ha

theorem dproj : H (k0_pay57 (F := Ideal) v118 v216 q k v a) (fun r c => DPROJ A (n + r) c) := by
  have h235 := h216.truncf bitsLt_bf16_f32
  have h236 := h118.truncf bitsLt_bf16_f32
  refine (H.cat6 (n := 512) (C := 3072) (by norm_num) (x := ![_, _, q, k, v, a])
    (f := fun s r c => (match s with | 0 => DPV A | 1 => DPG A | 2 => A.dq | 3 => A.dk | 4 => A.dv | _ => A.da) (n + r) c)
    (fun s => by fin_cases s <;> assumption)
    concatenates_S512x512_S512x512_S512x512_S512x512_S512x512_S512x512_S512x3072_d1).congr fun r _ c hc => ?_
  obtain ⟨s, hs⟩ : ∃ s, s = c / 512 := ⟨_, rfl⟩
  have h6 : s < 6 := by omega
  have e := Nat.div_add_mod c 512
  rw [← hs] at e ⊢
  generalize c % 512 = d at e
  have hd : d < 512 := by omega
  unfold DPROJ
  interval_cases s <;> simp only <;> split_ifs <;> first | omega | (congr 1; omega)

variable {w0 w1 w2 w3 : FVec Ideal S1x1024x768 .bf16} (hw0 : H3 w0 fun _ c k => A.w c k) (hw1 : H3 w1 fun _ c k => A.w c (768 + k))
  (hw2 : H3 w2 fun _ c k => A.w c (1536 + k)) (hw3 : H3 w3 fun _ c k => A.w c (2304 + k))

include hw0 hw1 hw2 hw3

theorem dh : H (k0_pay1 (F := Ideal) (k0_pay58 v118 v216 q k v a w0 w1 w2) (k0_pay59 v118 v216 q k v a) (k0_pay60 w3)
    (constant S512x1024 .f32 0x00000000#32)) (fun r c => DH A (n + r) c) := by
  have hd := dproj h118 h216 hq hk hv ha
  have part (b : ℕ) {w : FVec Ideal S1x1024x768 .bf16} (hw : H3 w fun _ c k => A.w c (b + k)) (hs : S512x3072.Slices ![0, b] S512x768) :
      H (matmul dot_S512x768_S1024x768_S512x1024_1_1_0_0_n_n none (extractStridedSlice S512x768 ![0, b] (k0_pay57 (F := Ideal) v118 v216 q k v a) hs)
        (shapeCast S1024x768 w rfl) (constant (F := Ideal) S512x1024 .f32 0x00000000#32))
        (fun r c => ∑ k ∈ range 768, DPROJ A (n + r) (b + k) * A.w c (b + k)) :=
    H.dotCols _ rfl ((hd.slice 0 b hs).congr fun r _ c _ => by rw [Nat.zero_add]) (hw.member _) (H.const c0)
  refine ((((part 0 (fun j => by simpa using hw0 j) _).add (part 768 hw1 _)).add (part 1536 hw2 _)).add (part 2304 hw3 slices_S512x3072_o0_2304_S512x768)).congr fun r _ c _ => ?_
  unfold DH
  rw [sum_chips]
  simp only [Nat.zero_add]

omit h118 h216 hq hk hv ha hw0 hw1 hw2 hw3

variable {u : FVec Ideal S512x1024 .f32} {p : FVec Ideal S512x768 .bf16} {w : FVec Ideal S1024x768 .bf16} {z : FVec Ideal S512x1024 .f32}
  (hdh : H (k0_pay1 (F := Ideal) u p w z) fun r c => DH A (n + r) c)

include h228 hdh

theorem gains {s : FVec Ideal S1x1024 .f32} {a : ℕ} (ha : a = n) (hn : n + 512 ≤ 8192) (hs : H s fun _ c => GG A (n + 512) c) :
    H (k0_pay2 (F := Ideal) v228 u p w z s) (fun _ c => GG A a c) :=
  ((hs.cast rfl).add ((hdh.mul h228).sumRows _ _ (.inl rfl) rfl _)).congr fun r _ c _ => by rw [ha]; exact (tail_step _ n hn).symm

include hg

theorem gx {v226 : FVec Ideal S512x1 .f32} (h226 : H v226 fun r _ => RR A (n + r)) {v271 : FVec Ideal S512x1024 .f32}
    (h271 : H v271 fun r c => A.dx2 (n + r) c) :
    H (k0_pay3 (F := Ideal) v226 v228 g u p w z v271) (fun r c => GX A (n + r) c) := by
  have h270 := hdh.mul (hg.row broadcasts_S1x1024_S512x1024)
  exact h271.add ((h226.col _).mul (h270.sub (h228.mul ((((h270.mul h228).sumCols _ _ (.inl rfl) rfl _).div (H.splat c1024)
    fun _ _ _ _ => by norm_num).col _))))

end Norm

end Cert.Kernel2Ideal.Tile
-- ==== Proof.K2Block.lean ====
/-
  The values one grid point of `inproj_bwd` computes from its blocks, and what they hold.
-/
module

public import proofs.«01_k».proof.Proof.K2Tile
public import proofs.«01_k».proof.Proof.KBlock

@[expose] public section

set_option maxRecDepth 16384

noncomputable section

namespace Cert.Kernel2Ideal.Tile

open Idealize.ShloMosaic Idealize.ShloMosaic.TcCoe Idealize.SL.Sem Idealize.ShloMosaic.ValueIdx
open Cert.Kernel2Ideal Cert.Kernel2Ideal.Gen Cert.Holds Cert.Spec2 Cert.Consts
open Cert.Spec (win)
open Cert.KernelIdeal.Tile (member member16)
open scoped BigOperators
open Finset (range)

/-- The blocks a grid point reads, and the sixteen rows kept from the tile after it. -/
structure Blk where
  x : Vec Ideal S512x1024 .f32
  dx2 : Vec Ideal S512x1024 .f32
  dy : Vec Ideal S512x512 .bf16
  pv : Vec Ideal S512x512 .bf16
  prev : Vec Ideal S16x512 .bf16
  pg : Vec Ideal S512x512 .bf16
  q : Vec Ideal S512x512 .bf16
  k : Vec Ideal S512x512 .bf16
  v : Vec Ideal S512x512 .bf16
  a : Vec Ideal S512x512 .bf16
  w : Vec Ideal S4x1024x768 .bf16
  pw : Vec Ideal S4x128x128 .f32
  g : Vec Ideal S1x1024 .f32
  ps : Vec Ideal S1x512 .f32
  halo : Vec Ideal S16x512 .f32

/-- The blocks hold the rows `512 t ..` of the arguments. -/
structure Blk.Holds (b : Blk) (A : Args) (t : ℕ) : Prop where
  x : H b.x fun r c => A.x (512 * t + r) c
  dx2 : H b.dx2 fun r c => A.dx2 (512 * t + r) c
  dy : H b.dy fun r c => A.dy (512 * t + r) c
  pv : H b.pv fun r c => PROJ A (512 * t + r) c
  prev : H b.prev fun r c => PROJ A (16 * (32 * t - 1) + r) c
  pg : H b.pg fun r c => PG A (512 * t + r) c
  q : H b.q fun r c => A.dq (512 * t + r) c
  k : H b.k fun r c => A.dk (512 * t + r) c
  v : H b.v fun r c => A.dv (512 * t + r) c
  a : H b.a fun r c => A.da (512 * t + r) c
  w : H3 b.w fun s c k => A.w c (768 * s + k)
  pw : H3 b.pw fun g r c => A.pw g r c
  g : H b.g fun _ c => A.g c
  ps : H b.ps fun _ c => A.ps c
  halo : H b.halo fun r c => SP A (512 * t + 512 + r) c

namespace Blk

variable (b : Blk) (i : grid0.Coords)

abbrev pw0 : Vec Ideal S1x128x128 .f32 := View.ld b.pw (Rect.unit ![0, 0, 0] ![1, 128, 128] inb_S4x128x128_S1x128x128_0_0_0)
abbrev pw1 : Vec Ideal S1x128x128 .f32 := View.ld b.pw (Rect.unit ![1, 0, 0] ![1, 128, 128] inb_S4x128x128_S1x128x128_1_0_0)
abbrev pw2 : Vec Ideal S1x128x128 .f32 := View.ld b.pw (Rect.unit ![2, 0, 0] ![1, 128, 128] inb_S4x128x128_S1x128x128_2_0_0)
abbrev pw3 : Vec Ideal S1x128x128 .f32 := View.ld b.pw (Rect.unit ![3, 0, 0] ![1, 128, 128] inb_S4x128x128_S1x128x128_3_0_0)
abbrev w0 : Vec Ideal S1x1024x768 .bf16 := View.ld b.w (Rect.unit ![0, 0, 0] ![1, 1024, 768] inb_S4x1024x768_S1x1024x768_0_0_0)
abbrev w1 : Vec Ideal S1x1024x768 .bf16 := View.ld b.w (Rect.unit ![1, 0, 0] ![1, 1024, 768] inb_S4x1024x768_S1x1024x768_1_0_0)
abbrev w2 : Vec Ideal S1x1024x768 .bf16 := View.ld b.w (Rect.unit ![2, 0, 0] ![1, 1024, 768] inb_S4x1024x768_S1x1024x768_2_0_0)
abbrev w3 : Vec Ideal S1x1024x768 .bf16 := View.ld b.w (Rect.unit ![3, 0, 0] ![1, 1024, 768] inb_S4x1024x768_S1x1024x768_3_0_0)

/-- The pooled differences by group, and the first three through their matrices. -/
abbrev d0 : FVec Ideal S512x128 .bf16 := k0_pay17 (F := Ideal) (k0_pay8 b.pv) (k0_pay10 i b.pv b.prev) (k0_pay15 i)
abbrev d1 : FVec Ideal S512x128 .bf16 := k0_pay18 (F := Ideal) (k0_pay8 b.pv) (k0_pay11 i b.pv b.prev) (k0_pay16 i)
abbrev d2 : FVec Ideal S512x128 .bf16 := k0_pay19 (F := Ideal) (k0_pay8 b.pv) (k0_pay12 i b.pv b.prev) (k0_pay14 i)
abbrev d3 : FVec Ideal S512x128 .bf16 := k0_pay20 (F := Ideal) (k0_pay8 b.pv) (k0_pay13 i b.pv b.prev) (k0_pay14 i)
abbrev t0 : FVec Ideal S512x128 .f32 := k0_pay21 (F := Ideal) (k0_pay8 b.pv) (k0_pay10 i b.pv b.prev) (k0_pay15 i) b.pw0
abbrev t1 : FVec Ideal S512x128 .f32 := k0_pay22 (F := Ideal) (k0_pay8 b.pv) (k0_pay11 i b.pv b.prev) (k0_pay16 i) b.pw1
abbrev t2 : FVec Ideal S512x128 .f32 := k0_pay23 (F := Ideal) (k0_pay8 b.pv) (k0_pay12 i b.pv b.prev) (k0_pay14 i) b.pw2

/-- The gradient in the mixed differences. -/
abbrev dm : FVec Ideal S512x512 .bf16 := k0_pay29 (F := Ideal) (k0_pay9 b.pg) b.dy b.ps

/-- The gradients in the gates and in the pooled values. -/
abbrev dpg : FVec Ideal S512x512 .f32 := k0_pay30 (F := Ideal) (k0_pay9 b.pg) (b.d3 i) (b.t0 i) (b.t1 i) (b.t2 i) b.pw3 b.dy b.ps

/-- The tile's first row, and the row numbers in it. -/
abbrev base : IVec S512x128 32 := k0_pay31 (Scalar.subi 15#32 (BitVec.ofNat 32 (i 0).val))
abbrev rows : IVec S512x128 32 := iota .tc S512x128 32 [0] iota_S512x128_d0_w32

/-- A function of the counts and the gradients in the pooled differences. -/
abbrev onSpread {α : Type} (f : FVec Ideal S512x128 .f32 → FVec Ideal S512x128 .f32 → FVec Ideal S512x128 .f32 → FVec Ideal S512x128 .f32 →
    FVec Ideal S512x128 .f32 → FVec Ideal S512x128 .f32 → FVec Ideal S512x128 .f32 → FVec Ideal S512x128 .bf16 → FVec Ideal S1x128x128 .f32 → α) : α :=
  f (k0_pay33 (F := Ideal) rows (base i)) (k0_pay34 (F := Ideal) rows (base i)) (k0_pay35 (F := Ideal) rows (base i)) (k0_pay36 (F := Ideal) rows (base i))
    (k0_pay39 (F := Ideal) b.dm b.pw0) (k0_pay43 (F := Ideal) (k0_pay40 b.dm) b.pw1) (k0_pay46 (F := Ideal) b.dm b.pw2) (k0_pay47 (F := Ideal) b.dm) b.pw3

abbrev dpv : FVec Ideal S512x512 .f32 := b.onSpread i (k0_pay52 (F := Ideal)) b.halo

/-- A function of the gradients in the projections. -/
abbrev onProj {α : Type} (f : FVec Ideal S512x512 .f32 → FVec Ideal S512x512 .f32 → FVec Ideal S512x512 .bf16 → FVec Ideal S512x512 .bf16 →
    FVec Ideal S512x512 .bf16 → FVec Ideal S512x512 .bf16 → α) : α := f (b.dpg i) (b.dpv i) b.q b.k b.v b.a

/-- A function of the parts of the gradient in the normed rows. -/
abbrev onDh {α : Type} (f : FVec Ideal S512x1024 .f32 → FVec Ideal S512x768 .bf16 → FVec Ideal S1024x768 .bf16 → FVec Ideal S512x1024 .f32 → α) : α :=
  f (b.onProj i (k0_pay58 (F := Ideal)) b.w0 b.w1 b.w2) (b.onProj i (k0_pay59 (F := Ideal))) (k0_pay60 (F := Ideal) b.w3) (constant S512x1024 .f32 0x00000000#32)

end Blk

/-- The windows' counts on the way back. -/
theorem count_row {i : grid0.Coords} {t : ℕ} (hi : (i 0).val + t = 15) (j : S512x128.Idx) :
    k0_pay32 Blk.rows (Blk.base i) j = BitVec.ofNat 32 (512 * t + (j 0).val) := by
  unfold k0_pay32 Blk.rows Blk.base k0_pay31
  rw [tile_word hi]
  pointwise
  show BitVec.ofNat 32 t * BitVec.ofNat 32 512 + BitVec.ofNat 32 (j 0).val = _
  rw [← BitVec.ofNat_mul, ← BitVec.ofNat_add, Nat.mul_comm]

section

variable {A : Args} {b : Blk} {i : grid0.Coords} {t : ℕ} (hb : b.Holds A t) (hi : (i 0).val + t = 15)

include hb

theorem pw_member (g : ℕ) (inb) : H3 (G := 1) (R := 128) (C := 128) (View.ld (Val := Elt Ideal) b.pw (Rect.unit ![g, 0, 0] ![1, 128, 128] inb)) fun _ k c => A.pw g k c :=
  member g hb.pw inb

theorem w_member (s : ℕ) (inb) :
    H3 (G := 1) (R := 1024) (C := 768) (View.ld (Val := Elt Ideal) b.w (Rect.unit ![s, 0, 0] ![1, 1024, 768] inb)) fun _ c k => A.w c (768 * s + k) :=
  member16 s hb.w inb

theorem gates : H (k0_pay9 (F := Ideal) b.pg) fun r c => PG A (512 * t + r) c := (hb.pg.cast rfl).extf bitsLt_bf16_f32

theorem dm_holds : H b.dm fun r c => DM A (512 * t + r) c := dmixed (gates hb) hb.dy hb.ps

include hi

theorem d0_holds : H (b.d0 i) fun r c => D A 0 (512 * t + r) c := diff0 hi hb.pv hb.prev
theorem d1_holds : H (b.d1 i) fun r c => D A 1 (512 * t + r) c := diff1 hi hb.pv hb.prev
theorem d2_holds : H (b.d2 i) fun r c => D A 2 (512 * t + r) c := diff2 hi hb.pv hb.prev
theorem d3_holds : H (b.d3 i) fun r c => D A 3 (512 * t + r) c := diff3 hi hb.pv hb.prev

theorem t0_holds : H (b.t0 i) fun r c => through A 0 (512 * t + r) c := H.dot _ rfl (d0_holds hb hi) (((pw_member hb 0 _).member _).truncf _) (H.const c0)
theorem t1_holds : H (b.t1 i) fun r c => through A 1 (512 * t + r) c := H.dot _ rfl (d1_holds hb hi) (((pw_member hb 1 _).member _).truncf _) (H.const c0)
theorem t2_holds : H (b.t2 i) fun r c => through A 2 (512 * t + r) c := H.dot _ rfl (d2_holds hb hi) (((pw_member hb 2 _).member _).truncf _) (H.const c0)

theorem dpg_holds : H (b.dpg i) fun r c => DPG A (512 * t + r) c :=
  dgate (gates hb) hb.dy hb.ps (d3_holds hb hi) (t0_holds hb hi) (t1_holds hb hi) (t2_holds hb hi) (pw_member hb 3 _)

theorem rows_lt : 512 * t + 512 ≤ 8192 := by omega

theorem scales_holds {z : FVec Ideal S1x512 .f32} (hz : H z fun _ c => GPS A (512 * t + 512) c) :
    H (k0_pay28 (F := Ideal) (k0_pay9 b.pg) (b.d3 i) (b.t0 i) (b.t1 i) (b.t2 i) b.pw3 b.dy z) fun _ c => GPS A (512 * t) c :=
  scales (gates hb) hb.dy (d3_holds hb hi) (t0_holds hb hi) (t1_holds hb hi) (t2_holds hb hi) (pw_member hb 3 _) rfl (rows_lt hb hi) hz

theorem gpw0 {z : FVec Ideal S1x128x128 .f32} (hz : H3 z fun _ p q => GPW A (512 * t + 512) 0 p q) :
    H3 (k0_pay38 (F := Ideal) (b.d0 i) b.dm z) fun _ p q => GPW A (512 * t) 0 p q :=
  gpw_add (dm_holds hb) rfl 0 0 rfl (rows_lt hb hi) (d0_holds hb hi) hz slices_S512x512_o0_0_S512x128
theorem gpw1 {z : FVec Ideal S1x128x128 .f32} (hz : H3 z fun _ p q => GPW A (512 * t + 512) 1 p q) :
    H3 (k0_pay42 (F := Ideal) (b.d1 i) (k0_pay40 b.dm) (k0_pay41 z) (constant S128x128 .f32 0x00000000#32)) fun _ p q => GPW A (512 * t) 1 p q :=
  gpw_add (dm_holds hb) rfl 1 128 rfl (rows_lt hb hi) (d1_holds hb hi) hz slices_S512x512_o0_128_S512x128
theorem gpw2 {z : FVec Ideal S1x128x128 .f32} (hz : H3 z fun _ p q => GPW A (512 * t + 512) 2 p q) :
    H3 (k0_pay45 (F := Ideal) (b.d2 i) b.dm z) fun _ p q => GPW A (512 * t) 2 p q :=
  gpw_add (dm_holds hb) rfl 2 256 rfl (rows_lt hb hi) (d2_holds hb hi) hz slices_S512x512_o0_256_S512x128
theorem gpw3 {z : FVec Ideal S1x128x128 .f32} (hz : H3 z fun _ p q => GPW A (512 * t + 512) 3 p q) :
    H3 (k0_pay48 (F := Ideal) (b.d3 i) b.dm z) fun _ p q => GPW A (512 * t) 3 p q :=
  gpw_add (dm_holds hb) rfl 3 384 rfl (rows_lt hb hi) (d3_holds hb hi) hz slices_S512x512_o0_384_S512x128

theorem halo_next : H (b.onSpread i (k0_pay51 (F := Ideal))) fun r c => SP A (512 * t + r) c :=
  next (by omega) (count (by omega) (count_row hi) 2 (by norm_num)) (count (by omega) (count_row hi) 4 (by norm_num))
    (count (by omega) (count_row hi) 8 (by norm_num)) (count (by omega) (count_row hi) 16 (by norm_num))
    (dd (dm_holds hb) 0 0 rfl (pw_member hb 0 _) slices_S512x512_o0_0_S512x128) (dd (dm_holds hb) 1 128 rfl (pw_member hb 1 _) slices_S512x512_o0_128_S512x128) (dd (dm_holds hb) 2 256 rfl (pw_member hb 2 _) slices_S512x512_o0_256_S512x128)
    (dd (dm_holds hb) 3 384 rfl (pw_member hb 3 _) slices_S512x512_o0_384_S512x128)

theorem dpv_holds : H (b.dpv i) fun r c => DPV A (512 * t + r) c :=
  dpv (by omega) (count (by omega) (count_row hi) 2 (by norm_num)) (count (by omega) (count_row hi) 4 (by norm_num))
    (count (by omega) (count_row hi) 8 (by norm_num)) (count (by omega) (count_row hi) 16 (by norm_num))
    (dd (dm_holds hb) 0 0 rfl (pw_member hb 0 _) slices_S512x512_o0_0_S512x128) (dd (dm_holds hb) 1 128 rfl (pw_member hb 1 _) slices_S512x512_o0_128_S512x128) (dd (dm_holds hb) 2 256 rfl (pw_member hb 2 _) slices_S512x512_o0_256_S512x128)
    (dd (dm_holds hb) 3 384 rfl (pw_member hb 3 _) slices_S512x512_o0_384_S512x128) hb.halo

theorem dproj_holds : H (b.onProj i (k0_pay57 (F := Ideal))) fun r c => DPROJ A (512 * t + r) c :=
  dproj (dpg_holds hb hi) (dpv_holds hb hi) hb.q hb.k hb.v hb.a

theorem dh_holds : H (b.onDh i (k0_pay1 (F := Ideal))) fun r c => DH A (512 * t + r) c :=
  dh (dpg_holds hb hi) (dpv_holds hb hi) hb.q hb.k hb.v hb.a (by simpa using w_member hb 0 _) (w_member hb 1 _) (w_member hb 2 _) (w_member hb 3 _)

theorem gains_holds {z : FVec Ideal S1x1024 .f32} (hz : H z fun _ c => GG A (512 * t + 512) c) :
    H (b.onDh i (k0_pay2 (F := Ideal) (k0_pay55 b.x)) z) fun _ c => GG A (512 * t) c :=
  gains (hat hb.x) (dh_holds hb hi) rfl (rows_lt hb hi) hz

theorem gx_holds : H (b.onDh i (k0_pay3 (F := Ideal) (k0_pay54 b.x) (k0_pay55 b.x) b.g) b.dx2) fun r c => GX A (512 * t + r) c :=
  gx (hat hb.x) hb.g (dh_holds hb hi) (root hb.x) hb.dx2

omit hi

theorem ht_holds : H (k0_pay56 (F := Ideal) (k0_pay55 b.x) b.g) fun c r => HN A (512 * t + r) c := ht (hat hb.x) hb.g

end

end Cert.Kernel2Ideal.Tile
-- ==== Proof.K2Step.lean ====
/-
  What each grid point of `inproj_bwd` leaves: its rows of the three row outputs, and the running sums.
-/
module

public import proofs.«01_k».proof.Proof.K2Block
public import proofs.«01_k».proof.Proof.KStep

@[expose] public section

set_option maxRecDepth 16384

noncomputable section

namespace Cert.Kernel2Ideal.Tile

open Idealize.ShloMosaic Idealize.ShloMosaic.TcCoe Idealize.SL.Sem Idealize.ShloMosaic.ValueIdx
open Cert.Kernel2Ideal Cert.Kernel2Ideal.Gen Cert.Holds Cert.Spec2 Cert.Consts Cert.Boxes
open Cert.KernelIdeal.Tile (member hz2 quarters read3)
open scoped BigOperators

variable (m : (ℓ : Loc nD τ sig) → Buf (Elt Ideal) ℓ) (c : Dev nD)

/-- The blocks of grid point `t`, with the sixteen rows `halo`. -/
abbrev blk (t : Fin cfg0.N) (halo : Vec Ideal S16x512 .f32) : Blk where
  x := iblk m c 0 t
  dx2 := iblk m c 1 t
  dy := iblk m c 2 t
  pv := iblk m c 3 t
  prev := iblk m c 4 t
  pg := iblk m c 5 t
  q := iblk m c 6 t
  k := iblk m c 7 t
  v := iblk m c 8 t
  a := iblk m c 9 t
  w := iblk m c 10 t
  pw := iblk m c 11 t
  g := iblk m c 12 t
  ps := iblk m c 13 t
  halo := halo

/-- What stands after grid point `n`, whose tile is number `15 - n`. -/
structure Post (A : Args) (n : ℕ) (hn : n < cfg0.N) : Prop where
  gx : H (outsAt0 m c n hn).1 fun r k => GX A (512 * (15 - n) + r) k
  dproj : H (outsAt0 m c n hn).2.1 fun r k => DPROJ A (512 * (15 - n) + r) k
  ht : H (outsAt0 m c n hn).2.2.1 fun k r => HN A (512 * (15 - n) + r) k
  gg : H (outsAt0 m c n hn).2.2.2.1 fun _ k => GG A (512 * (15 - n)) k
  gps : H (outsAt0 m c n hn).2.2.2.2.1 fun _ k => GPS A (512 * (15 - n)) k
  gpw : H3 (outsAt0 m c n hn).2.2.2.2.2.1 fun g p q => GPW A (512 * (15 - n)) g p q
  halo : H (outsAt0 m c n hn).2.2.2.2.2.2 fun r k => SP A (512 * (15 - n) + r) k

variable {m c} {A : Args}

theorem coords_val (t : Fin cfg0.N) : ((grid0.coords t) 0).val + (15 - t.val) = 15 := by
  have : t.val < 16 := t.isLt
  revert t; decide

set_option maxHeartbeats 4000000

theorem post_A {t : Fin cfg0.N} (h0 : t.val % 16 = 0) (hb : (blk m c t (k0_pay7 (F := Ideal))).Holds A (15 - t.val)) : Post m c A t.val t.isLt := by
  have hi := coords_val t
  have e : 512 * (15 - t.val) + 512 = 8192 := by
    have : t.val < 16 := t.isLt
    omega
  have z2 : H (k0_pay4 (F := Ideal)) fun _ k => GG A (512 * (15 - t.val) + 512) k := by
    rw [e]; exact (H.splat c0).congr fun _ _ _ _ => (tail_none _).symm
  have z3 : H (k0_pay5 (F := Ideal)) fun _ k => GPS A (512 * (15 - t.val) + 512) k := by
    rw [e]; exact (H.splat c0).congr fun _ _ _ _ => (tail_none _).symm
  have z4 (g : ℕ) (j : S4x128x128.Idx) : k0_pay6 (F := Ideal) j = ((GPW A (512 * (15 - t.val) + 512) g (j 1).val (j 2).val : ℝ) : EReal) := by
    rw [e]; exact c0.trans (by unfold GPW; rw [tail_none])
  constructor
  all_goals
    rw [outsAt0_A m c t h0]
    dsimp only
  on_goal 1 => unfold out0_A_14; refine H.eq (View.read_writes_eq_canon _ _ _ (fun y => by exact cover0_A_14 ..)) ?_
  rotate_left
  on_goal 1 => unfold out0_A_15; refine H.eq (View.read_writes_eq_canon _ _ _ (fun y => by exact cover0_A_15 ..)) ?_
  rotate_left
  on_goal 1 => unfold out0_A_16; refine H.eq (View.read_writes_eq_canon _ _ _ (fun y => by exact cover0_A_16 ..)) ?_
  rotate_left
  on_goal 1 => unfold out0_A_17; refine H.eq (View.read_writes_eq_canon _ _ _ (fun y => by exact cover0_A_17 ..)) ?_
  rotate_left
  on_goal 1 => unfold out0_A_18; refine H.eq (View.read_writes_eq_canon _ _ _ (fun y => by exact cover0_A_18 ..)) ?_
  rotate_left
  on_goal 1 => unfold out0_A_19; refine H3.eq (View.read_writes_eq_canon _ _ _ (fun y => by exact cover0_A_19 ..)) ?_
  rotate_left
  on_goal 1 => unfold sout0_A_0; refine H.eq (View.read_writes_eq_canon _ _ _ (fun y => by exact scover0_A_0 ..)) ?_
  rotate_left
  all_goals unfold kernelRun0_A
  all_goals dsimp only
  all_goals sl_unfold_words
  all_goals simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread, (hs0_11 t).read_unread, (hs0_12 t).read_unread, (hs0_13 t).read_unread,
      (hs0_17 t).read_unread, (hs0_18 t).read_unread, (hs0_19 t).read_unread, (Memref.isWhole_whole _).read_unread,
      View.ld_unit_zero (S := S512x1024) hz2, View.ld_unit_zero (S := S512x512) hz2, View.ld_unit_zero (S := S16x512) hz2,
      View.ld_unit_zero (S := S1x1024) hz2, View.ld_unit_zero (S := S1x512) hz2,
      readCov_cons_zero (S := S16x512) _ hz2, readCov_cons_zero (S := S1x1024) _ hz2, readCov_cons_zero (S := S1x512) _ hz2]
  · refine H.eq (View.canon_cons_unit_zero (S := S512x1024) hz2 _ _ _) ?_
    have := gx_holds hb hi
    with_reducible exact this
  · refine H.eq (View.canon_cons_unit_zero (S := S512x3072) hz2 _ _ _) ?_
    have := dproj_holds hb hi
    with_reducible exact this
  · refine H.eq (View.canon_cons_unit_zero (S := S1024x512) hz2 _ _ _) ?_
    have := ht_holds hb
    with_reducible exact this
  · refine H.eq (View.canon_cons_unit_zero (S := S1x1024) hz2 _ _ _) ?_
    have := gains_holds hb hi z2
    with_reducible exact this
  · refine H.eq (View.canon_cons_unit_zero (S := S1x512) hz2 _ _ _) ?_
    have := scales_holds hb hi z3
    with_reducible exact this
  · refine quarters (T := fun g p q => ((GPW A (512 * (15 - t.val)) g p q : ℝ) : EReal)) ?_ ?_ ?_ ?_
    all_goals
      repeat refine .miss (by decide) ?_
      with_reducible first
        | refine .hit (gpw0 hb hi ?_) | refine .hit (gpw1 hb hi ?_) | refine .hit (gpw2 hb hi ?_) | refine .hit (gpw3 hb hi ?_)
      refine read3 ?_
      repeat refine .miss (by decide) ?_
      exact .whole (z4 _)
  · refine H.eq (View.canon_cons_unit_zero (S := S16x512) hz2 _ _ _) ?_
    have := halo_next hb hi
    with_reducible exact this

/-- The point before `t`. -/
abbrev before (t : Fin cfg0.N) : t.val - 1 < cfg0.N := Nat.lt_of_le_of_lt (Nat.sub_le _ _) t.isLt

theorem post_B {t : Fin cfg0.N} (h0 : ¬t.val % 16 = 0) (hp : Post m c A (t.val - 1) (before t))
    (hb : (blk m c t (outsAt0 m c (t.val - 1) (before t)).2.2.2.2.2.2).Holds A (15 - t.val)) : Post m c A t.val t.isLt := by
  have hi := coords_val t
  have e : 512 * (15 - (t.val - 1)) = 512 * (15 - t.val) + 512 := by
    have : t.val < 16 := t.isLt
    omega
  obtain ⟨_, _, _, z2, z3, z4, _⟩ := hp
  rw [e] at z2 z3 z4
  constructor
  all_goals
    rw [outsAt0_B m c t h0]
    dsimp only
  on_goal 1 => unfold out0_B_14; refine H.eq (View.read_writes_eq_canon _ _ _ (fun y => by exact cover0_B_14 ..)) ?_
  rotate_left
  on_goal 1 => unfold out0_B_15; refine H.eq (View.read_writes_eq_canon _ _ _ (fun y => by exact cover0_B_15 ..)) ?_
  rotate_left
  on_goal 1 => unfold out0_B_16; refine H.eq (View.read_writes_eq_canon _ _ _ (fun y => by exact cover0_B_16 ..)) ?_
  rotate_left
  on_goal 1 => unfold out0_B_17; refine H.eq (View.read_writes_eq_canon _ _ _ (fun y => by exact cover0_B_17 ..)) ?_
  rotate_left
  on_goal 1 => unfold out0_B_18; refine H.eq (View.read_writes_eq_canon _ _ _ (fun y => by exact cover0_B_18 ..)) ?_
  rotate_left
  on_goal 1 => unfold out0_B_19; refine H3.eq (View.read_writes_eq_canon _ _ _ (fun y => by exact cover0_B_19 ..)) ?_
  rotate_left
  on_goal 1 => unfold sout0_B_0; refine H.eq (View.read_writes_eq_canon _ _ _ (fun y => by exact scover0_B_0 ..)) ?_
  rotate_left
  all_goals unfold kernelRun0_B
  all_goals dsimp only
  all_goals sl_unfold_words
  all_goals simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread, (hs0_11 t).read_unread, (hs0_12 t).read_unread, (hs0_13 t).read_unread,
      (hs0_17 t).read_unread, (hs0_18 t).read_unread, (hs0_19 t).read_unread, (Memref.isWhole_whole _).read_unread,
      View.ld_unit_zero (S := S512x1024) hz2, View.ld_unit_zero (S := S512x512) hz2, View.ld_unit_zero (S := S16x512) hz2,
      View.ld_unit_zero (S := S1x1024) hz2, View.ld_unit_zero (S := S1x512) hz2,
      readCov_cons_zero (S := S16x512) _ hz2, readCov_cons_zero (S := S1x1024) _ hz2, readCov_cons_zero (S := S1x512) _ hz2]
  · refine H.eq (View.canon_cons_unit_zero (S := S512x1024) hz2 _ _ _) ?_
    have := gx_holds hb hi
    with_reducible exact this
  · refine H.eq (View.canon_cons_unit_zero (S := S512x3072) hz2 _ _ _) ?_
    have := dproj_holds hb hi
    with_reducible exact this
  · refine H.eq (View.canon_cons_unit_zero (S := S1024x512) hz2 _ _ _) ?_
    have := ht_holds hb
    with_reducible exact this
  · refine H.eq (View.canon_cons_unit_zero (S := S1x1024) hz2 _ _ _) ?_
    have := gains_holds hb hi z2
    with_reducible exact this
  · refine H.eq (View.canon_cons_unit_zero (S := S1x512) hz2 _ _ _) ?_
    have := scales_holds hb hi z3
    with_reducible exact this
  · refine quarters (T := fun g p q => ((GPW A (512 * (15 - t.val)) g p q : ℝ) : EReal)) ?_ ?_ ?_ ?_
    all_goals
      repeat refine .miss (by decide) ?_
      with_reducible first
        | exact .hit (gpw0 hb hi (member 0 z4 _)) | exact .hit (gpw1 hb hi (member 1 z4 _))
        | exact .hit (gpw2 hb hi (member 2 z4 _)) | exact .hit (gpw3 hb hi (member 3 z4 _))
  · refine H.eq (View.canon_cons_unit_zero (S := S16x512) hz2 _ _ _) ?_
    have := halo_next hb hi
    with_reducible exact this

end Cert.Kernel2Ideal.Tile
-- ==== Proof.K2Run.lean ====
/-
  `inproj_bwd` over the grid: the arrays its windows cut, the blocks each point reads, and what stands after each point.
-/
module

public import proofs.«01_k».proof.Proof.K2Step
public import proofs.«01_k».proof.Proof.Inputs2
public import proofs.«01_k».proof.Proof.HostHolds

@[expose] public section

set_option maxRecDepth 16384

noncomputable section

namespace Cert.Kernel2Ideal.Tile

open Idealize.ShloMosaic Idealize.ShloMosaic.TcCoe Idealize.SL.Sem
open Cert.Kernel2Ideal Cert.Kernel2Ideal.Gen Cert.Holds Cert.Consts Cert.Boxes
open Cert.Spec2 hiding V
open Idealize.ShloMosaic.ValueIdx hiding ix1 ix2 ix3 ix4
open scoped BigOperators
open Finset (range)

/-! ## The projections -/

section Host

variable (x : FVec Ideal S1x8192x1024 .f32) (g : FVec Ideal S1x1024 .f32) (w : FVec Ideal S1x1024x3072 .f32)

abbrev rows2 : FVec Ideal S8192x1024 .f32 := shapeCast S8192x1024 x shapeCasts_S1x8192x1024_S8192x1024

/-- The mean squares, the small number added. -/
abbrev meanSq : FVec Ideal S8192x1 .f32 :=
  addf (Host.divf (broadcastInDim S8192x1 ![0] bcast_S8192_S8192x1_0
      (Host.reduceAdd (mulf (rows2 x) (rows2 x)) (constant (F := Ideal) S_ .f32 0x00000000#32) reducesTo_S8192x1024_S8192_d1 h_S_))
    (broadcastInDim S8192x1 ![] bcast_S_S8192x1 (constant (F := Ideal) S_ .f32 0x44800000#32)))
    (broadcastInDim S8192x1 ![] bcast_S_S8192x1 (constant (F := Ideal) S_ .f32 0x358637BD#32))

abbrev normed : FVec Ideal S8192x1024 .f32 :=
  mulf (mulf (rows2 x) (broadcastInDim S8192x1024 ![0, 1] bcast_S8192x1_S8192x1024_0_1 (Host.rsqrt (meanSq x))))
    (broadcastInDim S8192x1024 ![0, 1] bcast_S1x1024_S8192x1024_0_1 (broadcastInDim S1x1024 ![1] bcast_S1024_S1x1024_1
      (shapeCast S1024 g shapeCasts_S1x1024_S1024)))

abbrev proj : FVec Ideal S8192x3072 .bf16 :=
  truncf .bf16 (Host.dotGeneral dot_S8192x1024_S1024x3072_S8192x3072_1_0_0_1_n_n none (normed x g)
    (shapeCast S1024x3072 w shapeCasts_S1x1024x3072_S1024x3072)) bitsLt_bf16_f32

variable {x g w} {A : Args} (hx : ∀ (r : Fin 8192) (k : Fin 1024), x (ix3 (0 : Fin 1) r k) = ((A.x r.val k.val : ℝ) : EReal)) (hg : H g fun _ k => A.g k)
  (hw : ∀ (r : Fin 1024) (k : Fin 3072), w (ix3 (0 : Fin 1) r k) = ((A.w r.val k.val : ℝ) : EReal))

include hx

theorem rows2_holds : H (rows2 x) fun r k => A.x r k := H.of fun r k => (shapeCast_1ab_ab_apply _ _ _ _).trans (hx r k)

theorem meanSq_holds : H (meanSq x) fun r _ => Spec2.V A r := by
  have h : H (broadcastInDim S8192x1 ![0] bcast_S8192_S8192x1_0
      (Host.reduceAdd (mulf (rows2 x) (rows2 x)) (constant (F := Ideal) S_ .f32 0x00000000#32) reducesTo_S8192x1024_S8192_d1 h_S_))
      fun r _ => ∑ k ∈ range 1024, A.x r k * A.x r k := H.of fun r q => by
    refine (broadcastInDim_apply ![0] _ _ (ix2 r q) (ix1 r) (fun a => by match a with | ⟨0, _⟩ => rfl)).trans ?_
    refine (sum_axis (a := (1 : Fin S8192x1024.rank)) reducesTo_S8192x1024_S8192_d1 (by decide) (HR.mul (φ := .f32) (rows2_holds hx) (rows2_holds hx)) c0 _ (ix1 r)).trans ?_
    rw [Finset.sum_range]
    rfl
  exact HR.add (φ := .f32) (HR.div (φ := .f32) h (HR.fill c1024 _) fun _ => by norm_num) (HR.fill ceps _)

theorem normed_holds (hg : H g fun _ k => A.g k) : H (normed x g) fun r k => HN A r k := by
  have hr : H (broadcastInDim S8192x1024 ![0, 1] bcast_S8192x1_S8192x1024_0_1 (Host.rsqrt (meanSq x))) fun r _ => RR A r := H.of fun p q => by
    refine (broadcastInDim_apply ![0, 1] _ _ (ix2 p q) (ix2 p (0 : Fin 1)) (fun a => by
      match a with
      | ⟨0, _⟩ => rfl
      | ⟨1, _⟩ => rfl)).trans ?_
    exact HR.rsqrt (φ := .f32) (meanSq_holds hx) (fun i => V_pos A _) _
  have hgg : H (broadcastInDim S8192x1024 ![0, 1] bcast_S1x1024_S8192x1024_0_1 (broadcastInDim S1x1024 ![1] bcast_S1024_S1x1024_1
      (shapeCast S1024 g shapeCasts_S1x1024_S1024))) fun _ k => A.g k := H.of fun p q => by
    refine (broadcastInDim_apply ![0, 1] _ _ (ix2 p q) (ix2 (0 : Fin 1) q) (fun a => by
      match a with
      | ⟨0, _⟩ => rfl
      | ⟨1, _⟩ => rfl)).trans ?_
    refine (broadcastInDim_apply ![1] _ _ (ix2 (0 : Fin 1) q) (ix1 q) (fun a => by match a with | ⟨0, _⟩ => rfl)).trans ?_
    rw [shapeCast_apply _ _ _ (ix2 (0 : Fin 1) q) (by
        rw [Shape.rowMajor_val_two, Shape.rowMajor_val_one]
        show 0 * 1024 + q.val = q.val
        omega)]
    exact hg _
  exact HR.mul (φ := .f32) (HR.mul (φ := .f32) (rows2_holds hx) hr) hgg

theorem proj_holds (hg : H g fun _ k => A.g k) (hw : ∀ (r : Fin 1024) (k : Fin 3072), w (ix3 (0 : Fin 1) r k) = ((A.w r.val k.val : ℝ) : EReal)) :
    H (proj x g w) fun r e => PROJ A r e := by
  have hw2 : H (shapeCast S1024x3072 w shapeCasts_S1x1024x3072_S1024x3072) fun r k => A.w r k :=
    H.of fun r k => (shapeCast_1ab_ab_apply _ _ _ _).trans (hw r k)
  refine H.truncf (fun i => ?_) _
  refine dot_at (φ₁ := .f32) (φ₂ := .f32) dot_S8192x1024_S1024x3072_S8192x3072_1_0_0_1_n_n 1024 rfl rfl (normed_holds hx hg) hw2 i
    (fun k => HN A (i 0).val k * A.w k (i 1).val) fun k q hq => ?_
  have l0 : (dot_S8192x1024_S1024x3072_S8192x3072_1_0_0_1_n_n.lhsIdx i q 0).val = (i 0).val := rfl
  have l1 : (dot_S8192x1024_S1024x3072_S8192x3072_1_0_0_1_n_n.lhsIdx i q 1).val = k.val := hq
  have r0 : (dot_S8192x1024_S1024x3072_S8192x3072_1_0_0_1_n_n.rhsIdx i q 0).val = k.val := hq
  have r1 : (dot_S8192x1024_S1024x3072_S8192x3072_1_0_0_1_n_n.rhsIdx i q 1).val = (i 1).val := rfl
  rw [l0, l1, r0, r1]

end Host

variable (m : (ℓ : Loc nD τ sig) → Buf (Elt Ideal) ℓ) (c : Dev nD)

theorem V_v17 : V m c main_v17 = proj (m ((c : Thread nD τ).loc main_arg0) : S1x8192x1024.Idx → EReal)
    (m ((c : Thread nD τ).loc main_arg1) : S1x1024.Idx → EReal) (m ((c : Thread nD τ).loc main_arg2) : S1x1024x3072.Idx → EReal) := by
  unfold V
  after_results
  rfl
theorem V_v21 : V m c main_v21 = transpose S4x1024x768 [1, 0, 2] (shapeCast S1024x4x768 (truncf (F := Ideal) .bf16
    (shapeCast S1024x3072 (m ((c : Thread nD τ).loc main_arg2) : S1x1024x3072.Idx → EReal) shapeCasts_S1x1024x3072_S1024x3072) bitsLt_bf16_f32)
    shapeCasts_S1024x3072_S1024x4x768) transposes_S1024x4x768_S4x1024x768_1_0_2 := by
  unfold V
  after_results
  rfl
theorem V_v22 : V m c main_v22 = shapeCast S8192x1024 (m ((c : Thread nD τ).loc main_arg0) : S1x8192x1024.Idx → EReal) shapeCasts_S1x8192x1024_S8192x1024 := by
  unfold V
  after_results
  rfl
theorem V_v23 : V m c main_v23 = shapeCast S4x128x128 (m ((c : Thread nD τ).loc main_arg3) : S1x4x128x128.Idx → EReal) shapeCasts_S1x4x128x128_S4x128x128 := by
  unfold V
  after_results
  rfl

/-! ## The blocks -/

theorem at_rows : ∀ t : Fin cfg0.N,
    (win0_0.index t 0 = 15 - t.val ∧ win0_0.index t 1 = 0) ∧ (win0_1.index t 0 = 15 - t.val ∧ win0_1.index t 1 = 0)
    ∧ (win0_2.index t 0 = 15 - t.val ∧ win0_2.index t 1 = 0) ∧ (win0_3.index t 0 = 15 - t.val ∧ win0_3.index t 1 = 0)
    ∧ (win0_4.index t 0 = 32 * (15 - t.val) - 1 ∧ win0_4.index t 1 = 0) ∧ (win0_5.index t 0 = 15 - t.val ∧ win0_5.index t 1 = 1)
    ∧ (win0_6.index t 0 = 15 - t.val ∧ win0_6.index t 1 = 0) ∧ (win0_7.index t 0 = 15 - t.val ∧ win0_7.index t 1 = 0)
    ∧ (win0_8.index t 0 = 15 - t.val ∧ win0_8.index t 1 = 0) ∧ (win0_9.index t 0 = 15 - t.val ∧ win0_9.index t 1 = 0) := by decide +kernel

theorem at_whole : ∀ t : Fin cfg0.N,
    (win0_10.index t 0 = 0 ∧ win0_10.index t 1 = 0 ∧ win0_10.index t 2 = 0) ∧ (win0_11.index t 0 = 0 ∧ win0_11.index t 1 = 0 ∧ win0_11.index t 2 = 0)
    ∧ (win0_12.index t 0 = 0 ∧ win0_12.index t 1 = 0) ∧ (win0_13.index t 0 = 0 ∧ win0_13.index t 1 = 0) := by decide +kernel

variable {m} {c} {A : Args}

/-- The arrays of memory `m` hold `A`. -/
abbrev In (m : (ℓ : Loc nD τ sig) → Buf (Elt Ideal) ℓ) (c : Dev nD) (A : Args) : Prop :=
  Reads A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

section

variable (hA : In m c A) (t : Fin cfg0.N)
include hA

theorem projs : H (V m c main_v17 : S8192x3072.Idx → EReal) fun r e => PROJ A r e := by
  rw [V_v17]; exact proj_holds hA.x hA.g hA.w

theorem blk_x : H (iblk m c 0 t : S512x1024.Idx → EReal) fun r k => A.x (512 * (15 - t.val) + r) k := fun j => by
  obtain ⟨⟨h0, h1⟩, -⟩ := at_rows t
  unfold iblk
  rw [View.read_apply]
  show V m c main_v22 _ = _
  rw [V_v22]
  refine (rows2_holds hA.x _).trans (congrArg₂ (fun r k => ((A.x r k : ℝ) : EReal)) (?_ : _ = 512 * (15 - t.val) + (j 0).val) (?_ : _ = (j 1).val))
  · show win0_0.index t 0 * 512 + 1 * (j 0).val = _; rw [h0]; omega
  · show win0_0.index t 1 * 1024 + 1 * (j 1).val = _; rw [h1]; omega

theorem blk_dx2 : H (iblk m c 1 t : S512x1024.Idx → EReal) fun r k => A.dx2 (512 * (15 - t.val) + r) k := fun j => by
  obtain ⟨-, ⟨h0, h1⟩, -⟩ := at_rows t
  unfold iblk
  rw [View.read_apply]
  show V m c main_arg5 _ = _
  rw [V_main_arg5]
  refine (hA.dx2 _).trans (congrArg₂ (fun r k => ((A.dx2 r k : ℝ) : EReal)) (?_ : _ = 512 * (15 - t.val) + (j 0).val) (?_ : _ = (j 1).val))
  · show win0_1.index t 0 * 512 + 1 * (j 0).val = _; rw [h0]; omega
  · show win0_1.index t 1 * 1024 + 1 * (j 1).val = _; rw [h1]; omega

theorem blk_pv : H (iblk m c 3 t : S512x512.Idx → EReal) fun r k => PROJ A (512 * (15 - t.val) + r) k := fun j => by
  obtain ⟨-, -, -, ⟨h0, h1⟩, -⟩ := at_rows t
  unfold iblk
  rw [View.read_apply]
  show V m c main_v17 _ = _
  refine (projs hA _).trans (congrArg₂ (fun r k => ((PROJ A r k : ℝ) : EReal)) (?_ : _ = 512 * (15 - t.val) + (j 0).val) (?_ : _ = (j 1).val))
  · show win0_3.index t 0 * 512 + 1 * (j 0).val = _; rw [h0]; omega
  · show win0_3.index t 1 * 512 + 1 * (j 1).val = _; rw [h1]; omega

theorem blk_prev : H (iblk m c 4 t : S16x512.Idx → EReal) fun r k => PROJ A (16 * (32 * (15 - t.val) - 1) + r) k := fun j => by
  obtain ⟨-, -, -, -, ⟨h0, h1⟩, -⟩ := at_rows t
  unfold iblk
  rw [View.read_apply]
  show V m c main_v17 _ = _
  refine (projs hA _).trans (congrArg₂ (fun r k => ((PROJ A r k : ℝ) : EReal)) (?_ : _ = 16 * (32 * (15 - t.val) - 1) + (j 0).val) (?_ : _ = (j 1).val))
  · show win0_4.index t 0 * 16 + 1 * (j 0).val = _; rw [h0]; omega
  · show win0_4.index t 1 * 512 + 1 * (j 1).val = _; rw [h1]; omega

theorem blk_pg : H (iblk m c 5 t : S512x512.Idx → EReal) fun r k => PG A (512 * (15 - t.val) + r) k := fun j => by
  obtain ⟨-, -, -, -, -, ⟨h0, h1⟩, -⟩ := at_rows t
  unfold iblk
  rw [View.read_apply]
  show V m c main_v17 _ = _
  refine (projs hA _).trans (congrArg₂ (fun r k => ((PROJ A r k : ℝ) : EReal)) (?_ : _ = 512 * (15 - t.val) + (j 0).val) (?_ : _ = 512 + (j 1).val))
  · show win0_5.index t 0 * 512 + 1 * (j 0).val = _; rw [h0]; omega
  · show win0_5.index t 1 * 512 + 1 * (j 1).val = _; rw [h1]; omega

theorem blk_q : H (iblk m c 6 t : S512x512.Idx → EReal) fun r k => A.dq (512 * (15 - t.val) + r) k := fun j => by
  obtain ⟨-, -, -, -, -, -, ⟨h0, h1⟩, -⟩ := at_rows t
  unfold iblk
  rw [View.read_apply]
  show V m c main_arg7 _ = _
  rw [V_main_arg7]
  refine (hA.dq _).trans (congrArg₂ (fun r k => ((A.dq r k : ℝ) : EReal)) (?_ : _ = 512 * (15 - t.val) + (j 0).val) (?_ : _ = (j 1).val))
  · show win0_6.index t 0 * 512 + 1 * (j 0).val = _; rw [h0]; omega
  · show win0_6.index t 1 * 512 + 1 * (j 1).val = _; rw [h1]; omega

theorem blk_k : H (iblk m c 7 t : S512x512.Idx → EReal) fun r k => A.dk (512 * (15 - t.val) + r) k := fun j => by
  obtain ⟨-, -, -, -, -, -, -, ⟨h0, h1⟩, -⟩ := at_rows t
  unfold iblk
  rw [View.read_apply]
  show V m c main_arg8 _ = _
  rw [V_main_arg8]
  refine (hA.dk _).trans (congrArg₂ (fun r k => ((A.dk r k : ℝ) : EReal)) (?_ : _ = 512 * (15 - t.val) + (j 0).val) (?_ : _ = (j 1).val))
  · show win0_7.index t 0 * 512 + 1 * (j 0).val = _; rw [h0]; omega
  · show win0_7.index t 1 * 512 + 1 * (j 1).val = _; rw [h1]; omega

theorem blk_v : H (iblk m c 8 t : S512x512.Idx → EReal) fun r k => A.dv (512 * (15 - t.val) + r) k := fun j => by
  obtain ⟨-, -, -, -, -, -, -, -, ⟨h0, h1⟩, -⟩ := at_rows t
  unfold iblk
  rw [View.read_apply]
  show V m c main_arg9 _ = _
  rw [V_main_arg9]
  refine (hA.dv _).trans (congrArg₂ (fun r k => ((A.dv r k : ℝ) : EReal)) (?_ : _ = 512 * (15 - t.val) + (j 0).val) (?_ : _ = (j 1).val))
  · show win0_8.index t 0 * 512 + 1 * (j 0).val = _; rw [h0]; omega
  · show win0_8.index t 1 * 512 + 1 * (j 1).val = _; rw [h1]; omega

theorem blk_a : H (iblk m c 9 t : S512x512.Idx → EReal) fun r k => A.da (512 * (15 - t.val) + r) k := fun j => by
  obtain ⟨-, -, -, -, -, -, -, -, -, h0, h1⟩ := at_rows t
  unfold iblk
  rw [View.read_apply]
  show V m c main_arg10 _ = _
  rw [V_main_arg10]
  refine (hA.da _).trans (congrArg₂ (fun r k => ((A.da r k : ℝ) : EReal)) (?_ : _ = 512 * (15 - t.val) + (j 0).val) (?_ : _ = (j 1).val))
  · show win0_9.index t 0 * 512 + 1 * (j 0).val = _; rw [h0]; omega
  · show win0_9.index t 1 * 512 + 1 * (j 1).val = _; rw [h1]; omega

theorem blk_g : H (iblk m c 12 t : S1x1024.Idx → EReal) fun _ k => A.g k := fun j => by
  obtain ⟨-, -, ⟨h0, h1⟩, -⟩ := at_whole t
  unfold iblk
  rw [View.read_apply]
  show V m c main_arg1 _ = _
  rw [V_main_arg1]
  refine (hA.g _).trans (congrArg (fun k => ((A.g k : ℝ) : EReal)) (?_ : _ = (j 1).val))
  show win0_12.index t 1 * 1024 + 1 * (j 1).val = _; rw [h1]; omega

theorem blk_ps : H (iblk m c 13 t : S1x512.Idx → EReal) fun _ k => A.ps k := fun j => by
  obtain ⟨-, -, -, h0, h1⟩ := at_whole t
  unfold iblk
  rw [View.read_apply]
  show V m c main_arg4 _ = _
  rw [V_main_arg4]
  refine (hA.ps _).trans (congrArg (fun k => ((A.ps k : ℝ) : EReal)) (?_ : _ = (j 1).val))
  show win0_13.index t 1 * 512 + 1 * (j 1).val = _; rw [h1]; omega

theorem blk_dy : H (iblk m c 2 t : S512x512.Idx → EReal) fun r k => A.dy (512 * (15 - t.val) + r) k := H.of fun p q => by
  obtain ⟨-, -, ⟨h0, h1⟩, -⟩ := at_rows t
  have ht : t.val < 16 := t.isLt
  unfold iblk
  rw [View.read_apply]
  show V m c main_arg6 _ = _
  rw [V_main_arg6]
  refine (congrArg _ (?_ : _ = ix2 (⟨512 * (15 - t.val) + p.val, by omega⟩ : Fin 8192) (⟨q.val, by omega⟩ : Fin 1024))).trans (hA.dy _ _ q.isLt)
  funext a
  apply Fin.ext
  match a with
  | ⟨0, _⟩ => show win0_2.index t 0 * 512 + 1 * p.val = 512 * (15 - t.val) + p.val; rw [h0]; omega
  | ⟨1, _⟩ => show win0_2.index t 1 * 512 + 1 * q.val = q.val; rw [h1]; omega

theorem blk_w : H3 (iblk m c 10 t : S4x1024x768.Idx → EReal) fun a r k => A.w r (768 * a + k) := H3.of fun a p q => by
  obtain ⟨⟨h0, h1, h2⟩, -⟩ := at_whole t
  unfold iblk
  rw [View.read_apply]
  show V m c main_v21 _ = _
  rw [V_v21]
  refine (congrArg _ (?_ : _ = ix3 a p q)).trans ?_
  · funext b
    apply Fin.ext
    match b with
    | ⟨0, _⟩ => show win0_10.index t 0 * 4 + 1 * a.val = a.val; rw [h0]; omega
    | ⟨1, _⟩ => show win0_10.index t 1 * 1024 + 1 * p.val = p.val; rw [h1]; omega
    | ⟨2, _⟩ => show win0_10.index t 2 * 768 + 1 * q.val = q.val; rw [h2]; omega
  · rw [transpose_apply _ _ _ (ix3 a p q) (ix3 p a q) (fun b => by
      match b with
      | ⟨0, _⟩ => rfl
      | ⟨1, _⟩ => rfl
      | ⟨2, _⟩ => rfl), shapeCast_apply _ _ _ (ix2 p (⟨768 * a.val + q.val, by omega⟩ : Fin 3072)) (by
      rw [Shape.rowMajor_val_three, Shape.rowMajor_val_two]
      show p.val * 3072 + (768 * a.val + q.val) = (p.val * 4 + a.val) * 768 + q.val
      ring)]
    exact (shapeCast_1ab_ab_apply _ _ _ _).trans (hA.w _ _)

theorem blk_pw : H3 (iblk m c 11 t : S4x128x128.Idx → EReal) fun a r k => A.pw a r k := H3.of fun a p q => by
  obtain ⟨-, ⟨h0, h1, h2⟩, -⟩ := at_whole t
  unfold iblk
  rw [View.read_apply]
  show V m c main_v23 _ = _
  rw [V_v23]
  refine (congrArg _ (?_ : _ = ix3 a p q)).trans ((shapeCast_1abc_abc_apply _ _ _ _ _).trans (hA.pw _ _ _))
  funext b
  apply Fin.ext
  match b with
  | ⟨0, _⟩ => show win0_11.index t 0 * 4 + 1 * a.val = a.val; rw [h0]; omega
  | ⟨1, _⟩ => show win0_11.index t 1 * 128 + 1 * p.val = p.val; rw [h1]; omega
  | ⟨2, _⟩ => show win0_11.index t 2 * 128 + 1 * q.val = q.val; rw [h2]; omega

set_option maxHeartbeats 4000000 in
theorem blk_holds {halo : Vec Ideal S16x512 .f32} (hh : H halo fun r k => SP A (512 * (15 - t.val) + 512 + r) k) :
    (blk m c t halo).Holds A (15 - t.val) where
  x := blk_x hA t
  dx2 := blk_dx2 hA t
  dy := blk_dy hA t
  pv := blk_pv hA t
  prev := blk_prev hA t
  pg := blk_pg hA t
  q := blk_q hA t
  k := blk_k hA t
  v := blk_v hA t
  a := blk_a hA t
  w := blk_w hA t
  pw := blk_pw hA t
  g := blk_g hA t
  ps := blk_ps hA t
  halo := hh

/-! ## All the points -/

theorem post : ∀ (n : ℕ) (hn : n < cfg0.N), Post m c A n hn
  | 0, hn => post_A (t := ⟨0, hn⟩) rfl (blk_holds hA ⟨0, hn⟩ ((H.splat c0).cast _ |>.congr fun r hr _ _ => by
      unfold SP; rw [if_neg (by simp)]))
  | n + 1, hn => by
    have hp := post n (Nat.lt_of_succ_lt hn)
    have hlt : n + 1 < 16 := hn
    refine post_B (t := ⟨n + 1, hn⟩) (by show ¬(n + 1) % 16 = 0; omega) hp (blk_holds hA ⟨n + 1, hn⟩ (H.congr hp.halo fun r _ k _ => ?_))
    congr 1
    show 512 * (15 - n) + r = 512 * (15 - (n + 1)) + 512 + r
    omega

end

end Cert.Kernel2Ideal.Tile
-- ==== Proof.K2Out.lean ====
/-
  The six results of `inproj_bwd`, from its arguments.
-/
module

public import proofs.«01_k».proof.Proof.K2Run

@[expose] public section

set_option maxRecDepth 16384

noncomputable section

namespace Cert.Kernel2Ideal.Tile

open Idealize.ShloMosaic Idealize.ShloMosaic.TcCoe Idealize.SL.Sem
open Cert.Kernel2Ideal Cert.Kernel2Ideal.Gen Cert.Kernel2Ideal.Value Cert.Holds
open Cert.Spec2 hiding V

variable {m : (ℓ : Loc nD τ sig) → Buf (Elt Ideal) ℓ} {c : Dev nD} {A : Args}

/-! ## Where the blocks lie -/

/-- The point that writes the block of row tile `q`. -/
def pt (q : ℕ) (h : q < 16) : Fin cfg0.N := ⟨15 - q, lt_of_lt_of_eq (b := 16) (by omega) N_0.symm⟩

theorem index14 (t : Fin cfg0.N) : win0_14.index t = ![15 - t.val, 0] := (by decide +kernel : ∀ t : Fin grid0.N, win0_14.index t = ![15 - t.val, 0]) t
theorem index15 (t : Fin cfg0.N) : win0_15.index t = ![15 - t.val, 0] := (by decide +kernel : ∀ t : Fin grid0.N, win0_15.index t = ![15 - t.val, 0]) t
theorem index16 (t : Fin cfg0.N) : win0_16.index t = ![0, 15 - t.val] := (by decide +kernel : ∀ t : Fin grid0.N, win0_16.index t = ![0, 15 - t.val]) t
theorem flush14 (t : Fin cfg0.N) : (cfg0.win 14).flush t = true := (by decide +kernel : ∀ t : Fin grid0.N, win0_14.flush t = true) t
theorem flush15 (t : Fin cfg0.N) : (cfg0.win 15).flush t = true := (by decide +kernel : ∀ t : Fin grid0.N, win0_15.flush t = true) t
theorem flush16 (t : Fin cfg0.N) : (cfg0.win 16).flush t = true := (by decide +kernel : ∀ t : Fin grid0.N, win0_16.flush t = true) t
theorem last17 (t : Fin cfg0.N) : (cfg0.win 17).flush t = decide (t.val = 15) ∧ win0_17.index t = ![0, 0] :=
  (by decide +kernel : ∀ t : Fin grid0.N, win0_17.flush t = decide (t.val = 15) ∧ win0_17.index t = ![0, 0]) t
theorem last18 (t : Fin cfg0.N) : (cfg0.win 18).flush t = decide (t.val = 15) ∧ win0_18.index t = ![0, 0] :=
  (by decide +kernel : ∀ t : Fin grid0.N, win0_18.flush t = decide (t.val = 15) ∧ win0_18.index t = ![0, 0]) t
theorem last19 (t : Fin cfg0.N) : (cfg0.win 19).flush t = decide (t.val = 15) ∧ win0_19.index t = ![0, 0, 0] :=
  (by decide +kernel : ∀ t : Fin grid0.N, win0_19.flush t = decide (t.val = 15) ∧ win0_19.index t = ![0, 0, 0]) t

theorem mem14 (t : Fin cfg0.N) (i : S8192x1024.Idx) (h : ∀ a : Fin 2, win0_14.index t a * S512x1024.size a ≤ (i a).val ∧ (i a).val < win0_14.index t a * S512x1024.size a + S512x1024.size a) :
    i ∈ ((cfg0.win 14).blk t).view.set := by
  show i ∈ ((View.whole main_v24_0).slice (win0_14.rect t)).set
  rw [View.set_slice_whole, Rect.mem_set_unit]
  exact h
theorem mem15 (t : Fin cfg0.N) (i : S8192x3072.Idx) (h : ∀ a : Fin 2, win0_15.index t a * S512x3072.size a ≤ (i a).val ∧ (i a).val < win0_15.index t a * S512x3072.size a + S512x3072.size a) :
    i ∈ ((cfg0.win 15).blk t).view.set := by
  show i ∈ ((View.whole main_v24_1).slice (win0_15.rect t)).set
  rw [View.set_slice_whole, Rect.mem_set_unit]
  exact h
theorem mem16 (t : Fin cfg0.N) (i : S1024x8192.Idx) (h : ∀ a : Fin 2, win0_16.index t a * S1024x512.size a ≤ (i a).val ∧ (i a).val < win0_16.index t a * S1024x512.size a + S1024x512.size a) :
    i ∈ ((cfg0.win 16).blk t).view.set := by
  show i ∈ ((View.whole main_v24_2).slice (win0_16.rect t)).set
  rw [View.set_slice_whole, Rect.mem_set_unit]
  exact h
theorem mem17 (t : Fin cfg0.N) (i : S1x1024.Idx) (h : ∀ a : Fin 2, win0_17.index t a * S1x1024.size a ≤ (i a).val ∧ (i a).val < win0_17.index t a * S1x1024.size a + S1x1024.size a) :
    i ∈ ((cfg0.win 17).blk t).view.set := by
  show i ∈ ((View.whole main_v24_3).slice (win0_17.rect t)).set
  rw [View.set_slice_whole, Rect.mem_set_unit]
  exact h
theorem mem18 (t : Fin cfg0.N) (i : S1x512.Idx) (h : ∀ a : Fin 2, win0_18.index t a * S1x512.size a ≤ (i a).val ∧ (i a).val < win0_18.index t a * S1x512.size a + S1x512.size a) :
    i ∈ ((cfg0.win 18).blk t).view.set := by
  show i ∈ ((View.whole main_v24_4).slice (win0_18.rect t)).set
  rw [View.set_slice_whole, Rect.mem_set_unit]
  exact h
theorem mem19 (t : Fin cfg0.N) (i : S4x128x128.Idx) (h : ∀ a : Fin 3, win0_19.index t a * S4x128x128.size a ≤ (i a).val ∧ (i a).val < win0_19.index t a * S4x128x128.size a + S4x128x128.size a) :
    i ∈ ((cfg0.win 19).blk t).view.set := by
  show i ∈ ((View.whole main_v24_5).slice (win0_19.rect t)).set
  rw [View.set_slice_whole, Rect.mem_set_unit]
  exact h

variable (hA : In m c A)
include hA

theorem out_gx : H ((dats m 0 c).arrAt 14 cfg0.N : S8192x1024.Idx → EReal) fun r k => GX A r k := by
  refine (dats m 0 c).arrAt_forall_of_cover 14 (fun i v => v = ((GX A (i 0).val (i 1).val : ℝ) : EReal)) (fun t hf y => ?_) (fun i => ?_)
  · have e0 : (((cfg0.win 14).blk t).view.emb y 0).val = win0_14.index t (0 : Fin 2) * 512 + 1 * (y 0).val := rfl
    have e1 : (((cfg0.win 14).blk t).view.emb y 1).val = win0_14.index t (1 : Fin 2) * 1024 + 1 * (y 1).val := rfl
    rw [index14] at e0 e1
    rw [flushed14]
    refine ((post hA t.val t.isLt).gx ((cfg0.win 14).xinj (grid0.coords t) y)).trans ?_
    rw [e0, e1]
    show ((GX A (512 * (15 - t.val) + (y 0).val) (y 1).val : ℝ) : EReal) = ((GX A ((15 - t.val) * 512 + 1 * (y 0).val) (0 * 1024 + 1 * (y 1).val) : ℝ) : EReal)
    rw [Nat.mul_comm 512, Nat.one_mul, Nat.zero_mul, Nat.zero_add, Nat.one_mul]
  · have h0 : (i 0).val < 8192 := (i 0).isLt
    have h1 : (i 1).val < 1024 := (i 1).isLt
    refine ⟨pt ((i 0).val / 512) (by omega), flush14 _, mem14 _ i fun a => ?_⟩
    rw [index14]
    match a with
    | ⟨0, _⟩ => show (15 - (15 - (i 0).val / 512)) * 512 ≤ (i 0).val ∧ (i 0).val < (15 - (15 - (i 0).val / 512)) * 512 + 512; omega
    | ⟨1, _⟩ => show 0 * 1024 ≤ (i 1).val ∧ (i 1).val < 0 * 1024 + 1024; omega

theorem out_dproj : H ((dats m 0 c).arrAt 15 cfg0.N : S8192x3072.Idx → EReal) fun r k => DPROJ A r k := by
  refine (dats m 0 c).arrAt_forall_of_cover 15 (fun i v => v = ((DPROJ A (i 0).val (i 1).val : ℝ) : EReal)) (fun t hf y => ?_) (fun i => ?_)
  · have e0 : (((cfg0.win 15).blk t).view.emb y 0).val = win0_15.index t (0 : Fin 2) * 512 + 1 * (y 0).val := rfl
    have e1 : (((cfg0.win 15).blk t).view.emb y 1).val = win0_15.index t (1 : Fin 2) * 3072 + 1 * (y 1).val := rfl
    rw [index15] at e0 e1
    rw [flushed15]
    refine ((post hA t.val t.isLt).dproj ((cfg0.win 15).xinj (grid0.coords t) y)).trans ?_
    rw [e0, e1]
    show ((DPROJ A (512 * (15 - t.val) + (y 0).val) (y 1).val : ℝ) : EReal) = ((DPROJ A ((15 - t.val) * 512 + 1 * (y 0).val) (0 * 3072 + 1 * (y 1).val) : ℝ) : EReal)
    rw [Nat.mul_comm 512, Nat.one_mul, Nat.zero_mul, Nat.zero_add, Nat.one_mul]
  · have h0 : (i 0).val < 8192 := (i 0).isLt
    have h1 : (i 1).val < 3072 := (i 1).isLt
    refine ⟨pt ((i 0).val / 512) (by omega), flush15 _, mem15 _ i fun a => ?_⟩
    rw [index15]
    match a with
    | ⟨0, _⟩ => show (15 - (15 - (i 0).val / 512)) * 512 ≤ (i 0).val ∧ (i 0).val < (15 - (15 - (i 0).val / 512)) * 512 + 512; omega
    | ⟨1, _⟩ => show 0 * 3072 ≤ (i 1).val ∧ (i 1).val < 0 * 3072 + 3072; omega

theorem out_ht : H ((dats m 0 c).arrAt 16 cfg0.N : S1024x8192.Idx → EReal) fun k r => HN A r k := by
  refine (dats m 0 c).arrAt_forall_of_cover 16 (fun i v => v = ((HN A (i 1).val (i 0).val : ℝ) : EReal)) (fun t hf y => ?_) (fun i => ?_)
  · have e0 : (((cfg0.win 16).blk t).view.emb y 0).val = win0_16.index t (0 : Fin 2) * 1024 + 1 * (y 0).val := rfl
    have e1 : (((cfg0.win 16).blk t).view.emb y 1).val = win0_16.index t (1 : Fin 2) * 512 + 1 * (y 1).val := rfl
    rw [index16] at e0 e1
    rw [flushed16]
    refine ((post hA t.val t.isLt).ht ((cfg0.win 16).xinj (grid0.coords t) y)).trans ?_
    rw [e0, e1]
    show ((HN A (512 * (15 - t.val) + (y 1).val) (y 0).val : ℝ) : EReal) = ((HN A ((15 - t.val) * 512 + 1 * (y 1).val) (0 * 1024 + 1 * (y 0).val) : ℝ) : EReal)
    rw [Nat.mul_comm 512, Nat.one_mul, Nat.zero_mul, Nat.zero_add, Nat.one_mul]
  · have h0 : (i 0).val < 1024 := (i 0).isLt
    have h1 : (i 1).val < 8192 := (i 1).isLt
    refine ⟨pt ((i 1).val / 512) (by omega), flush16 _, mem16 _ i fun a => ?_⟩
    rw [index16]
    match a with
    | ⟨0, _⟩ => show 0 * 1024 ≤ (i 0).val ∧ (i 0).val < 0 * 1024 + 1024; omega
    | ⟨1, _⟩ => show (15 - (15 - (i 1).val / 512)) * 512 ≤ (i 1).val ∧ (i 1).val < (15 - (15 - (i 1).val / 512)) * 512 + 512; omega

theorem out_gg : H ((dats m 0 c).arrAt 17 cfg0.N : S1x1024.Idx → EReal) fun _ k => GG A 0 k := by
  refine (dats m 0 c).arrAt_forall_of_cover 17 (fun i v => v = ((GG A 0 (i 1).val : ℝ) : EReal)) (fun t hf y => ?_) (fun i => ?_)
  · have ht : t.val = 15 := of_decide_eq_true ((last17 t).1.symm.trans hf)
    have e1 : (((cfg0.win 17).blk t).view.emb y 1).val = win0_17.index t (1 : Fin 2) * 1024 + 1 * (y 1).val := rfl
    rw [(last17 t).2] at e1
    rw [flushed17]
    refine ((post hA t.val t.isLt).gg ((cfg0.win 17).xinj (grid0.coords t) y)).trans ?_
    rw [e1, ht]
    show ((GG A 0 (y 1).val : ℝ) : EReal) = ((GG A 0 (0 * 1024 + 1 * (y 1).val) : ℝ) : EReal)
    rw [Nat.zero_mul, Nat.zero_add, Nat.one_mul]
  · have h0 : (i 0).val < 1 := (i 0).isLt
    have h1 : (i 1).val < 1024 := (i 1).isLt
    refine ⟨pt 0 (by omega), (last17 _).1, mem17 _ i fun a => ?_⟩
    rw [(last17 _).2]
    match a with
    | ⟨0, _⟩ => show 0 * 1 ≤ (i 0).val ∧ (i 0).val < 0 * 1 + 1; omega
    | ⟨1, _⟩ => show 0 * 1024 ≤ (i 1).val ∧ (i 1).val < 0 * 1024 + 1024; omega

theorem out_gps : H ((dats m 0 c).arrAt 18 cfg0.N : S1x512.Idx → EReal) fun _ k => GPS A 0 k := by
  refine (dats m 0 c).arrAt_forall_of_cover 18 (fun i v => v = ((GPS A 0 (i 1).val : ℝ) : EReal)) (fun t hf y => ?_) (fun i => ?_)
  · have ht : t.val = 15 := of_decide_eq_true ((last18 t).1.symm.trans hf)
    have e1 : (((cfg0.win 18).blk t).view.emb y 1).val = win0_18.index t (1 : Fin 2) * 512 + 1 * (y 1).val := rfl
    rw [(last18 t).2] at e1
    rw [flushed18]
    refine ((post hA t.val t.isLt).gps ((cfg0.win 18).xinj (grid0.coords t) y)).trans ?_
    rw [e1, ht]
    show ((GPS A 0 (y 1).val : ℝ) : EReal) = ((GPS A 0 (0 * 512 + 1 * (y 1).val) : ℝ) : EReal)
    rw [Nat.zero_mul, Nat.zero_add, Nat.one_mul]
  · have h0 : (i 0).val < 1 := (i 0).isLt
    have h1 : (i 1).val < 512 := (i 1).isLt
    refine ⟨pt 0 (by omega), (last18 _).1, mem18 _ i fun a => ?_⟩
    rw [(last18 _).2]
    match a with
    | ⟨0, _⟩ => show 0 * 1 ≤ (i 0).val ∧ (i 0).val < 0 * 1 + 1; omega
    | ⟨1, _⟩ => show 0 * 512 ≤ (i 1).val ∧ (i 1).val < 0 * 512 + 512; omega

theorem out_gpw : H3 ((dats m 0 c).arrAt 19 cfg0.N : S4x128x128.Idx → EReal) fun g p q => GPW A 0 g p q := by
  refine (dats m 0 c).arrAt_forall_of_cover 19 (fun i v => v = ((GPW A 0 (i 0).val (i 1).val (i 2).val : ℝ) : EReal)) (fun t hf y => ?_) (fun i => ?_)
  · have ht : t.val = 15 := of_decide_eq_true ((last19 t).1.symm.trans hf)
    have e0 : (((cfg0.win 19).blk t).view.emb y 0).val = win0_19.index t (0 : Fin 3) * 4 + 1 * (y 0).val := rfl
    have e1 : (((cfg0.win 19).blk t).view.emb y 1).val = win0_19.index t (1 : Fin 3) * 128 + 1 * (y 1).val := rfl
    have e2 : (((cfg0.win 19).blk t).view.emb y 2).val = win0_19.index t (2 : Fin 3) * 128 + 1 * (y 2).val := rfl
    rw [(last19 t).2] at e0 e1 e2
    rw [flushed19]
    refine ((post hA t.val t.isLt).gpw ((cfg0.win 19).xinj (grid0.coords t) y)).trans ?_
    rw [e0, e1, e2, ht]
    show ((GPW A 0 (y 0).val (y 1).val (y 2).val : ℝ) : EReal)
      = ((GPW A 0 (0 * 4 + 1 * (y 0).val) (0 * 128 + 1 * (y 1).val) (0 * 128 + 1 * (y 2).val) : ℝ) : EReal)
    simp only [Nat.zero_mul, Nat.zero_add, Nat.one_mul]
  · have h0 : (i 0).val < 4 := (i 0).isLt
    have h1 : (i 1).val < 128 := (i 1).isLt
    have h2 : (i 2).val < 128 := (i 2).isLt
    refine ⟨pt 0 (by omega), (last19 _).1, mem19 _ i fun a => ?_⟩
    rw [(last19 _).2]
    match a with
    | ⟨0, _⟩ => show 0 * 4 ≤ (i 0).val ∧ (i 0).val < 0 * 4 + 4; omega
    | ⟨1, _⟩ => show 0 * 128 ≤ (i 1).val ∧ (i 1).val < 0 * 128 + 128; omega
    | ⟨2, _⟩ => show 0 * 128 ≤ (i 2).val ∧ (i 2).val < 0 * 128 + 128; omega

end Cert.Kernel2Ideal.Tile
-- ==== Proof.HostHolds2.lean ====
/-
  More host operations over arrays that hold real numbers: padding by zeros, sums of what comes after, and windows' sums as
  differences of those.
-/
module

public import proofs.«01_k».proof.Proof.HostHolds

@[expose] public section

set_option maxRecDepth 16384

noncomputable section

namespace Cert.Holds

open Idealize.ShloMosaic Idealize.ShloMosaic.ValueIdx
open scoped BigOperators
open Finset (range)

variable {φ : FTy}

/-- A sum over a three-axis array's entries, axis by axis. -/
theorem sum_entries {a b c : ℕ} (f : (⟨3, ![a, b, c]⟩ : Shape).Idx → EReal) :
    ∑ i, f i = ∑ p : Fin a, ∑ q : Fin b, ∑ r : Fin c, f (ix3 p q r) := by
  have e : ∑ i, f i = ∑ z : Fin a × Fin b × Fin c, f (ix3 z.1 z.2.1 z.2.2) :=
    (Fintype.sum_equiv ⟨fun z : Fin a × Fin b × Fin c => ix3 z.1 z.2.1 z.2.2, fun i => (i 0, i 1, i 2), fun _ => rfl, fun i => (eq_ix3 i).symm⟩ _ _ fun _ => rfl).symm
  rw [e]
  simp only [Fintype.sum_prod_type]

/-- Rows and columns of zeros around an array. -/
theorem H3.pad {R C R' C' : ℕ} {x : (⟨3, ![1, R, C]⟩ : Shape).Idx → EReal} {f : ℕ → ℕ → ℝ} (hx : H3 x fun _ r c => f r c)
    {v : (⟨0, ![]⟩ : Shape).Idx → EReal} (hv : v ix0 = ((0 : ℝ) : EReal)) (a b p q : ℕ)
    (h : (⟨3, ![1, R, C]⟩ : Shape).Pads ![0, a, b] ![0, p, q] ![0, 0, 0] ⟨3, ![1, R', C']⟩) (hu : 0 < (⟨0, ![]⟩ : Shape).numel) :
    H3 (Idealize.ShloMosaic.pad ⟨3, ![1, R', C']⟩ ![0, a, b] ![0, p, q] ![0, 0, 0] x v h hu)
      fun _ r c => if (a ≤ r ∧ r - a < R) ∧ b ≤ c ∧ c - b < C then f (r - a) (c - b) else 0 := H3.of fun u r c => by
  have hu0 : u.val = 0 := by omega
  unfold Idealize.ShloMosaic.pad
  split
  · next hin =>
    have h1 : a ≤ r.val ∧ (r.val - a) % (0 + 1) = 0 ∧ (r.val - a) / (0 + 1) < R := hin 1
    have h2 : b ≤ c.val ∧ (c.val - b) % (0 + 1) = 0 ∧ (c.val - b) / (0 + 1) < C := hin 2
    simp only [Nat.zero_add, Nat.div_one] at h1 h2
    rw [if_pos ⟨⟨h1.1, h1.2.2⟩, h2.1, h2.2.2⟩]
    refine (hx _).trans ?_
    show ((f ((r.val - a) / (0 + 1)) ((c.val - b) / (0 + 1)) : ℝ) : EReal) = _
    simp only [Nat.zero_add, Nat.div_one]
  · next hin =>
    rw [if_neg fun hle => hin fun k => by
      match k with
      | ⟨0, _⟩ => show 0 ≤ u.val ∧ (u.val - 0) % (0 + 1) = 0 ∧ (u.val - 0) / (0 + 1) < 1; rw [hu0]; omega
      | ⟨1, _⟩ => show a ≤ r.val ∧ (r.val - a) % (0 + 1) = 0 ∧ (r.val - a) / (0 + 1) < R; omega
      | ⟨2, _⟩ => show b ≤ c.val ∧ (c.val - b) % (0 + 1) = 0 ∧ (c.val - b) / (0 + 1) < C; omega]
    exact (congrArg v (eq_ix0 _)).trans hv

/-- Of a window of `N` padded high by one less, at row `j`: the entries from `j` on. -/
theorem window_tail (f : ℕ → ℝ) {N j : ℕ} (hj : j < N) :
    ∑ n ∈ range N, (if j + n < N then f (j + n) else 0) = ∑ n ∈ range (N - j), f (j + n) := by
  have e : N = (N - j) + j := by omega
  conv_lhs => rw [e]
  rw [Finset.sum_range_add]
  refine (congrArg₂ (· + ·) (Finset.sum_congr rfl fun n hn => ?_) (Finset.sum_eq_zero fun n hn => ?_)).trans (add_zero _)
  · have := Finset.mem_range.mp hn
    rw [if_pos (by omega)]
  · rw [if_neg (by omega)]

/-- Sums of the rows from each on, as a window of the whole height padded high by one less. -/
theorem following {N C : ℕ} {x : FVec Ideal ⟨3, ![1, N, C]⟩ φ} {f : ℕ → ℕ → ℝ} (hx : H3 x fun _ r c => f r c)
    {init : (⟨0, ![]⟩ : Shape).Idx → Ideal φ} (hi : init ix0 = ((0 : ℝ) : EReal)) (hN : 0 < N) (hg : ℕ)
    (h : (⟨3, ![1, N, C]⟩ : Shape).ReduceWindows ![1, N, 1] ![1, 1, 1] ![0, 0, 0] ![0, hg, 0] ⟨3, ![1, N, C]⟩) (hu : 0 < (⟨0, ![]⟩ : Shape).numel) :
    H3 (Host.reduceWindowAdd ![1, N, 1] ![1, 1, 1] ![0, 0, 0] ![0, hg, 0] x init h hu) fun _ r c => ∑ n ∈ range (N - r), f (r + n) c :=
  H3.of fun u r c => by
    have hu0 : u.val = 0 := by omega
    have hr := r.isLt
    have hc := c.isLt
    show Ideal.hostReduceWindowAdd _ _ _ _ h x (init (Shape.Idx.first hu)) (ix3 u r c) = _
    rw [show init (Shape.Idx.first hu) = ((0 : ℝ) : EReal) from (congrArg init (eq_ix0 _)).trans hi]
    unfold Ideal.hostReduceWindowAdd Host.reduceWindow
    have num : (⟨3, ![1, N, 1]⟩ : Shape).numel = N := by simp [Shape.numel, Fin.prod_univ_three]
    have pos : ∀ n : Fin (⟨3, ![1, N, 1]⟩ : Shape).numel, (⟨3, ![1, N, 1]⟩ : Shape).rowMajor.symm n = ix3 (0 : Fin 1) (n.cast num) (0 : Fin 1) := fun n => by
      rw [Equiv.symm_apply_eq]
      apply Fin.ext
      rw [Shape.rowMajor_val_three]
      show n.val = (0 * N + n.val) * 1 + 0
      omega
    refine (foldl_real _ _ (fun n => if r.val + n.val < N then f (r.val + n.val) c.val else 0) (fun n => ?_) 0).trans ?_
    · have w0 : ((⟨3, ![1, N, 1]⟩ : Shape).rowMajor.symm n 0).val = 0 := by rw [pos]; rfl
      have w1 : ((⟨3, ![1, N, 1]⟩ : Shape).rowMajor.symm n 1).val = n.val := by rw [pos]; rfl
      have w2 : ((⟨3, ![1, N, 1]⟩ : Shape).rowMajor.symm n 2).val = 0 := by rw [pos]; rfl
      dsimp only
      split
      · next hin =>
        have h1 := (hin 1).2
        change r.val * 1 + ((⟨3, ![1, N, 1]⟩ : Shape).rowMajor.symm n 1).val - 0 < N at h1
        rw [w1] at h1
        rw [if_pos (by omega)]
        refine (hx _).trans ?_
        show ((f (r.val * 1 + ((⟨3, ![1, N, 1]⟩ : Shape).rowMajor.symm n 1).val - 0) (c.val * 1 + ((⟨3, ![1, N, 1]⟩ : Shape).rowMajor.symm n 2).val - 0) : ℝ) : EReal) = _
        rw [w1, w2, Nat.mul_one, Nat.mul_one, Nat.add_zero, Nat.sub_zero, Nat.sub_zero]
      · next hin =>
        rw [if_neg fun hle => hin fun a => by
          match a with
          | ⟨0, _⟩ =>
            show 0 ≤ u.val * 1 + ((⟨3, ![1, N, 1]⟩ : Shape).rowMajor.symm n 0).val ∧ u.val * 1 + ((⟨3, ![1, N, 1]⟩ : Shape).rowMajor.symm n 0).val - 0 < 1
            rw [w0]; omega
          | ⟨1, _⟩ =>
            show 0 ≤ r.val * 1 + ((⟨3, ![1, N, 1]⟩ : Shape).rowMajor.symm n 1).val ∧ r.val * 1 + ((⟨3, ![1, N, 1]⟩ : Shape).rowMajor.symm n 1).val - 0 < N
            rw [w1]; omega
          | ⟨2, _⟩ =>
            show 0 ≤ c.val * 1 + ((⟨3, ![1, N, 1]⟩ : Shape).rowMajor.symm n 2).val ∧ c.val * 1 + ((⟨3, ![1, N, 1]⟩ : Shape).rowMajor.symm n 2).val - 0 < C
            rw [w2]; omega]
    · rw [zero_add]
      congr 1
      rw [← window_tail (fun n => f n c.val) hr, Finset.sum_range, ← Fin.sum_univ_def]
      exact Fintype.sum_equiv (finCongr num) _ _ fun n => rfl

/-! ## A window's sum from the sums of what comes after -/

/-- What is sent to the row before a window: at row `s + 1`, the entry whose window begins just after. -/
theorem sent (f : ℕ → ℝ) {N w s : ℕ} (hw : 0 < w) (h0 : ∀ r, N ≤ r → f r = 0) :
    ∑ t ∈ range N, (if t + 1 - w = s + 1 then -f t else 0) = -f (s + w) := by
  by_cases h : s + w < N
  · rw [Finset.sum_eq_single (s + w) (fun t _ hne => if_neg (by omega)) (fun hn => (hn (Finset.mem_range.mpr h)).elim), if_pos (by omega)]
  · rw [h0 _ (by omega), neg_zero]
    refine Finset.sum_eq_zero fun t ht => ?_
    have := Finset.mem_range.mp ht
    rw [if_neg (by omega)]

/-- The sums from `r` on, less those from `r + w` on. -/
theorem between (f : ℕ → ℝ) {N r : ℕ} (w : ℕ) (hr : r ≤ N) (h0 : ∀ r, N ≤ r → f r = 0) :
    ∑ j ∈ range (N - r), (-f (r + j + w) + f (r + j)) = ∑ k ∈ range w, f (r + k) := by
  have e1 := Finset.sum_range_add (fun j => f (r + j)) (N - r) w
  have e2 := Finset.sum_range_add (fun j => f (r + j)) w (N - r)
  rw [Finset.sum_eq_zero (s := range w) (f := fun x => f (r + (N - r + x))) (fun k _ => h0 _ (by omega)), add_zero] at e1
  rw [Nat.add_comm, e1] at e2
  rw [Finset.sum_add_distrib, Finset.sum_neg_distrib, e2]
  have e3 : ∑ j ∈ range (N - r), f (r + j + w) = ∑ j ∈ range (N - r), f (r + (w + j)) :=
    Finset.sum_congr rfl fun j _ => by congr 1; omega
  rw [e3]; ring

end Cert.Holds
-- ==== Proof.R2Pool.lean ====
/-
  The reference of `inproj_bwd`, its forward lines: the norm, the projections, the pooled differences through their
  matrices.
-/
module

public import proofs.«01_k».proof.Proof.RMix
public import proofs.«01_k».proof.Proof.HostHolds2
public import proofs.«01_k».proof.Proof.Inputs2
public import proofs.«01_k».proof.Proof.Gen.Reference2Ideal.Read

@[expose] public section

set_option maxRecDepth 16384

noncomputable section

namespace Cert.Reference2Ideal.Calc

open Idealize.ShloMosaic Idealize.ShloMosaic.TcCoe Idealize.SL.Sem Idealize.ShloMosaic.StableHlo
open Cert.Reference2Ideal Cert.Reference2Ideal.Gen Cert.Reference2Ideal.Read Cert.Holds Cert.Consts
open Cert.ReferenceIdeal.Calc (grp grp_holds sum_real start start_at rows rows_at toInt_small count_at)
open Cert.Spec (win pool sig one_add_exp_pos)
open Cert.Spec2 hiding V
open Idealize.ShloMosaic.ValueIdx
open scoped BigOperators

/-! ## Rows added at row numbers -/

section

variable {s : IVec S8192 32} {n : ℕ → ℕ} (hs : ∀ r : Fin 8192, s (ix1 r) = BitVec.ofNat 32 (n r.val)) (hn : ∀ r, r < 8192 → n r ≤ 8192)
include hs hn

theorem lands (u : Fin 1) (t : Fin 8192) (i : Fin 128) :
    scatter_S1x8193x128_S8192x1_S1x8192x128_02_1_1_1.resultIdx? (ix3 u t i) (rows s)
      = some (ix3 u (⟨n t.val, by have := hn _ t.isLt; omega⟩ : Fin 8193) i) := by
  have hb := hn _ t.isLt
  have s0 : ScatterDims.start scatter_S1x8193x128_S8192x1_S1x8192x128_02_1_1_1 (ix3 u t i) (rows s) (0 : Fin 3) = 0 := rfl
  have s2 : ScatterDims.start scatter_S1x8193x128_S8192x1_S1x8192x128_02_1_1_1 (ix3 u t i) (rows s) (2 : Fin 3) = 0 := rfl
  have s1 : ScatterDims.start scatter_S1x8193x128_S8192x1_S1x8192x128_02_1_1_1 (ix3 u t i) (rows s) (1 : Fin 3) = (n t.val : ℤ) := by
    unfold ScatterDims.start
    rw [dif_pos (show (1 : Fin 3) ∈ scatter_S1x8193x128_S8192x1_S1x8192x128_02_1_1_1.scatterDimsToOperandDims from List.mem_singleton.mpr rfl)]
    refine (congrArg (fun i => (rows s i).toInt) (a₂ := ix2 t (0 : Fin 1)) ?_).trans ?_
    · funext b
      apply Fin.ext
      match b with
      | ⟨0, _⟩ => rfl
      | ⟨1, _⟩ => rfl
    · show (rows s (ix2 t (0 : Fin 1))).toInt = _
      rw [rows_at hs hn, toInt_small (n := n t.val) (by omega)]
  have w0 : ScatterDims.window scatter_S1x8193x128_S8192x1_S1x8192x128_02_1_1_1 (ix3 u t i) (0 : Fin 3) = u.val := rfl
  have w1 : ScatterDims.window scatter_S1x8193x128_S8192x1_S1x8192x128_02_1_1_1 (ix3 u t i) (1 : Fin 3) = 0 := rfl
  have w2 : ScatterDims.window scatter_S1x8193x128_S8192x1_S1x8192x128_02_1_1_1 (ix3 u t i) (2 : Fin 3) = i.val := rfl
  have hu := u.isLt
  have hi := i.isLt
  unfold ScatterDims.resultIdx?
  rw [dif_pos fun a => by
    match a with
    | ⟨0, _⟩ =>
      show 0 ≤ ScatterDims.start scatter_S1x8193x128_S8192x1_S1x8192x128_02_1_1_1 (ix3 u t i) (rows s) (0 : Fin 3) + (ScatterDims.window scatter_S1x8193x128_S8192x1_S1x8192x128_02_1_1_1 (ix3 u t i) (0 : Fin 3) : ℕ)
        ∧ ScatterDims.start scatter_S1x8193x128_S8192x1_S1x8192x128_02_1_1_1 (ix3 u t i) (rows s) (0 : Fin 3) + (ScatterDims.window scatter_S1x8193x128_S8192x1_S1x8192x128_02_1_1_1 (ix3 u t i) (0 : Fin 3) : ℕ) < ((1 : ℕ) : ℤ)
      rw [s0, w0]; omega
    | ⟨1, _⟩ =>
      show 0 ≤ ScatterDims.start scatter_S1x8193x128_S8192x1_S1x8192x128_02_1_1_1 (ix3 u t i) (rows s) (1 : Fin 3) + (ScatterDims.window scatter_S1x8193x128_S8192x1_S1x8192x128_02_1_1_1 (ix3 u t i) (1 : Fin 3) : ℕ)
        ∧ ScatterDims.start scatter_S1x8193x128_S8192x1_S1x8192x128_02_1_1_1 (ix3 u t i) (rows s) (1 : Fin 3) + (ScatterDims.window scatter_S1x8193x128_S8192x1_S1x8192x128_02_1_1_1 (ix3 u t i) (1 : Fin 3) : ℕ) < ((8193 : ℕ) : ℤ)
      rw [s1, w1]; omega
    | ⟨2, _⟩ =>
      show 0 ≤ ScatterDims.start scatter_S1x8193x128_S8192x1_S1x8192x128_02_1_1_1 (ix3 u t i) (rows s) (2 : Fin 3) + (ScatterDims.window scatter_S1x8193x128_S8192x1_S1x8192x128_02_1_1_1 (ix3 u t i) (2 : Fin 3) : ℕ)
        ∧ ScatterDims.start scatter_S1x8193x128_S8192x1_S1x8192x128_02_1_1_1 (ix3 u t i) (rows s) (2 : Fin 3) + (ScatterDims.window scatter_S1x8193x128_S8192x1_S1x8192x128_02_1_1_1 (ix3 u t i) (2 : Fin 3) : ℕ) < ((128 : ℕ) : ℤ)
      rw [s2, w2]; omega]
  refine congrArg some (funext fun a => Fin.ext ?_)
  match a with
  | ⟨0, _⟩ =>
    show (ScatterDims.start scatter_S1x8193x128_S8192x1_S1x8192x128_02_1_1_1 (ix3 u t i) (rows s) (0 : Fin 3) + (ScatterDims.window scatter_S1x8193x128_S8192x1_S1x8192x128_02_1_1_1 (ix3 u t i) (0 : Fin 3) : ℕ)).toNat = u.val
    rw [s0, w0]; omega
  | ⟨1, _⟩ =>
    show (ScatterDims.start scatter_S1x8193x128_S8192x1_S1x8192x128_02_1_1_1 (ix3 u t i) (rows s) (1 : Fin 3) + (ScatterDims.window scatter_S1x8193x128_S8192x1_S1x8192x128_02_1_1_1 (ix3 u t i) (1 : Fin 3) : ℕ)).toNat = n t.val
    rw [s1, w1]; omega
  | ⟨2, _⟩ =>
    show (ScatterDims.start scatter_S1x8193x128_S8192x1_S1x8192x128_02_1_1_1 (ix3 u t i) (rows s) (2 : Fin 3) + (ScatterDims.window scatter_S1x8193x128_S8192x1_S1x8192x128_02_1_1_1 (ix3 u t i) (2 : Fin 3) : ℕ)).toNat = i.val
    rw [s2, w2]; omega

theorem added {x : FVec Ideal S1x8193x128 .f32} (hx : HR x fun _ => 0) {y : FVec Ideal S1x8192x128 .f32} {f : ℕ → ℕ → ℝ} (hy : H3 y fun _ r c => f r c) :
    H3 (Host.scatterAdd scatter_S1x8193x128_S8192x1_S1x8192x128_02_1_1_1 x (rows s) y)
      fun _ j c => ∑ t ∈ Finset.range 8192, (if n t = j then f t c else 0) := H3.of fun u j c => by
  show x (ix3 u j c) + ∑ k ∈ Finset.univ.filter (fun k => scatter_S1x8193x128_S8192x1_S1x8192x128_02_1_1_1.resultIdx? k (rows s) = some (ix3 u j c)), y k = _
  rw [hx, EReal.coe_zero, zero_add, Finset.sum_filter, sum_entries, Fin.sum_univ_one]
  refine sum_real (f := fun t => if n t = j.val then f t c.val else 0) fun t => ?_
  rw [Finset.sum_eq_single c (fun i _ hne => if_neg fun e => by
      rw [lands hs hn] at e
      exact hne (Fin.ext (congrArg (fun z : S1x8193x128.Idx => (z 2).val) (Option.some.inj e)))) (fun h => (h (Finset.mem_univ _)).elim), lands hs hn]
  by_cases h : n t.val = j.val
  · rw [if_pos h, if_pos, hy]
    rw [Subsingleton.elim u 0]
    exact congrArg (fun z => some (ix3 (0 : Fin 1) z c)) (Fin.ext h)
  · rw [if_neg h, if_neg fun e => h (congrArg (fun z : S1x8193x128.Idx => (z 1).val) (Option.some.inj e)), EReal.coe_zero]

end

section

variable {A : Args} {x0 : FVec Ideal S1x8192x1024 .f32} {x1 : FVec Ideal S1x1024 .f32} {x2 : FVec Ideal S1x1024x3072 .f32}
  {x3 : FVec Ideal S1x4x128x128 .f32} {x4 : FVec Ideal S1x512 .f32} {x5 : FVec Ideal S8192x1024 .f32} {x6 : FVec Ideal S8192x1024 .bf16}
  {x7 x8 x9 x10 : FVec Ideal S8192x512 .bf16} (h : Reads A x0 x1 x2 x3 x4 x5 x6 x7 x8 x9 x10)
include h

/-! ## The norm and the projections -/

theorem rx : H3 x0 fun _ r c => A.x r c := H3.of fun u r c => by
  rw [Subsingleton.elim u 0]
  exact h.x r c

theorem r7 : H3 (val_main_v7 (F := Ideal) x0) fun _ r _ => Spec2.V A r := by
  have e : H3 (val_main_v3 (F := Ideal) x0) fun _ r _ => ∑ c ∈ Finset.range 1024, A.x r c * A.x r c := H3.of fun u r c => by
    rw [val_main_v3_apply, val_main_v2_apply, show (val_main_cst (F := Ideal)) (Shape.Idx.first h_S_) = ((0 : ℝ) : EReal) from c0, EReal.coe_zero, zero_add]
    exact sum_real fun k => HR.mul (φ := .f32) (rx h) (rx h) _
  exact H3.ofHR (HR.add (HR.div e (HR.fill c1024 _) fun _ => by norm_num) (HR.fill ceps _)) fun _ _ _ => rfl

theorem r8 : H3 (val_main_v8 (F := Ideal) x0) fun _ r _ => RR A r := H3.ofHR (HR.rsqrt (r7 h) fun _ => V_pos A _) fun _ _ _ => rfl

theorem r11 : H3 (val_main_v11 (F := Ideal) x0) fun _ r _ => -(1 / 2) * (RR A r / Spec2.V A r) :=
  H3.ofHR (HR.mul (HR.fill cnhalf _) (HR.div (r8 h) (r7 h) fun _ => (V_pos A _).ne')) fun _ _ _ => rfl

theorem r13 : H3 (val_main_v13 (F := Ideal) x0) fun _ r c => XH A r c := by
  have e : H3 (val_main_v12 (F := Ideal) x0) fun _ r _ => RR A r := H3.of fun u r c => by
    rw [val_main_v12_apply]; exact r8 h _
  exact H3.ofHR (HR.mul (rx h) e) fun _ _ _ => rfl

theorem r14 : H3 (val_main_v14 (F := Ideal) x1) fun _ _ c => A.g c := H3.of fun u r c => by
  rw [val_main_v14_apply, val_main_v0_apply]
  refine (h.g _).trans ?_
  show ((A.g (c.val % 1024) : ℝ) : EReal) = _
  rw [Nat.mod_eq_of_lt c.isLt]

theorem r15 : H3 (val_main_v15 (F := Ideal) x1) fun _ _ c => A.g c := H3.of fun u r c => by
  rw [val_main_v15_apply]; exact r14 h _

theorem r16 : H3 (val_main_v16 (F := Ideal) x0 x1) fun _ r c => HN A r c := H3.ofHR (HR.mul (r13 h) (r15 h)) fun _ _ _ => rfl

theorem r17 : H (val_main_v17 (F := Ideal) x2) fun r c => A.w r c := H.of fun r c => by
  unfold val_main_v17
  rw [shapeCast_1ab_ab_apply]
  exact h.w r c

theorem r18 : H3 (val_main_v18 (F := Ideal) x0 x1 x2) fun _ r c => PROJ A r c := H3.of fun u r c => by
  rw [val_main_v18_apply]
  exact sum_real (f := fun k => HN A r.val k * A.w k c.val) fun k => by rw [r16 h, r17 h, ← EReal.coe_mul]

theorem r21 : H3 (val_main_v21 (F := Ideal) x0 x1 x2) fun _ r c => PROJ A r c := by
  have e := H3.slice (r18 h) 0 0 0 slices_S1x8192x3072_S1x8192x512_0_0_0
  simp only [Nat.zero_add] at e
  exact e

theorem r22 : H3 (val_main_v22 (F := Ideal) x0 x1 x2) fun _ r c => PG A r c := by
  have e := H3.slice (r18 h) 0 0 512 slices_S1x8192x3072_S1x8192x512_0_0_512
  simp only [Nat.zero_add] at e
  exact e

/-! ## The pooled differences -/

theorem r25 : H3 (val_main_v25 (F := Ideal) x0 x1 x2) fun _ r c => ∑ n ∈ Finset.range (r + 1), PROJ A n c :=
  running (by norm_num) (r21 h) (by
    show broadcastInDim S_ ![] bcast_S_S_ (constant (F := Ideal) S_ .f32 0x00000000#32) ix0 = _
    rw [broadcastInDim_scalar_apply]; exact c0) 8191 rfl _ _

theorem r26 : H3 (val_main_v26 (F := Ideal) x0 x1 x2) fun _ r c => ∑ n ∈ Finset.range r, PROJ A n c := H3.of fun u r c => by
  unfold val_main_v26
  by_cases hr : r.val = 0
  · rw [concatenate_pair_apply_left (1 : Fin 3) (val_main_v24 (F := Ideal)) (val_main_v25 (F := Ideal) x0 x1 x2) _ (ix3 u r c) rfl (ix3 u (0 : Fin 1) c) (fun b => by
      match b with | ⟨0, _⟩ => rfl | ⟨1, _⟩ => exact hr.symm | ⟨2, _⟩ => rfl), hr]
    unfold val_main_v24
    rw [broadcastInDim_scalar_apply, Finset.range_zero, Finset.sum_empty]
    exact c0
  · rw [concatenate_pair_apply_right (1 : Fin 3) (val_main_v24 (F := Ideal)) (val_main_v25 (F := Ideal) x0 x1 x2) _ (ix3 u r c) rfl rfl (ix3 u (⟨r.val - 1, by omega⟩ : Fin 8192) c) (fun b hb => by
      match b with | ⟨0, _⟩ => rfl | ⟨1, _⟩ => exact absurd rfl hb | ⟨2, _⟩ => rfl) (by show r.val - 1 + 1 = r.val; omega), r25 h]
    show ((∑ n ∈ Finset.range (r.val - 1 + 1), PROJ A n c.val : ℝ) : EReal) = _
    rw [show r.val - 1 + 1 = r.val by omega]

/-- Group `g`, from the running sums and the values cut at its first column. -/
theorem group (g o : ℕ) (ho : o = 128 * g) (hg : g < 4) (hs1 : S1x8193x512.Slices ![0, 0, o] S1x8193x128) (hs2 : S1x8192x512.Slices ![0, 0, o] S1x8192x128) :
    H3 (grp (BitVec.ofNat 32 (win g)) (extractStridedSlice S1x8193x128 ![0, 0, o] (val_main_v26 (F := Ideal) x0 x1 x2) hs1)
      (extractStridedSlice S1x8192x128 ![0, 0, o] (val_main_v21 (F := Ideal) x0 x1 x2) hs2)) fun _ r i => D A g r i := by
  have hp := H3.slice (r26 h) 0 0 o hs1
  have hq := H3.slice (r21 h) 0 0 o hs2
  simp only [Nat.zero_add] at hp hq
  subst ho
  exact grp_holds (win g) (by unfold win; interval_cases g <;> decide) (Nat.two_pow_pos _) (f := fun r c => PROJ A r (128 * g + c)) hp hq

theorem r47 : H3 (val_main_v47 (F := Ideal) x0 x1 x2) fun _ r i => D A 0 r i := group h 0 0 rfl (by norm_num) slices_S1x8193x512_S1x8193x128_0_0_0 slices_S1x8192x512_S1x8192x128_0_0_0
theorem r66 : H3 (val_main_v66 (F := Ideal) x0 x1 x2) fun _ r i => D A 1 r i := group h 1 128 rfl (by norm_num) slices_S1x8193x512_S1x8193x128_0_0_128 slices_S1x8192x512_S1x8192x128_0_0_128
theorem r85 : H3 (val_main_v85 (F := Ideal) x0 x1 x2) fun _ r i => D A 2 r i := group h 2 256 rfl (by norm_num) slices_S1x8193x512_S1x8193x128_0_0_256 slices_S1x8192x512_S1x8192x128_0_0_256
theorem r104 : H3 (val_main_v104 (F := Ideal) x0 x1 x2) fun _ r i => D A 3 r i := group h 3 384 rfl (by norm_num) slices_S1x8193x512_S1x8193x128_0_0_384 slices_S1x8192x512_S1x8192x128_0_0_384

theorem r109 (u : Fin 1) (r : Fin 8192) (g : Fin 4) (i : Fin 128) :
    val_main_v109 (F := Ideal) x0 x1 x2 (ix4 u r g i) = ((D A g.val r.val i.val : ℝ) : EReal) := by
  have key (k : Fin 4) (y : FVec Ideal S1x8192x1x128 .f32) (z : FVec Ideal S1x8192x128 .f32) (hz : H3 z fun _ r i => D A k.val r i)
      (hy : y = broadcastInDim S1x8192x1x128 ![0, 1, 3] bcast_S1x8192x128_S1x8192x1x128_0_1_3 z) :
      y (ix4 u r (0 : Fin 1) i) = ((D A k.val r.val i.val : ℝ) : EReal) := by
    subst hy
    rw [broadcastInDim_apply _ _ _ (ix4 u r (0 : Fin 1) i) (ix3 u r i) (fun a => by
      match a with | ⟨0, _⟩ => exact Nat.lt_one_iff.mp u.isLt | ⟨1, _⟩ => rfl | ⟨2, _⟩ => rfl)]
    exact hz _
  refine (Cert.ReferenceIdeal.Calc.four_at (fun k : Fin 4 => match k with
    | 0 => val_main_v105 (F := Ideal) x0 x1 x2 | 1 => val_main_v106 (F := Ideal) x0 x1 x2
    | 2 => val_main_v107 (F := Ideal) x0 x1 x2 | 3 => val_main_v108 (F := Ideal) x0 x1 x2) u r g i).trans ?_
  match g with
  | 0 => exact key 0 _ _ (r47 h) rfl
  | 1 => exact key 1 _ _ (r66 h) rfl
  | 2 => exact key 2 _ _ (r85 h) rfl
  | 3 => exact key 3 _ _ (r104 h) rfl

theorem r19 (g : Fin 4) (i j : Fin 128) : val_main_v19 (F := Ideal) x3 (ix3 g i j) = ((A.pw g.val i.val j.val : ℝ) : EReal) := by
  unfold val_main_v19
  refine (shapeCast_apply _ _ _ (ix4 (0 : Fin 1) g i j) ?_).trans (h.pw g i j)
  rw [Shape.rowMajor_val_four, Shape.rowMajor_val_three]
  show ((0 * 4 + g.val) * 128 + i.val) * 128 + j.val = (g.val * 128 + i.val) * 128 + j.val
  omega

theorem r112 : H3 (val_main_v112 (F := Ideal) x0 x1 x2 x3) fun _ r c => M A r c := H3.of fun u r c => by
  rw [Subsingleton.elim u 0]
  have hg : c.val / 128 < 4 := by omega
  have hm : c.val % 128 < 128 := Nat.mod_lt _ (by norm_num)
  unfold val_main_v112
  rw [shapeCast_apply _ _ _ (ix4 (0 : Fin 1) r (⟨_, hg⟩ : Fin 4) (⟨_, hm⟩ : Fin 128)) (by
    rw [Shape.rowMajor_val_four, Shape.rowMajor_val_three]
    show ((0 * 8192 + r.val) * 4 + c.val / 128) * 128 + c.val % 128 = (0 * 8192 + r.val) * 512 + c.val
    omega), val_main_v111_apply, val_main_v110_apply]
  refine sum_real (f := fun k => D A (c.val / 128) r.val k * A.pw (c.val / 128) k (c.val % 128)) fun k => ?_
  have e1 : lidx_main_v110 (idx_main_v111 (ix4 (0 : Fin 1) r (⟨_, hg⟩ : Fin 4) (⟨_, hm⟩ : Fin 128))) k = ix3 (⟨_, hg⟩ : Fin 4) k (⟨_, hm⟩ : Fin 128) := by
    funext a; apply Fin.ext
    match a with | ⟨0, _⟩ => rfl | ⟨1, _⟩ => rfl | ⟨2, _⟩ => rfl
  have e2 : ridx_main_v110 (idx_main_v111 (ix4 (0 : Fin 1) r (⟨_, hg⟩ : Fin 4) (⟨_, hm⟩ : Fin 128))) k = ix4 (0 : Fin 1) r (⟨_, hg⟩ : Fin 4) k := by
    funext a; apply Fin.ext
    match a with | ⟨0, _⟩ => rfl | ⟨1, _⟩ => rfl | ⟨2, _⟩ => rfl | ⟨3, _⟩ => rfl
  rw [e1, e2, r19 h, r109 h, ← EReal.coe_mul, mul_comm]

theorem r113 : H3 (val_main_v113 (F := Ideal) x4) fun _ _ c => A.ps c := H3.of fun u r c => by
  rw [val_main_v113_apply, val_main_v20_apply]
  refine (h.ps _).trans ?_
  show ((A.ps (c.val % 512) : ℝ) : EReal) = _
  rw [Nat.mod_eq_of_lt c.isLt]

theorem r114 : H3 (val_main_v114 (F := Ideal) x4) fun _ _ c => A.ps c := H3.of fun u r c => by
  rw [val_main_v114_apply]; exact r113 h _

theorem r146 : H3 (val_main_v146 (F := Ideal) x4) fun _ _ c => A.ps c := H3.of fun u r c => by
  rw [val_main_v146_apply]; exact r113 h _

theorem rgate : H3 (val_main_v116_2 (F := Ideal) x0 x1 x2) fun _ r c => SG A r c := by
  refine H3.ofHR (HR.div (HR.fill c1 _) (HR.add (HR.fill c1 _) (HR.exp (HR.neg (r22 h)))) fun i => ?_) fun u r c => ?_
  · exact (one_add_exp_pos _).ne'
  · show 1 / (1 + Real.exp (-PG A r.val c.val)) = _
    unfold SG Spec.sig; rw [zero_sub]

end

end Cert.Reference2Ideal.Calc
-- ==== Proof.R2Grad.lean ====
/-
  The reference of `inproj_bwd`, its backward lines and its six results.
-/
module

public import proofs.«01_k».proof.Proof.R2Pool

@[expose] public section

set_option maxRecDepth 16384

noncomputable section

namespace Cert.Reference2Ideal.Calc

open Idealize.ShloMosaic Idealize.ShloMosaic.TcCoe Idealize.SL.Sem Idealize.ShloMosaic.StableHlo
open Cert.Reference2Ideal Cert.Reference2Ideal.Gen Cert.Reference2Ideal.Read Cert.Holds Cert.Consts
open Cert.ReferenceIdeal.Calc (sum_real start start_at rows rows_at toInt_small count_at)
open Cert.Spec (win)
open Cert.Spec2 hiding V
open Idealize.ShloMosaic.ValueIdx
open scoped BigOperators

/-! ## A group's gradient in the running sums -/

/-- The rows' counts, over the columns. -/
def counts (w : BitVec 32) : FVec Ideal S1x8192x128 .f32 :=
  broadcastInDim S1x8192x128 ![0, 1, 2] bcast_S1x8192x1_S1x8192x128_0_1_2 (broadcastInDim S1x8192x1 ![1] bcast_S8192_S1x8192x1_1
    (sitofp (F := Ideal) .f32 (subi (addi (iotaInDim S8192 32 0) (broadcastInDim S8192 ![] bcast_S_S8192 (constantI S_ 32 1#32))) (start w))))

theorem counts_hold (w : ℕ) (hw : w ≤ 16) : H3 (counts (BitVec.ofNat 32 w)) fun _ r _ => ((min (r + 1) w : ℕ) : ℝ) := H3.of fun u r c => by
  unfold counts
  rw [broadcastInDim_apply _ _ _ (ix3 u r c) (ix3 (0 : Fin 1) r (0 : Fin 1)) (fun a => by match a with | ⟨0, _⟩ => rfl | ⟨1, _⟩ => rfl | ⟨2, _⟩ => rfl),
    broadcastInDim_apply _ _ _ (ix3 (0 : Fin 1) r (0 : Fin 1)) (ix1 r) (fun a => by match a with | ⟨0, _⟩ => rfl)]
  show (((((subi (addi (iotaInDim S8192 32 0) (broadcastInDim S8192 ![] bcast_S_S8192 (constantI S_ 32 1#32))) (start (BitVec.ofNat 32 w))) (ix1 r)).toInt : ℤ) : ℝ) : EReal) = _
  rw [count_at w hw, toInt_small (n := min (r.val + 1) w) (by omega), Int.cast_natCast]

/-- What goes to the running sums: each row's quotient to the row's own sum, its negation to the sum before the window. -/
def toSums (w : BitVec 32) (z : FVec Ideal S1x8192x128 .f32) : FVec Ideal S1x8193x128 .f32 :=
  addf (Host.scatterAdd scatter_S1x8193x128_S8192x1_S1x8192x128_02_1_1_1
      (broadcastInDim S1x8193x128 ![] bcast_S_S1x8193x128 (constant (F := Ideal) S_ .f32 0x00000000#32)) (rows (start w)) (Host.negf (Host.divf z (counts w))))
    (pad S1x8193x128 ![0, 1, 0] ![0, 0, 0] ![0, 0, 0] (Host.divf z (counts w)) (constant (F := Ideal) S_ .f32 0x00000000#32) pads_S1x8192x128_S1x8193x128_000_100_000 h_S_)

/-- The same over the reals. -/
def T (q : ℕ → ℝ) (w j : ℕ) : ℝ :=
  ∑ t ∈ Finset.range 8192, (if t + 1 - w = j then -q t else 0) + if 1 ≤ j then q (j - 1) else 0

theorem toSums_hold (w : ℕ) (hw : w ≤ 16) (hw0 : 0 < w) {z : FVec Ideal S1x8192x128 .f32} {d : ℕ → ℕ → ℝ} (hz : H3 z fun _ r c => d r c) :
    H3 (toSums (BitVec.ofNat 32 w) z) fun _ j c => T (fun t => d t c / (min (t + 1) w : ℕ)) w j := by
  have hq : H3 (Host.divf z (counts (BitVec.ofNat 32 w))) fun _ r c => d r c / (min (r + 1) w : ℕ) :=
    HR.div hz (counts_hold w hw) fun i => Nat.cast_ne_zero.mpr (by omega)
  have h1 := added (s := start (BitVec.ofNat 32 w)) (n := fun r => r + 1 - w) (start_at w hw) (fun r hr => by omega)
    (x := broadcastInDim S1x8193x128 ![] bcast_S_S1x8193x128 (constant (F := Ideal) S_ .f32 0x00000000#32)) (HR.fill c0 bcast_S_S1x8193x128)
    (f := fun r c => -(d r c / (min (r + 1) w : ℕ))) (HR.neg hq)
  have h2 := H3.pad (R' := 8193) (C' := 128) hq (v := constant (F := Ideal) S_ .f32 0x00000000#32) c0 1 0 0 0 pads_S1x8192x128_S1x8193x128_000_100_000 h_S_
  refine H3.ofHR (HR.add h1 h2) fun u j c => ?_
  have hj := j.isLt
  have hc := c.isLt
  show ∑ t ∈ Finset.range 8192, (if t + 1 - w = j.val then -(d t c.val / (min (t + 1) w : ℕ)) else 0)
    + (if (1 ≤ j.val ∧ j.val - 1 < 8192) ∧ 0 ≤ c.val ∧ c.val - 0 < 128 then d (j.val - 1) (c.val - 0) / (min (j.val - 1 + 1) w : ℕ) else 0) = _
  unfold T
  congr 1
  by_cases h : 1 ≤ j.val
  · rw [if_pos h, if_pos ⟨⟨h, by omega⟩, Nat.zero_le _, by omega⟩, Nat.sub_zero]
  · rw [if_neg h, if_neg fun k => h k.1.1]

/-- Four groups' columns side by side, as a sum of padded groups. -/
theorem four_cols (f : ℕ → ℕ → ℕ → ℝ) {R r c : ℕ} (hr : r < R) (hc : c < 512) :
    (((if (0 ≤ r ∧ r - 0 < R) ∧ 384 ≤ c ∧ c - 384 < 128 then f 3 (r - 0) (c - 384) else 0)
      + (if (0 ≤ r ∧ r - 0 < R) ∧ 256 ≤ c ∧ c - 256 < 128 then f 2 (r - 0) (c - 256) else 0))
      + (if (0 ≤ r ∧ r - 0 < R) ∧ 128 ≤ c ∧ c - 128 < 128 then f 1 (r - 0) (c - 128) else 0))
      + (if (0 ≤ r ∧ r - 0 < R) ∧ 0 ≤ c ∧ c - 0 < 128 then f 0 (r - 0) (c - 0) else 0) = f (c / 128) r (c % 128) := by
  rcases (by omega : c / 128 = 0 ∨ c / 128 = 1 ∨ c / 128 = 2 ∨ c / 128 = 3) with e | e | e | e <;> rw [e]
  · rw [if_neg (by omega), if_neg (by omega), if_neg (by omega), if_pos (by omega), show c - 0 = c % 128 by omega, Nat.sub_zero]; ring
  · rw [if_neg (by omega), if_neg (by omega), if_pos (by omega), if_neg (by omega), show c - 128 = c % 128 by omega, Nat.sub_zero]; ring
  · rw [if_neg (by omega), if_pos (by omega), if_neg (by omega), if_neg (by omega), show c - 256 = c % 128 by omega, Nat.sub_zero]; ring
  · rw [if_pos (by omega), if_neg (by omega), if_neg (by omega), if_neg (by omega), show c - 384 = c % 128 by omega, Nat.sub_zero]; ring

/-- The sums' gradient summed from row `r` on is the windows' gradient. -/
theorem unrolled (A : Args) {r c : ℕ} (hr : r < 8192) :
    ∑ n ∈ Finset.range (8192 - r), T (fun t => DD A t (128 * (c / 128) + c % 128) / (min (t + 1) (win (c / 128)) : ℕ)) (win (c / 128)) (1 + (r + n))
      = ∑ k ∈ Finset.range (win (c / 128)), SP A (r + k) c := by
  rw [← between (fun r => SP A r c) (win (c / 128)) hr.le (fun r h => if_neg (by omega)), Nat.div_add_mod]
  refine Finset.sum_congr rfl fun n hn => ?_
  have hn' := Finset.mem_range.mp hn
  have e : ∀ t, t < 8192 → DD A t c / (min (t + 1) (win (c / 128)) : ℕ) = SP A t c := fun t ht => by unfold SP; rw [if_pos ht]
  unfold T
  beta_reduce
  rw [if_pos (by omega), show 1 + (r + n) - 1 = r + n by omega, e _ (by omega)]
  congr 1
  rw [← sent (N := 8192) (w := win (c / 128)) (fun r => SP A r c) (s := r + n) (Nat.two_pow_pos _ : 0 < win (c / 128)) (fun r h => if_neg (by omega))]
  refine Finset.sum_congr rfl fun t ht => ?_
  rw [e t (Finset.mem_range.mp ht), Nat.add_comm 1]

theorem sums {A : Args} (g : ℕ) (hg : g < 4) {z : FVec Ideal S1x8192x128 .f32} (hz : H3 z fun _ r i => DD A r (128 * g + i)) :
    H3 (toSums (BitVec.ofNat 32 (win g)) z) fun _ j i => T (fun t => DD A t (128 * g + i) / (min (t + 1) (win g) : ℕ)) (win g) j :=
  toSums_hold (win g) (by unfold win; interval_cases g <;> decide) (Nat.two_pow_pos _) hz

theorem gx_eq (A : Args) (r c : ℕ) (q : ℝ)
    (hq : q = (∑ k ∈ Finset.range 1024, A.x r k * (DH A r k * A.g k)) * (-(1 / 2) * (RR A r / Spec2.V A r)) / 1024) :
    A.dx2 r c + DH A r c * A.g c * RR A r + A.x r c * q + q * A.x r c = GX A r c := by
  have e : ∑ k ∈ Finset.range 1024, DH A r k * A.g k * XH A r k = RR A r * ∑ k ∈ Finset.range 1024, A.x r k * (DH A r k * A.g k) := by
    rw [Finset.mul_sum]
    exact Finset.sum_congr rfl fun k _ => by unfold XH; ring
  unfold GX
  rw [e, hq, div_eq_mul_inv (RR A r), ← RR_sq]
  unfold XH
  ring

section

variable {A : Args} {x0 : FVec Ideal S1x8192x1024 .f32} {x1 : FVec Ideal S1x1024 .f32} {x2 : FVec Ideal S1x1024x3072 .f32}
  {x3 : FVec Ideal S1x4x128x128 .f32} {x4 : FVec Ideal S1x512 .f32} {x5 : FVec Ideal S8192x1024 .f32} {x6 : FVec Ideal S8192x1024 .bf16}
  {x7 x8 x9 x10 : FVec Ideal S8192x512 .bf16} (h : Reads A x0 x1 x2 x3 x4 x5 x6 x7 x8 x9 x10)
include h

/-! ## The gradients in the gate, the scale and the matrices -/

theorem r124 : H3 (val_main_v124 (F := Ideal) x6) fun _ r c => A.dy r c := H3.of fun u r c => by
  show val_main_v123 (F := Ideal) x6 (ix3 u r c) = _
  rw [val_main_v123_apply, val_main_v122_apply]
  refine Eq.trans (congrArg x6 ?_) (h.dy r (⟨c.val, by omega⟩ : Fin 1024) c.isLt)
  funext a; apply Fin.ext
  match a with | ⟨0, _⟩ => rfl | ⟨1, _⟩ => rfl

theorem r126 : H3 (val_main_v126 (F := Ideal) x7) fun _ r c => A.dq r c := H3.of fun u r c => by
  show val_main_v125 (F := Ideal) x7 (ix3 u r c) = _
  rw [val_main_v125_apply]; exact h.dq _

theorem r128 : H3 (val_main_v128 (F := Ideal) x8) fun _ r c => A.dk r c := H3.of fun u r c => by
  show val_main_v127 (F := Ideal) x8 (ix3 u r c) = _
  rw [val_main_v127_apply]; exact h.dk _

theorem r130 : H3 (val_main_v130 (F := Ideal) x9) fun _ r c => A.dv r c := H3.of fun u r c => by
  show val_main_v129 (F := Ideal) x9 (ix3 u r c) = _
  rw [val_main_v129_apply]; exact h.dv _

theorem r132 : H3 (val_main_v132 (F := Ideal) x10) fun _ r c => A.da r c := H3.of fun u r c => by
  show val_main_v131 (F := Ideal) x10 (ix3 u r c) = _
  rw [val_main_v131_apply]; exact h.da _

theorem r116 : H3 (val_main_v116_0 (F := Ideal) x0 x1 x2) fun _ r c => PG A r c * SG A r c := H3.ofHR (HR.mul (r22 h) (rgate h)) fun _ _ _ => rfl

theorem r142 : H3 (val_main_v142 (F := Ideal) x0 x1 x2 x3 x4 x6) fun _ r c => DPG A r c := by
  have e : H3 (val_main_v140 (F := Ideal) x0 x1 x2 x3 x4 x6) fun _ r c => M A r c * A.ps c * A.dy r c :=
    H3.ofHR (HR.mul (HR.mul (r112 h) (r114 h)) (r124 h)) fun _ _ _ => rfl
  refine H3.ofHR (HR.add (HR.mul e (rgate h)) (HR.mul (HR.mul (r22 h) e) (HR.mul (rgate h) (HR.sub (HR.fill c1 _) (rgate h))))) fun u r c => ?_
  show M A r.val c.val * A.ps c.val * A.dy r.val c.val * SG A r.val c.val
    + PG A r.val c.val * (M A r.val c.val * A.ps c.val * A.dy r.val c.val) * (SG A r.val c.val * (1 - SG A r.val c.val)) = _
  unfold DPG; ring

theorem r147 : H3 (val_main_v147 (F := Ideal) x0 x1 x2 x4 x6) fun _ r c => DM A r c :=
  H3.ofHR (HR.mul (HR.mul (r124 h) (r116 h)) (r146 h)) fun u r c => by
    show A.dy r.val c.val * (PG A r.val c.val * SG A r.val c.val) * A.ps c.val = _
    unfold DM; ring

theorem r150 (g : Fin 4) (j : Fin 128) (u : Fin 1) (r : Fin 8192) :
    val_main_v150 (F := Ideal) x0 x1 x2 x4 x6 (ix4 g j u r) = ((DM A r.val (128 * g.val + j.val) : ℝ) : EReal) := by
  rw [val_main_v150_apply]
  unfold val_main_v149
  refine (shapeCast_apply _ _ _ (ix3 (0 : Fin 1) r (⟨128 * g.val + j.val, by omega⟩ : Fin 512)) ?_).trans (r147 h _)
  rw [Shape.rowMajor_val_four, Shape.rowMajor_val_three]
  show (0 * 8192 + r.val) * 512 + (128 * g.val + j.val) = ((u.val * 8192 + r.val) * 4 + g.val) * 128 + j.val
  omega

theorem r154 : H3 (val_main_v154 (F := Ideal) x0 x1 x2 x4 x6) fun g i j => GPW A 0 g i j := H3.of fun g i j => by
  rw [val_main_v154_apply]
  unfold val_main_v153
  have hx : HR (val_main_v150 (F := Ideal) x0 x1 x2 x4 x6) fun i => DM A (i 3).val (128 * (i 0).val + (i 1).val) := fun i => by
    obtain ⟨a, b, c, d, rfl⟩ : ∃ (a : Fin 4) (b : Fin 128) (c : Fin 1) (d : Fin 8192), i = ix4 a b c d := ⟨i 0, i 1, i 2, i 3, eq_ix4 i⟩
    exact r150 h a b c d
  have hy : HR (val_main_v109 (F := Ideal) x0 x1 x2) fun i => D A (i 2).val (i 1).val (i 3).val := fun i => by
    obtain ⟨a, b, c, d, rfl⟩ : ∃ (a : Fin 1) (b : Fin 8192) (c : Fin 4) (d : Fin 128), i = ix4 a b c d := ⟨i 0, i 1, i 2, i 3, eq_ix4 i⟩
    exact r109 h a b c d
  refine (dot_at2 dot_S4x128x1x8192_S1x8192x4x128_S4x128x128_23_01_1_3_0_2 8192 rfl rfl rfl hx hy _
    (fun r => D A g.val r i.val * DM A r (128 * g.val + j.val)) fun k q hq => ?_).trans ?_
  · have l0 : (dot_S4x128x1x8192_S1x8192x4x128_S4x128x128_23_01_1_3_0_2.lhsIdx (idx_main_v154 (ix3 g i j)) q 0).val = g.val := rfl
    have l1 : (dot_S4x128x1x8192_S1x8192x4x128_S4x128x128_23_01_1_3_0_2.lhsIdx (idx_main_v154 (ix3 g i j)) q 1).val = j.val := rfl
    have l3 : (dot_S4x128x1x8192_S1x8192x4x128_S4x128x128_23_01_1_3_0_2.lhsIdx (idx_main_v154 (ix3 g i j)) q 3).val = k.val := hq
    have q1 : (dot_S4x128x1x8192_S1x8192x4x128_S4x128x128_23_01_1_3_0_2.rhsIdx (idx_main_v154 (ix3 g i j)) q 1).val = k.val := hq
    have q2 : (dot_S4x128x1x8192_S1x8192x4x128_S4x128x128_23_01_1_3_0_2.rhsIdx (idx_main_v154 (ix3 g i j)) q 2).val = g.val := rfl
    have q3 : (dot_S4x128x1x8192_S1x8192x4x128_S4x128x128_23_01_1_3_0_2.rhsIdx (idx_main_v154 (ix3 g i j)) q 3).val = i.val := rfl
    rw [l0, l1, l3, q1, q2, q3, mul_comm]
  · unfold GPW; rw [tail_all]

theorem r244 : H (val_main_v244 (F := Ideal) x0 x1 x2 x3 x6) fun _ c => GPS A 0 c := by
  have e : H3 (val_main_v145 (F := Ideal) x0 x1 x2 x3 x6) fun _ _ c => GPS A 0 c := H3.of fun u v c => by
    rw [val_main_v145_apply, val_main_v144_apply, show (val_main_cst_24 (F := Ideal)) (Shape.Idx.first h_S_) = ((0 : ℝ) : EReal) from c0, EReal.coe_zero, zero_add]
    unfold GPS
    rw [tail_all]
    refine sum_real (f := fun r => A.dy r c.val * M A r c.val * (PG A r c.val * SG A r c.val)) fun k => ?_
    refine (HR.mul (φ := .f32) (r112 h) (HR.mul (r124 h) (r116 h)) _).trans ?_
    have hi : idx_main_v144 (idx_main_v145 (ix3 u v c)) k = ix3 (0 : Fin 1) k c := by
      funext a; apply Fin.ext
      have := u.isLt; have := v.isLt; have := c.isLt
      match a with
      | ⟨0, _⟩ => rfl
      | ⟨1, _⟩ => rfl
      | ⟨2, _⟩ => show ((u.val * 1 + v.val) * 512 + c.val) % 512 = c.val; omega
    rw [hi]
    show ((M A k.val c.val * (A.dy k.val c.val * (PG A k.val c.val * SG A k.val c.val)) : ℝ) : EReal) = _
    congr 1; ring
  refine H.of fun u c => ?_
  rw [Subsingleton.elim u 0]
  unfold val_main_v244
  rw [shapeCast_apply _ _ _ (ix1 c) (by
    rw [Shape.rowMajor_val_two, Shape.rowMajor_val_one]
    show c.val = 0 * 512 + c.val
    omega)]
  unfold val_main_v148
  refine (sum_unit reducesTo_S1x1x512_S512_d0_1 e c0 h_S_ (ix1 c) (ix3 (0 : Fin 1) (0 : Fin 1) c) (fun k hk => ?_) ?_).trans rfl
  · obtain ⟨a, b, d, rfl⟩ : ∃ (a : Fin 1) (b : Fin 1) (d : Fin 512), k = ix3 a b d := ⟨k 0, k 1, k 2, eq_ix3 k⟩
    have hd := Shape.ReducesTo.drop_apply_val_of_eq reducesTo_S1x1x512_S512_d0_1 (ix3 a b d) 0 2 (by decide) (by decide)
    rw [hk] at hd
    have hdc : d = c := Fin.ext hd.symm
    rw [hdc, Subsingleton.elim a 0, Subsingleton.elim b 0]
  · funext b
    match b with
    | ⟨0, _⟩ => exact Fin.ext (Shape.ReducesTo.drop_apply_val_of_eq reducesTo_S1x1x512_S512_d0_1 (ix3 (0 : Fin 1) (0 : Fin 1) c) 0 2 (by decide) (by decide))

/-! ## The gradient in the pool's values -/

theorem r152 (u : Fin 1) (r : Fin 8192) (g : Fin 4) (k : Fin 128) :
    val_main_v152 (F := Ideal) x0 x1 x2 x3 x4 x6 (ix4 u r g k) = ((DD A r.val (128 * g.val + k.val) : ℝ) : EReal) := by
  rw [val_main_v152_apply, val_main_v151_apply]
  unfold DD
  rw [show (128 * g.val + k.val) / 128 = g.val by omega, show (128 * g.val + k.val) % 128 = k.val by omega]
  refine sum_real (f := fun j => DM A r.val (128 * g.val + j) * A.pw g.val k.val j) fun j => ?_
  have e1 : lidx_main_v151 (idx_main_v152 (ix4 u r g k)) j = ix4 g j u r := by
    funext a; apply Fin.ext
    match a with | ⟨0, _⟩ => rfl | ⟨1, _⟩ => rfl | ⟨2, _⟩ => rfl | ⟨3, _⟩ => rfl
  have e2 : ridx_main_v151 (idx_main_v152 (ix4 u r g k)) j = ix3 g k j := by
    funext a; apply Fin.ext
    match a with | ⟨0, _⟩ => rfl | ⟨1, _⟩ => rfl | ⟨2, _⟩ => rfl
  rw [e1, e2, r150 h, r19 h, ← EReal.coe_mul]

/-- Group `g` of the gradient in the pooled differences. -/
theorem member (g : Fin 4) (hs : S1x8192x4x128.Slices ![0, 0, g.val, 0] S1x8192x1x128) :
    H3 (shapeCast S1x8192x128 (extractStridedSlice S1x8192x1x128 ![0, 0, g.val, 0] (val_main_v152 (F := Ideal) x0 x1 x2 x3 x4 x6) hs) shapeCasts_S1x8192x1x128_S1x8192x128)
      fun _ r i => DD A r (128 * g.val + i) := H3.of fun u r i => by
  rw [Subsingleton.elim u 0, shapeCast_apply _ _ _ (ix4 (0 : Fin 1) r (0 : Fin 1) i) (by
    rw [Shape.rowMajor_val_four, Shape.rowMajor_val_three]
    show ((0 * 8192 + r.val) * 1 + 0) * 128 + i.val = (0 * 8192 + r.val) * 128 + i.val
    omega), extractStridedSlice_apply _ _ _ _ (ix4 (0 : Fin 1) r g i) (fun a => by
      match a with | ⟨0, _⟩ => rfl | ⟨1, _⟩ => exact (Nat.zero_add _).symm | ⟨2, _⟩ => rfl | ⟨3, _⟩ => exact (Nat.zero_add _).symm)]
  exact r152 h _ _ _ _

theorem r156 : H3 (val_main_v156 (F := Ideal) x0 x1 x2 x3 x4 x6) fun _ r i => DD A r (128 * 0 + i) := member h 0 slices_S1x8192x4x128_S1x8192x1x128_0_0_0_0
theorem r158 : H3 (val_main_v158 (F := Ideal) x0 x1 x2 x3 x4 x6) fun _ r i => DD A r (128 * 1 + i) := member h 1 slices_S1x8192x4x128_S1x8192x1x128_0_0_1_0
theorem r160 : H3 (val_main_v160 (F := Ideal) x0 x1 x2 x3 x4 x6) fun _ r i => DD A r (128 * 2 + i) := member h 2 slices_S1x8192x4x128_S1x8192x1x128_0_0_2_0
theorem r162 : H3 (val_main_v162 (F := Ideal) x0 x1 x2 x3 x4 x6) fun _ r i => DD A r (128 * 3 + i) := member h 3 slices_S1x8192x4x128_S1x8192x1x128_0_0_3_0

theorem r196 : H3 (val_main_v196 (F := Ideal) x0 x1 x2 x3 x4 x6) fun _ r c => -DD A r c := by
  have p3 := H3.pad (R' := 8192) (C' := 512) (f := fun r i => -DD A r (128 * 3 + i)) (HR.neg (φ := .f32) (r162 h)) (v := constant (F := Ideal) S_ .f32 0x00000000#32) c0 0 384 0 0 pads_S1x8192x128_S1x8192x512_000_000_38400 h_S_
  have p2 := H3.pad (R' := 8192) (C' := 512) (f := fun r i => -DD A r (128 * 2 + i)) (HR.neg (φ := .f32) (r160 h)) (v := constant (F := Ideal) S_ .f32 0x00000000#32) c0 0 256 0 128 pads_S1x8192x128_S1x8192x512_000_000_2561280 h_S_
  have p1 := H3.pad (R' := 8192) (C' := 512) (f := fun r i => -DD A r (128 * 1 + i)) (HR.neg (φ := .f32) (r158 h)) (v := constant (F := Ideal) S_ .f32 0x00000000#32) c0 0 128 0 256 pads_S1x8192x128_S1x8192x512_000_000_1282560 h_S_
  have p0 := H3.pad (R' := 8192) (C' := 512) (f := fun r i => -DD A r (128 * 0 + i)) (HR.neg (φ := .f32) (r156 h)) (v := constant (F := Ideal) S_ .f32 0x00000000#32) c0 0 0 0 384 pads_S1x8192x128_S1x8192x512_000_000_03840 h_S_
  refine H3.ofHR (HR.add (HR.add (HR.add p3 p2) p1) p0) fun u r c => (four_cols (fun g r i => -DD A r (128 * g + i)) r.isLt c.isLt).trans ?_
  show -DD A r.val (128 * (c.val / 128) + c.val % 128) = _
  rw [Nat.div_add_mod]

theorem r204 : H3 (val_main_v204 (F := Ideal) x0 x1 x2 x3 x4 x6) fun _ j c =>
    T (fun t => DD A t (128 * (c / 128) + c % 128) / (min (t + 1) (win (c / 128)) : ℕ)) (win (c / 128)) j := by
  have p3 := H3.pad (R' := 8193) (C' := 512) (sums 3 (by norm_num) (r162 h)) (v := constant (F := Ideal) S_ .f32 0x00000000#32) c0 0 384 0 0 pads_S1x8193x128_S1x8193x512_000_000_38400 h_S_
  have p2 := H3.pad (R' := 8193) (C' := 512) (sums 2 (by norm_num) (r160 h)) (v := constant (F := Ideal) S_ .f32 0x00000000#32) c0 0 256 0 128 pads_S1x8193x128_S1x8193x512_000_000_2561280 h_S_
  have p1 := H3.pad (R' := 8193) (C' := 512) (sums 1 (by norm_num) (r158 h)) (v := constant (F := Ideal) S_ .f32 0x00000000#32) c0 0 128 0 256 pads_S1x8193x128_S1x8193x512_000_000_1282560 h_S_
  have p0 := H3.pad (R' := 8193) (C' := 512) (sums 0 (by norm_num) (r156 h)) (v := constant (F := Ideal) S_ .f32 0x00000000#32) c0 0 0 0 384 pads_S1x8193x128_S1x8193x512_000_000_03840 h_S_
  exact H3.ofHR (HR.add (HR.add (HR.add p3 p2) p1) p0) fun u j c =>
    four_cols (fun g j i => T (fun t => DD A t (128 * g + i) / (min (t + 1) (win g) : ℕ)) (win g) j) j.isLt c.isLt

theorem r208 : H3 (val_main_v208 (F := Ideal) x0 x1 x2 x3 x4 x6) fun _ r c => DPV A r c := by
  have e := H3.slice (r204 h) 0 1 0 slices_S1x8193x512_S1x8192x512_0_1_0
  simp only [Nat.zero_add] at e
  have f := following (N := 8192) (C := 512) e (init := val_main_call11_call0_v0 (F := Ideal)) (by
    show broadcastInDim S_ ![] bcast_S_S_ (constant (F := Ideal) S_ .f32 0x00000000#32) ix0 = _
    rw [broadcastInDim_scalar_apply]; exact c0) (by norm_num) 8191 reduceWindows_S1x8192x512_S1x8192x512_w1s1p0_0_w8192s1p0_8191_w1s1p0_0 h_S_
  refine H3.ofHR (HR.add (r196 h) f) fun u r c => ?_
  show -DD A r.val c.val + ∑ n ∈ Finset.range (8192 - r.val), T (fun t => DD A t (128 * (c.val / 128) + c.val % 128) / (min (t + 1) (win (c.val / 128)) : ℕ)) (win (c.val / 128)) (1 + (r.val + n)) = _
  rw [unrolled A r.isLt]
  unfold DPV; ring

/-! ## The projections' gradient, and back through the norm -/

theorem r212 : H3 (val_main_v212 (F := Ideal) x0 x1 x2 x3 x4 x6 x7 x8 x9 x10) fun _ r c => DPROJ A r c := by
  have pa := H3.pad (R' := 8192) (C' := 3072) (r132 h) (v := constant (F := Ideal) S_ .f32 0x00000000#32) c0 0 2560 0 0 pads_S1x8192x512_S1x8192x3072_000_000_256000 h_S_
  have pv := H3.pad (R' := 8192) (C' := 3072) (r130 h) (v := constant (F := Ideal) S_ .f32 0x00000000#32) c0 0 2048 0 512 pads_S1x8192x512_S1x8192x3072_000_000_20485120 h_S_
  have pk := H3.pad (R' := 8192) (C' := 3072) (r128 h) (v := constant (F := Ideal) S_ .f32 0x00000000#32) c0 0 1536 0 1024 pads_S1x8192x512_S1x8192x3072_000_000_153610240 h_S_
  have pq := H3.pad (R' := 8192) (C' := 3072) (r126 h) (v := constant (F := Ideal) S_ .f32 0x00000000#32) c0 0 1024 0 1536 pads_S1x8192x512_S1x8192x3072_000_000_102415360 h_S_
  have pg := H3.pad (R' := 8192) (C' := 3072) (r142 h) (v := constant (F := Ideal) S_ .f32 0x00000000#32) c0 0 512 0 2048 pads_S1x8192x512_S1x8192x3072_000_000_51220480 h_S_
  have pp := H3.pad (R' := 8192) (C' := 3072) (r208 h) (v := constant (F := Ideal) S_ .f32 0x00000000#32) c0 0 0 0 2560 pads_S1x8192x512_S1x8192x3072_000_000_025600 h_S_
  refine H3.ofHR (HR.add (HR.add (HR.add (HR.add (HR.add pa pv) pk) pq) pg) pp) fun u r c => ?_
  have hr := r.isLt
  have hc := c.isLt
  dsimp only
  show _ = DPROJ A r.val c.val
  rw [show (ix3 u r c : S1x8192x3072.Idx) 1 = r from rfl, show (ix3 u r c : S1x8192x3072.Idx) 2 = c from rfl]
  generalize r.val = r at hr
  generalize c.val = c at hc
  unfold DPROJ
  simp only [Nat.sub_zero, Nat.zero_le, hr, true_and]
  rcases (by omega : c < 512 ∨ (512 ≤ c ∧ c < 1024) ∨ (1024 ≤ c ∧ c < 1536) ∨ (1536 ≤ c ∧ c < 2048) ∨ (2048 ≤ c ∧ c < 2560) ∨ 2560 ≤ c) with e | e | e | e | e | e
  · rw [if_neg (by omega), if_neg (by omega), if_neg (by omega), if_neg (by omega), if_neg (by omega), if_pos (by omega), if_pos (by omega)]; ring
  · rw [if_neg (by omega), if_neg (by omega), if_neg (by omega), if_neg (by omega), if_pos (by omega), if_neg (by omega), if_neg (by omega), if_pos (by omega)]; ring
  · rw [if_neg (by omega), if_neg (by omega), if_neg (by omega), if_pos (by omega), if_neg (by omega), if_neg (by omega), if_neg (by omega), if_neg (by omega), if_pos (by omega)]; ring
  · rw [if_neg (by omega), if_neg (by omega), if_pos (by omega), if_neg (by omega), if_neg (by omega), if_neg (by omega), if_neg (by omega), if_neg (by omega), if_neg (by omega), if_pos (by omega)]; ring
  · rw [if_neg (by omega), if_pos (by omega), if_neg (by omega), if_neg (by omega), if_neg (by omega), if_neg (by omega), if_neg (by omega), if_neg (by omega), if_neg (by omega), if_neg (by omega), if_pos (by omega)]; ring
  · rw [if_pos (by omega), if_neg (by omega), if_neg (by omega), if_neg (by omega), if_neg (by omega), if_neg (by omega), if_neg (by omega), if_neg (by omega), if_neg (by omega), if_neg (by omega), if_neg (by omega)]; ring

theorem r214 : H3 (val_main_v214 (F := Ideal) x0 x1 x2 x3 x4 x6 x7 x8 x9 x10) fun _ r c => DH A r c := H3.of fun u r c => by
  rw [val_main_v214_apply]
  exact sum_real (f := fun k => DPROJ A r.val k * A.w c.val k) fun k => by rw [r212 h, r17 h, ← EReal.coe_mul]

theorem r243 : H (val_main_v243 (F := Ideal) x0 x1 x2 x3 x4 x6 x7 x8 x9 x10) fun _ c => GG A 0 c := by
  have e : H3 (val_main_v217 (F := Ideal) x0 x1 x2 x3 x4 x6 x7 x8 x9 x10) fun _ _ c => GG A 0 c := H3.of fun u v c => by
    rw [val_main_v217_apply, val_main_v216_apply, show (val_main_cst_40 (F := Ideal)) (Shape.Idx.first h_S_) = ((0 : ℝ) : EReal) from c0, EReal.coe_zero, zero_add]
    unfold GG
    rw [tail_all]
    refine sum_real (f := fun r => DH A r c.val * XH A r c.val) fun k => ?_
    refine (HR.mul (φ := .f32) (r13 h) (r214 h) _).trans ?_
    have hi : idx_main_v216 (idx_main_v217 (ix3 u v c)) k = ix3 (0 : Fin 1) k c := by
      funext a; apply Fin.ext
      have := u.isLt; have := v.isLt; have := c.isLt
      match a with
      | ⟨0, _⟩ => rfl
      | ⟨1, _⟩ => rfl
      | ⟨2, _⟩ => show ((u.val * 1 + v.val) * 1024 + c.val) % 1024 = c.val; omega
    rw [hi, mul_comm]
  refine H.of fun u c => ?_
  rw [Subsingleton.elim u 0]
  unfold val_main_v243
  rw [shapeCast_apply _ _ _ (ix1 c) (by
    rw [Shape.rowMajor_val_two, Shape.rowMajor_val_one]
    show c.val = 0 * 1024 + c.val
    omega)]
  unfold val_main_v220
  refine (sum_unit reducesTo_S1x1x1024_S1024_d0_1 e c0 h_S_ (ix1 c) (ix3 (0 : Fin 1) (0 : Fin 1) c) (fun k hk => ?_) ?_).trans rfl
  · obtain ⟨a, b, d, rfl⟩ : ∃ (a : Fin 1) (b : Fin 1) (d : Fin 1024), k = ix3 a b d := ⟨k 0, k 1, k 2, eq_ix3 k⟩
    have hd := Shape.ReducesTo.drop_apply_val_of_eq reducesTo_S1x1x1024_S1024_d0_1 (ix3 a b d) 0 2 (by decide) (by decide)
    rw [hk] at hd
    have hdc : d = c := Fin.ext hd.symm
    rw [hdc, Subsingleton.elim a 0, Subsingleton.elim b 0]
  · funext b
    match b with
    | ⟨0, _⟩ => exact Fin.ext (Shape.ReducesTo.drop_apply_val_of_eq reducesTo_S1x1x1024_S1024_d0_1 (ix3 (0 : Fin 1) (0 : Fin 1) c) 0 2 (by decide) (by decide))

theorem r219 : H3 (val_main_v219 (F := Ideal) x0 x1 x2 x3 x4 x6 x7 x8 x9 x10) fun _ r c => DH A r c * A.g c := by
  have e : H3 (val_main_v218 (F := Ideal) x1) fun _ _ c => A.g c := H3.of fun u r c => by
    rw [val_main_v218_apply]; exact r14 h _
  exact H3.ofHR (HR.mul (r214 h) e) fun _ _ _ => rfl

theorem r232 : H3 (val_main_v232 (F := Ideal) x0 x1 x2 x3 x4 x6 x7 x8 x9 x10) fun _ r _ =>
    (∑ k ∈ Finset.range 1024, A.x r k * (DH A r k * A.g k)) * (-(1 / 2) * (RR A r / Spec2.V A r)) / 1024 := by
  have e : H (val_main_v222 (F := Ideal) x0 x1 x2 x3 x4 x6 x7 x8 x9 x10) fun _ r => ∑ k ∈ Finset.range 1024, A.x r k * (DH A r k * A.g k) := H.of fun u r => by
    rw [val_main_v222_apply, show (val_main_cst_42 (F := Ideal)) (Shape.Idx.first h_S_) = ((0 : ℝ) : EReal) from c0, EReal.coe_zero, zero_add]
    exact sum_real fun k => HR.mul (φ := .f32) (rx h) (r219 h) _
  have e1 : H3 (val_main_v223 (F := Ideal) x0 x1 x2 x3 x4 x6 x7 x8 x9 x10) fun _ r _ => ∑ k ∈ Finset.range 1024, A.x r k * (DH A r k * A.g k) := H3.of fun u r c => by
    rw [Subsingleton.elim u 0]
    unfold val_main_v223
    rw [shapeCast_apply _ _ _ (ix2 (0 : Fin 1) r) (by
      rw [Shape.rowMajor_val_two, Shape.rowMajor_val_three]
      show 0 * 8192 + r.val = (0 * 8192 + r.val) * 1 + c.val
      have := c.isLt; omega)]
    exact e _
  have e2 : HR (val_main_v229 (F := Ideal) x0 x1 x2 x3 x4 x6 x7 x8 x9 x10) _ := HR.div (HR.mul e1 (r11 h)) (HR.fill c1024 _) fun _ => by norm_num
  refine H3.of fun u r c => ?_
  rw [val_main_v232_apply, val_main_v231_apply]
  unfold val_main_v230
  refine (sum_unit reducesTo_S1x8192x1_S8192_d0_2 e2 c0 h_S_ _ (ix3 (0 : Fin 1) r (0 : Fin 1)) (fun k hk => ?_) ?_).trans rfl
  · obtain ⟨a, b, d, rfl⟩ : ∃ (a : Fin 1) (b : Fin 8192) (d : Fin 1), k = ix3 a b d := ⟨k 0, k 1, k 2, eq_ix3 k⟩
    have hd := Shape.ReducesTo.drop_apply_val_of_eq reducesTo_S1x8192x1_S8192_d0_2 (ix3 a b d) 0 1 (by decide) (by decide)
    rw [hk] at hd
    have hdc : b = r := Fin.ext hd.symm
    rw [hdc, Subsingleton.elim a 0, Subsingleton.elim d 0]
  · funext b
    match b with
    | ⟨0, _⟩ => exact Fin.ext (Shape.ReducesTo.drop_apply_val_of_eq reducesTo_S1x8192x1_S8192_d0_2 (ix3 (0 : Fin 1) r (0 : Fin 1)) 0 1 (by decide) (by decide))

theorem r236 : H3 (val_main_v236 (F := Ideal) x0 x1 x2 x3 x4 x5 x6 x7 x8 x9 x10) fun _ r c => GX A r c := by
  have e : H3 (val_main_v224 (F := Ideal) x0) fun _ r _ => RR A r := H3.of fun u r c => by
    rw [val_main_v224_apply]; exact r8 h _
  have e1 : H3 (val_main_v213 (F := Ideal) x5) fun _ r c => A.dx2 r c := H3.of fun u r c => by
    rw [val_main_v213_apply]; exact h.dx2 _
  exact H3.ofHR (HR.add (HR.add (HR.add e1 (HR.mul (r219 h) e)) (HR.mul (rx h) (r232 h))) (HR.mul (r232 h) (rx h))) fun _ _ _ => gx_eq A _ _ _ rfl

theorem r237 : H (val_main_v237 (F := Ideal) x0 x1 x2 x3 x4 x5 x6 x7 x8 x9 x10) fun r c => GX A r c := H.of fun r c => by
  unfold val_main_v237
  rw [shapeCast_1ab_ab_apply]
  exact r236 h _

theorem r239 : H (val_main_v239 (F := Ideal) x0 x1 x2 x3 x4 x6 x7 x8 x9 x10) fun r c => DPROJ A r c := H.of fun r c => by
  show val_main_v238 (F := Ideal) x0 x1 x2 x3 x4 x6 x7 x8 x9 x10 (ix2 r c) = _
  unfold val_main_v238
  rw [shapeCast_1ab_ab_apply]
  exact r212 h _

theorem r242 : H (val_main_v242 (F := Ideal) x0 x1) fun k r => HN A r k := H.of fun k r => by
  show val_main_v241 (F := Ideal) x0 x1 (ix2 k r) = _
  rw [val_main_v241_apply]
  have hi : idx_main_v241 (ix2 k r) = ix2 r k := by
    funext a; apply Fin.ext
    match a with | ⟨0, _⟩ => rfl | ⟨1, _⟩ => rfl
  unfold val_main_v240
  rw [hi, shapeCast_1ab_ab_apply]
  exact r16 h _

end

end Cert.Reference2Ideal.Calc
-- ==== Proof.InprojBwd.lean ====
/-
  `inproj_bwd`: the kernel's six results are the reference's, at finite inputs.
-/
module

public import proofs.«01_k».proof.Defs
public import proofs.«01_k».proof.Proof.Finite2
public import proofs.«01_k».proof.Proof.OutLoss
public import proofs.«01_k».proof.Proof.K2Out
public import proofs.«01_k».proof.Proof.R2Grad
public import proofs.«01_k».proof.Proof.Gen.Reference2Ideal.Run
public import proofs.«01_k».proof.Proof.Gen.Kernel2.Frame
public import proofs.«01_k».proof.Proof.Gen.Kernel2Ideal.Frame

@[expose] public section

set_option maxRecDepth 16384

noncomputable section

namespace Cert.InprojBwd

open Idealize.ShloMosaic Idealize.ShloMosaic.TcCoe Idealize.SL.Sem
open Cert.Holds
open Cert.OutLoss (same)
open Cert.Kernel2Ideal (cfg0)
open Cert.Kernel2Ideal.Gen (dats)
open Cert.Kernel2Ideal.Tile (In out_gx out_dproj out_ht out_gg out_gps out_gpw)
open Cert.Reference2Ideal.Read Cert.Reference2Ideal.Calc

theorem frame_p : Cert.quiescent_Kernel2 (hKernel2 := Cert.Kernel2.Gen.facts) := fun m ρ _ => Cert.Kernel2.Gen.frame m ρ
theorem frame_pi : Cert.quiescent_Kernel2Ideal (hKernel2Ideal := Cert.Kernel2Ideal.Gen.facts) := fun m ρ _ => Cert.Kernel2Ideal.Gen.frame m ρ
theorem frame_pi_pre : Cert.quiescent_Kernel2Ideal_pre_finite_inputs2 (hKernel2Ideal := Cert.Kernel2Ideal.Gen.facts)
    (hPre_finite_inputs2 := Cert.Pre_finite_inputs2.facts) := fun m ρ _ => Cert.Kernel2Ideal.Gen.frame m ρ
theorem frame_ri : Cert.quiescent_Reference2Ideal (hReference2Ideal := Cert.Reference2Ideal.Gen.facts) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)
theorem frame_ri_pre : Cert.quiescent_Reference2Ideal_pre_finite_inputs2 (hReference2Ideal := Cert.Reference2Ideal.Gen.facts)
    (hPre_finite_inputs2 := Cert.Pre_finite_inputs2.facts) := fun m ρ _ => frame_ri m ρ trivial

theorem algebraic : Cert.algebraic_Kernel2Ideal_Reference2Ideal_pre_finite_inputs2 (hKernel2Ideal := Cert.Kernel2Ideal.Gen.facts)
    (hReference2Ideal := Cert.Reference2Ideal.Gen.facts) (hPre_finite_inputs2 := Cert.Pre_finite_inputs2.facts) := by
  intro m g m' g' hpre hargs
  refine ⟨fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, fun c => (dats m 0 c).arrAt 19 cfg0.N,
    Cert.Kernel2Ideal.Value.run_blocks m g, ?_⟩
  refine (θ_run Cert.Reference2Ideal.defs _ _).mono (fun r hr c => ?_) (Cert.Reference2Ideal.Value.run (F := Ideal) m' g')
  obtain ⟨s0, s1, s2, s3, s4, s5, hrest⟩ := hr c
  obtain ⟨A, hK⟩ : ∃ A, In m c A := ⟨_, @Cert.Pre_finite_inputs2.reads Cert.Pre_finite_inputs2.facts _ _ _ _ _ _ _ _ _ _ _
    (fun _ e => by subst e; exact hpre c)⟩
  have hR : Cert.Spec2.Reads A _ _ _ _ _ _ _ _ _ _ _ := hK
  obtain ⟨e0, e1, e2, e3, e4, e5, e6, e7, e8, e9, e10⟩ := hargs c
  rw [← e0, ← e1, ← e2, ← e3, ← e4, ← e5, ← e6, ← e7, ← e8, ← e9, ← e10] at hR
  refine ⟨?_, ?_, ?_, ?_, ?_, ?_, hrest⟩
  · exact (s0.trans (val_main_v237_eq _)).trans (same (r237 hR) (out_gx hK))
  · exact (s1.trans (val_main_v239_eq _)).trans (same (r239 hR) (out_dproj hK))
  · exact (s2.trans (val_main_v242_eq _)).trans (same (r242 hR) (out_ht hK))
  · exact (s3.trans (val_main_v243_eq _)).trans (same (r243 hR) (out_gg hK))
  · exact (s4.trans (val_main_v244_eq _)).trans (same (r244 hR) (out_gps hK))
  · exact (s5.trans (val_main_v154_eq _)).trans (same (r154 hR) (out_gpw hK))

end Cert.InprojBwd
-- ==== Proof.Spec3.lean ====
/-
  The attention forward pass over real arrays: scores, their greatest, unnormalised weights, sums, output, gated output.
-/
module

public import proofs.«01_k».proof.Proof.HostHolds2

@[expose] public section

noncomputable section

namespace Cert.Spec3

open Idealize.ShloMosaic
open scoped BigOperators

/-- Queries, keys, values and gates by token and column, and the biases by head and distance. -/
structure Args where
  q : ℕ → ℕ → ℝ
  k : ℕ → ℕ → ℝ
  v : ℕ → ℕ → ℝ
  g : ℕ → ℕ → ℝ
  rel : ℕ → ℕ → ℝ

/-- Band position `j` of token `n` lies in the sequence. -/
abbrev Sees (n j : ℕ) : Prop := 512 ≤ 64 * (n / 64) + j

variable (A : Args)

/-- The score of token `n` in head `h` at band position `j`. -/
def score (n h j : ℕ) : ℝ :=
  (∑ d ∈ Finset.range 64, A.q n (64 * h + d) * A.k (64 * (n / 64) + j - 512) (64 * h + d)) * (1 / 8) + A.rel h (j - (448 + n % 64))

/-- The greatest score that the token sees. -/
def greatest (n h : ℕ) : ℝ := sSup {r | ∃ j, j < 576 ∧ Sees n j ∧ r = score A n h j}

/-- The unnormalised weight. -/
def weight (n h j : ℕ) : ℝ := if Sees n j then Real.exp (score A n h j - greatest A n h) else 0

def total (n h : ℕ) : ℝ := ∑ j ∈ Finset.range 576, weight A n h j

/-- The attention's output at token `n`, column `c`. -/
def out (n c : ℕ) : ℝ := ∑ j ∈ Finset.range 576, weight A n (c / 64) j / total A n (c / 64) * A.v (64 * (n / 64) + j - 512) c

def gated (n c : ℕ) : ℝ := out A n c * (A.g n c * (1 / (1 + Real.exp (-A.g n c))))

/-- The weight of lane `l` of pair `p` in super `s` at window row `j`. -/
def saved (p s j l : ℕ) : ℝ :=
  if 64 * (l / 64 % 2) ≤ j ∧ j < 64 * (l / 64 % 2) + 576 then weight A (128 * s + l % 128) (2 * p + l / 128) (j - 64 * (l / 64 % 2)) else 0

def inverse (p s l : ℕ) : ℝ := 1 / total A (128 * s + l % 128) (2 * p + l / 128)

/-! ## The greatest score -/

theorem greatest_isGreatest (n h : ℕ) : IsGreatest {r | ∃ j, j < 576 ∧ Sees n j ∧ r = score A n h j} (greatest A n h) := by
  have hf : Set.Finite {r | ∃ j, j < 576 ∧ Sees n j ∧ r = score A n h j} :=
    (Set.finite_range fun j : Fin 576 => score A n h j.val).subset (by
      rintro r ⟨j, hj, -, rfl⟩
      exact ⟨⟨j, hj⟩, rfl⟩)
  exact ⟨Set.Nonempty.csSup_mem ⟨_, 575, by norm_num, by unfold Sees; omega, rfl⟩ hf, fun r hr => le_csSup hf.bddAbove hr⟩

theorem total_pos (n h : ℕ) : 0 < total A n h := by
  refine Finset.sum_pos' (fun j _ => ?_) ⟨575, by simp, ?_⟩
  · unfold weight; split
    · exact (Real.exp_pos _).le
    · exact le_rfl
  · have : Sees n 575 := by unfold Sees; omega
    rw [weight, if_pos this]
    exact Real.exp_pos _

/-- A real where `v` holds, and `−∞` elsewhere. -/
def masked (v : Prop) [Decidable v] (r : ℝ) : EReal := if v then (r : EReal) else ⊥

/-- The fold of `max` from `−∞` over a set that holds its bound. -/
theorem fold_max {ι : Type} (s : Finset ι) {x : ι → EReal} {M : EReal} (hle : ∀ k ∈ s, x k ≤ M) (hat : ∃ k ∈ s, x k = M) :
    s.fold max ⊥ x = M := by
  apply le_antisymm
  · exact (Finset.fold_max_le _).mpr ⟨bot_le, hle⟩
  · obtain ⟨k, hs, hk⟩ := hat
    exact (Finset.le_fold_max _).mpr (Or.inr ⟨k, hs, hk.ge⟩)

/-- A sum over a window of a range. -/
theorem sum_window {N a w : ℕ} (h : a + w ≤ N) (f : ℕ → ℝ) :
    ∑ k ∈ Finset.range N, (if a ≤ k ∧ k < a + w then f (k - a) else 0) = ∑ d ∈ Finset.range w, f d := by
  rw [← Finset.sum_filter, show (Finset.range N).filter (fun k => a ≤ k ∧ k < a + w) = Finset.Ico a (a + w) from by
    ext k; simp only [Finset.mem_filter, Finset.mem_range, Finset.mem_Ico]; omega, Finset.sum_Ico_eq_sum_range, Nat.add_sub_cancel_left]
  exact Finset.sum_congr rfl fun d _ => by rw [Nat.add_sub_cancel_left]

theorem score_le {n h j : ℕ} (hj : j < 576) (hv : Sees n j) : score A n h j ≤ greatest A n h := (greatest_isGreatest A n h).2 ⟨j, hj, hv, rfl⟩

theorem score_at (n h : ℕ) : ∃ j, j < 576 ∧ Sees n j ∧ score A n h j = greatest A n h := by
  obtain ⟨j, hj, hv, e⟩ := (greatest_isGreatest A n h).1
  exact ⟨j, hj, hv, e.symm⟩

theorem masked_sub_exp {v : Prop} [Decidable v] (r M : ℝ) :
    Ideal.exp (masked v r - (M : EReal)) = ((if v then Real.exp (r - M) else 0 : ℝ) : EReal) := by
  unfold masked
  split
  · rw [← EReal.coe_sub, Ideal.exp_coe]
  · rw [EReal.bot_sub]
    rfl

/-! ## What the pairs of heads hold -/

/-- Lane `l` sees window row `j` within its own chunk's band. -/
abbrev InBand (j l : ℕ) : Prop := 64 * (l / 64 % 2) ≤ j ∧ j < 64 * (l / 64 % 2) + 576

/-- The keys' band of pair `p` at sequence position `x - 2048`: the pair's columns, and a column that marks the rows before the sequence. -/
def keyBand (p x c : ℕ) : ℝ :=
  if c < 128 then (if 2048 ≤ x then A.k (x - 2048) (128 * p + c) else 0) else if c = 128 ∧ x < 2048 then 1 else 0

/-- The values' band. -/
def valBand (p x c : ℕ) : ℝ := if 2048 ≤ x then A.v (x - 2048) (128 * p + c) else 0

/-- The logarithm's scale. -/
def L : ℝ := (Real.log 2)⁻¹

theorem L_pos : 0 < L := inv_pos.mpr (Real.log_pos (by norm_num))

theorem exp2_masked {v : Prop} [Decidable v] (r M : ℝ) :
    Ideal.exp2 (masked v (r * L) - ((M * L : ℝ) : EReal)) = ((if v then Real.exp (r - M) else 0 : ℝ) : EReal) := by
  unfold masked
  split
  · rw [← EReal.coe_sub, Ideal.exp2_coe]
    congr 1
    show (2 : ℝ) ^ (r * L - M * L) = _
    rw [Real.rpow_def_of_pos (by norm_num)]
    congr 1
    unfold L
    have : Real.log 2 ≠ 0 := (Real.log_pos (by norm_num)).ne'
    field_simp
  · rw [EReal.bot_sub]
    exact Ideal.exp2_bot

/-- The bias of lane `l` at window row `j`. -/
def laneBias (p j l : ℕ) : ℝ := A.rel (2 * p + l / 128) (j - 64 * (l / 64 % 2) - (448 + l % 64))

/-- The score of lane `l` of super `s` at window row `j`. -/
def laneScore (p s j l : ℕ) : ℝ := score A (128 * s + l % 128) (2 * p + l / 128) (j - 64 * (l / 64 % 2))

theorem laneScore_eq {p s j l : ℕ} (hl : l < 256) (h : InBand j l) :
    laneScore A p s j l = (∑ d ∈ Finset.range 64, A.q (128 * s + l % 128) (128 * p + 64 * (l / 128) + d)
      * A.k (128 * s + j - 512) (128 * p + 64 * (l / 128) + d)) * (1 / 8) + laneBias A p j l := by
  unfold laneScore score laneBias
  have e1 : 64 * ((128 * s + l % 128) / 64) + (j - 64 * (l / 64 % 2)) - 512 = 128 * s + j - 512 := by obtain ⟨a, b⟩ := h; omega
  have e2 : 64 * (2 * p + l / 128) = 128 * p + 64 * (l / 128) := by omega
  have e3 : (128 * s + l % 128) % 64 = l % 64 := by omega
  rw [e1, e2, e3]

theorem saved_eq {p s j l : ℕ} : saved A p s j l = if InBand j l ∧ 512 ≤ 128 * s + j then
    Real.exp (laneScore A p s j l - greatest A (128 * s + l % 128) (2 * p + l / 128)) else 0 := by
  unfold saved weight laneScore
  by_cases h : InBand j l
  · rw [if_pos h]
    have : Sees (128 * s + l % 128) (j - 64 * (l / 64 % 2)) ↔ 512 ≤ 128 * s + j := by unfold Sees; obtain ⟨a, b⟩ := h; omega
    by_cases h' : 512 ≤ 128 * s + j
    · rw [if_pos (this.mpr h'), if_pos ⟨h, h'⟩]
    · rw [if_neg (fun k => h' (this.mp k)), if_neg (fun k => h' k.2)]
  · rw [if_neg h, if_neg (fun k => h k.1)]

theorem lane_le {p s j l : ℕ} (h : InBand j l) (hs : 512 ≤ 128 * s + j) :
    laneScore A p s j l ≤ greatest A (128 * s + l % 128) (2 * p + l / 128) :=
  score_le A (by obtain ⟨a, b⟩ := h; omega) (by unfold Sees; obtain ⟨a, b⟩ := h; omega)

theorem lane_at (p s l : ℕ) : ∃ j, j < 640 ∧ InBand j l ∧ 512 ≤ 128 * s + j ∧ laneScore A p s j l = greatest A (128 * s + l % 128) (2 * p + l / 128) := by
  obtain ⟨j, hj, hv, e⟩ := score_at A (128 * s + l % 128) (2 * p + l / 128)
  unfold Sees at hv
  refine ⟨j + 64 * (l / 64 % 2), by omega, ⟨by omega, by omega⟩, by omega, ?_⟩
  unfold laneScore
  rw [Nat.add_sub_cancel, e]

theorem sum_saved (p s l : ℕ) : ∑ j ∈ Finset.range 640, saved A p s j l = total A (128 * s + l % 128) (2 * p + l / 128) := by
  unfold saved total
  exact sum_window (by omega) _

/-- The output of row `r` of super `s`, column `c` of pair `p`, from its lane. -/
theorem sum_out (p s : ℕ) {r c : ℕ} (hr : r < 128) (hc : c < 128) :
    (∑ j ∈ Finset.range 640, valBand A p (128 * s + 1536 + j) c * saved A p s j (128 * (c / 64) + r)) * inverse A p s (128 * (c / 64) + r)
      = out A (128 * s + r) (128 * p + c) := by
  have e1 : (128 * (c / 64) + r) % 128 = r := by omega
  have e2 : 2 * p + (128 * (c / 64) + r) / 128 = (128 * p + c) / 64 := by omega
  have e3 : (128 * (c / 64) + r) / 64 % 2 = r / 64 := by omega
  have e4 : 64 * ((128 * s + r) / 64) = 128 * s + 64 * (r / 64) := by omega
  unfold inverse out
  rw [e1, e2, mul_one_div, Finset.sum_div, ← sum_window (N := 640) (a := 64 * (r / 64)) (w := 576) (by omega)]
  refine Finset.sum_congr rfl fun j _ => ?_
  unfold saved
  rw [e1, e2, e3]
  split
  · next h =>
    unfold valBand
    have e5 : 64 * ((128 * s + r) / 64) + (j - 64 * (r / 64)) - 512 = 128 * s + 1536 + j - 2048 := by omega
    rw [e5]
    split
    · ring
    · next h2 =>
      have : ¬ Sees (128 * s + r) (j - 64 * (r / 64)) := by unfold Sees; omega
      rw [weight, if_neg this]
      ring
  · ring

end Cert.Spec3
-- ==== Proof.Inputs3.lean ====
/-
  What the arguments of `attn_fwd` hold: real numbers.
-/
module

public import proofs.«01_k».proof.Proof.Spec3
public import proofs.«01_k».proof.Proof.Holds

@[expose] public section

namespace Cert.Spec3

open Idealize.ShloMosaic Idealize.ShloMosaic.ValueIdx Cert.Holds

/-- The projections hold the queries, keys, values and gates in columns 1024 to 3071; the second array is the relative bias. -/
structure Reads (A : Args) (x0 : (⟨2, ![8192, 3072]⟩ : Shape).Idx → EReal) (x1 : (⟨3, ![1, 8, 129]⟩ : Shape).Idx → EReal) : Prop where
  q : ∀ i : (⟨2, ![8192, 3072]⟩ : Shape).Idx, 1024 ≤ (i 1).val → (i 1).val < 1536 → x0 i = ((A.q (i 0).val ((i 1).val - 1024) : ℝ) : EReal)
  k : ∀ i : (⟨2, ![8192, 3072]⟩ : Shape).Idx, 1536 ≤ (i 1).val → (i 1).val < 2048 → x0 i = ((A.k (i 0).val ((i 1).val - 1536) : ℝ) : EReal)
  v : ∀ i : (⟨2, ![8192, 3072]⟩ : Shape).Idx, 2048 ≤ (i 1).val → (i 1).val < 2560 → x0 i = ((A.v (i 0).val ((i 1).val - 2048) : ℝ) : EReal)
  g : ∀ i : (⟨2, ![8192, 3072]⟩ : Shape).Idx, 2560 ≤ (i 1).val → x0 i = ((A.g (i 0).val ((i 1).val - 2560) : ℝ) : EReal)
  rel : ∀ i : (⟨3, ![1, 8, 129]⟩ : Shape).Idx, x1 i = ((A.rel (i 1).val (i 2).val : ℝ) : EReal)

end Cert.Spec3
-- ==== Proof.Finite3.lean ====
/-
  What the precondition of `attn_fwd` gives: the columns that the call reads, and the biases, hold real tables.
-/
module

public import proofs.«01_k».proof.Proof.Inputs3
public import proofs.«01_k».proof.Proof.Finite
public import proofs.«01_k».proof.Pre_finite_attn

@[expose] public section

noncomputable section

namespace Cert.Pre_finite_attn

open Idealize.ShloMosaic Idealize.ShloMosaic.ValueIdx Cert.Holds Cert.Spec3

theorem facts : Facts where
  slices_S8192x3072_S8192x2048_0_1024 := by decide +kernel
  bcast_S_S8192x2048 := by decide +kernel
  bcast_S_S1x8x129 := by decide +kernel

/-- The real tables the arrays hold. -/
def args (x0 : S8192x3072.Idx → EReal) (x1 : S1x8x129.Idx → EReal) : Args where
  q r c := tab2 x0 r (1024 + c)
  k r c := tab2 x0 r (1536 + c)
  v r c := tab2 x0 r (2048 + c)
  g r c := tab2 x0 r (2560 + c)
  rel := tab3 x1 0

theorem reads [Facts] {x0 : FVec Ideal S8192x3072 .bf16} {x1 : FVec Ideal S1x8x129 .f32}
    (h : ∀ y, y = fn x0 x1 → y.1 = (fun _ => 1#1) ∧ y.2 = (fun _ => 1#1)) : Reads (args x0 x1) x0 x1 := by
  obtain ⟨h0, h1⟩ := h _ rfl
  have f0 := finite_of cinf16 _ h0
  have f1 : Finite (x1 : S1x8x129.Idx → EReal) := finite_of cinf _ h1
  have at_ (i : S8192x3072.Idx) (o : ℕ) (ho : 1024 ≤ o) (hc : o ≤ (i 1).val) : x0 i = ((tab2 (x0 : S8192x3072.Idx → EReal) (i 0).val (o + ((i 1).val - o)) : ℝ) : EReal) := by
    have hi : (i 1).val < 3072 := (i 1).isLt
    have e : extractStridedSlice S8192x2048 ![0, 1024] x0 Facts.slices_S8192x3072_S8192x2048_0_1024 (ix2 (i 0) (⟨(i 1).val - 1024, by omega⟩ : Fin 2048)) = x0 i :=
      extractStridedSlice_apply _ _ _ _ i (fun a => by
        match a with
        | ⟨0, _⟩ => exact (Nat.zero_add _).symm
        | ⟨1, _⟩ => show (i 1).val = 1024 + ((i 1).val - 1024); omega)
    have := f0 (ix2 (i 0) (⟨(i 1).val - 1024, by omega⟩ : Fin 2048))
    unfold num at this
    beta_reduce at this
    rw [e] at this
    rw [show o + ((i 1).val - o) = (i 1).val by omega]
    refine this.trans (congrArg Real.toEReal ?_)
    refine Eq.trans ?_ (tab2_eq (x0 : S8192x3072.Idx → EReal) (i 0) (i 1)).symm
    exact congrArg (fun j => (x0 j).toReal) (eq_ix2 i)
  exact {
    q := fun i h _ => at_ i 1024 (by norm_num) h
    k := fun i h _ => at_ i 1536 (by norm_num) h
    v := fun i h _ => at_ i 2048 (by norm_num) h
    g := fun i h => at_ i 2560 (by norm_num) h
    rel := fun i => by
      refine (f1 i).trans (congrArg Real.toEReal ?_)
      have h0 : (i 0).val < 1 := (i 0).isLt
      refine Eq.trans ?_ (tab3_eq (x1 : S1x8x129.Idx → EReal) (0 : Fin 1) (i 1) (i 2)).symm
      exact congrArg (num (x1 : S1x8x129.Idx → EReal)) (funext fun a => by
        match a with | ⟨0, _⟩ => exact Fin.ext (by show (i 0).val = 0; omega) | ⟨1, _⟩ => rfl | ⟨2, _⟩ => rfl) }

end Cert.Pre_finite_attn
-- ==== Proof.K3Tile.lean ====
/-
  One super of `attn_fwd`, a pair of heads over 128 rows, read over the reals: the scores of its 256 lanes over the window
  of 640 rows, the saved weights and inverses, and the output, each in the kernel's words.
-/
module

public import proofs.«01_k».proof.Proof.Holds2
public import proofs.«01_k».proof.Proof.KTile
public import proofs.«01_k».proof.Proof.Spec3
public import proofs.«01_k».proof.Proof.Gen.Kernel3Ideal.Value

@[expose] public section

set_option maxRecDepth 16384

noncomputable section

namespace Cert.Kernel3Ideal.Tile

open Idealize.ShloMosaic Idealize.ShloMosaic.TcCoe Idealize.SL.Sem Idealize.ShloMosaic.ValueIdx
open Cert.Kernel3Ideal Cert.Kernel3Ideal.Gen Cert.Holds Cert.Spec3 Cert.Consts
open scoped BigOperators
open Finset (range)

/-! ## Masks and matrices with `−∞` -/

/-- The mask of the positions with `P`. -/
abbrev Bit {R C : ℕ} (c : IVec ⟨2, ![R, C]⟩ 1) (P : ℕ → ℕ → Prop) [∀ r c, Decidable (P r c)] : Prop :=
  ∀ i, c i = if P (i 0).val (i 1).val then 1#1 else 0#1

/-- A matrix of extended reals. -/
abbrev HE {R C : ℕ} (x : (⟨2, ![R, C]⟩ : Shape).Idx → EReal) (f : ℕ → ℕ → EReal) : Prop := ∀ i, x i = f (i 0).val (i 1).val

variable {R C : ℕ}

theorem toInt_ofNat {a : ℕ} (h : a < 2 ^ 31) : (BitVec.ofNat 32 a).toInt = (a : ℤ) := by
  rw [BitVec.toInt_eq_toNat_of_lt (by rw [BitVec.toNat_ofNat, Nat.mod_eq_of_lt (by omega)]; omega), BitVec.toNat_ofNat, Nat.mod_eq_of_lt (by omega)]

theorem slt_word {a b : ℕ} (ha : a < 2 ^ 31) (hb : b < 2 ^ 31) :
    IntOp.cmpi .slt (BitVec.ofNat 32 a) (BitVec.ofNat 32 b) = if a < b then 1#1 else 0#1 := by
  show BitVec.ofBool (BitVec.slt _ _) = _
  unfold BitVec.slt
  rw [toInt_ofNat ha, toInt_ofNat hb]
  by_cases h : a < b <;> simp [h]

theorem sge_word {a b : ℕ} (ha : a < 2 ^ 31) (hb : b < 2 ^ 31) :
    IntOp.cmpi .sge (BitVec.ofNat 32 a) (BitVec.ofNat 32 b) = if b ≤ a then 1#1 else 0#1 := by
  show BitVec.ofBool (BitVec.sle _ _) = _
  unfold BitVec.sle
  rw [toInt_ofNat ha, toInt_ofNat hb]
  by_cases h : b ≤ a <;> simp [h]

theorem eq_word {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h, beq_self_eq_true]; rfl
  · rw [if_neg h, beq_eq_false_iff_ne.mpr]
    · rfl
    · intro e
      have := congrArg BitVec.toNat e
      rw [BitVec.toNat_ofNat, BitVec.toNat_ofNat, Nat.mod_eq_of_lt ha, Nat.mod_eq_of_lt hb] at this
      exact h this

theorem select_bit {c : IVec ⟨2, ![R, C]⟩ 1} {P : ℕ → ℕ → Prop} [∀ r c, Decidable (P r c)] (hc : Bit c P)
    {x y : (⟨2, ![R, C]⟩ : Shape).Idx → EReal} (i) :
    select c x y i = if P (i 0).val (i 1).val then x i else y i := by
  show Scalar.select (c i) (x i) (y i) = _
  rw [hc i]
  by_cases h : P (i 0).val (i 1).val
  · rw [if_pos h, if_pos h]; rfl
  · rw [if_neg h, if_neg h]; rfl

theorem H.choose {c : IVec ⟨2, ![R, C]⟩ 1} {P : ℕ → ℕ → Prop} [∀ r c, Decidable (P r c)] (hc : Bit c P)
    {x y : (⟨2, ![R, C]⟩ : Shape).Idx → EReal} {f g : ℕ → ℕ → ℝ} (hx : H x f) (hy : H y g) :
    H (select c x y) (fun r c => if P r c then f r c else g r c) := fun i => by
  rw [select_bit hc, hx i, hy i]
  dsimp only
  split <;> rfl

theorem HE.choose {c : IVec ⟨2, ![R, C]⟩ 1} {P : ℕ → ℕ → Prop} [∀ r c, Decidable (P r c)] (hc : Bit c P)
    {x y : (⟨2, ![R, C]⟩ : Shape).Idx → EReal} {f g : ℕ → ℕ → EReal} (hx : HE x f) (hy : HE y g) :
    HE (select c x y) (fun r c => if P r c then f r c else g r c) := fun i => by
  rw [select_bit hc, hx i, hy i]

theorem HE.catCols {a b : ℕ} {x : (⟨2, ![R, a]⟩ : Shape).Idx → EReal} {y : (⟨2, ![R, b]⟩ : Shape).Idx → EReal}
    {f g : ℕ → ℕ → EReal} (hx : HE x f) (hy : HE y g) (h : Shape.Concatenates [⟨2, ![R, a]⟩, ⟨2, ![R, b]⟩] ⟨2, ![R, C]⟩ 1) :
    HE (concatenate ⟨2, ![R, C]⟩ 1 [⟨⟨2, ![R, a]⟩, x⟩, ⟨⟨2, ![R, b]⟩, y⟩] h) (fun r c => if c < a then f r c else g r (c - a)) := fun i => by
  obtain ⟨p, q, rfl⟩ : ∃ p q, i = ValueIdx.ix2 p q := ⟨i 0, i 1, ValueIdx.eq_ix2 i⟩
  have hC : a + b = C := by have := h.2.2; simpa using this
  have hq := q.isLt
  by_cases hc : q.val < a
  · refine (concatenate_apply_piece (1 : Fin (⟨2, ![R, C]⟩ : Shape).rank) [⟨⟨2, ![R, a]⟩, x⟩, ⟨⟨2, ![R, b]⟩, y⟩] h (ValueIdx.ix2 p q) 0 (by simp) ⟨2, ![R, a]⟩ x rfl rfl 0 (by simp) (ValueIdx.ix2 p ⟨q.val, hc⟩) (fun b hb => ?_) ?_).trans ((hx _).trans (if_pos hc).symm)
    · match b with
      | ⟨0, _⟩ => rfl
      | ⟨1, _⟩ => exact absurd rfl hb
    · show 0 + q.val = q.val; omega
  · refine (concatenate_apply_piece (1 : Fin (⟨2, ![R, C]⟩ : Shape).rank) [⟨⟨2, ![R, a]⟩, x⟩, ⟨⟨2, ![R, b]⟩, y⟩] h (ValueIdx.ix2 p q) 1 (by simp) ⟨2, ![R, b]⟩ y rfl rfl a (by simp) (ValueIdx.ix2 p ⟨q.val - a, by omega⟩) (fun b hb => ?_) ?_).trans ((hy _).trans (if_neg hc).symm)
    · match b with
      | ⟨0, _⟩ => rfl
      | ⟨1, _⟩ => exact absurd rfl hb
    · show a + (q.val - a) = q.val; omega

/-- The product of an `R × K` matrix with a transposed `C × K` one, onto zero. -/
theorem HE.dotCols {K : ℕ} {φ₁ φ₂ : FTy} {wf} (d : DotDims ⟨2, ![R, K]⟩ ⟨2, ![C, K]⟩ ⟨2, ![R, C]⟩) (hd : d = colsDims K R C wf)
    {x : FVec Ideal ⟨2, ![R, K]⟩ φ₁} {y : FVec Ideal ⟨2, ![C, K]⟩ φ₂} {f g : ℕ → ℕ → EReal} (hx : HE x f) (hy : HE y g)
    {z : FVec Ideal ⟨2, ![R, C]⟩ .f32} (hz : H z fun _ _ => 0) :
    HE (matmul d none x y z) (fun r c => ∑ k : Fin K, f r k.val * g c k.val) := fun i => by
  obtain ⟨p, q, rfl⟩ : ∃ p q, i = ValueIdx.ix2 p q := ⟨i 0, i 1, ValueIdx.eq_ix2 i⟩
  subst hd
  show FloatOps.matmul (colsDims K R C wf) none x y z (ValueIdx.ix2 p q) = _
  rw [Ideal.matmul_apply, hz, EReal.coe_zero, zero_add, ← Equiv.sum_comp (contrEquiv1 (colsDims K R C wf) K rfl rfl).symm]
  refine Finset.sum_congr rfl fun k _ => ?_
  have ck := contrEquiv1_symm_val (colsDims K R C wf) K rfl rfl k
  have l : (colsDims K R C wf).lhsIdx (ValueIdx.ix2 p q) ((contrEquiv1 _ K rfl rfl).symm k) = ValueIdx.ix2 p k := by
    funext ax; apply Fin.ext
    match ax with
    | ⟨0, _⟩ => simp [DotDims.lhsIdx, colsDims]; rfl
    | ⟨1, _⟩ => simp [DotDims.lhsIdx, colsDims]; exact ck
  have r : (colsDims K R C wf).rhsIdx (ValueIdx.ix2 p q) ((contrEquiv1 _ K rfl rfl).symm k) = ValueIdx.ix2 q k := by
    funext ax; apply Fin.ext
    match ax with
    | ⟨0, _⟩ => simp [DotDims.rhsIdx, colsDims]; rfl
    | ⟨1, _⟩ => simp [DotDims.rhsIdx, colsDims]; exact ck
  rw [l, r, hx, hy]
  rfl

theorem H.toE {x : (⟨2, ![R, C]⟩ : Shape).Idx → EReal} {f : ℕ → ℕ → ℝ} (hx : H x f) : HE x (fun r c => ((f r c : ℝ) : EReal)) := hx

theorem czero16 : Ideal.ofBits .bf16 0x0000#16 = ((0 : ℝ) : EReal) := by simp [Ideal.ofBits, Ideal.ieee]

/-! ## The scores -/

variable {A : Args} {p s : ℕ}

/-- What the call reads of the keys, the values, the queries and the bias at super `s` of pair `p`. -/
abbrev Keys (A : Args) (p s : ℕ) (kb : Vec Ideal S640x256 .bf16) : Prop := H kb fun j c => keyBand A p (128 * s + 1536 + j) c
abbrev Vals (A : Args) (p s : ℕ) (vb : Vec Ideal S128x640 .bf16) : Prop := H vb fun c j => valBand A p (128 * s + 1536 + j) c
abbrev Qrys (A : Args) (p s : ℕ) (q : Vec Ideal S128x128 .bf16) : Prop := H q fun r c => A.q (128 * s + r) (128 * p + c)
abbrev Bias (A : Args) (p : ℕ) (b : Vec Ideal S640x256 .f32) : Prop := HE b fun j l => masked (InBand j l) (laneBias A p j l * L)

/-- The queries of a lane: its head's, scaled. -/
def lanes (A : Args) (p s l k : ℕ) : ℝ := if k / 64 = l / 128 then A.q (128 * s + l % 128) (128 * p + k) * (1 / 8 * L) else 0

theorem scaled {q} (hq : Qrys A p s q) : H (k0_pay20 q) fun r c => A.q (128 * s + r) (128 * p + c) * (1 / 8 * L) := by
  unfold k0_pay20
  refine hq.mul (H.splat ?_)
  rfl

/-- The columns below 64 of a matrix 128 wide. -/
theorem low_cols : Bit (cmpi .slt (iota .tc S128x128 32 [1] iota_S128x128_d1_w32) (broadcast S128x128 64#32)) fun _ c => c < 64 := fun i => by
  show IntOp.cmpi .slt (iota .tc S128x128 32 [1] iota_S128x128_d1_w32 i) (BitVec.ofNat 32 64) = _
  rw [iota_single_apply]
  have := (i 1).isLt
  exact slt_word (by show (i 1).val < _; exact lt_trans (i 1).isLt (by show 128 < _; norm_num)) (by norm_num)

theorem first_col : Bit (cmpi .eq (iota .tc S256x128 32 [1] iota_S256x128_d1_w32) (broadcast S256x128 0#32)) fun _ c => c = 0 := fun i => by
  show IntOp.cmpi .eq (iota .tc S256x128 32 [1] iota_S256x128_d1_w32 i) (BitVec.ofNat 32 0) = _
  rw [iota_single_apply]
  exact eq_word (by exact lt_trans (i 1).isLt (by show 128 < _; norm_num)) (by norm_num)

/-- The scores' product and sum. -/
def scores (kb : Vec Ideal S640x256 .bf16) (qs : FVec Ideal S128x128 .bf16) (b : Vec Ideal S640x256 .f32) : FVec Ideal S640x256 .f32 :=
  addf (matmul (φ₁ := .bf16) (φ₂ := .bf16) dot_S640x256_S256x256_S640x256_1_1_0_0_n_n none kb
    (concatenate S256x256 1 [⟨S256x128, concatenate S256x128 0
        [⟨S128x128, select (cmpi .slt (iota .tc S128x128 32 [1] iota_S128x128_d1_w32) (broadcast S128x128 64#32)) qs (broadcast S128x128 (Scalar.ofBits (F := Ideal) .bf16 0x0000#16))⟩,
         ⟨S128x128, select (cmpi .slt (iota .tc S128x128 32 [1] iota_S128x128_d1_w32) (broadcast S128x128 64#32)) (broadcast S128x128 (Scalar.ofBits (F := Ideal) .bf16 0x0000#16)) qs⟩]
        concatenates_S128x128_S128x128_S256x128_d0⟩,
      ⟨S256x128, truncf .bf16 (select (cmpi .eq (iota .tc S256x128 32 [1] iota_S256x128_d1_w32) (broadcast S256x128 0#32))
        (broadcast S256x128 (Named.named κ "mask" 0xF149F2CA#32)) (broadcast S256x128 (Scalar.ofBits (F := Ideal) .f32 0x00000000#32))) bitsLt_bf16_f32⟩]
      concatenates_S256x128_S256x128_S256x256_d1) (constant S640x256 .f32 0x00000000#32)) b

/-- The weights from the scores. -/
def weights (S : FVec Ideal S640x256 .f32) : FVec Ideal S640x256 .f32 :=
  exp2 (subf S (broadcastTo S640x256 (shapeCast S1x256 (multiReduction .maximumf [0] S256 S 0xFF800000#32 reduces_S640x256_S256 (.inl rfl) rfl) shapeCasts_S256_S1x256) broadcasts_S1x256_S640x256))

theorem pay21_eq (kb qs b) : k0_pay21 (F := Ideal) kb qs b = weights (scores kb qs b) := rfl

/-- A lane's product of query and key at coordinate `d` of its head, scaled. -/
def product (A : Args) (p s j l d : ℕ) : ℝ := (if 512 ≤ 128 * s + j then
  A.q (128 * s + l % 128) (128 * p + 64 * (l / 128) + d) * A.k (128 * s + j - 512) (128 * p + 64 * (l / 128) + d) else 0) * (1 / 8 * L)

/-- One term of the scores' sum: its lane's product, and `−∞` where the row is before the sequence. -/
theorem term (j l : ℕ) (k : Fin 256) (hl : l < 256) : ((keyBand A p (128 * s + 1536 + j) k.val : ℝ) : EReal)
      * (if k.val < 128 then ((lanes A p s l k.val : ℝ) : EReal) else if k.val = 128 then ⊥ else 0)
    = ((if 64 * (l / 128) ≤ k.val ∧ k.val < 64 * (l / 128) + 64 then product A p s j l (k.val - 64 * (l / 128)) else 0 : ℝ) : EReal)
      + (if k.val = 128 then (if 512 ≤ 128 * s + j then 0 else ⊥) else 0) := by
  have hk := k.isLt
  unfold keyBand
  by_cases h1 : k.val < 128
  · rw [if_pos h1, if_pos h1, if_neg (show ¬ k.val = 128 by omega), add_zero, ← EReal.coe_mul]
    congr 1
    unfold lanes
    by_cases h2 : k.val / 64 = l / 128
    · have h4 : 64 * (l / 128) ≤ k.val ∧ k.val < 64 * (l / 128) + 64 := by omega
      rw [if_pos h2, if_pos h4]
      have e1 : 128 * s + 1536 + j - 2048 = 128 * s + j - 512 := by omega
      have e2 : 128 * p + 64 * (l / 128) + (k.val - 64 * (l / 128)) = 128 * p + k.val := by omega
      unfold product
      rw [e1, e2]
      by_cases h3 : 512 ≤ 128 * s + j
      · rw [if_pos h3, if_pos (show 2048 ≤ 128 * s + 1536 + j by omega)]; ring
      · rw [if_neg h3, if_neg (show ¬ 2048 ≤ 128 * s + 1536 + j by omega)]; ring
    · rw [if_neg h2, if_neg (show ¬ (64 * (l / 128) ≤ k.val ∧ k.val < 64 * (l / 128) + 64) by omega), mul_zero]
  · rw [if_neg h1, if_neg h1, if_neg (show ¬ (64 * (l / 128) ≤ k.val ∧ k.val < 64 * (l / 128) + 64) by omega), EReal.coe_zero, zero_add]
    by_cases h2 : k.val = 128
    · rw [if_pos h2, if_pos h2]
      by_cases h3 : 512 ≤ 128 * s + j
      · rw [if_pos h3, if_neg (by omega), EReal.coe_zero, zero_mul]
      · rw [if_neg h3, if_pos (by omega), EReal.coe_one, one_mul]
    · rw [if_neg h2, if_neg h2, mul_zero]

theorem scores_holds {kb qs b} (hk : Keys A p s kb) (hq : H qs fun r c => A.q (128 * s + r) (128 * p + c) * (1 / 8 * L)) (hb : Bias A p b) :
    HE (scores kb qs b) fun j l => masked (InBand j l ∧ 512 ≤ 128 * s + j) (laneScore A p s j l * L) := by
  have m1 : H (concatenate S256x128 0
        [⟨S128x128, select (cmpi .slt (iota .tc S128x128 32 [1] iota_S128x128_d1_w32) (broadcast S128x128 64#32)) qs (broadcast S128x128 (Scalar.ofBits (F := Ideal) .bf16 0x0000#16))⟩,
         ⟨S128x128, select (cmpi .slt (iota .tc S128x128 32 [1] iota_S128x128_d1_w32) (broadcast S128x128 64#32)) (broadcast S128x128 (Scalar.ofBits (F := Ideal) .bf16 0x0000#16)) qs⟩]
        concatenates_S128x128_S128x128_S256x128_d0) (fun l k => lanes A p s l k) := by
    refine ((H.choose low_cols hq (H.splat czero16)).catRows (H.choose low_cols (H.splat czero16) hq) _).congr fun l hl k hk => ?_
    unfold lanes
    by_cases h1 : l < 128
    · have e : l % 128 = l := by omega
      rw [if_pos h1, e]
      by_cases h2 : k < 64
      · rw [if_pos h2, if_pos (by omega)]
      · rw [if_neg h2, if_neg (by omega)]
    · have e : l % 128 = l - 128 := by omega
      rw [if_neg h1, e]
      by_cases h2 : k < 64
      · rw [if_pos h2, if_neg (by omega)]
      · rw [if_neg h2, if_pos (by omega)]
  have m2 : HE (truncf .bf16 (select (cmpi .eq (iota .tc S256x128 32 [1] iota_S256x128_d1_w32) (broadcast S256x128 0#32))
        (broadcast S256x128 (Named.named κ "mask" 0xF149F2CA#32)) (broadcast S256x128 (Scalar.ofBits (F := Ideal) .f32 0x00000000#32))) bitsLt_bf16_f32 : FVec Ideal S256x128 .bf16)
      (fun _ k => if k = 0 then ⊥ else 0) := by
    refine HE.choose (f := fun _ _ => ⊥) (g := fun _ _ => 0) first_col (fun i => rfl) (fun i => ?_)
    exact c0.trans EReal.coe_zero
  have hd := HE.dotCols (φ₁ := .bf16) (φ₂ := .bf16) (wf := dot_S640x256_S256x256_S640x256_1_1_0_0_n_n.wf) dot_S640x256_S256x256_S640x256_1_1_0_0_n_n rfl (H.toE hk) (HE.catCols (H.toE m1) m2 concatenates_S256x128_S256x128_S256x256_d1) (H.const c0)
  intro i
  have hl : (i 1).val < 256 := (i 1).isLt
  show matmul (F := Ideal) (φ₁ := .bf16) (φ₂ := .bf16) dot_S640x256_S256x256_S640x256_1_1_0_0_n_n none _ _ _ i + b i = _
  rw [hd i, hb i]
  dsimp only
  generalize (i 0).val = j
  generalize (i 1).val = l at hl
  have e : ∀ k : Fin 256, (if k.val < 128 then ((lanes A p s l k.val : ℝ) : EReal) else if k.val - 128 = 0 then ⊥ else 0)
      = if k.val < 128 then ((lanes A p s l k.val : ℝ) : EReal) else if k.val = 128 then ⊥ else 0 := fun k => by
    by_cases h : k.val < 128
    · rw [if_pos h, if_pos h]
    · rw [if_neg h, if_neg h]
      by_cases h' : k.val = 128
      · rw [if_pos h', if_pos (by omega)]
      · rw [if_neg h', if_neg (by omega)]
  rw [Finset.sum_congr rfl fun k _ => (congrArg _ (e k)).trans (term j l k hl), Finset.sum_add_distrib, coe_sum,
    Finset.sum_range (n := 256) (fun k => if 64 * (l / 128) ≤ k ∧ k < 64 * (l / 128) + 64 then product A p s j l (k - 64 * (l / 128)) else 0) |>.symm,
    sum_window (by omega) (product A p s j l)]
  have es : ∑ k : Fin 256, (if k.val = 128 then (if 512 ≤ 128 * s + j then (0 : EReal) else ⊥) else 0) = if 512 ≤ 128 * s + j then 0 else ⊥ := by
    rw [Finset.sum_eq_single (⟨128, by norm_num⟩ : Fin 256)]
    · exact if_pos rfl
    · exact fun k _ hne => if_neg fun h => hne (Fin.ext h)
    · exact fun h => absurd (Finset.mem_univ _) h
  rw [es]
  unfold masked
  by_cases h1 : InBand j l
  · by_cases h2 : 512 ≤ 128 * s + j
    · rw [if_pos h2, if_pos h1, if_pos ⟨h1, h2⟩, add_zero, ← EReal.coe_add]
      congr 1
      simp only [product, if_pos h2]
      rw [laneScore_eq A hl h1, add_mul, mul_assoc, ← Finset.sum_mul]
    · rw [if_neg h2, if_neg (show ¬ (InBand j l ∧ 512 ≤ 128 * s + j) from fun h => h2 h.2), EReal.add_bot, EReal.bot_add]
  · have h2 : ¬ (InBand j l ∧ 512 ≤ 128 * s + j) := fun h => h1 h.1
    rw [if_neg h1, if_neg h2, EReal.add_bot]

theorem greatest_lane {S : FVec Ideal S640x256 .f32} (hS : HE S fun j l => masked (InBand j l ∧ 512 ≤ 128 * s + j) (laneScore A p s j l * L)) (l : Fin 256) :
    multiReduction .maximumf [0] S256 S 0xFF800000#32 reduces_S640x256_S256 (.inl rfl) rfl (ValueIdx.ix1 l)
      = ((greatest A (128 * s + l.val % 128) (2 * p + l.val / 128) * L : ℝ) : EReal) := by
  have hcol : ∀ i : S640x256.Idx, reduces_S640x256_S256.drop i = ValueIdx.ix1 l ↔ (i 1).val = l.val := fun i => by
    have := reduces_S640x256_S256.drop_apply_val_of_eq i 0 1 (by decide)
    constructor
    · intro h; rw [← this, h]
    · intro h
      funext b
      match b with
      | ⟨0, _⟩ => exact Fin.ext (this.trans h)
  refine (multiReduction_maximumf_eq_fold S _ _ _ _ _).trans ?_
  refine fold_max _ (fun i hi => ?_) ?_
  · have hl := (hcol i).mp (Finset.mem_filter.mp hi).2
    rw [hS i, hl]
    dsimp only [masked]
    split
    · next h => exact EReal.coe_le_coe_iff.mpr (mul_le_mul_of_nonneg_right (lane_le A h.1 h.2) L_pos.le)
    · exact bot_le
  · obtain ⟨j, hj, h1, h2, e⟩ := lane_at A p s l.val
    refine ⟨ValueIdx.ix2 (⟨j, hj⟩ : Fin 640) l, Finset.mem_filter.mpr ⟨Finset.mem_univ _, (hcol _).mpr rfl⟩, ?_⟩
    rw [hS]
    show masked (InBand j l.val ∧ 512 ≤ 128 * s + j) (laneScore A p s j l.val * L) = _
    rw [masked, if_pos ⟨h1, h2⟩, e]

theorem weights_holds {S : FVec Ideal S640x256 .f32} (hS : HE S fun j l => masked (InBand j l ∧ 512 ≤ 128 * s + j) (laneScore A p s j l * L)) :
    H (weights S) (saved A p s) := H.of fun j l => by
  have hrow : H (broadcastTo S640x256 (shapeCast S1x256 (multiReduction .maximumf [0] S256 S 0xFF800000#32 reduces_S640x256_S256 (.inl rfl) rfl) shapeCasts_S256_S1x256) broadcasts_S1x256_S640x256)
      fun _ l => greatest A (128 * s + l % 128) (2 * p + l / 128) * L :=
    H.row (f := fun _ l => greatest A (128 * s + l % 128) (2 * p + l / 128) * L) (H.of fun z c => by
      refine (shapeCast_apply _ shapeCasts_S256_S1x256 (ValueIdx.ix2 z c) (ValueIdx.ix1 c) ?_).trans (greatest_lane hS c)
      rw [Shape.rowMajor_val_one, Shape.rowMajor_val_two]
      have : z.val = 0 := by omega
      show c.val = z.val * 256 + c.val
      omega) broadcasts_S1x256_S640x256
  show Ideal.exp2 (S (ValueIdx.ix2 j l) - _) = _
  rw [hrow, hS]
  show Ideal.exp2 (masked (InBand j.val l.val ∧ 512 ≤ 128 * s + j.val) (laneScore A p s j.val l.val * L)
    - ((greatest A (128 * s + l.val % 128) (2 * p + l.val / 128) * L : ℝ) : EReal)) = _
  rw [exp2_masked, saved_eq]

/-! ## What is stored -/

section
variable {kb : Vec Ideal S640x256 .bf16} {vb : Vec Ideal S128x640 .bf16} {q g : Vec Ideal S128x128 .bf16} {b : Vec Ideal S640x256 .f32}
variable {e : Vec Ideal S1x1x640x256 .bf16} {inv : FVec Ideal S1x256 .f32}

theorem pay21 (hk : Keys A p s kb) (hq : Qrys A p s q) (hb : Bias A p b) : H (k0_pay21 kb (k0_pay20 q) b) (saved A p s) := by
  rw [pay21_eq]
  exact weights_holds (scores_holds hk (scaled hq) hb)

/-- A stack of one stack of one matrix. -/
abbrev H4 {R C : ℕ} (x : (⟨4, ![1, 1, R, C]⟩ : Shape).Idx → EReal) (f : ℕ → ℕ → ℝ) : Prop := ∀ i, x i = ((f (i 2).val (i 3).val : ℝ) : EReal)

theorem H4.cast {R C : ℕ} {x : (⟨2, ![R, C]⟩ : Shape).Idx → EReal} {f : ℕ → ℕ → ℝ} (hx : H x f)
    (h : Shape.ShapeCasts ⟨2, ![R, C]⟩ ⟨4, ![1, 1, R, C]⟩) : H4 (shapeCast ⟨4, ![1, 1, R, C]⟩ x h) f := fun i => by
  refine (shapeCast_apply _ h i (ValueIdx.ix2 (i 2) (i 3)) ?_).trans (hx _)
  rw [Shape.rowMajor_val_two, Shape.rowMajor_val_four]
  have h0 : (i 0).val < 1 := (i 0).isLt
  have h1 : (i 1).val < 1 := (i 1).isLt
  show (i 2).val * C + (i 3).val = (((i 0).val * 1 + (i 1).val) * R + (i 2).val) * C + (i 3).val
  rw [show (i 0).val = 0 by omega, show (i 1).val = 0 by omega]
  simp

theorem H4.flat {R C : ℕ} {x : (⟨4, ![1, 1, R, C]⟩ : Shape).Idx → EReal} {f : ℕ → ℕ → ℝ} (hx : H4 x f)
    (h : Shape.ShapeCasts ⟨4, ![1, 1, R, C]⟩ ⟨2, ![R, C]⟩) : H (shapeCast ⟨2, ![R, C]⟩ x h) f := fun i => by
  refine (shapeCast_apply _ h i (ValueIdx.ix4 (0 : Fin 1) (0 : Fin 1) (i 0) (i 1)) ?_).trans (hx _)
  rw [Shape.rowMajor_val_two, Shape.rowMajor_val_four]
  show (((0 : ℕ) * 1 + 0) * R + (i 0).val) * C + (i 1).val = (i 0).val * C + (i 1).val
  simp

theorem pay22 (hk : Keys A p s kb) (hq : Qrys A p s q) (hb : Bias A p b) : H4 (k0_pay22 kb (k0_pay20 q) b) (saved A p s) := by
  unfold k0_pay22
  exact H4.cast ((pay21 hk hq hb).truncf _) _

theorem pay23 (hk : Keys A p s kb) (hq : Qrys A p s q) (hb : Bias A p b) : H (k0_pay23 kb (k0_pay20 q) b) (fun _ l => inverse A p s l) := by
  unfold k0_pay23
  have ht : H (shapeCast S1x256 (multiReduction .add [0] S256 (k0_pay21 kb (k0_pay20 q) b) 0x00000000#32 reduces_S640x256_S256 (.inl rfl) rfl) shapeCasts_S256_S1x256)
      fun _ l => total A (128 * s + l % 128) (2 * p + l / 128) :=
    (H.sumRows (pay21 hk hq hb) _ _ (.inl rfl) rfl _).congr fun _ _ l _ => sum_saved A p s l
  refine (H.div (H.splat c1) ht fun r hr l hl => ?_).congr fun r hr l hl => rfl
  exact (total_pos A _ _).ne'

theorem pay24 (hk : Keys A p s kb) (hq : Qrys A p s q) (hb : Bias A p b) : H4 (k0_pay24 kb (k0_pay20 q) b) (fun _ l => inverse A p s l) := by
  unfold k0_pay24
  exact H4.cast (H.row ((pay23 hk hq hb).cast _) _) _

theorem pay30 (hi : H inv fun _ l => inverse A p s l) (hv : Vals A p s vb) (he : H4 e (saved A p s)) :
    H (k0_pay30 inv vb e) (fun r c => out A (128 * s + r) (128 * p + c)) := by
  have hm := (H.dot (φ₁ := .bf16) (φ₂ := .bf16) dot_S128x640_S640x256_S128x256_1_0_0_1_n_n rfl hv (H4.flat he shapeCasts_S1x1x640x256_S640x256) (H.const c0)).mul
    (H.row hi broadcasts_S1x256_S128x256)
  have hbit : Bit (xori (cmpi .sge (iota .tc S128x256 32 [0] iota_S128x256_d0_w32) (broadcast S128x256 64#32))
      (cmpi .sge (iota .tc S128x256 32 [1] iota_S128x256_d1_w32) (broadcast S128x256 128#32))) fun r l => ¬ (64 ≤ r ↔ 128 ≤ l) := fun i => by
    show IntOp.xori (IntOp.cmpi .sge (iota .tc S128x256 32 [0] iota_S128x256_d0_w32 i) (BitVec.ofNat 32 64))
      (IntOp.cmpi .sge (iota .tc S128x256 32 [1] iota_S128x256_d1_w32 i) (BitVec.ofNat 32 128)) = _
    rw [iota_single_apply, iota_single_apply, sge_word (lt_trans (i 0).isLt (by show 128 < _; norm_num)) (by norm_num),
      sge_word (lt_trans (i 1).isLt (by show 256 < _; norm_num)) (by norm_num)]
    by_cases h1 : 64 ≤ (i 0).val <;> by_cases h2 : 128 ≤ (i 1).val <;> simp only [h1, h2] <;> rfl
  have ht := (H.choose hbit (H.splat c0) hm).transpose transposes_S128x256_p1_0_S256x128
  refine ((ht.slice 0 0 slices_S256x128_o0_0_S128x128).add (ht.slice 128 0 slices_S256x128_o128_0_S128x128)).congr fun r hr c hc => ?_
  rw [← sum_out A p s hr hc]
  by_cases h : c < 64
  · have e : 128 * (c / 64) + r = r := by omega
    rw [e]
    simp only [zero_add, Nat.zero_add]
    rw [if_neg (by omega), if_pos (by omega), add_zero]
  · have e : 128 * (c / 64) + r = 128 + r := by omega
    rw [e]
    simp only [Nat.zero_add]
    rw [if_pos (by omega), if_neg (by omega), zero_add]

theorem pay31 (hi : H inv fun _ l => inverse A p s l) (hv : Vals A p s vb) (he : H4 e (saved A p s)) :
    H (k0_pay31 inv vb e) (fun r c => out A (128 * s + r) (128 * p + c)) := (pay30 hi hv he).truncf _

theorem pay32 (hi : H inv fun _ l => inverse A p s l) (hv : Vals A p s vb) (he : H4 e (saved A p s)) (hg : H g fun r c => A.g (128 * s + r) (128 * p + c)) :
    H (k0_pay32 inv vb e g) (fun r c => gated A (128 * s + r) (128 * p + c)) := by
  unfold k0_pay32
  have hg' := hg.extf bitsLt_bf16_f32
  refine ((pay30 hi hv he).mul (hg'.mul (H.div (H.splat c1) ((H.splat c1).add ((H.splat c0).sub hg').exp) fun r hr c hc => ?_))).truncf _ |>.congr fun r hr c hc => ?_
  · positivity
  · unfold gated
    ring_nf

end

end Cert.Kernel3Ideal.Tile
-- ==== Proof.K3Bias.lean ====
/-
  The bias of a pair of heads, as the kernel lays it out once per pair: four tiles of 64 queries by 640 keys, each its head's
  table skewed by a rotation of the lanes that grows with the row, masked to its chunk's band.
-/
module

public import proofs.«01_k».proof.Proof.K3Tile

@[expose] public section

set_option maxRecDepth 16384

noncomputable section

namespace Cert.Kernel3Ideal.Tile

open Idealize.ShloMosaic Idealize.ShloMosaic.TcCoe Idealize.SL.Sem Idealize.ShloMosaic.ValueIdx
open Cert.Kernel3Ideal Cert.Kernel3Ideal.Gen Cert.Holds Cert.Spec3 Cert.Consts
open scoped BigOperators
open Finset (range)

variable {R C : ℕ}

/-- Five matrices of `n` columns side by side. -/
theorem H.cat5 {n : ℕ} (hn : 0 < n) {x : Fin 5 → (⟨2, ![R, n]⟩ : Shape).Idx → EReal} {f : ℕ → ℕ → ℕ → ℝ} (hx : ∀ k, H (x k) (f k.val))
    (h : Shape.Concatenates [⟨2, ![R, n]⟩, ⟨2, ![R, n]⟩, ⟨2, ![R, n]⟩, ⟨2, ![R, n]⟩, ⟨2, ![R, n]⟩] ⟨2, ![R, C]⟩ 1) :
    H (concatenate ⟨2, ![R, C]⟩ 1 [⟨⟨2, ![R, n]⟩, x 0⟩, ⟨⟨2, ![R, n]⟩, x 1⟩, ⟨⟨2, ![R, n]⟩, x 2⟩, ⟨⟨2, ![R, n]⟩, x 3⟩,
      ⟨⟨2, ![R, n]⟩, x 4⟩] h) (fun r c => f (c / n) r (c % n)) := H.of fun p q => by
  have hC : n + (n + (n + (n + n))) = C := by have := h.2.2; simpa using this
  have hq := q.isLt
  obtain ⟨k, hkk⟩ : ∃ k : Fin 5, k.val = q.val / n := ⟨⟨q.val / n, by rw [Nat.div_lt_iff_lt_mul hn]; omega⟩, rfl⟩
  have hmod : q.val % n < n := Nat.mod_lt _ hn
  refine (concatenate_apply_piece (1 : Fin (⟨2, ![R, C]⟩ : Shape).rank) [⟨⟨2, ![R, n]⟩, x 0⟩, ⟨⟨2, ![R, n]⟩, x 1⟩, ⟨⟨2, ![R, n]⟩, x 2⟩,
    ⟨⟨2, ![R, n]⟩, x 3⟩, ⟨⟨2, ![R, n]⟩, x 4⟩] h (ValueIdx.ix2 p q) k.val k.isLt (⟨2, ![R, n]⟩ : Shape) (x k)
    (by fin_cases k <;> rfl) rfl (n * k.val) ?_ (ValueIdx.ix2 p ⟨q.val % n, hmod⟩) ?_ ?_).trans ((hx k _).trans ?_)
  · fin_cases k <;> simp <;> ring
  · intro b hb
    match b with
    | ⟨0, _⟩ => rfl
    | ⟨1, _⟩ => exact absurd rfl hb
  · show n * k.val + q.val % n = q.val
    rw [hkk]
    exact Nat.div_add_mod _ _
  · rw [hkk]
    rfl

/-- Four matrices of `n` rows one under another. -/
theorem HE.rows4 {n : ℕ} (hn : 0 < n) {x : Fin 4 → (⟨2, ![n, C]⟩ : Shape).Idx → EReal} {f : ℕ → ℕ → ℕ → EReal} (hx : ∀ k, HE (x k) (f k.val))
    (h : Shape.Concatenates [⟨2, ![n, C]⟩, ⟨2, ![n, C]⟩, ⟨2, ![n, C]⟩, ⟨2, ![n, C]⟩] ⟨2, ![R, C]⟩ 0) :
    HE (concatenate ⟨2, ![R, C]⟩ 0 [⟨⟨2, ![n, C]⟩, x 0⟩, ⟨⟨2, ![n, C]⟩, x 1⟩, ⟨⟨2, ![n, C]⟩, x 2⟩, ⟨⟨2, ![n, C]⟩, x 3⟩] h)
      (fun r c => f (r / n) (r % n) c) := fun i => by
  obtain ⟨p, q, rfl⟩ : ∃ p q, i = ValueIdx.ix2 p q := ⟨i 0, i 1, ValueIdx.eq_ix2 i⟩
  have hC : n + (n + (n + n)) = R := by have := h.2.2; simpa using this
  have hp := p.isLt
  obtain ⟨k, hkk⟩ : ∃ k : Fin 4, k.val = p.val / n := ⟨⟨p.val / n, by rw [Nat.div_lt_iff_lt_mul hn]; omega⟩, rfl⟩
  have hmod : p.val % n < n := Nat.mod_lt _ hn
  refine (concatenate_apply_piece (0 : Fin (⟨2, ![R, C]⟩ : Shape).rank) [⟨⟨2, ![n, C]⟩, x 0⟩, ⟨⟨2, ![n, C]⟩, x 1⟩, ⟨⟨2, ![n, C]⟩, x 2⟩,
    ⟨⟨2, ![n, C]⟩, x 3⟩] h (ValueIdx.ix2 p q) k.val k.isLt (⟨2, ![n, C]⟩ : Shape) (x k)
    (by fin_cases k <;> rfl) rfl (n * k.val) ?_ (ValueIdx.ix2 ⟨p.val % n, hmod⟩ q) ?_ ?_).trans ((hx k _).trans ?_)
  · fin_cases k <;> simp <;> ring
  · intro b hb
    match b with
    | ⟨0, _⟩ => exact absurd rfl hb
    | ⟨1, _⟩ => rfl
  · show n * k.val + p.val % n = p.val
    rw [hkk]
    exact Nat.div_add_mod _ _
  · rw [hkk]
    rfl

/-! ## One tile -/

/-- Columns `o` and on of the table, one row per query, rotated by `sh` and the query. -/
def rows (sh : BitVec 32) (T : FVec Ideal S1x768 .f32) (o : ℕ) (h : S1x768.Slices ![0, o] S1x128) : FVec Ideal S64x128 .f32 :=
  dynamicRotate 1 sh (some (1, 0)) (broadcastTo S64x128 (shapeCast S1x128 (extractStridedSlice S1x128 ![0, o] T h) shapeCasts_S1x128_S1x128)
    broadcasts_S1x128_S64x128) rotates_S64x128_d1s1a0

theorem rows_holds {T : FVec Ideal S1x768 .f32} {f : ℕ → ℝ} (hT : H T fun _ x => f x) (sh : BitVec 32) (o : ℕ) (h : S1x768.Slices ![0, o] S1x128) :
    H (rows sh T o h) fun q x => f (o + (x + 128 - (sh.toNat + q) % 128) % 128) := fun i => by
  have := H.row (R := 64) ((hT.slice 0 o h).cast shapeCasts_S1x128_S1x128) broadcasts_S1x128_S64x128
  unfold rows dynamicRotate
  rw [this]
  simp only [one_mul]
  rfl

/-- Where the rotated lanes have not come round. -/
def near (off : BitVec 32) : IVec S64x128 1 :=
  cmpi .slt (addi (subi (broadcast S64x128 off) (iota .tc S64x128 32 [0] iota_S64x128_d0_w32)) (iota .tc S64x128 32 [1] iota_S64x128_d1_w32)) (broadcast S64x128 128#32)

theorem near_bit {o : ℕ} (h1 : 63 ≤ o) (h2 : o ≤ 127) : Bit (near (BitVec.ofNat 32 o)) fun q x => o - q + x < 128 := fun i => by
  show IntOp.cmpi .slt (IntOp.addi (IntOp.subi (BitVec.ofNat 32 o) (iota .tc S64x128 32 [0] iota_S64x128_d0_w32 i)) (iota .tc S64x128 32 [1] iota_S64x128_d1_w32 i)) (BitVec.ofNat 32 128) = _
  rw [iota_single_apply, iota_single_apply]
  have a : (i 0).val < 64 := (i 0).isLt
  have b : (i 1).val < 128 := (i 1).isLt
  have e : IntOp.addi (IntOp.subi (BitVec.ofNat 32 o) (BitVec.ofNat 32 (i 0).val)) (BitVec.ofNat 32 (i 1).val) = BitVec.ofNat 32 (o - (i 0).val + (i 1).val) := by
    show BitVec.ofNat 32 o - BitVec.ofNat 32 (i 0).val + BitVec.ofNat 32 (i 1).val = _
    apply BitVec.eq_of_toNat_eq
    rw [BitVec.toNat_add, BitVec.toNat_sub, BitVec.toNat_ofNat, BitVec.toNat_ofNat, BitVec.toNat_ofNat, BitVec.toNat_ofNat]
    omega
  rw [e]
  exact slt_word (by omega) (by norm_num)

/-- The skewed table of one head and chunk. -/
def tile (off sh : BitVec 32) (T : FVec Ideal S1x768 .f32) : FVec Ideal S64x640 .f32 :=
  concatenate S64x640 1 [
    ⟨S64x128, select (near off) (rows sh T 0 slices_S1x768_o0_0_S1x128) (rows sh T 128 slices_S1x768_o0_128_S1x128)⟩,
    ⟨S64x128, select (near off) (rows sh T 128 slices_S1x768_o0_128_S1x128) (rows sh T 256 slices_S1x768_o0_256_S1x128)⟩,
    ⟨S64x128, select (near off) (rows sh T 256 slices_S1x768_o0_256_S1x128) (rows sh T 384 slices_S1x768_o0_384_S1x128)⟩,
    ⟨S64x128, select (near off) (rows sh T 384 slices_S1x768_o0_384_S1x128) (rows sh T 512 slices_S1x768_o0_512_S1x128)⟩,
    ⟨S64x128, select (near off) (rows sh T 512 slices_S1x768_o0_512_S1x128) (rows sh T 640 slices_S1x768_o0_640_S1x128)⟩]
    concatenates_S64x128_S64x128_S64x128_S64x128_S64x128_S64x640_d1

theorem piece {T : FVec Ideal S1x768 .f32} {f : ℕ → ℝ} (hT : H T fun _ x => f x) {o : ℕ} (h1 : 63 ≤ o) (h2 : o ≤ 127) {sh : BitVec 32} (hsh : sh.toNat + o = 128)
    (b : ℕ) (ha : S1x768.Slices ![0, b] S1x128) (hb : S1x768.Slices ![0, b + 128] S1x128) :
    H (select (near (BitVec.ofNat 32 o)) (rows sh T b ha) (rows sh T (b + 128) hb)) fun q x => f (b + (o - q + x)) := by
  refine (H.choose (near_bit h1 h2) (rows_holds hT sh b ha) (rows_holds hT sh (b + 128) hb)).congr fun q hq x hx => ?_
  by_cases h : o - q + x < 128
  · rw [if_pos h]; congr 1; omega
  · rw [if_neg h]; congr 1; omega

theorem tile_holds {T : FVec Ideal S1x768 .f32} {f : ℕ → ℝ} (hT : H T fun _ x => f x) {o : ℕ} (h1 : 63 ≤ o) (h2 : o ≤ 127) {sh : BitVec 32} (hsh : sh.toNat + o = 128) :
    H (tile (BitVec.ofNat 32 o) sh T) fun q j => f (o + j - q) := by
  unfold tile
  refine (H.cat5 (n := 128) (by norm_num) (x := ![_, _, _, _, _]) (f := fun k q x => f (128 * k + (o - q + x))) (fun k => ?_) _).congr fun q hq j hj => ?_
  · fin_cases k
    · exact piece hT h1 h2 hsh 0 _ _
    · exact piece hT h1 h2 hsh 128 _ _
    · exact piece hT h1 h2 hsh 256 _ _
    · exact piece hT h1 h2 hsh 384 _ _
    · exact piece hT h1 h2 hsh 512 _ _
  · congr 1
    omega

/-! ## The four tiles -/

/-- The scaled table. -/
theorem pay2 {x : Vec Ideal S1x1x768 .f32} {f : ℕ → ℝ} (hx : ∀ i, x i = ((f (i 2).val : ℝ) : EReal)) : H (k0_pay2 x) fun _ y => f y * L := by
  unfold k0_pay2
  refine H.mul (f := fun _ y => f y) (g := fun _ _ => L) (fun i => ?_) (H.splat rfl)
  refine (shapeCast_apply _ shapeCasts_S1x1x768_S1x768 i (ValueIdx.ix3 (0 : Fin 1) (0 : Fin 1) (i 1)) ?_).trans (hx _)
  rw [Shape.rowMajor_val_two, Shape.rowMajor_val_three]
  have : (i 0).val < 1 := (i 0).isLt
  show ((0 : ℕ) * 1 + 0) * 768 + (i 1).val = (i 0).val * 768 + (i 1).val
  omega

theorem below : Bit (k0_pay6 (iota .tc S64x640 32 [1] iota_S64x640_d1_w32)) fun _ j => j < 576 := fun i => by
  show IntOp.cmpi .slt (iota .tc S64x640 32 [1] iota_S64x640_d1_w32 i) (BitVec.ofNat 32 576) = _
  rw [iota_single_apply]
  exact slt_word (lt_trans (i 1).isLt (by show 640 < _; norm_num)) (by norm_num)

theorem above : Bit (k0_pay8 (iota .tc S64x640 32 [1] iota_S64x640_d1_w32)) fun _ j => 64 ≤ j := fun i => by
  show IntOp.cmpi .sge (iota .tc S64x640 32 [1] iota_S64x640_d1_w32 i) (BitVec.ofNat 32 64) = _
  rw [iota_single_apply]
  exact sge_word (lt_trans (i 1).isLt (by show 640 < _; norm_num)) (by norm_num)

/-- The masked tile of the first chunk, and of the second. -/
def tile0 (T : FVec Ideal S1x768 .f32) : FVec Ideal S64x640 .f32 :=
  select (k0_pay6 (iota .tc S64x640 32 [1] iota_S64x640_d1_w32)) (tile 127#32 1#32 T) (broadcast S64x640 (Named.named κ "mask" 0xF149F2CA#32))
def tile1 (T : FVec Ideal S1x768 .f32) : FVec Ideal S64x640 .f32 :=
  select (k0_pay8 (iota .tc S64x640 32 [1] iota_S64x640_d1_w32)) (tile 63#32 65#32 T) (broadcast S64x640 (Named.named κ "mask" 0xF149F2CA#32))

/-- The bias as stored, from the two heads' scaled tables. -/
def bias (T U : FVec Ideal S1x768 .f32) : FVec Ideal S640x256 .f32 :=
  shapeCast S640x256 (transpose S640x256 [1, 0] (concatenate S256x640 0 [⟨S64x640, tile0 T⟩, ⟨S64x640, tile1 T⟩, ⟨S64x640, tile0 U⟩, ⟨S64x640, tile1 U⟩]
    concatenates_S64x640_S64x640_S64x640_S64x640_S256x640_d0) transposes_S256x640_p1_0_S640x256) shapeCasts_S640x256_S640x256

/-- The kernel's word for the stored bias. -/
def biasWord (x y : Vec Ideal S1x1x768 .f32) : FVec Ideal S640x256 .f32 :=
  k0_pay19 (iota .tc S64x128 32 [0] iota_S64x128_d0_w32) (iota .tc S64x128 32 [1] iota_S64x128_d1_w32) (k0_pay3 x)
    (k0_pay4 (iota .tc S64x128 32 [0] iota_S64x128_d0_w32) (iota .tc S64x128 32 [1] iota_S64x128_d1_w32) (iota .tc S64x640 32 [1] iota_S64x640_d1_w32) (k0_pay2 x))
    (k0_pay5 y)
    (k0_pay7 (iota .tc S64x128 32 [0] iota_S64x128_d0_w32) (iota .tc S64x128 32 [1] iota_S64x128_d1_w32) (k0_pay5 y) (k0_pay6 (iota .tc S64x640 32 [1] iota_S64x640_d1_w32)))
    (k0_pay8 (iota .tc S64x640 32 [1] iota_S64x640_d1_w32)) (k0_pay9 (k0_pay5 y)) (k0_pay10 (k0_pay5 y)) (k0_pay11 (k0_pay5 y))

theorem biasWord_eq (x y : Vec Ideal S1x1x768 .f32) : biasWord x y = bias (k0_pay2 x) (k0_pay2 y) := rfl

/-- The table that the call is given: the pair's two heads, in 768 columns. -/
def table (A : Args) (h x : ℕ) : ℝ := if 64 ≤ x ∧ x < 703 then A.rel h (x - 575) else 0

theorem biasWord_holds {A : Args} {p : ℕ} {x y : Vec Ideal S1x1x768 .f32} (hx : ∀ i, x i = ((table A (2 * p) (i 2).val : ℝ) : EReal))
    (hy : ∀ i, y i = ((table A (2 * p + 1) (i 2).val : ℝ) : EReal)) : Bias A p (biasWord x y) := by
  rw [biasWord_eq]
  have hd : ∀ (T : FVec Ideal S1x768 .f32) (h : ℕ), (H T fun _ z => table A h z * L) →
      HE (tile0 T) (fun q j => masked (j < 576) (table A h (127 + j - q) * L)) ∧ HE (tile1 T) (fun q j => masked (64 ≤ j) (table A h (63 + j - q) * L)) := fun T h hT =>
    ⟨HE.choose below (H.toE (tile_holds (o := 127) hT (by norm_num) (by norm_num) rfl)) (fun _ => rfl),
     HE.choose above (H.toE (tile_holds (o := 63) hT (by norm_num) (by norm_num) rfl)) (fun _ => rfl)⟩
  have hT := hd _ _ (pay2 hx)
  have hU := hd _ _ (pay2 hy)
  have hc := HE.rows4 (n := 64) (by norm_num) (x := ![tile0 (k0_pay2 x), tile1 (k0_pay2 x), tile0 (k0_pay2 y), tile1 (k0_pay2 y)])
    (f := fun k q j => if k % 2 = 0 then masked (j < 576) (table A (2 * p + k / 2) (127 + j - q) * L) else masked (64 ≤ j) (table A (2 * p + k / 2) (63 + j - q) * L))
    (fun k => by
      fin_cases k
      · exact hT.1
      · exact hT.2
      · exact hU.1
      · exact hU.2) concatenates_S64x640_S64x640_S64x640_S64x640_S256x640_d0
  intro i
  have hj : (i 0).val < 640 := (i 0).isLt
  have hl : (i 1).val < 256 := (i 1).isLt
  refine (shapeCast_apply _ shapeCasts_S640x256_S640x256 i i rfl).trans ?_
  obtain ⟨j, l, rfl⟩ : ∃ j l, i = ValueIdx.ix2 j l := ⟨i 0, i 1, ValueIdx.eq_ix2 i⟩
  refine (transpose_apply _ _ _ (ValueIdx.ix2 j l) (ValueIdx.ix2 l j) (fun a => ?_)).trans ((hc _).trans ?_)
  · match a with
    | ⟨0, _⟩ => rfl
    | ⟨1, _⟩ => rfl
  · show (if l.val / 64 % 2 = 0 then masked (j.val < 576) (table A (2 * p + l.val / 64 / 2) (127 + j.val - l.val % 64) * L)
      else masked (64 ≤ j.val) (table A (2 * p + l.val / 64 / 2) (63 + j.val - l.val % 64) * L)) = masked (InBand j.val l.val) (laneBias A p j.val l.val * L)
    change l.val < 256 at hl
    change j.val < 640 at hj
    generalize l.val = l at hl
    generalize j.val = j at hj
    have e1 : l / 64 / 2 = l / 128 := by omega
    rw [e1]
    have hm : l / 64 % 2 = 0 ∨ l / 64 % 2 = 1 := by omega
    unfold laneBias table masked
    rcases hm with hm | hm
    · rw [if_pos hm]
      by_cases h : j < 576
      · have hb : InBand j l := ⟨by omega, by omega⟩
        have e2 : 127 + j - l % 64 - 575 = j - 64 * (l / 64 % 2) - (448 + l % 64) := by omega
        rw [if_pos h, if_pos hb, if_pos (by omega), e2]
      · have hb : ¬ InBand j l := fun hb => by obtain ⟨a, b⟩ := hb; omega
        rw [if_neg h, if_neg hb]
    · rw [if_neg (by omega)]
      by_cases h : 64 ≤ j
      · have hb : InBand j l := ⟨by omega, by omega⟩
        have e2 : 63 + j - l % 64 - 575 = j - 64 * (l / 64 % 2) - (448 + l % 64) := by omega
        rw [if_pos h, if_pos hb, if_pos (by omega), e2]
      · have hb : ¬ InBand j l := fun hb => by obtain ⟨a, b⟩ := hb; omega
        rw [if_neg h, if_neg hb]

end Cert.Kernel3Ideal.Tile
-- ==== Proof.K3Block.lean ====
/-
  The pieces that a grid point of `attn_fwd` writes: the bands of keys and values that it carries, and its 16 supers.
-/
module

public import proofs.«01_k».proof.Proof.K3Bias
public import proofs.«01_k».proof.Proof.KStep
public import Idealize.ShloMosaic.Lib.WritesUnit

@[expose] public section

set_option maxRecDepth 16384

noncomputable section

namespace Cert.Kernel3Ideal.Tile

open Idealize.ShloMosaic Idealize.ShloMosaic.TcCoe Idealize.SL.Sem Idealize.ShloMosaic.ValueIdx
open Cert.Kernel3Ideal Cert.Kernel3Ideal.Gen Cert.Holds Cert.Spec3 Cert.Consts Cert.Boxes
open scoped BigOperators
open Finset (range)

/-! ## Reads of writes -/

section
variable {R C : ℕ} {sig : RefSig} {κ : Kind} {sp : Space}

theorem H.readCov {L : List (View.Piece (Elt Ideal) ⟨2, ![R, C]⟩ .bf16)} {v : View sig κ sp ⟨2, ![R, C]⟩ .bf16} {f : ℕ → ℕ → ℝ} {a b n m : ℕ} {inb}
    (h : H (View.canon L : (⟨2, ![R, C]⟩ : Shape).Idx → EReal) f) :
    H (R := n) (C := m) (v.readCov L (Rect.unit (s := ⟨2, ![R, C]⟩) ![a, b] ![n, m] inb).toLoadRect) fun r c => f (a + r) (b + c) := fun j => by
  rw [readCov_apply]
  have e := h ((Rect.unit (s := ⟨2, ![R, C]⟩) ![a, b] ![n, m] inb).emb j)
  rw [emb_val (S := ⟨2, ![R, C]⟩) ![a, b] ![n, m] inb j 0, emb_val (S := ⟨2, ![R, C]⟩) ![a, b] ![n, m] inb j 1] at e
  exact e

theorem HE.readCov {L : List (View.Piece (Elt Ideal) ⟨2, ![R, C]⟩ .f32)} {v : View sig κ sp ⟨2, ![R, C]⟩ .f32} {f : ℕ → ℕ → EReal} {a b n m : ℕ} {inb}
    (h : HE (View.canon L : (⟨2, ![R, C]⟩ : Shape).Idx → EReal) f) :
    HE (R := n) (C := m) (v.readCov L (Rect.unit (s := ⟨2, ![R, C]⟩) ![a, b] ![n, m] inb).toLoadRect) fun r c => f (a + r) (b + c) := fun j => by
  rw [readCov_apply]
  have e := h ((Rect.unit (s := ⟨2, ![R, C]⟩) ![a, b] ![n, m] inb).emb j)
  rw [emb_val (S := ⟨2, ![R, C]⟩) ![a, b] ![n, m] inb j 0, emb_val (S := ⟨2, ![R, C]⟩) ![a, b] ![n, m] inb j 1] at e
  exact e

theorem H.load {x : Vec Ideal ⟨2, ![R, C]⟩ .bf16} {f : ℕ → ℕ → ℝ} {a b n m : ℕ} {inb} (h : H x f) :
    H (R := n) (C := m) (View.ld (Val := Elt Ideal) x (Rect.unit ![a, b] ![n, m] inb)) fun r c => f (a + r) (b + c) :=
  H.ld16 a b h inb

theorem HE.load {x : Vec Ideal ⟨2, ![R, C]⟩ .f32} {f : ℕ → ℕ → EReal} {a b n m : ℕ} {inb} (h : HE x f) :
    HE (R := n) (C := m) (View.ld (Val := Elt Ideal) x (Rect.unit ![a, b] ![n, m] inb)) fun r c => f (a + r) (b + c) := fun j => by
  rw [View.ld_unit]
  exact h _
end

/-- Writes that cover, each holding `T` where it lies, leave `T`. -/
theorem canon_good {Val : EltTy → Type} [∀ e, Nonempty (Val e)] {e : EltTy} {S : Shape} {T : S.Idx → Val e} :
    ∀ {L : List (View.Piece Val S e)} (hg : ∀ pc ∈ L, ∀ j, pc.2 j = T (pc.1.emb j)) (i : S.Idx) (hi : ∃ pc ∈ L, i ∈ pc.1.set), View.canon L i = T i
  | [], _, _, hi => by obtain ⟨_, h, _⟩ := hi; exact absurd h (List.not_mem_nil)
  | pc :: L, hg, i, hi => by
    by_cases h : i ∈ pc.1.set
    · obtain ⟨j, hj⟩ := pc.1.toLoadRect.exists_idx_of_mem h
      subst hj
      obtain ⟨r, w⟩ := pc
      exact (View.canon_cons_emb r w L j).trans (hg _ (List.mem_cons_self ..) j)
    · rw [View.canon_cons_of_not_mem _ _ h]
      refine canon_good (fun q hq => hg q (List.mem_cons_of_mem _ hq)) i ?_
      obtain ⟨q, hq, hq'⟩ := hi
      rcases List.mem_cons.mp hq with rfl | hq
      · exact absurd hq' h
      · exact ⟨q, hq, hq'⟩

section
variable {G R C : ℕ} {e : EltTy} {Val : EltTy → Type} [∀ e, Nonempty (Val e)]

/-- The writes `L` leave `T` in member `a` of the one stack. -/
def Part (L : List (View.Piece Val ⟨4, ![1, G, R, C]⟩ e)) (a : ℕ) (T : ℕ → ℕ → Val e) : Prop :=
  ∀ i, (i 1).val = a → View.canon L i = T (i 2).val (i 3).val

theorem Part.hit {a : ℕ} {T : ℕ → ℕ → Val e} {L : List (View.Piece Val ⟨4, ![1, G, R, C]⟩ e)} {inb}
    {w : (⟨4, ![1, 1, R, C]⟩ : Shape).Idx → Val e} (h : ∀ j, w j = T (j 2).val (j 3).val) :
    Part ((⟨Rect.unit ![0, a, 0, 0] ![1, 1, R, C] inb, w⟩ : View.Piece Val ⟨4, ![1, G, R, C]⟩ e) :: L) a T := fun i hi => by
  have hj : i = (Rect.unit (s := ⟨4, ![1, G, R, C]⟩) ![0, a, 0, 0] ![1, 1, R, C] inb).emb (ValueIdx.ix4 (0 : Fin 1) (0 : Fin 1) (i 2) (i 3)) := funext fun ax => Fin.ext (by
    rw [emb_val]
    match ax with
    | ⟨0, _⟩ => have : (i 0).val < 1 := (i 0).isLt; show (i 0).val = 0 + 0; omega
    | ⟨1, _⟩ => exact hi
    | ⟨2, _⟩ => exact (Nat.zero_add _).symm
    | ⟨3, _⟩ => exact (Nat.zero_add _).symm)
  conv_lhs => rw [hj]
  rw [View.canon_cons_emb]
  exact h _

theorem Part.miss {a g : ℕ} {T : ℕ → ℕ → Val e} {L : List (View.Piece Val ⟨4, ![1, G, R, C]⟩ e)} {inb}
    {w : (⟨4, ![1, 1, R, C]⟩ : Shape).Idx → Val e} (n : a ≠ g) (h : Part L a T) :
    Part ((⟨Rect.unit ![0, g, 0, 0] ![1, 1, R, C] inb, w⟩ : View.Piece Val ⟨4, ![1, G, R, C]⟩ e) :: L) a T := fun i hi => by
  rw [View.canon_cons_of_not_mem]
  · exact h i hi
  · intro hm
    have := (Rect.mem_set_unit (inb := inb).mp hm) 1
    simp at this
    omega

theorem Part.read {a : ℕ} {T : ℕ → ℕ → Val e} {L : List (View.Piece Val ⟨4, ![1, G, R, C]⟩ e)} {inb}
    {sig : RefSig} {κ : Kind} {sp : Space} {v : View sig κ sp ⟨4, ![1, G, R, C]⟩ e} (h : Part L a T) :
    ∀ j : (⟨4, ![1, 1, R, C]⟩ : Shape).Idx, v.readCov L (Rect.unit (s := ⟨4, ![1, G, R, C]⟩) ![0, a, 0, 0] ![1, 1, R, C] inb).toLoadRect j = T (j 2).val (j 3).val := fun j => by
  rw [readCov_apply, h _ (by
    rw [emb_val]
    have : (j 1).val < 1 := (j 1).isLt
    show a + (j 1).val = a
    omega), emb_val, emb_val]
  show T (0 + (j 2).val) (0 + (j 3).val) = _
  rw [Nat.zero_add, Nat.zero_add]

end

/-! ## The bands -/

variable {A : Args} {p n : ℕ}

/-- The bands of grid step `n`: 2048 positions of the step before and its own. -/
abbrev KBand (A : Args) (p n : ℕ) (x : S4096x256.Idx → EReal) : Prop := H x fun r c => keyBand A p (2048 * n + r) c
abbrev VBand (A : Args) (p n : ℕ) (x : S128x4096.Idx → EReal) : Prop := H x fun c r => valBand A p (2048 * n + r) c

/-- The writes of the keys' band at the first step. -/
def keys0 (k : Vec Ideal S2048x128 .bf16) : List (View.Piece (Elt Ideal) S4096x256 .bf16) :=
  [⟨Rect.unit ![2048, 0] ![2048, 128] inb_S4096x256_S2048x128_2048_0, k0_pay15 (View.ld k (Rect.unit ![0, 0] ![2048, 128] inb_S2048x128_S2048x128_0_0))⟩,
   ⟨Rect.unit ![2048, 128] ![2048, 128] inb_S4096x256_S2048x128_2048_128, k0_pay13 (F := Ideal)⟩,
   ⟨Rect.unit ![0, 0] ![2048, 256] inb_S4096x256_S2048x256_0_0, k0_pay12 (F := Ideal)⟩]

/-- Of the values' band, at the first step and after. -/
def vals0 (v : Vec Ideal S2048x128 .bf16) : List (View.Piece (Elt Ideal) S128x4096 .bf16) :=
  [⟨Rect.unit ![0, 2048] ![128, 2048] inb_S128x4096_S128x2048_0_2048, k0_pay18 (View.ld v (Rect.unit ![0, 0] ![2048, 128] inb_S2048x128_S2048x128_0_0))⟩,
   ⟨Rect.unit ![0, 0] ![128, 2048] inb_S128x4096_S128x2048_0_0, k0_pay16 (F := Ideal)⟩]
def vals1 (v : Vec Ideal S2048x128 .bf16) (x : Vec Ideal S128x4096 .bf16) : List (View.Piece (Elt Ideal) S128x4096 .bf16) :=
  [⟨Rect.unit ![0, 2048] ![128, 2048] inb_S128x4096_S128x2048_0_2048, k0_pay18 (View.ld v (Rect.unit ![0, 0] ![2048, 128] inb_S2048x128_S2048x128_0_0))⟩,
   ⟨Rect.unit ![0, 0] ![128, 2048] inb_S128x4096_S128x2048_0_0, k0_pay17 (View.ld x (Rect.unit ![0, 2048] ![128, 2048] inb_S128x4096_S128x2048_0_2048))⟩]

/-- Of the keys' band after the first step. -/
def keys1 (k : Vec Ideal S2048x128 .bf16) (x : Vec Ideal S4096x256 .bf16) : List (View.Piece (Elt Ideal) S4096x256 .bf16) :=
  [⟨Rect.unit ![2048, 0] ![2048, 128] inb_S4096x256_S2048x128_2048_0, k0_pay15 (View.ld k (Rect.unit ![0, 0] ![2048, 128] inb_S2048x128_S2048x128_0_0))⟩,
   ⟨Rect.unit ![0, 0] ![2048, 256] inb_S4096x256_S2048x256_0_0, k0_pay14 (View.ld x (Rect.unit ![2048, 0] ![2048, 256] inb_S4096x256_S2048x256_2048_0))⟩]

section
variable {k v : Vec Ideal S2048x128 .bf16} (hk : H k fun r c => A.k (2048 * n + r) (128 * p + c)) (hv : H v fun r c => A.v (2048 * n + r) (128 * p + c))
include hk in
theorem key_piece : H (k0_pay15 (View.ld k (Rect.unit ![0, 0] ![2048, 128] inb_S2048x128_S2048x128_0_0))) fun r c => A.k (2048 * n + r) (128 * p + c) := by
  unfold k0_pay15
  exact ((H.load hk).cast _).congr fun r hr c hc => by rw [Nat.zero_add, Nat.zero_add]

include hv in
theorem val_piece : H (k0_pay18 (View.ld v (Rect.unit ![0, 0] ![2048, 128] inb_S2048x128_S2048x128_0_0))) fun c r => A.v (2048 * n + r) (128 * p + c) := by
  unfold k0_pay18
  exact (((H.load hv).transpose _).cast _).congr fun r hr c hc => by rw [Nat.zero_add, Nat.zero_add]

theorem mark : H (k0_pay12 (F := Ideal)) fun r c => if c = 128 then 1 else 0 := by
  unfold k0_pay12
  have hb : Bit (cmpi .eq (iota .tc S2048x256 32 [1] iota_S2048x256_d1_w32) (broadcast S2048x256 128#32)) fun _ c => c = 128 := fun i => by
    show IntOp.cmpi .eq (iota .tc S2048x256 32 [1] iota_S2048x256_d1_w32 i) (BitVec.ofNat 32 128) = _
    rw [iota_single_apply]
    exact eq_word (lt_trans (i 1).isLt (by show 256 < _; norm_num)) (by norm_num)
  exact ((H.choose hb (H.splat c1) (H.splat c0)).truncf _).cast _

/-- A box's members. -/
theorem mem_box {R C a b n m : ℕ} {inb} {y : (⟨2, ![R, C]⟩ : Shape).Idx} (h0 : a ≤ (y 0).val ∧ (y 0).val < a + n) (h1 : b ≤ (y 1).val ∧ (y 1).val < b + m) :
    y ∈ (Rect.unit (s := ⟨2, ![R, C]⟩) ![a, b] ![n, m] inb).set :=
  Rect.mem_set_unit.mpr fun ax => match ax with
    | ⟨0, _⟩ => h0
    | ⟨1, _⟩ => h1

theorem keys_cover {k : Vec Ideal S2048x128 .bf16} (y : S4096x256.Idx) : ∃ pc ∈ keys0 k, y ∈ pc.1.set := by
  have y0 : (y 0).val < 4096 := (y 0).isLt
  have y1 : (y 1).val < 256 := (y 1).isLt
  unfold keys0
  by_cases h : 2048 ≤ (y 0).val
  · by_cases h' : (y 1).val < 128
    · exact ⟨_, List.mem_cons_self .., mem_box (inb := inb_S4096x256_S2048x128_2048_0) ⟨h, by omega⟩ ⟨Nat.zero_le _, by omega⟩⟩
    · exact ⟨_, List.mem_cons_of_mem _ (List.mem_cons_self ..), mem_box (inb := inb_S4096x256_S2048x128_2048_128) ⟨h, by omega⟩ ⟨by omega, by omega⟩⟩
  · exact ⟨_, List.mem_cons_of_mem _ (List.mem_cons_of_mem _ (List.mem_cons_self ..)), mem_box (inb := inb_S4096x256_S2048x256_0_0) ⟨Nat.zero_le _, by omega⟩ ⟨Nat.zero_le _, by omega⟩⟩

theorem band_K0 {k : Vec Ideal S2048x128 .bf16} (hk : H k fun r c => A.k (2048 * 0 + r) (128 * p + c)) : KBand A p 0 (View.canon (keys0 k)) := fun i => by
  refine canon_good (T := fun i => ((keyBand A p (2048 * 0 + (i 0).val) (i 1).val : ℝ) : EReal)) ?_ i (keys_cover i)
  refine List.forall_mem_cons.mpr ⟨fun j => ?_, List.forall_mem_cons.mpr ⟨fun j => ?_, List.forall_mem_cons.mpr ⟨fun j => ?_, fun _ h => absurd h List.not_mem_nil⟩⟩⟩
  · refine (key_piece hk j).trans ?_
    have h1 : (j 1).val < 128 := (j 1).isLt
    dsimp only
    rw [emb_val, emb_val]
    show _ = ((keyBand A p (2048 * 0 + (2048 + (j 0).val)) (0 + (j 1).val) : ℝ) : EReal)
    unfold keyBand
    rw [if_pos (by omega), if_pos (by omega)]
    congr 2 <;> omega
  · have h1 : (j 1).val < 128 := (j 1).isLt
    have hz : H (k0_pay13 (F := Ideal)) fun _ _ => 0 := H.cast (H.splat czero16) _
    refine (hz j).trans ?_
    dsimp only
    rw [emb_val, emb_val]
    show _ = ((keyBand A p (2048 * 0 + (2048 + (j 0).val)) (128 + (j 1).val) : ℝ) : EReal)
    unfold keyBand
    rw [if_neg (by omega), if_neg (by omega)]
  · have h0 : (j 0).val < 2048 := (j 0).isLt
    refine (mark j).trans ?_
    dsimp only
    rw [emb_val, emb_val]
    show _ = ((keyBand A p (2048 * 0 + (0 + (j 0).val)) (0 + (j 1).val) : ℝ) : EReal)
    unfold keyBand
    rw [Nat.zero_add, Nat.zero_add]
    congr 1
    by_cases h : (j 1).val < 128
    · rw [if_pos h, if_neg (by omega), if_neg (by omega)]
    · rw [if_neg h]
      by_cases h' : (j 1).val = 128
      · rw [if_pos h', if_pos ⟨h', by omega⟩]
      · rw [if_neg h', if_neg (fun z => h' z.1)]

theorem vals_cover {a b} (y : S128x4096.Idx) : ∃ pc ∈ [(⟨Rect.unit ![0, 2048] ![128, 2048] inb_S128x4096_S128x2048_0_2048, a⟩ : View.Piece (Elt Ideal) S128x4096 .bf16),
    ⟨Rect.unit ![0, 0] ![128, 2048] inb_S128x4096_S128x2048_0_0, b⟩], y ∈ pc.1.set := by
  have y0 : (y 0).val < 128 := (y 0).isLt
  have y1 : (y 1).val < 4096 := (y 1).isLt
  by_cases h : 2048 ≤ (y 1).val
  · exact ⟨_, List.mem_cons_self .., mem_box (inb := inb_S128x4096_S128x2048_0_2048) ⟨Nat.zero_le _, by omega⟩ ⟨h, by omega⟩⟩
  · exact ⟨_, List.mem_cons_of_mem _ (List.mem_cons_self ..), mem_box (inb := inb_S128x4096_S128x2048_0_0) ⟨Nat.zero_le _, by omega⟩ ⟨Nat.zero_le _, by omega⟩⟩

include hv in
theorem band_V {x : Vec Ideal S128x2048 .bf16} (hx : H x fun c r => valBand A p (2048 * n + r) c) {L} (hL : L = [(⟨Rect.unit ![0, 2048] ![128, 2048] inb_S128x4096_S128x2048_0_2048, k0_pay18 (View.ld v (Rect.unit ![0, 0] ![2048, 128] inb_S2048x128_S2048x128_0_0))⟩ : View.Piece (Elt Ideal) S128x4096 .bf16),
   ⟨Rect.unit ![0, 0] ![128, 2048] inb_S128x4096_S128x2048_0_0, x⟩]) :
    VBand A p n (View.canon L) := fun i => by
  subst hL
  refine canon_good (T := fun i => ((valBand A p (2048 * n + (i 1).val) (i 0).val : ℝ) : EReal)) ?_ i (vals_cover i)
  refine List.forall_mem_cons.mpr ⟨fun j => ?_, List.forall_mem_cons.mpr ⟨fun j => ?_, fun _ h => absurd h List.not_mem_nil⟩⟩
  · refine (val_piece hv j).trans ?_
    dsimp only
    rw [emb_val, emb_val]
    show _ = ((valBand A p (2048 * n + (2048 + (j 1).val)) (0 + (j 0).val) : ℝ) : EReal)
    unfold valBand
    rw [if_pos (by omega)]
    congr 2 <;> omega
  · refine (hx j).trans ?_
    dsimp only
    rw [emb_val, emb_val]
    show _ = ((valBand A p (2048 * n + (0 + (j 1).val)) (0 + (j 0).val) : ℝ) : EReal)
    rw [Nat.zero_add, Nat.zero_add]

theorem band_V0 {v : Vec Ideal S2048x128 .bf16} (hv : H v fun r c => A.v (2048 * 0 + r) (128 * p + c)) : VBand A p 0 (View.canon (vals0 v)) :=
  band_V (x := k0_pay16 (F := Ideal)) hv (H.congr (H.cast (H.splat czero16) shapeCasts_S128x2048_S128x2048) fun c hc r hr => by
    unfold valBand; rw [if_neg (by omega)]) rfl

include hv in
theorem band_V1 {x : Vec Ideal S128x4096 .bf16} {n' : ℕ} (hn : n = n' + 1) (hx : VBand A p n' x) :
    VBand A p n (View.canon (vals1 v x)) :=
  band_V (x := k0_pay17 (View.ld x (Rect.unit ![0, 2048] ![128, 2048] inb_S128x4096_S128x2048_0_2048))) hv (H.congr (H.cast (H.load hx) shapeCasts_S128x2048_S128x2048) fun c hc r hr => by
    rw [hn]
    congr 1 <;> ring) rfl

include hk in
theorem band_K1 {x : Vec Ideal S4096x256 .bf16} {n' : ℕ} (hn : n = n' + 1) (hx : KBand A p n' x) {sg : RefSig} {κ : Kind} {sp : Space}
    {V : View sg κ sp S4096x256 .bf16} {f} (hf : View.read (Elt Ideal) V f = x) :
    KBand A p n (View.read (Elt Ideal) V (V.writes (Elt Ideal) f (keys1 k x))) := fun i => by
  have i0 : (i 0).val < 4096 := (i 0).isLt
  have i1 : (i 1).val < 256 := (i 1).isLt
  have hs : H (k0_pay14 (View.ld x (Rect.unit ![2048, 0] ![2048, 256] inb_S4096x256_S2048x256_2048_0))) fun r c => keyBand A p (2048 * n + r) c :=
    H.congr (H.cast (H.load hx) shapeCasts_S2048x256_S2048x256) fun r hr c hc => by
      subst hn
      congr 1 <;> ring
  unfold keys1
  by_cases hr : 2048 ≤ (i 0).val
  · by_cases hc : (i 1).val < 128
    · refine (View.read_writes_cons_unit_of_mem V f inb_S4096x256_S2048x128_2048_0 _ _ i (ValueIdx.ix2 (⟨(i 0).val - 2048, show (i 0).val - 2048 < 2048 by omega⟩ : Fin 2048) (⟨(i 1).val, hc⟩ : Fin 128)) rfl (fun a => by
        match a with
        | ⟨0, _⟩ => show (i 0).val = 2048 + ((i 0).val - 2048); omega
        | ⟨1, _⟩ => exact (Nat.zero_add _).symm)).trans ?_
      refine (key_piece hk _).trans ?_
      dsimp only
      unfold keyBand
      rw [if_pos hc, if_pos (by omega)]
      show ((A.k (2048 * n + ((i 0).val - 2048)) (128 * p + (i 1).val) : ℝ) : EReal) = _
      congr 2; omega
    · rw [View.read_writes_cons_unit_of_not_mem V f _ _ _ i rfl 1 (Or.inr (by show 0 + 128 ≤ (i 1).val; omega)),
        View.read_writes_cons_unit_of_not_mem V f _ _ _ i rfl 0 (Or.inr (by show 0 + 2048 ≤ (i 0).val; omega))]
      show V.read (Elt Ideal) f i = _
      rw [hf, hx]
      dsimp only
      unfold keyBand
      rw [if_neg hc, if_neg hc, if_neg (by omega), if_neg (by omega)]
  · rw [View.read_writes_cons_unit_of_not_mem V f _ _ _ i rfl 0 (Or.inl (by show (i 0).val < 2048; omega))]
    refine (View.read_writes_cons_unit_of_mem V f inb_S4096x256_S2048x256_0_0 _ _ i (ValueIdx.ix2 (⟨(i 0).val, show (i 0).val < 2048 by omega⟩ : Fin 2048) (⟨(i 1).val, i1⟩ : Fin 256)) rfl (fun a => by
        match a with
        | ⟨0, _⟩ => exact (Nat.zero_add _).symm
        | ⟨1, _⟩ => exact (Nat.zero_add _).symm)).trans ?_
    exact hs _
end

/-! ## A super: 128 queries, their weights, inverses and outputs -/

/-- What stands in the four outputs at grid step `n` of pair `p`. -/
def outT (A : Args) (p n : ℕ) (i : S2048x128.Idx) : EReal := ((out A (2048 * n + (i 0).val) (128 * p + (i 1).val) : ℝ) : EReal)
def gatedT (A : Args) (p n : ℕ) (i : S2048x128.Idx) : EReal := ((gated A (2048 * n + (i 0).val) (128 * p + (i 1).val) : ℝ) : EReal)
def savedT (A : Args) (p n : ℕ) (i : S1x16x640x256.Idx) : EReal := ((saved A p (16 * n + (i 1).val) (i 2).val (i 3).val : ℝ) : EReal)
def inverseT (A : Args) (p n : ℕ) (i : S1x16x8x256.Idx) : EReal := ((inverse A p (16 * n + (i 1).val) (i 3).val : ℝ) : EReal)

section
variable {sc o o' : ℕ} {kb : Vec Ideal S640x256 .bf16} {q g : Vec Ideal S128x128 .bf16} {vb : Vec Ideal S128x640 .bf16} {b : Vec Ideal S640x256 .f32}
  {e : Vec Ideal S1x1x640x256 .bf16}

/-- What a super reads of the bands, of its queries and of the bias. -/
abbrev KRead (A : Args) (p n o : ℕ) (x : S640x256.Idx → EReal) : Prop := H x fun r c => keyBand A p (2048 * n + (o + r)) (0 + c)
abbrev VRead (A : Args) (p n o : ℕ) (x : S128x640.Idx → EReal) : Prop := H x fun c r => valBand A p (2048 * n + (o + r)) (0 + c)
abbrev QRead (f : ℕ → ℕ → ℝ) (p n o : ℕ) (x : S128x128.Idx → EReal) : Prop := H x fun r c => f (2048 * n + (o + r)) (128 * p + (0 + c))
abbrev BRead (A : Args) (p : ℕ) (x : S640x256.Idx → EReal) : Prop := HE x fun j l => masked (InBand (0 + j) (0 + l)) (laneBias A p (0 + j) (0 + l) * L)

variable (ho : o = 128 * sc) (ho' : o' = 1536 + o) (hk : KRead A p n o' kb) (hq : QRead A.q p n o q) (hb : BRead A p b)

include ho ho' hk in
theorem keys_of : Keys A p (16 * n + sc) kb := H.congr hk fun r _ c _ => by
  subst ho ho'
  congr 1 <;> ring

include ho hq in
theorem qrys_of : Qrys A p (16 * n + sc) q := H.congr hq fun r _ c _ => by
  subst ho
  congr 1 <;> ring

include hb in
theorem bias_of : Bias A p b := fun i => by
  have := hb i
  simp only [Nat.zero_add] at this
  exact this

include ho ho' in
theorem vals_of (hv : VRead A p n o' vb) : Vals A p (16 * n + sc) vb := H.congr hv fun r _ c _ => by
  subst ho ho'
  congr 1 <;> ring

include ho ho' hk hq hb in
theorem weights_of : H4 (k0_pay22 kb (k0_pay20 q) b) (saved A p (16 * n + sc)) :=
  pay22 (keys_of ho ho' hk) (qrys_of ho hq) (bias_of hb)

include ho ho' hk hq hb in
theorem putE {inb} (j) : k0_pay22 kb (k0_pay20 q) b j = savedT A p n ((Rect.unit (s := S1x16x640x256) ![0, sc, 0, 0] ![1, 1, 640, 256] inb).emb j) := by
  refine (weights_of ho ho' hk hq hb j).trans ?_
  unfold savedT
  rw [emb_val, emb_val, emb_val]
  have : (j 1).val < 1 := (j 1).isLt
  show ((saved A p (16 * n + sc) (j 2).val (j 3).val : ℝ) : EReal) = ((saved A p (16 * n + (sc + (j 1).val)) (0 + (j 2).val) (0 + (j 3).val) : ℝ) : EReal)
  rw [Nat.zero_add, Nat.zero_add, show (j 1).val = 0 by omega, Nat.add_zero]

include ho ho' hk hq hb in
theorem putI {inb} (j) : k0_pay24 kb (k0_pay20 q) b j = inverseT A p n ((Rect.unit (s := S1x16x8x256) ![0, sc, 0, 0] ![1, 1, 8, 256] inb).emb j) := by
  refine (pay24 (keys_of ho ho' hk) (qrys_of ho hq) (bias_of hb) j).trans ?_
  unfold inverseT
  rw [emb_val, emb_val]
  have : (j 1).val < 1 := (j 1).isLt
  show ((inverse A p (16 * n + sc) (j 3).val : ℝ) : EReal) = ((inverse A p (16 * n + (sc + (j 1).val)) (0 + (j 3).val) : ℝ) : EReal)
  rw [Nat.zero_add, show (j 1).val = 0 by omega, Nat.add_zero]

variable (hv : VRead A p n o' vb) (he : ∀ j, e j = ((saved A p (16 * n + sc) (j 2).val (j 3).val : ℝ) : EReal))
include ho ho' hk hq hb hv he

theorem putA {inb} (j) : k0_pay31 (k0_pay23 kb (k0_pay20 q) b) vb e j = outT A p n ((Rect.unit (s := S2048x128) ![o, 0] ![128, 128] inb).emb j) := by
  refine (pay31 (pay23 (keys_of ho ho' hk) (qrys_of ho hq) (bias_of hb)) (vals_of ho ho' hv) he j).trans ?_
  unfold outT
  rw [emb_val, emb_val]
  show ((out A (128 * (16 * n + sc) + (j 0).val) (128 * p + (j 1).val) : ℝ) : EReal) = ((out A (2048 * n + (o + (j 0).val)) (128 * p + (0 + (j 1).val)) : ℝ) : EReal)
  subst ho
  congr 2 <;> ring

theorem putY (hg : QRead A.g p n o g) {inb} (j) :
    k0_pay32 (k0_pay23 kb (k0_pay20 q) b) vb e g j = gatedT A p n ((Rect.unit (s := S2048x128) ![o, 0] ![128, 128] inb).emb j) := by
  have hg' : H g fun r c => A.g (128 * (16 * n + sc) + r) (128 * p + c) := H.congr hg fun r _ c _ => by
    subst ho
    congr 1 <;> ring
  refine (pay32 (pay23 (keys_of ho ho' hk) (qrys_of ho hq) (bias_of hb)) (vals_of ho ho' hv) he hg' j).trans ?_
  unfold gatedT
  rw [emb_val, emb_val]
  show ((gated A (128 * (16 * n + sc) + (j 0).val) (128 * p + (j 1).val) : ℝ) : EReal) = ((gated A (2048 * n + (o + (j 0).val)) (128 * p + (0 + (j 1).val)) : ℝ) : EReal)
  subst ho
  congr 2 <;> ring
end

/-- What is read back of the weights of super `sc`, right after they are written. -/
def Back (A : Args) (p n sc : ℕ) (L : List (View.Piece (Elt Ideal) S1x16x640x256 .bf16)) : Prop :=
  Part (Val := Elt Ideal) (e := .bf16) L sc fun j l => ((saved A p (16 * n + sc) j l : ℝ) : EReal)

theorem Back.read {sc : ℕ} {L : List (View.Piece (Elt Ideal) S1x16x640x256 .bf16)} {sg : RefSig} {κ : Kind} {sp : Space} {v : View sg κ sp S1x16x640x256 .bf16} {inb}
    (h : Back A p n sc L) (j) : v.readCov L (Rect.unit (s := S1x16x640x256) ![0, sc, 0, 0] ![1, 1, 640, 256] inb).toLoadRect j
      = ((saved A p (16 * n + sc) (j 2).val (j 3).val : ℝ) : EReal) := Part.read h j

theorem Back.hit {sc o o' : ℕ} {kb : Vec Ideal S640x256 .bf16} {q : Vec Ideal S128x128 .bf16} {b : Vec Ideal S640x256 .f32} (ho : o = 128 * sc) (ho' : o' = 1536 + o)
    (hk : KRead A p n o' kb) (hq : QRead A.q p n o q) (hb : BRead A p b) {L : List (View.Piece (Elt Ideal) S1x16x640x256 .bf16)} {inb} :
    Back A p n sc (⟨Rect.unit (s := S1x16x640x256) ![0, sc, 0, 0] ![1, 1, 640, 256] inb, k0_pay22 kb (k0_pay20 q) b⟩ :: L) :=
  Part.hit (Val := Elt Ideal) (e := .bf16) (weights_of ho ho' hk hq hb)

theorem Back.miss {sc g : ℕ} (h : sc ≠ g) {L : List (View.Piece (Elt Ideal) S1x16x640x256 .bf16)} {inb} {w} (hL : Back A p n sc L) :
    Back A p n sc (⟨Rect.unit (s := S1x16x640x256) ![0, g, 0, 0] ![1, 1, 640, 256] inb, w⟩ :: L) :=
  Part.miss (Val := Elt Ideal) (e := .bf16) h hL

end Cert.Kernel3Ideal.Tile
-- ==== Proof.K3Step.lean ====
/-
  What each grid point of `attn_fwd` leaves: its queries' outputs, weights and inverses, and the bands it carries.
-/
module

public import proofs.«01_k».proof.Proof.K3Block
public import proofs.«01_k».proof.Proof.Gen.Kernel3Ideal.Value

@[expose] public section

set_option maxRecDepth 16384

noncomputable section

namespace Cert.Kernel3Ideal.Tile

open Idealize.ShloMosaic Idealize.ShloMosaic.TcCoe Idealize.SL.Sem Idealize.ShloMosaic.ValueIdx
open Cert.Kernel3Ideal Cert.Kernel3Ideal.Gen Cert.Holds Cert.Spec3 Cert.Consts Cert.Boxes
open scoped BigOperators

variable (m : (ℓ : Loc nD τ sig) → Buf (Elt Ideal) ℓ) (c : Dev nD)

/-- What the blocks of grid point `t`, step `n` of pair `p`, hold. -/
structure Ins (A : Args) (p n : ℕ) (t : Fin cfg0.N) : Prop where
  q : H (R := 2048) (C := 128) (iblk m c 0 t) fun r k => A.q (2048 * n + r) (128 * p + k)
  k : H (R := 2048) (C := 128) (iblk m c 1 t) fun r k => A.k (2048 * n + r) (128 * p + k)
  v : H (R := 2048) (C := 128) (iblk m c 2 t) fun r k => A.v (2048 * n + r) (128 * p + k)
  g : H (R := 2048) (C := 128) (iblk m c 3 t) fun r k => A.g (2048 * n + r) (128 * p + k)
  rel : ∀ i : S1x2x768.Idx, (iblk m c 4 t : Vec Ideal S1x2x768 .f32) i = ((table A (2 * p + (i 1).val) (i 2).val : ℝ) : EReal)

/-- What stands after it. -/
structure Post (A : Args) (p n : ℕ) (t : ℕ) (ht : t < cfg0.N) : Prop where
  a : ∀ i, (outsAt0 m c t ht).1 i = outT A p n i
  ya : ∀ i, (outsAt0 m c t ht).2.1 i = gatedT A p n i
  e : ∀ i, (outsAt0 m c t ht).2.2.1 i = savedT A p n i
  inv : ∀ i, (outsAt0 m c t ht).2.2.2.1 i = inverseT A p n i
  kb : KBand A p n (outsAt0 m c t ht).2.2.2.2.1
  vb : VBand A p n (outsAt0 m c t ht).2.2.2.2.2.1
  bias : Bias A p (outsAt0 m c t ht).2.2.2.2.2.2

variable {m c} {A : Args} {p n : ℕ}

/-- The write of the bias at the first step. -/
def bias0 (x : Vec Ideal S1x2x768 .f32) : List (View.Piece (Elt Ideal) S640x256 .f32) :=
  [⟨Rect.unit ![0, 0] ![640, 256] inb_S640x256_S640x256_0_0,
    biasWord (View.ld x (Rect.unit ![0, 0, 0] ![1, 1, 768] inb_S1x2x768_S1x1x768_0_0_0)) (View.ld x (Rect.unit ![0, 1, 0] ![1, 1, 768] inb_S1x2x768_S1x1x768_0_1_0))⟩]

/-- What is read of writes that cover, each holding `T` where it lies, is `T`. -/
theorem good {e : EltTy} {S : Shape} {x T : S.Idx → Elt Ideal e} {L : List (View.Piece (Elt Ideal) S e)} (hx : x = View.canon L)
    (hc : ∀ i : S.Idx, ∃ pc ∈ L, i ∈ pc.1.set) (hg : ∀ pc ∈ L, ∀ j, pc.2 j = T (pc.1.emb j)) : ∀ i, x i = T i := fun i =>
  (congrFun hx i).trans (canon_good hg i (hc i))

theorem HE.eq {R C : ℕ} {x y : (⟨2, ![R, C]⟩ : Shape).Idx → EReal} {f : ℕ → ℕ → EReal} (e : x = y) (h : HE y f) : HE x f := e ▸ h

theorem hz2 : (![0, 0] : Fin 2 → ℕ) = fun _ => 0 := funext fun a => by fin_cases a <;> rfl

theorem bias0_holds {x : Vec Ideal S1x2x768 .f32} (hx : ∀ i, x i = ((table A (2 * p + (i 1).val) (i 2).val : ℝ) : EReal)) :
    Bias A p (View.canon (bias0 x)) := fun i => by
  unfold bias0
  rw [View.canon_cons_unit_zero (S := S640x256) hz2]
  refine biasWord_holds (fun i => ?_) (fun i => ?_) i
  all_goals
    rw [View.ld_unit]
    refine (hx _).trans ?_
    have : (i 1).val < 1 := (i 1).isLt
  · show ((table A (2 * p + (0 + (i 1).val)) (0 + (i 2).val) : ℝ) : EReal) = _
    rw [Nat.zero_add, Nat.zero_add, show (i 1).val = 0 by omega, Nat.add_zero]
  · show ((table A (2 * p + (1 + (i 1).val)) (0 + (i 2).val) : ℝ) : EReal) = _
    rw [Nat.zero_add, show (i 1).val = 0 by omega]

set_option maxHeartbeats 4000000

theorem post_A {t : Fin cfg0.N} (h0 : t.val % 4 = 0) (h1 : ¬1 ≤ t.val % 4) (hi : Ins m c A p 0 t) : Post m c A p 0 t.val t.isLt := by
  have hB : Bias A p (View.canon (bias0 (iblk m c 4 t))) := bias0_holds hi.rel
  have hK : KBand A p 0 (View.canon (keys0 (iblk m c 1 t))) := band_K0 hi.k
  have hV : VBand A p 0 (View.canon (vals0 (iblk m c 2 t))) := band_V0 hi.v
  constructor
  all_goals
    rw [outsAt0_A m c t h0 h1 h0 h1 h0]
    dsimp only
  on_goal 1 =>
    unfold out0_A_5
    refine good (View.read_writes_eq_canon _ _ _ (fun y => by exact cover0_A_5 ..)) (fun y => by exact cover0_A_5 ..) ?_
  rotate_left
  on_goal 1 =>
    unfold out0_A_6
    refine good (View.read_writes_eq_canon _ _ _ (fun y => by exact cover0_A_6 ..)) (fun y => by exact cover0_A_6 ..) ?_
  rotate_left
  on_goal 1 =>
    unfold out0_A_7
    refine good (View.read_writes_eq_canon _ _ _ (fun y => by exact cover0_A_7 ..)) (fun y => by exact cover0_A_7 ..) ?_
  rotate_left
  on_goal 1 =>
    unfold out0_A_8
    refine good (View.read_writes_eq_canon _ _ _ (fun y => by exact cover0_A_8 ..)) (fun y => by exact cover0_A_8 ..) ?_
  rotate_left
  on_goal 1 => unfold sout0_A_0; refine H.eq (View.read_writes_eq_canon _ _ _ (fun y => by exact scover0_A_0 ..)) ?_
  rotate_left
  on_goal 1 => unfold sout0_A_1; refine H.eq (View.read_writes_eq_canon _ _ _ (fun y => by exact scover0_A_1 ..)) ?_
  rotate_left
  on_goal 1 => unfold sout0_A_2; refine HE.eq (View.read_writes_eq_canon _ _ _ (fun y => by exact scover0_A_2 ..)) ?_
  rotate_left
  all_goals unfold kernelRun0_A
  all_goals dsimp only
  all_goals sl_unfold_words
  all_goals simp only [View.readAt_eq_ld, (hs0_0 t).read_unread, (hs0_1 t).read_unread, (hs0_2 t).read_unread, (hs0_3 t).read_unread,
      (hs0_4 t).read_unread, (Memref.isWhole_whole _).read_unread]
  · repeat' refine List.forall_mem_cons.mpr ⟨?_, ?_⟩
    all_goals first
      | exact fun _ h => absurd h List.not_mem_nil
      | refine putA (inb := by decide) (by rfl) (by rfl) (H.readCov hK) (H.load hi.q) (HE.readCov hB) (H.readCov hV) (Back.read ?_)
    · exact Back.hit (by rfl) (by rfl) (H.readCov hK) (H.load hi.q) (HE.readCov hB)
    all_goals exact Back.miss (by decide) (Back.hit (by rfl) (by rfl) (H.readCov hK) (H.load hi.q) (HE.readCov hB))
  · repeat' refine List.forall_mem_cons.mpr ⟨?_, ?_⟩
    all_goals first
      | exact fun _ h => absurd h List.not_mem_nil
      | refine putY (inb := by decide) (by rfl) (by rfl) (H.readCov hK) (H.load hi.q) (HE.readCov hB) (H.readCov hV) (Back.read ?_) (H.load hi.g)
    · exact Back.hit (by rfl) (by rfl) (H.readCov hK) (H.load hi.q) (HE.readCov hB)
    all_goals exact Back.miss (by decide) (Back.hit (by rfl) (by rfl) (H.readCov hK) (H.load hi.q) (HE.readCov hB))
  · repeat' refine List.forall_mem_cons.mpr ⟨?_, ?_⟩
    all_goals first
      | exact fun _ h => absurd h List.not_mem_nil
      | exact putE (inb := by decide) (by rfl) (by rfl) (H.readCov hK) (H.load hi.q) (HE.readCov hB)
  · repeat' refine List.forall_mem_cons.mpr ⟨?_, ?_⟩
    all_goals first
      | exact fun _ h => absurd h List.not_mem_nil
      | exact putI (inb := by decide) (by rfl) (by rfl) (H.readCov hK) (H.load hi.q) (HE.readCov hB)
  · exact hK
  · exact hV
  · exact hB

/-- The point before `t`. -/
abbrev before (t : Fin cfg0.N) : t.val - 1 < cfg0.N := Nat.lt_of_le_of_lt (Nat.sub_le _ _) t.isLt

theorem post_B {t : Fin cfg0.N} (h0 : ¬t.val % 4 = 0) (h1 : 1 ≤ t.val % 4) {n' : ℕ} (hn : n = n' + 1) (hi : Ins m c A p n t)
    (hp : Post m c A p n' (t.val - 1) (before t)) : Post m c A p n t.val t.isLt := by
  obtain ⟨_, _, _, _, pK, pV, hB⟩ := hp
  have hK {sg : RefSig} {κ : Kind} {sp : Space} {V : View sg κ sp S4096x256 .bf16} {f} (hf) := band_K1 hi.k hn pK (V := V) (f := f) hf
  have hV := band_V1 hi.v hn pV
  constructor
  all_goals
    rw [outsAt0_B m c t h0 h1 h0 h1 h0]
    dsimp only
  on_goal 1 =>
    unfold out0_B_5
    refine good (View.read_writes_eq_canon _ _ _ (fun y => by exact cover0_B_5 ..)) (fun y => by exact cover0_B_5 ..) ?_
  rotate_left
  on_goal 1 =>
    unfold out0_B_6
    refine good (View.read_writes_eq_canon _ _ _ (fun y => by exact cover0_B_6 ..)) (fun y => by exact cover0_B_6 ..) ?_
  rotate_left
  on_goal 1 =>
    unfold out0_B_7
    refine good (View.read_writes_eq_canon _ _ _ (fun y => by exact cover0_B_7 ..)) (fun y => by exact cover0_B_7 ..) ?_
  rotate_left
  on_goal 1 =>
    unfold out0_B_8
    refine good (View.read_writes_eq_canon _ _ _ (fun y => by exact cover0_B_8 ..)) (fun y => by exact cover0_B_8 ..) ?_
  rotate_left
  on_goal 1 => unfold sout0_B_0
  rotate_left
  on_goal 1 => unfold sout0_B_1; refine H.eq (View.read_writes_eq_canon _ _ _ (fun y => by exact scover0_B_1 ..)) ?_
  rotate_left
  on_goal 1 => unfold sout0_B_2
  rotate_left
  all_goals try unfold kernelRun0_B
  all_goals try dsimp only
  all_goals try sl_unfold_words
  all_goals try simp only [View.readAt_eq_ld, (hs0_0 t).read_unread, (hs0_1 t).read_unread, (hs0_2 t).read_unread, (hs0_3 t).read_unread,
      (hs0_4 t).read_unread, (Memref.isWhole_whole _).read_unread]
  · repeat' refine List.forall_mem_cons.mpr ⟨?_, ?_⟩
    all_goals first
      | exact fun _ h => absurd h List.not_mem_nil
      | refine putA (inb := by decide) (by rfl) (by rfl) (H.load (hK ((Memref.isWhole_whole _).read_unread _))) (H.load hi.q) (HE.load hB) (H.readCov hV) (Back.read ?_)
    · exact Back.hit (by rfl) (by rfl) (H.load (hK ((Memref.isWhole_whole _).read_unread _))) (H.load hi.q) (HE.load hB)
    all_goals exact Back.miss (by decide) (Back.hit (by rfl) (by rfl) (H.load (hK ((Memref.isWhole_whole _).read_unread _))) (H.load hi.q) (HE.load hB))
  · repeat' refine List.forall_mem_cons.mpr ⟨?_, ?_⟩
    all_goals first
      | exact fun _ h => absurd h List.not_mem_nil
      | refine putY (inb := by decide) (by rfl) (by rfl) (H.load (hK ((Memref.isWhole_whole _).read_unread _))) (H.load hi.q) (HE.load hB) (H.readCov hV) (Back.read ?_) (H.load hi.g)
    · exact Back.hit (by rfl) (by rfl) (H.load (hK ((Memref.isWhole_whole _).read_unread _))) (H.load hi.q) (HE.load hB)
    all_goals exact Back.miss (by decide) (Back.hit (by rfl) (by rfl) (H.load (hK ((Memref.isWhole_whole _).read_unread _))) (H.load hi.q) (HE.load hB))
  · repeat' refine List.forall_mem_cons.mpr ⟨?_, ?_⟩
    all_goals first
      | exact fun _ h => absurd h List.not_mem_nil
      | exact putE (inb := by decide) (by rfl) (by rfl) (H.load (hK ((Memref.isWhole_whole _).read_unread _))) (H.load hi.q) (HE.load hB)
  · repeat' refine List.forall_mem_cons.mpr ⟨?_, ?_⟩
    all_goals first
      | exact fun _ h => absurd h List.not_mem_nil
      | exact putI (inb := by decide) (by rfl) (by rfl) (H.load (hK ((Memref.isWhole_whole _).read_unread _))) (H.load hi.q) (HE.load hB)
  · exact hK ((Memref.isWhole_whole _).read_unread _)
  · exact hV
  · exact hB

end Cert.Kernel3Ideal.Tile
-- ==== Proof.K3Run.lean ====
/-
  `attn_fwd` over the grid: the table it is given, the blocks each point reads, and what stands after each point.
-/
module

public import proofs.«01_k».proof.Proof.K3Step
public import proofs.«01_k».proof.Proof.Inputs3
public import proofs.«01_k».proof.Proof.HostHolds2

@[expose] public section

set_option maxRecDepth 16384

noncomputable section

namespace Cert.Kernel3Ideal.Tile

open Idealize.ShloMosaic Idealize.ShloMosaic.TcCoe Idealize.SL.Sem
open Cert.Kernel3Ideal Cert.Kernel3Ideal.Gen Cert.Holds Cert.Spec3 Cert.Consts Cert.Boxes
open Idealize.ShloMosaic.ValueIdx hiding ix1 ix2 ix3 ix4
open scoped BigOperators

/-! ## The table -/

section Host

variable (x : FVec Ideal S1x8x129 .f32)

abbrev heads : FVec Ideal S8x129 .f32 := shapeCast S8x129 x shapeCasts_S1x8x129_S8x129
abbrev joined : FVec Ideal S8x639 .f32 :=
  concatenate S8x639 1 [⟨S8x511, broadcastInDim S8x511 ![0, 1] bcast_S8x1_S8x511_0_1 (extractStridedSlice S8x1 ![0, 0] (heads x) slices_S8x129_S8x1_0_0)⟩,
    ⟨S8x128, extractStridedSlice S8x128 ![0, 0] (heads x) slices_S8x129_S8x128_0_0⟩] concatenates_S8x511_S8x128_S8x639_d1
abbrev padded : FVec Ideal S8x768 .f32 :=
  pad S8x768 ![0, 64] ![0, 65] ![0, 0] (joined x) (sitofp (F := Ideal) .f32 (constantI S_ 32 0#32)) pads_S8x639_S8x768_000_64650 h_S_

variable {x} {A : Args} (hx : ∀ i : S1x8x129.Idx, x i = ((A.rel (i 1).val (i 2).val : ℝ) : EReal))
include hx

theorem heads_holds : H (heads x) fun h j => A.rel h j := H.of fun p q => (shapeCast_1ab_ab_apply _ _ _ _).trans (hx _)

theorem joined_holds : H (joined x) fun h j => A.rel h (j - 511) := by
  have hl : H (broadcastInDim S8x511 ![0, 1] bcast_S8x1_S8x511_0_1 (extractStridedSlice S8x1 ![0, 0] (heads x) slices_S8x129_S8x1_0_0)) fun h _ => A.rel h 0 := H.of fun p q => by
    refine (broadcastInDim_apply ![0, 1] _ _ (ValueIdx.ix2 p q) (ValueIdx.ix2 p (0 : Fin 1)) (fun a => by
      match a with
      | ⟨0, _⟩ => rfl
      | ⟨1, _⟩ => rfl)).trans ?_
    refine ((heads_holds hx).slice 0 0 _ _).trans ?_
    show ((A.rel (0 + p.val) (0 + 0) : ℝ) : EReal) = _
    rw [Nat.zero_add]
  have hr := (heads_holds hx).slice 0 0 slices_S8x129_S8x128_0_0
  refine (H.catCols hl hr _).congr fun h hh j hj => ?_
  by_cases e : j < 511
  · rw [if_pos e, Nat.sub_eq_zero_of_le (by omega)]
  · rw [if_neg e, Nat.zero_add, Nat.zero_add]

theorem padded_holds : H (padded x) fun h j => table A h j := fun i => by
  have i1 : (i 1).val < 768 := (i 1).isLt
  have i0 : (i 0).val < 8 := (i 0).isLt
  show pad S8x768 ![0, 64] ![0, 65] ![0, 0] (joined x) _ _ _ i = ((table A (i 0).val (i 1).val : ℝ) : EReal)
  unfold table pad
  split
  · next hin =>
    have h1 : 64 ≤ (i 1).val ∧ ((i 1).val - 64) % (0 + 1) = 0 ∧ ((i 1).val - 64) / (0 + 1) < 639 := hin 1
    simp only [Nat.zero_add, Nat.div_one] at h1
    rw [if_pos ⟨h1.1, by omega⟩]
    refine (joined_holds hx _).trans ?_
    show ((A.rel (((i 0).val - 0) / (0 + 1)) (((i 1).val - 64) / (0 + 1) - 511) : ℝ) : EReal) = _
    simp only [Nat.zero_add, Nat.div_one, Nat.sub_zero, Nat.sub_sub]
  · next hin =>
    rw [if_neg fun hle => hin fun k => by
      match k with
      | ⟨0, _⟩ => show 0 ≤ (i 0).val ∧ ((i 0).val - 0) % (0 + 1) = 0 ∧ ((i 0).val - 0) / (0 + 1) < 8; omega
      | ⟨1, _⟩ => show 64 ≤ (i 1).val ∧ ((i 1).val - 64) % (0 + 1) = 0 ∧ ((i 1).val - 64) / (0 + 1) < 639; omega]
    show (((0#32 : BitVec 32).toInt : ℝ) : EReal) = _
    simp

end Host

variable (m : (ℓ : Loc nD τ sig) → Buf (Elt Ideal) ℓ) (c : Dev nD)

theorem V_v6 : V m c main_v6 = shapeCast S4x2x768 (padded (m ((c : Thread nD τ).loc main_arg1) : S1x8x129.Idx → EReal)) shapeCasts_S8x768_S4x2x768 := by
  unfold V hostOps0 hostOps0_1 hostOps0_2
  simp only [List.flatten_cons, List.flatten_nil, List.cons_append, List.nil_append, List.append_nil]
  after_results
  rfl

/-! ## The blocks -/

theorem at_rows : ∀ t : Fin cfg0.N,
    (win0_0.index t 0 = t.val % 4 ∧ win0_0.index t 1 = 8 + t.val / 4) ∧ (win0_1.index t 0 = t.val % 4 ∧ win0_1.index t 1 = 12 + t.val / 4)
    ∧ (win0_2.index t 0 = t.val % 4 ∧ win0_2.index t 1 = 16 + t.val / 4) ∧ (win0_3.index t 0 = t.val % 4 ∧ win0_3.index t 1 = 20 + t.val / 4)
    ∧ (win0_4.index t 0 = t.val / 4 ∧ win0_4.index t 1 = 0 ∧ win0_4.index t 2 = 0) := by decide +kernel

variable {m} {c} {A : Args}

/-- An entry of columns `o` on, read by its place. -/
theorem cut_of {x : S8192x3072.Idx → EReal} {f : ℕ → ℕ → ℝ} {o w r k : ℕ}
    (h : ∀ i : S8192x3072.Idx, o ≤ (i 1).val → (i 1).val < o + w → x i = ((f (i 0).val ((i 1).val - o) : ℝ) : EReal)) {i : S8192x3072.Idx} (hk : k < w)
    (h0 : (i 0).val = r) (h1 : (i 1).val = o + k) : x i = ((f r k : ℝ) : EReal) := by
  rw [h i (by omega) (by omega), h0, h1, Nat.add_sub_cancel_left]

/-- The arrays of memory `m` hold `A`. -/
abbrev In (m : (ℓ : Loc nD τ sig) → Buf (Elt Ideal) ℓ) (c : Dev nD) (A : Args) : Prop :=
  Reads A (m ((c : Thread nD τ).loc main_arg0)) (m ((c : Thread nD τ).loc main_arg1))

section

variable (hA : In m c A) (t : Fin cfg0.N)
include hA

theorem ins : Ins m c A (t.val / 4) (t.val % 4) t := by
  obtain ⟨⟨q0, q1⟩, ⟨k0, k1⟩, ⟨v0, v1⟩, ⟨g0, g1⟩, r0, r1, r2⟩ := at_rows t
  have ht : t.val < 16 := t.isLt
  have hg : ∀ i : S8192x3072.Idx, 2560 ≤ (i 1).val → (i 1).val < 2560 + 512 →
      (m ((c : Thread nD τ).loc main_arg0) : S8192x3072.Idx → EReal) i = ((A.g (i 0).val ((i 1).val - 2560) : ℝ) : EReal) := fun i h _ => hA.g i h
  constructor
  · refine fun j => (congrFun (V_main_arg0 m c) _).trans (cut_of (o := 1024) (w := 512) hA.q (k := 128 * (t.val / 4) + (j 1).val) ?_ ?_ ?_)
    · have : (j 1).val < 128 := (j 1).isLt
      omega
    · show win0_0.index t 0 * 2048 + 1 * (j 0).val = _; rw [q0]; omega
    · show win0_0.index t 1 * 128 + 1 * (j 1).val = _; rw [q1]; omega
  · refine fun j => (congrFun (V_main_arg0 m c) _).trans (cut_of (o := 1536) (w := 512) hA.k (k := 128 * (t.val / 4) + (j 1).val) ?_ ?_ ?_)
    · have : (j 1).val < 128 := (j 1).isLt
      omega
    · show win0_1.index t 0 * 2048 + 1 * (j 0).val = _; rw [k0]; omega
    · show win0_1.index t 1 * 128 + 1 * (j 1).val = _; rw [k1]; omega
  · refine fun j => (congrFun (V_main_arg0 m c) _).trans (cut_of (o := 2048) (w := 512) hA.v (k := 128 * (t.val / 4) + (j 1).val) ?_ ?_ ?_)
    · have : (j 1).val < 128 := (j 1).isLt
      omega
    · show win0_2.index t 0 * 2048 + 1 * (j 0).val = _; rw [v0]; omega
    · show win0_2.index t 1 * 128 + 1 * (j 1).val = _; rw [v1]; omega
  · refine fun j => (congrFun (V_main_arg0 m c) _).trans (cut_of (o := 2560) (w := 512) hg (k := 128 * (t.val / 4) + (j 1).val) ?_ ?_ ?_)
    · have : (j 1).val < 128 := (j 1).isLt
      omega
    · show win0_3.index t 0 * 2048 + 1 * (j 0).val = _; rw [g0]; omega
    · show win0_3.index t 1 * 128 + 1 * (j 1).val = _; rw [g1]; omega
  · intro i
    have i0 : (i 0).val < 1 := (i 0).isLt
    have i1 : (i 1).val < 2 := (i 1).isLt
    have i2 : (i 2).val < 768 := (i 2).isLt
    refine (congrFun (V_v6 m c) _).trans ?_
    refine (shapeCast_apply _ shapeCasts_S8x768_S4x2x768 (((cfg0.win 4).blk t).view.emb i : S4x2x768.Idx) (ValueIdx.ix2 (⟨2 * (t.val / 4) + (i 1).val, by omega⟩ : Fin 8) (⟨(i 2).val, i2⟩ : Fin 768)) (by
      rw [Shape.rowMajor_val_two, Shape.rowMajor_val_three]
      show (2 * (t.val / 4) + (i 1).val) * 768 + (i 2).val
        = ((win0_4.index t 0 * 1 + 1 * (i 0).val) * 2 + (win0_4.index t 1 * 2 + 1 * (i 1).val)) * 768 + (win0_4.index t 2 * 768 + 1 * (i 2).val)
      rw [r0, r1, r2]
      omega)).trans ?_
    exact padded_holds hA.rel _

/-! ## All the points -/

theorem post : ∀ (n : ℕ) (hn : n < cfg0.N), Post m c A (n / 4) (n % 4) n hn
  | 0, hn => post_A (t := ⟨0, hn⟩) rfl (by show ¬1 ≤ 0 % 4; decide) (ins hA ⟨0, hn⟩)
  | n + 1, hn => by
    have hp := post n (Nat.lt_of_succ_lt hn)
    have hi := ins hA ⟨n + 1, hn⟩
    by_cases h : (n + 1) % 4 = 0
    · rw [h]
      have hi' : Ins m c A ((n + 1) / 4) 0 ⟨n + 1, hn⟩ := by rw [← h]; exact hi
      exact post_A (t := ⟨n + 1, hn⟩) h (by show ¬1 ≤ (n + 1) % 4; omega) hi'
    · have e : n / 4 = (n + 1) / 4 := by omega
      rw [e] at hp
      exact post_B (t := ⟨n + 1, hn⟩) h (by show 1 ≤ (n + 1) % 4; omega) (n' := n % 4) (by omega) hi hp

end

end Cert.Kernel3Ideal.Tile
-- ==== Proof.K3Out.lean ====
/-
  The four results of `attn_fwd`, from its arguments.
-/
module

public import proofs.«01_k».proof.Proof.K3Run

@[expose] public section

set_option maxRecDepth 16384

noncomputable section

namespace Cert.Kernel3Ideal.Tile

open Idealize.ShloMosaic Idealize.ShloMosaic.TcCoe Idealize.SL.Sem
open Cert.Kernel3Ideal Cert.Kernel3Ideal.Gen Cert.Kernel3Ideal.Value Cert.Holds Cert.Spec3

variable {m : (ℓ : Loc nD τ sig) → Buf (Elt Ideal) ℓ} {c : Dev nD} {A : Args}

/-! ## Where the blocks lie -/

/-- The point of pair `p` and step `n`. -/
def pt (p n : ℕ) (hp : p < 4) (hn : n < 4) : Fin cfg0.N := ⟨4 * p + n, lt_of_lt_of_eq (b := 16) (by omega) N_0.symm⟩

theorem index5 (t : Fin cfg0.N) : win0_5.index t = ![t.val % 4, t.val / 4] := (by decide +kernel : ∀ t : Fin grid0.N, win0_5.index t = ![t.val % 4, t.val / 4]) t
theorem index6 (t : Fin cfg0.N) : win0_6.index t = ![t.val % 4, t.val / 4] := (by decide +kernel : ∀ t : Fin grid0.N, win0_6.index t = ![t.val % 4, t.val / 4]) t
theorem index7 (t : Fin cfg0.N) : win0_7.index t = ![t.val / 4, t.val % 4, 0, 0] := (by decide +kernel : ∀ t : Fin grid0.N, win0_7.index t = ![t.val / 4, t.val % 4, 0, 0]) t
theorem index8 (t : Fin cfg0.N) : win0_8.index t = ![t.val / 4, t.val % 4, 0, 0] := (by decide +kernel : ∀ t : Fin grid0.N, win0_8.index t = ![t.val / 4, t.val % 4, 0, 0]) t
theorem flush5 (t : Fin cfg0.N) : (cfg0.win 5).flush t = true := (by decide +kernel : ∀ t : Fin grid0.N, win0_5.flush t = true) t
theorem flush6 (t : Fin cfg0.N) : (cfg0.win 6).flush t = true := (by decide +kernel : ∀ t : Fin grid0.N, win0_6.flush t = true) t
theorem flush7 (t : Fin cfg0.N) : (cfg0.win 7).flush t = true := (by decide +kernel : ∀ t : Fin grid0.N, win0_7.flush t = true) t
theorem flush8 (t : Fin cfg0.N) : (cfg0.win 8).flush t = true := (by decide +kernel : ∀ t : Fin grid0.N, win0_8.flush t = true) t

theorem mem5 (t : Fin cfg0.N) (i : S8192x512.Idx) (h : ∀ a : Fin 2, win0_5.index t a * S2048x128.size a ≤ (i a).val ∧ (i a).val < win0_5.index t a * S2048x128.size a + S2048x128.size a) :
    i ∈ ((cfg0.win 5).blk t).view.set := by
  show i ∈ ((View.whole main_v7_0).slice (win0_5.rect t)).set
  rw [View.set_slice_whole, Rect.mem_set_unit]
  exact h

theorem mem6 (t : Fin cfg0.N) (i : S8192x512.Idx) (h : ∀ a : Fin 2, win0_6.index t a * S2048x128.size a ≤ (i a).val ∧ (i a).val < win0_6.index t a * S2048x128.size a + S2048x128.size a) :
    i ∈ ((cfg0.win 6).blk t).view.set := by
  show i ∈ ((View.whole main_v7_1).slice (win0_6.rect t)).set
  rw [View.set_slice_whole, Rect.mem_set_unit]
  exact h

theorem mem7 (t : Fin cfg0.N) (i : S4x64x640x256.Idx) (h : ∀ a : Fin 4, win0_7.index t a * S1x16x640x256.size a ≤ (i a).val ∧ (i a).val < win0_7.index t a * S1x16x640x256.size a + S1x16x640x256.size a) :
    i ∈ ((cfg0.win 7).blk t).view.set := by
  show i ∈ ((View.whole main_v7_2).slice (win0_7.rect t)).set
  rw [View.set_slice_whole, Rect.mem_set_unit]
  exact h

theorem mem8 (t : Fin cfg0.N) (i : S4x64x8x256.Idx) (h : ∀ a : Fin 4, win0_8.index t a * S1x16x8x256.size a ≤ (i a).val ∧ (i a).val < win0_8.index t a * S1x16x8x256.size a + S1x16x8x256.size a) :
    i ∈ ((cfg0.win 8).blk t).view.set := by
  show i ∈ ((View.whole main_v7_3).slice (win0_8.rect t)).set
  rw [View.set_slice_whole, Rect.mem_set_unit]
  exact h

theorem saved_congr {p p' s s' j j' l l' : ℕ} (hp : p = p') (hs : s = s') (hj : j = j') (hl : l = l') :
    ((saved A p s j l : ℝ) : EReal) = ((saved A p' s' j' l' : ℝ) : EReal) := by rw [hp, hs, hj, hl]

variable (hA : In m c A)
include hA

theorem out_a : H ((dats m 0 c).arrAt 5 cfg0.N : S8192x512.Idx → EReal) fun r k => out A r k := by
  refine (dats m 0 c).arrAt_forall_of_cover 5 (fun i v => v = ((out A (i 0).val (i 1).val : ℝ) : EReal)) (fun t hf y => ?_) (fun i => ?_)
  · have e0 : (((cfg0.win 5).blk t).view.emb y 0).val = win0_5.index t (0 : Fin 2) * 2048 + 1 * (y 0).val := rfl
    have e1 : (((cfg0.win 5).blk t).view.emb y 1).val = win0_5.index t (1 : Fin 2) * 128 + 1 * (y 1).val := rfl
    rw [index5] at e0 e1
    rw [flushed5]
    refine ((post hA t.val t.isLt).a ((cfg0.win 5).xinj (grid0.coords t) y)).trans ?_
    rw [e0, e1]
    show ((out A (2048 * (t.val % 4) + (y 0).val) (128 * (t.val / 4) + (y 1).val) : ℝ) : EReal)
      = ((out A (t.val % 4 * 2048 + 1 * (y 0).val) (t.val / 4 * 128 + 1 * (y 1).val) : ℝ) : EReal)
    rw [Nat.mul_comm 2048, Nat.one_mul, Nat.mul_comm 128, Nat.one_mul]
  · have h0 : (i 0).val < 8192 := (i 0).isLt
    have h1 : (i 1).val < 512 := (i 1).isLt
    refine ⟨pt ((i 1).val / 128) ((i 0).val / 2048) (by omega) (by omega), flush5 _, mem5 _ i fun a => ?_⟩
    rw [index5]
    match a with
    | ⟨0, _⟩ => show (4 * ((i 1).val / 128) + (i 0).val / 2048) % 4 * 2048 ≤ (i 0).val ∧ (i 0).val < (4 * ((i 1).val / 128) + (i 0).val / 2048) % 4 * 2048 + 2048; omega
    | ⟨1, _⟩ => show (4 * ((i 1).val / 128) + (i 0).val / 2048) / 4 * 128 ≤ (i 1).val ∧ (i 1).val < (4 * ((i 1).val / 128) + (i 0).val / 2048) / 4 * 128 + 128; omega

theorem out_ya : H ((dats m 0 c).arrAt 6 cfg0.N : S8192x512.Idx → EReal) fun r k => gated A r k := by
  refine (dats m 0 c).arrAt_forall_of_cover 6 (fun i v => v = ((gated A (i 0).val (i 1).val : ℝ) : EReal)) (fun t hf y => ?_) (fun i => ?_)
  · have e0 : (((cfg0.win 6).blk t).view.emb y 0).val = win0_6.index t (0 : Fin 2) * 2048 + 1 * (y 0).val := rfl
    have e1 : (((cfg0.win 6).blk t).view.emb y 1).val = win0_6.index t (1 : Fin 2) * 128 + 1 * (y 1).val := rfl
    rw [index6] at e0 e1
    rw [flushed6]
    refine ((post hA t.val t.isLt).ya ((cfg0.win 6).xinj (grid0.coords t) y)).trans ?_
    rw [e0, e1]
    show ((gated A (2048 * (t.val % 4) + (y 0).val) (128 * (t.val / 4) + (y 1).val) : ℝ) : EReal)
      = ((gated A (t.val % 4 * 2048 + 1 * (y 0).val) (t.val / 4 * 128 + 1 * (y 1).val) : ℝ) : EReal)
    rw [Nat.mul_comm 2048, Nat.one_mul, Nat.mul_comm 128, Nat.one_mul]
  · have h0 : (i 0).val < 8192 := (i 0).isLt
    have h1 : (i 1).val < 512 := (i 1).isLt
    refine ⟨pt ((i 1).val / 128) ((i 0).val / 2048) (by omega) (by omega), flush6 _, mem6 _ i fun a => ?_⟩
    rw [index6]
    match a with
    | ⟨0, _⟩ => show (4 * ((i 1).val / 128) + (i 0).val / 2048) % 4 * 2048 ≤ (i 0).val ∧ (i 0).val < (4 * ((i 1).val / 128) + (i 0).val / 2048) % 4 * 2048 + 2048; omega
    | ⟨1, _⟩ => show (4 * ((i 1).val / 128) + (i 0).val / 2048) / 4 * 128 ≤ (i 1).val ∧ (i 1).val < (4 * ((i 1).val / 128) + (i 0).val / 2048) / 4 * 128 + 128; omega

theorem out_e (i : S4x64x640x256.Idx) : ((dats m 0 c).arrAt 7 cfg0.N : S4x64x640x256.Idx → EReal) i = ((saved A (i 0).val (i 1).val (i 2).val (i 3).val : ℝ) : EReal) := by
  revert i
  refine (dats m 0 c).arrAt_forall_of_cover 7 (fun i v => v = ((saved A (i 0).val (i 1).val (i 2).val (i 3).val : ℝ) : EReal)) (fun t hf y => ?_) (fun i => ?_)
  · have e0 : (((cfg0.win 7).blk t).view.emb y 0).val = win0_7.index t (0 : Fin 4) * 1 + 1 * (y 0).val := rfl
    have e1 : (((cfg0.win 7).blk t).view.emb y 1).val = win0_7.index t (1 : Fin 4) * 16 + 1 * (y 1).val := rfl
    have e2 : (((cfg0.win 7).blk t).view.emb y 2).val = win0_7.index t (2 : Fin 4) * 640 + 1 * (y 2).val := rfl
    have e3 : (((cfg0.win 7).blk t).view.emb y 3).val = win0_7.index t (3 : Fin 4) * 256 + 1 * (y 3).val := rfl
    have y0 : (y 0).val < 1 := (y 0).isLt
    rw [index7] at e0 e1 e2 e3
    rw [flushed7]
    refine ((post hA t.val t.isLt).e ((cfg0.win 7).xinj (grid0.coords t) y)).trans ?_
    refine saved_congr ?_ ?_ ?_ ?_
    · refine Eq.trans ?_ e0.symm; show t.val / 4 = t.val / 4 * 1 + 1 * (y 0).val; omega
    · refine Eq.trans ?_ e1.symm; show 16 * (t.val % 4) + (y 1).val = t.val % 4 * 16 + 1 * (y 1).val; omega
    · refine Eq.trans ?_ e2.symm; show (y 2).val = 0 * 640 + 1 * (y 2).val; omega
    · refine Eq.trans ?_ e3.symm; show (y 3).val = 0 * 256 + 1 * (y 3).val; omega
  · have h0 : (i 0).val < 4 := (i 0).isLt
    have h1 : (i 1).val < 64 := (i 1).isLt
    have h2 : (i 2).val < 640 := (i 2).isLt
    have h3 : (i 3).val < 256 := (i 3).isLt
    refine ⟨pt (i 0).val ((i 1).val / 16) h0 (by omega), flush7 _, mem7 _ i fun a => ?_⟩
    rw [index7]
    match a with
    | ⟨0, _⟩ => show (4 * (i 0).val + (i 1).val / 16) / 4 * 1 ≤ (i 0).val ∧ (i 0).val < (4 * (i 0).val + (i 1).val / 16) / 4 * 1 + 1; omega
    | ⟨1, _⟩ => show (4 * (i 0).val + (i 1).val / 16) % 4 * 16 ≤ (i 1).val ∧ (i 1).val < (4 * (i 0).val + (i 1).val / 16) % 4 * 16 + 16; omega
    | ⟨2, _⟩ => show 0 * 640 ≤ (i 2).val ∧ (i 2).val < 0 * 640 + 640; omega
    | ⟨3, _⟩ => show 0 * 256 ≤ (i 3).val ∧ (i 3).val < 0 * 256 + 256; omega

theorem out_inv (i : S4x64x8x256.Idx) : ((dats m 0 c).arrAt 8 cfg0.N : S4x64x8x256.Idx → EReal) i = ((inverse A (i 0).val (i 1).val (i 3).val : ℝ) : EReal) := by
  revert i
  refine (dats m 0 c).arrAt_forall_of_cover 8 (fun i v => v = ((inverse A (i 0).val (i 1).val (i 3).val : ℝ) : EReal)) (fun t hf y => ?_) (fun i => ?_)
  · have e0 : (((cfg0.win 8).blk t).view.emb y 0).val = win0_8.index t (0 : Fin 4) * 1 + 1 * (y 0).val := rfl
    have e1 : (((cfg0.win 8).blk t).view.emb y 1).val = win0_8.index t (1 : Fin 4) * 16 + 1 * (y 1).val := rfl
    have e2 : (((cfg0.win 8).blk t).view.emb y 2).val = win0_8.index t (2 : Fin 4) * 8 + 1 * (y 2).val := rfl
    have e3 : (((cfg0.win 8).blk t).view.emb y 3).val = win0_8.index t (3 : Fin 4) * 256 + 1 * (y 3).val := rfl
    have y0 : (y 0).val < 1 := (y 0).isLt
    rw [index8] at e0 e1 e2 e3
    rw [flushed8]
    refine ((post hA t.val t.isLt).inv ((cfg0.win 8).xinj (grid0.coords t) y)).trans ?_
    unfold inverseT
    simp only [e0, e1, e2, e3]
    show ((inverse A (t.val / 4) (16 * (t.val % 4) + (y 1).val) (y 3).val : ℝ) : EReal)
      = ((inverse A (t.val / 4 * 1 + 1 * (y 0).val) (t.val % 4 * 16 + 1 * (y 1).val) (0 * 256 + 1 * (y 3).val) : ℝ) : EReal)
    congr 2 <;> omega
  · have h0 : (i 0).val < 4 := (i 0).isLt
    have h1 : (i 1).val < 64 := (i 1).isLt
    have h2 : (i 2).val < 8 := (i 2).isLt
    have h3 : (i 3).val < 256 := (i 3).isLt
    refine ⟨pt (i 0).val ((i 1).val / 16) h0 (by omega), flush8 _, mem8 _ i fun a => ?_⟩
    rw [index8]
    match a with
    | ⟨0, _⟩ => show (4 * (i 0).val + (i 1).val / 16) / 4 * 1 ≤ (i 0).val ∧ (i 0).val < (4 * (i 0).val + (i 1).val / 16) / 4 * 1 + 1; omega
    | ⟨1, _⟩ => show (4 * (i 0).val + (i 1).val / 16) % 4 * 16 ≤ (i 1).val ∧ (i 1).val < (4 * (i 0).val + (i 1).val / 16) % 4 * 16 + 16; omega
    | ⟨2, _⟩ => show 0 * 8 ≤ (i 2).val ∧ (i 2).val < 0 * 8 + 8; omega
    | ⟨3, _⟩ => show 0 * 256 ≤ (i 3).val ∧ (i 3).val < 0 * 256 + 256; omega

end Cert.Kernel3Ideal.Tile
-- ==== Proof.R3.lean ====
/-
  The reference of `attn_fwd`, up to the scores: its inputs, the band of keys of each chunk, the bias and the mask.
-/
module

public import proofs.«01_k».proof.Proof.HostHolds2
public import proofs.«01_k».proof.Proof.RPool
public import proofs.«01_k».proof.Proof.Inputs3
public import proofs.«01_k».proof.Proof.Gen.Reference3Ideal.Read

@[expose] public section

set_option maxRecDepth 16384

noncomputable section

namespace Cert.Reference3Ideal.Calc

open Idealize.ShloMosaic Idealize.ShloMosaic.TcCoe Idealize.SL.Sem Idealize.ShloMosaic.StableHlo
open Cert.Reference3Ideal Cert.Reference3Ideal.Gen Cert.Reference3Ideal.Read Cert.Holds Cert.Consts Cert.Spec3
open Cert.ReferenceIdeal.Calc (toInt_small)
open Idealize.ShloMosaic.ValueIdx
open scoped BigOperators

/-! ## Words -/

theorem toInt_neg_small {n : ℕ} (h : n < 2 ^ 31) : (-BitVec.ofNat 32 n).toInt = -(n : ℤ) := by
  rw [← Int.neg_inj, neg_neg]
  rcases Nat.eq_zero_or_pos n with rfl | h0
  · rfl
  · rw [BitVec.toInt_neg_of_ne_intMin, toInt_small h, neg_neg]
    intro e
    have := congrArg BitVec.toInt e
    rw [toInt_small h] at this
    simp [BitVec.toInt_intMin] at this

theorem diff_word {a b : ℕ} (ha : a < 2 ^ 20) (hb : b < 2 ^ 20) : (BitVec.ofNat 32 a - BitVec.ofNat 32 b).toInt = (a : ℤ) - b := by
  by_cases h : b ≤ a
  · have e : BitVec.ofNat 32 a - BitVec.ofNat 32 b = BitVec.ofNat 32 (a - b) := by
      apply BitVec.eq_of_toNat_eq
      simp only [BitVec.toNat_sub, BitVec.toNat_ofNat]
      omega
    rw [e, toInt_small (by omega)]
    omega
  · have e : BitVec.ofNat 32 a - BitVec.ofNat 32 b = -BitVec.ofNat 32 (b - a) := by
      apply BitVec.eq_of_toNat_eq
      simp only [BitVec.toNat_sub, BitVec.toNat_neg, BitVec.toNat_ofNat]
      omega
    rw [e, toInt_neg_small (by omega)]
    omega

/-- The row of the bias table that the reference takes, for query `q` and band position `j`. -/
def relWord (j q : BitVec 32) : BitVec 32 :=
  let a := IntOp.minsi 64#32 (IntOp.maxsi 4294967232#32 (j - 512#32 - q)) + 64#32
  Scalar.select (IntOp.cmpi .slt a 0#32) (a + 129#32) a

theorem relWord_at {j q : ℕ} (hj : j < 576) (hq : q < 64) : relWord (BitVec.ofNat 32 j) (BitVec.ofNat 32 q) = BitVec.ofNat 32 (j - (448 + q)) := by
  have hd : (BitVec.ofNat 32 j - 512#32 - BitVec.ofNat 32 q) = BitVec.ofNat 32 j - BitVec.ofNat 32 (512 + q) := by
    apply BitVec.eq_of_toNat_eq
    simp only [BitVec.toNat_sub, BitVec.toNat_ofNat]
    omega
  have hi := diff_word (a := j) (b := 512 + q) (by omega) (by omega)
  unfold relWord
  rw [hd]
  have hc : IntOp.minsi 64#32 (IntOp.maxsi 4294967232#32 (BitVec.ofNat 32 j - BitVec.ofNat 32 (512 + q))) + 64#32 = BitVec.ofNat 32 (j - (448 + q)) := by
    have hm : IntOp.maxsi 4294967232#32 (BitVec.ofNat 32 j - BitVec.ofNat 32 (512 + q))
        = if j < 448 + q then 4294967232#32 else BitVec.ofNat 32 j - BitVec.ofNat 32 (512 + q) := by
      unfold IntOp.maxsi
      have e : (BitVec.ofNat 32 j - BitVec.ofNat 32 (512 + q)).slt 4294967232#32 = decide (j < 448 + q) := by
        rw [Bool.eq_iff_iff, BitVec.slt_iff_toInt_lt, hi, show (4294967232#32).toInt = -64 from by decide, decide_eq_true_iff]
        push_cast
        omega
      rw [e]
      simp
    rw [hm]
    split
    · next h =>
      rw [show j - (448 + q) = 0 by omega]
      decide
    · next h =>
      unfold IntOp.minsi
      rw [if_neg (by
        rw [BitVec.slt_iff_toInt_lt, hi, show (64#32).toInt = 64 from by decide]
        push_cast
        omega)]
      apply BitVec.eq_of_toNat_eq
      simp only [BitVec.toNat_add, BitVec.toNat_sub, BitVec.toNat_ofNat]
      omega
  rw [hc]
  have h0 : IntOp.cmpi .slt (BitVec.ofNat 32 (j - (448 + q))) 0#32 = 0#1 := by
    show BitVec.ofBool _ = _
    have : (BitVec.ofNat 32 (j - (448 + q))).slt 0#32 = false := by
      rw [← Bool.not_eq_true, BitVec.slt_iff_toInt_lt, toInt_small (by omega), show (0#32).toInt = 0 from by decide]
      omega
    rw [this]
    rfl
  show Scalar.select (IntOp.cmpi .slt (BitVec.ofNat 32 (j - (448 + q))) 0#32) _ _ = _
  rw [h0]
  rfl

theorem rel_at (i : S64x576.Idx) : val_main_v29 (F := Ideal) i = BitVec.ofNat 32 ((i 1).val - (448 + (i 0).val)) :=
  (show val_main_v29 (F := Ideal) i = relWord (BitVec.ofNat 32 (i 1).val) (BitVec.ofNat 32 (i 0).val) by
    rw [val_main_v29_apply, val_main_v26_apply, val_main_v28_apply, val_main_v24_apply, val_main_v25_apply, val_main_v27_apply, val_main_v22_apply,
      val_main_v23_apply, val_main_call0_v4_apply, val_main_call0_v2_apply, val_main_call0_v1_apply, val_main_v21_apply, val_main_v19_apply,
      val_main_v20_apply, val_main_v17_apply, val_main_v16_apply, val_main_v15_apply, val_main_v18_apply, val_main_v14_apply, val_main_v13_apply]
    rfl).trans (relWord_at (i 1).isLt (i 0).isLt)

/-- The mask's bit. -/
theorem sees_at (i : S128x576.Idx) :
    val_main_v63 (F := Ideal) i = BitVec.ofBool (decide (512 ≤ 64 * (i 0).val + (i 1).val)) := by
  have h0 : (i 0).val < 128 := (i 0).isLt
  have h1 : (i 1).val < 576 := (i 1).isLt
  rw [val_main_v63_apply, val_main_v61_apply, val_main_v62_apply, val_main_v59_apply, val_main_v60_apply, val_main_v57_apply, val_main_v58_apply,
    val_main_v55_apply, val_main_v56_apply, val_main_v53_apply, val_main_v54_apply, val_main_v52_apply, val_main_v14_apply]
  show BitVec.ofBool _ = _
  congr 1
  show (0#32).sle (BitVec.ofNat 32 (i 0).val * 64#32 + BitVec.ofNat 32 (i 1).val - 512#32) = _
  have e : BitVec.ofNat 32 (i 0).val * 64#32 + BitVec.ofNat 32 (i 1).val - 512#32 = BitVec.ofNat 32 (64 * (i 0).val + (i 1).val) - BitVec.ofNat 32 512 := by
    apply BitVec.eq_of_toNat_eq
    simp only [BitVec.toNat_sub, BitVec.toNat_ofNat, BitVec.toNat_add, BitVec.toNat_mul]
    omega
  rw [e, Bool.eq_iff_iff, BitVec.sle_iff_toInt_le, diff_word (by omega) (by omega), show (0#32).toInt = 0 from by decide, decide_eq_true_iff]
  push_cast
  omega

/-! ## The inputs -/

variable {A : Args} {x0 : FVec Ideal S8192x3072 .bf16} {x1 : FVec Ideal S1x8x129 .f32}

theorem q_holds (h : Reads A x0 x1) : HR (val_main_v3 (F := Ideal) x0) fun i => A.q (i 1).val (64 * (i 2).val + (i 3).val) := fun i => by
  have h0 : (i 0).val < 1 := (i 0).isLt
  have h1 : (i 1).val < 8192 := (i 1).isLt
  have h2 : (i 2).val < 8 := (i 2).isLt
  have h3 : (i 3).val < 64 := (i 3).isLt
  rw [val_main_v3_apply, val_main_v2_apply, val_main_v1_apply]
  refine (h.q _ ?_ ?_).trans (congrArg Real.toEReal (congrArg₂ A.q ?_ ?_)) <;>
    simp only [idx_main_v1, idx_main_v3] <;> omega

theorem k_holds (h : Reads A x0 x1) : HR (val_main_v6 (F := Ideal) x0) fun i => A.k (i 1).val (64 * (i 2).val + (i 3).val) := fun i => by
  have h0 : (i 0).val < 1 := (i 0).isLt
  have h1 : (i 1).val < 8192 := (i 1).isLt
  have h2 : (i 2).val < 8 := (i 2).isLt
  have h3 : (i 3).val < 64 := (i 3).isLt
  rw [val_main_v6_apply, val_main_v5_apply, val_main_v4_apply]
  refine (h.k _ ?_ ?_).trans (congrArg Real.toEReal (congrArg₂ A.k ?_ ?_)) <;>
    simp only [idx_main_v4, idx_main_v6] <;> omega

theorem v_holds (h : Reads A x0 x1) : HR (val_main_v9 (F := Ideal) x0) fun i => A.v (i 1).val (64 * (i 2).val + (i 3).val) := fun i => by
  have h0 : (i 0).val < 1 := (i 0).isLt
  have h1 : (i 1).val < 8192 := (i 1).isLt
  have h2 : (i 2).val < 8 := (i 2).isLt
  have h3 : (i 3).val < 64 := (i 3).isLt
  rw [val_main_v9_apply, val_main_v8_apply, val_main_v7_apply]
  refine (h.v _ ?_ ?_).trans (congrArg Real.toEReal (congrArg₂ A.v ?_ ?_)) <;>
    simp only [idx_main_v7, idx_main_v9] <;> omega

/-! ## The bias -/

theorem gather_at {α : Type} (x : S8x129.Idx → α) (idx : IVec S64x576x1 32) (n : S64x576.Idx → ℕ) (hn : ∀ i, n i < 129)
    (hidx : ∀ i : S64x576x1.Idx, idx i = BitVec.ofNat 32 (n (ix2 (i 0) (i 1)))) (i : S8x64x576.Idx) :
    Host.gather gather_S8x129_S64x576x1_S8x64x576_0_1_n_n_1_2_81 x idx i = x (ix2 (i 0) (⟨n (ix2 (i 1) (i 2)), hn _⟩ : Fin 129)) := by
  unfold Host.gather
  refine congrArg x (funext fun a => Fin.ext ?_)
  show GatherDims.start _ i idx a + GatherDims.batchCoord _ i a + GatherDims.offCoord _ i a = _
  rw [GatherDims.batchCoord_eq_zero _ _ _ (fun h => by simp [gather_S8x129_S64x576x1_S8x64x576_0_1_n_n_1_2_81] at h)]
  match a with
  | ⟨0, _⟩ =>
    have h : GatherDims.start gather_S8x129_S64x576x1_S8x64x576_0_1_n_n_1_2_81 i idx (0 : Fin 2) = 0 := rfl
    show GatherDims.start gather_S8x129_S64x576x1_S8x64x576_0_1_n_n_1_2_81 i idx (0 : Fin 2) + 0 + (i 0).val = (i 0).val
    rw [h]; omega
  | ⟨1, _⟩ =>
    have h : GatherDims.start gather_S8x129_S64x576x1_S8x64x576_0_1_n_n_1_2_81 i idx (1 : Fin 2)
        = min (idx (ix3 (i 1) (i 2) (0 : Fin 1))).toInt.toNat (129 - 1) := by
      unfold GatherDims.start
      rw [dif_pos (show (1 : Fin 2) ∈ gather_S8x129_S64x576x1_S8x64x576_0_1_n_n_1_2_81.startIndexMap from List.mem_singleton.mpr rfl)]
      refine congrArg (fun i => min (idx i).toInt.toNat (129 - 1)) ?_
      funext b
      apply Fin.ext
      match b with
      | ⟨0, _⟩ => rfl
      | ⟨1, _⟩ => rfl
      | ⟨2, _⟩ => rfl
    show GatherDims.start gather_S8x129_S64x576x1_S8x64x576_0_1_n_n_1_2_81 i idx (1 : Fin 2) + 0 + 0 = n (ix2 (i 1) (i 2))
    have hl := hn (ix2 (i 1) (i 2))
    rw [h, hidx, toInt_small (by show n (ix2 (i 1) (i 2)) < _; omega)]
    show min ((n (ix2 (i 1) (i 2)) : ℤ)).toNat (129 - 1) + 0 + 0 = _
    rw [Int.toNat_natCast, Nat.min_eq_left (by omega)]
    rfl

theorem bias_holds (h : Reads A x0 x1) : HR (val_main_v31 (F := Ideal) x1) fun i => A.rel (i 0).val ((i 2).val - (448 + (i 1).val)) := fun i => by
  have hb : ∀ j : S64x576.Idx, (j 1).val - (448 + (j 0).val) < 129 := fun j => by
    have h1 : (j 1).val < 576 := (j 1).isLt
    omega
  unfold val_main_v31
  rw [gather_at _ _ (fun j => (j 1).val - (448 + (j 0).val)) hb (fun j => by
    rw [val_main_v30_apply, rel_at]), val_main_v0_apply]
  have h0 : (i 0).val < 8 := (i 0).isLt
  have hc := hb (ix2 (i 1) (i 2))
  refine (h.rel _).trans (congrArg Real.toEReal (congrArg₂ A.rel ?_ ?_)) <;> simp only [idx_main_v0, ix2] at hc ⊢ <;>
    simp only [Matrix.cons_val_zero, Matrix.cons_val_one] at hc ⊢ <;> omega

/-! ## The band -/

section Band

/-- The rows after 512 zero rows, in chunks of 64. -/
def padded (y : FVec Ideal S1x8192x8x64 .f32) : FVec Ideal S1x136x64x8x64 .f32 :=
  shapeCast _ (concatenate S1x8704x8x64 1
    [⟨S1x512x8x64, broadcastInDim S1x512x8x64 ![] bcast_S_S1x512x8x64 (constant (F := Ideal) S_ .f32 0x00000000#32)⟩, ⟨S1x8192x8x64, y⟩]
    concatenates_S1x512x8x64_S1x8192x8x64_S1x8704x8x64_d1) shapeCasts_S1x8704x8x64_S1x136x64x8x64

theorem slices_at (k : Fin 9) : S1x136x64x8x64.Slices ![0, k.val, 0, 0, 0] S1x128x64x8x64 := by
  revert k; decide +kernel

/-- The chunks of the padded rows from the `k`-th on. -/
def chunks (y : FVec Ideal S1x8192x8x64 .f32) (k : Fin 9) : FVec Ideal S1x128x64x8x64 .f32 :=
  extractStridedSlice S1x128x64x8x64 ![0, k.val, 0, 0, 0] (padded y) (slices_at k)

/-- Nine chunks of the padded rows next to each other, from the chunk's own on. -/
def band (y : FVec Ideal S1x8192x8x64 .f32) : FVec Ideal S1x128x576x8x64 .f32 :=
  concatenate S1x128x576x8x64 2 [⟨S1x128x64x8x64, chunks y 0⟩, ⟨S1x128x64x8x64, chunks y 1⟩, ⟨S1x128x64x8x64, chunks y 2⟩,
    ⟨S1x128x64x8x64, chunks y 3⟩, ⟨S1x128x64x8x64, chunks y 4⟩, ⟨S1x128x64x8x64, chunks y 5⟩, ⟨S1x128x64x8x64, chunks y 6⟩,
    ⟨S1x128x64x8x64, chunks y 7⟩, ⟨S1x128x64x8x64, chunks y 8⟩]
    concatenates_S1x128x64x8x64_S1x128x64x8x64_S1x128x64x8x64_S1x128x64x8x64_S1x128x64x8x64_S1x128x64x8x64_S1x128x64x8x64_S1x128x64x8x64_S1x128x64x8x64_S1x128x576x8x64_d2

variable {y : FVec Ideal S1x8192x8x64 .f32} {f : ℕ → ℕ → ℕ → ℝ}

theorem padded_holds (hy : HR y fun i => f (i 1).val (i 2).val (i 3).val) :
    HR (padded y) fun i => if 512 ≤ 64 * (i 1).val + (i 2).val then f (64 * (i 1).val + (i 2).val - 512) (i 3).val (i 4).val else 0 := fun i => by
  have h0 : (i 0).val < 1 := (i 0).isLt
  have h1 : (i 1).val < 136 := (i 1).isLt
  have h2 : (i 2).val < 64 := (i 2).isLt
  have h3 : (i 3).val < 8 := (i 3).isLt
  have h4 : (i 4).val < 64 := (i 4).isLt
  unfold padded
  refine (shapeCast_apply _ shapeCasts_S1x8704x8x64_S1x136x64x8x64 i
    (ix4 (0 : Fin 1) (⟨64 * (i 1).val + (i 2).val, by omega⟩ : Fin 8704) (i 3) (i 4)) ?_).trans ?_
  · rw [Shape.rowMajor_val_four, Shape.rowMajor_val_five]
    show ((0 * 8704 + (64 * (i 1).val + (i 2).val)) * 8 + (i 3).val) * 64 + (i 4).val
      = ((((i 0).val * 136 + (i 1).val) * 64 + (i 2).val) * 8 + (i 3).val) * 64 + (i 4).val
    omega
  · by_cases h : 512 ≤ 64 * (i 1).val + (i 2).val
    · refine Eq.trans ?_ (congrArg Real.toEReal (if_pos h)).symm
      refine (concatenate_apply_piece (1 : Fin S1x8704x8x64.rank) _ _ (ix4 (0 : Fin 1) (⟨64 * (i 1).val + (i 2).val, by omega⟩ : Fin 8704) (i 3) (i 4))
        1 (by simp) S1x8192x8x64 y rfl rfl 512 (by rfl)
        (ix4 (0 : Fin 1) (⟨64 * (i 1).val + (i 2).val - 512, by omega⟩ : Fin 8192) (i 3) (i 4))
        (fun b hb => by match b with | ⟨0, _⟩ => rfl | ⟨1, _⟩ => exact absurd rfl hb | ⟨2, _⟩ => rfl | ⟨3, _⟩ => rfl)
        (show 512 + (64 * (i 1).val + (i 2).val - 512) = 64 * (i 1).val + (i 2).val by omega)).trans (hy _)
    · refine Eq.trans ?_ (congrArg Real.toEReal (if_neg h)).symm
      refine (concatenate_apply_piece (1 : Fin S1x8704x8x64.rank) _ _ (ix4 (0 : Fin 1) (⟨64 * (i 1).val + (i 2).val, by omega⟩ : Fin 8704) (i 3) (i 4))
        0 (by simp) S1x512x8x64 _ rfl rfl 0 (by rfl)
        (ix4 (0 : Fin 1) (⟨64 * (i 1).val + (i 2).val, by omega⟩ : Fin 512) (i 3) (i 4))
        (fun b hb => by match b with | ⟨0, _⟩ => rfl | ⟨1, _⟩ => exact absurd rfl hb | ⟨2, _⟩ => rfl | ⟨3, _⟩ => rfl)
        (show 0 + (64 * (i 1).val + (i 2).val) = 64 * (i 1).val + (i 2).val by omega)).trans (HR.fill c0 bcast_S_S1x512x8x64 _)

theorem band_holds (hy : HR y fun i => f (i 1).val (i 2).val (i 3).val) :
    HR (band y) fun i => if 512 ≤ 64 * (i 1).val + (i 2).val then f (64 * (i 1).val + (i 2).val - 512) (i 3).val (i 4).val else 0 := fun i => by
  have h1 : (i 1).val < 128 := (i 1).isLt
  have h2 : (i 2).val < 576 := (i 2).isLt
  obtain ⟨k, hk⟩ : ∃ k : Fin 9, k.val = (i 2).val / 64 := ⟨⟨_, by omega⟩, rfl⟩
  unfold band
  have key := concatenate_apply_piece (2 : Fin S1x128x576x8x64.rank) [⟨S1x128x64x8x64, chunks y 0⟩, ⟨S1x128x64x8x64, chunks y 1⟩, ⟨S1x128x64x8x64, chunks y 2⟩,
      ⟨S1x128x64x8x64, chunks y 3⟩, ⟨S1x128x64x8x64, chunks y 4⟩, ⟨S1x128x64x8x64, chunks y 5⟩, ⟨S1x128x64x8x64, chunks y 6⟩,
      ⟨S1x128x64x8x64, chunks y 7⟩, ⟨S1x128x64x8x64, chunks y 8⟩]
      concatenates_S1x128x64x8x64_S1x128x64x8x64_S1x128x64x8x64_S1x128x64x8x64_S1x128x64x8x64_S1x128x64x8x64_S1x128x64x8x64_S1x128x64x8x64_S1x128x64x8x64_S1x128x576x8x64_d2
      i k.val k.isLt S1x128x64x8x64 (chunks y k) (by fin_cases k <;> rfl) rfl (64 * k.val) (by fin_cases k <;> rfl)
      (ix5 (i 0) (i 1) (⟨(i 2).val % 64, Nat.mod_lt _ (by norm_num)⟩ : Fin 64) (i 3) (i 4))
      (fun b hb => by match b with | ⟨0, _⟩ => rfl | ⟨1, _⟩ => rfl | ⟨2, _⟩ => exact absurd rfl hb | ⟨3, _⟩ => rfl | ⟨4, _⟩ => rfl)
      (show 64 * k.val + (i 2).val % 64 = (i 2).val by omega)
  refine key.trans ?_
  unfold chunks
  refine (extractStridedSlice_apply ![0, k.val, 0, 0, 0] (padded y) (slices_at k) _
    (ix5 (i 0) (⟨k.val + (i 1).val, by omega⟩ : Fin 136) (⟨(i 2).val % 64, Nat.mod_lt _ (by norm_num)⟩ : Fin 64) (i 3) (i 4))
    (fun a => by match a with | ⟨0, _⟩ => exact (Nat.zero_add _).symm | ⟨1, _⟩ => rfl | ⟨2, _⟩ => exact (Nat.zero_add _).symm | ⟨3, _⟩ => exact (Nat.zero_add _).symm | ⟨4, _⟩ => exact (Nat.zero_add _).symm)).trans ((padded_holds hy _).trans ?_)
  show ((if 512 ≤ 64 * (k.val + (i 1).val) + (i 2).val % 64 then f (64 * (k.val + (i 1).val) + (i 2).val % 64 - 512) (i 3).val (i 4).val else 0 : ℝ) : EReal) = _
  rw [show 64 * (k.val + (i 1).val) + (i 2).val % 64 = 64 * (i 1).val + (i 2).val by omega]

end Band

theorem kband (h : Reads A x0 x1) : HR (val_main_v45 (F := Ideal) x0) fun i => if 512 ≤ 64 * (i 1).val + (i 2).val then
    A.k (64 * (i 1).val + (i 2).val - 512) (64 * (i 3).val + (i 4).val) else 0 :=
  band_holds (y := val_main_v6 (F := Ideal) x0) (f := fun n a d => A.k n (64 * a + d)) (k_holds h)

theorem vband (h : Reads A x0 x1) : HR (val_main_v87 (F := Ideal) x0) fun i => if 512 ≤ 64 * (i 1).val + (i 2).val then
    A.v (64 * (i 1).val + (i 2).val - 512) (64 * (i 3).val + (i 4).val) else 0 :=
  band_holds (y := val_main_v9 (F := Ideal) x0) (f := fun n a d => A.v n (64 * a + d)) (v_holds h)

/-! ## The scores -/

theorem ceighth : Ideal.ofBits .f32 0x3E000000#32 = ((1 / 8 : ℝ) : EReal) := by
  simp [Ideal.ofBits, Ideal.ieee]; norm_num; rw [← EReal.coe_mul]; norm_num

/-- Row `n`, head `h`, band position `j`, where the row sees it. -/
theorem score_holds (h : Reads A x0 x1) (i : S1x128x8x64x576.Idx) (hs : 512 ≤ 64 * (i 1).val + (i 4).val) :
    val_main_v51 (F := Ideal) x0 x1 i = ((score A (64 * (i 1).val + (i 3).val) (i 2).val (i 4).val : ℝ) : EReal) := by
  have h1 : (i 1).val < 128 := (i 1).isLt
  have h2 : (i 2).val < 8 := (i 2).isLt
  have h3 : (i 3).val < 64 := (i 3).isLt
  have h4 : (i 4).val < 576 := (i 4).isLt
  rw [val_main_v51_apply, val_main_v48_apply, val_main_v50_apply, val_main_v49_apply, val_main_v46_apply, val_main_v47_apply, bias_holds h]
  have hd : (∑ k : Fin 64, val_main_v32 (F := Ideal) x0 (lidx_main_v46 i k) * val_main_v45 (F := Ideal) x0 (ridx_main_v46 i k))
      = ((∑ d ∈ Finset.range 64, A.q (64 * (i 1).val + (i 3).val) (64 * (i 2).val + d) * A.k (64 * (i 1).val + (i 4).val - 512) (64 * (i 2).val + d) : ℝ) : EReal) := by
    rw [Finset.sum_range, ← coe_sum]
    refine Finset.sum_congr rfl fun k _ => ?_
    have hk := k.isLt
    rw [val_main_v32_apply, q_holds h, kband h, EReal.coe_mul]
    congr 1
    · refine congrArg Real.toEReal (congrArg₂ A.q ?_ ?_) <;> simp only [idx_main_v32, lidx_main_v46] <;> omega
    · exact congrArg Real.toEReal (if_pos hs)
  have hc : (val_main_cst_5 (F := Ideal)) (idx_main_v47 i) = (((1 : ℝ) / 8 : ℝ) : EReal) := by
    rw [val_main_cst_5_apply]
    exact ceighth
  rw [hd, hc]
  unfold score
  rw [EReal.coe_add, EReal.coe_mul, show (64 * (i 1).val + (i 3).val) / 64 = (i 1).val by omega, show (64 * (i 1).val + (i 3).val) % 64 = (i 3).val by omega]
  rfl

end Cert.Reference3Ideal.Calc
-- ==== Proof.R3Out.lean ====
/-
  The reference of `attn_fwd`, from the scores to its results: the softmax, the output, the gated output and what the backward pass reads.
-/
module

public import proofs.«01_k».proof.Proof.R3

@[expose] public section

set_option maxRecDepth 16384

noncomputable section

namespace Cert.Reference3Ideal.Calc

open Idealize.ShloMosaic Idealize.ShloMosaic.TcCoe Idealize.SL.Sem Idealize.ShloMosaic.StableHlo
open Cert.Reference3Ideal Cert.Reference3Ideal.Gen Cert.Reference3Ideal.Read Cert.Holds Cert.Consts Cert.Spec3
open Idealize.ShloMosaic.ValueIdx
open scoped BigOperators

variable {A : Args} {x0 : FVec Ideal S8192x3072 .bf16} {x1 : FVec Ideal S1x8x129 .f32}

theorem cbot : Ideal.ofBits .f32 0xFF800000#32 = ⊥ := by simp [Ideal.ofBits, Ideal.ieee]

theorem sees_iff {a q j : ℕ} (hq : q < 64) : Sees (64 * a + q) j ↔ 512 ≤ 64 * a + j := by
  unfold Sees
  omega

/-! ## The softmax -/

theorem scores (h : Reads A x0 x1) (i : S1x128x8x64x576.Idx) :
    val_main_v65 (F := Ideal) x0 x1 i
      = masked (Sees (64 * (i 1).val + (i 3).val) (i 4).val) (score A (64 * (i 1).val + (i 3).val) (i 2).val (i 4).val) := by
  have h3 : (i 3).val < 64 := (i 3).isLt
  rw [val_main_v65_apply, val_main_call1_v1_apply, val_main_v64_apply, sees_at, val_main_call1_v2_apply, val_main_call1_v0_apply, val_main_cst_9_apply]
  show Scalar.select (BitVec.ofBool (decide (512 ≤ 64 * (i 1).val + (i 4).val))) _ (Ideal.ofBits .f32 0xFF800000#32) = _
  rw [cbot]
  by_cases hs : 512 ≤ 64 * (i 1).val + (i 4).val
  · rw [decide_eq_true hs, masked, if_pos ((sees_iff h3).mpr hs), ← score_holds h i hs]
    rfl
  · rw [decide_eq_false hs, masked, if_neg fun k => hs ((sees_iff h3).mp k)]
    rfl

theorem drop_iff (i : S1x128x8x64x576.Idx) (j : S1x128x8x64.Idx) :
    reducesTo_S1x128x8x64x576_S1x128x8x64_d4.drop i = j ↔ (i 1).val = (j 1).val ∧ (i 2).val = (j 2).val ∧ (i 3).val = (j 3).val := by
  have e0 := Shape.ReducesTo.drop_apply_val_of_eq reducesTo_S1x128x8x64x576_S1x128x8x64_d4 i 0 0 (by decide)
  have e1 := Shape.ReducesTo.drop_apply_val_of_eq reducesTo_S1x128x8x64x576_S1x128x8x64_d4 i 1 1 (by decide)
  have e2 := Shape.ReducesTo.drop_apply_val_of_eq reducesTo_S1x128x8x64x576_S1x128x8x64_d4 i 2 2 (by decide)
  have e3 := Shape.ReducesTo.drop_apply_val_of_eq reducesTo_S1x128x8x64x576_S1x128x8x64_d4 i 3 3 (by decide)
  constructor
  · intro h
    rw [← e1, ← e2, ← e3, h]
    exact ⟨rfl, rfl, rfl⟩
  · rintro ⟨h1, h2, h3⟩
    have hi : (i 0).val < 1 := (i 0).isLt
    have hj : (j 0).val < 1 := (j 0).isLt
    funext b
    match b with
    | ⟨0, _⟩ => exact Fin.ext (e0.trans (show (i 0).val = (j 0).val by omega))
    | ⟨1, _⟩ => exact Fin.ext (e1.trans h1)
    | ⟨2, _⟩ => exact Fin.ext (e2.trans h2)
    | ⟨3, _⟩ => exact Fin.ext (e3.trans h3)

theorem greatest_holds (h : Reads A x0 x1) : HR (val_main_v66 (F := Ideal) x0 x1) fun j => greatest A (64 * (j 1).val + (j 3).val) (j 2).val := fun j => by
  unfold val_main_v66
  refine (Host.reduce_eq_fold _ _ _ _ _ _).trans ?_
  rw [show (val_main_cst_10 (F := Ideal)) (Shape.Idx.first h_S_) = ⊥ from cbot]
  refine fold_max _ (fun i hi => ?_) ?_
  · obtain ⟨h1, h2, h3⟩ := (drop_iff i j).mp (Finset.mem_filter.mp hi).2
    rw [scores h i, h1, h2, h3]
    unfold masked
    split
    · next hs => exact EReal.coe_le_coe_iff.mpr (score_le A (i 4).isLt hs)
    · exact bot_le
  · obtain ⟨k, hk, hs, e⟩ := score_at A (64 * (j 1).val + (j 3).val) (j 2).val
    refine ⟨ix5 (j 0) (j 1) (j 2) (j 3) (⟨k, hk⟩ : Fin 576), Finset.mem_filter.mpr ⟨Finset.mem_univ _, (drop_iff _ _).mpr ⟨rfl, rfl, rfl⟩⟩, ?_⟩
    rw [scores h]
    show masked (Sees (64 * (j 1).val + (j 3).val) k) (score A (64 * (j 1).val + (j 3).val) (j 2).val k) = _
    rw [masked, if_pos hs, e]

theorem weight_holds (h : Reads A x0 x1) :
    HR (val_main_v70 (F := Ideal) x0 x1) fun i => weight A (64 * (i 1).val + (i 3).val) (i 2).val (i 4).val := fun i => by
  rw [val_main_v70_apply, val_main_v69_apply, val_main_v68_apply, val_main_v67_apply, scores h, greatest_holds h]
  exact masked_sub_exp _ _

theorem total_holds (h : Reads A x0 x1) : HR (val_main_v71 (F := Ideal) x0 x1) fun j => total A (64 * (j 1).val + (j 3).val) (j 2).val := fun j => by
  rw [val_main_v71_apply, show (val_main_cst_11 (F := Ideal)) (Shape.Idx.first h_S_) = ((0 : ℝ) : EReal) from c0, EReal.coe_zero, zero_add]
  unfold total
  beta_reduce
  rw [Finset.sum_range, ← coe_sum]
  exact Finset.sum_congr rfl fun k _ => weight_holds h _

theorem share_holds (h : Reads A x0 x1) : HR (val_main_v74 (F := Ideal) x0 x1) fun i =>
    weight A (64 * (i 1).val + (i 3).val) (i 2).val (i 4).val / total A (64 * (i 1).val + (i 3).val) (i 2).val :=
  HR.div (weight_holds h) (f := fun i => weight A (64 * (i 1).val + (i 3).val) (i 2).val (i 4).val)
    (g := fun i => total A (64 * (i 1).val + (i 3).val) (i 2).val) (fun i => by
      rw [val_main_v73_apply, val_main_v72_apply, total_holds h]) fun i => (total_pos A _ _).ne'

/-! ## The output -/

theorem out_holds (h : Reads A x0 x1) : HR (val_main_v90 (F := Ideal) x0 x1) fun i => out A (i 0).val (i 1).val := fun i => by
  have h0 : (i 0).val < 8192 := (i 0).isLt
  have h1 : (i 1).val < 512 := (i 1).isLt
  rw [val_main_v90_apply, val_main_v89_apply, val_main_v88_apply]
  unfold out
  beta_reduce
  rw [Finset.sum_range, ← coe_sum]
  refine Finset.sum_congr rfl fun k _ => ?_
  rw [share_holds h, vband h, ← EReal.coe_mul]
  simp only [idx_main_v90, idx_main_v89, lidx_main_v88, ridx_main_v88]
  have e1 : ((i 0).val * 512 + (i 1).val) / 32768 % 128 = (i 0).val / 64 := by omega
  have e2 : ((i 0).val * 512 + (i 1).val) / 512 % 64 = (i 0).val % 64 := by omega
  have e3 : ((i 0).val * 512 + (i 1).val) / 64 % 8 = (i 1).val / 64 := by omega
  have e4 : ((i 0).val * 512 + (i 1).val) % 64 = (i 1).val % 64 := by omega
  rw [e1, e2, e3, e4, show 64 * ((i 0).val / 64) + (i 0).val % 64 = (i 0).val by omega, show 64 * ((i 1).val / 64) + (i 1).val % 64 = (i 1).val by omega]
  congr 1
  split
  · ring
  · next hs =>
    rw [weight, if_neg hs]
    ring

theorem gate_holds (h : Reads A x0 x1) : HR (val_main_v122 (F := Ideal) x0) fun i => A.g (i 0).val (i 1).val := fun i => by
  have h0 : (i 0).val < 8192 := (i 0).isLt
  have h1 : (i 1).val < 512 := (i 1).isLt
  rw [val_main_v122_apply, val_main_v120_apply, val_main_v119_apply, val_main_v118_apply]
  refine (h.g _ ?_).trans (congrArg Real.toEReal (congrArg₂ A.g ?_ ?_)) <;>
    simp only [idx_main_v122, idx_main_v119, idx_main_v118] <;> omega

theorem gated_holds (h : Reads A x0 x1) : HR (val_main_v124 (F := Ideal) x0 x1) fun i => gated A (i 0).val (i 1).val := by
  have one : HR (val_main_call2_v2 (F := Ideal)) fun _ => 1 := HR.fill c1 bcast_S_S8192x512
  exact (out_holds h).mul ((gate_holds h).mul (one.div (one.add (gate_holds h).neg.exp) fun i => by positivity))

/-! ## What the backward pass reads -/

/-- Super `s`, chunk `c` of it, head `n`, row `q` of the chunk, window row `j`. -/
def placed (A : Args) (s c n q j : ℕ) : ℝ := if 64 * c ≤ j ∧ j < 64 * c + 576 then weight A (128 * s + 64 * c + q) n (j - 64 * c) else 0

theorem placed_in {s c n q j : ℕ} (h : 64 * c ≤ j ∧ j < 64 * c + 576) :
    ((weight A (128 * s + 64 * c + q) n (j - 64 * c) : ℝ) : EReal) = ((placed A s c n q j : ℝ) : EReal) :=
  congrArg Real.toEReal (if_pos h).symm

theorem placed_out {s c n q j : ℕ} (h : ¬ (64 * c ≤ j ∧ j < 64 * c + 576)) : ((0 : ℝ) : EReal) = ((placed A s c n q j : ℝ) : EReal) :=
  congrArg Real.toEReal (if_neg h).symm

theorem by_super (h : Reads A x0 x1) : HR (val_main_v91 (F := Ideal) x0 x1) fun i =>
    weight A (128 * (i 0).val + 64 * (i 1).val + (i 3).val) (i 2).val (i 4).val := fun i => by
  have h0 : (i 0).val < 64 := (i 0).isLt
  have h1 : (i 1).val < 2 := (i 1).isLt
  have h2 : (i 2).val < 8 := (i 2).isLt
  have h3 : (i 3).val < 64 := (i 3).isLt
  have h4 : (i 4).val < 576 := (i 4).isLt
  rw [val_main_v91_apply, weight_holds h]
  simp only [idx_main_v91]
  congr 2 <;> omega

theorem gap : HR (val_main_v92 (F := Ideal)) fun _ => 0 := HR.fill c0 bcast_S_S64x1x8x64x64

theorem first_chunk (h : Reads A x0 x1) : HR (val_main_v94 (F := Ideal) x0 x1) fun i => placed A (i 0).val 0 (i 2).val (i 3).val (i 4).val := fun i => by
  have h1 : (i 1).val < 1 := (i 1).isLt
  have h4 : (i 4).val < 640 := (i 4).isLt
  unfold val_main_v94
  by_cases hj : (i 4).val < 576
  · refine (concatenate_apply_piece (4 : Fin S64x1x8x64x640.rank) _ _ i 0 (by simp) S64x1x8x64x576 (val_main_v93 (F := Ideal) x0 x1) rfl rfl 0 (by rfl)
      (ix5 (i 0) (i 1) (i 2) (i 3) (⟨(i 4).val, hj⟩ : Fin 576))
      (fun b hb => by match b with | ⟨0, _⟩ => rfl | ⟨1, _⟩ => rfl | ⟨2, _⟩ => rfl | ⟨3, _⟩ => rfl | ⟨4, _⟩ => exact absurd rfl hb)
      (show 0 + (i 4).val = (i 4).val by omega)).trans ?_
    rw [val_main_v93_apply, by_super h]
    refine Eq.trans (congrArg Real.toEReal ?_) (placed_in ⟨by omega, by omega⟩)
    show weight A (128 * (i 0).val + 64 * (i 1).val + (i 3).val) (i 2).val (i 4).val = _
    rw [show (i 1).val = 0 by omega]
    rfl
  · refine (concatenate_apply_piece (4 : Fin S64x1x8x64x640.rank) _ _ i 1 (by simp) S64x1x8x64x64 (val_main_v92 (F := Ideal)) rfl rfl 576 (by rfl)
      (ix5 (i 0) (i 1) (i 2) (i 3) (⟨(i 4).val - 576, by omega⟩ : Fin 64))
      (fun b hb => by match b with | ⟨0, _⟩ => rfl | ⟨1, _⟩ => rfl | ⟨2, _⟩ => rfl | ⟨3, _⟩ => rfl | ⟨4, _⟩ => exact absurd rfl hb)
      (show 576 + ((i 4).val - 576) = (i 4).val by omega)).trans ?_
    exact (gap _).trans (placed_out (by omega))

theorem second_chunk (h : Reads A x0 x1) : HR (val_main_v96 (F := Ideal) x0 x1) fun i => placed A (i 0).val 1 (i 2).val (i 3).val (i 4).val := fun i => by
  have h1 : (i 1).val < 1 := (i 1).isLt
  have h4 : (i 4).val < 640 := (i 4).isLt
  unfold val_main_v96
  by_cases hj : (i 4).val < 64
  · refine (concatenate_apply_piece (4 : Fin S64x1x8x64x640.rank) _ _ i 0 (by simp) S64x1x8x64x64 (val_main_v92 (F := Ideal)) rfl rfl 0 (by rfl)
      (ix5 (i 0) (i 1) (i 2) (i 3) (⟨(i 4).val, hj⟩ : Fin 64))
      (fun b hb => by match b with | ⟨0, _⟩ => rfl | ⟨1, _⟩ => rfl | ⟨2, _⟩ => rfl | ⟨3, _⟩ => rfl | ⟨4, _⟩ => exact absurd rfl hb)
      (show 0 + (i 4).val = (i 4).val by omega)).trans ?_
    exact (gap _).trans (placed_out (by omega))
  · refine (concatenate_apply_piece (4 : Fin S64x1x8x64x640.rank) _ _ i 1 (by simp) S64x1x8x64x576 (val_main_v95 (F := Ideal) x0 x1) rfl rfl 64 (by rfl)
      (ix5 (i 0) (i 1) (i 2) (i 3) (⟨(i 4).val - 64, by omega⟩ : Fin 576))
      (fun b hb => by match b with | ⟨0, _⟩ => rfl | ⟨1, _⟩ => rfl | ⟨2, _⟩ => rfl | ⟨3, _⟩ => rfl | ⟨4, _⟩ => exact absurd rfl hb)
      (show 64 + ((i 4).val - 64) = (i 4).val by omega)).trans ?_
    rw [val_main_v95_apply, by_super h]
    refine Eq.trans (congrArg Real.toEReal ?_) (placed_in ⟨by omega, by omega⟩)
    show weight A (128 * (i 0).val + 64 * (1 + (i 1).val) + (i 3).val) (i 2).val ((i 4).val - 64) = _
    rw [show (i 1).val = 0 by omega]

theorem window_holds (h : Reads A x0 x1) : HR (val_main_v97 (F := Ideal) x0 x1) fun i =>
    placed A (i 0).val (i 1).val (i 2).val (i 3).val (i 4).val := fun i => by
  have h1 : (i 1).val < 2 := (i 1).isLt
  unfold val_main_v97
  by_cases hc : (i 1).val < 1
  · refine (concatenate_apply_piece (1 : Fin S64x2x8x64x640.rank) _ _ i 0 (by simp) S64x1x8x64x640 (val_main_v94 (F := Ideal) x0 x1) rfl rfl 0 (by rfl)
      (ix5 (i 0) (⟨(i 1).val, hc⟩ : Fin 1) (i 2) (i 3) (i 4))
      (fun b hb => by match b with | ⟨0, _⟩ => rfl | ⟨1, _⟩ => exact absurd rfl hb | ⟨2, _⟩ => rfl | ⟨3, _⟩ => rfl | ⟨4, _⟩ => rfl)
      (show 0 + (i 1).val = (i 1).val by omega)).trans ?_
    refine (first_chunk h _).trans (congrArg Real.toEReal ?_)
    show placed A (i 0).val 0 (i 2).val (i 3).val (i 4).val = placed A (i 0).val (i 1).val (i 2).val (i 3).val (i 4).val
    rw [show (i 1).val = 0 by omega]
  · refine (concatenate_apply_piece (1 : Fin S64x2x8x64x640.rank) _ _ i 1 (by simp) S64x1x8x64x640 (val_main_v96 (F := Ideal) x0 x1) rfl rfl 1 (by rfl)
      (ix5 (i 0) (⟨(i 1).val - 1, by omega⟩ : Fin 1) (i 2) (i 3) (i 4))
      (fun b hb => by match b with | ⟨0, _⟩ => rfl | ⟨1, _⟩ => exact absurd rfl hb | ⟨2, _⟩ => rfl | ⟨3, _⟩ => rfl | ⟨4, _⟩ => rfl)
      (show 1 + ((i 1).val - 1) = (i 1).val by omega)).trans ?_
    refine (second_chunk h _).trans (congrArg Real.toEReal ?_)
    show placed A (i 0).val 1 (i 2).val (i 3).val (i 4).val = placed A (i 0).val (i 1).val (i 2).val (i 3).val (i 4).val
    rw [show (i 1).val = 1 by omega]

/-- Lane `l` of pair `p` in super `s` is head `2p + l/128`, chunk `l/64 % 2`, row `l % 64`. -/
theorem lanes_at {α : Type} {R : ℕ} (x : (⟨5, ![64, 2, 8, 64, R]⟩ : Shape).Idx → α)
    (h1 : Shape.ShapeCasts ⟨5, ![64, 2, 8, 64, R]⟩ ⟨6, ![64, 2, 4, 2, 64, R]⟩)
    (h2 : Shape.Transposes ⟨6, ![64, 2, 4, 2, 64, R]⟩ [2, 0, 5, 3, 1, 4] ⟨6, ![4, 64, R, 2, 2, 64]⟩)
    (h3 : Shape.ShapeCasts ⟨6, ![4, 64, R, 2, 2, 64]⟩ ⟨4, ![4, 64, R, 256]⟩) (p : Fin 4) (s : Fin 64) (j : Fin R) (l : Fin 256) :
    shapeCast ⟨4, ![4, 64, R, 256]⟩ (transpose ⟨6, ![4, 64, R, 2, 2, 64]⟩ [2, 0, 5, 3, 1, 4] (shapeCast ⟨6, ![64, 2, 4, 2, 64, R]⟩ x h1) h2) h3 (ix4 p s j l)
      = x (ix5 s (⟨l.val / 64 % 2, by omega⟩ : Fin 2) (⟨2 * p.val + l.val / 128, by omega⟩ : Fin 8) (⟨l.val % 64, by omega⟩ : Fin 64) j) := by
  refine (shapeCast_apply _ h3 (ix4 p s j l) (ix6 p s j (⟨l.val / 128, by omega⟩ : Fin 2) (⟨l.val / 64 % 2, by omega⟩ : Fin 2) (⟨l.val % 64, by omega⟩ : Fin 64)) ?_).trans ?_
  · rw [Shape.rowMajor_val_four, Shape.rowMajor_val_six]
    show ((((p.val * 64 + s.val) * R + j.val) * 2 + l.val / 128) * 2 + l.val / 64 % 2) * 64 + l.val % 64 = ((p.val * 64 + s.val) * R + j.val) * 256 + l.val
    omega
  refine (transpose_apply _ _ h2 _ (ix6 s (⟨l.val / 64 % 2, by omega⟩ : Fin 2) p (⟨l.val / 128, by omega⟩ : Fin 2) (⟨l.val % 64, by omega⟩ : Fin 64) j) (fun b => by
    match b with | ⟨0, _⟩ => rfl | ⟨1, _⟩ => rfl | ⟨2, _⟩ => rfl | ⟨3, _⟩ => rfl | ⟨4, _⟩ => rfl | ⟨5, _⟩ => rfl)).trans ?_
  refine shapeCast_apply _ h1 _ _ ?_
  rw [Shape.rowMajor_val_five, Shape.rowMajor_val_six]
  show (((s.val * 2 + l.val / 64 % 2) * 8 + (2 * p.val + l.val / 128)) * 64 + l.val % 64) * R + j.val
    = ((((s.val * 2 + l.val / 64 % 2) * 4 + p.val) * 2 + l.val / 128) * 64 + l.val % 64) * R + j.val
  congr 3
  omega

theorem saved_holds (h : Reads A x0 x1) : HR (val_main_v108 (F := Ideal) x0 x1) fun i => saved A (i 0).val (i 1).val (i 2).val (i 3).val := fun i => by
  have hl : (i 3).val < 256 := (i 3).isLt
  rw [val_main_v108_apply]
  show val_main_v107 (F := Ideal) x0 x1 i = _
  rw [show i = ix4 (i 0) (i 1) (i 2) (i 3) from eq_ix4 i]
  unfold val_main_v107 val_main_v106 val_main_v105
  refine (lanes_at (val_main_v97 (F := Ideal) x0 x1) _ _ _ (i 0) (i 1) (i 2) (i 3)).trans ((window_holds h _).trans ?_)
  show ((placed A (i 1).val ((i 3).val / 64 % 2) (2 * (i 0).val + (i 3).val / 128) ((i 3).val % 64) (i 2).val : ℝ) : EReal)
    = ((saved A (i 0).val (i 1).val (i 2).val (i 3).val : ℝ) : EReal)
  unfold placed saved
  rw [show 128 * (i 1).val + 64 * ((i 3).val / 64 % 2) + (i 3).val % 64 = 128 * (i 1).val + (i 3).val % 128 by omega]

theorem inverse_row (h : Reads A x0 x1) : HR (val_main_v100 (F := Ideal) x0 x1) fun i =>
    1 / total A (128 * (i 0).val + 64 * (i 1).val + (i 3).val) (i 2).val := fun i => by
  have h0 : (i 0).val < 64 := (i 0).isLt
  have h1 : (i 1).val < 2 := (i 1).isLt
  have h2 : (i 2).val < 8 := (i 2).isLt
  have h3 : (i 3).val < 64 := (i 3).isLt
  have h4 : (i 4).val < 1 := (i 4).isLt
  have one : HR (val_main_v98 (F := Ideal)) fun _ => 1 := HR.fill c1 bcast_S_S1x128x8x64x1
  have hd : HR (val_main_v99 (F := Ideal) x0 x1) fun i => 1 / total A (64 * (i 1).val + (i 3).val) (i 2).val :=
    one.div (g := fun i => total A (64 * (i 1).val + (i 3).val) (i 2).val) (fun i => by
      rw [val_main_v72_apply, total_holds h]) fun i => (total_pos A _ _).ne'
  rw [val_main_v100_apply, hd]
  simp only [idx_main_v100]
  congr 3 <;> omega

theorem inverse_holds (h : Reads A x0 x1) : HR (val_main_v104 (F := Ideal) x0 x1) fun i => inverse A (i 0).val (i 1).val (i 3).val := fun i => by
  have hl : (i 3).val < 256 := (i 3).isLt
  rw [val_main_v104_apply, show idx_main_v104 i = ix4 (i 0) (i 1) (0 : Fin 1) (i 3) from funext fun a => by
    match a with | ⟨0, _⟩ => rfl | ⟨1, _⟩ => rfl | ⟨2, _⟩ => rfl | ⟨3, _⟩ => rfl]
  unfold val_main_v103 val_main_v102 val_main_v101
  refine (lanes_at (val_main_v100 (F := Ideal) x0 x1) _ _ _ (i 0) (i 1) (0 : Fin 1) (i 3)).trans ((inverse_row h _).trans ?_)
  show ((1 / total A (128 * (i 1).val + 64 * ((i 3).val / 64 % 2) + (i 3).val % 64) (2 * (i 0).val + (i 3).val / 128) : ℝ) : EReal)
    = ((inverse A (i 0).val (i 1).val (i 3).val : ℝ) : EReal)
  unfold inverse
  rw [show 128 * (i 1).val + 64 * ((i 3).val / 64 % 2) + (i 3).val % 64 = 128 * (i 1).val + (i 3).val % 128 by omega]

end Cert.Reference3Ideal.Calc
-- ==== Proof.AttnFwd.lean ====
/-
  `attn_fwd`: the kernel's four results are the reference's, at finite inputs.
-/
module

public import proofs.«01_k».proof.Defs
public import proofs.«01_k».proof.Proof.Finite3
public import proofs.«01_k».proof.Proof.OutLoss
public import proofs.«01_k».proof.Proof.K3Out
public import proofs.«01_k».proof.Proof.R3Out
public import proofs.«01_k».proof.Proof.Gen.Reference3Ideal.Run
public import proofs.«01_k».proof.Proof.Gen.Kernel3.Frame
public import proofs.«01_k».proof.Proof.Gen.Kernel3Ideal.Frame

@[expose] public section

set_option maxRecDepth 16384

noncomputable section

namespace Cert.AttnFwd

open Idealize.ShloMosaic Idealize.ShloMosaic.TcCoe Idealize.SL.Sem
open Cert.Holds
open Cert.OutLoss (same)
open Cert.Kernel3Ideal (cfg0)
open Cert.Kernel3Ideal.Gen (dats)
open Cert.Kernel3Ideal.Tile (In out_a out_ya out_e out_inv)
open Cert.Reference3Ideal.Read Cert.Reference3Ideal.Calc

theorem frame_p : Cert.quiescent_Kernel3 (hKernel3 := Cert.Kernel3.Gen.facts) := fun m ρ _ => Cert.Kernel3.Gen.frame m ρ
theorem frame_pi : Cert.quiescent_Kernel3Ideal (hKernel3Ideal := Cert.Kernel3Ideal.Gen.facts) := fun m ρ _ => Cert.Kernel3Ideal.Gen.frame m ρ
theorem frame_pi_pre : Cert.quiescent_Kernel3Ideal_pre_finite_attn (hKernel3Ideal := Cert.Kernel3Ideal.Gen.facts)
    (hPre_finite_attn := Cert.Pre_finite_attn.facts) := fun m ρ _ => Cert.Kernel3Ideal.Gen.frame m ρ
theorem frame_ri : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)
theorem frame_ri_pre : Cert.quiescent_Reference3Ideal_pre_finite_attn (hReference3Ideal := Cert.Reference3Ideal.Gen.facts)
    (hPre_finite_attn := Cert.Pre_finite_attn.facts) := fun m ρ _ => frame_ri m ρ trivial

theorem preserves : Cert.preserves_Kernel3_Kernel3Ideal :=
  ⟨IdealRules.named_const.statement Cert.Kernel3Ideal.κ "log2e" .f32 0x3FB8AA3B#32 (((Real.log 2)⁻¹ : ℝ) : EReal) rfl,
    IdealRules.named_const.statement Cert.Kernel3Ideal.κ "mask" .f32 0xF149F2CA#32 ⊥ rfl,
    IdealRules.named_const.statement Cert.Kernel3Ideal.κ "scale_log2e" .bf16 0x3E39#16 (((1 / 8) * (Real.log 2)⁻¹ : ℝ) : EReal) rfl⟩

theorem algebraic : Cert.algebraic_Kernel3Ideal_Reference3Ideal_pre_finite_attn (hKernel3Ideal := Cert.Kernel3Ideal.Gen.facts)
    (hReference3Ideal := Cert.Reference3Ideal.Gen.facts) (hPre_finite_attn := Cert.Pre_finite_attn.facts) := by
  intro m g m' g' hpre hargs
  refine ⟨fun c => (dats m 0 c).arrAt 5 cfg0.N, fun c => (dats m 0 c).arrAt 6 cfg0.N, fun c => (dats m 0 c).arrAt 7 cfg0.N,
    fun c => (dats m 0 c).arrAt 8 cfg0.N, Cert.Kernel3Ideal.Value.run_blocks m g, ?_⟩
  refine (θ_run Cert.Reference3Ideal.defs _ _).mono (fun r hr c => ?_) (Cert.Reference3Ideal.Value.run (F := Ideal) m' g')
  obtain ⟨s0, s1, s2, s3, hrest⟩ := hr c
  obtain ⟨A, hK⟩ : ∃ A, In m c A := ⟨_, @Cert.Pre_finite_attn.reads Cert.Pre_finite_attn.facts _ _ (fun _ e => by subst e; exact hpre c)⟩
  have hR : Cert.Spec3.Reads A _ _ := hK
  obtain ⟨e0, e1⟩ := hargs c
  rw [← e0, ← e1] at hR
  refine ⟨?_, ?_, ?_, ?_, hrest⟩
  · exact (s0.trans (val_main_v121_eq _ _)).trans (same (out_holds hR) (out_a hK))
  · exact (s1.trans (val_main_v125_eq _ _)).trans (same (gated_holds hR) (out_ya hK))
  · exact (s2.trans (val_main_v108_eq _ _)).trans (same (saved_holds hR) (out_e hK))
  · exact (s3.trans (val_main_v104_eq _ _)).trans (same (inverse_holds hR) (out_inv hK))

end Cert.AttnFwd
-- ==== Proof.Spec4.lean ====
/-
  The gradients of the attention in its queries and its gates, over real arrays.
-/
module

public import proofs.«01_k».proof.Proof.Spec3

@[expose] public section

noncomputable section

namespace Cert.Spec4

open Cert.Spec3
open scoped BigOperators

variable (A : Args) (d : ℕ → ℕ → ℝ)

/-- The logistic function of a token's gate. -/
def sig (n c : ℕ) : ℝ := 1 / (1 + Real.exp (-A.g n c))

/-- The gradient in the gates, from the gradient `d` of the gated output. -/
def dag (n c : ℕ) : ℝ := d n c * out A n c * (sig A n c * (1 + A.g n c * (1 - sig A n c)))

/-- The gradient in the attention's output. -/
def da (n c : ℕ) : ℝ := d n c * (A.g n c * sig A n c)

/-- The share of band position `j` in token `n`'s head `h`. -/
def prob (n h j : ℕ) : ℝ := weight A n h j / total A n h

/-- The gradient in that share. -/
def dp (n h j : ℕ) : ℝ := ∑ x ∈ Finset.range 64, da A d n (64 * h + x) * (if Sees n j then A.v (64 * (n / 64) + j - 512) (64 * h + x) else 0)

/-- The gradient in the score. -/
def ds (n h j : ℕ) : ℝ := prob A n h j * (dp A d n h j - ∑ j ∈ Finset.range 576, prob A n h j * dp A d n h j)

/-- The gradient in the queries. -/
def dq (n c : ℕ) : ℝ := (∑ j ∈ Finset.range 576, ds A d n (c / 64) j * A.k (64 * (n / 64) + j - 512) c) * (1 / 8)

theorem prob_zero {n h j : ℕ} (hv : ¬ Sees n j) : prob A n h j = 0 := by rw [prob, weight, if_neg hv, zero_div]

/-! ## By lanes -/

/-- The gradient in the output that lane `l` of pair `p` in super `s` takes at column `k`. -/
def laneDa (p s l k : ℕ) : ℝ := if k / 64 = l / 128 then da A d (128 * s + l % 128) (128 * p + k) else 0

def laneP (p s j l : ℕ) : ℝ := saved A p s j l * inverse A p s l

def laneDp (p s j l : ℕ) : ℝ := ∑ k ∈ Finset.range 128, valBand A p (128 * s + 1536 + j) k * laneDa A d p s l k

def laneDs (p s j l : ℕ) : ℝ := laneP A p s j l * (laneDp A d p s j l - ∑ j ∈ Finset.range 640, laneP A p s j l * laneDp A d p s j l)

/-- The keys' band. -/
def keyCols (p x c : ℕ) : ℝ := if 2048 ≤ x then A.k (x - 2048) (128 * p + c) else 0

variable {A} {d}

theorem laneDp_eq {p s j l : ℕ} (hl : l < 256) (h : InBand j l) :
    laneDp A d p s j l = dp A d (128 * s + l % 128) (2 * p + l / 128) (j - 64 * (l / 64 % 2)) := by
  unfold laneDp dp
  rw [← sum_window (N := 128) (a := 64 * (l / 128)) (w := 64) (by omega)]
  refine Finset.sum_congr rfl fun k hk => ?_
  have hk := Finset.mem_range.mp hk
  obtain ⟨a, b⟩ := h
  unfold laneDa valBand
  by_cases h2 : k / 64 = l / 128
  · rw [if_pos h2, if_pos (show 64 * (l / 128) ≤ k ∧ k < 64 * (l / 128) + 64 by omega)]
    have e1 : 64 * (2 * p + l / 128) + (k - 64 * (l / 128)) = 128 * p + k := by omega
    have e2 : 64 * ((128 * s + l % 128) / 64) + (j - 64 * (l / 64 % 2)) - 512 = 128 * s + 1536 + j - 2048 := by omega
    rw [e1, e2]
    by_cases h3 : 2048 ≤ 128 * s + 1536 + j
    · rw [if_pos h3, if_pos (by unfold Sees; omega), mul_comm]
    · rw [if_neg h3, if_neg (by unfold Sees; omega), mul_comm]
  · rw [if_neg h2, if_neg (show ¬ (64 * (l / 128) ≤ k ∧ k < 64 * (l / 128) + 64) by omega), mul_zero]

theorem laneP_eq (p s j l : ℕ) : laneP A p s j l =
    if InBand j l then prob A (128 * s + l % 128) (2 * p + l / 128) (j - 64 * (l / 64 % 2)) else 0 := by
  unfold laneP saved inverse prob
  split
  · rw [mul_one_div]
  · rw [zero_mul]

theorem laneDs_eq {p s j l : ℕ} (hl : l < 256) : laneDs A d p s j l =
    if InBand j l then ds A d (128 * s + l % 128) (2 * p + l / 128) (j - 64 * (l / 64 % 2)) else 0 := by
  have hs : ∑ j ∈ Finset.range 640, laneP A p s j l * laneDp A d p s j l
      = ∑ j ∈ Finset.range 576, prob A (128 * s + l % 128) (2 * p + l / 128) j * dp A d (128 * s + l % 128) (2 * p + l / 128) j := by
    rw [← sum_window (N := 640) (a := 64 * (l / 64 % 2)) (w := 576) (by omega)]
    refine Finset.sum_congr rfl fun j _ => ?_
    rw [laneP_eq]
    by_cases h : InBand j l
    · rw [if_pos h, if_pos h, laneDp_eq hl h]
    · rw [if_neg h, if_neg h, zero_mul]
  unfold laneDs
  rw [hs, laneP_eq]
  by_cases h : InBand j l
  · rw [if_pos h, if_pos h, laneDp_eq hl h]; rfl
  · rw [if_neg h, if_neg h, zero_mul]

/-- The gradient in the query of row `r` of super `s`, column `c` of pair `p`, from its lane. -/
theorem sum_dq (p s : ℕ) {r c : ℕ} (hr : r < 128) (hc : c < 128) :
    (∑ j ∈ Finset.range 640, keyCols A p (128 * s + 1536 + j) c * laneDs A d p s j (128 * (c / 64) + r)) * (1 / 8)
      = dq A d (128 * s + r) (128 * p + c) := by
  have e1 : (128 * (c / 64) + r) % 128 = r := by omega
  have e2 : 2 * p + (128 * (c / 64) + r) / 128 = (128 * p + c) / 64 := by omega
  have e3 : (128 * (c / 64) + r) / 64 % 2 = r / 64 := by omega
  unfold dq
  congr 1
  rw [← sum_window (N := 640) (a := 64 * (r / 64)) (w := 576) (by omega)]
  refine Finset.sum_congr rfl fun j _ => ?_
  rw [laneDs_eq (by omega)]
  by_cases h : 64 * (r / 64) ≤ j ∧ j < 64 * (r / 64) + 576
  · rw [if_pos h, if_pos (by unfold InBand; rw [e3]; exact h), e1, e2, e3]
    unfold keyCols
    have e5 : 64 * ((128 * s + r) / 64) + (j - 64 * (r / 64)) - 512 = 128 * s + 1536 + j - 2048 := by omega
    rw [e5]
    split
    · ring
    · next h2 =>
      unfold ds
      rw [prob_zero A (show ¬ Sees (128 * s + r) (j - 64 * (r / 64)) by unfold Sees; omega)]
      ring
  · rw [if_neg h, if_neg (by unfold InBand; rw [e3]; exact h), mul_zero]

end Cert.Spec4
-- ==== Proof.Inputs4.lean ====
/-
  What the arguments of `attn_bwd` hold: real numbers.
-/
module

public import proofs.«01_k».proof.Proof.Inputs3
public import proofs.«01_k».proof.Proof.Spec4

@[expose] public section

namespace Cert.Spec4

open Idealize.ShloMosaic Idealize.ShloMosaic.ValueIdx Cert.Holds Cert.Spec3

/-- The forward pass's arguments, and the gradient `d` of the gated output in columns 512 on of the third. -/
structure Reads (A : Args) (d : ℕ → ℕ → ℝ) (x0 : (⟨2, ![8192, 3072]⟩ : Shape).Idx → EReal) (x1 : (⟨3, ![1, 8, 129]⟩ : Shape).Idx → EReal)
    (x2 : (⟨2, ![8192, 1024]⟩ : Shape).Idx → EReal) : Prop where
  fwd : Spec3.Reads A x0 x1
  d : ∀ i : (⟨2, ![8192, 1024]⟩ : Shape).Idx, 512 ≤ (i 1).val → x2 i = ((d (i 0).val ((i 1).val - 512) : ℝ) : EReal)

end Cert.Spec4
-- ==== Proof.Finite4.lean ====
/-
  What the precondition of `attn_bwd` gives: the forward pass's inputs, and the gradient that the call reads, hold real tables.
-/
module

public import proofs.«01_k».proof.Proof.Inputs4
public import proofs.«01_k».proof.Proof.Finite3
public import proofs.«01_k».proof.Pre_finite_grads

@[expose] public section

noncomputable section

namespace Cert.Pre_finite_grads

open Idealize.ShloMosaic Idealize.ShloMosaic.ValueIdx Cert.Holds Cert.Spec4

theorem facts : Facts where
  slices_S8192x3072_S8192x2048_0_1024 := by decide +kernel
  bcast_S_S8192x2048 := by decide +kernel
  bcast_S_S1x8x129 := by decide +kernel
  slices_S8192x1024_S8192x512_0_512 := by decide +kernel
  bcast_S_S8192x512 := by decide +kernel

theorem reads [Facts] {x0 : FVec Ideal S8192x3072 .bf16} {x1 : FVec Ideal S1x8x129 .f32} {x2 : FVec Ideal S8192x1024 .bf16}
    (h : ∀ y, y = fn x0 x1 x2 → y.1 = (fun _ => 1#1) ∧ y.2.1 = (fun _ => 1#1) ∧ y.2.2 = (fun _ => 1#1)) :
    Reads (Pre_finite_attn.args x0 x1) (fun r k => tab2 (x2 : S8192x1024.Idx → EReal) r (512 + k)) x0 x1 x2 := by
  obtain ⟨h0, h1, h2⟩ := h _ rfl
  have f2 := finite_of cinf16 _ h2
  refine ⟨@Pre_finite_attn.reads Pre_finite_attn.facts _ _ (fun _ e => by subst e; exact ⟨h0, h1⟩), fun i hc => ?_⟩
  have hi : (i 1).val < 1024 := (i 1).isLt
  have e : extractStridedSlice S8192x512 ![0, 512] x2 Facts.slices_S8192x1024_S8192x512_0_512 (ix2 (i 0) (⟨(i 1).val - 512, by omega⟩ : Fin 512)) = x2 i :=
    extractStridedSlice_apply _ _ _ _ i (fun a => by
      match a with
      | ⟨0, _⟩ => exact (Nat.zero_add _).symm
      | ⟨1, _⟩ => show (i 1).val = 512 + ((i 1).val - 512); omega)
  have := f2 (ix2 (i 0) (⟨(i 1).val - 512, by omega⟩ : Fin 512))
  unfold num at this
  beta_reduce at this
  rw [e] at this
  beta_reduce
  rw [show 512 + ((i 1).val - 512) = (i 1).val by omega]
  refine this.trans (congrArg Real.toEReal ?_)
  refine Eq.trans ?_ (tab2_eq (x2 : S8192x1024.Idx → EReal) (i 0) (i 1)).symm
  exact congrArg (fun j => (x2 j).toReal) (eq_ix2 i)

end Cert.Pre_finite_grads
-- ==== Proof.R4.lean ====
/-
  The reference of `attn_bwd`: the gradients of the softmax, of the output and of the gate.
-/
module

public import proofs.«01_k».proof.Proof.R3Out
public import proofs.«01_k».proof.Proof.Inputs4
public import proofs.«01_k».proof.Proof.Gen.Reference4Ideal.Read

@[expose] public section

set_option maxRecDepth 16384

noncomputable section

namespace Cert.Reference4Ideal.Calc

open Idealize.ShloMosaic Idealize.ShloMosaic.TcCoe Idealize.SL.Sem Idealize.ShloMosaic.StableHlo
open Cert.Reference4Ideal Cert.Reference4Ideal.Gen Cert.Reference4Ideal.Read Cert.Holds Cert.Consts Cert.Spec3 Cert.Spec4
open Idealize.ShloMosaic.ValueIdx
open scoped BigOperators

variable {A : Args} {d : ℕ → ℕ → ℝ} {x0 : FVec Ideal S8192x3072 .bf16} {x1 : FVec Ideal S1x8x129 .f32} {x2 : FVec Ideal S8192x1024 .bf16}

/-! ## The forward pass's lines -/

theorem masked_eq : val_main_v65_0 (F := Ideal) x0 x1 = Reference3Ideal.Read.val_main_v65 (F := Ideal) x0 x1 := rfl
theorem greatest_eq : val_main_v66 (F := Ideal) x0 x1 = Reference3Ideal.Read.val_main_v66 (F := Ideal) x0 x1 := rfl
theorem keys_eq : val_main_v45 (F := Ideal) x0 = Reference3Ideal.Read.val_main_v45 (F := Ideal) x0 := rfl
theorem vals_eq : val_main_v106 (F := Ideal) x0 = Reference3Ideal.Read.val_main_v87 (F := Ideal) x0 := rfl
theorem bit_eq : val_main_v63 (F := Ideal) = Reference3Ideal.Read.val_main_v63 (F := Ideal) := rfl

theorem weight_holds (h : Spec3.Reads A x0 x1) :
    HR (val_main_v86 (F := Ideal) x0 x1) fun i => weight A (64 * (i 1).val + (i 3).val) (i 2).val (i 4).val := fun i => by
  rw [val_main_v86_apply, val_main_v85_apply, val_main_v84_apply, val_main_v83_apply, val_main_v73_apply, val_main_v72_apply, greatest_eq, masked_eq,
    Reference3Ideal.Calc.scores h, Reference3Ideal.Calc.greatest_holds h, show (val_main_cst_12 (F := Ideal)) _ = ⊥ from Reference3Ideal.Calc.cbot]
  refine (congrArg (fun z => FloatOps.hostUnary HostUnaryOp.exp (FloatOps.subf (F := Ideal) (φ := .f32) _ z)) (max_eq_right bot_le)).trans ?_
  exact masked_sub_exp _ _

theorem total_holds (h : Spec3.Reads A x0 x1) : HR (val_main_v87 (F := Ideal) x0 x1) fun j => total A (64 * (j 1).val + (j 3).val) (j 2).val := fun j => by
  rw [val_main_v87_apply, show (val_main_cst_18 (F := Ideal)) (Shape.Idx.first h_S_) = ((0 : ℝ) : EReal) from c0, EReal.coe_zero, zero_add]
  unfold total
  beta_reduce
  rw [Finset.sum_range, ← coe_sum]
  exact Finset.sum_congr rfl fun k _ => weight_holds h _

theorem total_unit (h : Spec3.Reads A x0 x1) : HR (val_main_v88 (F := Ideal) x0 x1) fun j => total A (64 * (j 1).val + (j 3).val) (j 2).val := fun j => by
  rw [val_main_v88_apply, total_holds h]

theorem share_holds (h : Spec3.Reads A x0 x1) : HR (val_main_v90 (F := Ideal) x0 x1) fun i => prob A (64 * (i 1).val + (i 3).val) (i 2).val (i 4).val :=
  HR.div (weight_holds h) (f := fun i => weight A (64 * (i 1).val + (i 3).val) (i 2).val (i 4).val)
    (g := fun i => total A (64 * (i 1).val + (i 3).val) (i 2).val) (fun i => by
      rw [val_main_v89_apply, total_unit h]) fun i => (total_pos A _ _).ne'

theorem out_holds (h : Spec3.Reads A x0 x1) : HR (val_main_v109 (F := Ideal) x0 x1) fun i => out A (i 1).val (i 2).val := fun i => by
  have h00 : (i 0).val < 1 := (i 0).isLt
  have h0 : (i 1).val < 8192 := (i 1).isLt
  have h1 : (i 2).val < 512 := (i 2).isLt
  rw [val_main_v109_apply, val_main_v108_apply, val_main_v107_apply]
  unfold out
  beta_reduce
  rw [Finset.sum_range, ← coe_sum]
  refine Finset.sum_congr rfl fun k _ => ?_
  rw [share_holds h, vals_eq, Reference3Ideal.Calc.vband h, ← EReal.coe_mul]
  simp only [idx_main_v109, idx_main_v108, lidx_main_v107, ridx_main_v107]
  have e1 : (((i 0).val * 8192 + (i 1).val) * 512 + (i 2).val) / 32768 % 128 = (i 1).val / 64 := by omega
  have e2 : (((i 0).val * 8192 + (i 1).val) * 512 + (i 2).val) / 512 % 64 = (i 1).val % 64 := by omega
  have e3 : (((i 0).val * 8192 + (i 1).val) * 512 + (i 2).val) / 64 % 8 = (i 2).val / 64 := by omega
  have e4 : (((i 0).val * 8192 + (i 1).val) * 512 + (i 2).val) % 64 = (i 2).val % 64 := by omega
  rw [e1, e2, e3, e4, show 64 * ((i 1).val / 64) + (i 1).val % 64 = (i 1).val by omega, show 64 * ((i 2).val / 64) + (i 2).val % 64 = (i 2).val by omega]
  congr 1
  unfold prob
  split
  · ring
  · next hs =>
    rw [weight, if_neg hs]
    ring

/-! ## The gate -/

theorem gate_holds (h : Spec3.Reads A x0 x1) : HR (val_main_v11 (F := Ideal) x0) fun i => A.g (i 1).val (i 2).val := fun i => by
  have h0 : (i 1).val < 8192 := (i 1).isLt
  have h1 : (i 2).val < 512 := (i 2).isLt
  rw [val_main_v11_apply, val_main_v10_apply, val_main_v9_apply]
  refine (h.g _ ?_).trans (congrArg Real.toEReal (congrArg₂ A.g ?_ ?_)) <;>
    simp only [idx_main_v10, idx_main_v9] <;> omega

theorem sig_holds (h : Spec3.Reads A x0 x1) : HR (val_main_v110_2 (F := Ideal) x0) fun i => Spec4.sig A (i 1).val (i 2).val := by
  have one : HR (val_main_call2_v2 (F := Ideal)) fun _ => 1 := HR.fill c1 bcast_S_S1x8192x512
  exact HR.div (one) (one.add (gate_holds h).neg.exp) fun i => by positivity

theorem d_holds (h : Spec4.Reads A d x0 x1 x2) : HR (val_main_v114 (F := Ideal) x2) fun i => d (i 1).val (i 2).val := fun i => by
  have h0 : (i 1).val < 8192 := (i 1).isLt
  have h1 : (i 2).val < 512 := (i 2).isLt
  rw [val_main_v114_apply, val_main_v113_apply, val_main_v112_apply]
  refine (h.d _ ?_).trans (congrArg Real.toEReal (congrArg₂ d ?_ ?_)) <;>
    simp only [idx_main_v113, idx_main_v112] <;> omega

/-- The gradient in the gates. -/
theorem dag_holds (h : Spec4.Reads A d x0 x1 x2) : HR (val_main_v143 (F := Ideal) x0 x1 x2) fun i => dag A d (i 0).val (i 1).val := fun i => by
  have one : HR (val_main_call2_v2 (F := Ideal)) fun _ => 1 := HR.fill c1 bcast_S_S1x8192x512
  have hs := sig_holds h.fwd
  have hg := gate_holds h.fwd
  have hx : HR (val_main_v115 (F := Ideal) x0 x1 x2) fun i => out A (i 1).val (i 2).val * d (i 1).val (i 2).val := (out_holds h.fwd).mul (d_holds h)
  have hs' : HR (val_main_v110_1 (F := Ideal) x0) _ := hs.mul (HR.sub one hs)
  have e : HR (val_main_v117 (F := Ideal) x0 x1 x2) _ := (hx.mul hs).add ((hg.mul hx).mul hs')
  have h0 : (i 0).val < 8192 := (i 0).isLt
  have h1 : (i 1).val < 512 := (i 1).isLt
  rw [val_main_v143_apply, val_main_v142_apply]
  refine (e _).trans (congrArg Real.toEReal ?_)
  simp only [idx_main_v142]
  have e1 : ((i 0).val * 512 + (i 1).val) / 512 = (i 0).val := by omega
  have e2 : ((i 0).val * 512 + (i 1).val) % 512 = (i 1).val := by omega
  simp only [e1, e2, show (i 0).val % 8192 = (i 0).val by omega]
  unfold dag
  ring

/-! ## The softmax's gradient -/

theorem da_holds (h : Spec4.Reads A d x0 x1 x2) : HR (val_main_v119 (F := Ideal) x0 x2) fun i =>
    da A d (64 * (i 1).val + (i 4).val) (64 * (i 2).val + (i 3).val) := fun i => by
  have h0 : (i 0).val < 1 := (i 0).isLt
  have h1 : (i 1).val < 128 := (i 1).isLt
  have h2 : (i 2).val < 8 := (i 2).isLt
  have h3 : (i 3).val < 64 := (i 3).isLt
  have h4 : (i 4).val < 64 := (i 4).isLt
  have e : HR (val_main_v116 (F := Ideal) x0 x2) fun i => da A d (i 1).val (i 2).val := (d_holds h).mul ((gate_holds h.fwd).mul (sig_holds h.fwd))
  rw [val_main_v119_apply, val_main_v118_apply, e]
  simp only [idx_main_v119, idx_main_v118]
  congr 2 <;> omega

theorem dp_holds (h : Spec4.Reads A d x0 x1 x2) : HR (val_main_v120 (F := Ideal) x0 x2) fun i =>
    dp A d (64 * (i 1).val + (i 3).val) (i 2).val (i 4).val := fun i => by
  have h3 : (i 3).val < 64 := (i 3).isLt
  rw [val_main_v120_apply]
  unfold dp
  beta_reduce
  rw [Finset.sum_range, ← coe_sum]
  refine Finset.sum_congr rfl fun k _ => ?_
  rw [da_holds h, vals_eq, Reference3Ideal.Calc.vband h.fwd, ← EReal.coe_mul]
  simp only [lidx_main_v120, ridx_main_v120]
  have e3 : (64 * (i 1).val + (i 3).val) / 64 = (i 1).val := by omega
  congr 2
  by_cases hs : 512 ≤ 64 * (i 1).val + (i 4).val
  · rw [if_pos hs, if_pos ((Reference3Ideal.Calc.sees_iff h3).mpr hs), e3]
  · rw [if_neg hs, if_neg fun k => hs ((Reference3Ideal.Calc.sees_iff h3).mp k)]

theorem inner_holds (h : Spec4.Reads A d x0 x1 x2) : HR (val_main_v126 (F := Ideal) x0 x1 x2) fun i =>
    -∑ j ∈ Finset.range 576, dp A d (64 * (i 1).val + (i 3).val) (i 2).val j
      * (1 / (total A (64 * (i 1).val + (i 3).val) (i 2).val * total A (64 * (i 1).val + (i 3).val) (i 2).val))
      * weight A (64 * (i 1).val + (i 3).val) (i 2).val j := by
  have one : HR (val_main_v92 (F := Ideal)) fun _ => 1 := HR.fill c1 bcast_S_S1x128x8x64x1
  have hq : HR (val_main_v93 (F := Ideal) x0 x1) fun i => 1 / (total A (64 * (i 1).val + (i 3).val) (i 2).val * total A (64 * (i 1).val + (i 3).val) (i 2).val) :=
    HR.div one ((total_unit h.fwd).mul (total_unit h.fwd)) fun i => (mul_pos (total_pos A _ _) (total_pos A _ _)).ne'
  have e : HR (val_main_v123 (F := Ideal) x0 x1 x2) fun i => dp A d (64 * (i 1).val + (i 3).val) (i 2).val (i 4).val
      * (1 / (total A (64 * (i 1).val + (i 3).val) (i 2).val * total A (64 * (i 1).val + (i 3).val) (i 2).val))
      * weight A (64 * (i 1).val + (i 3).val) (i 2).val (i 4).val :=
    HR.mul ((dp_holds h).mul (fun i => by rw [val_main_v121_apply, hq]) (g := fun i => 1 / (total A (64 * (i 1).val + (i 3).val) (i 2).val * total A (64 * (i 1).val + (i 3).val) (i 2).val))) (weight_holds h.fwd)
  refine HR.neg (f := fun i => ∑ j ∈ Finset.range 576, dp A d (64 * (i 1).val + (i 3).val) (i 2).val j
      * (1 / (total A (64 * (i 1).val + (i 3).val) (i 2).val * total A (64 * (i 1).val + (i 3).val) (i 2).val))
      * weight A (64 * (i 1).val + (i 3).val) (i 2).val j) fun i => ?_
  rw [val_main_v125_apply, val_main_v124_apply, show (val_main_cst_21 (F := Ideal)) (Shape.Idx.first h_S_) = ((0 : ℝ) : EReal) from c0, EReal.coe_zero, zero_add]
  beta_reduce
  rw [Finset.sum_range, ← coe_sum]
  refine Finset.sum_congr rfl fun k _ => (e _).trans ?_
  have h0 : (i 0).val < 1 := (i 0).isLt
  have h1 : (i 1).val < 128 := (i 1).isLt
  have h2 : (i 2).val < 8 := (i 2).isLt
  have h3 : (i 3).val < 64 := (i 3).isLt
  simp only [idx_main_v125, idx_main_v124]
  have h4 : (i 4).val < 1 := (i 4).isLt
  have e1 : (((((i 0).val * 128 + (i 1).val) * 8 + (i 2).val) * 64 + (i 3).val) * 1 + (i 4).val) / 512 % 128 = (i 1).val := by omega
  have e2 : (((((i 0).val * 128 + (i 1).val) * 8 + (i 2).val) * 64 + (i 3).val) * 1 + (i 4).val) / 64 % 8 = (i 2).val := by omega
  have e3 : (((((i 0).val * 128 + (i 1).val) * 8 + (i 2).val) * 64 + (i 3).val) * 1 + (i 4).val) % 64 = (i 3).val := by omega
  rw [e1, e2, e3]

theorem unit_drop (i : S1x128x8x64x1.Idx) (j : S128x8x64.Idx) :
    reducesTo_S1x128x8x64x1_S128x8x64_d0_4.drop i = j ↔ (i 1).val = (j 0).val ∧ (i 2).val = (j 1).val ∧ (i 3).val = (j 2).val := by
  have e0 := Shape.ReducesTo.drop_apply_val_of_eq reducesTo_S1x128x8x64x1_S128x8x64_d0_4 i 0 1 (by decide)
  have e1 := Shape.ReducesTo.drop_apply_val_of_eq reducesTo_S1x128x8x64x1_S128x8x64_d0_4 i 1 2 (by decide)
  have e2 := Shape.ReducesTo.drop_apply_val_of_eq reducesTo_S1x128x8x64x1_S128x8x64_d0_4 i 2 3 (by decide)
  constructor
  · intro h
    rw [← e0, ← e1, ← e2, h]
    exact ⟨rfl, rfl, rfl⟩
  · rintro ⟨h1, h2, h3⟩
    funext b
    match b with
    | ⟨0, _⟩ => exact Fin.ext (e0.trans h1)
    | ⟨1, _⟩ => exact Fin.ext (e1.trans h2)
    | ⟨2, _⟩ => exact Fin.ext (e2.trans h3)

theorem spread_holds (h : Spec4.Reads A d x0 x1 x2) : HR (val_main_v131 (F := Ideal) x0 x1 x2) fun i =>
    -∑ j ∈ Finset.range 576, dp A d (64 * (i 1).val + (i 3).val) (i 2).val j
      * (1 / (total A (64 * (i 1).val + (i 3).val) (i 2).val * total A (64 * (i 1).val + (i 3).val) (i 2).val))
      * weight A (64 * (i 1).val + (i 3).val) (i 2).val j := fun i => by
  rw [val_main_v131_apply, val_main_v130_apply]
  unfold val_main_v129
  refine (sum_unit reducesTo_S1x128x8x64x1_S128x8x64_d0_4 (inner_holds h) c0 h_S_ _ (ix5 (0 : Fin 1) (i 1) (i 2) (i 3) (0 : Fin 1)) (fun k hk => ?_) ?_).trans rfl
  · obtain ⟨h1, h2, h3⟩ := (unit_drop _ _).mp hk
    have k0 : (k 0).val < 1 := (k 0).isLt
    have k4 : (k 4).val < 1 := (k 4).isLt
    funext b
    match b with
    | ⟨0, _⟩ => exact Fin.ext (show (k 0).val = 0 by omega)
    | ⟨1, _⟩ => exact Fin.ext h1
    | ⟨2, _⟩ => exact Fin.ext h2
    | ⟨3, _⟩ => exact Fin.ext h3
    | ⟨4, _⟩ => exact Fin.ext (show (k 4).val = 0 by omega)
  · exact (unit_drop _ _).mpr ⟨rfl, rfl, rfl⟩

theorem inner_eq (A : Args) (d : ℕ → ℕ → ℝ) (n g j : ℕ) :
    (dp A d n g j / total A n g + -∑ j ∈ Finset.range 576, dp A d n g j * (1 / (total A n g * total A n g)) * weight A n g j) * weight A n g j = ds A d n g j := by
  have ht := (total_pos A n g).ne'
  unfold ds prob
  have e : ∑ j ∈ Finset.range 576, dp A d n g j * (1 / (total A n g * total A n g)) * weight A n g j
      = (∑ j ∈ Finset.range 576, weight A n g j / total A n g * dp A d n g j) / total A n g := by
    rw [Finset.sum_div]
    refine Finset.sum_congr rfl fun j _ => ?_
    field_simp
  rw [e]
  field_simp
  ring

theorem ds_holds (h : Spec4.Reads A d x0 x1 x2) : HR (val_main_v133 (F := Ideal) x0 x1 x2) fun i =>
    ds A d (64 * (i 1).val + (i 3).val) (i 2).val (i 4).val := by
  have hq : HR (val_main_v128 (F := Ideal) x0 x1 x2) fun i => dp A d (64 * (i 1).val + (i 3).val) (i 2).val (i 4).val / total A (64 * (i 1).val + (i 3).val) (i 2).val :=
    HR.div (dp_holds h) (g := fun i => total A (64 * (i 1).val + (i 3).val) (i 2).val) (fun i => by rw [val_main_v127_apply, total_unit h.fwd]) fun i => (total_pos A _ _).ne'
  exact HR.congr ((hq.add (spread_holds h)).mul (weight_holds h.fwd)) fun i => inner_eq A d _ _ _

theorem masked_ds (h : Spec4.Reads A d x0 x1 x2) : HR (val_main_v134 (F := Ideal) x0 x1 x2) fun i =>
    ds A d (64 * (i 1).val + (i 3).val) (i 2).val (i 4).val := fun i => by
  have h3 : (i 3).val < 64 := (i 3).isLt
  rw [val_main_v134_apply, val_main_v65_1_apply, val_main_v64_apply, bit_eq, Reference3Ideal.Calc.sees_at, val_main_call4_v0_apply,
    show (val_main_call4_cst (F := Ideal)) _ = ((0 : ℝ) : EReal) from c0, ds_holds h]
  show Scalar.select (BitVec.ofBool (decide (512 ≤ 64 * (i 1).val + (i 4).val))) _ _ = _
  by_cases hs : 512 ≤ 64 * (i 1).val + (i 4).val
  · rw [decide_eq_true hs]
    rfl
  · rw [decide_eq_false hs]
    refine Eq.trans rfl (congrArg Real.toEReal (show (0 : ℝ) = _ from ?_))
    show (0 : ℝ) = ds A d (64 * (i 1).val + (i 3).val) (i 2).val (i 4).val
    rw [ds, prob_zero A fun k => hs ((Reference3Ideal.Calc.sees_iff h3).mp k), zero_mul]

/-- The gradient in the queries. -/
theorem dq_holds (h : Spec4.Reads A d x0 x1 x2) : HR (val_main_v141 (F := Ideal) x0 x1 x2) fun i => dq A d (i 0).val (i 1).val := fun i => by
  have h0 : (i 0).val < 8192 := (i 0).isLt
  have h1 : (i 1).val < 512 := (i 1).isLt
  have e8 : HR (val_main_v135 (F := Ideal)) fun _ => 1 / 8 := HR.fill Reference3Ideal.Calc.ceighth bcast_S_S1x128x8x64x576
  have e : HR (val_main_v136 (F := Ideal) x0 x1 x2) _ := (masked_ds h).mul e8
  rw [val_main_v141_apply, val_main_v140_apply, val_main_v139_apply, val_main_v138_apply, val_main_v137_apply]
  unfold dq
  beta_reduce
  rw [Finset.sum_mul, Finset.sum_range, ← coe_sum]
  refine Finset.sum_congr rfl fun k _ => ?_
  rw [e, keys_eq, Reference3Ideal.Calc.kband h.fwd, ← EReal.coe_mul]
  simp only [idx_main_v140, idx_main_v139, idx_main_v138, lidx_main_v137, ridx_main_v137]
  have e1 : ((i 0).val * 512 + (i 1).val) / 512 % 8192 = (i 0).val := by omega
  have e2 : ((i 0).val * 512 + (i 1).val) / 64 % 8 = (i 1).val / 64 := by omega
  have e3 : ((i 0).val * 512 + (i 1).val) % 64 = (i 1).val % 64 := by omega
  have f1 : (((0 * 8192 + (i 0).val) * 8 + (i 1).val / 64) * 64 + (i 1).val % 64) / 32768 % 128 = (i 0).val / 64 := by omega
  have f2 : (((0 * 8192 + (i 0).val) * 8 + (i 1).val / 64) * 64 + (i 1).val % 64) / 512 % 64 = (i 0).val % 64 := by omega
  have f3 : (((0 * 8192 + (i 0).val) * 8 + (i 1).val / 64) * 64 + (i 1).val % 64) / 64 % 8 = (i 1).val / 64 := by omega
  have f4 : (((0 * 8192 + (i 0).val) * 8 + (i 1).val / 64) * 64 + (i 1).val % 64) % 64 = (i 1).val % 64 := by omega
  rw [e1, e2, e3, f1, f2, f3, f4, show 64 * ((i 0).val / 64) + (i 0).val % 64 = (i 0).val by omega, show 64 * ((i 1).val / 64) + (i 1).val % 64 = (i 1).val by omega]
  congr 1
  split
  · ring
  · next hs =>
    have hn : ¬ Sees (i 0).val k.val := by unfold Sees; omega
    rw [ds, prob_zero A hn]
    ring

end Cert.Reference4Ideal.Calc
-- ==== Proof.K4Tile.lean ====
/-
  One super of `attn_bwd`, a pair of heads over 128 rows, read over the reals: the gates' gradient, the scores' and the
  queries', each in the kernel's words.
-/
module

public import proofs.«01_k».proof.Proof.K3Tile
public import proofs.«01_k».proof.Proof.R4
public import proofs.«01_k».proof.Proof.Gen.Kernel4Ideal.Value

@[expose] public section

set_option maxRecDepth 16384

noncomputable section

namespace Cert.Kernel4Ideal.Tile

open Idealize.ShloMosaic Idealize.ShloMosaic.TcCoe Idealize.SL.Sem Idealize.ShloMosaic.ValueIdx
open Cert.Kernel4Ideal Cert.Kernel4Ideal.Gen Cert.Holds Cert.Spec3 Cert.Spec4 Cert.Consts
open Cert.Kernel3Ideal.Tile
open scoped BigOperators
open Finset (range)

/-- The product of an `R × K` matrix with a transposed `C × K` one, onto zero. -/
theorem dotCols {R C K : ℕ} {φ₁ φ₂ : FTy} {wf} (d : DotDims ⟨2, ![R, K]⟩ ⟨2, ![C, K]⟩ ⟨2, ![R, C]⟩) (hd : d = colsDims K R C wf)
    {x : FVec Ideal ⟨2, ![R, K]⟩ φ₁} {y : FVec Ideal ⟨2, ![C, K]⟩ φ₂} {f g : ℕ → ℕ → ℝ} (hx : H x f) (hy : H y g)
    {z : FVec Ideal ⟨2, ![R, C]⟩ .f32} (hz : H z fun _ _ => 0) :
    H (matmul d none x y z) (fun r c => ∑ k ∈ range K, f r k * g c k) := fun i => by
  refine (HE.dotCols d hd (H.toE hx) (H.toE hy) hz i).trans ?_
  dsimp only
  rw [Finset.sum_range, ← coe_sum]
  exact Finset.sum_congr rfl fun k _ => (EReal.coe_mul _ _).symm

/-- The lanes of the other head. -/
theorem own_bit : Bit (xori (cmpi .sge (iota .tc S128x256 32 [0] iota_S128x256_d0_w32) (broadcast S128x256 64#32))
    (cmpi .sge (iota .tc S128x256 32 [1] iota_S128x256_d1_w32) (broadcast S128x256 128#32))) fun r l => ¬ (64 ≤ r ↔ 128 ≤ l) := fun i => by
  have e (a b : ℕ) (ha : a < 2 ^ 31) (hb : b < 2 ^ 31) : IntOp.xori (IntOp.cmpi .sge (BitVec.ofNat 32 a) (BitVec.ofNat 32 64))
      (IntOp.cmpi .sge (BitVec.ofNat 32 b) (BitVec.ofNat 32 128)) = if ¬ (64 ≤ a ↔ 128 ≤ b) then 1#1 else 0#1 := by
    rw [sge_word ha (by norm_num), sge_word hb (by norm_num)]
    by_cases h1 : 64 ≤ a <;> by_cases h2 : 128 ≤ b <;> simp only [h1, h2] <;> rfl
  refine Eq.trans ?_ (e (i 0).val (i 1).val (lt_trans (i 0).isLt (by show 128 < _; norm_num)) (lt_trans (i 1).isLt (by show 256 < _; norm_num)))
  exact congrArg₂ (fun x y => IntOp.xori (IntOp.cmpi .sge x (BitVec.ofNat 32 64)) (IntOp.cmpi .sge y (BitVec.ofNat 32 128))) (iota_single_apply ..) (iota_single_apply ..)

variable {A : Args} {d : ℕ → ℕ → ℝ} {p s : ℕ}

/-- What a super reads: its rows of the gates, of the output and of its gradient, its saved weights and inverses, and its window of the bands. -/
abbrev Rows (f : ℕ → ℕ → ℝ) (p s : ℕ) (x : Vec Ideal S128x128 .bf16) : Prop := H x fun r c => f (128 * s + r) (128 * p + c)
abbrev Vals4 (A : Args) (p s : ℕ) (x : Vec Ideal S640x128 .bf16) : Prop := H x fun j c => valBand A p (128 * s + 1536 + j) c
abbrev Keys4 (A : Args) (p s : ℕ) (x : Vec Ideal S128x640 .bf16) : Prop := H x fun c j => keyCols A p (128 * s + 1536 + j) c

variable {g dy a : Vec Ideal S128x128 .bf16} {e : Vec Ideal S1x1x640x256 .bf16} {inv : Vec Ideal S1x1x1x256 .f32} {vb : Vec Ideal S640x128 .bf16}
  {kt : Vec Ideal S128x640 .bf16}

theorem sig_word (hg : Rows A.g p s g) : H (k0_pay11 g) fun r c => Spec4.sig A (128 * s + r) (128 * p + c) := by
  unfold k0_pay11
  refine (H.div (H.splat c1) ((H.splat c1).add ((H.splat c0).sub (hg.extf bitsLt_bf16_f32)).exp) fun r hr c hc => ?_).congr fun r hr c hc => ?_
  · positivity
  · unfold Spec4.sig
    rw [zero_sub]

theorem dag_word (hg : Rows A.g p s g) (hd : Rows d p s dy) (ha : Rows (out A) p s a) :
    H (k0_pay13 g dy a) fun r c => dag A d (128 * s + r) (128 * p + c) := by
  unfold k0_pay13
  exact (((hd.extf bitsLt_bf16_f32).mul ((H.cast ha _).extf bitsLt_bf16_f32)).mul
    ((sig_word hg).mul ((H.splat c1).add ((hg.extf bitsLt_bf16_f32).mul ((H.splat c1).sub (sig_word hg)))))).truncf _

theorem da_word (hg : Rows A.g p s g) (hd : Rows d p s dy) : H (k0_pay15 g dy) (laneDa A d p s) := by
  unfold k0_pay15
  have hv : H (truncf .bf16 (mulf (k0_pay12 dy) (mulf (k0_pay10 g) (k0_pay11 g))) bitsLt_bf16_f32) fun r c => da A d (128 * s + r) (128 * p + c) :=
    ((hd.extf bitsLt_bf16_f32).mul ((hg.extf bitsLt_bf16_f32).mul (sig_word hg))).truncf _
  refine (H.catRows (H.choose low_cols hv (H.splat czero16)) (H.choose low_cols (H.splat czero16) hv) concatenates_S128x128_S128x128_S256x128_d0).congr fun l hl k hk => ?_
  unfold laneDa
  by_cases h1 : l < 128 <;> by_cases h2 : k < 64
  · rw [if_pos h1, if_pos h2, if_pos (by omega), show l % 128 = l by omega]
  · rw [if_pos h1, if_neg h2, if_neg (by omega)]
  · rw [if_neg h1, if_pos h2, if_neg (by omega)]
  · rw [if_neg h1, if_neg h2, if_pos (by omega), show l % 128 = l - 128 by omega]

section
variable (he : H4 e (saved A p s)) (hi : H4 inv fun _ l => inverse A p s l)
include he hi

theorem p_word : H (k0_pay16 e inv) (laneP A p s) := by
  unfold k0_pay16
  exact ((H4.flat he shapeCasts_S1x1x640x256_S640x256).extf bitsLt_bf16_f32).mul (H.row (H4.flat hi shapeCasts_S1x1x1x256_S1x256) broadcasts_S1x256_S640x256)

variable (hg : Rows A.g p s g) (hd : Rows d p s dy) (hv : Vals4 A p s vb)
include hg hd hv

theorem ds_word : H (k0_pay20 (k0_pay15 g dy) e inv vb) (laneDs A d p s) := by
  unfold k0_pay20 k0_pay17
  have hp := p_word he hi
  have hdp : H (matmul (φ₁ := .bf16) (φ₂ := .bf16) dot_S640x128_S256x128_S640x256_1_1_0_0_n_n none vb (k0_pay15 g dy) (constant S640x256 .f32 0x00000000#32)) (laneDp A d p s) :=
    dotCols dot_S640x128_S256x128_S640x256_1_1_0_0_n_n rfl hv (da_word hg hd) (H.const c0)
  exact (hp.mul (hdp.sub (H.row (H.sumRows (hp.mul hdp) _ _ (.inl rfl) rfl _) broadcasts_S1x256_S640x256))).truncf _

theorem dq_word (hk : Keys4 A p s kt) : H (k0_pay35 (k0_pay20 (k0_pay15 g dy) e inv vb) kt) fun r c => dq A d (128 * s + r) (128 * p + c) := by
  unfold k0_pay35
  have hm := H.dot (φ₁ := .bf16) (φ₂ := .bf16) dot_S128x640_S640x256_S128x256_1_0_0_1_n_n rfl hk (ds_word he hi hg hd hv) (H.const c0)
  have hbit : Bit (xori (cmpi .sge (iota .tc S128x256 32 [0] iota_S128x256_d0_w32) (broadcast S128x256 64#32))
      (cmpi .sge (iota .tc S128x256 32 [1] iota_S128x256_d1_w32) (broadcast S128x256 128#32))) fun r l => ¬ (64 ≤ r ↔ 128 ≤ l) := own_bit
  have ht := (H.choose hbit (H.splat c0) hm).transpose transposes_S128x256_p1_0_S256x128
  refine ((((ht.slice 0 0 slices_S256x128_o0_0_S128x128).add (ht.slice 128 0 slices_S256x128_o128_0_S128x128)).mul (H.splat Reference3Ideal.Calc.ceighth)).truncf _).congr fun r hr c hc => ?_
  rw [← sum_dq p s hr hc]
  by_cases h : c < 64
  · have e : 128 * (c / 64) + r = r := by omega
    rw [e]
    simp only [zero_add, Nat.zero_add]
    rw [if_neg (by omega), if_pos (by omega), add_zero]
  · have e : 128 * (c / 64) + r = 128 + r := by omega
    rw [e]
    simp only [Nat.zero_add]
    rw [if_pos (by omega), if_neg (by omega), zero_add]
end

end Cert.Kernel4Ideal.Tile
-- ==== Proof.K4Block.lean ====
/-
  The pieces that a grid point of `attn_bwd` writes: the bands of values and keys that it carries, and its 16 supers.
-/
module

public import proofs.«01_k».proof.Proof.K3Step
public import proofs.«01_k».proof.Proof.K4Tile

@[expose] public section

set_option maxRecDepth 16384

noncomputable section

namespace Cert.Kernel4Ideal.Tile

open Idealize.ShloMosaic Idealize.ShloMosaic.TcCoe Idealize.SL.Sem Idealize.ShloMosaic.ValueIdx
open Cert.Kernel4Ideal Cert.Kernel4Ideal.Gen Cert.Holds Cert.Spec3 Cert.Spec4 Cert.Consts Cert.Boxes
open Cert.Kernel3Ideal.Tile (H4 HE czero16 canon_good mem_box H.readCov H.load good HE.eq)
open scoped BigOperators
open Finset (range)

variable {A : Args} {d : ℕ → ℕ → ℝ} {p n : ℕ}

/-! ## The bands -/

/-- The bands of grid step `n`: 2048 positions of the step before and its own. -/
abbrev VBand (A : Args) (p n : ℕ) (x : S4096x128.Idx → EReal) : Prop := H x fun r c => valBand A p (2048 * n + r) c
abbrev KBand (A : Args) (p n : ℕ) (x : S128x4096.Idx → EReal) : Prop := H x fun c r => keyCols A p (2048 * n + r) c

/-- The writes of a band: its new half, onto the old one. -/
def valsL (y x : Vec Ideal S2048x128 .bf16) : List (View.Piece (Elt Ideal) S4096x128 .bf16) :=
  [⟨Rect.unit ![2048, 0] ![2048, 128] inb_S4096x128_S2048x128_2048_0, y⟩, ⟨Rect.unit ![0, 0] ![2048, 128] inb_S4096x128_S2048x128_0_0, x⟩]
def keysL (y x : Vec Ideal S128x2048 .bf16) : List (View.Piece (Elt Ideal) S128x4096 .bf16) :=
  [⟨Rect.unit ![0, 2048] ![128, 2048] inb_S128x4096_S128x2048_0_2048, y⟩, ⟨Rect.unit ![0, 0] ![128, 2048] inb_S128x4096_S128x2048_0_0, x⟩]

theorem vals_band {y x : Vec Ideal S2048x128 .bf16} (hy : H y fun r c => A.v (2048 * n + r) (128 * p + c)) (hx : H x fun r c => valBand A p (2048 * n + r) c) :
    VBand A p n (View.canon (valsL y x)) := fun i => by
  have y0 : (i 0).val < 4096 := (i 0).isLt
  have y1 : (i 1).val < 128 := (i 1).isLt
  unfold valsL
  refine canon_good (Val := Elt Ideal) (e := .bf16) (T := fun i => ((valBand A p (2048 * n + (i 0).val) (i 1).val : ℝ) : EReal)) ?_ i ?_
  · refine List.forall_mem_cons.mpr ⟨fun j => ?_, List.forall_mem_cons.mpr ⟨fun j => ?_, fun _ h => absurd h List.not_mem_nil⟩⟩
    · refine (hy j).trans ?_
      dsimp only
      rw [emb_val, emb_val]
      show _ = ((valBand A p (2048 * n + (2048 + (j 0).val)) (0 + (j 1).val) : ℝ) : EReal)
      unfold valBand
      rw [if_pos (by omega)]
      congr 2 <;> omega
    · refine (hx j).trans ?_
      dsimp only
      rw [emb_val, emb_val]
      show _ = ((valBand A p (2048 * n + (0 + (j 0).val)) (0 + (j 1).val) : ℝ) : EReal)
      rw [Nat.zero_add, Nat.zero_add]
  · by_cases h : 2048 ≤ (i 0).val
    · exact ⟨_, List.mem_cons_self .., mem_box (inb := inb_S4096x128_S2048x128_2048_0) ⟨h, by omega⟩ ⟨Nat.zero_le _, by omega⟩⟩
    · exact ⟨_, List.mem_cons_of_mem _ (List.mem_cons_self ..), mem_box (inb := inb_S4096x128_S2048x128_0_0) ⟨Nat.zero_le _, by omega⟩ ⟨Nat.zero_le _, by omega⟩⟩

theorem keys_band {y x : Vec Ideal S128x2048 .bf16} (hy : H y fun c r => A.k (2048 * n + r) (128 * p + c)) (hx : H x fun c r => keyCols A p (2048 * n + r) c) :
    KBand A p n (View.canon (keysL y x)) := fun i => by
  have y0 : (i 0).val < 128 := (i 0).isLt
  have y1 : (i 1).val < 4096 := (i 1).isLt
  unfold keysL
  refine canon_good (Val := Elt Ideal) (e := .bf16) (T := fun i => ((keyCols A p (2048 * n + (i 1).val) (i 0).val : ℝ) : EReal)) ?_ i ?_
  · refine List.forall_mem_cons.mpr ⟨fun j => ?_, List.forall_mem_cons.mpr ⟨fun j => ?_, fun _ h => absurd h List.not_mem_nil⟩⟩
    · refine (hy j).trans ?_
      dsimp only
      rw [emb_val, emb_val]
      show _ = ((keyCols A p (2048 * n + (2048 + (j 1).val)) (0 + (j 0).val) : ℝ) : EReal)
      unfold keyCols
      rw [if_pos (by omega)]
      congr 2 <;> omega
    · refine (hx j).trans ?_
      dsimp only
      rw [emb_val, emb_val]
      show _ = ((keyCols A p (2048 * n + (0 + (j 1).val)) (0 + (j 0).val) : ℝ) : EReal)
      rw [Nat.zero_add, Nat.zero_add]
  · by_cases h : 2048 ≤ (i 1).val
    · exact ⟨_, List.mem_cons_self .., mem_box (inb := inb_S128x4096_S128x2048_0_2048) ⟨Nat.zero_le _, by omega⟩ ⟨h, by omega⟩⟩
    · exact ⟨_, List.mem_cons_of_mem _ (List.mem_cons_self ..), mem_box (inb := inb_S128x4096_S128x2048_0_0) ⟨Nat.zero_le _, by omega⟩ ⟨Nat.zero_le _, by omega⟩⟩

section
variable {v k : Vec Ideal S2048x128 .bf16} (hv : H v fun r c => A.v (2048 * n + r) (128 * p + c)) (hk : H k fun r c => A.k (2048 * n + r) (128 * p + c))

include hv in
theorem new_vals {inb} : H (k0_pay5 (View.ld v (Rect.unit ![0, 0] ![2048, 128] inb))) fun r c => A.v (2048 * n + r) (128 * p + c) := by
  unfold k0_pay5
  exact ((H.load hv).cast _).congr fun r hr c hc => by rw [Nat.zero_add, Nat.zero_add]

include hk in
theorem new_keys {inb} : H (k0_pay8 (View.ld k (Rect.unit ![0, 0] ![2048, 128] inb))) fun c r => A.k (2048 * n + r) (128 * p + c) := by
  unfold k0_pay8
  exact (((H.load hk).transpose _).cast _).congr fun r hr c hc => by rw [Nat.zero_add, Nat.zero_add]

theorem no_vals : H (k0_pay3 (F := Ideal)) fun r c => valBand A p (2048 * 0 + r) c :=
  H.congr (H.cast (H.splat czero16) shapeCasts_S2048x128_S2048x128) fun r hr c hc => by unfold valBand; rw [if_neg (by omega)]

theorem no_keys : H (k0_pay6 (F := Ideal)) fun c r => keyCols A p (2048 * 0 + r) c :=
  H.congr (H.cast (H.splat czero16) shapeCasts_S128x2048_S128x2048) fun c hc r hr => by unfold keyCols; rw [if_neg (by omega)]

theorem old_vals {x : Vec Ideal S4096x128 .bf16} {n' : ℕ} (hn : n = n' + 1) (hx : VBand A p n' x) {inb} :
    H (k0_pay4 (View.ld x (Rect.unit ![2048, 0] ![2048, 128] inb))) fun r c => valBand A p (2048 * n + r) c :=
  H.congr (H.cast (H.load hx) shapeCasts_S2048x128_S2048x128) fun r hr c hc => by
    rw [hn]
    congr 1 <;> ring

theorem old_keys {x : Vec Ideal S128x4096 .bf16} {n' : ℕ} (hn : n = n' + 1) (hx : KBand A p n' x) {inb} :
    H (k0_pay7 (View.ld x (Rect.unit ![0, 2048] ![128, 2048] inb))) fun c r => keyCols A p (2048 * n + r) c :=
  H.congr (H.cast (H.load hx) shapeCasts_S128x2048_S128x2048) fun c hc r hr => by
    rw [hn]
    congr 1 <;> ring
end

/-! ## A super -/

/-- What stands in the two outputs at grid step `n` of pair `p`. -/
def dqT (A : Args) (d : ℕ → ℕ → ℝ) (p n : ℕ) (i : S2048x128.Idx) : EReal := ((dq A d (2048 * n + (i 0).val) (128 * p + (i 1).val) : ℝ) : EReal)
def dagT (A : Args) (d : ℕ → ℕ → ℝ) (p n : ℕ) (i : S2048x128.Idx) : EReal := ((dag A d (2048 * n + (i 0).val) (128 * p + (i 1).val) : ℝ) : EReal)

/-- What a super reads of its rows, of the saved weights and inverses, and of the bands. -/
abbrev QRead (f : ℕ → ℕ → ℝ) (p n o : ℕ) (x : S128x128.Idx → EReal) : Prop := H x fun r c => f (2048 * n + (o + r)) (128 * p + (0 + c))
abbrev VRead (A : Args) (p n o : ℕ) (x : S640x128.Idx → EReal) : Prop := H x fun r c => valBand A p (2048 * n + (o + r)) (0 + c)
abbrev KRead (A : Args) (p n o : ℕ) (x : S128x640.Idx → EReal) : Prop := H x fun c r => keyCols A p (2048 * n + (o + r)) (0 + c)

theorem load_e {x : Vec Ideal S1x16x640x256 .bf16} (h : ∀ i, x i = ((saved A p (16 * n + (i 1).val) (i 2).val (i 3).val : ℝ) : EReal)) {sc : ℕ} {inb} :
    H4 (View.ld (Val := Elt Ideal) x (Rect.unit (s := S1x16x640x256) ![0, sc, 0, 0] ![1, 1, 640, 256] inb)) (saved A p (16 * n + sc)) := fun j => by
  rw [View.ld_unit]
  refine (h _).trans ?_
  have : (j 1).val < 1 := (j 1).isLt
  show ((saved A p (16 * n + (sc + (j 1).val)) (0 + (j 2).val) (0 + (j 3).val) : ℝ) : EReal) = _
  rw [Nat.zero_add, Nat.zero_add, show (j 1).val = 0 by omega, Nat.add_zero]

theorem load_inv {x : Vec Ideal S1x16x8x256 .f32} (h : ∀ i, x i = ((inverse A p (16 * n + (i 1).val) (i 3).val : ℝ) : EReal)) {sc : ℕ} {inb} :
    H4 (View.ld (Val := Elt Ideal) x (Rect.unit (s := S1x16x8x256) ![0, sc, 0, 0] ![1, 1, 1, 256] inb)) (fun _ l => inverse A p (16 * n + sc) l) := fun j => by
  rw [View.ld_unit]
  refine (h _).trans ?_
  have : (j 1).val < 1 := (j 1).isLt
  show ((inverse A p (16 * n + (sc + (j 1).val)) (0 + (j 3).val) : ℝ) : EReal) = _
  rw [Nat.zero_add, show (j 1).val = 0 by omega, Nat.add_zero]

section
variable {sc o o' : ℕ} {g dy a : Vec Ideal S128x128 .bf16} {e : Vec Ideal S1x1x640x256 .bf16} {inv : Vec Ideal S1x1x1x256 .f32} {vb : Vec Ideal S640x128 .bf16}
  {kt : Vec Ideal S128x640 .bf16}
variable (ho : o = 128 * sc) (ho' : o' = 1536 + o) (hg : QRead A.g p n o g) (hd : QRead d p n o dy)

include ho in
theorem rows_of {f : ℕ → ℕ → ℝ} {x : Vec Ideal S128x128 .bf16} (h : QRead f p n o x) : Rows f p (16 * n + sc) x := H.congr h fun r _ c _ => by
  subst ho
  congr 1 <;> ring

include hg hd in
theorem putG (hm : o % 128 = 0) (ha : QRead (out A) p n o a) {inb} (j) : k0_pay13 g dy a j = dagT A d p n ((Rect.unit (s := S2048x128) ![o, 0] ![128, 128] inb).emb j) := by
  obtain ⟨sc, ho⟩ : ∃ sc, o = 128 * sc := ⟨o / 128, by omega⟩
  refine (dag_word (rows_of ho hg) (rows_of ho hd) (rows_of ho ha) j).trans ?_
  unfold dagT
  rw [emb_val, emb_val]
  show ((dag A d (128 * (16 * n + sc) + (j 0).val) (128 * p + (j 1).val) : ℝ) : EReal) = ((dag A d (2048 * n + (o + (j 0).val)) (128 * p + (0 + (j 1).val)) : ℝ) : EReal)
  subst ho
  congr 2 <;> ring

include ho ho' hg hd in
theorem putQ (he : H4 e (saved A p (16 * n + sc))) (hi : H4 inv fun _ l => inverse A p (16 * n + sc) l) (hv : VRead A p n o' vb) (hk : KRead A p n o' kt) {inb} (j) :
    k0_pay35 (k0_pay20 (k0_pay15 g dy) e inv vb) kt j = dqT A d p n ((Rect.unit (s := S2048x128) ![o, 0] ![128, 128] inb).emb j) := by
  refine (dq_word he hi (rows_of ho hg) (rows_of ho hd) (H.congr hv fun r _ c _ => ?_) (H.congr hk fun r _ c _ => ?_) j).trans ?_
  · subst ho ho'
    congr 1 <;> ring
  · subst ho ho'
    congr 1 <;> ring
  unfold dqT
  rw [emb_val, emb_val]
  show ((dq A d (128 * (16 * n + sc) + (j 0).val) (128 * p + (j 1).val) : ℝ) : EReal) = ((dq A d (2048 * n + (o + (j 0).val)) (128 * p + (0 + (j 1).val)) : ℝ) : EReal)
  subst ho
  congr 2 <;> ring
end

/-! ## A tile kept for the last step -/

theorem readHead {R C a b n m : ℕ} {sg : RefSig} {κ : Kind} {sp : Space} {v : View sg κ sp ⟨2, ![R, C]⟩ .bf16} {inb inb'} (w : (⟨2, ![n, m]⟩ : Shape).Idx → Elt Ideal .bf16)
    (L : List (View.Piece (Elt Ideal) ⟨2, ![R, C]⟩ .bf16)) (j) :
    v.readCov ((⟨Rect.unit (s := ⟨2, ![R, C]⟩) ![a, b] ![n, m] inb, w⟩ : View.Piece (Elt Ideal) ⟨2, ![R, C]⟩ .bf16) :: L)
      (Rect.unit (s := ⟨2, ![R, C]⟩) ![a, b] ![n, m] inb').toLoadRect j = w j := by
  rw [readCov_apply]
  exact View.canon_cons_emb _ w L j

theorem copied (x : FVec Ideal S128x128 .bf16) : k0_pay14 x = x :=
  (shapeCast_self _ _).trans (shapeCast_self _ _)

/-- What is read back of the rows just written, copied. -/
theorem putCopy {L : List (View.Piece (Elt Ideal) S2048x128 .bf16)} {T : S2048x128.Idx → EReal} {o : ℕ} {sg : RefSig} {κ : Kind} {sp : Space} {v : View sg κ sp S2048x128 .bf16}
    {inb inb'} {w : FVec Ideal S128x128 .bf16} (hw : ∀ j, w j = T ((Rect.unit (s := S2048x128) ![o, 0] ![128, 128] inb).emb j)) (j) :
    k0_pay14 (v.readCov ((⟨Rect.unit (s := S2048x128) ![o, 0] ![128, 128] inb, w⟩ : View.Piece (Elt Ideal) S2048x128 .bf16) :: L)
      (Rect.unit (s := S2048x128) ![o, 0] ![128, 128] inb').toLoadRect) j = T ((Rect.unit (s := S2048x128) ![o, 0] ![128, 128] inb).emb j) := by
  refine (congrFun (copied _) j).trans ?_
  exact (readHead w L j).trans (hw j)

end Cert.Kernel4Ideal.Tile
-- ==== Proof.K4Step.lean ====
/-
  What each grid point of `attn_bwd` leaves of its two outputs: the gradients of its queries and of its gates, the bands
  it carries, and the tile it keeps for the last step.
-/
module

public import proofs.«01_k».proof.Proof.K4Block

@[expose] public section

set_option maxRecDepth 16384

noncomputable section

namespace Cert.Kernel4Ideal.Tile

open Idealize.ShloMosaic Idealize.ShloMosaic.TcCoe Idealize.SL.Sem Idealize.ShloMosaic.ValueIdx
open Cert.Kernel4Ideal Cert.Kernel4Ideal.Gen Cert.Holds Cert.Spec3 Cert.Spec4 Cert.Consts Cert.Boxes
open Cert.Kernel3Ideal.Tile (H4 HE czero16 canon_good mem_box H.readCov H.load good HE.eq)
open scoped BigOperators

variable (m : (ℓ : Loc nD τ sig) → Buf (Elt Ideal) ℓ) (c : Dev nD)

/-- What the blocks of grid point `t`, step `n` of pair `p`, hold. -/
structure Ins (A : Args) (d : ℕ → ℕ → ℝ) (p n : ℕ) (t : Fin cfg0.N) : Prop where
  k : H (R := 2048) (C := 128) (iblk m c 1 t) fun r k => A.k (2048 * n + r) (128 * p + k)
  v : H (R := 2048) (C := 128) (iblk m c 2 t) fun r k => A.v (2048 * n + r) (128 * p + k)
  a : H (R := 2048) (C := 128) (iblk m c 3 t) fun r k => out A (2048 * n + r) (128 * p + k)
  g : H (R := 2048) (C := 128) (iblk m c 4 t) fun r k => A.g (2048 * n + r) (128 * p + k)
  dy : H (R := 2048) (C := 128) (iblk m c 5 t) fun r k => d (2048 * n + r) (128 * p + k)
  e : ∀ i : S1x16x640x256.Idx, (iblk m c 6 t : Vec Ideal S1x16x640x256 .bf16) i = ((saved A p (16 * n + (i 1).val) (i 2).val (i 3).val : ℝ) : EReal)
  inv : ∀ i : S1x16x8x256.Idx, (iblk m c 7 t : Vec Ideal S1x16x8x256 .f32) i = ((inverse A p (16 * n + (i 1).val) (i 3).val : ℝ) : EReal)

/-- What stands after it: the outputs' tiles, the bands, and the tiles kept. -/
structure Post (A : Args) (d : ℕ → ℕ → ℝ) (p n : ℕ) (t : ℕ) (ht : t < cfg0.N) : Prop where
  dq : ∀ i, (outsAt0 m c t ht).1 i = dqT A d p n i
  dag : ∀ i, (outsAt0 m c t ht).2.2.2.1 i = dagT A d p n i
  vb : VBand A p n (outsAt0 m c t ht).2.2.2.2.2.1
  kb : KBand A p n (outsAt0 m c t ht).2.2.2.2.2.2.1
  dqKept : ∀ i, (outsAt0 m c t ht).2.2.2.2.2.2.2.2.2.2.1 i = dqT A d p n i
  dagKept : ∀ i, (outsAt0 m c t ht).2.2.2.2.2.2.2.2.2.2.2 i = dagT A d p n i

variable {m c} {A : Args} {d : ℕ → ℕ → ℝ} {p n : ℕ}

set_option maxHeartbeats 4000000

theorem post_A {t : Fin cfg0.N} (h0 : t.val % 5 = 0) (h1 : t.val % 5 ≤ 3) (h3 : ¬1 ≤ t.val % 5) (h6 : ¬t.val % 5 = 4) (hi : Ins m c A d p 0 t) :
    Post m c A d p 0 t.val t.isLt := by
  have hV : VBand A p 0 (View.canon (valsL (k0_pay5 (View.ld (iblk m c 2 t) (Rect.unit ![0, 0] ![2048, 128] inb_S2048x128_S2048x128_0_0))) (k0_pay3 (F := Ideal)))) :=
    vals_band (new_vals hi.v) no_vals
  have hK : KBand A p 0 (View.canon (keysL (k0_pay8 (View.ld (iblk m c 1 t) (Rect.unit ![0, 0] ![2048, 128] inb_S2048x128_S2048x128_0_0))) (k0_pay6 (F := Ideal)))) :=
    keys_band (new_keys hi.k) no_keys
  constructor
  all_goals
    rw [outsAt0_A m c t h0 h1 h0 h3 h0 h3 h6]
    dsimp only
  on_goal 1 =>
    unfold out0_A_9
    refine good (View.read_writes_eq_canon _ _ _ (fun y => by exact cover0_A_9 ..)) (fun y => by exact cover0_A_9 ..) ?_
  rotate_left
  on_goal 1 =>
    unfold out0_A_12
    refine good (View.read_writes_eq_canon _ _ _ (fun y => by exact cover0_A_12 ..)) (fun y => by exact cover0_A_12 ..) ?_
  rotate_left
  on_goal 1 => unfold sout0_A_0; refine H.eq (View.read_writes_eq_canon _ _ _ (fun y => by exact scover0_A_0 ..)) ?_
  rotate_left
  on_goal 1 => unfold sout0_A_1; refine H.eq (View.read_writes_eq_canon _ _ _ (fun y => by exact scover0_A_1 ..)) ?_
  rotate_left
  on_goal 1 =>
    unfold sout0_A_5
    refine good (View.read_writes_eq_canon _ _ _ (fun y => by exact scover0_A_5 ..)) (fun y => by exact scover0_A_5 ..) ?_
  rotate_left
  on_goal 1 =>
    unfold sout0_A_6
    refine good (View.read_writes_eq_canon _ _ _ (fun y => by exact scover0_A_6 ..)) (fun y => by exact scover0_A_6 ..) ?_
  rotate_left
  all_goals unfold kernelRun0_A
  all_goals dsimp only
  all_goals sl_unfold_words
  all_goals simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (Memref.isWhole_whole _).read_unread]
  on_goal 3 => exact hV
  on_goal 3 => exact hK
  on_goal 2 =>
    repeat' refine List.forall_mem_cons.mpr ⟨?_, ?_⟩
    all_goals first
      | exact fun _ h => absurd h List.not_mem_nil
      | exact putG (inb := by decide) (H.load hi.g) (H.load hi.dy) (by rfl) (H.load hi.a)
  on_goal 1 =>
    repeat' refine List.forall_mem_cons.mpr ⟨?_, ?_⟩
    all_goals first
      | exact fun _ h => absurd h List.not_mem_nil
      | exact putQ (inb := by decide) (by rfl) (by rfl) (H.load hi.g) (H.load hi.dy) (load_e hi.e) (load_inv hi.inv) (H.readCov hV) (H.readCov hK)
  on_goal 1 =>
    repeat' refine List.forall_mem_cons.mpr ⟨?_, ?_⟩
    all_goals first
      | exact fun _ h => absurd h List.not_mem_nil
      | exact putCopy (putQ (inb := by decide) (by rfl) (by rfl) (H.load hi.g) (H.load hi.dy) (load_e hi.e) (load_inv hi.inv) (H.readCov hV) (H.readCov hK))
  on_goal 1 =>
    repeat' refine List.forall_mem_cons.mpr ⟨?_, ?_⟩
    all_goals first
      | exact fun _ h => absurd h List.not_mem_nil
      | exact putCopy (putG (inb := by decide) (H.load hi.g) (H.load hi.dy) (by rfl) (H.load hi.a))

/-- The point before `t`. -/
abbrev before (t : Fin cfg0.N) : t.val - 1 < cfg0.N := Nat.lt_of_le_of_lt (Nat.sub_le _ _) t.isLt

theorem post_B {t : Fin cfg0.N} (h0 : ¬t.val % 5 = 0) (h1 : t.val % 5 ≤ 3) (h3 : 1 ≤ t.val % 5) (h6 : ¬t.val % 5 = 4) {n' : ℕ} (hn : n = n' + 1) (hi : Ins m c A d p n t)
    (hp : Post m c A d p n' (t.val - 1) (before t)) : Post m c A d p n t.val t.isLt := by
  obtain ⟨_, _, pV, pK, _, _⟩ := hp
  have hV : VBand A p n (View.canon (valsL (k0_pay5 (View.ld (iblk m c 2 t) (Rect.unit ![0, 0] ![2048, 128] inb_S2048x128_S2048x128_0_0))) (k0_pay4 (View.ld (outsAt0 m c (t.val - 1) (before t)).2.2.2.2.2.1 (Rect.unit ![2048, 0] ![2048, 128] inb_S4096x128_S2048x128_2048_0))))) :=
    vals_band (new_vals hi.v) (old_vals hn pV)
  have hK : KBand A p n (View.canon (keysL (k0_pay8 (View.ld (iblk m c 1 t) (Rect.unit ![0, 0] ![2048, 128] inb_S2048x128_S2048x128_0_0))) (k0_pay7 (View.ld (outsAt0 m c (t.val - 1) (before t)).2.2.2.2.2.2.1 (Rect.unit ![0, 2048] ![128, 2048] inb_S128x4096_S128x2048_0_2048))))) :=
    keys_band (new_keys hi.k) (old_keys hn pK)
  constructor
  all_goals
    rw [outsAt0_B m c t h0 h1 h0 h3 h0 h3 h6]
    dsimp only
  on_goal 1 =>
    unfold out0_B_9
    refine good (View.read_writes_eq_canon _ _ _ (fun y => by exact cover0_B_9 ..)) (fun y => by exact cover0_B_9 ..) ?_
  rotate_left
  on_goal 1 =>
    unfold out0_B_12
    refine good (View.read_writes_eq_canon _ _ _ (fun y => by exact cover0_B_12 ..)) (fun y => by exact cover0_B_12 ..) ?_
  rotate_left
  on_goal 1 => unfold sout0_B_0; refine H.eq (View.read_writes_eq_canon _ _ _ (fun y => by exact scover0_B_0 ..)) ?_
  rotate_left
  on_goal 1 => unfold sout0_B_1; refine H.eq (View.read_writes_eq_canon _ _ _ (fun y => by exact scover0_B_1 ..)) ?_
  rotate_left
  on_goal 1 =>
    unfold sout0_B_5
    refine good (View.read_writes_eq_canon _ _ _ (fun y => by exact scover0_B_5 ..)) (fun y => by exact scover0_B_5 ..) ?_
  rotate_left
  on_goal 1 =>
    unfold sout0_B_6
    refine good (View.read_writes_eq_canon _ _ _ (fun y => by exact scover0_B_6 ..)) (fun y => by exact scover0_B_6 ..) ?_
  rotate_left
  all_goals unfold kernelRun0_B
  all_goals dsimp only
  all_goals sl_unfold_words
  all_goals simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (Memref.isWhole_whole _).read_unread]
  on_goal 3 => exact hV
  on_goal 3 => exact hK
  on_goal 2 =>
    repeat' refine List.forall_mem_cons.mpr ⟨?_, ?_⟩
    all_goals first
      | exact fun _ h => absurd h List.not_mem_nil
      | exact putG (inb := by decide) (H.load hi.g) (H.load hi.dy) (by rfl) (H.load hi.a)
  on_goal 1 =>
    repeat' refine List.forall_mem_cons.mpr ⟨?_, ?_⟩
    all_goals first
      | exact fun _ h => absurd h List.not_mem_nil
      | exact putQ (inb := by decide) (by rfl) (by rfl) (H.load hi.g) (H.load hi.dy) (load_e hi.e) (load_inv hi.inv) (H.readCov hV) (H.readCov hK)
  on_goal 1 =>
    repeat' refine List.forall_mem_cons.mpr ⟨?_, ?_⟩
    all_goals first
      | exact fun _ h => absurd h List.not_mem_nil
      | exact putCopy (putQ (inb := by decide) (by rfl) (by rfl) (H.load hi.g) (H.load hi.dy) (load_e hi.e) (load_inv hi.inv) (H.readCov hV) (H.readCov hK))
  on_goal 1 =>
    repeat' refine List.forall_mem_cons.mpr ⟨?_, ?_⟩
    all_goals first
      | exact fun _ h => absurd h List.not_mem_nil
      | exact putCopy (putG (inb := by decide) (H.load hi.g) (H.load hi.dy) (by rfl) (H.load hi.a))

/-- The last step copies the tiles kept. -/
theorem post_C {t : Fin cfg0.N} (h0 : ¬t.val % 5 = 0) (h1 : ¬t.val % 5 ≤ 3) (h6 : t.val % 5 = 4) (hp : Post m c A d p n (t.val - 1) (before t)) :
    (∀ i, (outsAt0 m c t.val t.isLt).1 i = dqT A d p n i) ∧ ∀ i, (outsAt0 m c t.val t.isLt).2.2.2.1 i = dagT A d p n i := by
  obtain ⟨_, _, _, _, pQ, pG⟩ := hp
  constructor
  all_goals
    rw [outsAt0_C m c t h0 h1 h6]
    dsimp only
  on_goal 1 =>
    unfold out0_C_9
    refine good (View.read_writes_eq_canon _ _ _ (fun y => by exact cover0_C_9 ..)) (fun y => by exact cover0_C_9 ..) ?_
  rotate_left
  on_goal 1 =>
    unfold out0_C_12
    refine good (View.read_writes_eq_canon _ _ _ (fun y => by exact cover0_C_12 ..)) (fun y => by exact cover0_C_12 ..) ?_
  rotate_left
  all_goals unfold kernelRun0_C
  all_goals dsimp only
  all_goals sl_unfold_words
  all_goals simp only [View.readAt_eq_ld, (Memref.isWhole_whole _).read_unread]
  all_goals refine List.forall_mem_cons.mpr ⟨?_, fun _ h => absurd h List.not_mem_nil⟩
  · exact fun _ => pQ _
  · exact fun _ => pG _

end Cert.Kernel4Ideal.Tile
-- ==== Proof.K4Host.lean ====
/-
  The values that the host code hands to `attn_bwd`: those of the reference's forward pass.
-/
module

public import proofs.«01_k».proof.Proof.Gen.Kernel4Ideal.Frame.Runs
public import proofs.«01_k».proof.Proof.Gen.Reference3Ideal.Read
public import Idealize.ShloMosaic.Lib.StableHlo.Run

@[expose] public section

set_option maxRecDepth 16384

noncomputable section

namespace Cert.Kernel4Ideal.Tile

open Idealize.ShloMosaic Idealize.ShloMosaic.TcCoe Idealize.ShloMosaic.StableHlo Idealize.SL.Sem
open Cert.Kernel4Ideal Cert.Kernel4Ideal.Gen

variable (m : (ℓ : Loc nD τ sig) → Buf (Elt Ideal) ℓ) (c : Dev nD)

/-! ## The last lists: the index array, of the bins alone -/

/-- The operations after the forward pass's. -/
abbrev tailOps : List (HloOp τ sig (Elt Ideal)) :=
  List.flatten [hostOps0_5, hostOps0_6, hostOps0_7, hostOps0_8, hostOps0_9, hostOps0_10, hostOps0_11, hostOps0_12, hostOps0_13]

theorem after_two (l₁ l₂ : List (HloOp τ sig (Elt Ideal))) (W : Valuation τ sig (Elt Ideal)) : after (l₁ ++ l₂) W = after l₂ (after l₁ W) := by
  induction l₁ generalizing W with
  | nil => rfl
  | cons op l ih => exact ih _

theorem tail_keeps (W : Valuation τ sig (Elt Ideal)) :
    after tailOps W (Proc.devRef .tc main_v104) = W (Proc.devRef .tc main_v104) ∧ after tailOps W (Proc.devRef .tc main_v108) = W (Proc.devRef .tc main_v108)
    ∧ after tailOps W (Proc.devRef .tc main_v109) = W (Proc.devRef .tc main_v109) := by
  refine ⟨?_, ?_, ?_⟩
  all_goals
    refine after_of_forall_not_mem _ _ (List.forall_iff_forall_mem.mp ?_)
    simp only [hostOps0_5, hostOps0_6, hostOps0_7, hostOps0_8, hostOps0_9, hostOps0_10, hostOps0_11, hostOps0_12, hostOps0_13, List.flatten_cons, List.flatten_nil, List.append_nil,
      List.cons_append, List.nil_append, List.Forall, nullary_writes, unary_writes, binary_writes, ternary_writes, Finset.mem_singleton, TRef.unary, TRef.binary, TRef.ternary, TRef.nullary]
    repeat' apply And.intro
    all_goals exact devRef_ne_of_ne (by decide)

/-! ## From the scores on -/

theorem late_v109 {x0 : (⟨S8192x3072, .bf16⟩ : BufTy).Contents (Elt Ideal)} {x1 : (⟨S1x8x129, .f32⟩ : BufTy).Contents (Elt Ideal)} {W : Valuation τ sig (Elt Ideal)}
    (hp : W (Proc.devRef .tc main_v74) = Reference3Ideal.Read.val_main_v74 (F := Ideal) x0 x1) (hv : W (Proc.devRef .tc main_v87) = Reference3Ideal.Read.val_main_v87 (F := Ideal) x0) :
    after (hostOps0_4.drop 25) W (Proc.devRef .tc main_v109) = Reference3Ideal.Read.val_main_v121 (F := Ideal) x0 x1 := by
  simp only [hostOps0_4, List.drop_succ_cons, List.drop_zero]
  after_results
  rw [hp, hv]
  rfl

/-- The nine chunks joined, each read where it stands. -/
theorem joined_v87 (W : Valuation τ sig (Elt Ideal)) : after [(hostOps0_4 : List (HloOp τ sig (Elt Ideal)))[24]] W (Proc.devRef .tc main_v87)
    = Reference3Ideal.Value.fn_main_v87 (F := Ideal) (W (Proc.devRef .tc main_v78)) (W (Proc.devRef .tc main_v79)) (W (Proc.devRef .tc main_v80)) (W (Proc.devRef .tc main_v81))
      (W (Proc.devRef .tc main_v82)) (W (Proc.devRef .tc main_v83)) (W (Proc.devRef .tc main_v84)) (W (Proc.devRef .tc main_v85)) (W (Proc.devRef .tc main_v86)) := by
  simp only [hostOps0_4, List.getElem_cons_succ, List.getElem_cons_zero, after_cons, after_nil]
  rw [nary_result]
  rfl

theorem joined_v45 (W : Valuation τ sig (Elt Ideal)) : after [(hostOps0_2 : List (HloOp τ sig (Elt Ideal)))[26]] W (Proc.devRef .tc main_v45)
    = Reference3Ideal.Value.fn_main_v45 (F := Ideal) (W (Proc.devRef .tc main_v36)) (W (Proc.devRef .tc main_v37)) (W (Proc.devRef .tc main_v38)) (W (Proc.devRef .tc main_v39))
      (W (Proc.devRef .tc main_v40)) (W (Proc.devRef .tc main_v41)) (W (Proc.devRef .tc main_v42)) (W (Proc.devRef .tc main_v43)) (W (Proc.devRef .tc main_v44)) := by
  simp only [hostOps0_2, List.getElem_cons_succ, List.getElem_cons_zero, after_cons, after_nil]
  rw [nary_result]
  rfl

section

variable {x0 : (⟨S8192x3072, .bf16⟩ : BufTy).Contents (Elt Ideal)} {x1 : (⟨S1x8x129, .f32⟩ : BufTy).Contents (Elt Ideal)} {W : Valuation τ sig (Elt Ideal)}
  (hs : W (Proc.devRef .tc main_v65) = Reference3Ideal.Read.val_main_v65 (F := Ideal) x0 x1) (hv : W (Proc.devRef .tc main_v9) = Reference3Ideal.Read.val_main_v9 (F := Ideal) x0)
include hs hv

theorem mid_v104 : after hostOps0_4 W (Proc.devRef .tc main_v104) = Reference3Ideal.Read.val_main_v104 (F := Ideal) x0 x1 := by
  unfold hostOps0_4
  after_results
  rw [hs]
  rfl

theorem mid_v109 : after hostOps0_4 W (Proc.devRef .tc main_v109) = Reference3Ideal.Read.val_main_v121 (F := Ideal) x0 x1 := by
  rw [← List.take_append_drop 25 (hostOps0_4 : List (HloOp τ sig (Elt Ideal))), after_two]
  refine late_v109 ?_ ?_
  · unfold hostOps0_4
    simp only [List.take_succ_cons, List.take_zero]
    after_results
    rw [hs]
    rfl
  · rw [show (hostOps0_4 : List (HloOp τ sig (Elt Ideal))).take 25 = (hostOps0_4 : List (HloOp τ sig (Elt Ideal))).take 24 ++ [hostOps0_4[24]] from rfl, after_two]
    refine (joined_v87 _).trans ?_
    simp only [hostOps0_4, List.take_succ_cons, List.take_zero]
    after_results
    rw [hv]
    rfl

theorem mid_v108 : after hostOps0_4 W (Proc.devRef .tc main_v108) = Reference3Ideal.Read.val_main_v108 (F := Ideal) x0 x1 := by
  unfold hostOps0_4
  after_results
  rw [hs]
  rfl

end

/-! ## The scores -/

abbrev headOps : List (HloOp τ sig (Elt Ideal)) := List.flatten [hostOps0, hostOps0_1, hostOps0_2, hostOps0_3]

theorem head_v9 (W : Valuation τ sig (Elt Ideal)) : after headOps W (Proc.devRef .tc main_v9) = Reference3Ideal.Read.val_main_v9 (F := Ideal) (W (Proc.devRef .tc main_arg0)) := by
  unfold headOps hostOps0 hostOps0_1 hostOps0_2 hostOps0_3
  simp only [List.flatten_cons, List.flatten_nil, List.cons_append, List.nil_append, List.append_nil]
  after_results
  rfl

section

variable {x0 : (⟨S8192x3072, .bf16⟩ : BufTy).Contents (Elt Ideal)} {x1 : (⟨S1x8x129, .f32⟩ : BufTy).Contents (Elt Ideal)} {W : Valuation τ sig (Elt Ideal)}

/-- The masked scores from the queries, the keys' windows, the biases and the places. -/
theorem late_v65 (hq : W (Proc.devRef .tc main_v32) = Reference3Ideal.Read.val_main_v32 (F := Ideal) x0) (hk : W (Proc.devRef .tc main_v45) = Reference3Ideal.Read.val_main_v45 (F := Ideal) x0)
    (hb : W (Proc.devRef .tc main_v31) = Reference3Ideal.Read.val_main_v31 (F := Ideal) x1) (hi : W (Proc.devRef .tc main_v14) = Reference3Ideal.Read.val_main_v14 (F := Ideal)) :
    after (hostOps0_2.drop 27 ++ hostOps0_3) W (Proc.devRef .tc main_v65) = Reference3Ideal.Read.val_main_v65 (F := Ideal) x0 x1 := by
  simp only [hostOps0_2, hostOps0_3, List.drop_succ_cons, List.drop_zero, List.cons_append, List.nil_append]
  after_results
  rw [hq, hk, hb, hi]
  rfl

/-- The operations up to the keys' windows. -/
theorem early (h0 : W (Proc.devRef .tc main_v0) = Reference3Ideal.Read.val_main_v0 (F := Ideal) x1) (h3 : W (Proc.devRef .tc main_v3) = Reference3Ideal.Read.val_main_v3 (F := Ideal) x0)
    (h6 : W (Proc.devRef .tc main_v6) = Reference3Ideal.Read.val_main_v6 (F := Ideal) x0) (h22 : W (Proc.devRef .tc main_v22) = Reference3Ideal.Read.val_main_v22 (F := Ideal))
    (h14 : W (Proc.devRef .tc main_v14) = Reference3Ideal.Read.val_main_v14 (F := Ideal)) :
    after (hostOps0_2 ++ hostOps0_3) W (Proc.devRef .tc main_v65) = Reference3Ideal.Read.val_main_v65 (F := Ideal) x0 x1 := by
  rw [← List.take_append_drop 27 (hostOps0_2 : List (HloOp τ sig (Elt Ideal))), List.append_assoc, after_two]
  refine late_v65 ?_ ?_ ?_ ?_
  on_goal 2 =>
    rw [show (hostOps0_2 : List (HloOp τ sig (Elt Ideal))).take 27 = (hostOps0_2 : List (HloOp τ sig (Elt Ideal))).take 26 ++ [hostOps0_2[26]] from rfl, after_two]
    refine (joined_v45 _).trans ?_
  all_goals
    simp only [hostOps0_2, List.take_succ_cons, List.take_zero]
    after_results
    first
      | exact h14
      | rw [h3]; rfl
      | rw [h6]; rfl
      | rw [h0, h22]; rfl

end

theorem head_v65 (W : Valuation τ sig (Elt Ideal)) :
    after headOps W (Proc.devRef .tc main_v65) = Reference3Ideal.Read.val_main_v65 (F := Ideal) (W (Proc.devRef .tc main_arg0)) (W (Proc.devRef .tc main_arg1)) := by
  rw [show (headOps : List (HloOp τ sig (Elt Ideal))) = (hostOps0 ++ hostOps0_1) ++ (hostOps0_2 ++ hostOps0_3) from by
    simp only [headOps, List.flatten_cons, List.flatten_nil, List.append_assoc, List.append_nil], after_two]
  refine early ?_ ?_ ?_ ?_ ?_
  all_goals
    unfold hostOps0 hostOps0_1
    simp only [List.cons_append, List.nil_append]
    after_results
    rfl

theorem split_ops : List.flatten [hostOps0, hostOps0_1, hostOps0_2, hostOps0_3, hostOps0_4, hostOps0_5, hostOps0_6, hostOps0_7, hostOps0_8, hostOps0_9, hostOps0_10, hostOps0_11, hostOps0_12, hostOps0_13]
    = headOps ++ (hostOps0_4 ++ (tailOps : List (HloOp τ sig (Elt Ideal)))) := by
  simp only [headOps, tailOps, List.flatten_cons, List.flatten_nil, List.append_assoc, List.append_nil]

/-! ## What the call is given -/

theorem V_v104 : V m c main_v104 = Reference3Ideal.Read.val_main_v104 (F := Ideal) (m ((c : Thread nD τ).loc main_arg0)) (m ((c : Thread nD τ).loc main_arg1)) := by
  unfold V
  rw [split_ops, after_two, after_two]
  exact (tail_keeps _).1.trans (mid_v104 (head_v65 _) (head_v9 _))

theorem V_v108 : V m c main_v108 = Reference3Ideal.Read.val_main_v108 (F := Ideal) (m ((c : Thread nD τ).loc main_arg0)) (m ((c : Thread nD τ).loc main_arg1)) := by
  unfold V
  rw [split_ops, after_two, after_two]
  exact (tail_keeps _).2.1.trans (mid_v108 (head_v65 _) (head_v9 _))

theorem V_v109 : V m c main_v109 = Reference3Ideal.Read.val_main_v121 (F := Ideal) (m ((c : Thread nD τ).loc main_arg0)) (m ((c : Thread nD τ).loc main_arg1)) := by
  unfold V
  rw [split_ops, after_two, after_two]
  exact (tail_keeps _).2.2.trans (mid_v109 (head_v65 _) (head_v9 _))

end Cert.Kernel4Ideal.Tile
-- ==== Proof.K4Run.lean ====
/-
  `attn_bwd` over the grid: the blocks each point reads, and what stands after each point.
-/
module

public import proofs.«01_k».proof.Proof.K4Step
public import proofs.«01_k».proof.Proof.K4Host
public import proofs.«01_k».proof.Proof.Inputs4
public import proofs.«01_k».proof.Proof.R3Out

@[expose] public section

set_option maxRecDepth 16384

noncomputable section

namespace Cert.Kernel4Ideal.Tile

open Idealize.ShloMosaic Idealize.ShloMosaic.TcCoe Idealize.SL.Sem
open Cert.Kernel4Ideal Cert.Kernel4Ideal.Gen Cert.Holds Cert.Spec3 Cert.Spec4

variable {m : (ℓ : Loc nD τ sig) → Buf (Elt Ideal) ℓ} {c : Dev nD} {A : Args} {d : ℕ → ℕ → ℝ}

/-! ## The blocks -/

/-- At the last point of a pair the blocks of the point before it stay. -/
theorem at_rows : ∀ t : Fin cfg0.N,
    (win0_1.index t 0 = min (t.val % 5) 3 ∧ win0_1.index t 1 = 12 + t.val / 5) ∧ (win0_2.index t 0 = min (t.val % 5) 3 ∧ win0_2.index t 1 = 16 + t.val / 5)
    ∧ (win0_3.index t 0 = min (t.val % 5) 3 ∧ win0_3.index t 1 = t.val / 5) ∧ (win0_4.index t 0 = min (t.val % 5) 3 ∧ win0_4.index t 1 = 20 + t.val / 5)
    ∧ (win0_5.index t 0 = min (t.val % 5) 3 ∧ win0_5.index t 1 = 4 + t.val / 5)
    ∧ (win0_6.index t 0 = t.val / 5 ∧ win0_6.index t 1 = min (t.val % 5) 3 ∧ win0_6.index t 2 = 0 ∧ win0_6.index t 3 = 0)
    ∧ (win0_7.index t 0 = t.val / 5 ∧ win0_7.index t 1 = min (t.val % 5) 3 ∧ win0_7.index t 2 = 0 ∧ win0_7.index t 3 = 0) := by decide +kernel

/-- An entry of columns `o` on of an array of two axes, read by its place. -/
theorem cut_at {R C : ℕ} {x : (⟨2, ![R, C]⟩ : Shape).Idx → EReal} {f : ℕ → ℕ → ℝ} {o w r k : ℕ}
    (h : ∀ i : (⟨2, ![R, C]⟩ : Shape).Idx, o ≤ (i 1).val → (i 1).val < o + w → x i = ((f (i 0).val ((i 1).val - o) : ℝ) : EReal)) {i : (⟨2, ![R, C]⟩ : Shape).Idx} (hk : k < w)
    (h0 : (i 0).val = r) (h1 : (i 1).val = o + k) : x i = ((f r k : ℝ) : EReal) := by
  rw [h i (by omega) (by omega), h0, h1, Nat.add_sub_cancel_left]

theorem saved_congr {p p' s s' j j' l l' : ℕ} (hp : p = p') (hs : s = s') (hj : j = j') (hl : l = l') :
    ((saved A p s j l : ℝ) : EReal) = ((saved A p' s' j' l' : ℝ) : EReal) := by rw [hp, hs, hj, hl]

theorem inverse_congr {p p' s s' l l' : ℕ} (hp : p = p') (hs : s = s') (hl : l = l') :
    ((inverse A p s l : ℝ) : EReal) = ((inverse A p' s' l' : ℝ) : EReal) := by rw [hp, hs, hl]

/-- The arrays of memory `m` hold `A` and `d`. -/
abbrev In (m : (ℓ : Loc nD τ sig) → Buf (Elt Ideal) ℓ) (c : Dev nD) (A : Args) (d : ℕ → ℕ → ℝ) : Prop :=
  Spec4.Reads A d (m ((c : Thread nD τ).loc main_arg0)) (m ((c : Thread nD τ).loc main_arg1)) (m ((c : Thread nD τ).loc main_arg2))

/-- A block is read off its array's contents. -/
theorem iblk_of (w : Fin cfg0.W) (t : Fin cfg0.N) {x} (h : V m c (Pipeline.arrRef spec0 w) = x) : iblk m c w t = ((cfg0.win w).blk t).view.read (Elt Ideal) x :=
  congrArg (((cfg0.win w).blk t).view.read (Elt Ideal)) h

theorem blk1 (t : Fin cfg0.N) : iblk m c 1 t = ((cfg0.win 1).blk t).view.read (Elt Ideal) (m ((c : Thread nD τ).loc main_arg0)) := iblk_of 1 t (V_main_arg0 m c)

theorem blk2 (t : Fin cfg0.N) : iblk m c 2 t = ((cfg0.win 2).blk t).view.read (Elt Ideal) (m ((c : Thread nD τ).loc main_arg0)) := iblk_of 2 t (V_main_arg0 m c)

theorem blk4 (t : Fin cfg0.N) : iblk m c 4 t = ((cfg0.win 4).blk t).view.read (Elt Ideal) (m ((c : Thread nD τ).loc main_arg0)) := iblk_of 4 t (V_main_arg0 m c)

theorem blk5 (t : Fin cfg0.N) : iblk m c 5 t = ((cfg0.win 5).blk t).view.read (Elt Ideal) (m ((c : Thread nD τ).loc main_arg2)) := iblk_of 5 t (V_main_arg2 m c)

theorem at3 {x : S8192x512.Idx → EReal} (h : V m c main_v109 = x) (t : Fin cfg0.N) (j : S2048x128.Idx) :
    (iblk m c 3 t : S2048x128.Idx → EReal) j = x (((cfg0.win 3).blk t).view.emb j) := congrFun (iblk_of 3 t h) j

theorem at6 {x : S4x64x640x256.Idx → EReal} (h : V m c main_v108 = x) (t : Fin cfg0.N) (j : S1x16x640x256.Idx) :
    (iblk m c 6 t : S1x16x640x256.Idx → EReal) j = x (((cfg0.win 6).blk t).view.emb j) := congrFun (iblk_of 6 t h) j

theorem at7 {x : S4x64x8x256.Idx → EReal} (h : V m c main_v104 = x) (t : Fin cfg0.N) (j : S1x16x8x256.Idx) :
    (iblk m c 7 t : S1x16x8x256.Idx → EReal) j = x (((cfg0.win 7).blk t).view.emb j) := congrFun (iblk_of 7 t h) j

/-- The forward pass's result, rounded: the same number. -/
theorem rounded_out {x0 : FVec Ideal S8192x3072 .bf16} {x1 : FVec Ideal S1x8x129 .f32} (h : Spec3.Reads A x0 x1) (i : S8192x512.Idx) :
    Reference3Ideal.Read.val_main_v121 (F := Ideal) x0 x1 i = ((out A (i 0).val (i 1).val : ℝ) : EReal) := by
  rw [Reference3Ideal.Read.val_main_v121_apply]
  have e := Reference3Ideal.Calc.out_holds h i
  generalize Reference3Ideal.Read.val_main_v90 (F := Ideal) x0 x1 i = y at e ⊢
  exact e

section

variable (hA : In m c A d) (t : Fin cfg0.N)
include hA

theorem ins (ht : t.val % 5 ≤ 3) : Ins m c A d (t.val / 5) (t.val % 5) t := by
  obtain ⟨⟨k0, k1⟩, ⟨v0, v1⟩, ⟨a0, a1⟩, ⟨g0, g1⟩, ⟨d0, d1⟩, ⟨e0, e1, e2, e3⟩, i0, i1, i2, i3⟩ := at_rows t
  have hm : min (t.val % 5) 3 = t.val % 5 := Nat.min_eq_left ht
  have hN : t.val < 20 := t.isLt
  have hg : ∀ i : S8192x3072.Idx, 2560 ≤ (i 1).val → (i 1).val < 2560 + 512 →
      (m ((c : Thread nD τ).loc main_arg0) : S8192x3072.Idx → EReal) i = ((A.g (i 0).val ((i 1).val - 2560) : ℝ) : EReal) := fun i h _ => hA.fwd.g i h
  have hd : ∀ i : S8192x1024.Idx, 512 ≤ (i 1).val → (i 1).val < 512 + 512 →
      (m ((c : Thread nD τ).loc main_arg2) : S8192x1024.Idx → EReal) i = ((d (i 0).val ((i 1).val - 512) : ℝ) : EReal) := fun i h _ => hA.d i h
  have ho : ∀ i : S8192x512.Idx, 0 ≤ (i 1).val → (i 1).val < 0 + 512 →
      (Reference3Ideal.Read.val_main_v121 (F := Ideal) (m ((c : Thread nD τ).loc main_arg0)) (m ((c : Thread nD τ).loc main_arg1)) : S8192x512.Idx → EReal) i
        = ((out A (i 0).val ((i 1).val - 0) : ℝ) : EReal) := fun i _ _ => rounded_out hA.fwd i
  constructor
  · refine fun j => (congrFun (blk1 t) j).trans (cut_at (o := 1536) (w := 512) hA.fwd.k (k := 128 * (t.val / 5) + (j 1).val) ?_ ?_ ?_)
    · have : (j 1).val < 128 := (j 1).isLt
      omega
    · show win0_1.index t 0 * 2048 + 1 * (j 0).val = _; rw [k0, hm]; omega
    · show win0_1.index t 1 * 128 + 1 * (j 1).val = _; rw [k1]; omega
  · refine fun j => (congrFun (blk2 t) j).trans (cut_at (o := 2048) (w := 512) hA.fwd.v (k := 128 * (t.val / 5) + (j 1).val) ?_ ?_ ?_)
    · have : (j 1).val < 128 := (j 1).isLt
      omega
    · show win0_2.index t 0 * 2048 + 1 * (j 0).val = _; rw [v0, hm]; omega
    · show win0_2.index t 1 * 128 + 1 * (j 1).val = _; rw [v1]; omega
  · refine fun j => (at3 (V_v109 m c) t j).trans (cut_at (o := 0) (w := 512) ho (k := 128 * (t.val / 5) + (j 1).val) ?_ ?_ ?_)
    · have : (j 1).val < 128 := (j 1).isLt
      omega
    · show win0_3.index t 0 * 2048 + 1 * (j 0).val = _; rw [a0, hm]; omega
    · show win0_3.index t 1 * 128 + 1 * (j 1).val = _; rw [a1]; omega
  · refine fun j => (congrFun (blk4 t) j).trans (cut_at (o := 2560) (w := 512) hg (k := 128 * (t.val / 5) + (j 1).val) ?_ ?_ ?_)
    · have : (j 1).val < 128 := (j 1).isLt
      omega
    · show win0_4.index t 0 * 2048 + 1 * (j 0).val = _; rw [g0, hm]; omega
    · show win0_4.index t 1 * 128 + 1 * (j 1).val = _; rw [g1]; omega
  · refine fun j => (congrFun (blk5 t) j).trans (cut_at (o := 512) (w := 512) hd (k := 128 * (t.val / 5) + (j 1).val) ?_ ?_ ?_)
    · have : (j 1).val < 128 := (j 1).isLt
      omega
    · show win0_5.index t 0 * 2048 + 1 * (j 0).val = _; rw [d0, hm]; omega
    · show win0_5.index t 1 * 128 + 1 * (j 1).val = _; rw [d1]; omega
  · intro i
    refine (at6 (V_v108 m c) t i).trans ((Reference3Ideal.Calc.saved_holds hA.fwd _).trans ?_)
    have i0 : (i 0).val < 1 := (i 0).isLt
    refine saved_congr ?_ ?_ ?_ ?_
    · show win0_6.index t 0 * 1 + 1 * (i 0).val = _; rw [e0]; omega
    · show win0_6.index t 1 * 16 + 1 * (i 1).val = _; rw [e1, hm]; omega
    · show win0_6.index t 2 * 640 + 1 * (i 2).val = _; rw [e2]; omega
    · show win0_6.index t 3 * 256 + 1 * (i 3).val = _; rw [e3]; omega
  · intro i
    refine (at7 (V_v104 m c) t i).trans ((Reference3Ideal.Calc.inverse_holds hA.fwd _).trans ?_)
    have h0 : (i 0).val < 1 := (i 0).isLt
    refine inverse_congr ?_ ?_ ?_
    · show win0_7.index t 0 * 1 + 1 * (i 0).val = _; rw [i0]; omega
    · show win0_7.index t 1 * 16 + 1 * (i 1).val = _; rw [i1, hm]; omega
    · show win0_7.index t 3 * 256 + 1 * (i 3).val = _; rw [i3]; omega

/-! ## All the points -/

theorem post : ∀ (n : ℕ) (hn : n < cfg0.N), n % 5 ≤ 3 → Post m c A d (n / 5) (n % 5) n hn
  | 0, hn, _ => post_A (t := ⟨0, hn⟩) rfl (by show 0 % 5 ≤ 3; decide) (by show ¬1 ≤ 0 % 5; decide) (by show ¬0 % 5 = 4; decide) (ins hA ⟨0, hn⟩ (by show 0 % 5 ≤ 3; decide))
  | n + 1, hn, h1 => by
    have hi := ins hA ⟨n + 1, hn⟩ h1
    by_cases h : (n + 1) % 5 = 0
    · rw [h]
      have hi' : Ins m c A d ((n + 1) / 5) 0 ⟨n + 1, hn⟩ := by rw [← h]; exact hi
      exact post_A (t := ⟨n + 1, hn⟩) h h1 (by show ¬1 ≤ (n + 1) % 5; omega) (by show ¬(n + 1) % 5 = 4; omega) hi'
    · have hp := post n (Nat.lt_of_succ_lt hn) (by omega)
      have e : n / 5 = (n + 1) / 5 := by omega
      rw [e] at hp
      exact post_B (t := ⟨n + 1, hn⟩) h h1 (by show 1 ≤ (n + 1) % 5; omega) (by show ¬(n + 1) % 5 = 4; omega) (n' := n % 5) (by omega) hi hp

/-- What every point leaves in the two tiles written back. -/
theorem tiles (n : ℕ) (hn : n < cfg0.N) :
    (∀ i, (outsAt0 m c n hn).1 i = dqT A d (n / 5) (min (n % 5) 3) i) ∧ ∀ i, (outsAt0 m c n hn).2.2.2.1 i = dagT A d (n / 5) (min (n % 5) 3) i := by
  by_cases h : n % 5 ≤ 3
  · have hp := post hA n hn h
    rw [Nat.min_eq_left h]
    exact ⟨hp.dq, hp.dag⟩
  · obtain ⟨k, rfl⟩ : ∃ k, n = k + 1 := ⟨n - 1, by omega⟩
    have hp := post hA k (Nat.lt_of_succ_lt hn) (by omega)
    rw [show k / 5 = (k + 1) / 5 by omega, show k % 5 = min ((k + 1) % 5) 3 by omega] at hp
    exact post_C (t := ⟨k + 1, hn⟩) (by show ¬(k + 1) % 5 = 0; omega) h (by show (k + 1) % 5 = 4; omega) hp

end

end Cert.Kernel4Ideal.Tile
-- ==== Proof.K4Out.lean ====
/-
  The gradients of the queries and of the gate's inputs, whole, from the arguments of `attn_bwd`.
-/
module

public import proofs.«01_k».proof.Proof.K4Run
public import proofs.«01_k».proof.Proof.Gen.Kernel4Ideal.Value

@[expose] public section

set_option maxRecDepth 16384

noncomputable section

namespace Cert.Kernel4Ideal.Tile

open Idealize.ShloMosaic Idealize.ShloMosaic.TcCoe Idealize.SL.Sem
open Cert.Kernel4Ideal Cert.Kernel4Ideal.Gen Cert.Kernel4Ideal.Value Cert.Holds Cert.Spec3 Cert.Spec4

variable {m : (ℓ : Loc nD τ sig) → Buf (Elt Ideal) ℓ} {c : Dev nD} {A : Args} {d : ℕ → ℕ → ℝ}

/-! ## Where the blocks lie -/

/-- The point of pair `p` that writes the rows of step `n` back: the last step's rows go out one point later. -/
def late (n : ℕ) : ℕ := if n < 3 then n else 4

theorem late_cases {n : ℕ} (hn : n < 4) : late n < 5 ∧ late n ≠ 3 ∧ min (late n) 3 = n := by
  unfold late; split <;> omega

def outPt (p n : ℕ) (hp : p < 4) (hn : n < 4) : Fin cfg0.N :=
  ⟨5 * p + late n, lt_of_lt_of_eq (b := 20) (by have := (late_cases hn).1; omega) N_0.symm⟩

theorem outPt_mod {p n : ℕ} (hp : p < 4) (hn : n < 4) : (outPt p n hp hn).val % 5 = late n := by
  have := (late_cases hn).1
  show (5 * p + late n) % 5 = late n
  omega

theorem outPt_div {p n : ℕ} (hp : p < 4) (hn : n < 4) : (outPt p n hp hn).val / 5 = p := by
  have := (late_cases hn).1
  show (5 * p + late n) / 5 = p
  omega

theorem index9 (t : Fin cfg0.N) : win0_9.index t = ![min (t.val % 5) 3, t.val / 5] := (by decide +kernel : ∀ t : Fin grid0.N, win0_9.index t = ![min (t.val % 5) 3, t.val / 5]) t
theorem index12 (t : Fin cfg0.N) : win0_12.index t = ![min (t.val % 5) 3, t.val / 5] := (by decide +kernel : ∀ t : Fin grid0.N, win0_12.index t = ![min (t.val % 5) 3, t.val / 5]) t
theorem flush9 (t : Fin cfg0.N) : t.val % 5 ≠ 3 → (cfg0.win 9).flush t = true := (by decide +kernel : ∀ t : Fin grid0.N, t.val % 5 ≠ 3 → win0_9.flush t = true) t
theorem flush12 (t : Fin cfg0.N) : t.val % 5 ≠ 3 → (cfg0.win 12).flush t = true := (by decide +kernel : ∀ t : Fin grid0.N, t.val % 5 ≠ 3 → win0_12.flush t = true) t

theorem mem9 (t : Fin cfg0.N) (i : S8192x512.Idx) (h : ∀ a : Fin 2, win0_9.index t a * S2048x128.size a ≤ (i a).val ∧ (i a).val < win0_9.index t a * S2048x128.size a + S2048x128.size a) :
    i ∈ ((cfg0.win 9).blk t).view.set := by
  show i ∈ ((View.whole main_v135_0).slice (win0_9.rect t)).set
  rw [View.set_slice_whole, Rect.mem_set_unit]
  exact h

theorem mem12 (t : Fin cfg0.N) (i : S8192x512.Idx) (h : ∀ a : Fin 2, win0_12.index t a * S2048x128.size a ≤ (i a).val ∧ (i a).val < win0_12.index t a * S2048x128.size a + S2048x128.size a) :
    i ∈ ((cfg0.win 12).blk t).view.set := by
  show i ∈ ((View.whole main_v135_3).slice (win0_12.rect t)).set
  rw [View.set_slice_whole, Rect.mem_set_unit]
  exact h

/-- An entry lies in the block of its pair and step. -/
theorem in_block (i : S8192x512.Idx) (h1 : (i 1).val / 128 < 4) (h0 : (i 0).val / 2048 < 4) (a : Fin 2) :
    (![min ((outPt ((i 1).val / 128) ((i 0).val / 2048) h1 h0).val % 5) 3, (outPt ((i 1).val / 128) ((i 0).val / 2048) h1 h0).val / 5] : Fin 2 → ℕ) a * S2048x128.size a ≤ (i a).val
    ∧ (i a).val < (![min ((outPt ((i 1).val / 128) ((i 0).val / 2048) h1 h0).val % 5) 3, (outPt ((i 1).val / 128) ((i 0).val / 2048) h1 h0).val / 5] : Fin 2 → ℕ) a * S2048x128.size a + S2048x128.size a := by
  rw [outPt_mod, outPt_div, (late_cases h0).2.2]
  match a with
  | ⟨0, _⟩ => show (i 0).val / 2048 * 2048 ≤ (i 0).val ∧ (i 0).val < (i 0).val / 2048 * 2048 + 2048; omega
  | ⟨1, _⟩ => show (i 1).val / 128 * 128 ≤ (i 1).val ∧ (i 1).val < (i 1).val / 128 * 128 + 128; omega

variable (hA : In m c A d)
include hA

theorem out_dq : H ((dats m 0 c).arrAt 9 cfg0.N : S8192x512.Idx → EReal) fun r k => dq A d r k := by
  refine (dats m 0 c).arrAt_forall_of_cover 9 (fun i v => v = ((dq A d (i 0).val (i 1).val : ℝ) : EReal)) (fun t hf y => ?_) (fun i => ?_)
  · have e0 : (((cfg0.win 9).blk t).view.emb y 0).val = win0_9.index t (0 : Fin 2) * 2048 + 1 * (y 0).val := rfl
    have e1 : (((cfg0.win 9).blk t).view.emb y 1).val = win0_9.index t (1 : Fin 2) * 128 + 1 * (y 1).val := rfl
    rw [index9] at e0 e1
    rw [flushed9]
    refine ((tiles hA t.val t.isLt).1 ((cfg0.win 9).xinj (grid0.coords t) y)).trans ?_
    rw [e0, e1]
    show ((dq A d (2048 * min (t.val % 5) 3 + (y 0).val) (128 * (t.val / 5) + (y 1).val) : ℝ) : EReal)
      = ((dq A d (min (t.val % 5) 3 * 2048 + 1 * (y 0).val) (t.val / 5 * 128 + 1 * (y 1).val) : ℝ) : EReal)
    rw [Nat.mul_comm 2048, Nat.one_mul, Nat.mul_comm 128, Nat.one_mul]
  · have h0 : (i 0).val < 8192 := (i 0).isLt
    have h1 : (i 1).val < 512 := (i 1).isLt
    have h0' : (i 0).val / 2048 < 4 := by omega
    refine ⟨outPt ((i 1).val / 128) ((i 0).val / 2048) (by omega) h0', flush9 _ (by rw [outPt_mod]; exact (late_cases h0').2.1), mem9 _ i fun a => ?_⟩
    rw [index9]
    exact in_block i (by omega) h0' a

theorem out_dag : H ((dats m 0 c).arrAt 12 cfg0.N : S8192x512.Idx → EReal) fun r k => dag A d r k := by
  refine (dats m 0 c).arrAt_forall_of_cover 12 (fun i v => v = ((dag A d (i 0).val (i 1).val : ℝ) : EReal)) (fun t hf y => ?_) (fun i => ?_)
  · have e0 : (((cfg0.win 12).blk t).view.emb y 0).val = win0_12.index t (0 : Fin 2) * 2048 + 1 * (y 0).val := rfl
    have e1 : (((cfg0.win 12).blk t).view.emb y 1).val = win0_12.index t (1 : Fin 2) * 128 + 1 * (y 1).val := rfl
    rw [index12] at e0 e1
    rw [flushed12]
    refine ((tiles hA t.val t.isLt).2 ((cfg0.win 12).xinj (grid0.coords t) y)).trans ?_
    rw [e0, e1]
    show ((dag A d (2048 * min (t.val % 5) 3 + (y 0).val) (128 * (t.val / 5) + (y 1).val) : ℝ) : EReal)
      = ((dag A d (min (t.val % 5) 3 * 2048 + 1 * (y 0).val) (t.val / 5 * 128 + 1 * (y 1).val) : ℝ) : EReal)
    rw [Nat.mul_comm 2048, Nat.one_mul, Nat.mul_comm 128, Nat.one_mul]
  · have h0 : (i 0).val < 8192 := (i 0).isLt
    have h1 : (i 1).val < 512 := (i 1).isLt
    have h0' : (i 0).val / 2048 < 4 := by omega
    refine ⟨outPt ((i 1).val / 128) ((i 0).val / 2048) (by omega) h0', flush12 _ (by rw [outPt_mod]; exact (late_cases h0').2.1), mem12 _ i fun a => ?_⟩
    rw [index12]
    exact in_block i (by omega) h0' a

end Cert.Kernel4Ideal.Tile
-- ==== Proof.AttnBwd.lean ====
/-
  `attn_bwd`: the gradients of the queries and of the gate's inputs are the reference's, at finite inputs.
-/
module

public import proofs.«01_k».proof.Defs
public import proofs.«01_k».proof.Proof.Finite4
public import proofs.«01_k».proof.Proof.OutLoss
public import proofs.«01_k».proof.Proof.K4Out
public import proofs.«01_k».proof.Proof.R4
public import proofs.«01_k».proof.Proof.Gen.Reference4Ideal.Run
public import proofs.«01_k».proof.Proof.Gen.Kernel4.Frame
public import proofs.«01_k».proof.Proof.Gen.Kernel4Ideal.Frame

@[expose] public section

set_option maxRecDepth 16384

noncomputable section

namespace Cert.AttnBwd

open Idealize.ShloMosaic Idealize.ShloMosaic.TcCoe Idealize.SL.Sem
open Cert.Holds
open Cert.OutLoss (same)
open Cert.Kernel4Ideal (cfg0)
open Cert.Kernel4Ideal.Gen (dats)
open Cert.Kernel4Ideal.Tile (In out_dq out_dag)
open Cert.Reference4Ideal.Read Cert.Reference4Ideal.Calc

theorem frame_p : Cert.quiescent_Kernel4 (hKernel4 := Cert.Kernel4.Gen.facts) := fun m ρ _ => Cert.Kernel4.Gen.frame m ρ
theorem frame_pi : Cert.quiescent_Kernel4Ideal (hKernel4Ideal := Cert.Kernel4Ideal.Gen.facts) := fun m ρ _ => Cert.Kernel4Ideal.Gen.frame m ρ
theorem frame_pi_pre : Cert.quiescent_Kernel4Ideal_pre_finite_grads (hKernel4Ideal := Cert.Kernel4Ideal.Gen.facts)
    (hPre_finite_grads := Cert.Pre_finite_grads.facts) := fun m ρ _ => Cert.Kernel4Ideal.Gen.frame m ρ
theorem frame_ri : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)
theorem frame_ri_pre : Cert.quiescent_Reference4Ideal_pre_finite_grads (hReference4Ideal := Cert.Reference4Ideal.Gen.facts)
    (hPre_finite_grads := Cert.Pre_finite_grads.facts) := fun m ρ _ => frame_ri m ρ trivial

theorem algebraic : Cert.algebraic_Kernel4Ideal_Reference4Ideal_pre_finite_grads (hKernel4Ideal := Cert.Kernel4Ideal.Gen.facts)
    (hReference4Ideal := Cert.Reference4Ideal.Gen.facts) (hPre_finite_grads := Cert.Pre_finite_grads.facts) := by
  intro m g m' g' hpre hargs
  refine ⟨fun c => (dats m 0 c).arrAt 9 cfg0.N, fun c => (dats m 0 c).arrAt 12 cfg0.N,
    (θ_run Cert.Kernel4Ideal.defs _ _).mono (fun r h c => ⟨(h c).1, (h c).2.2.2.1, (h c).2.2.2.2.2⟩) (Cert.Kernel4Ideal.Value.run_blocks m g), ?_⟩
  refine (θ_run Cert.Reference4Ideal.defs _ _).mono (fun r hr c => ?_) (Cert.Reference4Ideal.Value.run (F := Ideal) m' g')
  obtain ⟨s0, s1, hrest⟩ := hr c
  obtain ⟨A, d, hK⟩ : ∃ A d, In m c A d := ⟨_, _, @Cert.Pre_finite_grads.reads Cert.Pre_finite_grads.facts _ _ _ (fun _ e => by subst e; exact hpre c)⟩
  have hR : Cert.Spec4.Reads A d _ _ _ := hK
  obtain ⟨e0, e1, e2⟩ := hargs c
  rw [← e0, ← e1, ← e2] at hR
  refine ⟨?_, ?_, hrest⟩
  · exact (s0.trans (val_main_v141_eq _)).trans (same (dq_holds hR) (out_dq hK))
  · exact (s1.trans (val_main_v143_eq _)).trans (same (dag_holds hR) (out_dag hK))

end Cert.AttnBwd
-- ==== Proof.K5.lean ====
/-
  One AdamW step, element by element: the tiles the call writes, and the reference's arrays.
-/
module

public import proofs.«01_k».proof.Proof.Holds
public import proofs.«01_k».proof.Proof.Gen.Reference5Ideal.Read
public import proofs.«01_k».proof.Proof.Gen.Kernel5Ideal.Value

@[expose] public section

set_option maxRecDepth 16384

noncomputable section

namespace Cert.Kernel5Ideal.Tile

open Idealize.ShloMosaic Idealize.ShloMosaic.TcCoe Idealize.SL.Sem
open Cert.Kernel5Ideal Cert.Kernel5Ideal.Gen Cert.Kernel5Ideal.Value

/-! ## The step at one element -/

/-- The first moment after the step. -/
def newM (g m : EReal) : EReal :=
  FloatOps.addf (F := Ideal) (φ := .f32) (FloatOps.mulf (Scalar.ofBits .f32 0x3F666666#32) m) (FloatOps.mulf (Scalar.ofBits .f32 0x3DCCCCCD#32) g)

/-- The second moment after the step. -/
def newV (g v : EReal) : EReal :=
  FloatOps.addf (F := Ideal) (φ := .f32) (FloatOps.mulf (Scalar.ofBits .f32 0x3F7FBE77#32) v) (FloatOps.mulf (Scalar.ofBits .f32 0x3A83126F#32) (FloatOps.mulf g g))

/-- The change of the weight. -/
def delta (w g m v : EReal) : EReal :=
  FloatOps.mulf (F := Ideal) (φ := .f32) (Scalar.ofBits .f32 0xBA83126F#32) (FloatOps.addf
    (FloatOps.divf (FloatOps.divf (newM g m) (Scalar.ofBits .f32 0x3F26BD02#32))
      (FloatOps.addf (FloatOps.sqrt (FloatOps.divf (newV g v) (Scalar.ofBits .f32 0x3C231ACC#32))) (Scalar.ofBits .f32 0x322BCC77#32)))
    (FloatOps.mulf (Scalar.ofBits .f32 0x3C23D70A#32) w))

/-! ## A tile -/

section
variable (x0 x1 x2 x3 : Vec Ideal S128x1024 .f32) (y : S128x1024.Idx)

theorem whole_idx {j : S128x1024.Idx} (h : ∀ a, (j a).val = (y a).val) : r0_0.idx j = y :=
  funext fun a => Fin.ext (by
    match a with
    | ⟨0, _⟩ => show 0 + 1 * (j 0).val = (y 0).val; rw [h 0]; omega
    | ⟨1, _⟩ => show 0 + 1 * (j 1).val = (y 1).val; rw [h 1]; omega)

theorem ld_at (x : Vec Ideal S128x1024 .f32) {j : S128x1024.Idx} (h : ∀ a, (j a).val = (y a).val) : View.ld x r0_0 j = x y :=
  congrArg x (whole_idx y h)

theorem same_place {j : S128x1024.Idx} (h0 : (j 0).val = (y 0).val) (h1 : (j 1).val = (y 1).val) : ∀ a, (j a).val = (y a).val := fun a => by
  match a with
  | ⟨0, _⟩ => exact h0
  | ⟨1, _⟩ => exact h1

theorem tile_m : out0_5 x0 x1 x2 x3 y = newM (x1 y) (x2 y) := by
  refine (canon5_eq (View.ld x2 r0_0) (View.ld x1 r0_0) y).trans ?_
  unfold E5 newM
  rw [ld_at y x2 (j := ix5_0 y) (same_place y rfl rfl), ld_at y x1 (j := ix5_1 y) (same_place y rfl rfl)]

theorem tile_v : out0_6 x0 x1 x2 x3 y = newV (x1 y) (x3 y) := by
  refine (canon6_eq (View.ld x3 r0_0) (View.ld x1 r0_0) y).trans ?_
  unfold E6 newV
  rw [ld_at y x3 (j := ix6_0 y) (same_place y rfl rfl), ld_at y x1 (j := ix6_1 y) (same_place y rfl rfl)]

theorem tile_d : out0_4 x0 x1 x2 x3 y = delta (x0 y) (x1 y) (x2 y) (x3 y) := by
  refine (canon4_eq (View.ld x2 r0_0) (View.ld x1 r0_0) (View.ld x3 r0_0) (View.ld x0 r0_0) y).trans ?_
  unfold E4 delta newM newV
  rw [ld_at y x2 (j := ix4_0 y) (same_place y rfl rfl), ld_at y x1 (j := ix4_1 y) (same_place y rfl rfl), ld_at y x3 (j := ix4_2 y) (same_place y rfl rfl),
    ld_at y x0 (j := ix4_5 y) (same_place y rfl rfl)]

end

/-! ## The arrays -/

section
variable (m : (ℓ : Loc nD τ sig) → Buf (Elt Ideal) ℓ) (c : Dev nD)

theorem V_v0 : V m c main_v0 = Reference5Ideal.Read.val_main_v0 (F := Ideal) (m ((c : Thread nD τ).loc main_arg0)) := by
  unfold V
  after_results
  rfl
theorem V_v1 : V m c main_v1 = Reference5Ideal.Read.val_main_v1 (F := Ideal) (m ((c : Thread nD τ).loc main_arg2)) := by
  unfold V
  after_results
  rfl
theorem V_v2 : V m c main_v2 = Reference5Ideal.Read.val_main_v2 (F := Ideal) (m ((c : Thread nD τ).loc main_arg3)) := by
  unfold V
  after_results
  rfl

theorem index_eq (t : Fin cfg0.N) : win0_4.index t = ![t.val, 0] ∧ win0_5.index t = ![t.val, 0] ∧ win0_6.index t = ![t.val, 0] :=
  (by decide +kernel : ∀ t : Fin grid0.N, win0_4.index t = ![t.val, 0] ∧ win0_5.index t = ![t.val, 0] ∧ win0_6.index t = ![t.val, 0]) t
theorem flush_eq (t : Fin cfg0.N) : (cfg0.win 4).flush t = true ∧ (cfg0.win 5).flush t = true ∧ (cfg0.win 6).flush t = true :=
  (by decide +kernel : ∀ t : Fin grid0.N, win0_4.flush t = true ∧ win0_5.flush t = true ∧ win0_6.flush t = true) t

/-- The tile of row `i 0`. -/
def pt (i : S256x1024.Idx) : Fin cfg0.N :=
  ⟨(i 0).val / 128, lt_of_lt_of_eq (b := 2) (by have : (i 0).val < 256 := (i 0).isLt; omega) N_0.symm⟩

theorem in_block (i : S256x1024.Idx) (a : Fin 2) :
    (![(pt i).val, 0] : Fin 2 → ℕ) a * S128x1024.size a ≤ (i a).val ∧ (i a).val < (![(pt i).val, 0] : Fin 2 → ℕ) a * S128x1024.size a + S128x1024.size a := by
  have h1 : (i 1).val < 1024 := (i 1).isLt
  match a with
  | ⟨0, _⟩ => show (i 0).val / 128 * 128 ≤ (i 0).val ∧ (i 0).val < (i 0).val / 128 * 128 + 128; omega
  | ⟨1, _⟩ => show 0 * 1024 ≤ (i 1).val ∧ (i 1).val < 0 * 1024 + 1024; omega

theorem mem4 (i : S256x1024.Idx) : i ∈ ((cfg0.win 4).blk (pt i)).view.set := by
  show i ∈ ((View.whole main_v3_0).slice (win0_4.rect (pt i))).set
  rw [View.set_slice_whole, Rect.mem_set_unit]
  intro a
  show win0_4.index (pt i) a * S128x1024.size a ≤ (i a).val ∧ (i a).val < win0_4.index (pt i) a * S128x1024.size a + S128x1024.size a
  rw [(index_eq (pt i)).1]
  exact in_block i a
theorem mem5 (i : S256x1024.Idx) : i ∈ ((cfg0.win 5).blk (pt i)).view.set := by
  show i ∈ ((View.whole main_v3_1).slice (win0_5.rect (pt i))).set
  rw [View.set_slice_whole, Rect.mem_set_unit]
  intro a
  show win0_5.index (pt i) a * S128x1024.size a ≤ (i a).val ∧ (i a).val < win0_5.index (pt i) a * S128x1024.size a + S128x1024.size a
  rw [(index_eq (pt i)).2.1]
  exact in_block i a
theorem mem6 (i : S256x1024.Idx) : i ∈ ((cfg0.win 6).blk (pt i)).view.set := by
  show i ∈ ((View.whole main_v3_2).slice (win0_6.rect (pt i))).set
  rw [View.set_slice_whole, Rect.mem_set_unit]
  intro a
  show win0_6.index (pt i) a * S128x1024.size a ≤ (i a).val ∧ (i a).val < win0_6.index (pt i) a * S128x1024.size a + S128x1024.size a
  rw [(index_eq (pt i)).2.2]
  exact in_block i a

/-- Every window reads, or writes, the same rows at a point. -/
theorem rows_eq (t : Fin cfg0.N) : win0_0.index t = ![t.val, 0] ∧ win0_1.index t = ![t.val, 0] ∧ win0_2.index t = ![t.val, 0] ∧ win0_3.index t = ![t.val, 0] :=
  (by decide +kernel : ∀ t : Fin grid0.N, win0_0.index t = ![t.val, 0] ∧ win0_1.index t = ![t.val, 0] ∧ win0_2.index t = ![t.val, 0] ∧ win0_3.index t = ![t.val, 0]) t

/-- The place in the arrays of the element `y` of point `t`'s tile. -/
def place (t : Fin cfg0.N) (y : S128x1024.Idx) : S256x1024.Idx := fun a => match a with
  | ⟨0, _⟩ => ⟨t.val * 128 + (y 0).val, by
      have h0 : (y 0).val < 128 := (y 0).isLt
      have ht : t.val < 2 := lt_of_lt_of_eq t.isLt N_0
      show t.val * 128 + (y 0).val < 256; omega⟩
  | ⟨1, _⟩ => ⟨(y 1).val, (y 1).isLt⟩

theorem place_of {t : Fin cfg0.N} {y : S128x1024.Idx} {i : S256x1024.Idx} {ix : Fin 2 → ℕ} (h : ix = ![t.val, 0])
    (h0 : (i 0).val = ix 0 * 128 + 1 * (y 0).val) (h1 : (i 1).val = ix 1 * 1024 + 1 * (y 1).val) : i = place t y := by
  subst h
  refine funext fun a => Fin.ext ?_
  match a with
  | ⟨0, _⟩ => refine h0.trans ?_; show t.val * 128 + 1 * (y 0).val = t.val * 128 + (y 0).val; omega
  | ⟨1, _⟩ => refine h1.trans ?_; show 0 * 1024 + 1 * (y 1).val = (y 1).val; omega

theorem blk0 (t : Fin cfg0.N) (y : S128x1024.Idx) : iblk m c 0 t y = V m c main_v0 (place t y) := by
  unfold iblk
  show V m c main_v0 (((cfg0.win 0).blk t).view.emb y) = _
  generalize V m c main_v0 = X
  exact congrArg X (place_of (rows_eq t).1 rfl rfl)
theorem blk1 (t : Fin cfg0.N) (y : S128x1024.Idx) : iblk m c 1 t y = V m c main_arg1 (place t y) := by
  unfold iblk
  show V m c main_arg1 (((cfg0.win 1).blk t).view.emb y) = _
  generalize V m c main_arg1 = X
  exact congrArg X (place_of (rows_eq t).2.1 rfl rfl)
theorem blk2 (t : Fin cfg0.N) (y : S128x1024.Idx) : iblk m c 2 t y = V m c main_v1 (place t y) := by
  unfold iblk
  show V m c main_v1 (((cfg0.win 2).blk t).view.emb y) = _
  generalize V m c main_v1 = X
  exact congrArg X (place_of (rows_eq t).2.2.1 rfl rfl)
theorem blk3 (t : Fin cfg0.N) (y : S128x1024.Idx) : iblk m c 3 t y = V m c main_v2 (place t y) := by
  unfold iblk
  show V m c main_v2 (((cfg0.win 3).blk t).view.emb y) = _
  generalize V m c main_v2 = X
  exact congrArg X (place_of (rows_eq t).2.2.2 rfl rfl)

/-- The array `x` is `f`, element by element. -/
def Is (x f : S256x1024.Idx → EReal) : Prop := ∀ i, x i = f i

variable {X0 X1 X2 X3 : S256x1024.Idx → EReal}

theorem out_d (b0 : ∀ t y, iblk m c 0 t y = X0 (place t y)) (b1 : ∀ t y, iblk m c 1 t y = X1 (place t y))
    (b2 : ∀ t y, iblk m c 2 t y = X2 (place t y)) (b3 : ∀ t y, iblk m c 3 t y = X3 (place t y)) :
    Is ((dats m 0 c).arrAt 4 cfg0.N : S256x1024.Idx → EReal) fun i => delta (X0 i) (X1 i) (X2 i) (X3 i) := by
  refine (dats m 0 c).arrAt_forall_of_cover 4 (fun i v => v = delta (X0 i) (X1 i) (X2 i) (X3 i))
    (fun t hf y => ?_) (fun i => ⟨pt i, (flush_eq _).1, mem4 i⟩)
  have e : ((cfg0.win 4).blk t).view.emb y = place t ((cfg0.win 4).xinj (grid0.coords t) y) := place_of (index_eq t).1 rfl rfl
  have h : ∀ z, out0_4 (iblk m c 0 t) (iblk m c 1 t) (iblk m c 2 t) (iblk m c 3 t) z = delta (X0 (place t z)) (X1 (place t z)) (X2 (place t z)) (X3 (place t z)) :=
    fun z => (tile_d _ _ _ _ z).trans (by rw [b0, b1, b2, b3])
  rw [flushed4, e]
  generalize out0_4 (iblk m c 0 t) (iblk m c 1 t) (iblk m c 2 t) (iblk m c 3 t) = o at h ⊢
  exact h _

theorem out_m (b1 : ∀ t y, iblk m c 1 t y = X1 (place t y)) (b2 : ∀ t y, iblk m c 2 t y = X2 (place t y)) :
    Is ((dats m 0 c).arrAt 5 cfg0.N : S256x1024.Idx → EReal) fun i => newM (X1 i) (X2 i) := by
  refine (dats m 0 c).arrAt_forall_of_cover 5 (fun i v => v = newM (X1 i) (X2 i))
    (fun t hf y => ?_) (fun i => ⟨pt i, (flush_eq _).2.1, mem5 i⟩)
  have e : ((cfg0.win 5).blk t).view.emb y = place t ((cfg0.win 5).xinj (grid0.coords t) y) := place_of (index_eq t).2.1 rfl rfl
  have h : ∀ z, out0_5 (iblk m c 0 t) (iblk m c 1 t) (iblk m c 2 t) (iblk m c 3 t) z = newM (X1 (place t z)) (X2 (place t z)) :=
    fun z => (tile_m _ _ _ _ z).trans (by rw [b1, b2])
  rw [flushed5, e]
  generalize out0_5 (iblk m c 0 t) (iblk m c 1 t) (iblk m c 2 t) (iblk m c 3 t) = o at h ⊢
  exact h _

theorem out_v (b1 : ∀ t y, iblk m c 1 t y = X1 (place t y)) (b3 : ∀ t y, iblk m c 3 t y = X3 (place t y)) :
    Is ((dats m 0 c).arrAt 6 cfg0.N : S256x1024.Idx → EReal) fun i => newV (X1 i) (X3 i) := by
  refine (dats m 0 c).arrAt_forall_of_cover 6 (fun i v => v = newV (X1 i) (X3 i))
    (fun t hf y => ?_) (fun i => ⟨pt i, (flush_eq _).2.2, mem6 i⟩)
  have e : ((cfg0.win 6).blk t).view.emb y = place t ((cfg0.win 6).xinj (grid0.coords t) y) := place_of (index_eq t).2.2 rfl rfl
  have h : ∀ z, out0_6 (iblk m c 0 t) (iblk m c 1 t) (iblk m c 2 t) (iblk m c 3 t) z = newV (X1 (place t z)) (X3 (place t z)) :=
    fun z => (tile_v _ _ _ _ z).trans (by rw [b1, b3])
  rw [flushed6, e]
  generalize out0_6 (iblk m c 0 t) (iblk m c 1 t) (iblk m c 2 t) (iblk m c 3 t) = o at h ⊢
  exact h _

end

end Cert.Kernel5Ideal.Tile

namespace Cert.Reference5Ideal.Calc

open Idealize.ShloMosaic
open Cert.Reference5Ideal Cert.Reference5Ideal.Read
open Cert.Kernel5Ideal.Tile (newM newV delta)

variable (x0 : S1x256x1024.Idx → EReal) (x1 : S256x1024.Idx → EReal) (x2 x3 : S1x256x1024.Idx → EReal) (i : S256x1024.Idx)

theorem ref_m : val_main_v7 (F := Ideal) x1 x2 i = newM (x1 i) (val_main_v1 (F := Ideal) x2 i) := by
  rw [val_main_v7_apply, val_main_v4_apply, val_main_v6_apply, val_main_v3_apply, val_main_v5_apply, val_main_cst_apply, val_main_cst_0_apply]
  rfl

theorem ref_v : val_main_v13 (F := Ideal) x1 x3 i = newV (x1 i) (val_main_v2 (F := Ideal) x3 i) := by
  rw [val_main_v13_apply, val_main_v9_apply, val_main_v12_apply, val_main_v10_apply, val_main_v8_apply, val_main_v11_apply, val_main_cst_1_apply, val_main_cst_2_apply]
  rfl

theorem ref_d : val_main_v26 (F := Ideal) x0 x1 x2 x3 i
    = delta (val_main_v0 (F := Ideal) x0 i) (x1 i) (val_main_v1 (F := Ideal) x2 i) (val_main_v2 (F := Ideal) x3 i) := by
  rw [val_main_v26_apply, val_main_v24_apply, val_main_v25_apply, val_main_v23_apply, val_main_v21_apply, val_main_v15_apply, val_main_v20_apply,
    val_main_v18_apply, val_main_v17_apply, ref_m, ref_v, val_main_v14_apply, val_main_v16_apply, val_main_v19_apply, val_main_v22_apply,
    val_main_cst_3_apply, val_main_cst_4_apply, val_main_cst_5_apply, val_main_cst_6_apply, val_main_cst_7_apply]
  rfl

end Cert.Reference5Ideal.Calc
-- ==== Proof.Adamw.lean ====
/-
  `adamw_w_out`: the optimiser's three results are the reference's.
-/
module

public import proofs.«01_k».proof.Defs
public import proofs.«01_k».proof.Proof.K5
public import proofs.«01_k».proof.Proof.Gen.Reference5Ideal.Run
public import proofs.«01_k».proof.Proof.Gen.Kernel5.Frame
public import proofs.«01_k».proof.Proof.Gen.Kernel5Ideal.Frame

@[expose] public section

set_option maxRecDepth 16384

noncomputable section

namespace Cert.Adamw

open Idealize.ShloMosaic Idealize.ShloMosaic.TcCoe Idealize.SL.Sem
open Cert.Kernel5Ideal (cfg0)
open Cert.Kernel5Ideal.Gen (dats V_main_arg1)
open Cert.Kernel5Ideal.Tile (V_v0 V_v1 V_v2 blk0 blk1 blk2 blk3 out_d out_m out_v)
open Cert.Reference5Ideal.Read Cert.Reference5Ideal.Calc

theorem frame_p : Cert.quiescent_Kernel5 (hKernel5 := Cert.Kernel5.Gen.facts) := fun m ρ _ => Cert.Kernel5.Gen.frame m ρ
theorem frame_pi : Cert.quiescent_Kernel5Ideal (hKernel5Ideal := Cert.Kernel5Ideal.Gen.facts) := fun m ρ _ => Cert.Kernel5Ideal.Gen.frame m ρ
theorem frame_ri : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (dats m 0 c).arrAt 4 cfg0.N, fun c => (dats m 0 c).arrAt 5 cfg0.N, fun c => (dats m 0 c).arrAt 6 cfg0.N,
    Cert.Kernel5Ideal.Value.run_blocks m g, ?_⟩
  refine (θ_run Cert.Reference5Ideal.defs _ _).mono (fun r hr c => ?_) (Cert.Reference5Ideal.Value.run (F := Ideal) m' g')
  obtain ⟨s0, s1, s2, hrest⟩ := hr c
  obtain ⟨e0, e1, e2, e3⟩ := hargs c
  refine ⟨?_, ?_, ?_, hrest⟩
  · rw [s0, e0, e1, e2, e3, val_main_v26_eq]
    funext i
    refine (ref_d _ _ _ _ i).trans (Eq.symm ((out_d m c (blk0 m c) (blk1 m c) (blk2 m c) (blk3 m c) i).trans ?_))
    rw [V_v0, V_v1, V_v2, V_main_arg1]
  · rw [s1, e1, e2, val_main_v7_eq]
    funext i
    refine (ref_m _ _ i).trans (Eq.symm ((out_m m c (blk1 m c) (blk2 m c) i).trans ?_))
    rw [V_v1, V_main_arg1]
  · rw [s2, e1, e3, val_main_v13_eq]
    funext i
    refine (ref_v _ _ i).trans (Eq.symm ((out_v m c (blk1 m c) (blk3 m c) i).trans ?_))
    rw [V_v2, V_main_arg1]

end Cert.Adamw
-- ==== Proof.lean ====
module

public import proofs.«01_k».proof.Defs
public import proofs.«01_k».proof.Proof.OutLoss
public import proofs.«01_k».proof.Proof.InprojBwd
public import proofs.«01_k».proof.Proof.AttnFwd
public import proofs.«01_k».proof.Proof.AttnBwd
public import proofs.«01_k».proof.Proof.Adamw

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_inputs.facts, Cert.Pre_finite_inputs2.facts, Cert.Pre_finite_attn.facts, Cert.Pre_finite_grads.facts,
  Cert.OutLoss.frame_p, Cert.OutLoss.frame_pi, Cert.OutLoss.frame_pi_pre, Cert.OutLoss.frame_ri, Cert.OutLoss.frame_ri_pre,
  Cert.InprojBwd.frame_p, Cert.InprojBwd.frame_pi, Cert.InprojBwd.frame_pi_pre, Cert.InprojBwd.frame_ri, Cert.InprojBwd.frame_ri_pre,
  Cert.AttnFwd.frame_p, Cert.AttnFwd.frame_pi, Cert.AttnFwd.frame_pi_pre, Cert.AttnFwd.frame_ri, Cert.AttnFwd.frame_ri_pre,
  Cert.AttnBwd.frame_p, Cert.AttnBwd.frame_pi, Cert.AttnBwd.frame_pi_pre, Cert.AttnBwd.frame_ri, Cert.AttnBwd.frame_ri_pre,
  Cert.Adamw.frame_p, Cert.Adamw.frame_pi, Cert.Adamw.frame_ri,
  trivial, Cert.OutLoss.algebraic, trivial, Cert.InprojBwd.algebraic, Cert.AttnFwd.preserves, Cert.AttnFwd.algebraic,
  trivial, Cert.AttnBwd.algebraic, trivial, Cert.Adamw.algebraic⟩

end Cert.Proof

end
